-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tables : Cert.Pre_tables.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables := hPre_tables)
    ∧ preserves_Kernel_KernelIdeal
    ∧ algebraic_KernelIdeal_ReferenceIdeal (hKernelIdeal := hKernelIdeal) (hReferenceIdeal := hReferenceIdeal) (hPre_tables := hPre_tables)
-- ==== Pre_tables.lean ====
abbrev S17408 : Shape := ⟨1, ![17408]⟩
abbrev S16385 : Shape := ⟨1, ![16385]⟩
abbrev S2 : Shape := ⟨1, ![2]⟩
abbrev S4096x7168 : Shape := ⟨2, ![4096, 7168]⟩
abbrev S1 : Shape := ⟨1, ![1]⟩
abbrev S_ : Shape := ⟨0, ![]⟩
abbrev S17408x16384 : Shape := ⟨2, ![17408, 16384]⟩
abbrev S16384 : Shape := ⟨1, ![16384]⟩
abbrev S1x16384 : Shape := ⟨2, ![1, 16384]⟩
abbrev S17408x1 : Shape := ⟨2, ![17408, 1]⟩

class Facts : Prop where
  slices_S2_S1_0 : S2.Slices ![0] S1
  shapeCasts_S1_S_ : S1.ShapeCasts S_
  slices_S2_S1_1 : S2.Slices ![1] S1
  slices_S16385_S16384_0 : S16385.Slices ![0] S16384
  bcast_S16384_S1x16384_1 : S16384.BroadcastsInDim S1x16384 (![1] : Fin 1 → Fin S1x16384.rank)
  bcast_S1x16384_S17408x16384_0_1 : S1x16384.BroadcastsInDim S17408x16384 (![0, 1] : Fin 2 → Fin S17408x16384.rank)
  slices_S16385_S16384_1 : S16385.Slices ![1] S16384
  bcast_S17408_S17408x1_0 : S17408.BroadcastsInDim S17408x1 (![0] : Fin 1 → Fin S17408x1.rank)
  bcast_S17408x1_S17408x16384_0_1 : S17408x1.BroadcastsInDim S17408x16384 (![0, 1] : Fin 2 → Fin S17408x16384.rank)
  bcast_S_S17408x16384 : S_.BroadcastsInDim S17408x16384 (![] : Fin 0 → Fin S17408x16384.rank)
  slices_S16385_S1_0 : S16385.Slices ![0] S1
  slices_S16385_S1_1 : S16385.Slices ![1] S1

variable [Facts]

def fn_part4 {F : FTy → Type} [FloatOps F] (main_v4 : IVec S17408x16384 32) (main_v19 : IVec S17408x16384 32) (main_v32 : IVec S_ 1) (main_v50 : IVec S17408x16384 1) (main_v70 : IVec S17408x16384 1) (main_v75 : IVec S17408x16384 1) (main_v77 : IVec S17408x16384 1) : IVec S17408x16384 1 :=
  let main_v78 : IVec S17408x16384 1 := andi main_v75 main_v77
  let main_c_17 : IVec S_ 32 := constantI S_ 32 16384#32
  let main_v79 : IVec S17408x16384 32 := broadcastInDim S17408x16384 ![] bcast_S_S17408x16384 main_c_17
  let main_v80 : IVec S17408x16384 1 := cmpi .slt main_v4 main_v79
  let main_c_18 : IVec S_ 32 := constantI S_ 32 7168#32
  let main_v81 : IVec S17408x16384 32 := broadcastInDim S17408x16384 ![] bcast_S_S17408x16384 main_c_18
  let main_v82 : IVec S17408x16384 1 := cmpi .eq main_v19 main_v81
  let main_v83 : IVec S17408x16384 1 := ori main_v80 main_v82
  let main_v84 : IVec S17408x16384 1 := broadcastInDim S17408x16384 ![] bcast_S_S17408x16384 main_v32
  let main_v85 : IVec S17408x16384 1 := andi main_v84 main_v50
  let main_v86 : IVec S17408x16384 1 := andi main_v85 main_v70
  let main_v87 : IVec S17408x16384 1 := andi main_v86 main_v78
  let main_v88 : IVec S17408x16384 1 := andi main_v87 main_v83
  main_v88

def fn_part3 {F : FTy → Type} [FloatOps F] (main_v4 : IVec S17408x16384 32) (main_v5 : IVec S17408x16384 32) (main_v8 : IVec S17408x16384 32) (main_v13 : IVec S17408x16384 32) (main_v15 : IVec S17408x16384 32) (main_v19 : IVec S17408x16384 32) (main_v32 : IVec S_ 1) (main_v50 : IVec S17408x16384 1) (main_v54 : IVec S17408x16384 1) (main_v58 : IVec S17408x16384 32) (main_c_11 : IVec S_ 32) : IVec S17408x16384 1 :=
  let main_v59 : IVec S17408x16384 32 := broadcastInDim S17408x16384 ![] bcast_S_S17408x16384 main_c_11
  let main_v60 : IVec S17408x16384 32 := muli main_v58 main_v59
  let main_c_12 : IVec S_ 32 := constantI S_ 32 7#32
  let main_v61 : IVec S17408x16384 32 := broadcastInDim S17408x16384 ![] bcast_S_S17408x16384 main_c_12
  let main_v62 : IVec S17408x16384 32 := andi main_v5 main_v61
  let main_v63 : IVec S17408x16384 32 := addi main_v60 main_v62
  let main_v64 : IVec S17408x16384 1 := cmpi .eq main_v19 main_v63
  let main_c_13 : IVec S_ 32 := constantI S_ 32 0#32
  let main_v65 : IVec S17408x16384 32 := broadcastInDim S17408x16384 ![] bcast_S_S17408x16384 main_c_13
  let main_v66 : IVec S17408x16384 1 := cmpi .slt main_v13 main_v65
  let main_v67 : IVec S17408x16384 1 := cmpi .eq main_v4 main_v8
  let main_v68 : IVec S17408x16384 1 := cmpi .eq main_v66 main_v67
  let main_v69 : IVec S17408x16384 1 := andi main_v64 main_v68
  let main_v70 : IVec S17408x16384 1 := ori main_v54 main_v69
  let main_c_14 : IVec S_ 32 := constantI S_ 32 7#32
  let main_v71 : IVec S17408x16384 32 := broadcastInDim S17408x16384 ![] bcast_S_S17408x16384 main_c_14
  let main_v72 : IVec S17408x16384 32 := Host.divsi main_v15 main_v71
  let main_c_15 : IVec S_ 32 := constantI S_ 32 7#32
  let main_v73 : IVec S17408x16384 32 := broadcastInDim S17408x16384 ![] bcast_S_S17408x16384 main_c_15
  let main_v74 : IVec S17408x16384 32 := muli main_v73 main_v72
  let main_v75 : IVec S17408x16384 1 := cmpi .eq main_v15 main_v74
  let main_c_16 : IVec S_ 32 := constantI S_ 32 114681#32
  let main_v76 : IVec S17408x16384 32 := broadcastInDim S17408x16384 ![] bcast_S_S17408x16384 main_c_16
  let main_v77 : IVec S17408x16384 1 := cmpi .sle main_v15 main_v76
  fn_part4 (F := F) main_v4 main_v19 main_v32 main_v50 main_v70 main_v75 main_v77

def fn_part2 {F : FTy → Type} [FloatOps F] (main_v1 : IVec S_ 32) (main_v4 : IVec S17408x16384 32) (main_v5 : IVec S17408x16384 32) (main_v8 : IVec S17408x16384 32) (main_v11 : IVec S17408x16384 32) (main_v13 : IVec S17408x16384 32) (main_v15 : IVec S17408x16384 32) (main_v19 : IVec S17408x16384 32) (main_v32 : IVec S_ 1) (main_v36 : IVec S17408x16384 1) (main_v38 : IVec S17408x16384 1) : IVec S17408x16384 1 :=
  let main_v39 : IVec S17408x16384 1 := andi main_v36 main_v38
  let main_v40 : IVec S17408x16384 1 := cmpi .slt main_v8 main_v11
  let main_v41 : IVec S17408x16384 32 := broadcastInDim S17408x16384 ![] bcast_S_S17408x16384 main_v1
  let main_v42 : IVec S17408x16384 1 := cmpi .sle main_v41 main_v5
  let main_v43 : IVec S17408x16384 1 := ori main_v40 main_v42
  let main_v44 : IVec S17408x16384 1 := andi main_v39 main_v43
  let main_v45 : IVec S17408x16384 32 := broadcastInDim S17408x16384 ![] bcast_S_S17408x16384 main_v1
  let main_v46 : IVec S17408x16384 1 := cmpi .slt main_v5 main_v45
  let main_c_8 : IVec S_ 32 := constantI S_ 32 16384#32
  let main_v47 : IVec S17408x16384 32 := broadcastInDim S17408x16384 ![] bcast_S_S17408x16384 main_c_8
  let main_v48 : IVec S17408x16384 1 := cmpi .eq main_v8 main_v47
  let main_v49 : IVec S17408x16384 1 := ori main_v46 main_v48
  let main_v50 : IVec S17408x16384 1 := andi main_v44 main_v49
  let main_v51 : IVec S17408x16384 1 := cmpi .sle main_v8 main_v4
  let main_v52 : IVec S17408x16384 1 := cmpi .slt main_v4 main_v11
  let main_v53 : IVec S17408x16384 1 := andi main_v51 main_v52
  let main_v54 : IVec S17408x16384 1 := noti main_v53
  let main_c_9 : IVec S_ 32 := constantI S_ 32 3#32
  let main_v55 : IVec S17408x16384 32 := broadcastInDim S17408x16384 ![] bcast_S_S17408x16384 main_c_9
  let main_v56 : IVec S17408x16384 32 := Host.shrui main_v5 main_v55
  let main_c_10 : IVec S_ 32 := constantI S_ 32 31#32
  let main_v57 : IVec S17408x16384 32 := broadcastInDim S17408x16384 ![] bcast_S_S17408x16384 main_c_10
  let main_v58 : IVec S17408x16384 32 := andi main_v56 main_v57
  let main_c_11 : IVec S_ 32 := constantI S_ 32 224#32
  fn_part3 (F := F) main_v4 main_v5 main_v8 main_v13 main_v15 main_v19 main_v32 main_v50 main_v54 main_v58 main_c_11

def fn_part1 {F : FTy → Type} [FloatOps F] (main_arg2 : IVec S16385 32) (main_v1 : IVec S_ 32) (main_v3 : IVec S_ 32) (main_v4 : IVec S17408x16384 32) (main_v5 : IVec S17408x16384 32) (main_v8 : IVec S17408x16384 32) (main_v11 : IVec S17408x16384 32) (main_v13 : IVec S17408x16384 32) (main_v15 : IVec S17408x16384 32) (main_v19 : IVec S17408x16384 32) (main_c_2 : IVec S_ 32) : IVec S17408x16384 1 :=
  let main_v20 : IVec S_ 1 := cmpi .sge main_v1 main_c_2
  let main_c_3 : IVec S_ 32 := constantI S_ 32 16384#32
  let main_v21 : IVec S_ 1 := cmpi .sle main_v1 main_c_3
  let main_v22 : IVec S_ 1 := andi main_v20 main_v21
  let main_v23 : IVec S1 32 := (extractStridedSlice S1 ![0] · slices_S16385_S1_0) main_arg2
  let main_v24 : IVec S_ 32 := shapeCast S_ main_v23 shapeCasts_S1_S_
  let main_c_4 : IVec S_ 32 := constantI S_ 32 0#32
  let main_v25 : IVec S_ 1 := cmpi .eq main_v24 main_c_4
  let main_v26 : IVec S_ 1 := andi main_v22 main_v25
  let main_c_5 : IVec S_ 32 := constantI S_ 32 0#32
  let main_v27 : IVec S_ 1 := cmpi .eq main_v3 main_c_5
  let main_v28 : IVec S1 32 := (extractStridedSlice S1 ![1] · slices_S16385_S1_1) main_arg2
  let main_v29 : IVec S_ 32 := shapeCast S_ main_v28 shapeCasts_S1_S_
  let main_v30 : IVec S_ 1 := cmpi .eq main_v3 main_v29
  let main_v31 : IVec S_ 1 := ori main_v27 main_v30
  let main_v32 : IVec S_ 1 := andi main_v26 main_v31
  let main_c_6 : IVec S_ 32 := constantI S_ 32 0#32
  let main_v33 : IVec S17408x16384 32 := broadcastInDim S17408x16384 ![] bcast_S_S17408x16384 main_c_6
  let main_v34 : IVec S17408x16384 1 := cmpi .sge main_v8 main_v33
  let main_v35 : IVec S17408x16384 1 := cmpi .sle main_v8 main_v11
  let main_v36 : IVec S17408x16384 1 := andi main_v34 main_v35
  let main_c_7 : IVec S_ 32 := constantI S_ 32 16384#32
  let main_v37 : IVec S17408x16384 32 := broadcastInDim S17408x16384 ![] bcast_S_S17408x16384 main_c_7
  let main_v38 : IVec S17408x16384 1 := cmpi .sle main_v11 main_v37
  fn_part2 (F := F) main_v1 main_v4 main_v5 main_v8 main_v11 main_v13 main_v15 main_v19 main_v32 main_v36 main_v38

def fn {F : FTy → Type} [FloatOps F] (main_arg0 : IVec S17408 32) (main_arg1 : FVec F S17408 .f32) (main_arg2 : IVec S16385 32) (main_arg3 : IVec S2 32) (main_arg4 : IVec S4096x7168 32) : IVec S17408x16384 1 :=
  let main_v0 : IVec S1 32 := (extractStridedSlice S1 ![0] · slices_S2_S1_0) main_arg3
  let main_v1 : IVec S_ 32 := shapeCast S_ main_v0 shapeCasts_S1_S_
  let main_v2 : IVec S1 32 := (extractStridedSlice S1 ![1] · slices_S2_S1_1) main_arg3
  let main_v3 : IVec S_ 32 := shapeCast S_ main_v2 shapeCasts_S1_S_
  let main_v4 : IVec S17408x16384 32 := iotaInDim S17408x16384 32 0
  let main_v5 : IVec S17408x16384 32 := iotaInDim S17408x16384 32 1
  let main_v6 : IVec S16384 32 := (extractStridedSlice S16384 ![0] · slices_S16385_S16384_0) main_arg2
  let main_v7 : IVec S1x16384 32 := broadcastInDim S1x16384 ![1] bcast_S16384_S1x16384_1 main_v6
  let main_v8 : IVec S17408x16384 32 := broadcastInDim S17408x16384 ![0, 1] bcast_S1x16384_S17408x16384_0_1 main_v7
  let main_v9 : IVec S16384 32 := (extractStridedSlice S16384 ![1] · slices_S16385_S16384_1) main_arg2
  let main_v10 : IVec S1x16384 32 := broadcastInDim S1x16384 ![1] bcast_S16384_S1x16384_1 main_v9
  let main_v11 : IVec S17408x16384 32 := broadcastInDim S17408x16384 ![0, 1] bcast_S1x16384_S17408x16384_0_1 main_v10
  let main_v12 : IVec S17408x1 32 := broadcastInDim S17408x1 ![0] bcast_S17408_S17408x1_0 main_arg0
  let main_v13 : IVec S17408x16384 32 := broadcastInDim S17408x16384 ![0, 1] bcast_S17408x1_S17408x16384_0_1 main_v12
  let main_c : IVec S_ 32 := constantI S_ 32 131071#32
  let main_v14 : IVec S17408x16384 32 := broadcastInDim S17408x16384 ![] bcast_S_S17408x16384 main_c
  let main_v15 : IVec S17408x16384 32 := andi main_v13 main_v14
  let main_c_0 : IVec S_ 32 := constantI S_ 32 17#32
  let main_v16 : IVec S17408x16384 32 := broadcastInDim S17408x16384 ![] bcast_S_S17408x16384 main_c_0
  let main_v17 : IVec S17408x16384 32 := Host.shrui main_v13 main_v16
  let main_c_1 : IVec S_ 32 := constantI S_ 32 8191#32
  let main_v18 : IVec S17408x16384 32 := broadcastInDim S17408x16384 ![] bcast_S_S17408x16384 main_c_1
  let main_v19 : IVec S17408x16384 32 := andi main_v17 main_v18
  let main_c_2 : IVec S_ 32 := constantI S_ 32 1#32
  fn_part1 (F := F) main_arg2 main_v1 main_v3 main_v4 main_v5 main_v8 main_v11 main_v13 main_v15 main_v19 main_c_2
-- ==== Kernel.lean ====
abbrev S17408 : Shape := ⟨1, ![17408]⟩
abbrev S16385 : Shape := ⟨1, ![16385]⟩
abbrev S2 : Shape := ⟨1, ![2]⟩
abbrev S4096x7168 : Shape := ⟨2, ![4096, 7168]⟩
abbrev S2048x56x8x128 : Shape := ⟨4, ![2048, 56, 8, 128]⟩
abbrev S513x28x8x128 : Shape := ⟨4, ![513, 28, 8, 128]⟩
abbrev S33x28x8x128 : Shape := ⟨4, ![33, 28, 8, 128]⟩
abbrev S4x56x8x128 : Shape := ⟨4, ![4, 56, 8, 128]⟩
abbrev S16 : Shape := ⟨1, ![16]⟩
abbrev S4 : Shape := ⟨1, ![4]⟩
abbrev S_ : Shape := ⟨0, ![]⟩
abbrev S1 : Shape := ⟨1, ![1]⟩
abbrev S28x128 : Shape := ⟨2, ![28, 128]⟩
abbrev S8x128 : Shape := ⟨2, ![8, 128]⟩
abbrev S1x1x8x128 : Shape := ⟨4, ![1, 1, 8, 128]⟩
abbrev S32x1x8x128 : Shape := ⟨4, ![32, 1, 8, 128]⟩
abbrev S32x8x128 : Shape := ⟨3, ![32, 8, 128]⟩
abbrev S512x8x7168 : Shape := ⟨3, ![512, 8, 7168]⟩
abbrev S32x28x8x128 : Shape := ⟨4, ![32, 28, 8, 128]⟩
abbrev S114912x128 : Shape := ⟨2, ![114912, 128]⟩
abbrev S7392x128 : Shape := ⟨2, ![7392, 128]⟩
abbrev S32x128 : Shape := ⟨2, ![32, 128]⟩
abbrev S8x28x8x128 : Shape := ⟨4, ![8, 28, 8, 128]⟩

abbrev nBuf : Space → Nat
  | .hbm => 6
  | .vmem => 3
  | .smem => 4
  | _ => 0

abbrev bufTy : (tb : Table) → Fin (tcTables nBuf tb) → BufTy
  | .hbm, ⟨0, _⟩ => ⟨S17408, .i32⟩
  | .hbm, ⟨1, _⟩ => ⟨S17408, .f32⟩
  | .hbm, ⟨2, _⟩ => ⟨S16385, .i32⟩
  | .hbm, ⟨3, _⟩ => ⟨S2, .i32⟩
  | .hbm, ⟨4, _⟩ => ⟨S4096x7168, .i32⟩
  | .hbm, ⟨5, _⟩ => ⟨S2048x56x8x128, .f32⟩
  | .local _ .vmem, ⟨0, _⟩ => ⟨S513x28x8x128, .i32⟩
  | .local _ .vmem, ⟨1, _⟩ => ⟨S33x28x8x128, .f32⟩
  | .local _ .vmem, ⟨2, _⟩ => ⟨S4x56x8x128, .f32⟩
  | .local _ .smem, ⟨0, _⟩ => ⟨S17408, .i32⟩
  | .local _ .smem, ⟨1, _⟩ => ⟨S17408, .f32⟩
  | .local _ .smem, ⟨2, _⟩ => ⟨S16385, .i32⟩
  | .local _ .smem, ⟨3, _⟩ => ⟨S2, .i32⟩
  | _, _ => ⟨S17408, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_24 : BitVec 32 := 0#32
  let c2_i32_25 : BitVec 32 := 2#32
  let v53 : BitVec 32 := Scalar.addi c0_i32_24 c2_i32_25
  let c1_i32_26 : BitVec 32 := 1#32
  ⟨c0_i32_24, v53, c1_i32_26⟩
@[reducible] def k0_t2_loop : Scf.Loop 32 :=
  let c0_i32_37 : BitVec 32 := 0#32
  let c16_i32_38 : BitVec 32 := 16#32
  let v69 : BitVec 32 := Scalar.addi c0_i32_37 c16_i32_38
  let c1_i32_39 : BitVec 32 := 1#32
  ⟨c0_i32_37, v69, c1_i32_39⟩
def k0_mult1 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32 : BitVec 32 := 28#32
  let v99 : BitVec 32 := Scalar.muli arg12 c28_i32
  let c0_i32_60 : BitVec 32 := 0#32
  let v100 : BitVec 32 := Scalar.addi v99 c0_i32_60
  let c128_i32 : BitVec 32 := 128#32
  let v101 : BitVec 32 := Scalar.muli v100 c128_i32
  v101
def k0_off1 (k0_t2 : Fin k0_t2_loop.trips) : Fin 1 → Nat :=
  let c0_i32_37 : BitVec 32 := 0#32
  let c1_i32_39 : BitVec 32 := 1#32
  let arg14 : BitVec 32 := Scf.iv c0_i32_37 c1_i32_39 k0_t2
  ![arg14.toNat]
def k0_off2 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_61 : BitVec 32 := 32#32
  let v104 : BitVec 32 := Scalar.muli arg14 c32_i32_61
  let c0_i32_62 : BitVec 32 := 0#32
  let c0_i32_63 : BitVec 32 := 0#32
  let c0_i32_64 : BitVec 32 := 0#32
  ![v104.toNat, 0, 0, 0]
def k0_off3 (k0_t1 : Fin k0_t1_loop.trips) (k0_t2 : Fin k0_t2_loop.trips) (c0_i32_60 : BitVec 32) : Fin 3 → Nat :=
  let c0_i32_37 : BitVec 32 := 0#32
  let c1_i32_39 : BitVec 32 := 1#32
  let arg14 : BitVec 32 := Scf.iv c0_i32_37 c1_i32_39 k0_t2
  let c32_i32 : BitVec 32 := 32#32
  let v103 : BitVec 32 := Scalar.muli arg14 c32_i32
  let c0_i32_65 : BitVec 32 := 0#32
  let c0_i32_24 : BitVec 32 := 0#32
  let c1_i32_26 : BitVec 32 := 1#32
  let arg12 : BitVec 32 := Scf.iv c0_i32_24 c1_i32_26 k0_t1
  let c28_i32 : BitVec 32 := 28#32
  let v99 : BitVec 32 := Scalar.muli arg12 c28_i32
  let v100 : BitVec 32 := Scalar.addi v99 c0_i32_60
  let c128_i32 : BitVec 32 := 128#32
  let v101 : BitVec 32 := Scalar.muli v100 c128_i32
  let v102 : BitVec 32 := v101
  ![v103.toNat, 0, v102.toNat]
def k0_mult2 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_66 : BitVec 32 := 28#32
  let v111 : BitVec 32 := Scalar.muli arg12 c28_i32_66
  let c1_i32_67 : BitVec 32 := 1#32
  let v112 : BitVec 32 := Scalar.addi v111 c1_i32_67
  let c128_i32_68 : BitVec 32 := 128#32
  let v113 : BitVec 32 := Scalar.muli v112 c128_i32_68
  v113
def k0_off4 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_70 : BitVec 32 := 32#32
  let v116 : BitVec 32 := Scalar.muli arg14 c32_i32_70
  let c1_i32_71 : BitVec 32 := 1#32
  let c0_i32_72 : BitVec 32 := 0#32
  let c0_i32_73 : BitVec 32 := 0#32
  ![v116.toNat, 1, 0, 0]
def k0_mult3 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_75 : BitVec 32 := 28#32
  let v123 : BitVec 32 := Scalar.muli arg12 c28_i32_75
  let c2_i32_76 : BitVec 32 := 2#32
  let v124 : BitVec 32 := Scalar.addi v123 c2_i32_76
  let c128_i32_77 : BitVec 32 := 128#32
  let v125 : BitVec 32 := Scalar.muli v124 c128_i32_77
  v125
def k0_off5 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_79 : BitVec 32 := 32#32
  let v128 : BitVec 32 := Scalar.muli arg14 c32_i32_79
  let c2_i32_80 : BitVec 32 := 2#32
  let c0_i32_81 : BitVec 32 := 0#32
  let c0_i32_82 : BitVec 32 := 0#32
  ![v128.toNat, 2, 0, 0]
def k0_mult4 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_84 : BitVec 32 := 28#32
  let v135 : BitVec 32 := Scalar.muli arg12 c28_i32_84
  let c3_i32_85 : BitVec 32 := 3#32
  let v136 : BitVec 32 := Scalar.addi v135 c3_i32_85
  let c128_i32_86 : BitVec 32 := 128#32
  let v137 : BitVec 32 := Scalar.muli v136 c128_i32_86
  v137
def k0_off6 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_88 : BitVec 32 := 32#32
  let v140 : BitVec 32 := Scalar.muli arg14 c32_i32_88
  let c3_i32_89 : BitVec 32 := 3#32
  let c0_i32_90 : BitVec 32 := 0#32
  let c0_i32_91 : BitVec 32 := 0#32
  ![v140.toNat, 3, 0, 0]
def k0_mult5 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_93 : BitVec 32 := 28#32
  let v147 : BitVec 32 := Scalar.muli arg12 c28_i32_93
  let c4_i32 : BitVec 32 := 4#32
  let v148 : BitVec 32 := Scalar.addi v147 c4_i32
  let c128_i32_94 : BitVec 32 := 128#32
  let v149 : BitVec 32 := Scalar.muli v148 c128_i32_94
  v149
def k0_off7 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_96 : BitVec 32 := 32#32
  let v152 : BitVec 32 := Scalar.muli arg14 c32_i32_96
  let c4_i32_97 : BitVec 32 := 4#32
  let c0_i32_98 : BitVec 32 := 0#32
  let c0_i32_99 : BitVec 32 := 0#32
  ![v152.toNat, 4, 0, 0]
def k0_mult6 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_101 : BitVec 32 := 28#32
  let v159 : BitVec 32 := Scalar.muli arg12 c28_i32_101
  let c5_i32 : BitVec 32 := 5#32
  let v160 : BitVec 32 := Scalar.addi v159 c5_i32
  let c128_i32_102 : BitVec 32 := 128#32
  let v161 : BitVec 32 := Scalar.muli v160 c128_i32_102
  v161
def k0_off8 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_104 : BitVec 32 := 32#32
  let v164 : BitVec 32 := Scalar.muli arg14 c32_i32_104
  let c5_i32_105 : BitVec 32 := 5#32
  let c0_i32_106 : BitVec 32 := 0#32
  let c0_i32_107 : BitVec 32 := 0#32
  ![v164.toNat, 5, 0, 0]
def k0_mult7 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_109 : BitVec 32 := 28#32
  let v171 : BitVec 32 := Scalar.muli arg12 c28_i32_109
  let c6_i32 : BitVec 32 := 6#32
  let v172 : BitVec 32 := Scalar.addi v171 c6_i32
  let c128_i32_110 : BitVec 32 := 128#32
  let v173 : BitVec 32 := Scalar.muli v172 c128_i32_110
  v173
def k0_off9 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_112 : BitVec 32 := 32#32
  let v176 : BitVec 32 := Scalar.muli arg14 c32_i32_112
  let c6_i32_113 : BitVec 32 := 6#32
  let c0_i32_114 : BitVec 32 := 0#32
  let c0_i32_115 : BitVec 32 := 0#32
  ![v176.toNat, 6, 0, 0]
def k0_mult8 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_117 : BitVec 32 := 28#32
  let v183 : BitVec 32 := Scalar.muli arg12 c28_i32_117
  let c7_i32_118 : BitVec 32 := 7#32
  let v184 : BitVec 32 := Scalar.addi v183 c7_i32_118
  let c128_i32_119 : BitVec 32 := 128#32
  let v185 : BitVec 32 := Scalar.muli v184 c128_i32_119
  v185
def k0_off10 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_121 : BitVec 32 := 32#32
  let v188 : BitVec 32 := Scalar.muli arg14 c32_i32_121
  let c7_i32_122 : BitVec 32 := 7#32
  let c0_i32_123 : BitVec 32 := 0#32
  let c0_i32_124 : BitVec 32 := 0#32
  ![v188.toNat, 7, 0, 0]
def k0_mult9 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_126 : BitVec 32 := 28#32
  let v195 : BitVec 32 := Scalar.muli arg12 c28_i32_126
  let c8_i32 : BitVec 32 := 8#32
  let v196 : BitVec 32 := Scalar.addi v195 c8_i32
  let c128_i32_127 : BitVec 32 := 128#32
  let v197 : BitVec 32 := Scalar.muli v196 c128_i32_127
  v197
def k0_off11 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_129 : BitVec 32 := 32#32
  let v200 : BitVec 32 := Scalar.muli arg14 c32_i32_129
  let c8_i32_130 : BitVec 32 := 8#32
  let c0_i32_131 : BitVec 32 := 0#32
  let c0_i32_132 : BitVec 32 := 0#32
  ![v200.toNat, 8, 0, 0]
def k0_mult10 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_134 : BitVec 32 := 28#32
  let v207 : BitVec 32 := Scalar.muli arg12 c28_i32_134
  let c9_i32 : BitVec 32 := 9#32
  let v208 : BitVec 32 := Scalar.addi v207 c9_i32
  let c128_i32_135 : BitVec 32 := 128#32
  let v209 : BitVec 32 := Scalar.muli v208 c128_i32_135
  v209
def k0_off12 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_137 : BitVec 32 := 32#32
  let v212 : BitVec 32 := Scalar.muli arg14 c32_i32_137
  let c9_i32_138 : BitVec 32 := 9#32
  let c0_i32_139 : BitVec 32 := 0#32
  let c0_i32_140 : BitVec 32 := 0#32
  ![v212.toNat, 9, 0, 0]
def k0_mult11 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_142 : BitVec 32 := 28#32
  let v219 : BitVec 32 := Scalar.muli arg12 c28_i32_142
  let c10_i32 : BitVec 32 := 10#32
  let v220 : BitVec 32 := Scalar.addi v219 c10_i32
  let c128_i32_143 : BitVec 32 := 128#32
  let v221 : BitVec 32 := Scalar.muli v220 c128_i32_143
  v221
def k0_off13 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_145 : BitVec 32 := 32#32
  let v224 : BitVec 32 := Scalar.muli arg14 c32_i32_145
  let c10_i32_146 : BitVec 32 := 10#32
  let c0_i32_147 : BitVec 32 := 0#32
  let c0_i32_148 : BitVec 32 := 0#32
  ![v224.toNat, 10, 0, 0]
def k0_mult12 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_150 : BitVec 32 := 28#32
  let v231 : BitVec 32 := Scalar.muli arg12 c28_i32_150
  let c11_i32 : BitVec 32 := 11#32
  let v232 : BitVec 32 := Scalar.addi v231 c11_i32
  let c128_i32_151 : BitVec 32 := 128#32
  let v233 : BitVec 32 := Scalar.muli v232 c128_i32_151
  v233
def k0_off14 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_153 : BitVec 32 := 32#32
  let v236 : BitVec 32 := Scalar.muli arg14 c32_i32_153
  let c11_i32_154 : BitVec 32 := 11#32
  let c0_i32_155 : BitVec 32 := 0#32
  let c0_i32_156 : BitVec 32 := 0#32
  ![v236.toNat, 11, 0, 0]
def k0_mult13 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_158 : BitVec 32 := 28#32
  let v243 : BitVec 32 := Scalar.muli arg12 c28_i32_158
  let c12_i32 : BitVec 32 := 12#32
  let v244 : BitVec 32 := Scalar.addi v243 c12_i32
  let c128_i32_159 : BitVec 32 := 128#32
  let v245 : BitVec 32 := Scalar.muli v244 c128_i32_159
  v245
def k0_off15 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_161 : BitVec 32 := 32#32
  let v248 : BitVec 32 := Scalar.muli arg14 c32_i32_161
  let c12_i32_162 : BitVec 32 := 12#32
  let c0_i32_163 : BitVec 32 := 0#32
  let c0_i32_164 : BitVec 32 := 0#32
  ![v248.toNat, 12, 0, 0]
def k0_mult14 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_166 : BitVec 32 := 28#32
  let v255 : BitVec 32 := Scalar.muli arg12 c28_i32_166
  let c13_i32 : BitVec 32 := 13#32
  let v256 : BitVec 32 := Scalar.addi v255 c13_i32
  let c128_i32_167 : BitVec 32 := 128#32
  let v257 : BitVec 32 := Scalar.muli v256 c128_i32_167
  v257
def k0_off16 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_169 : BitVec 32 := 32#32
  let v260 : BitVec 32 := Scalar.muli arg14 c32_i32_169
  let c13_i32_170 : BitVec 32 := 13#32
  let c0_i32_171 : BitVec 32 := 0#32
  let c0_i32_172 : BitVec 32 := 0#32
  ![v260.toNat, 13, 0, 0]
def k0_mult15 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_174 : BitVec 32 := 28#32
  let v267 : BitVec 32 := Scalar.muli arg12 c28_i32_174
  let c14_i32 : BitVec 32 := 14#32
  let v268 : BitVec 32 := Scalar.addi v267 c14_i32
  let c128_i32_175 : BitVec 32 := 128#32
  let v269 : BitVec 32 := Scalar.muli v268 c128_i32_175
  v269
def k0_off17 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_177 : BitVec 32 := 32#32
  let v272 : BitVec 32 := Scalar.muli arg14 c32_i32_177
  let c14_i32_178 : BitVec 32 := 14#32
  let c0_i32_179 : BitVec 32 := 0#32
  let c0_i32_180 : BitVec 32 := 0#32
  ![v272.toNat, 14, 0, 0]
def k0_mult16 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_182 : BitVec 32 := 28#32
  let v279 : BitVec 32 := Scalar.muli arg12 c28_i32_182
  let c15_i32 : BitVec 32 := 15#32
  let v280 : BitVec 32 := Scalar.addi v279 c15_i32
  let c128_i32_183 : BitVec 32 := 128#32
  let v281 : BitVec 32 := Scalar.muli v280 c128_i32_183
  v281
def k0_off18 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_185 : BitVec 32 := 32#32
  let v284 : BitVec 32 := Scalar.muli arg14 c32_i32_185
  let c15_i32_186 : BitVec 32 := 15#32
  let c0_i32_187 : BitVec 32 := 0#32
  let c0_i32_188 : BitVec 32 := 0#32
  ![v284.toNat, 15, 0, 0]
def k0_mult17 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_190 : BitVec 32 := 28#32
  let v291 : BitVec 32 := Scalar.muli arg12 c28_i32_190
  let c16_i32_191 : BitVec 32 := 16#32
  let v292 : BitVec 32 := Scalar.addi v291 c16_i32_191
  let c128_i32_192 : BitVec 32 := 128#32
  let v293 : BitVec 32 := Scalar.muli v292 c128_i32_192
  v293
def k0_off19 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_194 : BitVec 32 := 32#32
  let v296 : BitVec 32 := Scalar.muli arg14 c32_i32_194
  let c16_i32_195 : BitVec 32 := 16#32
  let c0_i32_196 : BitVec 32 := 0#32
  let c0_i32_197 : BitVec 32 := 0#32
  ![v296.toNat, 16, 0, 0]
def k0_mult18 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_199 : BitVec 32 := 28#32
  let v303 : BitVec 32 := Scalar.muli arg12 c28_i32_199
  let c17_i32 : BitVec 32 := 17#32
  let v304 : BitVec 32 := Scalar.addi v303 c17_i32
  let c128_i32_200 : BitVec 32 := 128#32
  let v305 : BitVec 32 := Scalar.muli v304 c128_i32_200
  v305
def k0_off20 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_202 : BitVec 32 := 32#32
  let v308 : BitVec 32 := Scalar.muli arg14 c32_i32_202
  let c17_i32_203 : BitVec 32 := 17#32
  let c0_i32_204 : BitVec 32 := 0#32
  let c0_i32_205 : BitVec 32 := 0#32
  ![v308.toNat, 17, 0, 0]
def k0_mult19 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_207 : BitVec 32 := 28#32
  let v315 : BitVec 32 := Scalar.muli arg12 c28_i32_207
  let c18_i32 : BitVec 32 := 18#32
  let v316 : BitVec 32 := Scalar.addi v315 c18_i32
  let c128_i32_208 : BitVec 32 := 128#32
  let v317 : BitVec 32 := Scalar.muli v316 c128_i32_208
  v317
def k0_off21 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_210 : BitVec 32 := 32#32
  let v320 : BitVec 32 := Scalar.muli arg14 c32_i32_210
  let c18_i32_211 : BitVec 32 := 18#32
  let c0_i32_212 : BitVec 32 := 0#32
  let c0_i32_213 : BitVec 32 := 0#32
  ![v320.toNat, 18, 0, 0]
def k0_mult20 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_215 : BitVec 32 := 28#32
  let v327 : BitVec 32 := Scalar.muli arg12 c28_i32_215
  let c19_i32 : BitVec 32 := 19#32
  let v328 : BitVec 32 := Scalar.addi v327 c19_i32
  let c128_i32_216 : BitVec 32 := 128#32
  let v329 : BitVec 32 := Scalar.muli v328 c128_i32_216
  v329
def k0_off22 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_218 : BitVec 32 := 32#32
  let v332 : BitVec 32 := Scalar.muli arg14 c32_i32_218
  let c19_i32_219 : BitVec 32 := 19#32
  let c0_i32_220 : BitVec 32 := 0#32
  let c0_i32_221 : BitVec 32 := 0#32
  ![v332.toNat, 19, 0, 0]
def k0_mult21 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_223 : BitVec 32 := 28#32
  let v339 : BitVec 32 := Scalar.muli arg12 c28_i32_223
  let c20_i32 : BitVec 32 := 20#32
  let v340 : BitVec 32 := Scalar.addi v339 c20_i32
  let c128_i32_224 : BitVec 32 := 128#32
  let v341 : BitVec 32 := Scalar.muli v340 c128_i32_224
  v341
def k0_off23 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_226 : BitVec 32 := 32#32
  let v344 : BitVec 32 := Scalar.muli arg14 c32_i32_226
  let c20_i32_227 : BitVec 32 := 20#32
  let c0_i32_228 : BitVec 32 := 0#32
  let c0_i32_229 : BitVec 32 := 0#32
  ![v344.toNat, 20, 0, 0]
def k0_mult22 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_231 : BitVec 32 := 28#32
  let v351 : BitVec 32 := Scalar.muli arg12 c28_i32_231
  let c21_i32 : BitVec 32 := 21#32
  let v352 : BitVec 32 := Scalar.addi v351 c21_i32
  let c128_i32_232 : BitVec 32 := 128#32
  let v353 : BitVec 32 := Scalar.muli v352 c128_i32_232
  v353
def k0_off24 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_234 : BitVec 32 := 32#32
  let v356 : BitVec 32 := Scalar.muli arg14 c32_i32_234
  let c21_i32_235 : BitVec 32 := 21#32
  let c0_i32_236 : BitVec 32 := 0#32
  let c0_i32_237 : BitVec 32 := 0#32
  ![v356.toNat, 21, 0, 0]
def k0_mult23 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_239 : BitVec 32 := 28#32
  let v363 : BitVec 32 := Scalar.muli arg12 c28_i32_239
  let c22_i32 : BitVec 32 := 22#32
  let v364 : BitVec 32 := Scalar.addi v363 c22_i32
  let c128_i32_240 : BitVec 32 := 128#32
  let v365 : BitVec 32 := Scalar.muli v364 c128_i32_240
  v365
def k0_off25 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_242 : BitVec 32 := 32#32
  let v368 : BitVec 32 := Scalar.muli arg14 c32_i32_242
  let c22_i32_243 : BitVec 32 := 22#32
  let c0_i32_244 : BitVec 32 := 0#32
  let c0_i32_245 : BitVec 32 := 0#32
  ![v368.toNat, 22, 0, 0]
def k0_mult24 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_247 : BitVec 32 := 28#32
  let v375 : BitVec 32 := Scalar.muli arg12 c28_i32_247
  let c23_i32 : BitVec 32 := 23#32
  let v376 : BitVec 32 := Scalar.addi v375 c23_i32
  let c128_i32_248 : BitVec 32 := 128#32
  let v377 : BitVec 32 := Scalar.muli v376 c128_i32_248
  v377
def k0_off26 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_250 : BitVec 32 := 32#32
  let v380 : BitVec 32 := Scalar.muli arg14 c32_i32_250
  let c23_i32_251 : BitVec 32 := 23#32
  let c0_i32_252 : BitVec 32 := 0#32
  let c0_i32_253 : BitVec 32 := 0#32
  ![v380.toNat, 23, 0, 0]
def k0_mult25 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_255 : BitVec 32 := 28#32
  let v387 : BitVec 32 := Scalar.muli arg12 c28_i32_255
  let c24_i32 : BitVec 32 := 24#32
  let v388 : BitVec 32 := Scalar.addi v387 c24_i32
  let c128_i32_256 : BitVec 32 := 128#32
  let v389 : BitVec 32 := Scalar.muli v388 c128_i32_256
  v389
def k0_off27 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_258 : BitVec 32 := 32#32
  let v392 : BitVec 32 := Scalar.muli arg14 c32_i32_258
  let c24_i32_259 : BitVec 32 := 24#32
  let c0_i32_260 : BitVec 32 := 0#32
  let c0_i32_261 : BitVec 32 := 0#32
  ![v392.toNat, 24, 0, 0]
def k0_mult26 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_263 : BitVec 32 := 28#32
  let v399 : BitVec 32 := Scalar.muli arg12 c28_i32_263
  let c25_i32 : BitVec 32 := 25#32
  let v400 : BitVec 32 := Scalar.addi v399 c25_i32
  let c128_i32_264 : BitVec 32 := 128#32
  let v401 : BitVec 32 := Scalar.muli v400 c128_i32_264
  v401
def k0_off28 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_266 : BitVec 32 := 32#32
  let v404 : BitVec 32 := Scalar.muli arg14 c32_i32_266
  let c25_i32_267 : BitVec 32 := 25#32
  let c0_i32_268 : BitVec 32 := 0#32
  let c0_i32_269 : BitVec 32 := 0#32
  ![v404.toNat, 25, 0, 0]
def k0_mult27 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_271 : BitVec 32 := 28#32
  let v411 : BitVec 32 := Scalar.muli arg12 c28_i32_271
  let c26_i32 : BitVec 32 := 26#32
  let v412 : BitVec 32 := Scalar.addi v411 c26_i32
  let c128_i32_272 : BitVec 32 := 128#32
  let v413 : BitVec 32 := Scalar.muli v412 c128_i32_272
  v413
def k0_off29 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_274 : BitVec 32 := 32#32
  let v416 : BitVec 32 := Scalar.muli arg14 c32_i32_274
  let c26_i32_275 : BitVec 32 := 26#32
  let c0_i32_276 : BitVec 32 := 0#32
  let c0_i32_277 : BitVec 32 := 0#32
  ![v416.toNat, 26, 0, 0]
def k0_mult28 (k0_t1 : Fin k0_t1_loop.trips) : BitVec 32 :=
  let c0_i32_24 : BitVec 32 := 0#32
  let c1_i32_26 : BitVec 32 := 1#32
  let arg12 : BitVec 32 := Scf.iv c0_i32_24 c1_i32_26 k0_t1
  let c28_i32_279 : BitVec 32 := 28#32
  let v423 : BitVec 32 := Scalar.muli arg12 c28_i32_279
  let c27_i32 : BitVec 32 := 27#32
  let v424 : BitVec 32 := Scalar.addi v423 c27_i32
  let c128_i32_280 : BitVec 32 := 128#32
  let v425 : BitVec 32 := Scalar.muli v424 c128_i32_280
  v425
def k0_off30 (k0_t2 : Fin k0_t2_loop.trips) : Fin 4 → Nat :=
  let c0_i32_37 : BitVec 32 := 0#32
  let c1_i32_39 : BitVec 32 := 1#32
  let arg14 : BitVec 32 := Scf.iv c0_i32_37 c1_i32_39 k0_t2
  let c32_i32_282 : BitVec 32 := 32#32
  let v428 : BitVec 32 := Scalar.muli arg14 c32_i32_282
  let c27_i32_283 : BitVec 32 := 27#32
  let c0_i32_284 : BitVec 32 := 0#32
  let c0_i32_285 : BitVec 32 := 0#32
  ![v428.toNat, 27, 0, 0]
@[reducible] def k0_t3_loop : Scf.Loop 32 :=
  let c0_i32_41 : BitVec 32 := 0#32
  let c16_i32_42 : BitVec 32 := 16#32
  let v70 : BitVec 32 := Scalar.addi c0_i32_41 c16_i32_42
  let c1_i32_43 : BitVec 32 := 1#32
  ⟨c0_i32_41, v70, c1_i32_43⟩
@[reducible] def k0_t4_loop (v0 : BitVec 32) (arg15 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg15 v43
  let v100 : BitVec 32 := Scalar.minsi v99 v22
  let v101 : BitVec 32 := Scalar.subi v100 arg15
  let c1_i32_61 : BitVec 32 := 1#32
  let v103 : BitVec 32 := Scalar.divsi v101 c1_i32_61
  let v104 : BitVec 32 := Scalar.muli v103 c1_i32_61
  let v105 : BitVec 32 := Scalar.addi arg15 v104
  let c1_i32_62 : BitVec 32 := 1#32
  ⟨arg15, v105, c1_i32_62⟩

def k0_off31 (v0 : BitVec 32) (arg15 : BitVec 32) (k0_t4 : Fin (k0_t4_loop v0 arg15).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c1_i32_62 : BitVec 32 := 1#32
  let arg16 : BitVec 32 := Scf.iv arg15 c1_i32_62 k0_t4
  let v123 : BitVec 32 := Scalar.addi v21 arg16
  let c4_i32 : BitVec 32 := 4#32
  let v124 : BitVec 32 := Scalar.muli v123 c4_i32
  let c0_i32_77 : BitVec 32 := 0#32
  let c0_i32_78 : BitVec 32 := 0#32
  let c0_i32_79 : BitVec 32 := 0#32
  ![v124.toNat, 0, 0, 0]
@[reducible] def k0_t5_loop (v0 : BitVec 32) (arg15 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg15 v43
  let v100 : BitVec 32 := Scalar.minsi v99 v22
  let v101 : BitVec 32 := Scalar.subi v100 arg15
  let c1_i32_61 : BitVec 32 := 1#32
  let v103 : BitVec 32 := Scalar.divsi v101 c1_i32_61
  let v104 : BitVec 32 := Scalar.muli v103 c1_i32_61
  let v105 : BitVec 32 := Scalar.addi arg15 v104
  let v102 : BitVec 32 := Scalar.addi arg15 v101
  let c1_i32_63 : BitVec 32 := 1#32
  ⟨v105, v102, c1_i32_63⟩
def k0_off32 (v0 : BitVec 32) (arg15 : BitVec 32) (k0_t5 : Fin (k0_t5_loop v0 arg15).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c512_i32 : BitVec 32 := 512#32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg15 v43
  let v100 : BitVec 32 := Scalar.minsi v99 v22
  let v101 : BitVec 32 := Scalar.subi v100 arg15
  let c1_i32_61 : BitVec 32 := 1#32
  let v103 : BitVec 32 := Scalar.divsi v101 c1_i32_61
  let v104 : BitVec 32 := Scalar.muli v103 c1_i32_61
  let v105 : BitVec 32 := Scalar.addi arg15 v104
  let c1_i32_63 : BitVec 32 := 1#32
  let arg16 : BitVec 32 := Scf.iv v105 c1_i32_63 k0_t5
  let v123 : BitVec 32 := Scalar.addi v21 arg16
  let c4_i32 : BitVec 32 := 4#32
  let v124 : BitVec 32 := Scalar.muli v123 c4_i32
  let c0_i32_77 : BitVec 32 := 0#32
  let c0_i32_78 : BitVec 32 := 0#32
  let c0_i32_79 : BitVec 32 := 0#32
  ![v124.toNat, 0, 0, 0]

def k0_chk1 (v0 : BitVec 32) (arg15 : BitVec 32) : Prop :=
  ((k0_t4_loop v0 arg15).OK) ∧
  (∀ k0_t4 : Fin (k0_t4_loop v0 arg15).trips, ∀ a, (k0_off31 v0 arg15 k0_t4) a + S4x56x8x128.size a ≤ S2048x56x8x128.size a) ∧
  ((k0_t5_loop v0 arg15).OK) ∧
  (∀ k0_t5 : Fin (k0_t5_loop v0 arg15).trips, ∀ a, (k0_off32 v0 arg15 k0_t5) a + S4x56x8x128.size a ≤ S2048x56x8x128.size a)
theorem k0_t4_ok : ∀ (v0 : BitVec 32) (arg15 : BitVec 32) (k0_hw1 : k0_chk1 v0 arg15), (k0_t4_loop v0 arg15).OK := fun v0 arg15 k0_hw1 => k0_hw1.1
theorem k0_off31_inb : ∀ (v0 : BitVec 32) (arg15 : BitVec 32) (k0_hw1 : k0_chk1 v0 arg15) (k0_t4 : Fin (k0_t4_loop v0 arg15).trips), ∀ a, (k0_off31 v0 arg15 k0_t4) a + S4x56x8x128.size a ≤ S2048x56x8x128.size a := fun v0 arg15 k0_hw1 k0_t4 => k0_hw1.2.1 k0_t4
theorem k0_t5_ok : ∀ (v0 : BitVec 32) (arg15 : BitVec 32) (k0_hw1 : k0_chk1 v0 arg15), (k0_t5_loop v0 arg15).OK := fun v0 arg15 k0_hw1 => k0_hw1.2.2.1
theorem k0_off32_inb : ∀ (v0 : BitVec 32) (arg15 : BitVec 32) (k0_hw1 : k0_chk1 v0 arg15) (k0_t5 : Fin (k0_t5_loop v0 arg15).trips), ∀ a, (k0_off32 v0 arg15 k0_t5) a + S4x56x8x128.size a ≤ S2048x56x8x128.size a := fun v0 arg15 k0_hw1 k0_t5 => k0_hw1.2.2.2 k0_t5

def k0_off33 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  ![arg14.toNat]
def k0_off34 (k0_t3 : Fin k0_t3_loop.trips) : Fin 4 → Nat :=
  let c0_i32_41 : BitVec 32 := 0#32
  let c1_i32_43 : BitVec 32 := 1#32
  let arg14 : BitVec 32 := Scf.iv c0_i32_41 c1_i32_43 k0_t3
  let c32_i32 : BitVec 32 := 32#32
  let v108 : BitVec 32 := Scalar.muli arg14 c32_i32
  let c0_i32_64 : BitVec 32 := 0#32
  let c0_i32_65 : BitVec 32 := 0#32
  let c0_i32_66 : BitVec 32 := 0#32
  ![v108.toNat, 0, 0, 0]
@[reducible] def k0_t6_loop (k0_t3 : Fin k0_t3_loop.trips) : Scf.Loop 32 :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_75 : BitVec 32 := 1#32
  ⟨v113, v120, c1_i32_75⟩
def k0_off35 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v124 : Index := Scalar.indexCast arg16
  let c0_78 : Index := 0#32
  let c0_79 : Index := 0#32
  let c0_80 : Index := 0#32
  ![v124.toNat, 0, 0, 0]
def k0_off36 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v127 : Index := Scalar.indexCast arg16
  let c1_81 : Index := 1#32
  let c0_82 : Index := 0#32
  let c0_83 : Index := 0#32
  ![v127.toNat, 1, 0, 0]
def k0_off37 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v130 : Index := Scalar.indexCast arg16
  let c2 : Index := 2#32
  let c0_84 : Index := 0#32
  let c0_85 : Index := 0#32
  ![v130.toNat, 2, 0, 0]
def k0_off38 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v133 : Index := Scalar.indexCast arg16
  let c3 : Index := 3#32
  let c0_86 : Index := 0#32
  let c0_87 : Index := 0#32
  ![v133.toNat, 3, 0, 0]
def k0_off39 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v136 : Index := Scalar.indexCast arg16
  let c4 : Index := 4#32
  let c0_88 : Index := 0#32
  let c0_89 : Index := 0#32
  ![v136.toNat, 4, 0, 0]
def k0_off40 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v139 : Index := Scalar.indexCast arg16
  let c5 : Index := 5#32
  let c0_90 : Index := 0#32
  let c0_91 : Index := 0#32
  ![v139.toNat, 5, 0, 0]
def k0_off41 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v142 : Index := Scalar.indexCast arg16
  let c6 : Index := 6#32
  let c0_92 : Index := 0#32
  let c0_93 : Index := 0#32
  ![v142.toNat, 6, 0, 0]
def k0_off42 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v145 : Index := Scalar.indexCast arg16
  let c7 : Index := 7#32
  let c0_94 : Index := 0#32
  let c0_95 : Index := 0#32
  ![v145.toNat, 7, 0, 0]
def k0_off43 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v148 : Index := Scalar.indexCast arg16
  let c8 : Index := 8#32
  let c0_96 : Index := 0#32
  let c0_97 : Index := 0#32
  ![v148.toNat, 8, 0, 0]
def k0_off44 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v151 : Index := Scalar.indexCast arg16
  let c9 : Index := 9#32
  let c0_98 : Index := 0#32
  let c0_99 : Index := 0#32
  ![v151.toNat, 9, 0, 0]
def k0_off45 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v154 : Index := Scalar.indexCast arg16
  let c10 : Index := 10#32
  let c0_100 : Index := 0#32
  let c0_101 : Index := 0#32
  ![v154.toNat, 10, 0, 0]
def k0_off46 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v157 : Index := Scalar.indexCast arg16
  let c11 : Index := 11#32
  let c0_102 : Index := 0#32
  let c0_103 : Index := 0#32
  ![v157.toNat, 11, 0, 0]
def k0_off47 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v160 : Index := Scalar.indexCast arg16
  let c12 : Index := 12#32
  let c0_104 : Index := 0#32
  let c0_105 : Index := 0#32
  ![v160.toNat, 12, 0, 0]
def k0_off48 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v163 : Index := Scalar.indexCast arg16
  let c13 : Index := 13#32
  let c0_106 : Index := 0#32
  let c0_107 : Index := 0#32
  ![v163.toNat, 13, 0, 0]
def k0_off49 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v166 : Index := Scalar.indexCast arg16
  let c14 : Index := 14#32
  let c0_108 : Index := 0#32
  let c0_109 : Index := 0#32
  ![v166.toNat, 14, 0, 0]
def k0_off50 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v169 : Index := Scalar.indexCast arg16
  let c15 : Index := 15#32
  let c0_110 : Index := 0#32
  let c0_111 : Index := 0#32
  ![v169.toNat, 15, 0, 0]
def k0_off51 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v172 : Index := Scalar.indexCast arg16
  let c16 : Index := 16#32
  let c0_112 : Index := 0#32
  let c0_113 : Index := 0#32
  ![v172.toNat, 16, 0, 0]
def k0_off52 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v175 : Index := Scalar.indexCast arg16
  let c17 : Index := 17#32
  let c0_114 : Index := 0#32
  let c0_115 : Index := 0#32
  ![v175.toNat, 17, 0, 0]
def k0_off53 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v178 : Index := Scalar.indexCast arg16
  let c18 : Index := 18#32
  let c0_116 : Index := 0#32
  let c0_117 : Index := 0#32
  ![v178.toNat, 18, 0, 0]
def k0_off54 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v181 : Index := Scalar.indexCast arg16
  let c19 : Index := 19#32
  let c0_118 : Index := 0#32
  let c0_119 : Index := 0#32
  ![v181.toNat, 19, 0, 0]
def k0_off55 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v184 : Index := Scalar.indexCast arg16
  let c20 : Index := 20#32
  let c0_120 : Index := 0#32
  let c0_121 : Index := 0#32
  ![v184.toNat, 20, 0, 0]
def k0_off56 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v187 : Index := Scalar.indexCast arg16
  let c21 : Index := 21#32
  let c0_122 : Index := 0#32
  let c0_123 : Index := 0#32
  ![v187.toNat, 21, 0, 0]
def k0_off57 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v190 : Index := Scalar.indexCast arg16
  let c22 : Index := 22#32
  let c0_124 : Index := 0#32
  let c0_125 : Index := 0#32
  ![v190.toNat, 22, 0, 0]
def k0_off58 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v193 : Index := Scalar.indexCast arg16
  let c23 : Index := 23#32
  let c0_126 : Index := 0#32
  let c0_127 : Index := 0#32
  ![v193.toNat, 23, 0, 0]
def k0_off59 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v196 : Index := Scalar.indexCast arg16
  let c24 : Index := 24#32
  let c0_128 : Index := 0#32
  let c0_129 : Index := 0#32
  ![v196.toNat, 24, 0, 0]
def k0_off60 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v199 : Index := Scalar.indexCast arg16
  let c25 : Index := 25#32
  let c0_130 : Index := 0#32
  let c0_131 : Index := 0#32
  ![v199.toNat, 25, 0, 0]
def k0_off61 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v202 : Index := Scalar.indexCast arg16
  let c26 : Index := 26#32
  let c0_132 : Index := 0#32
  let c0_133 : Index := 0#32
  ![v202.toNat, 26, 0, 0]
def k0_off62 (k0_t3 : Fin k0_t3_loop.trips) (k0_t6 : Fin (k0_t6_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let v205 : Index := Scalar.indexCast arg16
  let c27 : Index := 27#32
  let c0_134 : Index := 0#32
  let c0_135 : Index := 0#32
  ![v205.toNat, 27, 0, 0]
def k0_off63 (k0_t3 : Fin k0_t3_loop.trips) (k0_t6 : Fin (k0_t6_loop k0_t3).trips) (c0_i32_151 : BitVec 32) (c0_i32_152 : BitVec 32) : Fin 2 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_75 : BitVec 32 := 1#32
  let arg16 : BitVec 32 := Scf.iv v113 c1_i32_75 k0_t6
  let c224_i32_77 : BitVec 32 := 224#32
  let v123 : BitVec 32 := Scalar.muli arg16 c224_i32_77
  let v256 : BitVec 32 := Scalar.addi v123 c0_i32_151
  let v257 : BitVec 32 := Scalar.addi v256 c0_i32_152
  let v259 : Index := Scalar.indexCast v257
  let c0_153 : Index := 0#32
  ![v259.toNat, 0]
@[reducible] def k0_t7_loop (k0_t3 : Fin k0_t3_loop.trips) : Scf.Loop 32 :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let v117 : BitVec 32 := Scalar.addi v113 v116
  let c1_i32_76 : BitVec 32 := 1#32
  ⟨v120, v117, c1_i32_76⟩
def k0_off64 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v124 : Index := Scalar.indexCast arg16
  let c0_78 : Index := 0#32
  let c0_79 : Index := 0#32
  let c0_80 : Index := 0#32
  ![v124.toNat, 0, 0, 0]
def k0_off65 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v127 : Index := Scalar.indexCast arg16
  let c1_81 : Index := 1#32
  let c0_82 : Index := 0#32
  let c0_83 : Index := 0#32
  ![v127.toNat, 1, 0, 0]
def k0_off66 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v130 : Index := Scalar.indexCast arg16
  let c2 : Index := 2#32
  let c0_84 : Index := 0#32
  let c0_85 : Index := 0#32
  ![v130.toNat, 2, 0, 0]
def k0_off67 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v133 : Index := Scalar.indexCast arg16
  let c3 : Index := 3#32
  let c0_86 : Index := 0#32
  let c0_87 : Index := 0#32
  ![v133.toNat, 3, 0, 0]
def k0_off68 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v136 : Index := Scalar.indexCast arg16
  let c4 : Index := 4#32
  let c0_88 : Index := 0#32
  let c0_89 : Index := 0#32
  ![v136.toNat, 4, 0, 0]
def k0_off69 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v139 : Index := Scalar.indexCast arg16
  let c5 : Index := 5#32
  let c0_90 : Index := 0#32
  let c0_91 : Index := 0#32
  ![v139.toNat, 5, 0, 0]
def k0_off70 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v142 : Index := Scalar.indexCast arg16
  let c6 : Index := 6#32
  let c0_92 : Index := 0#32
  let c0_93 : Index := 0#32
  ![v142.toNat, 6, 0, 0]
def k0_off71 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v145 : Index := Scalar.indexCast arg16
  let c7 : Index := 7#32
  let c0_94 : Index := 0#32
  let c0_95 : Index := 0#32
  ![v145.toNat, 7, 0, 0]
def k0_off72 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v148 : Index := Scalar.indexCast arg16
  let c8 : Index := 8#32
  let c0_96 : Index := 0#32
  let c0_97 : Index := 0#32
  ![v148.toNat, 8, 0, 0]
def k0_off73 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v151 : Index := Scalar.indexCast arg16
  let c9 : Index := 9#32
  let c0_98 : Index := 0#32
  let c0_99 : Index := 0#32
  ![v151.toNat, 9, 0, 0]
def k0_off74 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v154 : Index := Scalar.indexCast arg16
  let c10 : Index := 10#32
  let c0_100 : Index := 0#32
  let c0_101 : Index := 0#32
  ![v154.toNat, 10, 0, 0]
def k0_off75 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v157 : Index := Scalar.indexCast arg16
  let c11 : Index := 11#32
  let c0_102 : Index := 0#32
  let c0_103 : Index := 0#32
  ![v157.toNat, 11, 0, 0]
def k0_off76 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v160 : Index := Scalar.indexCast arg16
  let c12 : Index := 12#32
  let c0_104 : Index := 0#32
  let c0_105 : Index := 0#32
  ![v160.toNat, 12, 0, 0]
def k0_off77 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v163 : Index := Scalar.indexCast arg16
  let c13 : Index := 13#32
  let c0_106 : Index := 0#32
  let c0_107 : Index := 0#32
  ![v163.toNat, 13, 0, 0]
def k0_off78 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v166 : Index := Scalar.indexCast arg16
  let c14 : Index := 14#32
  let c0_108 : Index := 0#32
  let c0_109 : Index := 0#32
  ![v166.toNat, 14, 0, 0]
def k0_off79 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v169 : Index := Scalar.indexCast arg16
  let c15 : Index := 15#32
  let c0_110 : Index := 0#32
  let c0_111 : Index := 0#32
  ![v169.toNat, 15, 0, 0]
def k0_off80 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v172 : Index := Scalar.indexCast arg16
  let c16 : Index := 16#32
  let c0_112 : Index := 0#32
  let c0_113 : Index := 0#32
  ![v172.toNat, 16, 0, 0]
def k0_off81 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v175 : Index := Scalar.indexCast arg16
  let c17 : Index := 17#32
  let c0_114 : Index := 0#32
  let c0_115 : Index := 0#32
  ![v175.toNat, 17, 0, 0]
def k0_off82 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v178 : Index := Scalar.indexCast arg16
  let c18 : Index := 18#32
  let c0_116 : Index := 0#32
  let c0_117 : Index := 0#32
  ![v178.toNat, 18, 0, 0]
def k0_off83 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v181 : Index := Scalar.indexCast arg16
  let c19 : Index := 19#32
  let c0_118 : Index := 0#32
  let c0_119 : Index := 0#32
  ![v181.toNat, 19, 0, 0]
def k0_off84 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v184 : Index := Scalar.indexCast arg16
  let c20 : Index := 20#32
  let c0_120 : Index := 0#32
  let c0_121 : Index := 0#32
  ![v184.toNat, 20, 0, 0]
def k0_off85 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v187 : Index := Scalar.indexCast arg16
  let c21 : Index := 21#32
  let c0_122 : Index := 0#32
  let c0_123 : Index := 0#32
  ![v187.toNat, 21, 0, 0]
def k0_off86 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v190 : Index := Scalar.indexCast arg16
  let c22 : Index := 22#32
  let c0_124 : Index := 0#32
  let c0_125 : Index := 0#32
  ![v190.toNat, 22, 0, 0]
def k0_off87 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v193 : Index := Scalar.indexCast arg16
  let c23 : Index := 23#32
  let c0_126 : Index := 0#32
  let c0_127 : Index := 0#32
  ![v193.toNat, 23, 0, 0]
def k0_off88 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v196 : Index := Scalar.indexCast arg16
  let c24 : Index := 24#32
  let c0_128 : Index := 0#32
  let c0_129 : Index := 0#32
  ![v196.toNat, 24, 0, 0]
def k0_off89 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v199 : Index := Scalar.indexCast arg16
  let c25 : Index := 25#32
  let c0_130 : Index := 0#32
  let c0_131 : Index := 0#32
  ![v199.toNat, 25, 0, 0]
def k0_off90 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v202 : Index := Scalar.indexCast arg16
  let c26 : Index := 26#32
  let c0_132 : Index := 0#32
  let c0_133 : Index := 0#32
  ![v202.toNat, 26, 0, 0]
def k0_off91 (k0_t3 : Fin k0_t3_loop.trips) (k0_t7 : Fin (k0_t7_loop k0_t3).trips) : Fin 4 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let v205 : Index := Scalar.indexCast arg16
  let c27 : Index := 27#32
  let c0_134 : Index := 0#32
  let c0_135 : Index := 0#32
  ![v205.toNat, 27, 0, 0]
def k0_off92 (k0_t3 : Fin k0_t3_loop.trips) (k0_t7 : Fin (k0_t7_loop k0_t3).trips) (c0_i32_151 : BitVec 32) (c0_i32_152 : BitVec 32) : Fin 2 → Nat :=
  let c0_i32_41 : BitVec 32 := 0#32
  let c1_i32_43 : BitVec 32 := 1#32
  let arg14 : BitVec 32 := Scf.iv c0_i32_41 c1_i32_43 k0_t3
  let c32_i32_70 : BitVec 32 := 32#32
  let v113 : BitVec 32 := Scalar.muli arg14 c32_i32_70
  let c1_i32_71 : BitVec 32 := 1#32
  let v114 : BitVec 32 := Scalar.addi arg14 c1_i32_71
  let c32_i32_72 : BitVec 32 := 32#32
  let v115 : BitVec 32 := Scalar.muli v114 c32_i32_72
  let v116 : BitVec 32 := Scalar.subi v115 v113
  let c1_i32_74 : BitVec 32 := 1#32
  let v118 : BitVec 32 := Scalar.divsi v116 c1_i32_74
  let v119 : BitVec 32 := Scalar.muli v118 c1_i32_74
  let v120 : BitVec 32 := Scalar.addi v113 v119
  let c1_i32_76 : BitVec 32 := 1#32
  let arg16 : BitVec 32 := Scf.iv v120 c1_i32_76 k0_t7
  let c224_i32_77 : BitVec 32 := 224#32
  let v123 : BitVec 32 := Scalar.muli arg16 c224_i32_77
  let v256 : BitVec 32 := Scalar.addi v123 c0_i32_151
  let v257 : BitVec 32 := Scalar.addi v256 c0_i32_152
  let v259 : Index := Scalar.indexCast v257
  let c0_153 : Index := 0#32
  ![v259.toNat, 0]
def k0_off93 : Fin 2 → Nat :=
  let c0_i32_45 : BitVec 32 := 0#32
  let c3_i32 : BitVec 32 := 3#32
  let v72 : BitVec 32 := Scalar.shrui c0_i32_45 c3_i32
  let c31_i32 : BitVec 32 := 31#32
  let v73 : BitVec 32 := Scalar.andi v72 c31_i32
  let c224_i32 : BitVec 32 := 224#32
  let v74 : BitVec 32 := Scalar.muli v73 c224_i32
  let c0_i32_46 : BitVec 32 := 0#32
  let c7_i32 : BitVec 32 := 7#32
  let v75 : BitVec 32 := Scalar.andi c0_i32_46 c7_i32
  let v76 : BitVec 32 := Scalar.addi v74 v75
  let v78 : Index := Scalar.indexCast v76
  let c0_47 : Index := 0#32
  ![v78.toNat, 0]
@[reducible] def k0_t8_loop (v0 : BitVec 32) : Scf.Loop 32 :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_52 : BitVec 32 := 1#32
  ⟨c0_i32_49, v87, c1_i32_52⟩

@[reducible] def k0_t9_loop (v0 : BitVec 32) (arg17 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg17 v43
  let v100 : BitVec 32 := Scalar.minsi v99 v22
  let v101 : BitVec 32 := Scalar.subi v100 arg17
  let c1_i32_61 : BitVec 32 := 1#32
  let v103 : BitVec 32 := Scalar.divsi v101 c1_i32_61
  let v104 : BitVec 32 := Scalar.muli v103 c1_i32_61
  let v105 : BitVec 32 := Scalar.addi arg17 v104
  let c1_i32_62 : BitVec 32 := 1#32
  ⟨arg17, v105, c1_i32_62⟩

def k0_off94 (v0 : BitVec 32) (arg17 : BitVec 32) (k0_t9 : Fin (k0_t9_loop v0 arg17).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c1_i32_62 : BitVec 32 := 1#32
  let arg18 : BitVec 32 := Scf.iv arg17 c1_i32_62 k0_t9
  let v156 : BitVec 32 := Scalar.addi v21 arg18
  let c4_i32_88 : BitVec 32 := 4#32
  let v157 : BitVec 32 := Scalar.muli v156 c4_i32_88
  let c0_i32_89 : BitVec 32 := 0#32
  let c0_i32_90 : BitVec 32 := 0#32
  let c0_i32_91 : BitVec 32 := 0#32
  ![v157.toNat, 0, 0, 0]
@[reducible] def k0_t10_loop (v0 : BitVec 32) (arg17 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg17 v43
  let v100 : BitVec 32 := Scalar.minsi v99 v22
  let v101 : BitVec 32 := Scalar.subi v100 arg17
  let c1_i32_61 : BitVec 32 := 1#32
  let v103 : BitVec 32 := Scalar.divsi v101 c1_i32_61
  let v104 : BitVec 32 := Scalar.muli v103 c1_i32_61
  let v105 : BitVec 32 := Scalar.addi arg17 v104
  let v102 : BitVec 32 := Scalar.addi arg17 v101
  let c1_i32_63 : BitVec 32 := 1#32
  ⟨v105, v102, c1_i32_63⟩
def k0_off95 (v0 : BitVec 32) (arg17 : BitVec 32) (k0_t10 : Fin (k0_t10_loop v0 arg17).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c512_i32 : BitVec 32 := 512#32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg17 v43
  let v100 : BitVec 32 := Scalar.minsi v99 v22
  let v101 : BitVec 32 := Scalar.subi v100 arg17
  let c1_i32_61 : BitVec 32 := 1#32
  let v103 : BitVec 32 := Scalar.divsi v101 c1_i32_61
  let v104 : BitVec 32 := Scalar.muli v103 c1_i32_61
  let v105 : BitVec 32 := Scalar.addi arg17 v104
  let c1_i32_63 : BitVec 32 := 1#32
  let arg18 : BitVec 32 := Scf.iv v105 c1_i32_63 k0_t10
  let v156 : BitVec 32 := Scalar.addi v21 arg18
  let c4_i32_88 : BitVec 32 := 4#32
  let v157 : BitVec 32 := Scalar.muli v156 c4_i32_88
  let c0_i32_89 : BitVec 32 := 0#32
  let c0_i32_90 : BitVec 32 := 0#32
  let c0_i32_91 : BitVec 32 := 0#32
  ![v157.toNat, 0, 0, 0]

def k0_chk3 (v0 : BitVec 32) (arg17 : BitVec 32) : Prop :=
  ((k0_t9_loop v0 arg17).OK) ∧
  (∀ k0_t9 : Fin (k0_t9_loop v0 arg17).trips, ∀ a, (k0_off94 v0 arg17 k0_t9) a + S4x56x8x128.size a ≤ S2048x56x8x128.size a) ∧
  ((k0_t10_loop v0 arg17).OK) ∧
  (∀ k0_t10 : Fin (k0_t10_loop v0 arg17).trips, ∀ a, (k0_off95 v0 arg17 k0_t10) a + S4x56x8x128.size a ≤ S2048x56x8x128.size a)
theorem k0_t9_ok : ∀ (v0 : BitVec 32) (arg17 : BitVec 32) (k0_hw3 : k0_chk3 v0 arg17), (k0_t9_loop v0 arg17).OK := fun v0 arg17 k0_hw3 => k0_hw3.1
theorem k0_off94_inb : ∀ (v0 : BitVec 32) (arg17 : BitVec 32) (k0_hw3 : k0_chk3 v0 arg17) (k0_t9 : Fin (k0_t9_loop v0 arg17).trips), ∀ a, (k0_off94 v0 arg17 k0_t9) a + S4x56x8x128.size a ≤ S2048x56x8x128.size a := fun v0 arg17 k0_hw3 k0_t9 => k0_hw3.2.1 k0_t9
theorem k0_t10_ok : ∀ (v0 : BitVec 32) (arg17 : BitVec 32) (k0_hw3 : k0_chk3 v0 arg17), (k0_t10_loop v0 arg17).OK := fun v0 arg17 k0_hw3 => k0_hw3.2.2.1
theorem k0_off95_inb : ∀ (v0 : BitVec 32) (arg17 : BitVec 32) (k0_hw3 : k0_chk3 v0 arg17) (k0_t10 : Fin (k0_t10_loop v0 arg17).trips), ∀ a, (k0_off95 v0 arg17 k0_t10) a + S4x56x8x128.size a ≤ S2048x56x8x128.size a := fun v0 arg17 k0_hw3 k0_t10 => k0_hw3.2.2.2 k0_t10

def k0_cond1 (v0 : BitVec 32) (k0_t8 : Fin (k0_t8_loop v0).trips) : BitVec 1 :=
  let c0_i32_49 : BitVec 32 := 0#32
  let c1_i32_52 : BitVec 32 := 1#32
  let arg14 : BitVec 32 := Scf.iv c0_i32_49 c1_i32_52 k0_t8
  let c3_i32_64 : BitVec 32 := 3#32
  let v108 : BitVec 1 := Scalar.cmpi .sge arg14 c3_i32_64
  let v109 : BitVec 32 := Scalar.extui v108
  let c0_i32_65 : BitVec 32 := 0#32
  let v110 : BitVec 1 := Scalar.cmpi .ne v109 c0_i32_65
  v110

def k0_off96 (v0 : BitVec 32) (k0_t8 : Fin (k0_t8_loop v0).trips) : Fin 1 → Nat :=
  let c0_i32_49 : BitVec 32 := 0#32
  let c1_i32_52 : BitVec 32 := 1#32
  let arg14 : BitVec 32 := Scf.iv c0_i32_49 c1_i32_52 k0_t8
  let c3_i32_88 : BitVec 32 := 3#32
  let v156 : BitVec 32 := Scalar.subi arg14 c3_i32_88
  let c4_i32_89 : BitVec 32 := 4#32
  let v157 : BitVec 32 := Scalar.remsi v156 c4_i32_89
  ![v157.toNat]
def k0_off97 (v0 : BitVec 32) (k0_t1 : Fin k0_t1_loop.trips) (k0_t8 : Fin (k0_t8_loop v0).trips) : Fin 4 → Nat :=
  let c0_i32_49 : BitVec 32 := 0#32
  let c1_i32_52 : BitVec 32 := 1#32
  let arg14 : BitVec 32 := Scf.iv c0_i32_49 c1_i32_52 k0_t8
  let c3_i32_88 : BitVec 32 := 3#32
  let v156 : BitVec 32 := Scalar.subi arg14 c3_i32_88
  let c8_i32_91 : BitVec 32 := 8#32
  let v159 : BitVec 32 := Scalar.muli v156 c8_i32_91
  let c0_i32_24 : BitVec 32 := 0#32
  let c1_i32_26 : BitVec 32 := 1#32
  let arg12 : BitVec 32 := Scf.iv c0_i32_24 c1_i32_26 k0_t1
  let c28_i32_92 : BitVec 32 := 28#32
  let v160 : BitVec 32 := Scalar.muli arg12 c28_i32_92
  let c0_i32_93 : BitVec 32 := 0#32
  let c0_i32_94 : BitVec 32 := 0#32
  ![v159.toNat, v160.toNat, 0, 0]
def k0_off98 (v0 : BitVec 32) (k0_t8 : Fin (k0_t8_loop v0).trips) : Fin 4 → Nat :=
  let c0_i32_49 : BitVec 32 := 0#32
  let c1_i32_52 : BitVec 32 := 1#32
  let arg14 : BitVec 32 := Scf.iv c0_i32_49 c1_i32_52 k0_t8
  let c3_i32_88 : BitVec 32 := 3#32
  let v156 : BitVec 32 := Scalar.subi arg14 c3_i32_88
  let c4_i32_89 : BitVec 32 := 4#32
  let v157 : BitVec 32 := Scalar.remsi v156 c4_i32_89
  let c8_i32_90 : BitVec 32 := 8#32
  let v158 : BitVec 32 := Scalar.muli v157 c8_i32_90
  let c0_i32_95 : BitVec 32 := 0#32
  let c0_i32_96 : BitVec 32 := 0#32
  let c0_i32_97 : BitVec 32 := 0#32
  ![v158.toNat, 0, 0, 0]
def k0_off99 (v0 : BitVec 32) (k0_t8 : Fin (k0_t8_loop v0).trips) : Fin 1 → Nat :=
  let c0_i32_49 : BitVec 32 := 0#32
  let c1_i32_52 : BitVec 32 := 1#32
  let arg14 : BitVec 32 := Scf.iv c0_i32_49 c1_i32_52 k0_t8
  let c1_i32_66 : BitVec 32 := 1#32
  let v111 : BitVec 32 := Scalar.addi arg14 c1_i32_66
  let c64_i32_67 : BitVec 32 := 64#32
  let v112 : BitVec 32 := Scalar.muli v111 c64_i32_67
  let c16384_i32 : BitVec 32 := 16384#32
  let v113 : BitVec 32 := Scalar.minsi v112 c16384_i32
  let v114 : Index := Scalar.indexCast v113
  ![v114.toNat]
@[reducible] def k0_t11_loop (v1 : BitVec 32) (arg16 : BitVec 32) (v115 : BitVec 32) : Scf.Loop 32 :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_78 : BitVec 32 := 1#32
  ⟨arg16, v141, c1_i32_78⟩

def k0_off100 (v1 : BitVec 32) (arg16 : BitVec 32) (v115 : BitVec 32) (k0_t11 : Fin (k0_t11_loop v1 arg16 v115).trips) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let c0_i32_89 : BitVec 32 := 0#32
  let v158 : BitVec 32 := Scalar.addi v157 c0_i32_89
  let v159 : Index := Scalar.indexCast v158
  ![v159.toNat]
def k0_off101 (v160 : BitVec 32) : Fin 2 → Nat :=
  let c131071_i32 : BitVec 32 := 131071#32
  let v161 : BitVec 32 := Scalar.andi v160 c131071_i32
  let v163 : Index := Scalar.indexCast v161
  let c0_90 : Index := 0#32
  ![v163.toNat, 0]

def k0_off102 (v1 : BitVec 32) (arg16 : BitVec 32) (v115 : BitVec 32) (k0_t11 : Fin (k0_t11_loop v1 arg16 v115).trips) (c0_i32_89 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v158 : BitVec 32 := Scalar.addi v157 c0_i32_89
  let v172 : Index := Scalar.indexCast v158
  ![v172.toNat]
def k0_off103 (v160 : BitVec 32) : Fin 2 → Nat :=
  let c17_i32 : BitVec 32 := 17#32
  let v177 : BitVec 32 := Scalar.shrui v160 c17_i32
  let c8191_i32 : BitVec 32 := 8191#32
  let v178 : BitVec 32 := Scalar.andi v177 c8191_i32
  let v181 : Index := Scalar.indexCast v178
  let c0_93 : Index := 0#32
  ![v181.toNat, 0]

def k0_chk5 (v160 : BitVec 32) : Prop :=
  (∀ a, (k0_off101 v160) a + S8x128.size a ≤ S114912x128.size a) ∧
  (∀ a, S28x128.size a = 0 ∨ (k0_off103 v160) a + (![8, 1] : Fin 2 → Nat) a * (S28x128.size a - 1) < S7392x128.size a)
theorem k0_off101_inb : ∀ (v160 : BitVec 32) (k0_hw5 : k0_chk5 v160), ∀ a, (k0_off101 v160) a + S8x128.size a ≤ S114912x128.size a := fun v160 k0_hw5 => k0_hw5.1
theorem k0_off103_inb : ∀ (v160 : BitVec 32) (k0_hw5 : k0_chk5 v160), ∀ a, S28x128.size a = 0 ∨ (k0_off103 v160) a + (![8, 1] : Fin 2 → Nat) a * (S28x128.size a - 1) < S7392x128.size a := fun v160 k0_hw5 => k0_hw5.2

def k0_off104 (v187 : BitVec 32) : Fin 2 → Nat :=
  let c131071_i32_95 : BitVec 32 := 131071#32
  let v188 : BitVec 32 := Scalar.andi v187 c131071_i32_95
  let v190 : Index := Scalar.indexCast v188
  let c0_96 : Index := 0#32
  ![v190.toNat, 0]

def k0_off105 (v1 : BitVec 32) (arg16 : BitVec 32) (v115 : BitVec 32) (k0_t11 : Fin (k0_t11_loop v1 arg16 v115).trips) (c1_i32_94 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v185 : BitVec 32 := Scalar.addi v157 c1_i32_94
  let v199 : Index := Scalar.indexCast v185
  ![v199.toNat]
def k0_off106 (v187 : BitVec 32) : Fin 2 → Nat :=
  let c17_i32_99 : BitVec 32 := 17#32
  let v204 : BitVec 32 := Scalar.shrui v187 c17_i32_99
  let c8191_i32_100 : BitVec 32 := 8191#32
  let v205 : BitVec 32 := Scalar.andi v204 c8191_i32_100
  let v208 : Index := Scalar.indexCast v205
  let c0_101 : Index := 0#32
  ![v208.toNat, 0]

def k0_chk6 (v187 : BitVec 32) : Prop :=
  (∀ a, (k0_off104 v187) a + S8x128.size a ≤ S114912x128.size a) ∧
  (∀ a, S28x128.size a = 0 ∨ (k0_off106 v187) a + (![8, 1] : Fin 2 → Nat) a * (S28x128.size a - 1) < S7392x128.size a)
theorem k0_off104_inb : ∀ (v187 : BitVec 32) (k0_hw6 : k0_chk6 v187), ∀ a, (k0_off104 v187) a + S8x128.size a ≤ S114912x128.size a := fun v187 k0_hw6 => k0_hw6.1
theorem k0_off106_inb : ∀ (v187 : BitVec 32) (k0_hw6 : k0_chk6 v187), ∀ a, S28x128.size a = 0 ∨ (k0_off106 v187) a + (![8, 1] : Fin 2 → Nat) a * (S28x128.size a - 1) < S7392x128.size a := fun v187 k0_hw6 => k0_hw6.2

def k0_off107 (v214 : BitVec 32) : Fin 2 → Nat :=
  let c131071_i32_103 : BitVec 32 := 131071#32
  let v215 : BitVec 32 := Scalar.andi v214 c131071_i32_103
  let v217 : Index := Scalar.indexCast v215
  let c0_104 : Index := 0#32
  ![v217.toNat, 0]

def k0_off108 (v1 : BitVec 32) (arg16 : BitVec 32) (v115 : BitVec 32) (k0_t11 : Fin (k0_t11_loop v1 arg16 v115).trips) (c2_i32_102 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v212 : BitVec 32 := Scalar.addi v157 c2_i32_102
  let v226 : Index := Scalar.indexCast v212
  ![v226.toNat]
def k0_off109 (v214 : BitVec 32) : Fin 2 → Nat :=
  let c17_i32_107 : BitVec 32 := 17#32
  let v231 : BitVec 32 := Scalar.shrui v214 c17_i32_107
  let c8191_i32_108 : BitVec 32 := 8191#32
  let v232 : BitVec 32 := Scalar.andi v231 c8191_i32_108
  let v235 : Index := Scalar.indexCast v232
  let c0_109 : Index := 0#32
  ![v235.toNat, 0]

def k0_chk7 (v214 : BitVec 32) : Prop :=
  (∀ a, (k0_off107 v214) a + S8x128.size a ≤ S114912x128.size a) ∧
  (∀ a, S28x128.size a = 0 ∨ (k0_off109 v214) a + (![8, 1] : Fin 2 → Nat) a * (S28x128.size a - 1) < S7392x128.size a)
theorem k0_off107_inb : ∀ (v214 : BitVec 32) (k0_hw7 : k0_chk7 v214), ∀ a, (k0_off107 v214) a + S8x128.size a ≤ S114912x128.size a := fun v214 k0_hw7 => k0_hw7.1
theorem k0_off109_inb : ∀ (v214 : BitVec 32) (k0_hw7 : k0_chk7 v214), ∀ a, S28x128.size a = 0 ∨ (k0_off109 v214) a + (![8, 1] : Fin 2 → Nat) a * (S28x128.size a - 1) < S7392x128.size a := fun v214 k0_hw7 => k0_hw7.2

def k0_off110 (v241 : BitVec 32) : Fin 2 → Nat :=
  let c131071_i32_111 : BitVec 32 := 131071#32
  let v242 : BitVec 32 := Scalar.andi v241 c131071_i32_111
  let v244 : Index := Scalar.indexCast v242
  let c0_112 : Index := 0#32
  ![v244.toNat, 0]

def k0_off111 (v1 : BitVec 32) (arg16 : BitVec 32) (v115 : BitVec 32) (k0_t11 : Fin (k0_t11_loop v1 arg16 v115).trips) (c3_i32_110 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v239 : BitVec 32 := Scalar.addi v157 c3_i32_110
  let v253 : Index := Scalar.indexCast v239
  ![v253.toNat]
def k0_off112 (v241 : BitVec 32) : Fin 2 → Nat :=
  let c17_i32_115 : BitVec 32 := 17#32
  let v258 : BitVec 32 := Scalar.shrui v241 c17_i32_115
  let c8191_i32_116 : BitVec 32 := 8191#32
  let v259 : BitVec 32 := Scalar.andi v258 c8191_i32_116
  let v262 : Index := Scalar.indexCast v259
  let c0_117 : Index := 0#32
  ![v262.toNat, 0]

def k0_chk8 (v241 : BitVec 32) : Prop :=
  (∀ a, (k0_off110 v241) a + S8x128.size a ≤ S114912x128.size a) ∧
  (∀ a, S28x128.size a = 0 ∨ (k0_off112 v241) a + (![8, 1] : Fin 2 → Nat) a * (S28x128.size a - 1) < S7392x128.size a)
theorem k0_off110_inb : ∀ (v241 : BitVec 32) (k0_hw8 : k0_chk8 v241), ∀ a, (k0_off110 v241) a + S8x128.size a ≤ S114912x128.size a := fun v241 k0_hw8 => k0_hw8.1
theorem k0_off112_inb : ∀ (v241 : BitVec 32) (k0_hw8 : k0_chk8 v241), ∀ a, S28x128.size a = 0 ∨ (k0_off112 v241) a + (![8, 1] : Fin 2 → Nat) a * (S28x128.size a - 1) < S7392x128.size a := fun v241 k0_hw8 => k0_hw8.2

def k0_off113 (v268 : BitVec 32) : Fin 2 → Nat :=
  let c131071_i32_119 : BitVec 32 := 131071#32
  let v269 : BitVec 32 := Scalar.andi v268 c131071_i32_119
  let v271 : Index := Scalar.indexCast v269
  let c0_120 : Index := 0#32
  ![v271.toNat, 0]

def k0_off114 (v1 : BitVec 32) (arg16 : BitVec 32) (v115 : BitVec 32) (k0_t11 : Fin (k0_t11_loop v1 arg16 v115).trips) (c4_i32_118 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v266 : BitVec 32 := Scalar.addi v157 c4_i32_118
  let v280 : Index := Scalar.indexCast v266
  ![v280.toNat]
def k0_off115 (v268 : BitVec 32) : Fin 2 → Nat :=
  let c17_i32_123 : BitVec 32 := 17#32
  let v285 : BitVec 32 := Scalar.shrui v268 c17_i32_123
  let c8191_i32_124 : BitVec 32 := 8191#32
  let v286 : BitVec 32 := Scalar.andi v285 c8191_i32_124
  let v289 : Index := Scalar.indexCast v286
  let c0_125 : Index := 0#32
  ![v289.toNat, 0]

def k0_chk9 (v268 : BitVec 32) : Prop :=
  (∀ a, (k0_off113 v268) a + S8x128.size a ≤ S114912x128.size a) ∧
  (∀ a, S28x128.size a = 0 ∨ (k0_off115 v268) a + (![8, 1] : Fin 2 → Nat) a * (S28x128.size a - 1) < S7392x128.size a)
theorem k0_off113_inb : ∀ (v268 : BitVec 32) (k0_hw9 : k0_chk9 v268), ∀ a, (k0_off113 v268) a + S8x128.size a ≤ S114912x128.size a := fun v268 k0_hw9 => k0_hw9.1
theorem k0_off115_inb : ∀ (v268 : BitVec 32) (k0_hw9 : k0_chk9 v268), ∀ a, S28x128.size a = 0 ∨ (k0_off115 v268) a + (![8, 1] : Fin 2 → Nat) a * (S28x128.size a - 1) < S7392x128.size a := fun v268 k0_hw9 => k0_hw9.2

def k0_off116 (v295 : BitVec 32) : Fin 2 → Nat :=
  let c131071_i32_126 : BitVec 32 := 131071#32
  let v296 : BitVec 32 := Scalar.andi v295 c131071_i32_126
  let v298 : Index := Scalar.indexCast v296
  let c0_127 : Index := 0#32
  ![v298.toNat, 0]

def k0_off117 (v1 : BitVec 32) (arg16 : BitVec 32) (v115 : BitVec 32) (k0_t11 : Fin (k0_t11_loop v1 arg16 v115).trips) (c5_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v293 : BitVec 32 := Scalar.addi v157 c5_i32
  let v307 : Index := Scalar.indexCast v293
  ![v307.toNat]
def k0_off118 (v295 : BitVec 32) : Fin 2 → Nat :=
  let c17_i32_130 : BitVec 32 := 17#32
  let v312 : BitVec 32 := Scalar.shrui v295 c17_i32_130
  let c8191_i32_131 : BitVec 32 := 8191#32
  let v313 : BitVec 32 := Scalar.andi v312 c8191_i32_131
  let v316 : Index := Scalar.indexCast v313
  let c0_132 : Index := 0#32
  ![v316.toNat, 0]

def k0_chk10 (v295 : BitVec 32) : Prop :=
  (∀ a, (k0_off116 v295) a + S8x128.size a ≤ S114912x128.size a) ∧
  (∀ a, S28x128.size a = 0 ∨ (k0_off118 v295) a + (![8, 1] : Fin 2 → Nat) a * (S28x128.size a - 1) < S7392x128.size a)
theorem k0_off116_inb : ∀ (v295 : BitVec 32) (k0_hw10 : k0_chk10 v295), ∀ a, (k0_off116 v295) a + S8x128.size a ≤ S114912x128.size a := fun v295 k0_hw10 => k0_hw10.1
theorem k0_off118_inb : ∀ (v295 : BitVec 32) (k0_hw10 : k0_chk10 v295), ∀ a, S28x128.size a = 0 ∨ (k0_off118 v295) a + (![8, 1] : Fin 2 → Nat) a * (S28x128.size a - 1) < S7392x128.size a := fun v295 k0_hw10 => k0_hw10.2

def k0_off119 (v322 : BitVec 32) : Fin 2 → Nat :=
  let c131071_i32_133 : BitVec 32 := 131071#32
  let v323 : BitVec 32 := Scalar.andi v322 c131071_i32_133
  let v325 : Index := Scalar.indexCast v323
  let c0_134 : Index := 0#32
  ![v325.toNat, 0]

def k0_off120 (v1 : BitVec 32) (arg16 : BitVec 32) (v115 : BitVec 32) (k0_t11 : Fin (k0_t11_loop v1 arg16 v115).trips) (c6_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v320 : BitVec 32 := Scalar.addi v157 c6_i32
  let v334 : Index := Scalar.indexCast v320
  ![v334.toNat]
def k0_off121 (v322 : BitVec 32) : Fin 2 → Nat :=
  let c17_i32_137 : BitVec 32 := 17#32
  let v339 : BitVec 32 := Scalar.shrui v322 c17_i32_137
  let c8191_i32_138 : BitVec 32 := 8191#32
  let v340 : BitVec 32 := Scalar.andi v339 c8191_i32_138
  let v343 : Index := Scalar.indexCast v340
  let c0_139 : Index := 0#32
  ![v343.toNat, 0]

def k0_chk11 (v322 : BitVec 32) : Prop :=
  (∀ a, (k0_off119 v322) a + S8x128.size a ≤ S114912x128.size a) ∧
  (∀ a, S28x128.size a = 0 ∨ (k0_off121 v322) a + (![8, 1] : Fin 2 → Nat) a * (S28x128.size a - 1) < S7392x128.size a)
theorem k0_off119_inb : ∀ (v322 : BitVec 32) (k0_hw11 : k0_chk11 v322), ∀ a, (k0_off119 v322) a + S8x128.size a ≤ S114912x128.size a := fun v322 k0_hw11 => k0_hw11.1
theorem k0_off121_inb : ∀ (v322 : BitVec 32) (k0_hw11 : k0_chk11 v322), ∀ a, S28x128.size a = 0 ∨ (k0_off121 v322) a + (![8, 1] : Fin 2 → Nat) a * (S28x128.size a - 1) < S7392x128.size a := fun v322 k0_hw11 => k0_hw11.2

def k0_off122 (v349 : BitVec 32) : Fin 2 → Nat :=
  let c131071_i32_141 : BitVec 32 := 131071#32
  let v350 : BitVec 32 := Scalar.andi v349 c131071_i32_141
  let v352 : Index := Scalar.indexCast v350
  let c0_142 : Index := 0#32
  ![v352.toNat, 0]

def k0_off123 (v1 : BitVec 32) (arg16 : BitVec 32) (v115 : BitVec 32) (k0_t11 : Fin (k0_t11_loop v1 arg16 v115).trips) (c7_i32_140 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v347 : BitVec 32 := Scalar.addi v157 c7_i32_140
  let v361 : Index := Scalar.indexCast v347
  ![v361.toNat]
def k0_off124 (v349 : BitVec 32) : Fin 2 → Nat :=
  let c17_i32_145 : BitVec 32 := 17#32
  let v366 : BitVec 32 := Scalar.shrui v349 c17_i32_145
  let c8191_i32_146 : BitVec 32 := 8191#32
  let v367 : BitVec 32 := Scalar.andi v366 c8191_i32_146
  let v370 : Index := Scalar.indexCast v367
  let c0_147 : Index := 0#32
  ![v370.toNat, 0]

def k0_chk12 (v349 : BitVec 32) : Prop :=
  (∀ a, (k0_off122 v349) a + S8x128.size a ≤ S114912x128.size a) ∧
  (∀ a, S28x128.size a = 0 ∨ (k0_off124 v349) a + (![8, 1] : Fin 2 → Nat) a * (S28x128.size a - 1) < S7392x128.size a)
theorem k0_off122_inb : ∀ (v349 : BitVec 32) (k0_hw12 : k0_chk12 v349), ∀ a, (k0_off122 v349) a + S8x128.size a ≤ S114912x128.size a := fun v349 k0_hw12 => k0_hw12.1
theorem k0_off124_inb : ∀ (v349 : BitVec 32) (k0_hw12 : k0_chk12 v349), ∀ a, S28x128.size a = 0 ∨ (k0_off124 v349) a + (![8, 1] : Fin 2 → Nat) a * (S28x128.size a - 1) < S7392x128.size a := fun v349 k0_hw12 => k0_hw12.2

def k0_off125 (v376 : BitVec 32) : Fin 2 → Nat :=
  let c131071_i32_149 : BitVec 32 := 131071#32
  let v377 : BitVec 32 := Scalar.andi v376 c131071_i32_149
  let v379 : Index := Scalar.indexCast v377
  let c0_150 : Index := 0#32
  ![v379.toNat, 0]

def k0_off126 (v1 : BitVec 32) (arg16 : BitVec 32) (v115 : BitVec 32) (k0_t11 : Fin (k0_t11_loop v1 arg16 v115).trips) (c8_i32_148 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v374 : BitVec 32 := Scalar.addi v157 c8_i32_148
  let v388 : Index := Scalar.indexCast v374
  ![v388.toNat]
def k0_off127 (v376 : BitVec 32) : Fin 2 → Nat :=
  let c17_i32_153 : BitVec 32 := 17#32
  let v393 : BitVec 32 := Scalar.shrui v376 c17_i32_153
  let c8191_i32_154 : BitVec 32 := 8191#32
  let v394 : BitVec 32 := Scalar.andi v393 c8191_i32_154
  let v397 : Index := Scalar.indexCast v394
  let c0_155 : Index := 0#32
  ![v397.toNat, 0]

def k0_chk13 (v376 : BitVec 32) : Prop :=
  (∀ a, (k0_off125 v376) a + S8x128.size a ≤ S114912x128.size a) ∧
  (∀ a, S28x128.size a = 0 ∨ (k0_off127 v376) a + (![8, 1] : Fin 2 → Nat) a * (S28x128.size a - 1) < S7392x128.size a)
theorem k0_off125_inb : ∀ (v376 : BitVec 32) (k0_hw13 : k0_chk13 v376), ∀ a, (k0_off125 v376) a + S8x128.size a ≤ S114912x128.size a := fun v376 k0_hw13 => k0_hw13.1
theorem k0_off127_inb : ∀ (v376 : BitVec 32) (k0_hw13 : k0_chk13 v376), ∀ a, S28x128.size a = 0 ∨ (k0_off127 v376) a + (![8, 1] : Fin 2 → Nat) a * (S28x128.size a - 1) < S7392x128.size a := fun v376 k0_hw13 => k0_hw13.2

def k0_off128 (v403 : BitVec 32) : Fin 2 → Nat :=
  let c131071_i32_156 : BitVec 32 := 131071#32
  let v404 : BitVec 32 := Scalar.andi v403 c131071_i32_156
  let v406 : Index := Scalar.indexCast v404
  let c0_157 : Index := 0#32
  ![v406.toNat, 0]

def k0_off129 (v1 : BitVec 32) (arg16 : BitVec 32) (v115 : BitVec 32) (k0_t11 : Fin (k0_t11_loop v1 arg16 v115).trips) (c9_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v401 : BitVec 32 := Scalar.addi v157 c9_i32
  let v415 : Index := Scalar.indexCast v401
  ![v415.toNat]
def k0_off130 (v403 : BitVec 32) : Fin 2 → Nat :=
  let c17_i32_160 : BitVec 32 := 17#32
  let v420 : BitVec 32 := Scalar.shrui v403 c17_i32_160
  let c8191_i32_161 : BitVec 32 := 8191#32
  let v421 : BitVec 32 := Scalar.andi v420 c8191_i32_161
  let v424 : Index := Scalar.indexCast v421
  let c0_162 : Index := 0#32
  ![v424.toNat, 0]

def k0_chk14 (v403 : BitVec 32) : Prop :=
  (∀ a, (k0_off128 v403) a + S8x128.size a ≤ S114912x128.size a) ∧
  (∀ a, S28x128.size a = 0 ∨ (k0_off130 v403) a + (![8, 1] : Fin 2 → Nat) a * (S28x128.size a - 1) < S7392x128.size a)
theorem k0_off128_inb : ∀ (v403 : BitVec 32) (k0_hw14 : k0_chk14 v403), ∀ a, (k0_off128 v403) a + S8x128.size a ≤ S114912x128.size a := fun v403 k0_hw14 => k0_hw14.1
theorem k0_off130_inb : ∀ (v403 : BitVec 32) (k0_hw14 : k0_chk14 v403), ∀ a, S28x128.size a = 0 ∨ (k0_off130 v403) a + (![8, 1] : Fin 2 → Nat) a * (S28x128.size a - 1) < S7392x128.size a := fun v403 k0_hw14 => k0_hw14.2

def k0_off131 (v430 : BitVec 32) : Fin 2 → Nat :=
  let c131071_i32_163 : BitVec 32 := 131071#32
  let v431 : BitVec 32 := Scalar.andi v430 c131071_i32_163
  let v433 : Index := Scalar.indexCast v431
  let c0_164 : Index := 0#32
  ![v433.toNat, 0]

def k0_off132 (v1 : BitVec 32) (arg16 : BitVec 32) (v115 : BitVec 32) (k0_t11 : Fin (k0_t11_loop v1 arg16 v115).trips) (c10_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v428 : BitVec 32 := Scalar.addi v157 c10_i32
  let v442 : Index := Scalar.indexCast v428
  ![v442.toNat]
def k0_off133 (v430 : BitVec 32) : Fin 2 → Nat :=
  let c17_i32_167 : BitVec 32 := 17#32
  let v447 : BitVec 32 := Scalar.shrui v430 c17_i32_167
  let c8191_i32_168 : BitVec 32 := 8191#32
  let v448 : BitVec 32 := Scalar.andi v447 c8191_i32_168
  let v451 : Index := Scalar.indexCast v448
  let c0_169 : Index := 0#32
  ![v451.toNat, 0]

def k0_chk15 (v430 : BitVec 32) : Prop :=
  (∀ a, (k0_off131 v430) a + S8x128.size a ≤ S114912x128.size a) ∧
  (∀ a, S28x128.size a = 0 ∨ (k0_off133 v430) a + (![8, 1] : Fin 2 → Nat) a * (S28x128.size a - 1) < S7392x128.size a)
theorem k0_off131_inb : ∀ (v430 : BitVec 32) (k0_hw15 : k0_chk15 v430), ∀ a, (k0_off131 v430) a + S8x128.size a ≤ S114912x128.size a := fun v430 k0_hw15 => k0_hw15.1
theorem k0_off133_inb : ∀ (v430 : BitVec 32) (k0_hw15 : k0_chk15 v430), ∀ a, S28x128.size a = 0 ∨ (k0_off133 v430) a + (![8, 1] : Fin 2 → Nat) a * (S28x128.size a - 1) < S7392x128.size a := fun v430 k0_hw15 => k0_hw15.2

def k0_off134 (v457 : BitVec 32) : Fin 2 → Nat :=
  let c131071_i32_170 : BitVec 32 := 131071#32
  let v458 : BitVec 32 := Scalar.andi v457 c131071_i32_170
  let v460 : Index := Scalar.indexCast v458
  let c0_171 : Index := 0#32
  ![v460.toNat, 0]

def k0_off135 (v1 : BitVec 32) (arg16 : BitVec 32) (v115 : BitVec 32) (k0_t11 : Fin (k0_t11_loop v1 arg16 v115).trips) (c11_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v455 : BitVec 32 := Scalar.addi v157 c11_i32
  let v469 : Index := Scalar.indexCast v455
  ![v469.toNat]
def k0_off136 (v457 : BitVec 32) : Fin 2 → Nat :=
  let c17_i32_174 : BitVec 32 := 17#32
  let v474 : BitVec 32 := Scalar.shrui v457 c17_i32_174
  let c8191_i32_175 : BitVec 32 := 8191#32
  let v475 : BitVec 32 := Scalar.andi v474 c8191_i32_175
  let v478 : Index := Scalar.indexCast v475
  let c0_176 : Index := 0#32
  ![v478.toNat, 0]

def k0_chk16 (v457 : BitVec 32) : Prop :=
  (∀ a, (k0_off134 v457) a + S8x128.size a ≤ S114912x128.size a) ∧
  (∀ a, S28x128.size a = 0 ∨ (k0_off136 v457) a + (![8, 1] : Fin 2 → Nat) a * (S28x128.size a - 1) < S7392x128.size a)
theorem k0_off134_inb : ∀ (v457 : BitVec 32) (k0_hw16 : k0_chk16 v457), ∀ a, (k0_off134 v457) a + S8x128.size a ≤ S114912x128.size a := fun v457 k0_hw16 => k0_hw16.1
theorem k0_off136_inb : ∀ (v457 : BitVec 32) (k0_hw16 : k0_chk16 v457), ∀ a, S28x128.size a = 0 ∨ (k0_off136 v457) a + (![8, 1] : Fin 2 → Nat) a * (S28x128.size a - 1) < S7392x128.size a := fun v457 k0_hw16 => k0_hw16.2

def k0_off137 (v484 : BitVec 32) : Fin 2 → Nat :=
  let c131071_i32_177 : BitVec 32 := 131071#32
  let v485 : BitVec 32 := Scalar.andi v484 c131071_i32_177
  let v487 : Index := Scalar.indexCast v485
  let c0_178 : Index := 0#32
  ![v487.toNat, 0]

def k0_off138 (v1 : BitVec 32) (arg16 : BitVec 32) (v115 : BitVec 32) (k0_t11 : Fin (k0_t11_loop v1 arg16 v115).trips) (c12_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v482 : BitVec 32 := Scalar.addi v157 c12_i32
  let v496 : Index := Scalar.indexCast v482
  ![v496.toNat]
def k0_off139 (v484 : BitVec 32) : Fin 2 → Nat :=
  let c17_i32_181 : BitVec 32 := 17#32
  let v501 : BitVec 32 := Scalar.shrui v484 c17_i32_181
  let c8191_i32_182 : BitVec 32 := 8191#32
  let v502 : BitVec 32 := Scalar.andi v501 c8191_i32_182
  let v505 : Index := Scalar.indexCast v502
  let c0_183 : Index := 0#32
  ![v505.toNat, 0]

def k0_chk17 (v484 : BitVec 32) : Prop :=
  (∀ a, (k0_off137 v484) a + S8x128.size a ≤ S114912x128.size a) ∧
  (∀ a, S28x128.size a = 0 ∨ (k0_off139 v484) a + (![8, 1] : Fin 2 → Nat) a * (S28x128.size a - 1) < S7392x128.size a)
theorem k0_off137_inb : ∀ (v484 : BitVec 32) (k0_hw17 : k0_chk17 v484), ∀ a, (k0_off137 v484) a + S8x128.size a ≤ S114912x128.size a := fun v484 k0_hw17 => k0_hw17.1
theorem k0_off139_inb : ∀ (v484 : BitVec 32) (k0_hw17 : k0_chk17 v484), ∀ a, S28x128.size a = 0 ∨ (k0_off139 v484) a + (![8, 1] : Fin 2 → Nat) a * (S28x128.size a - 1) < S7392x128.size a := fun v484 k0_hw17 => k0_hw17.2

def k0_off140 (v511 : BitVec 32) : Fin 2 → Nat :=
  let c131071_i32_184 : BitVec 32 := 131071#32
  let v512 : BitVec 32 := Scalar.andi v511 c131071_i32_184
  let v514 : Index := Scalar.indexCast v512
  let c0_185 : Index := 0#32
  ![v514.toNat, 0]

def k0_off141 (v1 : BitVec 32) (arg16 : BitVec 32) (v115 : BitVec 32) (k0_t11 : Fin (k0_t11_loop v1 arg16 v115).trips) (c13_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v509 : BitVec 32 := Scalar.addi v157 c13_i32
  let v523 : Index := Scalar.indexCast v509
  ![v523.toNat]
def k0_off142 (v511 : BitVec 32) : Fin 2 → Nat :=
  let c17_i32_188 : BitVec 32 := 17#32
  let v528 : BitVec 32 := Scalar.shrui v511 c17_i32_188
  let c8191_i32_189 : BitVec 32 := 8191#32
  let v529 : BitVec 32 := Scalar.andi v528 c8191_i32_189
  let v532 : Index := Scalar.indexCast v529
  let c0_190 : Index := 0#32
  ![v532.toNat, 0]

def k0_chk18 (v511 : BitVec 32) : Prop :=
  (∀ a, (k0_off140 v511) a + S8x128.size a ≤ S114912x128.size a) ∧
  (∀ a, S28x128.size a = 0 ∨ (k0_off142 v511) a + (![8, 1] : Fin 2 → Nat) a * (S28x128.size a - 1) < S7392x128.size a)
theorem k0_off140_inb : ∀ (v511 : BitVec 32) (k0_hw18 : k0_chk18 v511), ∀ a, (k0_off140 v511) a + S8x128.size a ≤ S114912x128.size a := fun v511 k0_hw18 => k0_hw18.1
theorem k0_off142_inb : ∀ (v511 : BitVec 32) (k0_hw18 : k0_chk18 v511), ∀ a, S28x128.size a = 0 ∨ (k0_off142 v511) a + (![8, 1] : Fin 2 → Nat) a * (S28x128.size a - 1) < S7392x128.size a := fun v511 k0_hw18 => k0_hw18.2

def k0_off143 (v538 : BitVec 32) : Fin 2 → Nat :=
  let c131071_i32_191 : BitVec 32 := 131071#32
  let v539 : BitVec 32 := Scalar.andi v538 c131071_i32_191
  let v541 : Index := Scalar.indexCast v539
  let c0_192 : Index := 0#32
  ![v541.toNat, 0]

def k0_off144 (v1 : BitVec 32) (arg16 : BitVec 32) (v115 : BitVec 32) (k0_t11 : Fin (k0_t11_loop v1 arg16 v115).trips) (c14_i32 : BitVec 32) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let v536 : BitVec 32 := Scalar.addi v157 c14_i32
  let v550 : Index := Scalar.indexCast v536
  ![v550.toNat]
def k0_off145 (v538 : BitVec 32) : Fin 2 → Nat :=
  let c17_i32_195 : BitVec 32 := 17#32
  let v555 : BitVec 32 := Scalar.shrui v538 c17_i32_195
  let c8191_i32_196 : BitVec 32 := 8191#32
  let v556 : BitVec 32 := Scalar.andi v555 c8191_i32_196
  let v559 : Index := Scalar.indexCast v556
  let c0_197 : Index := 0#32
  ![v559.toNat, 0]

def k0_chk19 (v538 : BitVec 32) : Prop :=
  (∀ a, (k0_off143 v538) a + S8x128.size a ≤ S114912x128.size a) ∧
  (∀ a, S28x128.size a = 0 ∨ (k0_off145 v538) a + (![8, 1] : Fin 2 → Nat) a * (S28x128.size a - 1) < S7392x128.size a)
theorem k0_off143_inb : ∀ (v538 : BitVec 32) (k0_hw19 : k0_chk19 v538), ∀ a, (k0_off143 v538) a + S8x128.size a ≤ S114912x128.size a := fun v538 k0_hw19 => k0_hw19.1
theorem k0_off145_inb : ∀ (v538 : BitVec 32) (k0_hw19 : k0_chk19 v538), ∀ a, S28x128.size a = 0 ∨ (k0_off145 v538) a + (![8, 1] : Fin 2 → Nat) a * (S28x128.size a - 1) < S7392x128.size a := fun v538 k0_hw19 => k0_hw19.2

def k0_off146 (v565 : BitVec 32) : Fin 2 → Nat :=
  let c131071_i32_198 : BitVec 32 := 131071#32
  let v566 : BitVec 32 := Scalar.andi v565 c131071_i32_198
  let v568 : Index := Scalar.indexCast v566
  let c0_199 : Index := 0#32
  ![v568.toNat, 0]

def k0_off147 (v1 : BitVec 32) (arg16 : BitVec 32) (v115 : BitVec 32) (k0_t11 : Fin (k0_t11_loop v1 arg16 v115).trips) : Fin 1 → Nat :=
  let c1_i32_78 : BitVec 32 := 1#32
  let arg18 : BitVec 32 := Scf.iv arg16 c1_i32_78 k0_t11
  let c16_i32_88 : BitVec 32 := 16#32
  let v156 : BitVec 32 := Scalar.muli arg18 c16_i32_88
  let v157 : BitVec 32 := Scalar.addi v1 v156
  let c15_i32 : BitVec 32 := 15#32
  let v563 : BitVec 32 := Scalar.addi v157 c15_i32
  let v577 : Index := Scalar.indexCast v563
  ![v577.toNat]
def k0_off148 (v565 : BitVec 32) : Fin 2 → Nat :=
  let c17_i32_202 : BitVec 32 := 17#32
  let v582 : BitVec 32 := Scalar.shrui v565 c17_i32_202
  let c8191_i32_203 : BitVec 32 := 8191#32
  let v583 : BitVec 32 := Scalar.andi v582 c8191_i32_203
  let v586 : Index := Scalar.indexCast v583
  let c0_204 : Index := 0#32
  ![v586.toNat, 0]

def k0_chk20 (v565 : BitVec 32) : Prop :=
  (∀ a, (k0_off146 v565) a + S8x128.size a ≤ S114912x128.size a) ∧
  (∀ a, S28x128.size a = 0 ∨ (k0_off148 v565) a + (![8, 1] : Fin 2 → Nat) a * (S28x128.size a - 1) < S7392x128.size a)
theorem k0_off146_inb : ∀ (v565 : BitVec 32) (k0_hw20 : k0_chk20 v565), ∀ a, (k0_off146 v565) a + S8x128.size a ≤ S114912x128.size a := fun v565 k0_hw20 => k0_hw20.1
theorem k0_off148_inb : ∀ (v565 : BitVec 32) (k0_hw20 : k0_chk20 v565), ∀ a, S28x128.size a = 0 ∨ (k0_off148 v565) a + (![8, 1] : Fin 2 → Nat) a * (S28x128.size a - 1) < S7392x128.size a := fun v565 k0_hw20 => k0_hw20.2

@[reducible] def k0_t12_loop (v1 : BitVec 32) (arg16 : BitVec 32) (v115 : BitVec 32) : Scf.Loop 32 :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let v138 : BitVec 32 := Scalar.addi arg16 v137
  let c1_i32_79 : BitVec 32 := 1#32
  ⟨v141, v138, c1_i32_79⟩
def k0_off149 (v1 : BitVec 32) (arg16 : BitVec 32) (v115 : BitVec 32) (k0_t12 : Fin (k0_t12_loop v1 arg16 v115).trips) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let c0_i32_89 : BitVec 32 := 0#32
  let v158 : BitVec 32 := Scalar.addi v157 c0_i32_89
  let v159 : Index := Scalar.indexCast v158
  ![v159.toNat]
def k0_off150 (v160 : BitVec 32) : Fin 2 → Nat :=
  let c131071_i32 : BitVec 32 := 131071#32
  let v161 : BitVec 32 := Scalar.andi v160 c131071_i32
  let v163 : Index := Scalar.indexCast v161
  let c0_90 : Index := 0#32
  ![v163.toNat, 0]

def k0_off151 (v1 : BitVec 32) (arg16 : BitVec 32) (v115 : BitVec 32) (k0_t12 : Fin (k0_t12_loop v1 arg16 v115).trips) (c0_i32_89 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v158 : BitVec 32 := Scalar.addi v157 c0_i32_89
  let v172 : Index := Scalar.indexCast v158
  ![v172.toNat]
def k0_off152 (v160 : BitVec 32) : Fin 2 → Nat :=
  let c17_i32 : BitVec 32 := 17#32
  let v177 : BitVec 32 := Scalar.shrui v160 c17_i32
  let c8191_i32 : BitVec 32 := 8191#32
  let v178 : BitVec 32 := Scalar.andi v177 c8191_i32
  let v181 : Index := Scalar.indexCast v178
  let c0_93 : Index := 0#32
  ![v181.toNat, 0]

def k0_chk21 (v160 : BitVec 32) : Prop :=
  (∀ a, (k0_off150 v160) a + S8x128.size a ≤ S114912x128.size a) ∧
  (∀ a, S28x128.size a = 0 ∨ (k0_off152 v160) a + (![8, 1] : Fin 2 → Nat) a * (S28x128.size a - 1) < S7392x128.size a)
theorem k0_off150_inb : ∀ (v160 : BitVec 32) (k0_hw21 : k0_chk21 v160), ∀ a, (k0_off150 v160) a + S8x128.size a ≤ S114912x128.size a := fun v160 k0_hw21 => k0_hw21.1
theorem k0_off152_inb : ∀ (v160 : BitVec 32) (k0_hw21 : k0_chk21 v160), ∀ a, S28x128.size a = 0 ∨ (k0_off152 v160) a + (![8, 1] : Fin 2 → Nat) a * (S28x128.size a - 1) < S7392x128.size a := fun v160 k0_hw21 => k0_hw21.2

def k0_off153 (v187 : BitVec 32) : Fin 2 → Nat :=
  let c131071_i32_95 : BitVec 32 := 131071#32
  let v188 : BitVec 32 := Scalar.andi v187 c131071_i32_95
  let v190 : Index := Scalar.indexCast v188
  let c0_96 : Index := 0#32
  ![v190.toNat, 0]

def k0_off154 (v1 : BitVec 32) (arg16 : BitVec 32) (v115 : BitVec 32) (k0_t12 : Fin (k0_t12_loop v1 arg16 v115).trips) (c1_i32_94 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v185 : BitVec 32 := Scalar.addi v157 c1_i32_94
  let v199 : Index := Scalar.indexCast v185
  ![v199.toNat]
def k0_off155 (v187 : BitVec 32) : Fin 2 → Nat :=
  let c17_i32_99 : BitVec 32 := 17#32
  let v204 : BitVec 32 := Scalar.shrui v187 c17_i32_99
  let c8191_i32_100 : BitVec 32 := 8191#32
  let v205 : BitVec 32 := Scalar.andi v204 c8191_i32_100
  let v208 : Index := Scalar.indexCast v205
  let c0_101 : Index := 0#32
  ![v208.toNat, 0]

def k0_chk22 (v187 : BitVec 32) : Prop :=
  (∀ a, (k0_off153 v187) a + S8x128.size a ≤ S114912x128.size a) ∧
  (∀ a, S28x128.size a = 0 ∨ (k0_off155 v187) a + (![8, 1] : Fin 2 → Nat) a * (S28x128.size a - 1) < S7392x128.size a)
theorem k0_off153_inb : ∀ (v187 : BitVec 32) (k0_hw22 : k0_chk22 v187), ∀ a, (k0_off153 v187) a + S8x128.size a ≤ S114912x128.size a := fun v187 k0_hw22 => k0_hw22.1
theorem k0_off155_inb : ∀ (v187 : BitVec 32) (k0_hw22 : k0_chk22 v187), ∀ a, S28x128.size a = 0 ∨ (k0_off155 v187) a + (![8, 1] : Fin 2 → Nat) a * (S28x128.size a - 1) < S7392x128.size a := fun v187 k0_hw22 => k0_hw22.2

def k0_off156 (v214 : BitVec 32) : Fin 2 → Nat :=
  let c131071_i32_103 : BitVec 32 := 131071#32
  let v215 : BitVec 32 := Scalar.andi v214 c131071_i32_103
  let v217 : Index := Scalar.indexCast v215
  let c0_104 : Index := 0#32
  ![v217.toNat, 0]

def k0_off157 (v1 : BitVec 32) (arg16 : BitVec 32) (v115 : BitVec 32) (k0_t12 : Fin (k0_t12_loop v1 arg16 v115).trips) (c2_i32_102 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v212 : BitVec 32 := Scalar.addi v157 c2_i32_102
  let v226 : Index := Scalar.indexCast v212
  ![v226.toNat]
def k0_off158 (v214 : BitVec 32) : Fin 2 → Nat :=
  let c17_i32_107 : BitVec 32 := 17#32
  let v231 : BitVec 32 := Scalar.shrui v214 c17_i32_107
  let c8191_i32_108 : BitVec 32 := 8191#32
  let v232 : BitVec 32 := Scalar.andi v231 c8191_i32_108
  let v235 : Index := Scalar.indexCast v232
  let c0_109 : Index := 0#32
  ![v235.toNat, 0]

def k0_chk23 (v214 : BitVec 32) : Prop :=
  (∀ a, (k0_off156 v214) a + S8x128.size a ≤ S114912x128.size a) ∧
  (∀ a, S28x128.size a = 0 ∨ (k0_off158 v214) a + (![8, 1] : Fin 2 → Nat) a * (S28x128.size a - 1) < S7392x128.size a)
theorem k0_off156_inb : ∀ (v214 : BitVec 32) (k0_hw23 : k0_chk23 v214), ∀ a, (k0_off156 v214) a + S8x128.size a ≤ S114912x128.size a := fun v214 k0_hw23 => k0_hw23.1
theorem k0_off158_inb : ∀ (v214 : BitVec 32) (k0_hw23 : k0_chk23 v214), ∀ a, S28x128.size a = 0 ∨ (k0_off158 v214) a + (![8, 1] : Fin 2 → Nat) a * (S28x128.size a - 1) < S7392x128.size a := fun v214 k0_hw23 => k0_hw23.2

def k0_off159 (v241 : BitVec 32) : Fin 2 → Nat :=
  let c131071_i32_111 : BitVec 32 := 131071#32
  let v242 : BitVec 32 := Scalar.andi v241 c131071_i32_111
  let v244 : Index := Scalar.indexCast v242
  let c0_112 : Index := 0#32
  ![v244.toNat, 0]

def k0_off160 (v1 : BitVec 32) (arg16 : BitVec 32) (v115 : BitVec 32) (k0_t12 : Fin (k0_t12_loop v1 arg16 v115).trips) (c3_i32_110 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v239 : BitVec 32 := Scalar.addi v157 c3_i32_110
  let v253 : Index := Scalar.indexCast v239
  ![v253.toNat]
def k0_off161 (v241 : BitVec 32) : Fin 2 → Nat :=
  let c17_i32_115 : BitVec 32 := 17#32
  let v258 : BitVec 32 := Scalar.shrui v241 c17_i32_115
  let c8191_i32_116 : BitVec 32 := 8191#32
  let v259 : BitVec 32 := Scalar.andi v258 c8191_i32_116
  let v262 : Index := Scalar.indexCast v259
  let c0_117 : Index := 0#32
  ![v262.toNat, 0]

def k0_chk24 (v241 : BitVec 32) : Prop :=
  (∀ a, (k0_off159 v241) a + S8x128.size a ≤ S114912x128.size a) ∧
  (∀ a, S28x128.size a = 0 ∨ (k0_off161 v241) a + (![8, 1] : Fin 2 → Nat) a * (S28x128.size a - 1) < S7392x128.size a)
theorem k0_off159_inb : ∀ (v241 : BitVec 32) (k0_hw24 : k0_chk24 v241), ∀ a, (k0_off159 v241) a + S8x128.size a ≤ S114912x128.size a := fun v241 k0_hw24 => k0_hw24.1
theorem k0_off161_inb : ∀ (v241 : BitVec 32) (k0_hw24 : k0_chk24 v241), ∀ a, S28x128.size a = 0 ∨ (k0_off161 v241) a + (![8, 1] : Fin 2 → Nat) a * (S28x128.size a - 1) < S7392x128.size a := fun v241 k0_hw24 => k0_hw24.2

def k0_off162 (v268 : BitVec 32) : Fin 2 → Nat :=
  let c131071_i32_119 : BitVec 32 := 131071#32
  let v269 : BitVec 32 := Scalar.andi v268 c131071_i32_119
  let v271 : Index := Scalar.indexCast v269
  let c0_120 : Index := 0#32
  ![v271.toNat, 0]

def k0_off163 (v1 : BitVec 32) (arg16 : BitVec 32) (v115 : BitVec 32) (k0_t12 : Fin (k0_t12_loop v1 arg16 v115).trips) (c4_i32_118 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v266 : BitVec 32 := Scalar.addi v157 c4_i32_118
  let v280 : Index := Scalar.indexCast v266
  ![v280.toNat]
def k0_off164 (v268 : BitVec 32) : Fin 2 → Nat :=
  let c17_i32_123 : BitVec 32 := 17#32
  let v285 : BitVec 32 := Scalar.shrui v268 c17_i32_123
  let c8191_i32_124 : BitVec 32 := 8191#32
  let v286 : BitVec 32 := Scalar.andi v285 c8191_i32_124
  let v289 : Index := Scalar.indexCast v286
  let c0_125 : Index := 0#32
  ![v289.toNat, 0]

def k0_chk25 (v268 : BitVec 32) : Prop :=
  (∀ a, (k0_off162 v268) a + S8x128.size a ≤ S114912x128.size a) ∧
  (∀ a, S28x128.size a = 0 ∨ (k0_off164 v268) a + (![8, 1] : Fin 2 → Nat) a * (S28x128.size a - 1) < S7392x128.size a)
theorem k0_off162_inb : ∀ (v268 : BitVec 32) (k0_hw25 : k0_chk25 v268), ∀ a, (k0_off162 v268) a + S8x128.size a ≤ S114912x128.size a := fun v268 k0_hw25 => k0_hw25.1
theorem k0_off164_inb : ∀ (v268 : BitVec 32) (k0_hw25 : k0_chk25 v268), ∀ a, S28x128.size a = 0 ∨ (k0_off164 v268) a + (![8, 1] : Fin 2 → Nat) a * (S28x128.size a - 1) < S7392x128.size a := fun v268 k0_hw25 => k0_hw25.2

def k0_off165 (v295 : BitVec 32) : Fin 2 → Nat :=
  let c131071_i32_126 : BitVec 32 := 131071#32
  let v296 : BitVec 32 := Scalar.andi v295 c131071_i32_126
  let v298 : Index := Scalar.indexCast v296
  let c0_127 : Index := 0#32
  ![v298.toNat, 0]

def k0_off166 (v1 : BitVec 32) (arg16 : BitVec 32) (v115 : BitVec 32) (k0_t12 : Fin (k0_t12_loop v1 arg16 v115).trips) (c5_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v293 : BitVec 32 := Scalar.addi v157 c5_i32
  let v307 : Index := Scalar.indexCast v293
  ![v307.toNat]
def k0_off167 (v295 : BitVec 32) : Fin 2 → Nat :=
  let c17_i32_130 : BitVec 32 := 17#32
  let v312 : BitVec 32 := Scalar.shrui v295 c17_i32_130
  let c8191_i32_131 : BitVec 32 := 8191#32
  let v313 : BitVec 32 := Scalar.andi v312 c8191_i32_131
  let v316 : Index := Scalar.indexCast v313
  let c0_132 : Index := 0#32
  ![v316.toNat, 0]

def k0_chk26 (v295 : BitVec 32) : Prop :=
  (∀ a, (k0_off165 v295) a + S8x128.size a ≤ S114912x128.size a) ∧
  (∀ a, S28x128.size a = 0 ∨ (k0_off167 v295) a + (![8, 1] : Fin 2 → Nat) a * (S28x128.size a - 1) < S7392x128.size a)
theorem k0_off165_inb : ∀ (v295 : BitVec 32) (k0_hw26 : k0_chk26 v295), ∀ a, (k0_off165 v295) a + S8x128.size a ≤ S114912x128.size a := fun v295 k0_hw26 => k0_hw26.1
theorem k0_off167_inb : ∀ (v295 : BitVec 32) (k0_hw26 : k0_chk26 v295), ∀ a, S28x128.size a = 0 ∨ (k0_off167 v295) a + (![8, 1] : Fin 2 → Nat) a * (S28x128.size a - 1) < S7392x128.size a := fun v295 k0_hw26 => k0_hw26.2

def k0_off168 (v322 : BitVec 32) : Fin 2 → Nat :=
  let c131071_i32_133 : BitVec 32 := 131071#32
  let v323 : BitVec 32 := Scalar.andi v322 c131071_i32_133
  let v325 : Index := Scalar.indexCast v323
  let c0_134 : Index := 0#32
  ![v325.toNat, 0]

def k0_off169 (v1 : BitVec 32) (arg16 : BitVec 32) (v115 : BitVec 32) (k0_t12 : Fin (k0_t12_loop v1 arg16 v115).trips) (c6_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v320 : BitVec 32 := Scalar.addi v157 c6_i32
  let v334 : Index := Scalar.indexCast v320
  ![v334.toNat]
def k0_off170 (v322 : BitVec 32) : Fin 2 → Nat :=
  let c17_i32_137 : BitVec 32 := 17#32
  let v339 : BitVec 32 := Scalar.shrui v322 c17_i32_137
  let c8191_i32_138 : BitVec 32 := 8191#32
  let v340 : BitVec 32 := Scalar.andi v339 c8191_i32_138
  let v343 : Index := Scalar.indexCast v340
  let c0_139 : Index := 0#32
  ![v343.toNat, 0]

def k0_chk27 (v322 : BitVec 32) : Prop :=
  (∀ a, (k0_off168 v322) a + S8x128.size a ≤ S114912x128.size a) ∧
  (∀ a, S28x128.size a = 0 ∨ (k0_off170 v322) a + (![8, 1] : Fin 2 → Nat) a * (S28x128.size a - 1) < S7392x128.size a)
theorem k0_off168_inb : ∀ (v322 : BitVec 32) (k0_hw27 : k0_chk27 v322), ∀ a, (k0_off168 v322) a + S8x128.size a ≤ S114912x128.size a := fun v322 k0_hw27 => k0_hw27.1
theorem k0_off170_inb : ∀ (v322 : BitVec 32) (k0_hw27 : k0_chk27 v322), ∀ a, S28x128.size a = 0 ∨ (k0_off170 v322) a + (![8, 1] : Fin 2 → Nat) a * (S28x128.size a - 1) < S7392x128.size a := fun v322 k0_hw27 => k0_hw27.2

def k0_off171 (v349 : BitVec 32) : Fin 2 → Nat :=
  let c131071_i32_141 : BitVec 32 := 131071#32
  let v350 : BitVec 32 := Scalar.andi v349 c131071_i32_141
  let v352 : Index := Scalar.indexCast v350
  let c0_142 : Index := 0#32
  ![v352.toNat, 0]

def k0_off172 (v1 : BitVec 32) (arg16 : BitVec 32) (v115 : BitVec 32) (k0_t12 : Fin (k0_t12_loop v1 arg16 v115).trips) (c7_i32_140 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v347 : BitVec 32 := Scalar.addi v157 c7_i32_140
  let v361 : Index := Scalar.indexCast v347
  ![v361.toNat]
def k0_off173 (v349 : BitVec 32) : Fin 2 → Nat :=
  let c17_i32_145 : BitVec 32 := 17#32
  let v366 : BitVec 32 := Scalar.shrui v349 c17_i32_145
  let c8191_i32_146 : BitVec 32 := 8191#32
  let v367 : BitVec 32 := Scalar.andi v366 c8191_i32_146
  let v370 : Index := Scalar.indexCast v367
  let c0_147 : Index := 0#32
  ![v370.toNat, 0]

def k0_chk28 (v349 : BitVec 32) : Prop :=
  (∀ a, (k0_off171 v349) a + S8x128.size a ≤ S114912x128.size a) ∧
  (∀ a, S28x128.size a = 0 ∨ (k0_off173 v349) a + (![8, 1] : Fin 2 → Nat) a * (S28x128.size a - 1) < S7392x128.size a)
theorem k0_off171_inb : ∀ (v349 : BitVec 32) (k0_hw28 : k0_chk28 v349), ∀ a, (k0_off171 v349) a + S8x128.size a ≤ S114912x128.size a := fun v349 k0_hw28 => k0_hw28.1
theorem k0_off173_inb : ∀ (v349 : BitVec 32) (k0_hw28 : k0_chk28 v349), ∀ a, S28x128.size a = 0 ∨ (k0_off173 v349) a + (![8, 1] : Fin 2 → Nat) a * (S28x128.size a - 1) < S7392x128.size a := fun v349 k0_hw28 => k0_hw28.2

def k0_off174 (v376 : BitVec 32) : Fin 2 → Nat :=
  let c131071_i32_149 : BitVec 32 := 131071#32
  let v377 : BitVec 32 := Scalar.andi v376 c131071_i32_149
  let v379 : Index := Scalar.indexCast v377
  let c0_150 : Index := 0#32
  ![v379.toNat, 0]

def k0_off175 (v1 : BitVec 32) (arg16 : BitVec 32) (v115 : BitVec 32) (k0_t12 : Fin (k0_t12_loop v1 arg16 v115).trips) (c8_i32_148 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v374 : BitVec 32 := Scalar.addi v157 c8_i32_148
  let v388 : Index := Scalar.indexCast v374
  ![v388.toNat]
def k0_off176 (v376 : BitVec 32) : Fin 2 → Nat :=
  let c17_i32_153 : BitVec 32 := 17#32
  let v393 : BitVec 32 := Scalar.shrui v376 c17_i32_153
  let c8191_i32_154 : BitVec 32 := 8191#32
  let v394 : BitVec 32 := Scalar.andi v393 c8191_i32_154
  let v397 : Index := Scalar.indexCast v394
  let c0_155 : Index := 0#32
  ![v397.toNat, 0]

def k0_chk29 (v376 : BitVec 32) : Prop :=
  (∀ a, (k0_off174 v376) a + S8x128.size a ≤ S114912x128.size a) ∧
  (∀ a, S28x128.size a = 0 ∨ (k0_off176 v376) a + (![8, 1] : Fin 2 → Nat) a * (S28x128.size a - 1) < S7392x128.size a)
theorem k0_off174_inb : ∀ (v376 : BitVec 32) (k0_hw29 : k0_chk29 v376), ∀ a, (k0_off174 v376) a + S8x128.size a ≤ S114912x128.size a := fun v376 k0_hw29 => k0_hw29.1
theorem k0_off176_inb : ∀ (v376 : BitVec 32) (k0_hw29 : k0_chk29 v376), ∀ a, S28x128.size a = 0 ∨ (k0_off176 v376) a + (![8, 1] : Fin 2 → Nat) a * (S28x128.size a - 1) < S7392x128.size a := fun v376 k0_hw29 => k0_hw29.2

def k0_off177 (v403 : BitVec 32) : Fin 2 → Nat :=
  let c131071_i32_156 : BitVec 32 := 131071#32
  let v404 : BitVec 32 := Scalar.andi v403 c131071_i32_156
  let v406 : Index := Scalar.indexCast v404
  let c0_157 : Index := 0#32
  ![v406.toNat, 0]

def k0_off178 (v1 : BitVec 32) (arg16 : BitVec 32) (v115 : BitVec 32) (k0_t12 : Fin (k0_t12_loop v1 arg16 v115).trips) (c9_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v401 : BitVec 32 := Scalar.addi v157 c9_i32
  let v415 : Index := Scalar.indexCast v401
  ![v415.toNat]
def k0_off179 (v403 : BitVec 32) : Fin 2 → Nat :=
  let c17_i32_160 : BitVec 32 := 17#32
  let v420 : BitVec 32 := Scalar.shrui v403 c17_i32_160
  let c8191_i32_161 : BitVec 32 := 8191#32
  let v421 : BitVec 32 := Scalar.andi v420 c8191_i32_161
  let v424 : Index := Scalar.indexCast v421
  let c0_162 : Index := 0#32
  ![v424.toNat, 0]

def k0_chk30 (v403 : BitVec 32) : Prop :=
  (∀ a, (k0_off177 v403) a + S8x128.size a ≤ S114912x128.size a) ∧
  (∀ a, S28x128.size a = 0 ∨ (k0_off179 v403) a + (![8, 1] : Fin 2 → Nat) a * (S28x128.size a - 1) < S7392x128.size a)
theorem k0_off177_inb : ∀ (v403 : BitVec 32) (k0_hw30 : k0_chk30 v403), ∀ a, (k0_off177 v403) a + S8x128.size a ≤ S114912x128.size a := fun v403 k0_hw30 => k0_hw30.1
theorem k0_off179_inb : ∀ (v403 : BitVec 32) (k0_hw30 : k0_chk30 v403), ∀ a, S28x128.size a = 0 ∨ (k0_off179 v403) a + (![8, 1] : Fin 2 → Nat) a * (S28x128.size a - 1) < S7392x128.size a := fun v403 k0_hw30 => k0_hw30.2

def k0_off180 (v430 : BitVec 32) : Fin 2 → Nat :=
  let c131071_i32_163 : BitVec 32 := 131071#32
  let v431 : BitVec 32 := Scalar.andi v430 c131071_i32_163
  let v433 : Index := Scalar.indexCast v431
  let c0_164 : Index := 0#32
  ![v433.toNat, 0]

def k0_off181 (v1 : BitVec 32) (arg16 : BitVec 32) (v115 : BitVec 32) (k0_t12 : Fin (k0_t12_loop v1 arg16 v115).trips) (c10_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v428 : BitVec 32 := Scalar.addi v157 c10_i32
  let v442 : Index := Scalar.indexCast v428
  ![v442.toNat]
def k0_off182 (v430 : BitVec 32) : Fin 2 → Nat :=
  let c17_i32_167 : BitVec 32 := 17#32
  let v447 : BitVec 32 := Scalar.shrui v430 c17_i32_167
  let c8191_i32_168 : BitVec 32 := 8191#32
  let v448 : BitVec 32 := Scalar.andi v447 c8191_i32_168
  let v451 : Index := Scalar.indexCast v448
  let c0_169 : Index := 0#32
  ![v451.toNat, 0]

def k0_chk31 (v430 : BitVec 32) : Prop :=
  (∀ a, (k0_off180 v430) a + S8x128.size a ≤ S114912x128.size a) ∧
  (∀ a, S28x128.size a = 0 ∨ (k0_off182 v430) a + (![8, 1] : Fin 2 → Nat) a * (S28x128.size a - 1) < S7392x128.size a)
theorem k0_off180_inb : ∀ (v430 : BitVec 32) (k0_hw31 : k0_chk31 v430), ∀ a, (k0_off180 v430) a + S8x128.size a ≤ S114912x128.size a := fun v430 k0_hw31 => k0_hw31.1
theorem k0_off182_inb : ∀ (v430 : BitVec 32) (k0_hw31 : k0_chk31 v430), ∀ a, S28x128.size a = 0 ∨ (k0_off182 v430) a + (![8, 1] : Fin 2 → Nat) a * (S28x128.size a - 1) < S7392x128.size a := fun v430 k0_hw31 => k0_hw31.2

def k0_off183 (v457 : BitVec 32) : Fin 2 → Nat :=
  let c131071_i32_170 : BitVec 32 := 131071#32
  let v458 : BitVec 32 := Scalar.andi v457 c131071_i32_170
  let v460 : Index := Scalar.indexCast v458
  let c0_171 : Index := 0#32
  ![v460.toNat, 0]

def k0_off184 (v1 : BitVec 32) (arg16 : BitVec 32) (v115 : BitVec 32) (k0_t12 : Fin (k0_t12_loop v1 arg16 v115).trips) (c11_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v455 : BitVec 32 := Scalar.addi v157 c11_i32
  let v469 : Index := Scalar.indexCast v455
  ![v469.toNat]
def k0_off185 (v457 : BitVec 32) : Fin 2 → Nat :=
  let c17_i32_174 : BitVec 32 := 17#32
  let v474 : BitVec 32 := Scalar.shrui v457 c17_i32_174
  let c8191_i32_175 : BitVec 32 := 8191#32
  let v475 : BitVec 32 := Scalar.andi v474 c8191_i32_175
  let v478 : Index := Scalar.indexCast v475
  let c0_176 : Index := 0#32
  ![v478.toNat, 0]

def k0_chk32 (v457 : BitVec 32) : Prop :=
  (∀ a, (k0_off183 v457) a + S8x128.size a ≤ S114912x128.size a) ∧
  (∀ a, S28x128.size a = 0 ∨ (k0_off185 v457) a + (![8, 1] : Fin 2 → Nat) a * (S28x128.size a - 1) < S7392x128.size a)
theorem k0_off183_inb : ∀ (v457 : BitVec 32) (k0_hw32 : k0_chk32 v457), ∀ a, (k0_off183 v457) a + S8x128.size a ≤ S114912x128.size a := fun v457 k0_hw32 => k0_hw32.1
theorem k0_off185_inb : ∀ (v457 : BitVec 32) (k0_hw32 : k0_chk32 v457), ∀ a, S28x128.size a = 0 ∨ (k0_off185 v457) a + (![8, 1] : Fin 2 → Nat) a * (S28x128.size a - 1) < S7392x128.size a := fun v457 k0_hw32 => k0_hw32.2

def k0_off186 (v484 : BitVec 32) : Fin 2 → Nat :=
  let c131071_i32_177 : BitVec 32 := 131071#32
  let v485 : BitVec 32 := Scalar.andi v484 c131071_i32_177
  let v487 : Index := Scalar.indexCast v485
  let c0_178 : Index := 0#32
  ![v487.toNat, 0]

def k0_off187 (v1 : BitVec 32) (arg16 : BitVec 32) (v115 : BitVec 32) (k0_t12 : Fin (k0_t12_loop v1 arg16 v115).trips) (c12_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v482 : BitVec 32 := Scalar.addi v157 c12_i32
  let v496 : Index := Scalar.indexCast v482
  ![v496.toNat]
def k0_off188 (v484 : BitVec 32) : Fin 2 → Nat :=
  let c17_i32_181 : BitVec 32 := 17#32
  let v501 : BitVec 32 := Scalar.shrui v484 c17_i32_181
  let c8191_i32_182 : BitVec 32 := 8191#32
  let v502 : BitVec 32 := Scalar.andi v501 c8191_i32_182
  let v505 : Index := Scalar.indexCast v502
  let c0_183 : Index := 0#32
  ![v505.toNat, 0]

def k0_chk33 (v484 : BitVec 32) : Prop :=
  (∀ a, (k0_off186 v484) a + S8x128.size a ≤ S114912x128.size a) ∧
  (∀ a, S28x128.size a = 0 ∨ (k0_off188 v484) a + (![8, 1] : Fin 2 → Nat) a * (S28x128.size a - 1) < S7392x128.size a)
theorem k0_off186_inb : ∀ (v484 : BitVec 32) (k0_hw33 : k0_chk33 v484), ∀ a, (k0_off186 v484) a + S8x128.size a ≤ S114912x128.size a := fun v484 k0_hw33 => k0_hw33.1
theorem k0_off188_inb : ∀ (v484 : BitVec 32) (k0_hw33 : k0_chk33 v484), ∀ a, S28x128.size a = 0 ∨ (k0_off188 v484) a + (![8, 1] : Fin 2 → Nat) a * (S28x128.size a - 1) < S7392x128.size a := fun v484 k0_hw33 => k0_hw33.2

def k0_off189 (v511 : BitVec 32) : Fin 2 → Nat :=
  let c131071_i32_184 : BitVec 32 := 131071#32
  let v512 : BitVec 32 := Scalar.andi v511 c131071_i32_184
  let v514 : Index := Scalar.indexCast v512
  let c0_185 : Index := 0#32
  ![v514.toNat, 0]

def k0_off190 (v1 : BitVec 32) (arg16 : BitVec 32) (v115 : BitVec 32) (k0_t12 : Fin (k0_t12_loop v1 arg16 v115).trips) (c13_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v509 : BitVec 32 := Scalar.addi v157 c13_i32
  let v523 : Index := Scalar.indexCast v509
  ![v523.toNat]
def k0_off191 (v511 : BitVec 32) : Fin 2 → Nat :=
  let c17_i32_188 : BitVec 32 := 17#32
  let v528 : BitVec 32 := Scalar.shrui v511 c17_i32_188
  let c8191_i32_189 : BitVec 32 := 8191#32
  let v529 : BitVec 32 := Scalar.andi v528 c8191_i32_189
  let v532 : Index := Scalar.indexCast v529
  let c0_190 : Index := 0#32
  ![v532.toNat, 0]

def k0_chk34 (v511 : BitVec 32) : Prop :=
  (∀ a, (k0_off189 v511) a + S8x128.size a ≤ S114912x128.size a) ∧
  (∀ a, S28x128.size a = 0 ∨ (k0_off191 v511) a + (![8, 1] : Fin 2 → Nat) a * (S28x128.size a - 1) < S7392x128.size a)
theorem k0_off189_inb : ∀ (v511 : BitVec 32) (k0_hw34 : k0_chk34 v511), ∀ a, (k0_off189 v511) a + S8x128.size a ≤ S114912x128.size a := fun v511 k0_hw34 => k0_hw34.1
theorem k0_off191_inb : ∀ (v511 : BitVec 32) (k0_hw34 : k0_chk34 v511), ∀ a, S28x128.size a = 0 ∨ (k0_off191 v511) a + (![8, 1] : Fin 2 → Nat) a * (S28x128.size a - 1) < S7392x128.size a := fun v511 k0_hw34 => k0_hw34.2

def k0_off192 (v538 : BitVec 32) : Fin 2 → Nat :=
  let c131071_i32_191 : BitVec 32 := 131071#32
  let v539 : BitVec 32 := Scalar.andi v538 c131071_i32_191
  let v541 : Index := Scalar.indexCast v539
  let c0_192 : Index := 0#32
  ![v541.toNat, 0]

def k0_off193 (v1 : BitVec 32) (arg16 : BitVec 32) (v115 : BitVec 32) (k0_t12 : Fin (k0_t12_loop v1 arg16 v115).trips) (c14_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let v536 : BitVec 32 := Scalar.addi v157 c14_i32
  let v550 : Index := Scalar.indexCast v536
  ![v550.toNat]
def k0_off194 (v538 : BitVec 32) : Fin 2 → Nat :=
  let c17_i32_195 : BitVec 32 := 17#32
  let v555 : BitVec 32 := Scalar.shrui v538 c17_i32_195
  let c8191_i32_196 : BitVec 32 := 8191#32
  let v556 : BitVec 32 := Scalar.andi v555 c8191_i32_196
  let v559 : Index := Scalar.indexCast v556
  let c0_197 : Index := 0#32
  ![v559.toNat, 0]

def k0_chk35 (v538 : BitVec 32) : Prop :=
  (∀ a, (k0_off192 v538) a + S8x128.size a ≤ S114912x128.size a) ∧
  (∀ a, S28x128.size a = 0 ∨ (k0_off194 v538) a + (![8, 1] : Fin 2 → Nat) a * (S28x128.size a - 1) < S7392x128.size a)
theorem k0_off192_inb : ∀ (v538 : BitVec 32) (k0_hw35 : k0_chk35 v538), ∀ a, (k0_off192 v538) a + S8x128.size a ≤ S114912x128.size a := fun v538 k0_hw35 => k0_hw35.1
theorem k0_off194_inb : ∀ (v538 : BitVec 32) (k0_hw35 : k0_chk35 v538), ∀ a, S28x128.size a = 0 ∨ (k0_off194 v538) a + (![8, 1] : Fin 2 → Nat) a * (S28x128.size a - 1) < S7392x128.size a := fun v538 k0_hw35 => k0_hw35.2

def k0_off195 (v565 : BitVec 32) : Fin 2 → Nat :=
  let c131071_i32_198 : BitVec 32 := 131071#32
  let v566 : BitVec 32 := Scalar.andi v565 c131071_i32_198
  let v568 : Index := Scalar.indexCast v566
  let c0_199 : Index := 0#32
  ![v568.toNat, 0]

def k0_off196 (v1 : BitVec 32) (arg16 : BitVec 32) (v115 : BitVec 32) (k0_t12 : Fin (k0_t12_loop v1 arg16 v115).trips) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t12
  let c16_i32_88 : BitVec 32 := 16#32
  let v156 : BitVec 32 := Scalar.muli arg18 c16_i32_88
  let v157 : BitVec 32 := Scalar.addi v1 v156
  let c15_i32 : BitVec 32 := 15#32
  let v563 : BitVec 32 := Scalar.addi v157 c15_i32
  let v577 : Index := Scalar.indexCast v563
  ![v577.toNat]

def k0_chk4_0 (v1 : BitVec 32) (arg16 : BitVec 32) (v115 : BitVec 32) : Prop :=
  ((k0_t11_loop v1 arg16 v115).OK) ∧
  (∀ k0_t11 : Fin (k0_t11_loop v1 arg16 v115).trips, ∀ a, (k0_off100 v1 arg16 v115 k0_t11) a + S1.size a ≤ S17408.size a) ∧
  (∀ k0_t11 : Fin (k0_t11_loop v1 arg16 v115).trips, ∀ (r : Fin 2), ∀ a, (k0_off102 v1 arg16 v115 k0_t11 (BitVec.ofNat 32 r.val)) a + S1.size a ≤ S17408.size a) ∧
  (∀ k0_t11 : Fin (k0_t11_loop v1 arg16 v115).trips, ∀ (r : Fin 2), ∀ a, (k0_off105 v1 arg16 v115 k0_t11 (BitVec.ofNat 32 (1 + r.val))) a + S1.size a ≤ S17408.size a) ∧
  (∀ k0_t11 : Fin (k0_t11_loop v1 arg16 v115).trips, ∀ (r : Fin 2), ∀ a, (k0_off108 v1 arg16 v115 k0_t11 (BitVec.ofNat 32 (2 + r.val))) a + S1.size a ≤ S17408.size a) ∧
  (∀ k0_t11 : Fin (k0_t11_loop v1 arg16 v115).trips, ∀ (r : Fin 2), ∀ a, (k0_off111 v1 arg16 v115 k0_t11 (BitVec.ofNat 32 (3 + r.val))) a + S1.size a ≤ S17408.size a) ∧
  (∀ k0_t11 : Fin (k0_t11_loop v1 arg16 v115).trips, ∀ (r : Fin 2), ∀ a, (k0_off114 v1 arg16 v115 k0_t11 (BitVec.ofNat 32 (4 + r.val))) a + S1.size a ≤ S17408.size a) ∧
  (∀ k0_t11 : Fin (k0_t11_loop v1 arg16 v115).trips, ∀ (r : Fin 2), ∀ a, (k0_off117 v1 arg16 v115 k0_t11 (BitVec.ofNat 32 (5 + r.val))) a + S1.size a ≤ S17408.size a) ∧
  (∀ k0_t11 : Fin (k0_t11_loop v1 arg16 v115).trips, ∀ (r : Fin 2), ∀ a, (k0_off120 v1 arg16 v115 k0_t11 (BitVec.ofNat 32 (6 + r.val))) a + S1.size a ≤ S17408.size a) ∧
  (∀ k0_t11 : Fin (k0_t11_loop v1 arg16 v115).trips, ∀ (r : Fin 2), ∀ a, (k0_off123 v1 arg16 v115 k0_t11 (BitVec.ofNat 32 (7 + r.val))) a + S1.size a ≤ S17408.size a) ∧
  (∀ k0_t11 : Fin (k0_t11_loop v1 arg16 v115).trips, ∀ (r : Fin 2), ∀ a, (k0_off126 v1 arg16 v115 k0_t11 (BitVec.ofNat 32 (8 + r.val))) a + S1.size a ≤ S17408.size a) ∧
  (∀ k0_t11 : Fin (k0_t11_loop v1 arg16 v115).trips, ∀ (r : Fin 2), ∀ a, (k0_off129 v1 arg16 v115 k0_t11 (BitVec.ofNat 32 (9 + r.val))) a + S1.size a ≤ S17408.size a) ∧
  (∀ k0_t11 : Fin (k0_t11_loop v1 arg16 v115).trips, ∀ (r : Fin 2), ∀ a, (k0_off132 v1 arg16 v115 k0_t11 (BitVec.ofNat 32 (10 + r.val))) a + S1.size a ≤ S17408.size a) ∧
  (∀ k0_t11 : Fin (k0_t11_loop v1 arg16 v115).trips, ∀ (r : Fin 2), ∀ a, (k0_off135 v1 arg16 v115 k0_t11 (BitVec.ofNat 32 (11 + r.val))) a + S1.size a ≤ S17408.size a) ∧
  (∀ k0_t11 : Fin (k0_t11_loop v1 arg16 v115).trips, ∀ (r : Fin 2), ∀ a, (k0_off138 v1 arg16 v115 k0_t11 (BitVec.ofNat 32 (12 + r.val))) a + S1.size a ≤ S17408.size a) ∧
  (∀ k0_t11 : Fin (k0_t11_loop v1 arg16 v115).trips, ∀ (r : Fin 2), ∀ a, (k0_off141 v1 arg16 v115 k0_t11 (BitVec.ofNat 32 (13 + r.val))) a + S1.size a ≤ S17408.size a) ∧
  (∀ k0_t11 : Fin (k0_t11_loop v1 arg16 v115).trips, ∀ (r : Fin 2), ∀ a, (k0_off144 v1 arg16 v115 k0_t11 (BitVec.ofNat 32 (14 + r.val))) a + S1.size a ≤ S17408.size a) ∧
  (∀ k0_t11 : Fin (k0_t11_loop v1 arg16 v115).trips, ∀ a, (k0_off147 v1 arg16 v115 k0_t11) a + S1.size a ≤ S17408.size a) ∧
  ((k0_t12_loop v1 arg16 v115).OK) ∧
  (∀ k0_t12 : Fin (k0_t12_loop v1 arg16 v115).trips, ∀ a, (k0_off149 v1 arg16 v115 k0_t12) a + S1.size a ≤ S17408.size a) ∧
  (∀ k0_t12 : Fin (k0_t12_loop v1 arg16 v115).trips, ∀ (r : Fin 2), ∀ a, (k0_off151 v1 arg16 v115 k0_t12 (BitVec.ofNat 32 r.val)) a + S1.size a ≤ S17408.size a) ∧
  (∀ k0_t12 : Fin (k0_t12_loop v1 arg16 v115).trips, ∀ (r : Fin 2), ∀ a, (k0_off154 v1 arg16 v115 k0_t12 (BitVec.ofNat 32 (1 + r.val))) a + S1.size a ≤ S17408.size a) ∧
  (∀ k0_t12 : Fin (k0_t12_loop v1 arg16 v115).trips, ∀ (r : Fin 2), ∀ a, (k0_off157 v1 arg16 v115 k0_t12 (BitVec.ofNat 32 (2 + r.val))) a + S1.size a ≤ S17408.size a) ∧
  (∀ k0_t12 : Fin (k0_t12_loop v1 arg16 v115).trips, ∀ (r : Fin 2), ∀ a, (k0_off160 v1 arg16 v115 k0_t12 (BitVec.ofNat 32 (3 + r.val))) a + S1.size a ≤ S17408.size a) ∧
  (∀ k0_t12 : Fin (k0_t12_loop v1 arg16 v115).trips, ∀ (r : Fin 2), ∀ a, (k0_off163 v1 arg16 v115 k0_t12 (BitVec.ofNat 32 (4 + r.val))) a + S1.size a ≤ S17408.size a) ∧
  (∀ k0_t12 : Fin (k0_t12_loop v1 arg16 v115).trips, ∀ (r : Fin 2), ∀ a, (k0_off166 v1 arg16 v115 k0_t12 (BitVec.ofNat 32 (5 + r.val))) a + S1.size a ≤ S17408.size a) ∧
  (∀ k0_t12 : Fin (k0_t12_loop v1 arg16 v115).trips, ∀ (r : Fin 2), ∀ a, (k0_off169 v1 arg16 v115 k0_t12 (BitVec.ofNat 32 (6 + r.val))) a + S1.size a ≤ S17408.size a) ∧
  (∀ k0_t12 : Fin (k0_t12_loop v1 arg16 v115).trips, ∀ (r : Fin 2), ∀ a, (k0_off172 v1 arg16 v115 k0_t12 (BitVec.ofNat 32 (7 + r.val))) a + S1.size a ≤ S17408.size a) ∧
  (∀ k0_t12 : Fin (k0_t12_loop v1 arg16 v115).trips, ∀ (r : Fin 2), ∀ a, (k0_off175 v1 arg16 v115 k0_t12 (BitVec.ofNat 32 (8 + r.val))) a + S1.size a ≤ S17408.size a) ∧
  (∀ k0_t12 : Fin (k0_t12_loop v1 arg16 v115).trips, ∀ (r : Fin 2), ∀ a, (k0_off178 v1 arg16 v115 k0_t12 (BitVec.ofNat 32 (9 + r.val))) a + S1.size a ≤ S17408.size a) ∧
  (∀ k0_t12 : Fin (k0_t12_loop v1 arg16 v115).trips, ∀ (r : Fin 2), ∀ a, (k0_off181 v1 arg16 v115 k0_t12 (BitVec.ofNat 32 (10 + r.val))) a + S1.size a ≤ S17408.size a) ∧
  (∀ k0_t12 : Fin (k0_t12_loop v1 arg16 v115).trips, ∀ (r : Fin 2), ∀ a, (k0_off184 v1 arg16 v115 k0_t12 (BitVec.ofNat 32 (11 + r.val))) a + S1.size a ≤ S17408.size a)
def k0_chk4_1 (v1 : BitVec 32) (arg16 : BitVec 32) (v115 : BitVec 32) : Prop :=
  (∀ k0_t12 : Fin (k0_t12_loop v1 arg16 v115).trips, ∀ (r : Fin 2), ∀ a, (k0_off187 v1 arg16 v115 k0_t12 (BitVec.ofNat 32 (12 + r.val))) a + S1.size a ≤ S17408.size a) ∧
  (∀ k0_t12 : Fin (k0_t12_loop v1 arg16 v115).trips, ∀ (r : Fin 2), ∀ a, (k0_off190 v1 arg16 v115 k0_t12 (BitVec.ofNat 32 (13 + r.val))) a + S1.size a ≤ S17408.size a) ∧
  (∀ k0_t12 : Fin (k0_t12_loop v1 arg16 v115).trips, ∀ (r : Fin 2), ∀ a, (k0_off193 v1 arg16 v115 k0_t12 (BitVec.ofNat 32 (14 + r.val))) a + S1.size a ≤ S17408.size a) ∧
  (∀ k0_t12 : Fin (k0_t12_loop v1 arg16 v115).trips, ∀ a, (k0_off196 v1 arg16 v115 k0_t12) a + S1.size a ≤ S17408.size a)
def k0_chk4 (v1 : BitVec 32) (arg16 : BitVec 32) (v115 : BitVec 32) : Prop :=
  k0_chk4_0 v1 arg16 v115 ∧
  k0_chk4_1 v1 arg16 v115
theorem k0_t11_ok : ∀ (v1 : BitVec 32) (arg16 : BitVec 32) (v115 : BitVec 32) (k0_hw4 : k0_chk4 v1 arg16 v115), (k0_t11_loop v1 arg16 v115).OK := fun v1 arg16 v115 k0_hw4 => k0_hw4.1.1
theorem k0_off100_inb : ∀ (v1 : BitVec 32) (arg16 : BitVec 32) (v115 : BitVec 32) (k0_hw4 : k0_chk4 v1 arg16 v115) (k0_t11 : Fin (k0_t11_loop v1 arg16 v115).trips), ∀ a, (k0_off100 v1 arg16 v115 k0_t11) a + S1.size a ≤ S17408.size a := fun v1 arg16 v115 k0_hw4 k0_t11 => k0_hw4.1.2.1 k0_t11
theorem k0_off102_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off102 v1 arg16 v115 k0_t11 (BitVec.ofNat 32 r.val)) a + S1.size a ≤ S17408.size a := fun v1 arg16 v115 k0_hw4 k0_t11 r => k0_hw4.1.2.2.1 k0_t11 r
theorem k0_off105_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off105 v1 arg16 v115 k0_t11 (BitVec.ofNat 32 (1 + r.val))) a + S1.size a ≤ S17408.size a := fun v1 arg16 v115 k0_hw4 k0_t11 r => k0_hw4.1.2.2.2.1 k0_t11 r
theorem k0_off108_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off108 v1 arg16 v115 k0_t11 (BitVec.ofNat 32 (2 + r.val))) a + S1.size a ≤ S17408.size a := fun v1 arg16 v115 k0_hw4 k0_t11 r => k0_hw4.1.2.2.2.2.1 k0_t11 r
theorem k0_off111_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off111 v1 arg16 v115 k0_t11 (BitVec.ofNat 32 (3 + r.val))) a + S1.size a ≤ S17408.size a := fun v1 arg16 v115 k0_hw4 k0_t11 r => k0_hw4.1.2.2.2.2.2.1 k0_t11 r
theorem k0_off114_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off114 v1 arg16 v115 k0_t11 (BitVec.ofNat 32 (4 + r.val))) a + S1.size a ≤ S17408.size a := fun v1 arg16 v115 k0_hw4 k0_t11 r => k0_hw4.1.2.2.2.2.2.2.1 k0_t11 r
theorem k0_off117_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off117 v1 arg16 v115 k0_t11 (BitVec.ofNat 32 (5 + r.val))) a + S1.size a ≤ S17408.size a := fun v1 arg16 v115 k0_hw4 k0_t11 r => k0_hw4.1.2.2.2.2.2.2.2.1 k0_t11 r
theorem k0_off120_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off120 v1 arg16 v115 k0_t11 (BitVec.ofNat 32 (6 + r.val))) a + S1.size a ≤ S17408.size a := fun v1 arg16 v115 k0_hw4 k0_t11 r => k0_hw4.1.2.2.2.2.2.2.2.2.1 k0_t11 r
theorem k0_off123_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off123 v1 arg16 v115 k0_t11 (BitVec.ofNat 32 (7 + r.val))) a + S1.size a ≤ S17408.size a := fun v1 arg16 v115 k0_hw4 k0_t11 r => k0_hw4.1.2.2.2.2.2.2.2.2.2.1 k0_t11 r
theorem k0_off126_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off126 v1 arg16 v115 k0_t11 (BitVec.ofNat 32 (8 + r.val))) a + S1.size a ≤ S17408.size a := fun v1 arg16 v115 k0_hw4 k0_t11 r => k0_hw4.1.2.2.2.2.2.2.2.2.2.2.1 k0_t11 r
theorem k0_off129_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off129 v1 arg16 v115 k0_t11 (BitVec.ofNat 32 (9 + r.val))) a + S1.size a ≤ S17408.size a := fun v1 arg16 v115 k0_hw4 k0_t11 r => k0_hw4.1.2.2.2.2.2.2.2.2.2.2.2.1 k0_t11 r
theorem k0_off132_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off132 v1 arg16 v115 k0_t11 (BitVec.ofNat 32 (10 + r.val))) a + S1.size a ≤ S17408.size a := fun v1 arg16 v115 k0_hw4 k0_t11 r => k0_hw4.1.2.2.2.2.2.2.2.2.2.2.2.2.1 k0_t11 r
theorem k0_off135_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off135 v1 arg16 v115 k0_t11 (BitVec.ofNat 32 (11 + r.val))) a + S1.size a ≤ S17408.size a := fun v1 arg16 v115 k0_hw4 k0_t11 r => k0_hw4.1.2.2.2.2.2.2.2.2.2.2.2.2.2.1 k0_t11 r
theorem k0_off138_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off138 v1 arg16 v115 k0_t11 (BitVec.ofNat 32 (12 + r.val))) a + S1.size a ≤ S17408.size a := fun v1 arg16 v115 k0_hw4 k0_t11 r => k0_hw4.1.2.2.2.2.2.2.2.2.2.2.2.2.2.2.1 k0_t11 r
theorem k0_off141_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off141 v1 arg16 v115 k0_t11 (BitVec.ofNat 32 (13 + r.val))) a + S1.size a ≤ S17408.size a := fun v1 arg16 v115 k0_hw4 k0_t11 r => k0_hw4.1.2.2.2.2.2.2.2.2.2.2.2.2.2.2.2.1 k0_t11 r
theorem k0_off144_inb : ∀ (v1 : BitVec 32) (arg16 : BitVec 32) (v115 : BitVec 32) (k0_hw4 : k0_chk4 v1 arg16 v115) (k0_t11 : Fin (k0_t11_loop v1 arg16 v115).trips), ∀ (r : Fin 2), ∀ a, (k0_off144 v1 arg16 v115 k0_t11 (BitVec.ofNat 32 (14 + r.val))) a + S1.size a ≤ S17408.size a := fun v1 arg16 v115 k0_hw4 k0_t11 r => k0_hw4.1.2.2.2.2.2.2.2.2.2.2.2.2.2.2.2.2.1 k0_t11 r
theorem k0_off147_inb : ∀ (v1 : BitVec 32) (arg16 : BitVec 32) (v115 : BitVec 32) (k0_hw4 : k0_chk4 v1 arg16 v115) (k0_t11 : Fin (k0_t11_loop v1 arg16 v115).trips), ∀ a, (k0_off147 v1 arg16 v115 k0_t11) a + S1.size a ≤ S17408.size a := fun v1 arg16 v115 k0_hw4 k0_t11 => k0_hw4.1.2.2.2.2.2.2.2.2.2.2.2.2.2.2.2.2.2.1 k0_t11
theorem k0_t12_ok : ∀ (v1 : BitVec 32) (arg16 : BitVec 32) (v115 : BitVec 32) (k0_hw4 : k0_chk4 v1 arg16 v115), (k0_t12_loop v1 arg16 v115).OK := fun v1 arg16 v115 k0_hw4 => k0_hw4.1.2.2.2.2.2.2.2.2.2.2.2.2.2.2.2.2.2.2.1
theorem k0_off149_inb : ∀ (v1 : BitVec 32) (arg16 : BitVec 32) (v115 : BitVec 32) (k0_hw4 : k0_chk4 v1 arg16 v115) (k0_t12 : Fin (k0_t12_loop v1 arg16 v115).trips), ∀ a, (k0_off149 v1 arg16 v115 k0_t12) a + S1.size a ≤ S17408.size a := fun v1 arg16 v115 k0_hw4 k0_t12 => k0_hw4.1.2.2.2.2.2.2.2.2.2.2.2.2.2.2.2.2.2.2.2.1 k0_t12
theorem k0_off151_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off151 v1 arg16 v115 k0_t12 (BitVec.ofNat 32 r.val)) a + S1.size a ≤ S17408.size a := fun v1 arg16 v115 k0_hw4 k0_t12 r => k0_hw4.1.2.2.2.2.2.2.2.2.2.2.2.2.2.2.2.2.2.2.2.2.1 k0_t12 r
theorem k0_off154_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off154 v1 arg16 v115 k0_t12 (BitVec.ofNat 32 (1 + r.val))) a + S1.size a ≤ S17408.size a := fun v1 arg16 v115 k0_hw4 k0_t12 r => k0_hw4.1.2.2.2.2.2.2.2.2.2.2.2.2.2.2.2.2.2.2.2.2.2.1 k0_t12 r
theorem k0_off157_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off157 v1 arg16 v115 k0_t12 (BitVec.ofNat 32 (2 + r.val))) a + S1.size a ≤ S17408.size a := fun v1 arg16 v115 k0_hw4 k0_t12 r => k0_hw4.1.2.2.2.2.2.2.2.2.2.2.2.2.2.2.2.2.2.2.2.2.2.2.1 k0_t12 r
theorem k0_off160_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off160 v1 arg16 v115 k0_t12 (BitVec.ofNat 32 (3 + r.val))) a + S1.size a ≤ S17408.size a := fun v1 arg16 v115 k0_hw4 k0_t12 r => k0_hw4.1.2.2.2.2.2.2.2.2.2.2.2.2.2.2.2.2.2.2.2.2.2.2.2.1 k0_t12 r
theorem k0_off163_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off163 v1 arg16 v115 k0_t12 (BitVec.ofNat 32 (4 + r.val))) a + S1.size a ≤ S17408.size a := fun v1 arg16 v115 k0_hw4 k0_t12 r => k0_hw4.1.2.2.2.2.2.2.2.2.2.2.2.2.2.2.2.2.2.2.2.2.2.2.2.2.1 k0_t12 r
theorem k0_off166_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off166 v1 arg16 v115 k0_t12 (BitVec.ofNat 32 (5 + r.val))) a + S1.size a ≤ S17408.size a := fun v1 arg16 v115 k0_hw4 k0_t12 r => k0_hw4.1.2.2.2.2.2.2.2.2.2.2.2.2.2.2.2.2.2.2.2.2.2.2.2.2.2.1 k0_t12 r
theorem k0_off169_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off169 v1 arg16 v115 k0_t12 (BitVec.ofNat 32 (6 + r.val))) a + S1.size a ≤ S17408.size a := fun v1 arg16 v115 k0_hw4 k0_t12 r => k0_hw4.1.2.2.2.2.2.2.2.2.2.2.2.2.2.2.2.2.2.2.2.2.2.2.2.2.2.2.1 k0_t12 r
theorem k0_off172_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off172 v1 arg16 v115 k0_t12 (BitVec.ofNat 32 (7 + r.val))) a + S1.size a ≤ S17408.size a := fun v1 arg16 v115 k0_hw4 k0_t12 r => k0_hw4.1.2.2.2.2.2.2.2.2.2.2.2.2.2.2.2.2.2.2.2.2.2.2.2.2.2.2.2.1 k0_t12 r
theorem k0_off175_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off175 v1 arg16 v115 k0_t12 (BitVec.ofNat 32 (8 + r.val))) a + S1.size a ≤ S17408.size a := fun v1 arg16 v115 k0_hw4 k0_t12 r => k0_hw4.1.2.2.2.2.2.2.2.2.2.2.2.2.2.2.2.2.2.2.2.2.2.2.2.2.2.2.2.2.1 k0_t12 r
theorem k0_off178_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off178 v1 arg16 v115 k0_t12 (BitVec.ofNat 32 (9 + r.val))) a + S1.size a ≤ S17408.size a := fun v1 arg16 v115 k0_hw4 k0_t12 r => k0_hw4.1.2.2.2.2.2.2.2.2.2.2.2.2.2.2.2.2.2.2.2.2.2.2.2.2.2.2.2.2.2.1 k0_t12 r
theorem k0_off181_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off181 v1 arg16 v115 k0_t12 (BitVec.ofNat 32 (10 + r.val))) a + S1.size a ≤ S17408.size a := fun v1 arg16 v115 k0_hw4 k0_t12 r => k0_hw4.1.2.2.2.2.2.2.2.2.2.2.2.2.2.2.2.2.2.2.2.2.2.2.2.2.2.2.2.2.2.2.1 k0_t12 r
theorem k0_off184_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off184 v1 arg16 v115 k0_t12 (BitVec.ofNat 32 (11 + r.val))) a + S1.size a ≤ S17408.size a := fun v1 arg16 v115 k0_hw4 k0_t12 r => k0_hw4.1.2.2.2.2.2.2.2.2.2.2.2.2.2.2.2.2.2.2.2.2.2.2.2.2.2.2.2.2.2.2.2 k0_t12 r
theorem k0_off187_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off187 v1 arg16 v115 k0_t12 (BitVec.ofNat 32 (12 + r.val))) a + S1.size a ≤ S17408.size a := fun v1 arg16 v115 k0_hw4 k0_t12 r => k0_hw4.2.1 k0_t12 r
theorem k0_off190_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off190 v1 arg16 v115 k0_t12 (BitVec.ofNat 32 (13 + r.val))) a + S1.size a ≤ S17408.size a := fun v1 arg16 v115 k0_hw4 k0_t12 r => k0_hw4.2.2.1 k0_t12 r
theorem k0_off193_inb : ∀ (v1 : BitVec 32) (arg16 : BitVec 32) (v115 : BitVec 32) (k0_hw4 : k0_chk4 v1 arg16 v115) (k0_t12 : Fin (k0_t12_loop v1 arg16 v115).trips), ∀ (r : Fin 2), ∀ a, (k0_off193 v1 arg16 v115 k0_t12 (BitVec.ofNat 32 (14 + r.val))) a + S1.size a ≤ S17408.size a := fun v1 arg16 v115 k0_hw4 k0_t12 r => k0_hw4.2.2.2.1 k0_t12 r
theorem k0_off196_inb : ∀ (v1 : BitVec 32) (arg16 : BitVec 32) (v115 : BitVec 32) (k0_hw4 : k0_chk4 v1 arg16 v115) (k0_t12 : Fin (k0_t12_loop v1 arg16 v115).trips), ∀ a, (k0_off196 v1 arg16 v115 k0_t12) a + S1.size a ≤ S17408.size a := fun v1 arg16 v115 k0_hw4 k0_t12 => k0_hw4.2.2.2.2 k0_t12

def k0_off197 (v565 : BitVec 32) : Fin 2 → Nat :=
  let c17_i32_202 : BitVec 32 := 17#32
  let v582 : BitVec 32 := Scalar.shrui v565 c17_i32_202
  let c8191_i32_203 : BitVec 32 := 8191#32
  let v583 : BitVec 32 := Scalar.andi v582 c8191_i32_203
  let v586 : Index := Scalar.indexCast v583
  let c0_204 : Index := 0#32
  ![v586.toNat, 0]

def k0_chk36 (v565 : BitVec 32) : Prop :=
  (∀ a, (k0_off195 v565) a + S8x128.size a ≤ S114912x128.size a) ∧
  (∀ a, S28x128.size a = 0 ∨ (k0_off197 v565) a + (![8, 1] : Fin 2 → Nat) a * (S28x128.size a - 1) < S7392x128.size a)
theorem k0_off195_inb : ∀ (v565 : BitVec 32) (k0_hw36 : k0_chk36 v565), ∀ a, (k0_off195 v565) a + S8x128.size a ≤ S114912x128.size a := fun v565 k0_hw36 => k0_hw36.1
theorem k0_off197_inb : ∀ (v565 : BitVec 32) (k0_hw36 : k0_chk36 v565), ∀ a, S28x128.size a = 0 ∨ (k0_off197 v565) a + (![8, 1] : Fin 2 → Nat) a * (S28x128.size a - 1) < S7392x128.size a := fun v565 k0_hw36 => k0_hw36.2

@[reducible] def k0_t13_loop (v0 : BitVec 32) : Scf.Loop 32 :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c64_i32_88 : BitVec 32 := 64#32
  let v156 : BitVec 32 := Scalar.muli v20 c64_i32_88
  let v157 : BitVec 32 := Scalar.subi v156 v0
  let c1_i32_90 : BitVec 32 := 1#32
  let v159 : BitVec 32 := Scalar.divsi v157 c1_i32_90
  let v160 : BitVec 32 := Scalar.muli v159 c1_i32_90
  let v161 : BitVec 32 := Scalar.addi v0 v160
  let c1_i32_91 : BitVec 32 := 1#32
  ⟨v0, v161, c1_i32_91⟩
def k0_cond2 (v0 : BitVec 32) (k0_t8 : Fin (k0_t8_loop v0).trips) : BitVec 1 :=
  let c0_i32_49 : BitVec 32 := 0#32
  let c1_i32_52 : BitVec 32 := 1#32
  let arg14 : BitVec 32 := Scf.iv c0_i32_49 c1_i32_52 k0_t8
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c1_i32_80 : BitVec 32 := 1#32
  let v144 : BitVec 32 := Scalar.subi v20 c1_i32_80
  let v145 : BitVec 1 := Scalar.cmpi .eq arg14 v144
  let v146 : BitVec 32 := Scalar.extui v145
  let c0_i32_81 : BitVec 32 := 0#32
  let v147 : BitVec 1 := Scalar.cmpi .ne v146 c0_i32_81
  v147

def k0_off198 (v0 : BitVec 32) (k0_t13 : Fin (k0_t13_loop v0).trips) : Fin 2 → Nat :=
  let c1_i32_91 : BitVec 32 := 1#32
  let arg18 : BitVec 32 := Scf.iv v0 c1_i32_91 k0_t13
  let c3_i32_93 : BitVec 32 := 3#32
  let v164 : BitVec 32 := Scalar.shrui arg18 c3_i32_93
  let c31_i32_94 : BitVec 32 := 31#32
  let v165 : BitVec 32 := Scalar.andi v164 c31_i32_94
  let c224_i32_95 : BitVec 32 := 224#32
  let v166 : BitVec 32 := Scalar.muli v165 c224_i32_95
  let c7_i32_96 : BitVec 32 := 7#32
  let v167 : BitVec 32 := Scalar.andi arg18 c7_i32_96
  let v168 : BitVec 32 := Scalar.addi v166 v167
  let v170 : Index := Scalar.indexCast v168
  let c0_97 : Index := 0#32
  ![v170.toNat, 0]
@[reducible] def k0_t14_loop (v0 : BitVec 32) : Scf.Loop 32 :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c64_i32_88 : BitVec 32 := 64#32
  let v156 : BitVec 32 := Scalar.muli v20 c64_i32_88
  let v157 : BitVec 32 := Scalar.subi v156 v0
  let c1_i32_90 : BitVec 32 := 1#32
  let v159 : BitVec 32 := Scalar.divsi v157 c1_i32_90
  let v160 : BitVec 32 := Scalar.muli v159 c1_i32_90
  let v161 : BitVec 32 := Scalar.addi v0 v160
  let v158 : BitVec 32 := Scalar.addi v0 v157
  let c1_i32_92 : BitVec 32 := 1#32
  ⟨v161, v158, c1_i32_92⟩
def k0_off199 (v0 : BitVec 32) (k0_t14 : Fin (k0_t14_loop v0).trips) : Fin 2 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c64_i32_88 : BitVec 32 := 64#32
  let v156 : BitVec 32 := Scalar.muli v20 c64_i32_88
  let v157 : BitVec 32 := Scalar.subi v156 v0
  let c1_i32_90 : BitVec 32 := 1#32
  let v159 : BitVec 32 := Scalar.divsi v157 c1_i32_90
  let v160 : BitVec 32 := Scalar.muli v159 c1_i32_90
  let v161 : BitVec 32 := Scalar.addi v0 v160
  let c1_i32_92 : BitVec 32 := 1#32
  let arg18 : BitVec 32 := Scf.iv v161 c1_i32_92 k0_t14
  let c3_i32_93 : BitVec 32 := 3#32
  let v164 : BitVec 32 := Scalar.shrui arg18 c3_i32_93
  let c31_i32_94 : BitVec 32 := 31#32
  let v165 : BitVec 32 := Scalar.andi v164 c31_i32_94
  let c224_i32_95 : BitVec 32 := 224#32
  let v166 : BitVec 32 := Scalar.muli v165 c224_i32_95
  let c7_i32_96 : BitVec 32 := 7#32
  let v167 : BitVec 32 := Scalar.andi arg18 c7_i32_96
  let v168 : BitVec 32 := Scalar.addi v166 v167
  let v170 : Index := Scalar.indexCast v168
  let c0_97 : Index := 0#32
  ![v170.toNat, 0]
def k0_off200 (v0 : BitVec 32) (k0_t8 : Fin (k0_t8_loop v0).trips) : Fin 1 → Nat :=
  let c0_i32_49 : BitVec 32 := 0#32
  let c1_i32_52 : BitVec 32 := 1#32
  let arg14 : BitVec 32 := Scf.iv c0_i32_49 c1_i32_52 k0_t8
  let c4_i32 : BitVec 32 := 4#32
  let v148 : BitVec 32 := Scalar.remsi arg14 c4_i32
  ![v148.toNat]
def k0_off201 (v0 : BitVec 32) (k0_t1 : Fin k0_t1_loop.trips) (k0_t8 : Fin (k0_t8_loop v0).trips) : Fin 4 → Nat :=
  let c0_i32_49 : BitVec 32 := 0#32
  let c1_i32_52 : BitVec 32 := 1#32
  let arg14 : BitVec 32 := Scf.iv c0_i32_49 c1_i32_52 k0_t8
  let c8_i32_82 : BitVec 32 := 8#32
  let v150 : BitVec 32 := Scalar.muli arg14 c8_i32_82
  let c0_i32_24 : BitVec 32 := 0#32
  let c1_i32_26 : BitVec 32 := 1#32
  let arg12 : BitVec 32 := Scf.iv c0_i32_24 c1_i32_26 k0_t1
  let c28_i32 : BitVec 32 := 28#32
  let v151 : BitVec 32 := Scalar.muli arg12 c28_i32
  let c0_i32_83 : BitVec 32 := 0#32
  let c0_i32_84 : BitVec 32 := 0#32
  ![v150.toNat, v151.toNat, 0, 0]
def k0_off202 (v0 : BitVec 32) (k0_t8 : Fin (k0_t8_loop v0).trips) : Fin 4 → Nat :=
  let c0_i32_49 : BitVec 32 := 0#32
  let c1_i32_52 : BitVec 32 := 1#32
  let arg14 : BitVec 32 := Scf.iv c0_i32_49 c1_i32_52 k0_t8
  let c4_i32 : BitVec 32 := 4#32
  let v148 : BitVec 32 := Scalar.remsi arg14 c4_i32
  let c8_i32 : BitVec 32 := 8#32
  let v149 : BitVec 32 := Scalar.muli v148 c8_i32
  let c0_i32_85 : BitVec 32 := 0#32
  let c0_i32_86 : BitVec 32 := 0#32
  let c0_i32_87 : BitVec 32 := 0#32
  ![v149.toNat, 0, 0, 0]
@[reducible] def k0_t15_loop (v0 : BitVec 32) : Scf.Loop 32 :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let v84 : BitVec 32 := Scalar.addi c0_i32_49 v83
  let c1_i32_53 : BitVec 32 := 1#32
  ⟨v87, v84, c1_i32_53⟩
@[reducible] def k0_t16_loop (v0 : BitVec 32) (arg17 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg17 v43
  let v100 : BitVec 32 := Scalar.minsi v99 v22
  let v101 : BitVec 32 := Scalar.subi v100 arg17
  let c1_i32_61 : BitVec 32 := 1#32
  let v103 : BitVec 32 := Scalar.divsi v101 c1_i32_61
  let v104 : BitVec 32 := Scalar.muli v103 c1_i32_61
  let v105 : BitVec 32 := Scalar.addi arg17 v104
  let c1_i32_62 : BitVec 32 := 1#32
  ⟨arg17, v105, c1_i32_62⟩

def k0_off203 (v0 : BitVec 32) (arg17 : BitVec 32) (k0_t16 : Fin (k0_t16_loop v0 arg17).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c1_i32_62 : BitVec 32 := 1#32
  let arg18 : BitVec 32 := Scf.iv arg17 c1_i32_62 k0_t16
  let v156 : BitVec 32 := Scalar.addi v21 arg18
  let c4_i32_88 : BitVec 32 := 4#32
  let v157 : BitVec 32 := Scalar.muli v156 c4_i32_88
  let c0_i32_89 : BitVec 32 := 0#32
  let c0_i32_90 : BitVec 32 := 0#32
  let c0_i32_91 : BitVec 32 := 0#32
  ![v157.toNat, 0, 0, 0]
@[reducible] def k0_t17_loop (v0 : BitVec 32) (arg17 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg17 v43
  let v100 : BitVec 32 := Scalar.minsi v99 v22
  let v101 : BitVec 32 := Scalar.subi v100 arg17
  let c1_i32_61 : BitVec 32 := 1#32
  let v103 : BitVec 32 := Scalar.divsi v101 c1_i32_61
  let v104 : BitVec 32 := Scalar.muli v103 c1_i32_61
  let v105 : BitVec 32 := Scalar.addi arg17 v104
  let v102 : BitVec 32 := Scalar.addi arg17 v101
  let c1_i32_63 : BitVec 32 := 1#32
  ⟨v105, v102, c1_i32_63⟩
def k0_off204 (v0 : BitVec 32) (arg17 : BitVec 32) (k0_t17 : Fin (k0_t17_loop v0 arg17).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c512_i32 : BitVec 32 := 512#32
  let v22 : BitVec 32 := Scalar.subi c512_i32 v21
  let c2_i32_6 : BitVec 32 := 2#32
  let c16_i32 : BitVec 32 := 16#32
  let v23 : BitVec 32 := Scalar.addi c16_i32 v20
  let v24 : BitVec 32 := Scalar.muli c2_i32_6 v23
  let v25 : BitVec 32 := Scalar.addi v22 v24
  let c1_i32_7 : BitVec 32 := 1#32
  let v26 : BitVec 32 := Scalar.subi v25 c1_i32_7
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c0_i32_10 : BitVec 32 := 0#32
  let v33 : BitVec 1 := Scalar.cmpi .sgt v24 c0_i32_10
  let v34 : BitVec 32 := Scalar.extui v33
  let c0_i32_11 : BitVec 32 := 0#32
  let v35 : BitVec 1 := Scalar.cmpi .slt v24 c0_i32_11
  let v36 : BitVec 32 := Scalar.extui v35
  let v37 : BitVec 32 := Scalar.subi v34 v36
  let v38 : BitVec 1 := Scalar.cmpi .ne v32 v37
  let v39 : BitVec 32 := Scalar.remsi v26 v24
  let c0_i32_12 : BitVec 32 := 0#32
  let v40 : BitVec 1 := Scalar.cmpi .ne v39 c0_i32_12
  let v41 : BitVec 1 := Scalar.andi v38 v40
  let v27 : BitVec 32 := Scalar.divsi v26 v24
  let c1_i32_13 : BitVec 32 := 1#32
  let v42 : BitVec 32 := Scalar.subi v27 c1_i32_13
  let v43 : BitVec 32 := Scalar.select v41 v42 v27
  let v99 : BitVec 32 := Scalar.addi arg17 v43
  let v100 : BitVec 32 := Scalar.minsi v99 v22
  let v101 : BitVec 32 := Scalar.subi v100 arg17
  let c1_i32_61 : BitVec 32 := 1#32
  let v103 : BitVec 32 := Scalar.divsi v101 c1_i32_61
  let v104 : BitVec 32 := Scalar.muli v103 c1_i32_61
  let v105 : BitVec 32 := Scalar.addi arg17 v104
  let c1_i32_63 : BitVec 32 := 1#32
  let arg18 : BitVec 32 := Scf.iv v105 c1_i32_63 k0_t17
  let v156 : BitVec 32 := Scalar.addi v21 arg18
  let c4_i32_88 : BitVec 32 := 4#32
  let v157 : BitVec 32 := Scalar.muli v156 c4_i32_88
  let c0_i32_89 : BitVec 32 := 0#32
  let c0_i32_90 : BitVec 32 := 0#32
  let c0_i32_91 : BitVec 32 := 0#32
  ![v157.toNat, 0, 0, 0]

def k0_chk37 (v0 : BitVec 32) (arg17 : BitVec 32) : Prop :=
  ((k0_t16_loop v0 arg17).OK) ∧
  (∀ k0_t16 : Fin (k0_t16_loop v0 arg17).trips, ∀ a, (k0_off203 v0 arg17 k0_t16) a + S4x56x8x128.size a ≤ S2048x56x8x128.size a) ∧
  ((k0_t17_loop v0 arg17).OK) ∧
  (∀ k0_t17 : Fin (k0_t17_loop v0 arg17).trips, ∀ a, (k0_off204 v0 arg17 k0_t17) a + S4x56x8x128.size a ≤ S2048x56x8x128.size a)
theorem k0_t16_ok : ∀ (v0 : BitVec 32) (arg17 : BitVec 32) (k0_hw37 : k0_chk37 v0 arg17), (k0_t16_loop v0 arg17).OK := fun v0 arg17 k0_hw37 => k0_hw37.1
theorem k0_off203_inb : ∀ (v0 : BitVec 32) (arg17 : BitVec 32) (k0_hw37 : k0_chk37 v0 arg17) (k0_t16 : Fin (k0_t16_loop v0 arg17).trips), ∀ a, (k0_off203 v0 arg17 k0_t16) a + S4x56x8x128.size a ≤ S2048x56x8x128.size a := fun v0 arg17 k0_hw37 k0_t16 => k0_hw37.2.1 k0_t16
theorem k0_t17_ok : ∀ (v0 : BitVec 32) (arg17 : BitVec 32) (k0_hw37 : k0_chk37 v0 arg17), (k0_t17_loop v0 arg17).OK := fun v0 arg17 k0_hw37 => k0_hw37.2.2.1
theorem k0_off204_inb : ∀ (v0 : BitVec 32) (arg17 : BitVec 32) (k0_hw37 : k0_chk37 v0 arg17) (k0_t17 : Fin (k0_t17_loop v0 arg17).trips), ∀ a, (k0_off204 v0 arg17 k0_t17) a + S4x56x8x128.size a ≤ S2048x56x8x128.size a := fun v0 arg17 k0_hw37 k0_t17 => k0_hw37.2.2.2 k0_t17

def k0_off205 (v0 : BitVec 32) (k0_t15 : Fin (k0_t15_loop v0).trips) : Fin 1 → Nat :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c3_i32_88 : BitVec 32 := 3#32
  let v156 : BitVec 32 := Scalar.subi arg14 c3_i32_88
  let c4_i32_89 : BitVec 32 := 4#32
  let v157 : BitVec 32 := Scalar.remsi v156 c4_i32_89
  ![v157.toNat]
def k0_cond3 (v0 : BitVec 32) (k0_t15 : Fin (k0_t15_loop v0).trips) : BitVec 1 :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c3_i32_64 : BitVec 32 := 3#32
  let v108 : BitVec 1 := Scalar.cmpi .sge arg14 c3_i32_64
  let v109 : BitVec 32 := Scalar.extui v108
  let c0_i32_65 : BitVec 32 := 0#32
  let v110 : BitVec 1 := Scalar.cmpi .ne v109 c0_i32_65
  v110

def k0_off206 (v0 : BitVec 32) (k0_t1 : Fin k0_t1_loop.trips) (k0_t15 : Fin (k0_t15_loop v0).trips) : Fin 4 → Nat :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c3_i32_88 : BitVec 32 := 3#32
  let v156 : BitVec 32 := Scalar.subi arg14 c3_i32_88
  let c8_i32_91 : BitVec 32 := 8#32
  let v159 : BitVec 32 := Scalar.muli v156 c8_i32_91
  let c0_i32_24 : BitVec 32 := 0#32
  let c1_i32_26 : BitVec 32 := 1#32
  let arg12 : BitVec 32 := Scf.iv c0_i32_24 c1_i32_26 k0_t1
  let c28_i32_92 : BitVec 32 := 28#32
  let v160 : BitVec 32 := Scalar.muli arg12 c28_i32_92
  let c0_i32_93 : BitVec 32 := 0#32
  let c0_i32_94 : BitVec 32 := 0#32
  ![v159.toNat, v160.toNat, 0, 0]
def k0_off207 (v0 : BitVec 32) (k0_t15 : Fin (k0_t15_loop v0).trips) : Fin 4 → Nat :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c3_i32_88 : BitVec 32 := 3#32
  let v156 : BitVec 32 := Scalar.subi arg14 c3_i32_88
  let c4_i32_89 : BitVec 32 := 4#32
  let v157 : BitVec 32 := Scalar.remsi v156 c4_i32_89
  let c8_i32_90 : BitVec 32 := 8#32
  let v158 : BitVec 32 := Scalar.muli v157 c8_i32_90
  let c0_i32_95 : BitVec 32 := 0#32
  let c0_i32_96 : BitVec 32 := 0#32
  let c0_i32_97 : BitVec 32 := 0#32
  ![v158.toNat, 0, 0, 0]
def k0_off208 (v0 : BitVec 32) (k0_t15 : Fin (k0_t15_loop v0).trips) : Fin 1 → Nat :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c1_i32_66 : BitVec 32 := 1#32
  let v111 : BitVec 32 := Scalar.addi arg14 c1_i32_66
  let c64_i32_67 : BitVec 32 := 64#32
  let v112 : BitVec 32 := Scalar.muli v111 c64_i32_67
  let c16384_i32 : BitVec 32 := 16384#32
  let v113 : BitVec 32 := Scalar.minsi v112 c16384_i32
  let v114 : Index := Scalar.indexCast v113
  ![v114.toNat]
@[reducible] def k0_t18_loop (v1 : BitVec 32) (arg16 : BitVec 32) (v115 : BitVec 32) : Scf.Loop 32 :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_78 : BitVec 32 := 1#32
  ⟨arg16, v141, c1_i32_78⟩

def k0_off209 (v1 : BitVec 32) (arg16 : BitVec 32) (v115 : BitVec 32) (k0_t18 : Fin (k0_t18_loop v1 arg16 v115).trips) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let c0_i32_89 : BitVec 32 := 0#32
  let v158 : BitVec 32 := Scalar.addi v157 c0_i32_89
  let v159 : Index := Scalar.indexCast v158
  ![v159.toNat]
def k0_off210 (v160 : BitVec 32) : Fin 2 → Nat :=
  let c131071_i32 : BitVec 32 := 131071#32
  let v161 : BitVec 32 := Scalar.andi v160 c131071_i32
  let v163 : Index := Scalar.indexCast v161
  let c0_90 : Index := 0#32
  ![v163.toNat, 0]

def k0_off211 (v1 : BitVec 32) (arg16 : BitVec 32) (v115 : BitVec 32) (k0_t18 : Fin (k0_t18_loop v1 arg16 v115).trips) (c0_i32_89 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v158 : BitVec 32 := Scalar.addi v157 c0_i32_89
  let v172 : Index := Scalar.indexCast v158
  ![v172.toNat]
def k0_off212 (v160 : BitVec 32) : Fin 2 → Nat :=
  let c17_i32 : BitVec 32 := 17#32
  let v177 : BitVec 32 := Scalar.shrui v160 c17_i32
  let c8191_i32 : BitVec 32 := 8191#32
  let v178 : BitVec 32 := Scalar.andi v177 c8191_i32
  let v181 : Index := Scalar.indexCast v178
  let c0_93 : Index := 0#32
  ![v181.toNat, 0]

def k0_chk39 (v160 : BitVec 32) : Prop :=
  (∀ a, (k0_off210 v160) a + S8x128.size a ≤ S114912x128.size a) ∧
  (∀ a, S28x128.size a = 0 ∨ (k0_off212 v160) a + (![8, 1] : Fin 2 → Nat) a * (S28x128.size a - 1) < S7392x128.size a)
theorem k0_off210_inb : ∀ (v160 : BitVec 32) (k0_hw39 : k0_chk39 v160), ∀ a, (k0_off210 v160) a + S8x128.size a ≤ S114912x128.size a := fun v160 k0_hw39 => k0_hw39.1
theorem k0_off212_inb : ∀ (v160 : BitVec 32) (k0_hw39 : k0_chk39 v160), ∀ a, S28x128.size a = 0 ∨ (k0_off212 v160) a + (![8, 1] : Fin 2 → Nat) a * (S28x128.size a - 1) < S7392x128.size a := fun v160 k0_hw39 => k0_hw39.2

def k0_off213 (v187 : BitVec 32) : Fin 2 → Nat :=
  let c131071_i32_95 : BitVec 32 := 131071#32
  let v188 : BitVec 32 := Scalar.andi v187 c131071_i32_95
  let v190 : Index := Scalar.indexCast v188
  let c0_96 : Index := 0#32
  ![v190.toNat, 0]

def k0_off214 (v1 : BitVec 32) (arg16 : BitVec 32) (v115 : BitVec 32) (k0_t18 : Fin (k0_t18_loop v1 arg16 v115).trips) (c1_i32_94 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v185 : BitVec 32 := Scalar.addi v157 c1_i32_94
  let v199 : Index := Scalar.indexCast v185
  ![v199.toNat]
def k0_off215 (v187 : BitVec 32) : Fin 2 → Nat :=
  let c17_i32_99 : BitVec 32 := 17#32
  let v204 : BitVec 32 := Scalar.shrui v187 c17_i32_99
  let c8191_i32_100 : BitVec 32 := 8191#32
  let v205 : BitVec 32 := Scalar.andi v204 c8191_i32_100
  let v208 : Index := Scalar.indexCast v205
  let c0_101 : Index := 0#32
  ![v208.toNat, 0]

def k0_chk40 (v187 : BitVec 32) : Prop :=
  (∀ a, (k0_off213 v187) a + S8x128.size a ≤ S114912x128.size a) ∧
  (∀ a, S28x128.size a = 0 ∨ (k0_off215 v187) a + (![8, 1] : Fin 2 → Nat) a * (S28x128.size a - 1) < S7392x128.size a)
theorem k0_off213_inb : ∀ (v187 : BitVec 32) (k0_hw40 : k0_chk40 v187), ∀ a, (k0_off213 v187) a + S8x128.size a ≤ S114912x128.size a := fun v187 k0_hw40 => k0_hw40.1
theorem k0_off215_inb : ∀ (v187 : BitVec 32) (k0_hw40 : k0_chk40 v187), ∀ a, S28x128.size a = 0 ∨ (k0_off215 v187) a + (![8, 1] : Fin 2 → Nat) a * (S28x128.size a - 1) < S7392x128.size a := fun v187 k0_hw40 => k0_hw40.2

def k0_off216 (v214 : BitVec 32) : Fin 2 → Nat :=
  let c131071_i32_103 : BitVec 32 := 131071#32
  let v215 : BitVec 32 := Scalar.andi v214 c131071_i32_103
  let v217 : Index := Scalar.indexCast v215
  let c0_104 : Index := 0#32
  ![v217.toNat, 0]

def k0_off217 (v1 : BitVec 32) (arg16 : BitVec 32) (v115 : BitVec 32) (k0_t18 : Fin (k0_t18_loop v1 arg16 v115).trips) (c2_i32_102 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v212 : BitVec 32 := Scalar.addi v157 c2_i32_102
  let v226 : Index := Scalar.indexCast v212
  ![v226.toNat]
def k0_off218 (v214 : BitVec 32) : Fin 2 → Nat :=
  let c17_i32_107 : BitVec 32 := 17#32
  let v231 : BitVec 32 := Scalar.shrui v214 c17_i32_107
  let c8191_i32_108 : BitVec 32 := 8191#32
  let v232 : BitVec 32 := Scalar.andi v231 c8191_i32_108
  let v235 : Index := Scalar.indexCast v232
  let c0_109 : Index := 0#32
  ![v235.toNat, 0]

def k0_chk41 (v214 : BitVec 32) : Prop :=
  (∀ a, (k0_off216 v214) a + S8x128.size a ≤ S114912x128.size a) ∧
  (∀ a, S28x128.size a = 0 ∨ (k0_off218 v214) a + (![8, 1] : Fin 2 → Nat) a * (S28x128.size a - 1) < S7392x128.size a)
theorem k0_off216_inb : ∀ (v214 : BitVec 32) (k0_hw41 : k0_chk41 v214), ∀ a, (k0_off216 v214) a + S8x128.size a ≤ S114912x128.size a := fun v214 k0_hw41 => k0_hw41.1
theorem k0_off218_inb : ∀ (v214 : BitVec 32) (k0_hw41 : k0_chk41 v214), ∀ a, S28x128.size a = 0 ∨ (k0_off218 v214) a + (![8, 1] : Fin 2 → Nat) a * (S28x128.size a - 1) < S7392x128.size a := fun v214 k0_hw41 => k0_hw41.2

def k0_off219 (v241 : BitVec 32) : Fin 2 → Nat :=
  let c131071_i32_111 : BitVec 32 := 131071#32
  let v242 : BitVec 32 := Scalar.andi v241 c131071_i32_111
  let v244 : Index := Scalar.indexCast v242
  let c0_112 : Index := 0#32
  ![v244.toNat, 0]

def k0_off220 (v1 : BitVec 32) (arg16 : BitVec 32) (v115 : BitVec 32) (k0_t18 : Fin (k0_t18_loop v1 arg16 v115).trips) (c3_i32_110 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v239 : BitVec 32 := Scalar.addi v157 c3_i32_110
  let v253 : Index := Scalar.indexCast v239
  ![v253.toNat]
def k0_off221 (v241 : BitVec 32) : Fin 2 → Nat :=
  let c17_i32_115 : BitVec 32 := 17#32
  let v258 : BitVec 32 := Scalar.shrui v241 c17_i32_115
  let c8191_i32_116 : BitVec 32 := 8191#32
  let v259 : BitVec 32 := Scalar.andi v258 c8191_i32_116
  let v262 : Index := Scalar.indexCast v259
  let c0_117 : Index := 0#32
  ![v262.toNat, 0]

def k0_chk42 (v241 : BitVec 32) : Prop :=
  (∀ a, (k0_off219 v241) a + S8x128.size a ≤ S114912x128.size a) ∧
  (∀ a, S28x128.size a = 0 ∨ (k0_off221 v241) a + (![8, 1] : Fin 2 → Nat) a * (S28x128.size a - 1) < S7392x128.size a)
theorem k0_off219_inb : ∀ (v241 : BitVec 32) (k0_hw42 : k0_chk42 v241), ∀ a, (k0_off219 v241) a + S8x128.size a ≤ S114912x128.size a := fun v241 k0_hw42 => k0_hw42.1
theorem k0_off221_inb : ∀ (v241 : BitVec 32) (k0_hw42 : k0_chk42 v241), ∀ a, S28x128.size a = 0 ∨ (k0_off221 v241) a + (![8, 1] : Fin 2 → Nat) a * (S28x128.size a - 1) < S7392x128.size a := fun v241 k0_hw42 => k0_hw42.2

def k0_off222 (v268 : BitVec 32) : Fin 2 → Nat :=
  let c131071_i32_119 : BitVec 32 := 131071#32
  let v269 : BitVec 32 := Scalar.andi v268 c131071_i32_119
  let v271 : Index := Scalar.indexCast v269
  let c0_120 : Index := 0#32
  ![v271.toNat, 0]

def k0_off223 (v1 : BitVec 32) (arg16 : BitVec 32) (v115 : BitVec 32) (k0_t18 : Fin (k0_t18_loop v1 arg16 v115).trips) (c4_i32_118 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v266 : BitVec 32 := Scalar.addi v157 c4_i32_118
  let v280 : Index := Scalar.indexCast v266
  ![v280.toNat]
def k0_off224 (v268 : BitVec 32) : Fin 2 → Nat :=
  let c17_i32_123 : BitVec 32 := 17#32
  let v285 : BitVec 32 := Scalar.shrui v268 c17_i32_123
  let c8191_i32_124 : BitVec 32 := 8191#32
  let v286 : BitVec 32 := Scalar.andi v285 c8191_i32_124
  let v289 : Index := Scalar.indexCast v286
  let c0_125 : Index := 0#32
  ![v289.toNat, 0]

def k0_chk43 (v268 : BitVec 32) : Prop :=
  (∀ a, (k0_off222 v268) a + S8x128.size a ≤ S114912x128.size a) ∧
  (∀ a, S28x128.size a = 0 ∨ (k0_off224 v268) a + (![8, 1] : Fin 2 → Nat) a * (S28x128.size a - 1) < S7392x128.size a)
theorem k0_off222_inb : ∀ (v268 : BitVec 32) (k0_hw43 : k0_chk43 v268), ∀ a, (k0_off222 v268) a + S8x128.size a ≤ S114912x128.size a := fun v268 k0_hw43 => k0_hw43.1
theorem k0_off224_inb : ∀ (v268 : BitVec 32) (k0_hw43 : k0_chk43 v268), ∀ a, S28x128.size a = 0 ∨ (k0_off224 v268) a + (![8, 1] : Fin 2 → Nat) a * (S28x128.size a - 1) < S7392x128.size a := fun v268 k0_hw43 => k0_hw43.2

def k0_off225 (v295 : BitVec 32) : Fin 2 → Nat :=
  let c131071_i32_126 : BitVec 32 := 131071#32
  let v296 : BitVec 32 := Scalar.andi v295 c131071_i32_126
  let v298 : Index := Scalar.indexCast v296
  let c0_127 : Index := 0#32
  ![v298.toNat, 0]

def k0_off226 (v1 : BitVec 32) (arg16 : BitVec 32) (v115 : BitVec 32) (k0_t18 : Fin (k0_t18_loop v1 arg16 v115).trips) (c5_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v293 : BitVec 32 := Scalar.addi v157 c5_i32
  let v307 : Index := Scalar.indexCast v293
  ![v307.toNat]
def k0_off227 (v295 : BitVec 32) : Fin 2 → Nat :=
  let c17_i32_130 : BitVec 32 := 17#32
  let v312 : BitVec 32 := Scalar.shrui v295 c17_i32_130
  let c8191_i32_131 : BitVec 32 := 8191#32
  let v313 : BitVec 32 := Scalar.andi v312 c8191_i32_131
  let v316 : Index := Scalar.indexCast v313
  let c0_132 : Index := 0#32
  ![v316.toNat, 0]

def k0_chk44 (v295 : BitVec 32) : Prop :=
  (∀ a, (k0_off225 v295) a + S8x128.size a ≤ S114912x128.size a) ∧
  (∀ a, S28x128.size a = 0 ∨ (k0_off227 v295) a + (![8, 1] : Fin 2 → Nat) a * (S28x128.size a - 1) < S7392x128.size a)
theorem k0_off225_inb : ∀ (v295 : BitVec 32) (k0_hw44 : k0_chk44 v295), ∀ a, (k0_off225 v295) a + S8x128.size a ≤ S114912x128.size a := fun v295 k0_hw44 => k0_hw44.1
theorem k0_off227_inb : ∀ (v295 : BitVec 32) (k0_hw44 : k0_chk44 v295), ∀ a, S28x128.size a = 0 ∨ (k0_off227 v295) a + (![8, 1] : Fin 2 → Nat) a * (S28x128.size a - 1) < S7392x128.size a := fun v295 k0_hw44 => k0_hw44.2

def k0_off228 (v322 : BitVec 32) : Fin 2 → Nat :=
  let c131071_i32_133 : BitVec 32 := 131071#32
  let v323 : BitVec 32 := Scalar.andi v322 c131071_i32_133
  let v325 : Index := Scalar.indexCast v323
  let c0_134 : Index := 0#32
  ![v325.toNat, 0]

def k0_off229 (v1 : BitVec 32) (arg16 : BitVec 32) (v115 : BitVec 32) (k0_t18 : Fin (k0_t18_loop v1 arg16 v115).trips) (c6_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v320 : BitVec 32 := Scalar.addi v157 c6_i32
  let v334 : Index := Scalar.indexCast v320
  ![v334.toNat]
def k0_off230 (v322 : BitVec 32) : Fin 2 → Nat :=
  let c17_i32_137 : BitVec 32 := 17#32
  let v339 : BitVec 32 := Scalar.shrui v322 c17_i32_137
  let c8191_i32_138 : BitVec 32 := 8191#32
  let v340 : BitVec 32 := Scalar.andi v339 c8191_i32_138
  let v343 : Index := Scalar.indexCast v340
  let c0_139 : Index := 0#32
  ![v343.toNat, 0]

def k0_chk45 (v322 : BitVec 32) : Prop :=
  (∀ a, (k0_off228 v322) a + S8x128.size a ≤ S114912x128.size a) ∧
  (∀ a, S28x128.size a = 0 ∨ (k0_off230 v322) a + (![8, 1] : Fin 2 → Nat) a * (S28x128.size a - 1) < S7392x128.size a)
theorem k0_off228_inb : ∀ (v322 : BitVec 32) (k0_hw45 : k0_chk45 v322), ∀ a, (k0_off228 v322) a + S8x128.size a ≤ S114912x128.size a := fun v322 k0_hw45 => k0_hw45.1
theorem k0_off230_inb : ∀ (v322 : BitVec 32) (k0_hw45 : k0_chk45 v322), ∀ a, S28x128.size a = 0 ∨ (k0_off230 v322) a + (![8, 1] : Fin 2 → Nat) a * (S28x128.size a - 1) < S7392x128.size a := fun v322 k0_hw45 => k0_hw45.2

def k0_off231 (v349 : BitVec 32) : Fin 2 → Nat :=
  let c131071_i32_141 : BitVec 32 := 131071#32
  let v350 : BitVec 32 := Scalar.andi v349 c131071_i32_141
  let v352 : Index := Scalar.indexCast v350
  let c0_142 : Index := 0#32
  ![v352.toNat, 0]

def k0_off232 (v1 : BitVec 32) (arg16 : BitVec 32) (v115 : BitVec 32) (k0_t18 : Fin (k0_t18_loop v1 arg16 v115).trips) (c7_i32_140 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v347 : BitVec 32 := Scalar.addi v157 c7_i32_140
  let v361 : Index := Scalar.indexCast v347
  ![v361.toNat]
def k0_off233 (v349 : BitVec 32) : Fin 2 → Nat :=
  let c17_i32_145 : BitVec 32 := 17#32
  let v366 : BitVec 32 := Scalar.shrui v349 c17_i32_145
  let c8191_i32_146 : BitVec 32 := 8191#32
  let v367 : BitVec 32 := Scalar.andi v366 c8191_i32_146
  let v370 : Index := Scalar.indexCast v367
  let c0_147 : Index := 0#32
  ![v370.toNat, 0]

def k0_chk46 (v349 : BitVec 32) : Prop :=
  (∀ a, (k0_off231 v349) a + S8x128.size a ≤ S114912x128.size a) ∧
  (∀ a, S28x128.size a = 0 ∨ (k0_off233 v349) a + (![8, 1] : Fin 2 → Nat) a * (S28x128.size a - 1) < S7392x128.size a)
theorem k0_off231_inb : ∀ (v349 : BitVec 32) (k0_hw46 : k0_chk46 v349), ∀ a, (k0_off231 v349) a + S8x128.size a ≤ S114912x128.size a := fun v349 k0_hw46 => k0_hw46.1
theorem k0_off233_inb : ∀ (v349 : BitVec 32) (k0_hw46 : k0_chk46 v349), ∀ a, S28x128.size a = 0 ∨ (k0_off233 v349) a + (![8, 1] : Fin 2 → Nat) a * (S28x128.size a - 1) < S7392x128.size a := fun v349 k0_hw46 => k0_hw46.2

def k0_off234 (v376 : BitVec 32) : Fin 2 → Nat :=
  let c131071_i32_149 : BitVec 32 := 131071#32
  let v377 : BitVec 32 := Scalar.andi v376 c131071_i32_149
  let v379 : Index := Scalar.indexCast v377
  let c0_150 : Index := 0#32
  ![v379.toNat, 0]

def k0_off235 (v1 : BitVec 32) (arg16 : BitVec 32) (v115 : BitVec 32) (k0_t18 : Fin (k0_t18_loop v1 arg16 v115).trips) (c8_i32_148 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v374 : BitVec 32 := Scalar.addi v157 c8_i32_148
  let v388 : Index := Scalar.indexCast v374
  ![v388.toNat]
def k0_off236 (v376 : BitVec 32) : Fin 2 → Nat :=
  let c17_i32_153 : BitVec 32 := 17#32
  let v393 : BitVec 32 := Scalar.shrui v376 c17_i32_153
  let c8191_i32_154 : BitVec 32 := 8191#32
  let v394 : BitVec 32 := Scalar.andi v393 c8191_i32_154
  let v397 : Index := Scalar.indexCast v394
  let c0_155 : Index := 0#32
  ![v397.toNat, 0]

def k0_chk47 (v376 : BitVec 32) : Prop :=
  (∀ a, (k0_off234 v376) a + S8x128.size a ≤ S114912x128.size a) ∧
  (∀ a, S28x128.size a = 0 ∨ (k0_off236 v376) a + (![8, 1] : Fin 2 → Nat) a * (S28x128.size a - 1) < S7392x128.size a)
theorem k0_off234_inb : ∀ (v376 : BitVec 32) (k0_hw47 : k0_chk47 v376), ∀ a, (k0_off234 v376) a + S8x128.size a ≤ S114912x128.size a := fun v376 k0_hw47 => k0_hw47.1
theorem k0_off236_inb : ∀ (v376 : BitVec 32) (k0_hw47 : k0_chk47 v376), ∀ a, S28x128.size a = 0 ∨ (k0_off236 v376) a + (![8, 1] : Fin 2 → Nat) a * (S28x128.size a - 1) < S7392x128.size a := fun v376 k0_hw47 => k0_hw47.2

def k0_off237 (v403 : BitVec 32) : Fin 2 → Nat :=
  let c131071_i32_156 : BitVec 32 := 131071#32
  let v404 : BitVec 32 := Scalar.andi v403 c131071_i32_156
  let v406 : Index := Scalar.indexCast v404
  let c0_157 : Index := 0#32
  ![v406.toNat, 0]

def k0_off238 (v1 : BitVec 32) (arg16 : BitVec 32) (v115 : BitVec 32) (k0_t18 : Fin (k0_t18_loop v1 arg16 v115).trips) (c9_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v401 : BitVec 32 := Scalar.addi v157 c9_i32
  let v415 : Index := Scalar.indexCast v401
  ![v415.toNat]
def k0_off239 (v403 : BitVec 32) : Fin 2 → Nat :=
  let c17_i32_160 : BitVec 32 := 17#32
  let v420 : BitVec 32 := Scalar.shrui v403 c17_i32_160
  let c8191_i32_161 : BitVec 32 := 8191#32
  let v421 : BitVec 32 := Scalar.andi v420 c8191_i32_161
  let v424 : Index := Scalar.indexCast v421
  let c0_162 : Index := 0#32
  ![v424.toNat, 0]

def k0_chk48 (v403 : BitVec 32) : Prop :=
  (∀ a, (k0_off237 v403) a + S8x128.size a ≤ S114912x128.size a) ∧
  (∀ a, S28x128.size a = 0 ∨ (k0_off239 v403) a + (![8, 1] : Fin 2 → Nat) a * (S28x128.size a - 1) < S7392x128.size a)
theorem k0_off237_inb : ∀ (v403 : BitVec 32) (k0_hw48 : k0_chk48 v403), ∀ a, (k0_off237 v403) a + S8x128.size a ≤ S114912x128.size a := fun v403 k0_hw48 => k0_hw48.1
theorem k0_off239_inb : ∀ (v403 : BitVec 32) (k0_hw48 : k0_chk48 v403), ∀ a, S28x128.size a = 0 ∨ (k0_off239 v403) a + (![8, 1] : Fin 2 → Nat) a * (S28x128.size a - 1) < S7392x128.size a := fun v403 k0_hw48 => k0_hw48.2

def k0_off240 (v430 : BitVec 32) : Fin 2 → Nat :=
  let c131071_i32_163 : BitVec 32 := 131071#32
  let v431 : BitVec 32 := Scalar.andi v430 c131071_i32_163
  let v433 : Index := Scalar.indexCast v431
  let c0_164 : Index := 0#32
  ![v433.toNat, 0]

def k0_off241 (v1 : BitVec 32) (arg16 : BitVec 32) (v115 : BitVec 32) (k0_t18 : Fin (k0_t18_loop v1 arg16 v115).trips) (c10_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v428 : BitVec 32 := Scalar.addi v157 c10_i32
  let v442 : Index := Scalar.indexCast v428
  ![v442.toNat]
def k0_off242 (v430 : BitVec 32) : Fin 2 → Nat :=
  let c17_i32_167 : BitVec 32 := 17#32
  let v447 : BitVec 32 := Scalar.shrui v430 c17_i32_167
  let c8191_i32_168 : BitVec 32 := 8191#32
  let v448 : BitVec 32 := Scalar.andi v447 c8191_i32_168
  let v451 : Index := Scalar.indexCast v448
  let c0_169 : Index := 0#32
  ![v451.toNat, 0]

def k0_chk49 (v430 : BitVec 32) : Prop :=
  (∀ a, (k0_off240 v430) a + S8x128.size a ≤ S114912x128.size a) ∧
  (∀ a, S28x128.size a = 0 ∨ (k0_off242 v430) a + (![8, 1] : Fin 2 → Nat) a * (S28x128.size a - 1) < S7392x128.size a)
theorem k0_off240_inb : ∀ (v430 : BitVec 32) (k0_hw49 : k0_chk49 v430), ∀ a, (k0_off240 v430) a + S8x128.size a ≤ S114912x128.size a := fun v430 k0_hw49 => k0_hw49.1
theorem k0_off242_inb : ∀ (v430 : BitVec 32) (k0_hw49 : k0_chk49 v430), ∀ a, S28x128.size a = 0 ∨ (k0_off242 v430) a + (![8, 1] : Fin 2 → Nat) a * (S28x128.size a - 1) < S7392x128.size a := fun v430 k0_hw49 => k0_hw49.2

def k0_off243 (v457 : BitVec 32) : Fin 2 → Nat :=
  let c131071_i32_170 : BitVec 32 := 131071#32
  let v458 : BitVec 32 := Scalar.andi v457 c131071_i32_170
  let v460 : Index := Scalar.indexCast v458
  let c0_171 : Index := 0#32
  ![v460.toNat, 0]

def k0_off244 (v1 : BitVec 32) (arg16 : BitVec 32) (v115 : BitVec 32) (k0_t18 : Fin (k0_t18_loop v1 arg16 v115).trips) (c11_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v455 : BitVec 32 := Scalar.addi v157 c11_i32
  let v469 : Index := Scalar.indexCast v455
  ![v469.toNat]
def k0_off245 (v457 : BitVec 32) : Fin 2 → Nat :=
  let c17_i32_174 : BitVec 32 := 17#32
  let v474 : BitVec 32 := Scalar.shrui v457 c17_i32_174
  let c8191_i32_175 : BitVec 32 := 8191#32
  let v475 : BitVec 32 := Scalar.andi v474 c8191_i32_175
  let v478 : Index := Scalar.indexCast v475
  let c0_176 : Index := 0#32
  ![v478.toNat, 0]

def k0_chk50 (v457 : BitVec 32) : Prop :=
  (∀ a, (k0_off243 v457) a + S8x128.size a ≤ S114912x128.size a) ∧
  (∀ a, S28x128.size a = 0 ∨ (k0_off245 v457) a + (![8, 1] : Fin 2 → Nat) a * (S28x128.size a - 1) < S7392x128.size a)
theorem k0_off243_inb : ∀ (v457 : BitVec 32) (k0_hw50 : k0_chk50 v457), ∀ a, (k0_off243 v457) a + S8x128.size a ≤ S114912x128.size a := fun v457 k0_hw50 => k0_hw50.1
theorem k0_off245_inb : ∀ (v457 : BitVec 32) (k0_hw50 : k0_chk50 v457), ∀ a, S28x128.size a = 0 ∨ (k0_off245 v457) a + (![8, 1] : Fin 2 → Nat) a * (S28x128.size a - 1) < S7392x128.size a := fun v457 k0_hw50 => k0_hw50.2

def k0_off246 (v484 : BitVec 32) : Fin 2 → Nat :=
  let c131071_i32_177 : BitVec 32 := 131071#32
  let v485 : BitVec 32 := Scalar.andi v484 c131071_i32_177
  let v487 : Index := Scalar.indexCast v485
  let c0_178 : Index := 0#32
  ![v487.toNat, 0]

def k0_off247 (v1 : BitVec 32) (arg16 : BitVec 32) (v115 : BitVec 32) (k0_t18 : Fin (k0_t18_loop v1 arg16 v115).trips) (c12_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v482 : BitVec 32 := Scalar.addi v157 c12_i32
  let v496 : Index := Scalar.indexCast v482
  ![v496.toNat]
def k0_off248 (v484 : BitVec 32) : Fin 2 → Nat :=
  let c17_i32_181 : BitVec 32 := 17#32
  let v501 : BitVec 32 := Scalar.shrui v484 c17_i32_181
  let c8191_i32_182 : BitVec 32 := 8191#32
  let v502 : BitVec 32 := Scalar.andi v501 c8191_i32_182
  let v505 : Index := Scalar.indexCast v502
  let c0_183 : Index := 0#32
  ![v505.toNat, 0]

def k0_chk51 (v484 : BitVec 32) : Prop :=
  (∀ a, (k0_off246 v484) a + S8x128.size a ≤ S114912x128.size a) ∧
  (∀ a, S28x128.size a = 0 ∨ (k0_off248 v484) a + (![8, 1] : Fin 2 → Nat) a * (S28x128.size a - 1) < S7392x128.size a)
theorem k0_off246_inb : ∀ (v484 : BitVec 32) (k0_hw51 : k0_chk51 v484), ∀ a, (k0_off246 v484) a + S8x128.size a ≤ S114912x128.size a := fun v484 k0_hw51 => k0_hw51.1
theorem k0_off248_inb : ∀ (v484 : BitVec 32) (k0_hw51 : k0_chk51 v484), ∀ a, S28x128.size a = 0 ∨ (k0_off248 v484) a + (![8, 1] : Fin 2 → Nat) a * (S28x128.size a - 1) < S7392x128.size a := fun v484 k0_hw51 => k0_hw51.2

def k0_off249 (v511 : BitVec 32) : Fin 2 → Nat :=
  let c131071_i32_184 : BitVec 32 := 131071#32
  let v512 : BitVec 32 := Scalar.andi v511 c131071_i32_184
  let v514 : Index := Scalar.indexCast v512
  let c0_185 : Index := 0#32
  ![v514.toNat, 0]

def k0_off250 (v1 : BitVec 32) (arg16 : BitVec 32) (v115 : BitVec 32) (k0_t18 : Fin (k0_t18_loop v1 arg16 v115).trips) (c13_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v509 : BitVec 32 := Scalar.addi v157 c13_i32
  let v523 : Index := Scalar.indexCast v509
  ![v523.toNat]
def k0_off251 (v511 : BitVec 32) : Fin 2 → Nat :=
  let c17_i32_188 : BitVec 32 := 17#32
  let v528 : BitVec 32 := Scalar.shrui v511 c17_i32_188
  let c8191_i32_189 : BitVec 32 := 8191#32
  let v529 : BitVec 32 := Scalar.andi v528 c8191_i32_189
  let v532 : Index := Scalar.indexCast v529
  let c0_190 : Index := 0#32
  ![v532.toNat, 0]

def k0_chk52 (v511 : BitVec 32) : Prop :=
  (∀ a, (k0_off249 v511) a + S8x128.size a ≤ S114912x128.size a) ∧
  (∀ a, S28x128.size a = 0 ∨ (k0_off251 v511) a + (![8, 1] : Fin 2 → Nat) a * (S28x128.size a - 1) < S7392x128.size a)
theorem k0_off249_inb : ∀ (v511 : BitVec 32) (k0_hw52 : k0_chk52 v511), ∀ a, (k0_off249 v511) a + S8x128.size a ≤ S114912x128.size a := fun v511 k0_hw52 => k0_hw52.1
theorem k0_off251_inb : ∀ (v511 : BitVec 32) (k0_hw52 : k0_chk52 v511), ∀ a, S28x128.size a = 0 ∨ (k0_off251 v511) a + (![8, 1] : Fin 2 → Nat) a * (S28x128.size a - 1) < S7392x128.size a := fun v511 k0_hw52 => k0_hw52.2

def k0_off252 (v538 : BitVec 32) : Fin 2 → Nat :=
  let c131071_i32_191 : BitVec 32 := 131071#32
  let v539 : BitVec 32 := Scalar.andi v538 c131071_i32_191
  let v541 : Index := Scalar.indexCast v539
  let c0_192 : Index := 0#32
  ![v541.toNat, 0]

def k0_off253 (v1 : BitVec 32) (arg16 : BitVec 32) (v115 : BitVec 32) (k0_t18 : Fin (k0_t18_loop v1 arg16 v115).trips) (c14_i32 : BitVec 32) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let v536 : BitVec 32 := Scalar.addi v157 c14_i32
  let v550 : Index := Scalar.indexCast v536
  ![v550.toNat]
def k0_off254 (v538 : BitVec 32) : Fin 2 → Nat :=
  let c17_i32_195 : BitVec 32 := 17#32
  let v555 : BitVec 32 := Scalar.shrui v538 c17_i32_195
  let c8191_i32_196 : BitVec 32 := 8191#32
  let v556 : BitVec 32 := Scalar.andi v555 c8191_i32_196
  let v559 : Index := Scalar.indexCast v556
  let c0_197 : Index := 0#32
  ![v559.toNat, 0]

def k0_chk53 (v538 : BitVec 32) : Prop :=
  (∀ a, (k0_off252 v538) a + S8x128.size a ≤ S114912x128.size a) ∧
  (∀ a, S28x128.size a = 0 ∨ (k0_off254 v538) a + (![8, 1] : Fin 2 → Nat) a * (S28x128.size a - 1) < S7392x128.size a)
theorem k0_off252_inb : ∀ (v538 : BitVec 32) (k0_hw53 : k0_chk53 v538), ∀ a, (k0_off252 v538) a + S8x128.size a ≤ S114912x128.size a := fun v538 k0_hw53 => k0_hw53.1
theorem k0_off254_inb : ∀ (v538 : BitVec 32) (k0_hw53 : k0_chk53 v538), ∀ a, S28x128.size a = 0 ∨ (k0_off254 v538) a + (![8, 1] : Fin 2 → Nat) a * (S28x128.size a - 1) < S7392x128.size a := fun v538 k0_hw53 => k0_hw53.2

def k0_off255 (v565 : BitVec 32) : Fin 2 → Nat :=
  let c131071_i32_198 : BitVec 32 := 131071#32
  let v566 : BitVec 32 := Scalar.andi v565 c131071_i32_198
  let v568 : Index := Scalar.indexCast v566
  let c0_199 : Index := 0#32
  ![v568.toNat, 0]

def k0_off256 (v1 : BitVec 32) (arg16 : BitVec 32) (v115 : BitVec 32) (k0_t18 : Fin (k0_t18_loop v1 arg16 v115).trips) : Fin 1 → Nat :=
  let c1_i32_78 : BitVec 32 := 1#32
  let arg18 : BitVec 32 := Scf.iv arg16 c1_i32_78 k0_t18
  let c16_i32_88 : BitVec 32 := 16#32
  let v156 : BitVec 32 := Scalar.muli arg18 c16_i32_88
  let v157 : BitVec 32 := Scalar.addi v1 v156
  let c15_i32 : BitVec 32 := 15#32
  let v563 : BitVec 32 := Scalar.addi v157 c15_i32
  let v577 : Index := Scalar.indexCast v563
  ![v577.toNat]
def k0_off257 (v565 : BitVec 32) : Fin 2 → Nat :=
  let c17_i32_202 : BitVec 32 := 17#32
  let v582 : BitVec 32 := Scalar.shrui v565 c17_i32_202
  let c8191_i32_203 : BitVec 32 := 8191#32
  let v583 : BitVec 32 := Scalar.andi v582 c8191_i32_203
  let v586 : Index := Scalar.indexCast v583
  let c0_204 : Index := 0#32
  ![v586.toNat, 0]

def k0_chk54 (v565 : BitVec 32) : Prop :=
  (∀ a, (k0_off255 v565) a + S8x128.size a ≤ S114912x128.size a) ∧
  (∀ a, S28x128.size a = 0 ∨ (k0_off257 v565) a + (![8, 1] : Fin 2 → Nat) a * (S28x128.size a - 1) < S7392x128.size a)
theorem k0_off255_inb : ∀ (v565 : BitVec 32) (k0_hw54 : k0_chk54 v565), ∀ a, (k0_off255 v565) a + S8x128.size a ≤ S114912x128.size a := fun v565 k0_hw54 => k0_hw54.1
theorem k0_off257_inb : ∀ (v565 : BitVec 32) (k0_hw54 : k0_chk54 v565), ∀ a, S28x128.size a = 0 ∨ (k0_off257 v565) a + (![8, 1] : Fin 2 → Nat) a * (S28x128.size a - 1) < S7392x128.size a := fun v565 k0_hw54 => k0_hw54.2

@[reducible] def k0_t19_loop (v1 : BitVec 32) (arg16 : BitVec 32) (v115 : BitVec 32) : Scf.Loop 32 :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let v138 : BitVec 32 := Scalar.addi arg16 v137
  let c1_i32_79 : BitVec 32 := 1#32
  ⟨v141, v138, c1_i32_79⟩
def k0_off258 (v1 : BitVec 32) (arg16 : BitVec 32) (v115 : BitVec 32) (k0_t19 : Fin (k0_t19_loop v1 arg16 v115).trips) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let c0_i32_89 : BitVec 32 := 0#32
  let v158 : BitVec 32 := Scalar.addi v157 c0_i32_89
  let v159 : Index := Scalar.indexCast v158
  ![v159.toNat]
def k0_off259 (v160 : BitVec 32) : Fin 2 → Nat :=
  let c131071_i32 : BitVec 32 := 131071#32
  let v161 : BitVec 32 := Scalar.andi v160 c131071_i32
  let v163 : Index := Scalar.indexCast v161
  let c0_90 : Index := 0#32
  ![v163.toNat, 0]

def k0_off260 (v1 : BitVec 32) (arg16 : BitVec 32) (v115 : BitVec 32) (k0_t19 : Fin (k0_t19_loop v1 arg16 v115).trips) (c0_i32_89 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v158 : BitVec 32 := Scalar.addi v157 c0_i32_89
  let v172 : Index := Scalar.indexCast v158
  ![v172.toNat]
def k0_off261 (v160 : BitVec 32) : Fin 2 → Nat :=
  let c17_i32 : BitVec 32 := 17#32
  let v177 : BitVec 32 := Scalar.shrui v160 c17_i32
  let c8191_i32 : BitVec 32 := 8191#32
  let v178 : BitVec 32 := Scalar.andi v177 c8191_i32
  let v181 : Index := Scalar.indexCast v178
  let c0_93 : Index := 0#32
  ![v181.toNat, 0]

def k0_chk55 (v160 : BitVec 32) : Prop :=
  (∀ a, (k0_off259 v160) a + S8x128.size a ≤ S114912x128.size a) ∧
  (∀ a, S28x128.size a = 0 ∨ (k0_off261 v160) a + (![8, 1] : Fin 2 → Nat) a * (S28x128.size a - 1) < S7392x128.size a)
theorem k0_off259_inb : ∀ (v160 : BitVec 32) (k0_hw55 : k0_chk55 v160), ∀ a, (k0_off259 v160) a + S8x128.size a ≤ S114912x128.size a := fun v160 k0_hw55 => k0_hw55.1
theorem k0_off261_inb : ∀ (v160 : BitVec 32) (k0_hw55 : k0_chk55 v160), ∀ a, S28x128.size a = 0 ∨ (k0_off261 v160) a + (![8, 1] : Fin 2 → Nat) a * (S28x128.size a - 1) < S7392x128.size a := fun v160 k0_hw55 => k0_hw55.2

def k0_off262 (v187 : BitVec 32) : Fin 2 → Nat :=
  let c131071_i32_95 : BitVec 32 := 131071#32
  let v188 : BitVec 32 := Scalar.andi v187 c131071_i32_95
  let v190 : Index := Scalar.indexCast v188
  let c0_96 : Index := 0#32
  ![v190.toNat, 0]

def k0_off263 (v1 : BitVec 32) (arg16 : BitVec 32) (v115 : BitVec 32) (k0_t19 : Fin (k0_t19_loop v1 arg16 v115).trips) (c1_i32_94 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v185 : BitVec 32 := Scalar.addi v157 c1_i32_94
  let v199 : Index := Scalar.indexCast v185
  ![v199.toNat]
def k0_off264 (v187 : BitVec 32) : Fin 2 → Nat :=
  let c17_i32_99 : BitVec 32 := 17#32
  let v204 : BitVec 32 := Scalar.shrui v187 c17_i32_99
  let c8191_i32_100 : BitVec 32 := 8191#32
  let v205 : BitVec 32 := Scalar.andi v204 c8191_i32_100
  let v208 : Index := Scalar.indexCast v205
  let c0_101 : Index := 0#32
  ![v208.toNat, 0]

def k0_chk56 (v187 : BitVec 32) : Prop :=
  (∀ a, (k0_off262 v187) a + S8x128.size a ≤ S114912x128.size a) ∧
  (∀ a, S28x128.size a = 0 ∨ (k0_off264 v187) a + (![8, 1] : Fin 2 → Nat) a * (S28x128.size a - 1) < S7392x128.size a)
theorem k0_off262_inb : ∀ (v187 : BitVec 32) (k0_hw56 : k0_chk56 v187), ∀ a, (k0_off262 v187) a + S8x128.size a ≤ S114912x128.size a := fun v187 k0_hw56 => k0_hw56.1
theorem k0_off264_inb : ∀ (v187 : BitVec 32) (k0_hw56 : k0_chk56 v187), ∀ a, S28x128.size a = 0 ∨ (k0_off264 v187) a + (![8, 1] : Fin 2 → Nat) a * (S28x128.size a - 1) < S7392x128.size a := fun v187 k0_hw56 => k0_hw56.2

def k0_off265 (v214 : BitVec 32) : Fin 2 → Nat :=
  let c131071_i32_103 : BitVec 32 := 131071#32
  let v215 : BitVec 32 := Scalar.andi v214 c131071_i32_103
  let v217 : Index := Scalar.indexCast v215
  let c0_104 : Index := 0#32
  ![v217.toNat, 0]

def k0_off266 (v1 : BitVec 32) (arg16 : BitVec 32) (v115 : BitVec 32) (k0_t19 : Fin (k0_t19_loop v1 arg16 v115).trips) (c2_i32_102 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v212 : BitVec 32 := Scalar.addi v157 c2_i32_102
  let v226 : Index := Scalar.indexCast v212
  ![v226.toNat]
def k0_off267 (v214 : BitVec 32) : Fin 2 → Nat :=
  let c17_i32_107 : BitVec 32 := 17#32
  let v231 : BitVec 32 := Scalar.shrui v214 c17_i32_107
  let c8191_i32_108 : BitVec 32 := 8191#32
  let v232 : BitVec 32 := Scalar.andi v231 c8191_i32_108
  let v235 : Index := Scalar.indexCast v232
  let c0_109 : Index := 0#32
  ![v235.toNat, 0]

def k0_chk57 (v214 : BitVec 32) : Prop :=
  (∀ a, (k0_off265 v214) a + S8x128.size a ≤ S114912x128.size a) ∧
  (∀ a, S28x128.size a = 0 ∨ (k0_off267 v214) a + (![8, 1] : Fin 2 → Nat) a * (S28x128.size a - 1) < S7392x128.size a)
theorem k0_off265_inb : ∀ (v214 : BitVec 32) (k0_hw57 : k0_chk57 v214), ∀ a, (k0_off265 v214) a + S8x128.size a ≤ S114912x128.size a := fun v214 k0_hw57 => k0_hw57.1
theorem k0_off267_inb : ∀ (v214 : BitVec 32) (k0_hw57 : k0_chk57 v214), ∀ a, S28x128.size a = 0 ∨ (k0_off267 v214) a + (![8, 1] : Fin 2 → Nat) a * (S28x128.size a - 1) < S7392x128.size a := fun v214 k0_hw57 => k0_hw57.2

def k0_off268 (v241 : BitVec 32) : Fin 2 → Nat :=
  let c131071_i32_111 : BitVec 32 := 131071#32
  let v242 : BitVec 32 := Scalar.andi v241 c131071_i32_111
  let v244 : Index := Scalar.indexCast v242
  let c0_112 : Index := 0#32
  ![v244.toNat, 0]

def k0_off269 (v1 : BitVec 32) (arg16 : BitVec 32) (v115 : BitVec 32) (k0_t19 : Fin (k0_t19_loop v1 arg16 v115).trips) (c3_i32_110 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v239 : BitVec 32 := Scalar.addi v157 c3_i32_110
  let v253 : Index := Scalar.indexCast v239
  ![v253.toNat]
def k0_off270 (v241 : BitVec 32) : Fin 2 → Nat :=
  let c17_i32_115 : BitVec 32 := 17#32
  let v258 : BitVec 32 := Scalar.shrui v241 c17_i32_115
  let c8191_i32_116 : BitVec 32 := 8191#32
  let v259 : BitVec 32 := Scalar.andi v258 c8191_i32_116
  let v262 : Index := Scalar.indexCast v259
  let c0_117 : Index := 0#32
  ![v262.toNat, 0]

def k0_chk58 (v241 : BitVec 32) : Prop :=
  (∀ a, (k0_off268 v241) a + S8x128.size a ≤ S114912x128.size a) ∧
  (∀ a, S28x128.size a = 0 ∨ (k0_off270 v241) a + (![8, 1] : Fin 2 → Nat) a * (S28x128.size a - 1) < S7392x128.size a)
theorem k0_off268_inb : ∀ (v241 : BitVec 32) (k0_hw58 : k0_chk58 v241), ∀ a, (k0_off268 v241) a + S8x128.size a ≤ S114912x128.size a := fun v241 k0_hw58 => k0_hw58.1
theorem k0_off270_inb : ∀ (v241 : BitVec 32) (k0_hw58 : k0_chk58 v241), ∀ a, S28x128.size a = 0 ∨ (k0_off270 v241) a + (![8, 1] : Fin 2 → Nat) a * (S28x128.size a - 1) < S7392x128.size a := fun v241 k0_hw58 => k0_hw58.2

def k0_off271 (v268 : BitVec 32) : Fin 2 → Nat :=
  let c131071_i32_119 : BitVec 32 := 131071#32
  let v269 : BitVec 32 := Scalar.andi v268 c131071_i32_119
  let v271 : Index := Scalar.indexCast v269
  let c0_120 : Index := 0#32
  ![v271.toNat, 0]

def k0_off272 (v1 : BitVec 32) (arg16 : BitVec 32) (v115 : BitVec 32) (k0_t19 : Fin (k0_t19_loop v1 arg16 v115).trips) (c4_i32_118 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v266 : BitVec 32 := Scalar.addi v157 c4_i32_118
  let v280 : Index := Scalar.indexCast v266
  ![v280.toNat]
def k0_off273 (v268 : BitVec 32) : Fin 2 → Nat :=
  let c17_i32_123 : BitVec 32 := 17#32
  let v285 : BitVec 32 := Scalar.shrui v268 c17_i32_123
  let c8191_i32_124 : BitVec 32 := 8191#32
  let v286 : BitVec 32 := Scalar.andi v285 c8191_i32_124
  let v289 : Index := Scalar.indexCast v286
  let c0_125 : Index := 0#32
  ![v289.toNat, 0]

def k0_chk59 (v268 : BitVec 32) : Prop :=
  (∀ a, (k0_off271 v268) a + S8x128.size a ≤ S114912x128.size a) ∧
  (∀ a, S28x128.size a = 0 ∨ (k0_off273 v268) a + (![8, 1] : Fin 2 → Nat) a * (S28x128.size a - 1) < S7392x128.size a)
theorem k0_off271_inb : ∀ (v268 : BitVec 32) (k0_hw59 : k0_chk59 v268), ∀ a, (k0_off271 v268) a + S8x128.size a ≤ S114912x128.size a := fun v268 k0_hw59 => k0_hw59.1
theorem k0_off273_inb : ∀ (v268 : BitVec 32) (k0_hw59 : k0_chk59 v268), ∀ a, S28x128.size a = 0 ∨ (k0_off273 v268) a + (![8, 1] : Fin 2 → Nat) a * (S28x128.size a - 1) < S7392x128.size a := fun v268 k0_hw59 => k0_hw59.2

def k0_off274 (v295 : BitVec 32) : Fin 2 → Nat :=
  let c131071_i32_126 : BitVec 32 := 131071#32
  let v296 : BitVec 32 := Scalar.andi v295 c131071_i32_126
  let v298 : Index := Scalar.indexCast v296
  let c0_127 : Index := 0#32
  ![v298.toNat, 0]

def k0_off275 (v1 : BitVec 32) (arg16 : BitVec 32) (v115 : BitVec 32) (k0_t19 : Fin (k0_t19_loop v1 arg16 v115).trips) (c5_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v293 : BitVec 32 := Scalar.addi v157 c5_i32
  let v307 : Index := Scalar.indexCast v293
  ![v307.toNat]
def k0_off276 (v295 : BitVec 32) : Fin 2 → Nat :=
  let c17_i32_130 : BitVec 32 := 17#32
  let v312 : BitVec 32 := Scalar.shrui v295 c17_i32_130
  let c8191_i32_131 : BitVec 32 := 8191#32
  let v313 : BitVec 32 := Scalar.andi v312 c8191_i32_131
  let v316 : Index := Scalar.indexCast v313
  let c0_132 : Index := 0#32
  ![v316.toNat, 0]

def k0_chk60 (v295 : BitVec 32) : Prop :=
  (∀ a, (k0_off274 v295) a + S8x128.size a ≤ S114912x128.size a) ∧
  (∀ a, S28x128.size a = 0 ∨ (k0_off276 v295) a + (![8, 1] : Fin 2 → Nat) a * (S28x128.size a - 1) < S7392x128.size a)
theorem k0_off274_inb : ∀ (v295 : BitVec 32) (k0_hw60 : k0_chk60 v295), ∀ a, (k0_off274 v295) a + S8x128.size a ≤ S114912x128.size a := fun v295 k0_hw60 => k0_hw60.1
theorem k0_off276_inb : ∀ (v295 : BitVec 32) (k0_hw60 : k0_chk60 v295), ∀ a, S28x128.size a = 0 ∨ (k0_off276 v295) a + (![8, 1] : Fin 2 → Nat) a * (S28x128.size a - 1) < S7392x128.size a := fun v295 k0_hw60 => k0_hw60.2

def k0_off277 (v322 : BitVec 32) : Fin 2 → Nat :=
  let c131071_i32_133 : BitVec 32 := 131071#32
  let v323 : BitVec 32 := Scalar.andi v322 c131071_i32_133
  let v325 : Index := Scalar.indexCast v323
  let c0_134 : Index := 0#32
  ![v325.toNat, 0]

def k0_off278 (v1 : BitVec 32) (arg16 : BitVec 32) (v115 : BitVec 32) (k0_t19 : Fin (k0_t19_loop v1 arg16 v115).trips) (c6_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v320 : BitVec 32 := Scalar.addi v157 c6_i32
  let v334 : Index := Scalar.indexCast v320
  ![v334.toNat]
def k0_off279 (v322 : BitVec 32) : Fin 2 → Nat :=
  let c17_i32_137 : BitVec 32 := 17#32
  let v339 : BitVec 32 := Scalar.shrui v322 c17_i32_137
  let c8191_i32_138 : BitVec 32 := 8191#32
  let v340 : BitVec 32 := Scalar.andi v339 c8191_i32_138
  let v343 : Index := Scalar.indexCast v340
  let c0_139 : Index := 0#32
  ![v343.toNat, 0]

def k0_chk61 (v322 : BitVec 32) : Prop :=
  (∀ a, (k0_off277 v322) a + S8x128.size a ≤ S114912x128.size a) ∧
  (∀ a, S28x128.size a = 0 ∨ (k0_off279 v322) a + (![8, 1] : Fin 2 → Nat) a * (S28x128.size a - 1) < S7392x128.size a)
theorem k0_off277_inb : ∀ (v322 : BitVec 32) (k0_hw61 : k0_chk61 v322), ∀ a, (k0_off277 v322) a + S8x128.size a ≤ S114912x128.size a := fun v322 k0_hw61 => k0_hw61.1
theorem k0_off279_inb : ∀ (v322 : BitVec 32) (k0_hw61 : k0_chk61 v322), ∀ a, S28x128.size a = 0 ∨ (k0_off279 v322) a + (![8, 1] : Fin 2 → Nat) a * (S28x128.size a - 1) < S7392x128.size a := fun v322 k0_hw61 => k0_hw61.2

def k0_off280 (v349 : BitVec 32) : Fin 2 → Nat :=
  let c131071_i32_141 : BitVec 32 := 131071#32
  let v350 : BitVec 32 := Scalar.andi v349 c131071_i32_141
  let v352 : Index := Scalar.indexCast v350
  let c0_142 : Index := 0#32
  ![v352.toNat, 0]

def k0_off281 (v1 : BitVec 32) (arg16 : BitVec 32) (v115 : BitVec 32) (k0_t19 : Fin (k0_t19_loop v1 arg16 v115).trips) (c7_i32_140 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v347 : BitVec 32 := Scalar.addi v157 c7_i32_140
  let v361 : Index := Scalar.indexCast v347
  ![v361.toNat]
def k0_off282 (v349 : BitVec 32) : Fin 2 → Nat :=
  let c17_i32_145 : BitVec 32 := 17#32
  let v366 : BitVec 32 := Scalar.shrui v349 c17_i32_145
  let c8191_i32_146 : BitVec 32 := 8191#32
  let v367 : BitVec 32 := Scalar.andi v366 c8191_i32_146
  let v370 : Index := Scalar.indexCast v367
  let c0_147 : Index := 0#32
  ![v370.toNat, 0]

def k0_chk62 (v349 : BitVec 32) : Prop :=
  (∀ a, (k0_off280 v349) a + S8x128.size a ≤ S114912x128.size a) ∧
  (∀ a, S28x128.size a = 0 ∨ (k0_off282 v349) a + (![8, 1] : Fin 2 → Nat) a * (S28x128.size a - 1) < S7392x128.size a)
theorem k0_off280_inb : ∀ (v349 : BitVec 32) (k0_hw62 : k0_chk62 v349), ∀ a, (k0_off280 v349) a + S8x128.size a ≤ S114912x128.size a := fun v349 k0_hw62 => k0_hw62.1
theorem k0_off282_inb : ∀ (v349 : BitVec 32) (k0_hw62 : k0_chk62 v349), ∀ a, S28x128.size a = 0 ∨ (k0_off282 v349) a + (![8, 1] : Fin 2 → Nat) a * (S28x128.size a - 1) < S7392x128.size a := fun v349 k0_hw62 => k0_hw62.2

def k0_off283 (v376 : BitVec 32) : Fin 2 → Nat :=
  let c131071_i32_149 : BitVec 32 := 131071#32
  let v377 : BitVec 32 := Scalar.andi v376 c131071_i32_149
  let v379 : Index := Scalar.indexCast v377
  let c0_150 : Index := 0#32
  ![v379.toNat, 0]

def k0_off284 (v1 : BitVec 32) (arg16 : BitVec 32) (v115 : BitVec 32) (k0_t19 : Fin (k0_t19_loop v1 arg16 v115).trips) (c8_i32_148 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v374 : BitVec 32 := Scalar.addi v157 c8_i32_148
  let v388 : Index := Scalar.indexCast v374
  ![v388.toNat]
def k0_off285 (v376 : BitVec 32) : Fin 2 → Nat :=
  let c17_i32_153 : BitVec 32 := 17#32
  let v393 : BitVec 32 := Scalar.shrui v376 c17_i32_153
  let c8191_i32_154 : BitVec 32 := 8191#32
  let v394 : BitVec 32 := Scalar.andi v393 c8191_i32_154
  let v397 : Index := Scalar.indexCast v394
  let c0_155 : Index := 0#32
  ![v397.toNat, 0]

def k0_chk63 (v376 : BitVec 32) : Prop :=
  (∀ a, (k0_off283 v376) a + S8x128.size a ≤ S114912x128.size a) ∧
  (∀ a, S28x128.size a = 0 ∨ (k0_off285 v376) a + (![8, 1] : Fin 2 → Nat) a * (S28x128.size a - 1) < S7392x128.size a)
theorem k0_off283_inb : ∀ (v376 : BitVec 32) (k0_hw63 : k0_chk63 v376), ∀ a, (k0_off283 v376) a + S8x128.size a ≤ S114912x128.size a := fun v376 k0_hw63 => k0_hw63.1
theorem k0_off285_inb : ∀ (v376 : BitVec 32) (k0_hw63 : k0_chk63 v376), ∀ a, S28x128.size a = 0 ∨ (k0_off285 v376) a + (![8, 1] : Fin 2 → Nat) a * (S28x128.size a - 1) < S7392x128.size a := fun v376 k0_hw63 => k0_hw63.2

def k0_off286 (v403 : BitVec 32) : Fin 2 → Nat :=
  let c131071_i32_156 : BitVec 32 := 131071#32
  let v404 : BitVec 32 := Scalar.andi v403 c131071_i32_156
  let v406 : Index := Scalar.indexCast v404
  let c0_157 : Index := 0#32
  ![v406.toNat, 0]

def k0_off287 (v1 : BitVec 32) (arg16 : BitVec 32) (v115 : BitVec 32) (k0_t19 : Fin (k0_t19_loop v1 arg16 v115).trips) (c9_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v401 : BitVec 32 := Scalar.addi v157 c9_i32
  let v415 : Index := Scalar.indexCast v401
  ![v415.toNat]
def k0_off288 (v403 : BitVec 32) : Fin 2 → Nat :=
  let c17_i32_160 : BitVec 32 := 17#32
  let v420 : BitVec 32 := Scalar.shrui v403 c17_i32_160
  let c8191_i32_161 : BitVec 32 := 8191#32
  let v421 : BitVec 32 := Scalar.andi v420 c8191_i32_161
  let v424 : Index := Scalar.indexCast v421
  let c0_162 : Index := 0#32
  ![v424.toNat, 0]

def k0_chk64 (v403 : BitVec 32) : Prop :=
  (∀ a, (k0_off286 v403) a + S8x128.size a ≤ S114912x128.size a) ∧
  (∀ a, S28x128.size a = 0 ∨ (k0_off288 v403) a + (![8, 1] : Fin 2 → Nat) a * (S28x128.size a - 1) < S7392x128.size a)
theorem k0_off286_inb : ∀ (v403 : BitVec 32) (k0_hw64 : k0_chk64 v403), ∀ a, (k0_off286 v403) a + S8x128.size a ≤ S114912x128.size a := fun v403 k0_hw64 => k0_hw64.1
theorem k0_off288_inb : ∀ (v403 : BitVec 32) (k0_hw64 : k0_chk64 v403), ∀ a, S28x128.size a = 0 ∨ (k0_off288 v403) a + (![8, 1] : Fin 2 → Nat) a * (S28x128.size a - 1) < S7392x128.size a := fun v403 k0_hw64 => k0_hw64.2

def k0_off289 (v430 : BitVec 32) : Fin 2 → Nat :=
  let c131071_i32_163 : BitVec 32 := 131071#32
  let v431 : BitVec 32 := Scalar.andi v430 c131071_i32_163
  let v433 : Index := Scalar.indexCast v431
  let c0_164 : Index := 0#32
  ![v433.toNat, 0]

def k0_off290 (v1 : BitVec 32) (arg16 : BitVec 32) (v115 : BitVec 32) (k0_t19 : Fin (k0_t19_loop v1 arg16 v115).trips) (c10_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v428 : BitVec 32 := Scalar.addi v157 c10_i32
  let v442 : Index := Scalar.indexCast v428
  ![v442.toNat]
def k0_off291 (v430 : BitVec 32) : Fin 2 → Nat :=
  let c17_i32_167 : BitVec 32 := 17#32
  let v447 : BitVec 32 := Scalar.shrui v430 c17_i32_167
  let c8191_i32_168 : BitVec 32 := 8191#32
  let v448 : BitVec 32 := Scalar.andi v447 c8191_i32_168
  let v451 : Index := Scalar.indexCast v448
  let c0_169 : Index := 0#32
  ![v451.toNat, 0]

def k0_chk65 (v430 : BitVec 32) : Prop :=
  (∀ a, (k0_off289 v430) a + S8x128.size a ≤ S114912x128.size a) ∧
  (∀ a, S28x128.size a = 0 ∨ (k0_off291 v430) a + (![8, 1] : Fin 2 → Nat) a * (S28x128.size a - 1) < S7392x128.size a)
theorem k0_off289_inb : ∀ (v430 : BitVec 32) (k0_hw65 : k0_chk65 v430), ∀ a, (k0_off289 v430) a + S8x128.size a ≤ S114912x128.size a := fun v430 k0_hw65 => k0_hw65.1
theorem k0_off291_inb : ∀ (v430 : BitVec 32) (k0_hw65 : k0_chk65 v430), ∀ a, S28x128.size a = 0 ∨ (k0_off291 v430) a + (![8, 1] : Fin 2 → Nat) a * (S28x128.size a - 1) < S7392x128.size a := fun v430 k0_hw65 => k0_hw65.2

def k0_off292 (v457 : BitVec 32) : Fin 2 → Nat :=
  let c131071_i32_170 : BitVec 32 := 131071#32
  let v458 : BitVec 32 := Scalar.andi v457 c131071_i32_170
  let v460 : Index := Scalar.indexCast v458
  let c0_171 : Index := 0#32
  ![v460.toNat, 0]

def k0_off293 (v1 : BitVec 32) (arg16 : BitVec 32) (v115 : BitVec 32) (k0_t19 : Fin (k0_t19_loop v1 arg16 v115).trips) (c11_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v455 : BitVec 32 := Scalar.addi v157 c11_i32
  let v469 : Index := Scalar.indexCast v455
  ![v469.toNat]
def k0_off294 (v457 : BitVec 32) : Fin 2 → Nat :=
  let c17_i32_174 : BitVec 32 := 17#32
  let v474 : BitVec 32 := Scalar.shrui v457 c17_i32_174
  let c8191_i32_175 : BitVec 32 := 8191#32
  let v475 : BitVec 32 := Scalar.andi v474 c8191_i32_175
  let v478 : Index := Scalar.indexCast v475
  let c0_176 : Index := 0#32
  ![v478.toNat, 0]

def k0_chk66 (v457 : BitVec 32) : Prop :=
  (∀ a, (k0_off292 v457) a + S8x128.size a ≤ S114912x128.size a) ∧
  (∀ a, S28x128.size a = 0 ∨ (k0_off294 v457) a + (![8, 1] : Fin 2 → Nat) a * (S28x128.size a - 1) < S7392x128.size a)
theorem k0_off292_inb : ∀ (v457 : BitVec 32) (k0_hw66 : k0_chk66 v457), ∀ a, (k0_off292 v457) a + S8x128.size a ≤ S114912x128.size a := fun v457 k0_hw66 => k0_hw66.1
theorem k0_off294_inb : ∀ (v457 : BitVec 32) (k0_hw66 : k0_chk66 v457), ∀ a, S28x128.size a = 0 ∨ (k0_off294 v457) a + (![8, 1] : Fin 2 → Nat) a * (S28x128.size a - 1) < S7392x128.size a := fun v457 k0_hw66 => k0_hw66.2

def k0_off295 (v484 : BitVec 32) : Fin 2 → Nat :=
  let c131071_i32_177 : BitVec 32 := 131071#32
  let v485 : BitVec 32 := Scalar.andi v484 c131071_i32_177
  let v487 : Index := Scalar.indexCast v485
  let c0_178 : Index := 0#32
  ![v487.toNat, 0]

def k0_off296 (v1 : BitVec 32) (arg16 : BitVec 32) (v115 : BitVec 32) (k0_t19 : Fin (k0_t19_loop v1 arg16 v115).trips) (c12_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v482 : BitVec 32 := Scalar.addi v157 c12_i32
  let v496 : Index := Scalar.indexCast v482
  ![v496.toNat]
def k0_off297 (v484 : BitVec 32) : Fin 2 → Nat :=
  let c17_i32_181 : BitVec 32 := 17#32
  let v501 : BitVec 32 := Scalar.shrui v484 c17_i32_181
  let c8191_i32_182 : BitVec 32 := 8191#32
  let v502 : BitVec 32 := Scalar.andi v501 c8191_i32_182
  let v505 : Index := Scalar.indexCast v502
  let c0_183 : Index := 0#32
  ![v505.toNat, 0]

def k0_chk67 (v484 : BitVec 32) : Prop :=
  (∀ a, (k0_off295 v484) a + S8x128.size a ≤ S114912x128.size a) ∧
  (∀ a, S28x128.size a = 0 ∨ (k0_off297 v484) a + (![8, 1] : Fin 2 → Nat) a * (S28x128.size a - 1) < S7392x128.size a)
theorem k0_off295_inb : ∀ (v484 : BitVec 32) (k0_hw67 : k0_chk67 v484), ∀ a, (k0_off295 v484) a + S8x128.size a ≤ S114912x128.size a := fun v484 k0_hw67 => k0_hw67.1
theorem k0_off297_inb : ∀ (v484 : BitVec 32) (k0_hw67 : k0_chk67 v484), ∀ a, S28x128.size a = 0 ∨ (k0_off297 v484) a + (![8, 1] : Fin 2 → Nat) a * (S28x128.size a - 1) < S7392x128.size a := fun v484 k0_hw67 => k0_hw67.2

def k0_off298 (v511 : BitVec 32) : Fin 2 → Nat :=
  let c131071_i32_184 : BitVec 32 := 131071#32
  let v512 : BitVec 32 := Scalar.andi v511 c131071_i32_184
  let v514 : Index := Scalar.indexCast v512
  let c0_185 : Index := 0#32
  ![v514.toNat, 0]

def k0_off299 (v1 : BitVec 32) (arg16 : BitVec 32) (v115 : BitVec 32) (k0_t19 : Fin (k0_t19_loop v1 arg16 v115).trips) (c13_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v509 : BitVec 32 := Scalar.addi v157 c13_i32
  let v523 : Index := Scalar.indexCast v509
  ![v523.toNat]
def k0_off300 (v511 : BitVec 32) : Fin 2 → Nat :=
  let c17_i32_188 : BitVec 32 := 17#32
  let v528 : BitVec 32 := Scalar.shrui v511 c17_i32_188
  let c8191_i32_189 : BitVec 32 := 8191#32
  let v529 : BitVec 32 := Scalar.andi v528 c8191_i32_189
  let v532 : Index := Scalar.indexCast v529
  let c0_190 : Index := 0#32
  ![v532.toNat, 0]

def k0_chk68 (v511 : BitVec 32) : Prop :=
  (∀ a, (k0_off298 v511) a + S8x128.size a ≤ S114912x128.size a) ∧
  (∀ a, S28x128.size a = 0 ∨ (k0_off300 v511) a + (![8, 1] : Fin 2 → Nat) a * (S28x128.size a - 1) < S7392x128.size a)
theorem k0_off298_inb : ∀ (v511 : BitVec 32) (k0_hw68 : k0_chk68 v511), ∀ a, (k0_off298 v511) a + S8x128.size a ≤ S114912x128.size a := fun v511 k0_hw68 => k0_hw68.1
theorem k0_off300_inb : ∀ (v511 : BitVec 32) (k0_hw68 : k0_chk68 v511), ∀ a, S28x128.size a = 0 ∨ (k0_off300 v511) a + (![8, 1] : Fin 2 → Nat) a * (S28x128.size a - 1) < S7392x128.size a := fun v511 k0_hw68 => k0_hw68.2

def k0_off301 (v538 : BitVec 32) : Fin 2 → Nat :=
  let c131071_i32_191 : BitVec 32 := 131071#32
  let v539 : BitVec 32 := Scalar.andi v538 c131071_i32_191
  let v541 : Index := Scalar.indexCast v539
  let c0_192 : Index := 0#32
  ![v541.toNat, 0]

def k0_off302 (v1 : BitVec 32) (arg16 : BitVec 32) (v115 : BitVec 32) (k0_t19 : Fin (k0_t19_loop v1 arg16 v115).trips) (c14_i32 : BitVec 32) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let v536 : BitVec 32 := Scalar.addi v157 c14_i32
  let v550 : Index := Scalar.indexCast v536
  ![v550.toNat]
def k0_off303 (v538 : BitVec 32) : Fin 2 → Nat :=
  let c17_i32_195 : BitVec 32 := 17#32
  let v555 : BitVec 32 := Scalar.shrui v538 c17_i32_195
  let c8191_i32_196 : BitVec 32 := 8191#32
  let v556 : BitVec 32 := Scalar.andi v555 c8191_i32_196
  let v559 : Index := Scalar.indexCast v556
  let c0_197 : Index := 0#32
  ![v559.toNat, 0]

def k0_chk69 (v538 : BitVec 32) : Prop :=
  (∀ a, (k0_off301 v538) a + S8x128.size a ≤ S114912x128.size a) ∧
  (∀ a, S28x128.size a = 0 ∨ (k0_off303 v538) a + (![8, 1] : Fin 2 → Nat) a * (S28x128.size a - 1) < S7392x128.size a)
theorem k0_off301_inb : ∀ (v538 : BitVec 32) (k0_hw69 : k0_chk69 v538), ∀ a, (k0_off301 v538) a + S8x128.size a ≤ S114912x128.size a := fun v538 k0_hw69 => k0_hw69.1
theorem k0_off303_inb : ∀ (v538 : BitVec 32) (k0_hw69 : k0_chk69 v538), ∀ a, S28x128.size a = 0 ∨ (k0_off303 v538) a + (![8, 1] : Fin 2 → Nat) a * (S28x128.size a - 1) < S7392x128.size a := fun v538 k0_hw69 => k0_hw69.2

def k0_off304 (v565 : BitVec 32) : Fin 2 → Nat :=
  let c131071_i32_198 : BitVec 32 := 131071#32
  let v566 : BitVec 32 := Scalar.andi v565 c131071_i32_198
  let v568 : Index := Scalar.indexCast v566
  let c0_199 : Index := 0#32
  ![v568.toNat, 0]

def k0_off305 (v1 : BitVec 32) (arg16 : BitVec 32) (v115 : BitVec 32) (k0_t19 : Fin (k0_t19_loop v1 arg16 v115).trips) : Fin 1 → Nat :=
  let v116 : BitVec 32 := Scalar.subi v115 v1
  let c16_i32_68 : BitVec 32 := 16#32
  let v117 : BitVec 32 := Scalar.addi v116 c16_i32_68
  let c1_i32_69 : BitVec 32 := 1#32
  let v118 : BitVec 32 := Scalar.subi v117 c1_i32_69
  let c0_i32_71 : BitVec 32 := 0#32
  let v120 : BitVec 1 := Scalar.cmpi .sgt v118 c0_i32_71
  let v121 : BitVec 32 := Scalar.extui v120
  let c0_i32_72 : BitVec 32 := 0#32
  let v122 : BitVec 1 := Scalar.cmpi .slt v118 c0_i32_72
  let v123 : BitVec 32 := Scalar.extui v122
  let v124 : BitVec 32 := Scalar.subi v121 v123
  let c16_i32_70 : BitVec 32 := 16#32
  let c0_i32_73 : BitVec 32 := 0#32
  let v125 : BitVec 1 := Scalar.cmpi .sgt c16_i32_70 c0_i32_73
  let v126 : BitVec 32 := Scalar.extui v125
  let c0_i32_74 : BitVec 32 := 0#32
  let v127 : BitVec 1 := Scalar.cmpi .slt c16_i32_70 c0_i32_74
  let v128 : BitVec 32 := Scalar.extui v127
  let v129 : BitVec 32 := Scalar.subi v126 v128
  let v130 : BitVec 1 := Scalar.cmpi .ne v124 v129
  let v131 : BitVec 32 := Scalar.remsi v118 c16_i32_70
  let c0_i32_75 : BitVec 32 := 0#32
  let v132 : BitVec 1 := Scalar.cmpi .ne v131 c0_i32_75
  let v133 : BitVec 1 := Scalar.andi v130 v132
  let v119 : BitVec 32 := Scalar.divsi v118 c16_i32_70
  let c1_i32_76 : BitVec 32 := 1#32
  let v134 : BitVec 32 := Scalar.subi v119 c1_i32_76
  let v135 : BitVec 32 := Scalar.select v133 v134 v119
  let v136 : BitVec 32 := Scalar.maxsi v135 arg16
  let v137 : BitVec 32 := Scalar.subi v136 arg16
  let c1_i32_77 : BitVec 32 := 1#32
  let v139 : BitVec 32 := Scalar.divsi v137 c1_i32_77
  let v140 : BitVec 32 := Scalar.muli v139 c1_i32_77
  let v141 : BitVec 32 := Scalar.addi arg16 v140
  let c1_i32_79 : BitVec 32 := 1#32
  let arg18 : BitVec 32 := Scf.iv v141 c1_i32_79 k0_t19
  let c16_i32_88 : BitVec 32 := 16#32
  let v156 : BitVec 32 := Scalar.muli arg18 c16_i32_88
  let v157 : BitVec 32 := Scalar.addi v1 v156
  let c15_i32 : BitVec 32 := 15#32
  let v563 : BitVec 32 := Scalar.addi v157 c15_i32
  let v577 : Index := Scalar.indexCast v563
  ![v577.toNat]

def k0_chk38_0 (v1 : BitVec 32) (arg16 : BitVec 32) (v115 : BitVec 32) : Prop :=
  ((k0_t18_loop v1 arg16 v115).OK) ∧
  (∀ k0_t18 : Fin (k0_t18_loop v1 arg16 v115).trips, ∀ a, (k0_off209 v1 arg16 v115 k0_t18) a + S1.size a ≤ S17408.size a) ∧
  (∀ k0_t18 : Fin (k0_t18_loop v1 arg16 v115).trips, ∀ (r : Fin 2), ∀ a, (k0_off211 v1 arg16 v115 k0_t18 (BitVec.ofNat 32 r.val)) a + S1.size a ≤ S17408.size a) ∧
  (∀ k0_t18 : Fin (k0_t18_loop v1 arg16 v115).trips, ∀ (r : Fin 2), ∀ a, (k0_off214 v1 arg16 v115 k0_t18 (BitVec.ofNat 32 (1 + r.val))) a + S1.size a ≤ S17408.size a) ∧
  (∀ k0_t18 : Fin (k0_t18_loop v1 arg16 v115).trips, ∀ (r : Fin 2), ∀ a, (k0_off217 v1 arg16 v115 k0_t18 (BitVec.ofNat 32 (2 + r.val))) a + S1.size a ≤ S17408.size a) ∧
  (∀ k0_t18 : Fin (k0_t18_loop v1 arg16 v115).trips, ∀ (r : Fin 2), ∀ a, (k0_off220 v1 arg16 v115 k0_t18 (BitVec.ofNat 32 (3 + r.val))) a + S1.size a ≤ S17408.size a) ∧
  (∀ k0_t18 : Fin (k0_t18_loop v1 arg16 v115).trips, ∀ (r : Fin 2), ∀ a, (k0_off223 v1 arg16 v115 k0_t18 (BitVec.ofNat 32 (4 + r.val))) a + S1.size a ≤ S17408.size a) ∧
  (∀ k0_t18 : Fin (k0_t18_loop v1 arg16 v115).trips, ∀ (r : Fin 2), ∀ a, (k0_off226 v1 arg16 v115 k0_t18 (BitVec.ofNat 32 (5 + r.val))) a + S1.size a ≤ S17408.size a) ∧
  (∀ k0_t18 : Fin (k0_t18_loop v1 arg16 v115).trips, ∀ (r : Fin 2), ∀ a, (k0_off229 v1 arg16 v115 k0_t18 (BitVec.ofNat 32 (6 + r.val))) a + S1.size a ≤ S17408.size a) ∧
  (∀ k0_t18 : Fin (k0_t18_loop v1 arg16 v115).trips, ∀ (r : Fin 2), ∀ a, (k0_off232 v1 arg16 v115 k0_t18 (BitVec.ofNat 32 (7 + r.val))) a + S1.size a ≤ S17408.size a) ∧
  (∀ k0_t18 : Fin (k0_t18_loop v1 arg16 v115).trips, ∀ (r : Fin 2), ∀ a, (k0_off235 v1 arg16 v115 k0_t18 (BitVec.ofNat 32 (8 + r.val))) a + S1.size a ≤ S17408.size a) ∧
  (∀ k0_t18 : Fin (k0_t18_loop v1 arg16 v115).trips, ∀ (r : Fin 2), ∀ a, (k0_off238 v1 arg16 v115 k0_t18 (BitVec.ofNat 32 (9 + r.val))) a + S1.size a ≤ S17408.size a) ∧
  (∀ k0_t18 : Fin (k0_t18_loop v1 arg16 v115).trips, ∀ (r : Fin 2), ∀ a, (k0_off241 v1 arg16 v115 k0_t18 (BitVec.ofNat 32 (10 + r.val))) a + S1.size a ≤ S17408.size a) ∧
  (∀ k0_t18 : Fin (k0_t18_loop v1 arg16 v115).trips, ∀ (r : Fin 2), ∀ a, (k0_off244 v1 arg16 v115 k0_t18 (BitVec.ofNat 32 (11 + r.val))) a + S1.size a ≤ S17408.size a) ∧
  (∀ k0_t18 : Fin (k0_t18_loop v1 arg16 v115).trips, ∀ (r : Fin 2), ∀ a, (k0_off247 v1 arg16 v115 k0_t18 (BitVec.ofNat 32 (12 + r.val))) a + S1.size a ≤ S17408.size a) ∧
  (∀ k0_t18 : Fin (k0_t18_loop v1 arg16 v115).trips, ∀ (r : Fin 2), ∀ a, (k0_off250 v1 arg16 v115 k0_t18 (BitVec.ofNat 32 (13 + r.val))) a + S1.size a ≤ S17408.size a) ∧
  (∀ k0_t18 : Fin (k0_t18_loop v1 arg16 v115).trips, ∀ (r : Fin 2), ∀ a, (k0_off253 v1 arg16 v115 k0_t18 (BitVec.ofNat 32 (14 + r.val))) a + S1.size a ≤ S17408.size a) ∧
  (∀ k0_t18 : Fin (k0_t18_loop v1 arg16 v115).trips, ∀ a, (k0_off256 v1 arg16 v115 k0_t18) a + S1.size a ≤ S17408.size a) ∧
  ((k0_t19_loop v1 arg16 v115).OK) ∧
  (∀ k0_t19 : Fin (k0_t19_loop v1 arg16 v115).trips, ∀ a, (k0_off258 v1 arg16 v115 k0_t19) a + S1.size a ≤ S17408.size a) ∧
  (∀ k0_t19 : Fin (k0_t19_loop v1 arg16 v115).trips, ∀ (r : Fin 2), ∀ a, (k0_off260 v1 arg16 v115 k0_t19 (BitVec.ofNat 32 r.val)) a + S1.size a ≤ S17408.size a) ∧
  (∀ k0_t19 : Fin (k0_t19_loop v1 arg16 v115).trips, ∀ (r : Fin 2), ∀ a, (k0_off263 v1 arg16 v115 k0_t19 (BitVec.ofNat 32 (1 + r.val))) a + S1.size a ≤ S17408.size a) ∧
  (∀ k0_t19 : Fin (k0_t19_loop v1 arg16 v115).trips, ∀ (r : Fin 2), ∀ a, (k0_off266 v1 arg16 v115 k0_t19 (BitVec.ofNat 32 (2 + r.val))) a + S1.size a ≤ S17408.size a) ∧
  (∀ k0_t19 : Fin (k0_t19_loop v1 arg16 v115).trips, ∀ (r : Fin 2), ∀ a, (k0_off269 v1 arg16 v115 k0_t19 (BitVec.ofNat 32 (3 + r.val))) a + S1.size a ≤ S17408.size a) ∧
  (∀ k0_t19 : Fin (k0_t19_loop v1 arg16 v115).trips, ∀ (r : Fin 2), ∀ a, (k0_off272 v1 arg16 v115 k0_t19 (BitVec.ofNat 32 (4 + r.val))) a + S1.size a ≤ S17408.size a) ∧
  (∀ k0_t19 : Fin (k0_t19_loop v1 arg16 v115).trips, ∀ (r : Fin 2), ∀ a, (k0_off275 v1 arg16 v115 k0_t19 (BitVec.ofNat 32 (5 + r.val))) a + S1.size a ≤ S17408.size a) ∧
  (∀ k0_t19 : Fin (k0_t19_loop v1 arg16 v115).trips, ∀ (r : Fin 2), ∀ a, (k0_off278 v1 arg16 v115 k0_t19 (BitVec.ofNat 32 (6 + r.val))) a + S1.size a ≤ S17408.size a) ∧
  (∀ k0_t19 : Fin (k0_t19_loop v1 arg16 v115).trips, ∀ (r : Fin 2), ∀ a, (k0_off281 v1 arg16 v115 k0_t19 (BitVec.ofNat 32 (7 + r.val))) a + S1.size a ≤ S17408.size a) ∧
  (∀ k0_t19 : Fin (k0_t19_loop v1 arg16 v115).trips, ∀ (r : Fin 2), ∀ a, (k0_off284 v1 arg16 v115 k0_t19 (BitVec.ofNat 32 (8 + r.val))) a + S1.size a ≤ S17408.size a) ∧
  (∀ k0_t19 : Fin (k0_t19_loop v1 arg16 v115).trips, ∀ (r : Fin 2), ∀ a, (k0_off287 v1 arg16 v115 k0_t19 (BitVec.ofNat 32 (9 + r.val))) a + S1.size a ≤ S17408.size a) ∧
  (∀ k0_t19 : Fin (k0_t19_loop v1 arg16 v115).trips, ∀ (r : Fin 2), ∀ a, (k0_off290 v1 arg16 v115 k0_t19 (BitVec.ofNat 32 (10 + r.val))) a + S1.size a ≤ S17408.size a) ∧
  (∀ k0_t19 : Fin (k0_t19_loop v1 arg16 v115).trips, ∀ (r : Fin 2), ∀ a, (k0_off293 v1 arg16 v115 k0_t19 (BitVec.ofNat 32 (11 + r.val))) a + S1.size a ≤ S17408.size a)
def k0_chk38_1 (v1 : BitVec 32) (arg16 : BitVec 32) (v115 : BitVec 32) : Prop :=
  (∀ k0_t19 : Fin (k0_t19_loop v1 arg16 v115).trips, ∀ (r : Fin 2), ∀ a, (k0_off296 v1 arg16 v115 k0_t19 (BitVec.ofNat 32 (12 + r.val))) a + S1.size a ≤ S17408.size a) ∧
  (∀ k0_t19 : Fin (k0_t19_loop v1 arg16 v115).trips, ∀ (r : Fin 2), ∀ a, (k0_off299 v1 arg16 v115 k0_t19 (BitVec.ofNat 32 (13 + r.val))) a + S1.size a ≤ S17408.size a) ∧
  (∀ k0_t19 : Fin (k0_t19_loop v1 arg16 v115).trips, ∀ (r : Fin 2), ∀ a, (k0_off302 v1 arg16 v115 k0_t19 (BitVec.ofNat 32 (14 + r.val))) a + S1.size a ≤ S17408.size a) ∧
  (∀ k0_t19 : Fin (k0_t19_loop v1 arg16 v115).trips, ∀ a, (k0_off305 v1 arg16 v115 k0_t19) a + S1.size a ≤ S17408.size a)
def k0_chk38 (v1 : BitVec 32) (arg16 : BitVec 32) (v115 : BitVec 32) : Prop :=
  k0_chk38_0 v1 arg16 v115 ∧
  k0_chk38_1 v1 arg16 v115
theorem k0_t18_ok : ∀ (v1 : BitVec 32) (arg16 : BitVec 32) (v115 : BitVec 32) (k0_hw38 : k0_chk38 v1 arg16 v115), (k0_t18_loop v1 arg16 v115).OK := fun v1 arg16 v115 k0_hw38 => k0_hw38.1.1
theorem k0_off209_inb : ∀ (v1 : BitVec 32) (arg16 : BitVec 32) (v115 : BitVec 32) (k0_hw38 : k0_chk38 v1 arg16 v115) (k0_t18 : Fin (k0_t18_loop v1 arg16 v115).trips), ∀ a, (k0_off209 v1 arg16 v115 k0_t18) a + S1.size a ≤ S17408.size a := fun v1 arg16 v115 k0_hw38 k0_t18 => k0_hw38.1.2.1 k0_t18
theorem k0_off211_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off211 v1 arg16 v115 k0_t18 (BitVec.ofNat 32 r.val)) a + S1.size a ≤ S17408.size a := fun v1 arg16 v115 k0_hw38 k0_t18 r => k0_hw38.1.2.2.1 k0_t18 r
theorem k0_off214_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off214 v1 arg16 v115 k0_t18 (BitVec.ofNat 32 (1 + r.val))) a + S1.size a ≤ S17408.size a := fun v1 arg16 v115 k0_hw38 k0_t18 r => k0_hw38.1.2.2.2.1 k0_t18 r
theorem k0_off217_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off217 v1 arg16 v115 k0_t18 (BitVec.ofNat 32 (2 + r.val))) a + S1.size a ≤ S17408.size a := fun v1 arg16 v115 k0_hw38 k0_t18 r => k0_hw38.1.2.2.2.2.1 k0_t18 r
theorem k0_off220_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off220 v1 arg16 v115 k0_t18 (BitVec.ofNat 32 (3 + r.val))) a + S1.size a ≤ S17408.size a := fun v1 arg16 v115 k0_hw38 k0_t18 r => k0_hw38.1.2.2.2.2.2.1 k0_t18 r
theorem k0_off223_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off223 v1 arg16 v115 k0_t18 (BitVec.ofNat 32 (4 + r.val))) a + S1.size a ≤ S17408.size a := fun v1 arg16 v115 k0_hw38 k0_t18 r => k0_hw38.1.2.2.2.2.2.2.1 k0_t18 r
theorem k0_off226_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off226 v1 arg16 v115 k0_t18 (BitVec.ofNat 32 (5 + r.val))) a + S1.size a ≤ S17408.size a := fun v1 arg16 v115 k0_hw38 k0_t18 r => k0_hw38.1.2.2.2.2.2.2.2.1 k0_t18 r
theorem k0_off229_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off229 v1 arg16 v115 k0_t18 (BitVec.ofNat 32 (6 + r.val))) a + S1.size a ≤ S17408.size a := fun v1 arg16 v115 k0_hw38 k0_t18 r => k0_hw38.1.2.2.2.2.2.2.2.2.1 k0_t18 r
theorem k0_off232_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off232 v1 arg16 v115 k0_t18 (BitVec.ofNat 32 (7 + r.val))) a + S1.size a ≤ S17408.size a := fun v1 arg16 v115 k0_hw38 k0_t18 r => k0_hw38.1.2.2.2.2.2.2.2.2.2.1 k0_t18 r
theorem k0_off235_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off235 v1 arg16 v115 k0_t18 (BitVec.ofNat 32 (8 + r.val))) a + S1.size a ≤ S17408.size a := fun v1 arg16 v115 k0_hw38 k0_t18 r => k0_hw38.1.2.2.2.2.2.2.2.2.2.2.1 k0_t18 r
theorem k0_off238_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off238 v1 arg16 v115 k0_t18 (BitVec.ofNat 32 (9 + r.val))) a + S1.size a ≤ S17408.size a := fun v1 arg16 v115 k0_hw38 k0_t18 r => k0_hw38.1.2.2.2.2.2.2.2.2.2.2.2.1 k0_t18 r
theorem k0_off241_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off241 v1 arg16 v115 k0_t18 (BitVec.ofNat 32 (10 + r.val))) a + S1.size a ≤ S17408.size a := fun v1 arg16 v115 k0_hw38 k0_t18 r => k0_hw38.1.2.2.2.2.2.2.2.2.2.2.2.2.1 k0_t18 r
theorem k0_off244_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off244 v1 arg16 v115 k0_t18 (BitVec.ofNat 32 (11 + r.val))) a + S1.size a ≤ S17408.size a := fun v1 arg16 v115 k0_hw38 k0_t18 r => k0_hw38.1.2.2.2.2.2.2.2.2.2.2.2.2.2.1 k0_t18 r
theorem k0_off247_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off247 v1 arg16 v115 k0_t18 (BitVec.ofNat 32 (12 + r.val))) a + S1.size a ≤ S17408.size a := fun v1 arg16 v115 k0_hw38 k0_t18 r => k0_hw38.1.2.2.2.2.2.2.2.2.2.2.2.2.2.2.1 k0_t18 r
theorem k0_off250_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off250 v1 arg16 v115 k0_t18 (BitVec.ofNat 32 (13 + r.val))) a + S1.size a ≤ S17408.size a := fun v1 arg16 v115 k0_hw38 k0_t18 r => k0_hw38.1.2.2.2.2.2.2.2.2.2.2.2.2.2.2.2.1 k0_t18 r
theorem k0_off253_inb : ∀ (v1 : BitVec 32) (arg16 : BitVec 32) (v115 : BitVec 32) (k0_hw38 : k0_chk38 v1 arg16 v115) (k0_t18 : Fin (k0_t18_loop v1 arg16 v115).trips), ∀ (r : Fin 2), ∀ a, (k0_off253 v1 arg16 v115 k0_t18 (BitVec.ofNat 32 (14 + r.val))) a + S1.size a ≤ S17408.size a := fun v1 arg16 v115 k0_hw38 k0_t18 r => k0_hw38.1.2.2.2.2.2.2.2.2.2.2.2.2.2.2.2.2.1 k0_t18 r
theorem k0_off256_inb : ∀ (v1 : BitVec 32) (arg16 : BitVec 32) (v115 : BitVec 32) (k0_hw38 : k0_chk38 v1 arg16 v115) (k0_t18 : Fin (k0_t18_loop v1 arg16 v115).trips), ∀ a, (k0_off256 v1 arg16 v115 k0_t18) a + S1.size a ≤ S17408.size a := fun v1 arg16 v115 k0_hw38 k0_t18 => k0_hw38.1.2.2.2.2.2.2.2.2.2.2.2.2.2.2.2.2.2.1 k0_t18
theorem k0_t19_ok : ∀ (v1 : BitVec 32) (arg16 : BitVec 32) (v115 : BitVec 32) (k0_hw38 : k0_chk38 v1 arg16 v115), (k0_t19_loop v1 arg16 v115).OK := fun v1 arg16 v115 k0_hw38 => k0_hw38.1.2.2.2.2.2.2.2.2.2.2.2.2.2.2.2.2.2.2.1
theorem k0_off258_inb : ∀ (v1 : BitVec 32) (arg16 : BitVec 32) (v115 : BitVec 32) (k0_hw38 : k0_chk38 v1 arg16 v115) (k0_t19 : Fin (k0_t19_loop v1 arg16 v115).trips), ∀ a, (k0_off258 v1 arg16 v115 k0_t19) a + S1.size a ≤ S17408.size a := fun v1 arg16 v115 k0_hw38 k0_t19 => k0_hw38.1.2.2.2.2.2.2.2.2.2.2.2.2.2.2.2.2.2.2.2.1 k0_t19
theorem k0_off260_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off260 v1 arg16 v115 k0_t19 (BitVec.ofNat 32 r.val)) a + S1.size a ≤ S17408.size a := fun v1 arg16 v115 k0_hw38 k0_t19 r => k0_hw38.1.2.2.2.2.2.2.2.2.2.2.2.2.2.2.2.2.2.2.2.2.1 k0_t19 r
theorem k0_off263_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off263 v1 arg16 v115 k0_t19 (BitVec.ofNat 32 (1 + r.val))) a + S1.size a ≤ S17408.size a := fun v1 arg16 v115 k0_hw38 k0_t19 r => k0_hw38.1.2.2.2.2.2.2.2.2.2.2.2.2.2.2.2.2.2.2.2.2.2.1 k0_t19 r
theorem k0_off266_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off266 v1 arg16 v115 k0_t19 (BitVec.ofNat 32 (2 + r.val))) a + S1.size a ≤ S17408.size a := fun v1 arg16 v115 k0_hw38 k0_t19 r => k0_hw38.1.2.2.2.2.2.2.2.2.2.2.2.2.2.2.2.2.2.2.2.2.2.2.1 k0_t19 r
theorem k0_off269_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off269 v1 arg16 v115 k0_t19 (BitVec.ofNat 32 (3 + r.val))) a + S1.size a ≤ S17408.size a := fun v1 arg16 v115 k0_hw38 k0_t19 r => k0_hw38.1.2.2.2.2.2.2.2.2.2.2.2.2.2.2.2.2.2.2.2.2.2.2.2.1 k0_t19 r
theorem k0_off272_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off272 v1 arg16 v115 k0_t19 (BitVec.ofNat 32 (4 + r.val))) a + S1.size a ≤ S17408.size a := fun v1 arg16 v115 k0_hw38 k0_t19 r => k0_hw38.1.2.2.2.2.2.2.2.2.2.2.2.2.2.2.2.2.2.2.2.2.2.2.2.2.1 k0_t19 r
theorem k0_off275_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off275 v1 arg16 v115 k0_t19 (BitVec.ofNat 32 (5 + r.val))) a + S1.size a ≤ S17408.size a := fun v1 arg16 v115 k0_hw38 k0_t19 r => k0_hw38.1.2.2.2.2.2.2.2.2.2.2.2.2.2.2.2.2.2.2.2.2.2.2.2.2.2.1 k0_t19 r
theorem k0_off278_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off278 v1 arg16 v115 k0_t19 (BitVec.ofNat 32 (6 + r.val))) a + S1.size a ≤ S17408.size a := fun v1 arg16 v115 k0_hw38 k0_t19 r => k0_hw38.1.2.2.2.2.2.2.2.2.2.2.2.2.2.2.2.2.2.2.2.2.2.2.2.2.2.2.1 k0_t19 r
theorem k0_off281_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off281 v1 arg16 v115 k0_t19 (BitVec.ofNat 32 (7 + r.val))) a + S1.size a ≤ S17408.size a := fun v1 arg16 v115 k0_hw38 k0_t19 r => k0_hw38.1.2.2.2.2.2.2.2.2.2.2.2.2.2.2.2.2.2.2.2.2.2.2.2.2.2.2.2.1 k0_t19 r
theorem k0_off284_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off284 v1 arg16 v115 k0_t19 (BitVec.ofNat 32 (8 + r.val))) a + S1.size a ≤ S17408.size a := fun v1 arg16 v115 k0_hw38 k0_t19 r => k0_hw38.1.2.2.2.2.2.2.2.2.2.2.2.2.2.2.2.2.2.2.2.2.2.2.2.2.2.2.2.2.1 k0_t19 r
theorem k0_off287_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off287 v1 arg16 v115 k0_t19 (BitVec.ofNat 32 (9 + r.val))) a + S1.size a ≤ S17408.size a := fun v1 arg16 v115 k0_hw38 k0_t19 r => k0_hw38.1.2.2.2.2.2.2.2.2.2.2.2.2.2.2.2.2.2.2.2.2.2.2.2.2.2.2.2.2.2.1 k0_t19 r
theorem k0_off290_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off290 v1 arg16 v115 k0_t19 (BitVec.ofNat 32 (10 + r.val))) a + S1.size a ≤ S17408.size a := fun v1 arg16 v115 k0_hw38 k0_t19 r => k0_hw38.1.2.2.2.2.2.2.2.2.2.2.2.2.2.2.2.2.2.2.2.2.2.2.2.2.2.2.2.2.2.2.1 k0_t19 r
theorem k0_off293_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off293 v1 arg16 v115 k0_t19 (BitVec.ofNat 32 (11 + r.val))) a + S1.size a ≤ S17408.size a := fun v1 arg16 v115 k0_hw38 k0_t19 r => k0_hw38.1.2.2.2.2.2.2.2.2.2.2.2.2.2.2.2.2.2.2.2.2.2.2.2.2.2.2.2.2.2.2.2 k0_t19 r
theorem k0_off296_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off296 v1 arg16 v115 k0_t19 (BitVec.ofNat 32 (12 + r.val))) a + S1.size a ≤ S17408.size a := fun v1 arg16 v115 k0_hw38 k0_t19 r => k0_hw38.2.1 k0_t19 r
theorem k0_off299_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off299 v1 arg16 v115 k0_t19 (BitVec.ofNat 32 (13 + r.val))) a + S1.size a ≤ S17408.size a := fun v1 arg16 v115 k0_hw38 k0_t19 r => k0_hw38.2.2.1 k0_t19 r
theorem k0_off302_inb : ∀ (v1 : BitVec 32) (arg16 : BitVec 32) (v115 : BitVec 32) (k0_hw38 : k0_chk38 v1 arg16 v115) (k0_t19 : Fin (k0_t19_loop v1 arg16 v115).trips), ∀ (r : Fin 2), ∀ a, (k0_off302 v1 arg16 v115 k0_t19 (BitVec.ofNat 32 (14 + r.val))) a + S1.size a ≤ S17408.size a := fun v1 arg16 v115 k0_hw38 k0_t19 r => k0_hw38.2.2.2.1 k0_t19 r
theorem k0_off305_inb : ∀ (v1 : BitVec 32) (arg16 : BitVec 32) (v115 : BitVec 32) (k0_hw38 : k0_chk38 v1 arg16 v115) (k0_t19 : Fin (k0_t19_loop v1 arg16 v115).trips), ∀ a, (k0_off305 v1 arg16 v115 k0_t19) a + S1.size a ≤ S17408.size a := fun v1 arg16 v115 k0_hw38 k0_t19 => k0_hw38.2.2.2.2 k0_t19

def k0_off306 (v565 : BitVec 32) : Fin 2 → Nat :=
  let c17_i32_202 : BitVec 32 := 17#32
  let v582 : BitVec 32 := Scalar.shrui v565 c17_i32_202
  let c8191_i32_203 : BitVec 32 := 8191#32
  let v583 : BitVec 32 := Scalar.andi v582 c8191_i32_203
  let v586 : Index := Scalar.indexCast v583
  let c0_204 : Index := 0#32
  ![v586.toNat, 0]

def k0_chk70 (v565 : BitVec 32) : Prop :=
  (∀ a, (k0_off304 v565) a + S8x128.size a ≤ S114912x128.size a) ∧
  (∀ a, S28x128.size a = 0 ∨ (k0_off306 v565) a + (![8, 1] : Fin 2 → Nat) a * (S28x128.size a - 1) < S7392x128.size a)
theorem k0_off304_inb : ∀ (v565 : BitVec 32) (k0_hw70 : k0_chk70 v565), ∀ a, (k0_off304 v565) a + S8x128.size a ≤ S114912x128.size a := fun v565 k0_hw70 => k0_hw70.1
theorem k0_off306_inb : ∀ (v565 : BitVec 32) (k0_hw70 : k0_chk70 v565), ∀ a, S28x128.size a = 0 ∨ (k0_off306 v565) a + (![8, 1] : Fin 2 → Nat) a * (S28x128.size a - 1) < S7392x128.size a := fun v565 k0_hw70 => k0_hw70.2

@[reducible] def k0_t20_loop (v0 : BitVec 32) : Scf.Loop 32 :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c64_i32_88 : BitVec 32 := 64#32
  let v156 : BitVec 32 := Scalar.muli v20 c64_i32_88
  let v157 : BitVec 32 := Scalar.subi v156 v0
  let c1_i32_90 : BitVec 32 := 1#32
  let v159 : BitVec 32 := Scalar.divsi v157 c1_i32_90
  let v160 : BitVec 32 := Scalar.muli v159 c1_i32_90
  let v161 : BitVec 32 := Scalar.addi v0 v160
  let c1_i32_91 : BitVec 32 := 1#32
  ⟨v0, v161, c1_i32_91⟩
def k0_cond4 (v0 : BitVec 32) (k0_t15 : Fin (k0_t15_loop v0).trips) : BitVec 1 :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c1_i32_80 : BitVec 32 := 1#32
  let v144 : BitVec 32 := Scalar.subi v20 c1_i32_80
  let v145 : BitVec 1 := Scalar.cmpi .eq arg14 v144
  let v146 : BitVec 32 := Scalar.extui v145
  let c0_i32_81 : BitVec 32 := 0#32
  let v147 : BitVec 1 := Scalar.cmpi .ne v146 c0_i32_81
  v147

def k0_off307 (v0 : BitVec 32) (k0_t20 : Fin (k0_t20_loop v0).trips) : Fin 2 → Nat :=
  let c1_i32_91 : BitVec 32 := 1#32
  let arg18 : BitVec 32 := Scf.iv v0 c1_i32_91 k0_t20
  let c3_i32_93 : BitVec 32 := 3#32
  let v164 : BitVec 32 := Scalar.shrui arg18 c3_i32_93
  let c31_i32_94 : BitVec 32 := 31#32
  let v165 : BitVec 32 := Scalar.andi v164 c31_i32_94
  let c224_i32_95 : BitVec 32 := 224#32
  let v166 : BitVec 32 := Scalar.muli v165 c224_i32_95
  let c7_i32_96 : BitVec 32 := 7#32
  let v167 : BitVec 32 := Scalar.andi arg18 c7_i32_96
  let v168 : BitVec 32 := Scalar.addi v166 v167
  let v170 : Index := Scalar.indexCast v168
  let c0_97 : Index := 0#32
  ![v170.toNat, 0]
@[reducible] def k0_t21_loop (v0 : BitVec 32) : Scf.Loop 32 :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c64_i32_88 : BitVec 32 := 64#32
  let v156 : BitVec 32 := Scalar.muli v20 c64_i32_88
  let v157 : BitVec 32 := Scalar.subi v156 v0
  let c1_i32_90 : BitVec 32 := 1#32
  let v159 : BitVec 32 := Scalar.divsi v157 c1_i32_90
  let v160 : BitVec 32 := Scalar.muli v159 c1_i32_90
  let v161 : BitVec 32 := Scalar.addi v0 v160
  let v158 : BitVec 32 := Scalar.addi v0 v157
  let c1_i32_92 : BitVec 32 := 1#32
  ⟨v161, v158, c1_i32_92⟩
def k0_off308 (v0 : BitVec 32) (k0_t21 : Fin (k0_t21_loop v0).trips) : Fin 2 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c64_i32_88 : BitVec 32 := 64#32
  let v156 : BitVec 32 := Scalar.muli v20 c64_i32_88
  let v157 : BitVec 32 := Scalar.subi v156 v0
  let c1_i32_90 : BitVec 32 := 1#32
  let v159 : BitVec 32 := Scalar.divsi v157 c1_i32_90
  let v160 : BitVec 32 := Scalar.muli v159 c1_i32_90
  let v161 : BitVec 32 := Scalar.addi v0 v160
  let c1_i32_92 : BitVec 32 := 1#32
  let arg18 : BitVec 32 := Scf.iv v161 c1_i32_92 k0_t21
  let c3_i32_93 : BitVec 32 := 3#32
  let v164 : BitVec 32 := Scalar.shrui arg18 c3_i32_93
  let c31_i32_94 : BitVec 32 := 31#32
  let v165 : BitVec 32 := Scalar.andi v164 c31_i32_94
  let c224_i32_95 : BitVec 32 := 224#32
  let v166 : BitVec 32 := Scalar.muli v165 c224_i32_95
  let c7_i32_96 : BitVec 32 := 7#32
  let v167 : BitVec 32 := Scalar.andi arg18 c7_i32_96
  let v168 : BitVec 32 := Scalar.addi v166 v167
  let v170 : Index := Scalar.indexCast v168
  let c0_97 : Index := 0#32
  ![v170.toNat, 0]
def k0_off309 (v0 : BitVec 32) (k0_t15 : Fin (k0_t15_loop v0).trips) : Fin 1 → Nat :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c4_i32 : BitVec 32 := 4#32
  let v148 : BitVec 32 := Scalar.remsi arg14 c4_i32
  ![v148.toNat]
def k0_off310 (v0 : BitVec 32) (k0_t1 : Fin k0_t1_loop.trips) (k0_t15 : Fin (k0_t15_loop v0).trips) : Fin 4 → Nat :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c8_i32_82 : BitVec 32 := 8#32
  let v150 : BitVec 32 := Scalar.muli arg14 c8_i32_82
  let c0_i32_24 : BitVec 32 := 0#32
  let c1_i32_26 : BitVec 32 := 1#32
  let arg12 : BitVec 32 := Scf.iv c0_i32_24 c1_i32_26 k0_t1
  let c28_i32 : BitVec 32 := 28#32
  let v151 : BitVec 32 := Scalar.muli arg12 c28_i32
  let c0_i32_83 : BitVec 32 := 0#32
  let c0_i32_84 : BitVec 32 := 0#32
  ![v150.toNat, v151.toNat, 0, 0]
def k0_off311 (v0 : BitVec 32) (k0_t15 : Fin (k0_t15_loop v0).trips) : Fin 4 → Nat :=
  let c0_i32_49 : BitVec 32 := 0#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v83 : BitVec 32 := Scalar.subi v20 c0_i32_49
  let c1_i32_51 : BitVec 32 := 1#32
  let v85 : BitVec 32 := Scalar.divsi v83 c1_i32_51
  let v86 : BitVec 32 := Scalar.muli v85 c1_i32_51
  let v87 : BitVec 32 := Scalar.addi c0_i32_49 v86
  let c1_i32_53 : BitVec 32 := 1#32
  let arg14 : BitVec 32 := Scf.iv v87 c1_i32_53 k0_t15
  let c4_i32 : BitVec 32 := 4#32
  let v148 : BitVec 32 := Scalar.remsi arg14 c4_i32
  let c8_i32 : BitVec 32 := 8#32
  let v149 : BitVec 32 := Scalar.muli v148 c8_i32
  let c0_i32_85 : BitVec 32 := 0#32
  let c0_i32_86 : BitVec 32 := 0#32
  let c0_i32_87 : BitVec 32 := 0#32
  ![v149.toNat, 0, 0, 0]
@[reducible] def k0_t22_loop (v0 : BitVec 32) : Scf.Loop 32 :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let v92 : BitVec 32 := Scalar.subi v20 v91
  let c1_i32_57 : BitVec 32 := 1#32
  let v94 : BitVec 32 := Scalar.divsi v92 c1_i32_57
  let v95 : BitVec 32 := Scalar.muli v94 c1_i32_57
  let v96 : BitVec 32 := Scalar.addi v91 v95
  let c1_i32_58 : BitVec 32 := 1#32
  ⟨v91, v96, c1_i32_58⟩
def k0_off312 (v0 : BitVec 32) (k0_t22 : Fin (k0_t22_loop v0).trips) : Fin 1 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let c1_i32_58 : BitVec 32 := 1#32
  let arg14 : BitVec 32 := Scf.iv v91 c1_i32_58 k0_t22
  let c4_i32 : BitVec 32 := 4#32
  let v99 : BitVec 32 := Scalar.remsi arg14 c4_i32
  ![v99.toNat]
def k0_off313 (v0 : BitVec 32) (k0_t1 : Fin k0_t1_loop.trips) (k0_t22 : Fin (k0_t22_loop v0).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let c1_i32_58 : BitVec 32 := 1#32
  let arg14 : BitVec 32 := Scf.iv v91 c1_i32_58 k0_t22
  let c8_i32_60 : BitVec 32 := 8#32
  let v101 : BitVec 32 := Scalar.muli arg14 c8_i32_60
  let c0_i32_24 : BitVec 32 := 0#32
  let c1_i32_26 : BitVec 32 := 1#32
  let arg12 : BitVec 32 := Scf.iv c0_i32_24 c1_i32_26 k0_t1
  let c28_i32 : BitVec 32 := 28#32
  let v102 : BitVec 32 := Scalar.muli arg12 c28_i32
  let c0_i32_61 : BitVec 32 := 0#32
  let c0_i32_62 : BitVec 32 := 0#32
  ![v101.toNat, v102.toNat, 0, 0]
def k0_off314 (v0 : BitVec 32) (k0_t22 : Fin (k0_t22_loop v0).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let c1_i32_58 : BitVec 32 := 1#32
  let arg14 : BitVec 32 := Scf.iv v91 c1_i32_58 k0_t22
  let c4_i32 : BitVec 32 := 4#32
  let v99 : BitVec 32 := Scalar.remsi arg14 c4_i32
  let c8_i32 : BitVec 32 := 8#32
  let v100 : BitVec 32 := Scalar.muli v99 c8_i32
  let c0_i32_63 : BitVec 32 := 0#32
  let c0_i32_64 : BitVec 32 := 0#32
  let c0_i32_65 : BitVec 32 := 0#32
  ![v100.toNat, 0, 0, 0]
@[reducible] def k0_t23_loop (v0 : BitVec 32) : Scf.Loop 32 :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let v92 : BitVec 32 := Scalar.subi v20 v91
  let c1_i32_57 : BitVec 32 := 1#32
  let v94 : BitVec 32 := Scalar.divsi v92 c1_i32_57
  let v95 : BitVec 32 := Scalar.muli v94 c1_i32_57
  let v96 : BitVec 32 := Scalar.addi v91 v95
  let v93 : BitVec 32 := Scalar.addi v91 v92
  let c1_i32_59 : BitVec 32 := 1#32
  ⟨v96, v93, c1_i32_59⟩
def k0_off315 (v0 : BitVec 32) (k0_t23 : Fin (k0_t23_loop v0).trips) : Fin 1 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let v92 : BitVec 32 := Scalar.subi v20 v91
  let c1_i32_57 : BitVec 32 := 1#32
  let v94 : BitVec 32 := Scalar.divsi v92 c1_i32_57
  let v95 : BitVec 32 := Scalar.muli v94 c1_i32_57
  let v96 : BitVec 32 := Scalar.addi v91 v95
  let c1_i32_59 : BitVec 32 := 1#32
  let arg14 : BitVec 32 := Scf.iv v96 c1_i32_59 k0_t23
  let c4_i32 : BitVec 32 := 4#32
  let v99 : BitVec 32 := Scalar.remsi arg14 c4_i32
  ![v99.toNat]
def k0_off316 (v0 : BitVec 32) (k0_t1 : Fin k0_t1_loop.trips) (k0_t23 : Fin (k0_t23_loop v0).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let v92 : BitVec 32 := Scalar.subi v20 v91
  let c1_i32_57 : BitVec 32 := 1#32
  let v94 : BitVec 32 := Scalar.divsi v92 c1_i32_57
  let v95 : BitVec 32 := Scalar.muli v94 c1_i32_57
  let v96 : BitVec 32 := Scalar.addi v91 v95
  let c1_i32_59 : BitVec 32 := 1#32
  let arg14 : BitVec 32 := Scf.iv v96 c1_i32_59 k0_t23
  let c8_i32_60 : BitVec 32 := 8#32
  let v101 : BitVec 32 := Scalar.muli arg14 c8_i32_60
  let c0_i32_24 : BitVec 32 := 0#32
  let c1_i32_26 : BitVec 32 := 1#32
  let arg12 : BitVec 32 := Scf.iv c0_i32_24 c1_i32_26 k0_t1
  let c28_i32 : BitVec 32 := 28#32
  let v102 : BitVec 32 := Scalar.muli arg12 c28_i32
  let c0_i32_61 : BitVec 32 := 0#32
  let c0_i32_62 : BitVec 32 := 0#32
  ![v101.toNat, v102.toNat, 0, 0]
def k0_off317 (v0 : BitVec 32) (k0_t23 : Fin (k0_t23_loop v0).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32_54 : BitVec 32 := 3#32
  let v90 : BitVec 32 := Scalar.subi v20 c3_i32_54
  let c0_i32_55 : BitVec 32 := 0#32
  let v91 : BitVec 32 := Scalar.maxsi v90 c0_i32_55
  let v92 : BitVec 32 := Scalar.subi v20 v91
  let c1_i32_57 : BitVec 32 := 1#32
  let v94 : BitVec 32 := Scalar.divsi v92 c1_i32_57
  let v95 : BitVec 32 := Scalar.muli v94 c1_i32_57
  let v96 : BitVec 32 := Scalar.addi v91 v95
  let c1_i32_59 : BitVec 32 := 1#32
  let arg14 : BitVec 32 := Scf.iv v96 c1_i32_59 k0_t23
  let c4_i32 : BitVec 32 := 4#32
  let v99 : BitVec 32 := Scalar.remsi arg14 c4_i32
  let c8_i32 : BitVec 32 := 8#32
  let v100 : BitVec 32 := Scalar.muli v99 c8_i32
  let c0_i32_63 : BitVec 32 := 0#32
  let c0_i32_64 : BitVec 32 := 0#32
  let c0_i32_65 : BitVec 32 := 0#32
  ![v100.toNat, 0, 0, 0]
@[reducible] def k0_t24_loop (v0 : BitVec 32) (v54 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let v55 : BitVec 32 := Scalar.subi v22 v54
  let c1_i32_29 : BitVec 32 := 1#32
  let v57 : BitVec 32 := Scalar.divsi v55 c1_i32_29
  let v58 : BitVec 32 := Scalar.muli v57 c1_i32_29
  let v59 : BitVec 32 := Scalar.addi v54 v58
  let c1_i32_30 : BitVec 32 := 1#32
  ⟨v54, v59, c1_i32_30⟩

def k0_off318 (v0 : BitVec 32) (v54 : BitVec 32) (k0_t24 : Fin (k0_t24_loop v0 v54).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c1_i32_30 : BitVec 32 := 1#32
  let arg12 : BitVec 32 := Scf.iv v54 c1_i32_30 k0_t24
  let v69 : BitVec 32 := Scalar.addi v21 arg12
  let c4_i32 : BitVec 32 := 4#32
  let v70 : BitVec 32 := Scalar.muli v69 c4_i32
  let c0_i32_37 : BitVec 32 := 0#32
  let c0_i32_38 : BitVec 32 := 0#32
  let c0_i32_39 : BitVec 32 := 0#32
  ![v70.toNat, 0, 0, 0]
@[reducible] def k0_t25_loop (v0 : BitVec 32) (v54 : BitVec 32) : Scf.Loop 32 :=
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let v55 : BitVec 32 := Scalar.subi v22 v54
  let c1_i32_29 : BitVec 32 := 1#32
  let v57 : BitVec 32 := Scalar.divsi v55 c1_i32_29
  let v58 : BitVec 32 := Scalar.muli v57 c1_i32_29
  let v59 : BitVec 32 := Scalar.addi v54 v58
  let v56 : BitVec 32 := Scalar.addi v54 v55
  let c1_i32_31 : BitVec 32 := 1#32
  ⟨v59, v56, c1_i32_31⟩
def k0_off319 (v0 : BitVec 32) (v54 : BitVec 32) (k0_t25 : Fin (k0_t25_loop v0 v54).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c512_i32 : BitVec 32 := 512#32
  let v22 : BitVec 32 := Scalar.subi c512_i32 v21
  let v55 : BitVec 32 := Scalar.subi v22 v54
  let c1_i32_29 : BitVec 32 := 1#32
  let v57 : BitVec 32 := Scalar.divsi v55 c1_i32_29
  let v58 : BitVec 32 := Scalar.muli v57 c1_i32_29
  let v59 : BitVec 32 := Scalar.addi v54 v58
  let c1_i32_31 : BitVec 32 := 1#32
  let arg12 : BitVec 32 := Scf.iv v59 c1_i32_31 k0_t25
  let v69 : BitVec 32 := Scalar.addi v21 arg12
  let c4_i32 : BitVec 32 := 4#32
  let v70 : BitVec 32 := Scalar.muli v69 c4_i32
  let c0_i32_37 : BitVec 32 := 0#32
  let c0_i32_38 : BitVec 32 := 0#32
  let c0_i32_39 : BitVec 32 := 0#32
  ![v70.toNat, 0, 0, 0]

def k0_chk71 (v0 : BitVec 32) (v54 : BitVec 32) : Prop :=
  ((k0_t24_loop v0 v54).OK) ∧
  (∀ k0_t24 : Fin (k0_t24_loop v0 v54).trips, ∀ a, (k0_off318 v0 v54 k0_t24) a + S4x56x8x128.size a ≤ S2048x56x8x128.size a) ∧
  ((k0_t25_loop v0 v54).OK) ∧
  (∀ k0_t25 : Fin (k0_t25_loop v0 v54).trips, ∀ a, (k0_off319 v0 v54 k0_t25) a + S4x56x8x128.size a ≤ S2048x56x8x128.size a)
theorem k0_t24_ok : ∀ (v0 : BitVec 32) (v54 : BitVec 32) (k0_hw71 : k0_chk71 v0 v54), (k0_t24_loop v0 v54).OK := fun v0 v54 k0_hw71 => k0_hw71.1
theorem k0_off318_inb : ∀ (v0 : BitVec 32) (v54 : BitVec 32) (k0_hw71 : k0_chk71 v0 v54) (k0_t24 : Fin (k0_t24_loop v0 v54).trips), ∀ a, (k0_off318 v0 v54 k0_t24) a + S4x56x8x128.size a ≤ S2048x56x8x128.size a := fun v0 v54 k0_hw71 k0_t24 => k0_hw71.2.1 k0_t24
theorem k0_t25_ok : ∀ (v0 : BitVec 32) (v54 : BitVec 32) (k0_hw71 : k0_chk71 v0 v54), (k0_t25_loop v0 v54).OK := fun v0 v54 k0_hw71 => k0_hw71.2.2.1
theorem k0_off319_inb : ∀ (v0 : BitVec 32) (v54 : BitVec 32) (k0_hw71 : k0_chk71 v0 v54) (k0_t25 : Fin (k0_t25_loop v0 v54).trips), ∀ a, (k0_off319 v0 v54 k0_t25) a + S4x56x8x128.size a ≤ S2048x56x8x128.size a := fun v0 v54 k0_hw71 k0_t25 => k0_hw71.2.2.2 k0_t25

@[reducible] def k0_t26_loop (v0 : BitVec 32) : Scf.Loop 32 :=
  let c0_i32_32 : BitVec 32 := 0#32
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let v62 : BitVec 32 := Scalar.subi v22 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_35 : BitVec 32 := 1#32
  ⟨c0_i32_32, v66, c1_i32_35⟩
def k0_off320 (v0 : BitVec 32) (k0_t26 : Fin (k0_t26_loop v0).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c0_i32_32 : BitVec 32 := 0#32
  let c1_i32_35 : BitVec 32 := 1#32
  let arg12 : BitVec 32 := Scf.iv c0_i32_32 c1_i32_35 k0_t26
  let v69 : BitVec 32 := Scalar.addi v21 arg12
  let c4_i32 : BitVec 32 := 4#32
  let v70 : BitVec 32 := Scalar.muli v69 c4_i32
  let c0_i32_37 : BitVec 32 := 0#32
  let c0_i32_38 : BitVec 32 := 0#32
  let c0_i32_39 : BitVec 32 := 0#32
  ![v70.toNat, 0, 0, 0]
@[reducible] def k0_t27_loop (v0 : BitVec 32) : Scf.Loop 32 :=
  let c0_i32_32 : BitVec 32 := 0#32
  let c512_i32 : BitVec 32 := 512#32
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let v22 : BitVec 32 := Scalar.subi c512_i32 v21
  let v62 : BitVec 32 := Scalar.subi v22 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let v63 : BitVec 32 := Scalar.addi c0_i32_32 v62
  let c1_i32_36 : BitVec 32 := 1#32
  ⟨v66, v63, c1_i32_36⟩
def k0_off321 (v0 : BitVec 32) (k0_t27 : Fin (k0_t27_loop v0).trips) : Fin 4 → Nat :=
  let c64_i32 : BitVec 32 := 64#32
  let v2 : BitVec 32 := Scalar.addi v0 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v21 : BitVec 32 := Scalar.muli v20 c2_i32
  let c0_i32_32 : BitVec 32 := 0#32
  let c512_i32 : BitVec 32 := 512#32
  let v22 : BitVec 32 := Scalar.subi c512_i32 v21
  let v62 : BitVec 32 := Scalar.subi v22 c0_i32_32
  let c1_i32_34 : BitVec 32 := 1#32
  let v64 : BitVec 32 := Scalar.divsi v62 c1_i32_34
  let v65 : BitVec 32 := Scalar.muli v64 c1_i32_34
  let v66 : BitVec 32 := Scalar.addi c0_i32_32 v65
  let c1_i32_36 : BitVec 32 := 1#32
  let arg12 : BitVec 32 := Scf.iv v66 c1_i32_36 k0_t27
  let v69 : BitVec 32 := Scalar.addi v21 arg12
  let c4_i32 : BitVec 32 := 4#32
  let v70 : BitVec 32 := Scalar.muli v69 c4_i32
  let c0_i32_37 : BitVec 32 := 0#32
  let c0_i32_38 : BitVec 32 := 0#32
  let c0_i32_39 : BitVec 32 := 0#32
  ![v70.toNat, 0, 0, 0]

def k0_chk2_0 (v0 : BitVec 32) : Prop :=
  ((k0_t8_loop v0).OK) ∧
  (∀ k0_t8 : Fin (k0_t8_loop v0).trips, ∀ (k0_h1 : k0_cond1 v0 k0_t8 = 1#1), ∀ a, (k0_off96 v0 k0_t8) a + S1.size a ≤ S4.size a) ∧
  (∀ (k0_t1 : Fin k0_t1_loop.trips) (k0_t8 : Fin (k0_t8_loop v0).trips), ∀ (k0_h1 : k0_cond1 v0 k0_t8 = 1#1), ∀ a, (k0_off97 v0 k0_t1 k0_t8) a + S8x28x8x128.size a ≤ S2048x56x8x128.size a) ∧
  (∀ k0_t8 : Fin (k0_t8_loop v0).trips, ∀ (k0_h1 : k0_cond1 v0 k0_t8 = 1#1), ∀ a, (k0_off98 v0 k0_t8) a + S8x28x8x128.size a ≤ S33x28x8x128.size a) ∧
  (∀ k0_t8 : Fin (k0_t8_loop v0).trips, ∀ a, (k0_off99 v0 k0_t8) a + S1.size a ≤ S16385.size a) ∧
  (∀ k0_t8 : Fin (k0_t8_loop v0).trips, ∀ (k0_h2 : k0_cond2 v0 k0_t8 = 1#1), (k0_t13_loop v0).OK) ∧
  (∀ (k0_t8 : Fin (k0_t8_loop v0).trips) (k0_t13 : Fin (k0_t13_loop v0).trips), ∀ (k0_h2 : k0_cond2 v0 k0_t8 = 1#1), ∀ a, S28x128.size a = 0 ∨ (k0_off198 v0 k0_t13) a + (![8, 1] : Fin 2 → Nat) a * (S28x128.size a - 1) < S7392x128.size a) ∧
  (∀ k0_t8 : Fin (k0_t8_loop v0).trips, ∀ (k0_h2 : k0_cond2 v0 k0_t8 = 1#1), (k0_t14_loop v0).OK) ∧
  (∀ (k0_t8 : Fin (k0_t8_loop v0).trips) (k0_t14 : Fin (k0_t14_loop v0).trips), ∀ (k0_h2 : k0_cond2 v0 k0_t8 = 1#1), ∀ a, S28x128.size a = 0 ∨ (k0_off199 v0 k0_t14) a + (![8, 1] : Fin 2 → Nat) a * (S28x128.size a - 1) < S7392x128.size a) ∧
  (∀ k0_t8 : Fin (k0_t8_loop v0).trips, ∀ a, (k0_off200 v0 k0_t8) a + S1.size a ≤ S4.size a) ∧
  (∀ (k0_t1 : Fin k0_t1_loop.trips) (k0_t8 : Fin (k0_t8_loop v0).trips), ∀ a, (k0_off201 v0 k0_t1 k0_t8) a + S8x28x8x128.size a ≤ S2048x56x8x128.size a) ∧
  (∀ k0_t8 : Fin (k0_t8_loop v0).trips, ∀ a, (k0_off202 v0 k0_t8) a + S8x28x8x128.size a ≤ S33x28x8x128.size a) ∧
  ((k0_t15_loop v0).OK) ∧
  (∀ k0_t15 : Fin (k0_t15_loop v0).trips, ∀ (k0_h3 : k0_cond3 v0 k0_t15 = 1#1), ∀ a, (k0_off205 v0 k0_t15) a + S1.size a ≤ S4.size a) ∧
  (∀ (k0_t1 : Fin k0_t1_loop.trips) (k0_t15 : Fin (k0_t15_loop v0).trips), ∀ (k0_h3 : k0_cond3 v0 k0_t15 = 1#1), ∀ a, (k0_off206 v0 k0_t1 k0_t15) a + S8x28x8x128.size a ≤ S2048x56x8x128.size a) ∧
  (∀ k0_t15 : Fin (k0_t15_loop v0).trips, ∀ (k0_h3 : k0_cond3 v0 k0_t15 = 1#1), ∀ a, (k0_off207 v0 k0_t15) a + S8x28x8x128.size a ≤ S33x28x8x128.size a) ∧
  (∀ k0_t15 : Fin (k0_t15_loop v0).trips, ∀ a, (k0_off208 v0 k0_t15) a + S1.size a ≤ S16385.size a) ∧
  (∀ k0_t15 : Fin (k0_t15_loop v0).trips, ∀ (k0_h4 : k0_cond4 v0 k0_t15 = 1#1), (k0_t20_loop v0).OK) ∧
  (∀ (k0_t15 : Fin (k0_t15_loop v0).trips) (k0_t20 : Fin (k0_t20_loop v0).trips), ∀ (k0_h4 : k0_cond4 v0 k0_t15 = 1#1), ∀ a, S28x128.size a = 0 ∨ (k0_off307 v0 k0_t20) a + (![8, 1] : Fin 2 → Nat) a * (S28x128.size a - 1) < S7392x128.size a) ∧
  (∀ k0_t15 : Fin (k0_t15_loop v0).trips, ∀ (k0_h4 : k0_cond4 v0 k0_t15 = 1#1), (k0_t21_loop v0).OK) ∧
  (∀ (k0_t15 : Fin (k0_t15_loop v0).trips) (k0_t21 : Fin (k0_t21_loop v0).trips), ∀ (k0_h4 : k0_cond4 v0 k0_t15 = 1#1), ∀ a, S28x128.size a = 0 ∨ (k0_off308 v0 k0_t21) a + (![8, 1] : Fin 2 → Nat) a * (S28x128.size a - 1) < S7392x128.size a) ∧
  (∀ k0_t15 : Fin (k0_t15_loop v0).trips, ∀ a, (k0_off309 v0 k0_t15) a + S1.size a ≤ S4.size a) ∧
  (∀ (k0_t1 : Fin k0_t1_loop.trips) (k0_t15 : Fin (k0_t15_loop v0).trips), ∀ a, (k0_off310 v0 k0_t1 k0_t15) a + S8x28x8x128.size a ≤ S2048x56x8x128.size a) ∧
  (∀ k0_t15 : Fin (k0_t15_loop v0).trips, ∀ a, (k0_off311 v0 k0_t15) a + S8x28x8x128.size a ≤ S33x28x8x128.size a) ∧
  ((k0_t22_loop v0).OK) ∧
  (∀ k0_t22 : Fin (k0_t22_loop v0).trips, ∀ a, (k0_off312 v0 k0_t22) a + S1.size a ≤ S4.size a) ∧
  (∀ (k0_t1 : Fin k0_t1_loop.trips) (k0_t22 : Fin (k0_t22_loop v0).trips), ∀ a, (k0_off313 v0 k0_t1 k0_t22) a + S8x28x8x128.size a ≤ S2048x56x8x128.size a) ∧
  (∀ k0_t22 : Fin (k0_t22_loop v0).trips, ∀ a, (k0_off314 v0 k0_t22) a + S8x28x8x128.size a ≤ S33x28x8x128.size a) ∧
  ((k0_t23_loop v0).OK) ∧
  (∀ k0_t23 : Fin (k0_t23_loop v0).trips, ∀ a, (k0_off315 v0 k0_t23) a + S1.size a ≤ S4.size a) ∧
  (∀ (k0_t1 : Fin k0_t1_loop.trips) (k0_t23 : Fin (k0_t23_loop v0).trips), ∀ a, (k0_off316 v0 k0_t1 k0_t23) a + S8x28x8x128.size a ≤ S2048x56x8x128.size a) ∧
  (∀ k0_t23 : Fin (k0_t23_loop v0).trips, ∀ a, (k0_off317 v0 k0_t23) a + S8x28x8x128.size a ≤ S33x28x8x128.size a)
def k0_chk2_1 (v0 : BitVec 32) : Prop :=
  ((k0_t26_loop v0).OK) ∧
  (∀ k0_t26 : Fin (k0_t26_loop v0).trips, ∀ a, (k0_off320 v0 k0_t26) a + S4x56x8x128.size a ≤ S2048x56x8x128.size a) ∧
  ((k0_t27_loop v0).OK) ∧
  (∀ k0_t27 : Fin (k0_t27_loop v0).trips, ∀ a, (k0_off321 v0 k0_t27) a + S4x56x8x128.size a ≤ S2048x56x8x128.size a)
def k0_chk2 (v0 : BitVec 32) : Prop :=
  k0_chk2_0 v0 ∧
  k0_chk2_1 v0
theorem k0_t8_ok : ∀ (v0 : BitVec 32) (k0_hw2 : k0_chk2 v0), (k0_t8_loop v0).OK := fun v0 k0_hw2 => k0_hw2.1.1
theorem k0_off96_inb : ∀ (v0 : BitVec 32) (k0_hw2 : k0_chk2 v0) (k0_t8 : Fin (k0_t8_loop v0).trips), ∀ (k0_h1 : k0_cond1 v0 k0_t8 = 1#1), ∀ a, (k0_off96 v0 k0_t8) a + S1.size a ≤ S4.size a := fun v0 k0_hw2 k0_t8 k0_h1 => k0_hw2.1.2.1 k0_t8 k0_h1
theorem k0_off97_inb : ∀ (v0 : BitVec 32) (k0_hw2 : k0_chk2 v0) (k0_t1 : Fin k0_t1_loop.trips) (k0_t8 : Fin (k0_t8_loop v0).trips), ∀ (k0_h1 : k0_cond1 v0 k0_t8 = 1#1), ∀ a, (k0_off97 v0 k0_t1 k0_t8) a + S8x28x8x128.size a ≤ S2048x56x8x128.size a := fun v0 k0_hw2 k0_t1 k0_t8 k0_h1 => k0_hw2.1.2.2.1 k0_t1 k0_t8 k0_h1
theorem k0_off98_inb : ∀ (v0 : BitVec 32) (k0_hw2 : k0_chk2 v0) (k0_t8 : Fin (k0_t8_loop v0).trips), ∀ (k0_h1 : k0_cond1 v0 k0_t8 = 1#1), ∀ a, (k0_off98 v0 k0_t8) a + S8x28x8x128.size a ≤ S33x28x8x128.size a := fun v0 k0_hw2 k0_t8 k0_h1 => k0_hw2.1.2.2.2.1 k0_t8 k0_h1
theorem k0_off99_inb : ∀ (v0 : BitVec 32) (k0_hw2 : k0_chk2 v0) (k0_t8 : Fin (k0_t8_loop v0).trips), ∀ a, (k0_off99 v0 k0_t8) a + S1.size a ≤ S16385.size a := fun v0 k0_hw2 k0_t8 => k0_hw2.1.2.2.2.2.1 k0_t8
theorem k0_t13_ok : ∀ (v0 : BitVec 32) (k0_hw2 : k0_chk2 v0) (k0_t8 : Fin (k0_t8_loop v0).trips), ∀ (k0_h2 : k0_cond2 v0 k0_t8 = 1#1), (k0_t13_loop v0).OK := fun v0 k0_hw2 k0_t8 k0_h2 => k0_hw2.1.2.2.2.2.2.1 k0_t8 k0_h2
theorem k0_off198_inb : ∀ (v0 : BitVec 32) (k0_hw2 : k0_chk2 v0) (k0_t8 : Fin (k0_t8_loop v0).trips) (k0_t13 : Fin (k0_t13_loop v0).trips), ∀ (k0_h2 : k0_cond2 v0 k0_t8 = 1#1), ∀ a, S28x128.size a = 0 ∨ (k0_off198 v0 k0_t13) a + (![8, 1] : Fin 2 → Nat) a * (S28x128.size a - 1) < S7392x128.size a := fun v0 k0_hw2 k0_t8 k0_t13 k0_h2 => k0_hw2.1.2.2.2.2.2.2.1 k0_t8 k0_t13 k0_h2
theorem k0_t14_ok : ∀ (v0 : BitVec 32) (k0_hw2 : k0_chk2 v0) (k0_t8 : Fin (k0_t8_loop v0).trips), ∀ (k0_h2 : k0_cond2 v0 k0_t8 = 1#1), (k0_t14_loop v0).OK := fun v0 k0_hw2 k0_t8 k0_h2 => k0_hw2.1.2.2.2.2.2.2.2.1 k0_t8 k0_h2
theorem k0_off199_inb : ∀ (v0 : BitVec 32) (k0_hw2 : k0_chk2 v0) (k0_t8 : Fin (k0_t8_loop v0).trips) (k0_t14 : Fin (k0_t14_loop v0).trips), ∀ (k0_h2 : k0_cond2 v0 k0_t8 = 1#1), ∀ a, S28x128.size a = 0 ∨ (k0_off199 v0 k0_t14) a + (![8, 1] : Fin 2 → Nat) a * (S28x128.size a - 1) < S7392x128.size a := fun v0 k0_hw2 k0_t8 k0_t14 k0_h2 => k0_hw2.1.2.2.2.2.2.2.2.2.1 k0_t8 k0_t14 k0_h2
theorem k0_off200_inb : ∀ (v0 : BitVec 32) (k0_hw2 : k0_chk2 v0) (k0_t8 : Fin (k0_t8_loop v0).trips), ∀ a, (k0_off200 v0 k0_t8) a + S1.size a ≤ S4.size a := fun v0 k0_hw2 k0_t8 => k0_hw2.1.2.2.2.2.2.2.2.2.2.1 k0_t8
theorem k0_off201_inb : ∀ (v0 : BitVec 32) (k0_hw2 : k0_chk2 v0) (k0_t1 : Fin k0_t1_loop.trips) (k0_t8 : Fin (k0_t8_loop v0).trips), ∀ a, (k0_off201 v0 k0_t1 k0_t8) a + S8x28x8x128.size a ≤ S2048x56x8x128.size a := fun v0 k0_hw2 k0_t1 k0_t8 => k0_hw2.1.2.2.2.2.2.2.2.2.2.2.1 k0_t1 k0_t8
theorem k0_off202_inb : ∀ (v0 : BitVec 32) (k0_hw2 : k0_chk2 v0) (k0_t8 : Fin (k0_t8_loop v0).trips), ∀ a, (k0_off202 v0 k0_t8) a + S8x28x8x128.size a ≤ S33x28x8x128.size a := fun v0 k0_hw2 k0_t8 => k0_hw2.1.2.2.2.2.2.2.2.2.2.2.2.1 k0_t8
theorem k0_t15_ok : ∀ (v0 : BitVec 32) (k0_hw2 : k0_chk2 v0), (k0_t15_loop v0).OK := fun v0 k0_hw2 => k0_hw2.1.2.2.2.2.2.2.2.2.2.2.2.2.1
theorem k0_off205_inb : ∀ (v0 : BitVec 32) (k0_hw2 : k0_chk2 v0) (k0_t15 : Fin (k0_t15_loop v0).trips), ∀ (k0_h3 : k0_cond3 v0 k0_t15 = 1#1), ∀ a, (k0_off205 v0 k0_t15) a + S1.size a ≤ S4.size a := fun v0 k0_hw2 k0_t15 k0_h3 => k0_hw2.1.2.2.2.2.2.2.2.2.2.2.2.2.2.1 k0_t15 k0_h3
theorem k0_off206_inb : ∀ (v0 : BitVec 32) (k0_hw2 : k0_chk2 v0) (k0_t1 : Fin k0_t1_loop.trips) (k0_t15 : Fin (k0_t15_loop v0).trips), ∀ (k0_h3 : k0_cond3 v0 k0_t15 = 1#1), ∀ a, (k0_off206 v0 k0_t1 k0_t15) a + S8x28x8x128.size a ≤ S2048x56x8x128.size a := fun v0 k0_hw2 k0_t1 k0_t15 k0_h3 => k0_hw2.1.2.2.2.2.2.2.2.2.2.2.2.2.2.2.1 k0_t1 k0_t15 k0_h3
theorem k0_off207_inb : ∀ (v0 : BitVec 32) (k0_hw2 : k0_chk2 v0) (k0_t15 : Fin (k0_t15_loop v0).trips), ∀ (k0_h3 : k0_cond3 v0 k0_t15 = 1#1), ∀ a, (k0_off207 v0 k0_t15) a + S8x28x8x128.size a ≤ S33x28x8x128.size a := fun v0 k0_hw2 k0_t15 k0_h3 => k0_hw2.1.2.2.2.2.2.2.2.2.2.2.2.2.2.2.2.1 k0_t15 k0_h3
theorem k0_off208_inb : ∀ (v0 : BitVec 32) (k0_hw2 : k0_chk2 v0) (k0_t15 : Fin (k0_t15_loop v0).trips), ∀ a, (k0_off208 v0 k0_t15) a + S1.size a ≤ S16385.size a := fun v0 k0_hw2 k0_t15 => k0_hw2.1.2.2.2.2.2.2.2.2.2.2.2.2.2.2.2.2.1 k0_t15
theorem k0_t20_ok : ∀ (v0 : BitVec 32) (k0_hw2 : k0_chk2 v0) (k0_t15 : Fin (k0_t15_loop v0).trips), ∀ (k0_h4 : k0_cond4 v0 k0_t15 = 1#1), (k0_t20_loop v0).OK := fun v0 k0_hw2 k0_t15 k0_h4 => k0_hw2.1.2.2.2.2.2.2.2.2.2.2.2.2.2.2.2.2.2.1 k0_t15 k0_h4
theorem k0_off307_inb : ∀ (v0 : BitVec 32) (k0_hw2 : k0_chk2 v0) (k0_t15 : Fin (k0_t15_loop v0).trips) (k0_t20 : Fin (k0_t20_loop v0).trips), ∀ (k0_h4 : k0_cond4 v0 k0_t15 = 1#1), ∀ a, S28x128.size a = 0 ∨ (k0_off307 v0 k0_t20) a + (![8, 1] : Fin 2 → Nat) a * (S28x128.size a - 1) < S7392x128.size a := fun v0 k0_hw2 k0_t15 k0_t20 k0_h4 => k0_hw2.1.2.2.2.2.2.2.2.2.2.2.2.2.2.2.2.2.2.2.1 k0_t15 k0_t20 k0_h4
theorem k0_t21_ok : ∀ (v0 : BitVec 32) (k0_hw2 : k0_chk2 v0) (k0_t15 : Fin (k0_t15_loop v0).trips), ∀ (k0_h4 : k0_cond4 v0 k0_t15 = 1#1), (k0_t21_loop v0).OK := fun v0 k0_hw2 k0_t15 k0_h4 => k0_hw2.1.2.2.2.2.2.2.2.2.2.2.2.2.2.2.2.2.2.2.2.1 k0_t15 k0_h4
theorem k0_off308_inb : ∀ (v0 : BitVec 32) (k0_hw2 : k0_chk2 v0) (k0_t15 : Fin (k0_t15_loop v0).trips) (k0_t21 : Fin (k0_t21_loop v0).trips), ∀ (k0_h4 : k0_cond4 v0 k0_t15 = 1#1), ∀ a, S28x128.size a = 0 ∨ (k0_off308 v0 k0_t21) a + (![8, 1] : Fin 2 → Nat) a * (S28x128.size a - 1) < S7392x128.size a := fun v0 k0_hw2 k0_t15 k0_t21 k0_h4 => k0_hw2.1.2.2.2.2.2.2.2.2.2.2.2.2.2.2.2.2.2.2.2.2.1 k0_t15 k0_t21 k0_h4
theorem k0_off309_inb : ∀ (v0 : BitVec 32) (k0_hw2 : k0_chk2 v0) (k0_t15 : Fin (k0_t15_loop v0).trips), ∀ a, (k0_off309 v0 k0_t15) a + S1.size a ≤ S4.size a := fun v0 k0_hw2 k0_t15 => k0_hw2.1.2.2.2.2.2.2.2.2.2.2.2.2.2.2.2.2.2.2.2.2.2.1 k0_t15
theorem k0_off310_inb : ∀ (v0 : BitVec 32) (k0_hw2 : k0_chk2 v0) (k0_t1 : Fin k0_t1_loop.trips) (k0_t15 : Fin (k0_t15_loop v0).trips), ∀ a, (k0_off310 v0 k0_t1 k0_t15) a + S8x28x8x128.size a ≤ S2048x56x8x128.size a := fun v0 k0_hw2 k0_t1 k0_t15 => k0_hw2.1.2.2.2.2.2.2.2.2.2.2.2.2.2.2.2.2.2.2.2.2.2.2.1 k0_t1 k0_t15
theorem k0_off311_inb : ∀ (v0 : BitVec 32) (k0_hw2 : k0_chk2 v0) (k0_t15 : Fin (k0_t15_loop v0).trips), ∀ a, (k0_off311 v0 k0_t15) a + S8x28x8x128.size a ≤ S33x28x8x128.size a := fun v0 k0_hw2 k0_t15 => k0_hw2.1.2.2.2.2.2.2.2.2.2.2.2.2.2.2.2.2.2.2.2.2.2.2.2.1 k0_t15
theorem k0_t22_ok : ∀ (v0 : BitVec 32) (k0_hw2 : k0_chk2 v0), (k0_t22_loop v0).OK := fun v0 k0_hw2 => k0_hw2.1.2.2.2.2.2.2.2.2.2.2.2.2.2.2.2.2.2.2.2.2.2.2.2.2.1
theorem k0_off312_inb : ∀ (v0 : BitVec 32) (k0_hw2 : k0_chk2 v0) (k0_t22 : Fin (k0_t22_loop v0).trips), ∀ a, (k0_off312 v0 k0_t22) a + S1.size a ≤ S4.size a := fun v0 k0_hw2 k0_t22 => k0_hw2.1.2.2.2.2.2.2.2.2.2.2.2.2.2.2.2.2.2.2.2.2.2.2.2.2.2.1 k0_t22
theorem k0_off313_inb : ∀ (v0 : BitVec 32) (k0_hw2 : k0_chk2 v0) (k0_t1 : Fin k0_t1_loop.trips) (k0_t22 : Fin (k0_t22_loop v0).trips), ∀ a, (k0_off313 v0 k0_t1 k0_t22) a + S8x28x8x128.size a ≤ S2048x56x8x128.size a := fun v0 k0_hw2 k0_t1 k0_t22 => k0_hw2.1.2.2.2.2.2.2.2.2.2.2.2.2.2.2.2.2.2.2.2.2.2.2.2.2.2.2.1 k0_t1 k0_t22
theorem k0_off314_inb : ∀ (v0 : BitVec 32) (k0_hw2 : k0_chk2 v0) (k0_t22 : Fin (k0_t22_loop v0).trips), ∀ a, (k0_off314 v0 k0_t22) a + S8x28x8x128.size a ≤ S33x28x8x128.size a := fun v0 k0_hw2 k0_t22 => k0_hw2.1.2.2.2.2.2.2.2.2.2.2.2.2.2.2.2.2.2.2.2.2.2.2.2.2.2.2.2.1 k0_t22
theorem k0_t23_ok : ∀ (v0 : BitVec 32) (k0_hw2 : k0_chk2 v0), (k0_t23_loop v0).OK := fun v0 k0_hw2 => k0_hw2.1.2.2.2.2.2.2.2.2.2.2.2.2.2.2.2.2.2.2.2.2.2.2.2.2.2.2.2.2.1
theorem k0_off315_inb : ∀ (v0 : BitVec 32) (k0_hw2 : k0_chk2 v0) (k0_t23 : Fin (k0_t23_loop v0).trips), ∀ a, (k0_off315 v0 k0_t23) a + S1.size a ≤ S4.size a := fun v0 k0_hw2 k0_t23 => k0_hw2.1.2.2.2.2.2.2.2.2.2.2.2.2.2.2.2.2.2.2.2.2.2.2.2.2.2.2.2.2.2.1 k0_t23
theorem k0_off316_inb : ∀ (v0 : BitVec 32) (k0_hw2 : k0_chk2 v0) (k0_t1 : Fin k0_t1_loop.trips) (k0_t23 : Fin (k0_t23_loop v0).trips), ∀ a, (k0_off316 v0 k0_t1 k0_t23) a + S8x28x8x128.size a ≤ S2048x56x8x128.size a := fun v0 k0_hw2 k0_t1 k0_t23 => k0_hw2.1.2.2.2.2.2.2.2.2.2.2.2.2.2.2.2.2.2.2.2.2.2.2.2.2.2.2.2.2.2.2.1 k0_t1 k0_t23
theorem k0_off317_inb : ∀ (v0 : BitVec 32) (k0_hw2 : k0_chk2 v0) (k0_t23 : Fin (k0_t23_loop v0).trips), ∀ a, (k0_off317 v0 k0_t23) a + S8x28x8x128.size a ≤ S33x28x8x128.size a := fun v0 k0_hw2 k0_t23 => k0_hw2.1.2.2.2.2.2.2.2.2.2.2.2.2.2.2.2.2.2.2.2.2.2.2.2.2.2.2.2.2.2.2.2 k0_t23
theorem k0_t26_ok : ∀ (v0 : BitVec 32) (k0_hw2 : k0_chk2 v0), (k0_t26_loop v0).OK := fun v0 k0_hw2 => k0_hw2.2.1
theorem k0_off320_inb : ∀ (v0 : BitVec 32) (k0_hw2 : k0_chk2 v0) (k0_t26 : Fin (k0_t26_loop v0).trips), ∀ a, (k0_off320 v0 k0_t26) a + S4x56x8x128.size a ≤ S2048x56x8x128.size a := fun v0 k0_hw2 k0_t26 => k0_hw2.2.2.1 k0_t26
theorem k0_t27_ok : ∀ (v0 : BitVec 32) (k0_hw2 : k0_chk2 v0), (k0_t27_loop v0).OK := fun v0 k0_hw2 => k0_hw2.2.2.2.1
theorem k0_off321_inb : ∀ (v0 : BitVec 32) (k0_hw2 : k0_chk2 v0) (k0_t27 : Fin (k0_t27_loop v0).trips), ∀ a, (k0_off321 v0 k0_t27) a + S4x56x8x128.size a ≤ S2048x56x8x128.size a := fun v0 k0_hw2 k0_t27 => k0_hw2.2.2.2.2 k0_t27

abbrev stage0_0 : Fin 1 → Memref sig .tc .smem S17408 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S17408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16385 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S17408 : Shape := ⟨1, ![17408]⟩
abbrev S16385 : Shape := ⟨1, ![16385]⟩
abbrev S2 : Shape := ⟨1, ![2]⟩
abbrev S4096x7168 : Shape := ⟨2, ![4096, 7168]⟩
abbrev S16384x7168 : Shape := ⟨2, ![16384, 7168]⟩
abbrev S16384 : Shape := ⟨1, ![16384]⟩
abbrev S_ : Shape := ⟨0, ![]⟩
abbrev S16384x1 : Shape := ⟨2, ![16384, 1]⟩
abbrev S1 : Shape := ⟨1, ![1]⟩
abbrev S1x16384 : Shape := ⟨2, ![1, 16384]⟩
abbrev S16384x16384 : Shape := ⟨2, ![16384, 16384]⟩
abbrev S16384x16384x1 : Shape := ⟨3, ![16384, 16384, 1]⟩
abbrev S1x16384x7168 : Shape := ⟨3, ![1, 16384, 7168]⟩
abbrev S16384x16384x7168 : Shape := ⟨3, ![16384, 16384, 7168]⟩
abbrev S2048x8x56x128 : Shape := ⟨4, ![2048, 8, 56, 128]⟩
abbrev S2048x56x8x128 : Shape := ⟨4, ![2048, 56, 8, 128]⟩

abbrev nBuf : Space → Nat
  | .hbm => 60
  | .vmem => 2
  | .smem => 0
  | _ => 0

abbrev bufTy : (tb : Table) → Fin (tcTables nBuf tb) → BufTy
  | .hbm, ⟨0, _⟩ => ⟨S17408, .i32⟩
  | .hbm, ⟨1, _⟩ => ⟨S17408, .f32⟩
  | .hbm, ⟨2, _⟩ => ⟨S16385, .i32⟩
  | .hbm, ⟨3, _⟩ => ⟨S2, .i32⟩
  | .hbm, ⟨4, _⟩ => ⟨S4096x7168, .i32⟩
  | .hbm, ⟨5, _⟩ => ⟨S16384x7168, .f32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x7168, .f32⟩
  | .hbm, ⟨23, _⟩ => ⟨S16384, .f32⟩
  | .hbm, ⟨24, _⟩ => ⟨S16384x1, .f32⟩
  | .hbm, ⟨25, _⟩ => ⟨S16384x7168, .f32⟩
  | .hbm, ⟨26, _⟩ => ⟨S16384x7168, .f32⟩
  | .hbm, ⟨27, _⟩ => ⟨S1, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S16384x1, .i1⟩
  | .hbm, ⟨32, _⟩ => ⟨S_, .f32⟩
  | .hbm, ⟨33, _⟩ => ⟨S16384x7168, .i1⟩
  | .hbm, ⟨34, _⟩ => ⟨S16384x7168, .f32⟩
  | .hbm, ⟨35, _⟩ => ⟨S16384x7168, .f32⟩
  | .hbm, ⟨36, _⟩ => ⟨S16384, .i32⟩
  | .hbm, ⟨37, _⟩ => ⟨S16384x1, .i32⟩
  | .hbm, ⟨38, _⟩ => ⟨S1x16384, .i32⟩
  | .hbm, ⟨39, _⟩ => ⟨S16384x16384, .i32⟩
  | .hbm, ⟨40, _⟩ => ⟨S16384x16384, .i32⟩
  | .hbm, ⟨41, _⟩ => ⟨S16384x16384, .i1⟩
  | .hbm, ⟨42, _⟩ => ⟨S1x16384, .i32⟩
  | .hbm, ⟨43, _⟩ => ⟨S16384, .i32⟩
  | .hbm, ⟨44, _⟩ => ⟨S16384x1, .i32⟩
  | .hbm, ⟨45, _⟩ => ⟨S16384x16384, .i32⟩
  | .hbm, ⟨46, _⟩ => ⟨S16384x16384, .i32⟩
  | .hbm, ⟨47, _⟩ => ⟨S16384x16384, .i1⟩
  | .hbm, ⟨48, _⟩ => ⟨S16384x16384, .i1⟩
  | .hbm, ⟨49, _⟩ => ⟨S16384x16384x1, .i1⟩
  | .hbm, ⟨50, _⟩ => ⟨S1x16384x7168, .f32⟩
  | .hbm, ⟨51, _⟩ => ⟨S_, .f32⟩
  | .hbm, ⟨52, _⟩ => ⟨S16384x16384x7168, .i1⟩
  | .hbm, ⟨53, _⟩ => ⟨S16384x16384x7168, .f32⟩
  | .hbm, ⟨54, _⟩ => ⟨S16384x16384x7168, .f32⟩
  | .hbm, ⟨55, _⟩ => ⟨S16384x16384x7168, .f32⟩
  | .hbm, ⟨56, _⟩ => ⟨S_, .f32⟩
  | .hbm, ⟨57, _⟩ => ⟨S16384x7168, .f32⟩
  | .hbm, ⟨58, _⟩ => ⟨S2048x8x56x128, .f32⟩
  | .hbm, ⟨59, _⟩ => ⟨S2048x56x8x128, .f32⟩
  | .local _ .vmem, ⟨0, _⟩ => ⟨S4096x7168, .i32⟩
  | .local _ .vmem, ⟨1, _⟩ => ⟨S16384x7168, .f32⟩
  | _, _ => ⟨S17408, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x7168 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Main.Codes.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init
public import Idealize.ShloMosaic.Lib.ValueLayout

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- Assertions about the machine. -/
abbrev SP (F : FTy → Type) [FloatOps F] := sProp (MT nD τ sig Unit (Elt F) ℕ (Pipeline.UD sig nD τ) ℕ)
/-- Programs of the kernel's thread. -/
abbrev PG (F : FTy → Type) [FloatOps F] (α : Type) := Prog (TpuEff nD τ sig (Elt F) Λ₀ .tc) α
/-- The weakest precondition of a program of the kernel's thread. -/
abbrev WP (c : Dev nD) {α : Type} (p : PG F α) (Q : α → SP F) : SP F :=
  wp frame (wpE (defs₀ (F := F)) Variants.none (c : Thread nD τ) none) Set.univ p Q

/-! The code words in on-chip memory, row by row. Row `ρ = 224 t + 8 c + s` of the flat view is
    `[t, c, s]` of the buffer; a tile `t` owns 224 rows. -/

/-- The code scratch's contents. -/
abbrev CodeBuf := S513x28x8x128.Idx → BitVec 32

/-- The elements of tile `t`. -/
def tileSet (t : ℕ) : Finset S513x28x8x128.Idx := Finset.univ.filter fun i => ((i 0 : Fin 513) : ℕ) = t

theorem mem_tileSet {t : ℕ} {i : S513x28x8x128.Idx} : i ∈ tileSet t ↔ ((i 0 : Fin 513) : ℕ) = t := by
  simp [tileSet]

/-- The row within its tile. -/
def rowOf (i : S513x28x8x128.Idx) : ℕ := ((i 1 : Fin 28) : ℕ) * 8 + ((i 2 : Fin 8) : ℕ)

/-- The contents `f` with the rows `rem, rem + 28, …` of tile `t` replaced by the eight rows of `w`. -/
def updRow (t rem : ℕ) (f : CodeBuf) (w : S8x128.Idx → BitVec 32) : CodeBuf := fun i =>
  if ((i 0 : Fin 513) : ℕ) = t ∧ rowOf i % 28 = rem then w (ix2 (Fin.ofNat 8 (rowOf i / 28)) (i 3 : Fin 128)) else f i

/-- Row `8 c + s` of tile `t` in the flat view is `[t, c, s]`. -/
theorem resh_vals {N M : ℕ} (h : (⟨2, ![M, 128]⟩ : Shape).numel = (⟨4, ![N, 28, 8, 128]⟩ : Shape).numel)
    (x : (⟨2, ![M, 128]⟩ : Shape).Idx) (y : (⟨4, ![N, 28, 8, 128]⟩ : Shape).Idx)
    (hy : ((y 0 : Fin N) : ℕ) * 224 + ((y 1 : Fin 28) : ℕ) * 8 + ((y 2 : Fin 8) : ℕ) = ((x 0 : Fin M) : ℕ))
    (hl : ((y 3 : Fin 128) : ℕ) = ((x 1 : Fin 128) : ℕ)) : Shape.reshapeEquiv h x = y := by
  refine Shape.reshapeEquiv_eq_of_rowMajor h ?_
  rw [Shape.rowMajor_val_four, Shape.rowMajor_val_two]
  simp only [Matrix.cons_val_zero, Matrix.cons_val_one, Matrix.cons_val]
  change ((((y 0 : Fin N) : ℕ) * 28 + ((y 1 : Fin 28) : ℕ)) * 8 + ((y 2 : Fin 8) : ℕ)) * 128 + ((y 3 : Fin 128) : ℕ) = ((x 0 : Fin M) : ℕ) * 128 + ((x 1 : Fin 128) : ℕ)
  omega

/-- Where the flat view's row lies. -/
theorem resh_row {N M : ℕ} (h : (⟨2, ![M, 128]⟩ : Shape).numel = (⟨4, ![N, 28, 8, 128]⟩ : Shape).numel)
    (x : (⟨2, ![M, 128]⟩ : Shape).Idx) :
    (((Shape.reshapeEquiv h x) 0 : Fin N) : ℕ) * 224 + (((Shape.reshapeEquiv h x) 1 : Fin 28) : ℕ) * 8 + (((Shape.reshapeEquiv h x) 2 : Fin 8) : ℕ) = ((x 0 : Fin M) : ℕ)
      ∧ (((Shape.reshapeEquiv h x) 3 : Fin 128) : ℕ) = ((x 1 : Fin 128) : ℕ) := by
  have e := Shape.rowMajor_reshapeEquiv h x
  rw [Shape.rowMajor_val_four, Shape.rowMajor_val_two] at e
  simp only [Matrix.cons_val_zero, Matrix.cons_val_one, Matrix.cons_val] at e
  generalize Shape.reshapeEquiv h x = y at e ⊢
  change ((((y 0 : Fin N) : ℕ) * 28 + ((y 1 : Fin 28) : ℕ)) * 8 + ((y 2 : Fin 8) : ℕ)) * 128 + ((y 3 : Fin 128) : ℕ) = ((x 0 : Fin M) : ℕ) * 128 + ((x 1 : Fin 128) : ℕ) at e
  have h3 : ((y 3 : Fin 128) : ℕ) < 128 := (y 3 : Fin 128).isLt
  have h1 : ((x 1 : Fin 128) : ℕ) < 128 := (x 1 : Fin 128).isLt
  omega

/-- The flat view of the code scratch. -/
abbrev codeRows : Memref sig .tc .vmem S114912x128 .i32 :=
  (Memref.whole cc0_scratch0).reshape S114912x128 reshapes_S513x28x8x128_S114912x128.1 reshapes_S513x28x8x128_S114912x128.2 (Memref.isWhole_whole cc0_scratch0).contiguous

variable (c : Dev nD) {α : Type} {Q : α → SP F}

/-- The elements a strided box of the flat view covers. -/
theorem codeBox_mem (off : Fin 2 → ℕ) (inb : ∀ a, S8x128.size a = 0 ∨ off a + (![28, 1] : Fin 2 → ℕ) a * (S8x128.size a - 1) < S114912x128.size a)
    (t rem : ℕ) (hr : rem < 28) (hoff : off = ![224 * t + rem, 0]) (x : S8x128.Idx) :
    let i : S513x28x8x128.Idx := (codeRows.access (⟨⟨off, S8x128.size, ![28, 1], inb⟩, spos_28_1⟩ : Rect S114912x128)).emb x
    ((i 0 : Fin 513) : ℕ) = t ∧ rowOf i = rem + 28 * ((x 0 : Fin 8) : ℕ) ∧ ((i 3 : Fin 128) : ℕ) = ((x 1 : Fin 128) : ℕ) := by
  subst hoff
  intro i
  have hi : i = Shape.reshapeEquiv reshapes_S513x28x8x128_S114912x128.1 ((⟨⟨![224 * t + rem, 0], S8x128.size, ![28, 1], inb⟩, spos_28_1⟩ : Rect S114912x128).emb x) := rfl
  have h := resh_row (N := 513) (M := 114912) reshapes_S513x28x8x128_S114912x128.1 ((⟨⟨![224 * t + rem, 0], S8x128.size, ![28, 1], inb⟩, spos_28_1⟩ : Rect S114912x128).emb x)
  rw [← hi] at h
  obtain ⟨h0, h1⟩ := h
  have e0 : ((((⟨⟨![224 * t + rem, 0], S8x128.size, ![28, 1], inb⟩, spos_28_1⟩ : Rect S114912x128).emb x) 0 : Fin 114912) : ℕ) = 224 * t + rem + 28 * ((x 0 : Fin 8) : ℕ) := rfl
  have e1 : ((((⟨⟨![224 * t + rem, 0], S8x128.size, ![28, 1], inb⟩, spos_28_1⟩ : Rect S114912x128).emb x) 1 : Fin 128) : ℕ) = 0 + 1 * ((x 1 : Fin 128) : ℕ) := rfl
  replace h0 := h0.trans e0
  replace h1 := h1.trans e1
  have b1 : ((i 1 : Fin 28) : ℕ) < 28 := (i 1 : Fin 28).isLt
  have b2 : ((i 2 : Fin 8) : ℕ) < 8 := (i 2 : Fin 8).isLt
  have bx : ((x 0 : Fin 8) : ℕ) < 8 := (x 0 : Fin 8).isLt
  unfold rowOf
  refine ⟨?_, ?_, ?_⟩ <;> omega

/-- Reading one code block of an owned set. -/
theorem codeLoad {off : Fin 4 → ℕ} {inb : ∀ a, off a + S1x1x8x128.size a ≤ S513x28x8x128.size a} {hl} {k : (S1x1x8x128.Idx → Elt F .i32) → PG F α}
    (t : ℕ) (n : Fin 28) (hoff : off = ![t, n, 0, 0]) (ht : t < 513) (S : Finset S513x28x8x128.Idx) (hS : tileSet t ⊆ S) (f : CodeBuf) :
    (((c : Thread nD τ).loc cc0_scratch0 ↦[S]{fullShare} f) : SP F)
      ⊢ iprop((((c : Thread nD τ).loc cc0_scratch0 ↦[S]{fullShare} f) -∗ WP c (k fun x => f (ix4 (⟨t, ht⟩ : Fin 513) n (x 2 : Fin 8) (x 3 : Fin 128))) Q)
        -∗ WP c (.op (.load (Memref.whole cc0_scratch0) (Rect.unit (s := S513x28x8x128) off S1x1x8x128.size inb).toLoadRect hl) k) Q) := by
  subst hoff
  have hx : ∀ x : S1x1x8x128.Idx, ((Rect.unit (s := S513x28x8x128) ![t, n, 0, 0] S1x1x8x128.size inb).toLoadRect).idx x
      = (ix4 (⟨t, ht⟩ : Fin 513) n (x 2 : Fin 8) (x 3 : Fin 128) : S513x28x8x128.Idx) := by
    intro x
    have l0 : ((x 0 : Fin 1) : ℕ) < 1 := (x 0 : Fin 1).isLt
    have l1 : ((x 1 : Fin 1) : ℕ) < 1 := (x 1 : Fin 1).isLt
    funext a
    match a with
    | ⟨0, _⟩ => exact Fin.ext (show t + 1 * ((x 0 : Fin 1) : ℕ) = t by omega)
    | ⟨1, _⟩ => exact Fin.ext (show (n : ℕ) + 1 * ((x 1 : Fin 1) : ℕ) = n by omega)
    | ⟨2, _⟩ => exact Fin.ext (show 0 + 1 * ((x 2 : Fin 8) : ℕ) = ((x 2 : Fin 8) : ℕ) by omega)
    | ⟨3, _⟩ => exact Fin.ext (show 0 + 1 * ((x 3 : Fin 128) : ℕ) = ((x 3 : Fin 128) : ℕ) by omega)
  have hr : (Memref.whole cc0_scratch0).view.readAt (Elt F) (Rect.unit (s := S513x28x8x128) ![t, n, 0, 0] S1x1x8x128.size inb).toLoadRect f
      = fun x => f (ix4 (⟨t, ht⟩ : Fin 513) n (x 2 : Fin 8) (x 3 : Fin 128)) := by
    funext x
    exact congrArg f (hx x)
  have hsub : (Memref.whole cc0_scratch0).view.setOn (Rect.unit (s := S513x28x8x128) ![t, n, 0, 0] S1x1x8x128.size inb).toLoadRect.set ⊆ S := by
    intro i hi
    obtain ⟨y, hy, rfl⟩ := Finset.mem_map.mp hi
    have h0 := Rect.mem_set_unit.mp hy 0
    have h0 : t ≤ ((y 0 : Fin 513) : ℕ) ∧ ((y 0 : Fin 513) : ℕ) < t + 1 := h0
    exact hS (mem_tileSet.mpr (show ((y 0 : Fin 513) : ℕ) = t by omega))
  have h := wp_load (hl := hl) (k := k) (Q := Q) (defs := defs₀ (F := F)) (Γ := .empty) Variants.none (c : Thread nD τ) none Set.univ (m := Memref.whole cc0_scratch0) (q := fullShare) (f := f) hsub
  rw [hr] at h
  exact h

/-- A write through a view, from what it holds under the view and off it. -/
theorem write_eq_of {κ} {sp} {s : Shape} {e : EltTy} (v : View sig κ sp s e) (f g : v.ty.Contents (Elt F)) (w : s.Idx → Elt F e) (S : Finset v.ty.Idx)
    (h1 : ∀ x, g (v.emb x) = _root_.cast (congrArg (Elt F) v.elt_eq.symm) (w x)) (h2 : ∀ i ∈ S, (∀ x, v.emb x ≠ i) → g i = f i) :
    ∀ i ∈ S, v.write (Elt F) f w Finset.univ i = g i := by
  intro i hi
  by_cases h : ∃ x, v.emb x = i
  · obtain ⟨x, rfl⟩ := h
    rw [View.write_emb_of_mem _ _ (Finset.mem_univ x), h1]
  · have hn : ∀ x, v.emb x ≠ i := fun x hx => h ⟨x, hx⟩
    rw [View.write_of_not_mem, h2 i hi hn]
    intro hm
    obtain ⟨x, _, hx⟩ := Finset.mem_map.mp hm
    exact hn x hx

/-- The box of the flat view a strided access goes through. -/
abbrev codeBox (off : Fin 2 → ℕ) (inb : ∀ a, S8x128.size a = 0 ∨ off a + (![28, 1] : Fin 2 → ℕ) a * (S8x128.size a - 1) < S114912x128.size a) : Rect S114912x128 :=
  ⟨⟨off, S8x128.size, ![28, 1], inb⟩, spos_28_1⟩

/-- Every element of tile `t` in a row congruent to `rem` lies in the box. -/
theorem codeBox_surj (off : Fin 2 → ℕ) (inb : ∀ a, S8x128.size a = 0 ∨ off a + (![28, 1] : Fin 2 → ℕ) a * (S8x128.size a - 1) < S114912x128.size a)
    (t rem : ℕ) (hr : rem < 28) (hoff : off = ![224 * t + rem, 0]) (i : S513x28x8x128.Idx) (hi : ((i 0 : Fin 513) : ℕ) = t) (h : rowOf i % 28 = rem) :
    (codeRows.access (codeBox off inb)).emb (ix2 (Fin.ofNat 8 (rowOf i / 28)) (i 3 : Fin 128)) = i := by
  have b : rowOf i < 224 := by
    have b1 : ((i 1 : Fin 28) : ℕ) < 28 := (i 1 : Fin 28).isLt
    have b2 : ((i 2 : Fin 8) : ℕ) < 8 := (i 2 : Fin 8).isLt
    unfold rowOf; omega
  obtain ⟨h0, h1, h2⟩ := codeBox_mem off inb t rem hr hoff (ix2 (Fin.ofNat 8 (rowOf i / 28)) (i 3 : Fin 128))
  generalize hz : (codeRows.access (codeBox off inb)).emb (ix2 (Fin.ofNat 8 (rowOf i / 28)) (i 3 : Fin 128)) = z at h0 h1 h2
  have h0 : ((z 0 : Fin 513) : ℕ) = t := h0
  have h1 : rowOf z = rem + 28 * (rowOf i / 28 % 8) := h1
  have h2 : ((z 3 : Fin 128) : ℕ) = ((i 3 : Fin 128) : ℕ) := h2
  have hr' : rowOf z = rowOf i := by omega
  have a1 : ((i 1 : Fin 28) : ℕ) < 28 := (i 1 : Fin 28).isLt
  have a2 : ((i 2 : Fin 8) : ℕ) < 8 := (i 2 : Fin 8).isLt
  have a3 : ((z 1 : Fin 28) : ℕ) < 28 := (z 1 : Fin 28).isLt
  have a4 : ((z 2 : Fin 8) : ℕ) < 8 := (z 2 : Fin 8).isLt
  clear hz
  unfold rowOf at hr'
  funext a
  match a with
  | ⟨0, _⟩ => exact Fin.ext (h0.trans hi.symm)
  | ⟨1, _⟩ => exact Fin.ext (show ((z 1 : Fin 28) : ℕ) = ((i 1 : Fin 28) : ℕ) by omega)
  | ⟨2, _⟩ => exact Fin.ext (show ((z 2 : Fin 8) : ℕ) = ((i 2 : Fin 8) : ℕ) by omega)
  | ⟨3, _⟩ => exact Fin.ext h2

/-- What a strided store leaves in its tile. -/
theorem codeWrite (off : Fin 2 → ℕ) (inb : ∀ a, S8x128.size a = 0 ∨ off a + (![28, 1] : Fin 2 → ℕ) a * (S8x128.size a - 1) < S114912x128.size a)
    (t rem : ℕ) (hr : rem < 28) (hoff : off = ![224 * t + rem, 0]) (f : CodeBuf) (w : S8x128.Idx → BitVec 32) :
    ∀ i ∈ tileSet t, (codeRows.access (codeBox off inb)).write (Elt F) f w Finset.univ i = updRow t rem f w i := by
  refine write_eq_of (F := F) (codeRows.access (codeBox off inb)) f (updRow t rem f w) w (tileSet t) ?_ ?_
  · intro x
    obtain ⟨h0, h1, h2⟩ := codeBox_mem off inb t rem hr hoff x
    have bx : ((x 0 : Fin 8) : ℕ) < 8 := (x 0 : Fin 8).isLt
    replace h1 : rowOf ((codeRows.access (codeBox off inb)).emb x) = rem + 28 * ((x 0 : Fin 8) : ℕ) := h1
    refine (if_pos ⟨h0, by omega⟩).trans ?_
    refine Eq.trans (b := w x) ?_ rfl
    refine congrArg w ?_
    funext a
    match a with
    | ⟨0, _⟩ => exact Fin.ext (show (rowOf ((codeRows.access (codeBox off inb)).emb x) / 28) % 8 = ((x 0 : Fin 8) : ℕ) by
        have h1' : rowOf ((codeRows.access (codeBox off inb)).emb x) = rem + 28 * ((x 0 : Fin 8) : ℕ) := h1
        omega)
    | ⟨1, _⟩ => exact Fin.ext h2
  · intro i hi hn
    refine if_neg ?_
    rintro ⟨h0, h⟩
    exact hn _ (codeBox_surj off inb t rem hr hoff i h0 h)

/-- A strided store of eight rows into a tile that is owned. -/
theorem codeStore {off : Fin 2 → ℕ} {inb : ∀ a, S8x128.size a = 0 ∨ off a + (![28, 1] : Fin 2 → ℕ) a * (S8x128.size a - 1) < S114912x128.size a}
    {w : S8x128.Idx → Elt F .i32} {hx} {hm} {k : PUnit → PG F α}
    (t rem : ℕ) (hr : rem < 28) (hoff : off = ![224 * t + rem, 0]) (f : CodeBuf) :
    (((c : Thread nD τ).loc cc0_scratch0 ↦[tileSet t]{fullShare} f) : SP F)
      ⊢ iprop((((c : Thread nD τ).loc cc0_scratch0 ↦[tileSet t]{fullShare} updRow t rem f w) -∗ WP c (k ⟨⟩) Q)
        -∗ WP c (.op (.store codeRows ⟨⟨off, S8x128.size, ![28, 1], inb⟩, spos_28_1⟩ w Finset.univ hx hm) k) Q) := by
  have hsub : (codeRows.access (codeBox off inb)).setOn Finset.univ ⊆ tileSet t := by
    intro i hi
    obtain ⟨x, _, rfl⟩ := Finset.mem_map.mp hi
    exact mem_tileSet.mpr (codeBox_mem off inb t rem hr hoff x).1
  have e2 : (((c : Thread nD τ).loc cc0_scratch0 ↦[tileSet t]{fullShare} (codeRows.access (codeBox off inb)).write (Elt F) f w Finset.univ) : SP F)
      = ((c : Thread nD τ).loc cc0_scratch0 ↦[tileSet t]{fullShare} updRow t rem f w) := pointsTo_congr (codeWrite off inb t rem hr hoff f w)
  have key := wp_store (hx := hx) (hm := hm) (k := k) (Q := Q) (w := w) (f := f) (S := tileSet t) (defs := defs₀ (F := F)) (Γ := .empty) Variants.none (c : Thread nD τ) none Set.univ
    (m := codeRows) (r := codeBox off inb) (Mk := Finset.univ) hsub
  exact key.trans (wand_mono_left (wand_mono_left (le_of_eq e2)))

/-- A strided load of eight rows of an owned tile: any value will do. -/
theorem codeLoadRow {off : Fin 2 → ℕ} {inb : ∀ a, S8x128.size a = 0 ∨ off a + (![28, 1] : Fin 2 → ℕ) a * (S8x128.size a - 1) < S114912x128.size a}
    {hl} {k : (S8x128.Idx → Elt F .i32) → PG F α}
    (t rem : ℕ) (hr : rem < 28) (hoff : off = ![224 * t + rem, 0]) (f : CodeBuf) :
    (((c : Thread nD τ).loc cc0_scratch0 ↦[tileSet t]{fullShare} f) : SP F)
      ⊢ iprop((((c : Thread nD τ).loc cc0_scratch0 ↦[tileSet t]{fullShare} f) -∗ ∀ x, WP c (k x) Q)
        -∗ WP c (.op (.load codeRows (⟨off, S8x128.size, ![28, 1], inb⟩ : LoadRect S114912x128) hl) k) Q) := by
  have hsub : codeRows.view.setOn (⟨off, S8x128.size, ![28, 1], inb⟩ : LoadRect S114912x128).set ⊆ tileSet t := by
    intro i hi
    refine (show (codeRows.access (codeBox off inb)).setOn Finset.univ ⊆ tileSet t from ?_) ?_
    · intro i hi
      obtain ⟨x, _, rfl⟩ := Finset.mem_map.mp hi
      exact mem_tileSet.mpr (codeBox_mem off inb t rem hr hoff x).1
    · have h := View.set_slice codeRows.view (codeBox off inb)
      have h2 : (codeRows.access (codeBox off inb)).setOn Finset.univ = codeRows.view.setOn (⟨off, S8x128.size, ![28, 1], inb⟩ : LoadRect S114912x128).set := h
      rw [h2]; exact hi
  have key := wp_load (hl := hl) (k := k) (Q := Q) (f := f) (S := tileSet t) (q := fullShare) (defs := defs₀ (F := F)) (Γ := .empty) Variants.none (c : Thread nD τ) none Set.univ
    (m := codeRows) hsub
  exact key.trans (wand_mono_left (wand_mono_right (forall_elim _)))

end Cert.Proof.Kernel

end
-- ==== Proof.Words.lean ====
module

public import Idealize.ShloMosaic.Adequacy
public import Idealize.ShloMosaic.Init
public import Idealize.ShloMosaic.Lib.ValueLayout

@[expose] public section

noncomputable section

namespace Cert.Proof

open Idealize.ShloMosaic

/-! Words as natural numbers, and the quantities that the kernel computes from its tables. -/

/-- The word `w` is the number `n`, in the nonnegative range. -/
structure W (w : BitVec 32) (n : ℕ) : Prop where
  eq : w.toNat = n
  lt : n < 2147483648

namespace W
variable {a b : BitVec 32} {m n : ℕ}

theorem lit (n : ℕ) (h : n < 2147483648) : W (BitVec.ofNat 32 n) n := ⟨by rw [BitVec.toNat_ofNat]; omega, h⟩
theorem word (ha : W a m) : a = BitVec.ofNat 32 m := BitVec.eq_of_toNat_eq (by rw [ha.eq, BitVec.toNat_ofNat]; have := ha.lt; omega)
theorem cast (ha : W a m) (h : m = n) : W a n := h ▸ ha
theorem add (ha : W a m) (hb : W b n) (h : m + n < 2147483648) : W (Scalar.addi a b) (m + n) :=
  ⟨by simp only [Scalar.addi, IntOp.addi, BitVec.toNat_add, ha.eq, hb.eq]; omega, h⟩
theorem sub (ha : W a m) (hb : W b n) (h : n ≤ m) : W (Scalar.subi a b) (m - n) :=
  ⟨by have := ha.lt; have := hb.lt; simp only [Scalar.subi, IntOp.subi, BitVec.toNat_sub, ha.eq, hb.eq]; omega, by have := ha.lt; omega⟩
theorem mul (ha : W a m) (hb : W b n) (h : m * n < 2147483648) : W (Scalar.muli a b) (m * n) :=
  ⟨by simp only [Scalar.muli, IntOp.muli, BitVec.toNat_mul, ha.eq, hb.eq]; omega, h⟩
theorem msb (ha : W a m) : a.msb = false := by
  rw [BitVec.msb_eq_decide]; have := ha.eq; have := ha.lt; simp; omega
theorem toInt (ha : W a m) : a.toInt = m := by
  rw [BitVec.toInt_eq_toNat_of_msb ha.msb, ha.eq]
theorem ncorner (ha : W a m) (hb : W b n) (h : 0 < n) : ¬ IntOp.SDivCorner a b := by
  rintro (h0 | ⟨h1, h2⟩)
  · rw [h0] at hb; have := hb.eq; simp at this; omega
  · have h3 := hb.msb; rw [h2] at h3; exact absurd h3 (by decide)
theorem div (ha : W a m) (hb : W b n) (h : 0 < n) : W (Scalar.divsi a b) (m / n) := by
  refine ⟨?_, lt_of_le_of_lt (Nat.div_le_self _ _) ha.lt⟩
  simp only [Scalar.divsi, IntOp.divsi, if_neg (ncorner ha hb h), BitVec.sdiv_eq, ha.msb, hb.msb, BitVec.udiv_eq, BitVec.toNat_udiv, ha.eq, hb.eq]
theorem rem (ha : W a m) (hb : W b n) (h : 0 < n) : W (Scalar.remsi a b) (m % n) := by
  refine ⟨?_, lt_of_le_of_lt (Nat.mod_le _ _) ha.lt⟩
  simp only [Scalar.remsi, IntOp.remsi, if_neg (ncorner ha hb h), BitVec.srem_eq, ha.msb, hb.msb, BitVec.umod_eq, BitVec.toNat_umod, ha.eq, hb.eq]
theorem slt (ha : W a m) (hb : W b n) : a.slt b = decide (m < n) := by
  rw [BitVec.slt_eq_decide, ha.toInt, hb.toInt]; simp
theorem min (ha : W a m) (hb : W b n) : W (Scalar.minsi a b) (Nat.min m n) := by
  simp only [Scalar.minsi, IntOp.minsi, slt ha hb, decide_eq_true_eq]
  split
  · exact ha.cast (by simp [Nat.min_def]; omega)
  · exact hb.cast (by simp [Nat.min_def]; omega)
theorem max (ha : W a m) (hb : W b n) : W (Scalar.maxsi a b) (Nat.max m n) := by
  simp only [Scalar.maxsi, IntOp.maxsi, slt hb ha, decide_eq_true_eq]
  split
  · exact ha.cast (by simp [Nat.max_def]; omega)
  · exact hb.cast (by simp [Nat.max_def]; omega)
theorem iv (ha : W a m) (k : ℕ) (h : m + k < 2147483648) : W (Scf.iv a 1#32 k) (m + k) := by
  refine ⟨?_, h⟩
  simp only [Scf.iv, BitVec.toNat_add, BitVec.toNat_mul, BitVec.toNat_ofNat, ha.eq]
  have : k % 2 ^ 32 = k := by omega
  simp [this]; omega
end W

/-- The kernel's floor division of words. -/
def fdivW (a b : BitVec 32) : BitVec 32 :=
  Scalar.select (Scalar.andi (Scalar.cmpi .ne (Scalar.subi (Scalar.extui (Scalar.cmpi .sgt a 0#32)) (Scalar.extui (Scalar.cmpi .slt a 0#32)))
      (Scalar.subi (Scalar.extui (Scalar.cmpi .sgt b 0#32)) (Scalar.extui (Scalar.cmpi .slt b 0#32))))
    (Scalar.cmpi .ne (Scalar.remsi a b) 0#32)) (Scalar.subi (Scalar.divsi a b) 1#32) (Scalar.divsi a b)

theorem W.fdiv {a b : BitVec 32} {m n : ℕ} (ha : W a m) (hb : W b n) (h : 0 < n) : W (fdivW a b) (m / n) := by
  have h0 : W 0#32 0 := W.lit 0 (by decide)
  have hr := ha.rem hb h
  have key : (Scalar.andi (Scalar.cmpi .ne (Scalar.subi (Scalar.extui (Scalar.cmpi .sgt a 0#32)) (Scalar.extui (Scalar.cmpi .slt a 0#32)) : BitVec 32)
      (Scalar.subi (Scalar.extui (Scalar.cmpi .sgt b 0#32)) (Scalar.extui (Scalar.cmpi .slt b 0#32))))
    (Scalar.cmpi .ne (Scalar.remsi a b) 0#32)) = 0#1 := by
    simp only [Scalar.cmpi, IntOp.cmpi, h0.slt ha, ha.slt h0, h0.slt hb, hb.slt h0]
    by_cases hm : 0 < m
    · simp [hm, h]
      exact BitVec.zero_and
    · have : m = 0 := by omega
      subst this
      have e : Scalar.remsi a b = 0#32 := (hr.cast (by simp)).word
      rw [e]
      simp [h]
      exact BitVec.and_zero
  unfold fdivW
  rw [key]
  exact ha.div hb h

/-- A loop from `lo` to `hi` in unit steps, as the kernel writes it. -/
@[reducible] def uloop (lo hi : BitVec 32) : Scf.Loop 32 := ⟨lo, Scalar.addi lo (Scalar.muli (Scalar.divsi (Scalar.subi hi lo) 1#32) 1#32), 1#32⟩
/-- The remainder of an unrolled loop, as the kernel writes it. -/
@[reducible] def rloop (lo hi : BitVec 32) : Scf.Loop 32 :=
  ⟨Scalar.addi lo (Scalar.muli (Scalar.divsi (Scalar.subi hi lo) 1#32) 1#32), Scalar.addi lo (Scalar.subi hi lo), 1#32⟩

theorem one_toInt : (1#32 : BitVec 32).toInt = 1 := by decide

theorem W.loop {a b : BitVec 32} {m n : ℕ} (ha : W a m) (hb : W b n) (h : m ≤ n) : Scf.trips a b 1#32 = n - m ∧ Scf.OK a b 1#32 := by
  have e : Scf.trips a b 1#32 = n - m := by
    unfold Scf.trips
    rw [ha.toInt, hb.toInt, one_toInt]
    omega
  refine ⟨e, by decide, ?_⟩
  rw [e, ha.toInt, one_toInt]
  have := hb.lt
  push_cast
  omega

theorem uloop_ub {lo hi : BitVec 32} {m n : ℕ} (ha : W lo m) (hb : W hi n) (h : m ≤ n) :
    W (Scalar.addi lo (Scalar.muli (Scalar.divsi (Scalar.subi hi lo) 1#32) 1#32)) n := by
  have hl := hb.lt
  have h1 : W 1#32 1 := W.lit 1 (by decide)
  exact (ha.add (((hb.sub ha h).div h1 (by decide)).mul h1 (by omega)) (by omega)).cast (by omega)

theorem uloop_trips {lo hi : BitVec 32} {m n : ℕ} (ha : W lo m) (hb : W hi n) (h : m ≤ n) : (uloop lo hi).trips = n - m :=
  (ha.loop (uloop_ub ha hb h) h).1
theorem uloop_ok {lo hi : BitVec 32} {m n : ℕ} (ha : W lo m) (hb : W hi n) (h : m ≤ n) : (uloop lo hi).OK :=
  (ha.loop (uloop_ub ha hb h) h).2
theorem rloop_trips {lo hi : BitVec 32} {m n : ℕ} (ha : W lo m) (hb : W hi n) (h : m ≤ n) : (rloop lo hi).trips = 0 := by
  have hl := hb.lt
  exact ((uloop_ub ha hb h).loop ((ha.add (hb.sub ha h) (by omega)).cast (n := n) (by omega)) le_rfl).1.trans (by omega)
theorem rloop_ok {lo hi : BitVec 32} {m n : ℕ} (ha : W lo m) (hb : W hi n) (h : m ≤ n) : (rloop lo hi).OK := by
  have hl := hb.lt
  exact ((uloop_ub ha hb h).loop ((ha.add (hb.sub ha h) (by omega)).cast (n := n) (by omega)) le_rfl).2

/-- The number of blocks, of zero copies, and of zero copies in a step, as the kernel computes them. -/
def nbW (v0 : BitVec 32) : BitVec 32 := fdivW (Scalar.subi (Scalar.addi v0 64#32) 1#32) 64#32
def zbW (v0 : BitVec 32) : BitVec 32 := Scalar.muli (nbW v0) 2#32
def nzW (v0 : BitVec 32) : BitVec 32 := Scalar.subi 512#32 (zbW v0)
def zpsW (v0 : BitVec 32) : BitVec 32 :=
  fdivW (Scalar.subi (Scalar.addi (nzW v0) (Scalar.muli 2#32 (Scalar.addi 16#32 (nbW v0)))) 1#32) (Scalar.muli 2#32 (Scalar.addi 16#32 (nbW v0)))
def stopW (v1 v115 : BitVec 32) : BitVec 32 := fdivW (Scalar.subi (Scalar.addi (Scalar.subi v115 v1) 16#32) 1#32) 16#32

variable {v0 v1 : BitVec 32} {nu np : ℕ}

theorem W.nb (h : W v0 nu) (hu : nu ≤ 16384) : W (nbW v0) ((nu + 63) / 64) :=
  (((h.add (W.lit 64 (by decide)) (by omega)).sub (W.lit 1 (by decide)) (by omega)).fdiv (W.lit 64 (by decide)) (by decide)).cast (by omega)
theorem W.zb (h : W v0 nu) (hu : nu ≤ 16384) : W (zbW v0) (2 * ((nu + 63) / 64)) :=
  ((h.nb hu).mul (W.lit 2 (by decide)) (by omega)).cast (by omega)
theorem W.nz (h : W v0 nu) (hu : nu ≤ 16384) : W (nzW v0) (512 - 2 * ((nu + 63) / 64)) :=
  (W.lit 512 (by decide)).sub (h.zb hu) (by omega)
/-- The zero copies of a step. -/
def zps (nu : ℕ) : ℕ := (512 - 2 * ((nu + 63) / 64) + 2 * (16 + (nu + 63) / 64) - 1) / (2 * (16 + (nu + 63) / 64))
theorem zps_le (nu : ℕ) : zps nu ≤ 100000 ∨ 16384 < nu := by
  by_cases h : 16384 < nu
  · exact Or.inr h
  · refine Or.inl (le_trans (Nat.div_le_self _ _) (by omega))
theorem W.zps (h : W v0 nu) (hu : nu ≤ 16384) : W (zpsW v0) (zps nu) := by
  have h2 : W (Scalar.muli 2#32 (Scalar.addi 16#32 (nbW v0))) (2 * (16 + (nu + 63) / 64)) :=
    (W.lit 2 (by decide)).mul ((W.lit 16 (by decide)).add (h.nb hu) (by omega)) (by omega)
  exact (((h.nz hu).add h2 (by omega)).sub (W.lit 1 (by decide)) (by omega)).fdiv h2 (by omega)
/-- Where the zero copies stand after a step. -/
def zstep (nu d : ℕ) : ℕ := Nat.min (d + zps nu) (512 - 2 * ((nu + 63) / 64))
theorem W.zstop {d : ℕ} {a : BitVec 32} (h : W v0 nu) (hu : nu ≤ 16384) (ha : W a d) (hd : d ≤ 512) :
    W (Scalar.minsi (Scalar.addi a (zpsW v0)) (nzW v0)) (zstep nu d) := by
  have := zps_le nu
  exact (ha.add (h.zps hu) (by omega)).min (h.nz hu)
theorem zstep_bounds {nu d : ℕ} (hd : d ≤ 512 - 2 * ((nu + 63) / 64)) : d ≤ zstep nu d ∧ zstep nu d ≤ 512 - 2 * ((nu + 63) / 64) :=
  ⟨le_min (Nat.le_add_right _ _) hd, min_le_right _ _⟩
theorem W.stop {s : BitVec 32} {e : ℕ} (h : W v1 np) (hs : W s e) (he : e ≤ 16384) (hn : np ≤ e) : W (stopW v1 s) ((e - np + 15) / 16) :=
  (((((hs.sub h hn).add (W.lit 16 (by decide)) (by omega)).sub (W.lit 1 (by decide)) (by omega)).fdiv (W.lit 16 (by decide)) (by decide))).cast (by omega)

/-- A zero copy's offset. -/
theorem zoff {a : BitVec 32} {d k : ℕ} (h : W v0 nu) (hu : nu ≤ 16384) (ha : W a d) (hd : d + k ≤ 512) :
    (Scalar.muli (Scalar.addi (zbW v0) (Scf.iv a 1#32 k)) 4#32).toNat = 4 * (2 * ((nu + 63) / 64) + (d + k)) := by
  have := (((h.zb hu).add (ha.iv k (by omega)) (by omega)).mul (W.lit 4 (by decide)) (by omega)).eq
  omega

/-- Where the token loop ends, in groups. -/
def gstop (np e g : ℕ) : ℕ := Nat.max ((e - np + 15) / 16) g

theorem shr3 {a : BitVec 32} {m : ℕ} (h : W a m) : W (Scalar.shrui a 3#32) (m / 8) := by
  refine ⟨?_, lt_of_le_of_lt (Nat.div_le_self _ _) h.lt⟩
  have : Scalar.shrui a 3#32 = a >>> 3#32 := by
    unfold Scalar.shrui IntOp.shrui
    exact if_pos (by decide)
  rw [this]
  show (a >>> (3#32).toNat).toNat = _
  rw [BitVec.toNat_ushiftRight, h.eq, Nat.shiftRight_eq_div_pow]
  norm_num

theorem and31 {a : BitVec 32} {m : ℕ} (h : W a m) : W (Scalar.andi a 31#32) (m % 32) := by
  refine ⟨?_, lt_of_le_of_lt (Nat.mod_le _ _) h.lt⟩
  show (a &&& 31#32).toNat = _
  rw [BitVec.toNat_and, h.eq]
  exact Nat.and_two_pow_sub_one_eq_mod m 5
theorem and7 {a : BitVec 32} {m : ℕ} (h : W a m) : W (Scalar.andi a 7#32) (m % 8) := by
  refine ⟨?_, lt_of_le_of_lt (Nat.mod_le _ _) h.lt⟩
  show (a &&& 7#32).toNat = _
  rw [BitVec.toNat_and, h.eq]
  exact Nat.and_two_pow_sub_one_eq_mod m 3

/-- The number of blocks. -/
def nbl (nu : ℕ) : ℕ := (nu + 63) / 64

theorem W.nb' (h : W v0 nu) (hu : nu ≤ 16384) : W (nbW v0) (nbl nu) := h.nb hu
theorem nbl_le (hu : nu ≤ 16384) : nbl nu ≤ 256 := by unfold nbl; omega

theorem W.zero : W 0#32 0 := W.lit 0 (by decide)
theorem iv0 (k : ℕ) (h : k < 100000) : W (Scf.iv 0#32 1#32 k) k := (W.zero.iv k (by omega)).cast (Nat.zero_add k)

/-- The first block that the drain waits for. -/
theorem W.drain (h : W v0 nu) (hu : nu ≤ 16384) : W (Scalar.maxsi (Scalar.subi (nbW v0) 3#32) 0#32) (nbl nu - 3) := by
  have hn := h.nb' hu
  have := nbl_le hu
  by_cases h3 : 3 ≤ nbl nu
  · exact ((hn.sub (W.lit 3 (by decide)) h3).max W.zero).cast (Nat.max_eq_left (Nat.zero_le _))
  · have h4 : nbl nu = 0 ∨ nbl nu = 1 ∨ nbl nu = 2 := by omega
    rw [hn.word]
    rcases h4 with h4 | h4 | h4 <;> rw [h4] <;> exact ⟨by decide, by decide⟩

theorem cond_of (b : Bool) : (Scalar.cmpi .ne (Scalar.extui (BitVec.ofBool b)) 0#32 = 1#1) ↔ b = true := by
  cases b <;> decide

theorem fin4 {n0 n1 n2 n3 : ℕ} {m s : Fin 4 → ℕ} {off : Fin 4 → ℕ} (e : off = ![n0, n1, n2, n3]) (h0 : n0 + m 0 ≤ s 0) (h1 : n1 + m 1 ≤ s 1) (h2 : n2 + m 2 ≤ s 2) (h3 : n3 + m 3 ≤ s 3) :
    ∀ a, off a + m a ≤ s a := by
  subst e
  intro a
  match a with
  | ⟨0, _⟩ => exact h0
  | ⟨1, _⟩ => exact h1
  | ⟨2, _⟩ => exact h2
  | ⟨3, _⟩ => exact h3
theorem fin1 {n0 : ℕ} {m s : Fin 1 → ℕ} {off : Fin 1 → ℕ} (e : off = ![n0]) (h0 : n0 + m 0 ≤ s 0) : ∀ a, off a + m a ≤ s a := by
  subst e
  intro a
  match a with
  | ⟨0, _⟩ => exact h0

end Cert.Proof

end
-- ==== Proof.Main.Arith.lean ====
module

public import proofs.«01_k».proof.Proof.Words
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init
public import Idealize.ShloMosaic.Lib.ValueLayout

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
/-! The kernel's index arithmetic on words, as arithmetic on natural numbers. -/

theorem t4_eq (v0 a : BitVec 32) : k0_t4_loop v0 a = uloop a (Scalar.minsi (Scalar.addi a (zpsW v0)) (nzW v0)) := rfl
theorem t5_eq (v0 a : BitVec 32) : k0_t5_loop v0 a = rloop a (Scalar.minsi (Scalar.addi a (zpsW v0)) (nzW v0)) := rfl
theorem t9_eq (v0 a : BitVec 32) : k0_t9_loop v0 a = uloop a (Scalar.minsi (Scalar.addi a (zpsW v0)) (nzW v0)) := rfl
theorem t10_eq (v0 a : BitVec 32) : k0_t10_loop v0 a = rloop a (Scalar.minsi (Scalar.addi a (zpsW v0)) (nzW v0)) := rfl
theorem t24_eq (v0 a : BitVec 32) : k0_t24_loop v0 a = uloop a (nzW v0) := rfl
theorem t25_eq (v0 a : BitVec 32) : k0_t25_loop v0 a = rloop a (nzW v0) := rfl
theorem t26_eq (v0 : BitVec 32) : k0_t26_loop v0 = uloop 0#32 (nzW v0) := rfl
theorem t27_eq (v0 : BitVec 32) : k0_t27_loop v0 = rloop 0#32 (nzW v0) := rfl
theorem t8_eq (v0 : BitVec 32) : k0_t8_loop v0 = uloop 0#32 (nbW v0) := rfl
theorem t15_eq (v0 : BitVec 32) : k0_t15_loop v0 = rloop 0#32 (nbW v0) := rfl
theorem t13_eq (v0 : BitVec 32) : k0_t13_loop v0 = uloop v0 (Scalar.muli (nbW v0) 64#32) := rfl
theorem t14_eq (v0 : BitVec 32) : k0_t14_loop v0 = rloop v0 (Scalar.muli (nbW v0) 64#32) := rfl
theorem t22_eq (v0 : BitVec 32) : k0_t22_loop v0 = uloop (Scalar.maxsi (Scalar.subi (nbW v0) 3#32) 0#32) (nbW v0) := rfl
theorem t23_eq (v0 : BitVec 32) : k0_t23_loop v0 = rloop (Scalar.maxsi (Scalar.subi (nbW v0) 3#32) 0#32) (nbW v0) := rfl
theorem t11_eq (v1 g s : BitVec 32) : k0_t11_loop v1 g s = uloop g (Scalar.maxsi (stopW v1 s) g) := rfl
theorem t12_eq (v1 g s : BitVec 32) : k0_t12_loop v1 g s = rloop g (Scalar.maxsi (stopW v1 s) g) := rfl

variable {v0 v1 : BitVec 32} {nu np : ℕ}

theorem chkZ {d : ℕ} {a : BitVec 32} (h : W v0 nu) (hu : nu ≤ 16384) (ha : W a d) (hd : d ≤ 512 - 2 * ((nu + 63) / 64)) : k0_chk1 v0 a := by
  have hs := h.zstop hu ha (by omega)
  have hb := zstep_bounds hd
  refine ⟨uloop_ok ha hs hb.1, fun k => ?_, rloop_ok ha hs hb.1, fun k => ?_⟩
  · have hk : (k : ℕ) < zstep nu d - d := lt_of_lt_of_eq k.isLt (uloop_trips ha hs hb.1)
    intro i
    match i with
    | ⟨0, _⟩ =>
      have e := zoff (k := (k : ℕ)) h hu ha (by omega)
      have e : k0_off31 v0 a k 0 = _ := e
      exact (show k0_off31 v0 a k 0 + 4 ≤ 2048 by omega)
    | ⟨1, _⟩ => exact (show 0 + 56 ≤ 56 by decide)
    | ⟨2, _⟩ => exact (show 0 + 8 ≤ 8 by decide)
    | ⟨3, _⟩ => exact (show 0 + 128 ≤ 128 by decide)
  · exact (Nat.not_lt_zero _ (lt_of_lt_of_eq k.isLt (rloop_trips ha hs hb.1))).elim
theorem chkZ' {d : ℕ} {a : BitVec 32} (h : W v0 nu) (hu : nu ≤ 16384) (ha : W a d) (hd : d ≤ 512 - 2 * ((nu + 63) / 64)) : k0_chk3 v0 a := chkZ h hu ha hd
theorem chkZF {d : ℕ} {a : BitVec 32} (h : W v0 nu) (hu : nu ≤ 16384) (ha : W a d) (hd : d ≤ 512 - 2 * ((nu + 63) / 64)) : k0_chk71 v0 a := by
  have hs := h.nz hu
  refine ⟨uloop_ok ha hs hd, fun k => ?_, rloop_ok ha hs hd, fun k => ?_⟩
  · have hk : (k : ℕ) < 512 - 2 * ((nu + 63) / 64) - d := lt_of_lt_of_eq k.isLt (uloop_trips ha hs hd)
    intro i
    match i with
    | ⟨0, _⟩ =>
      have e := zoff (k := (k : ℕ)) h hu ha (by omega)
      have e : k0_off318 v0 a k 0 = _ := e
      exact (show k0_off318 v0 a k 0 + 4 ≤ 2048 by omega)
    | ⟨1, _⟩ => exact (show 0 + 56 ≤ 56 by decide)
    | ⟨2, _⟩ => exact (show 0 + 8 ≤ 8 by decide)
    | ⟨3, _⟩ => exact (show 0 + 128 ≤ 128 by decide)
  · exact (Nat.not_lt_zero _ (lt_of_lt_of_eq k.isLt (rloop_trips ha hs hd))).elim

theorem chkT {g e : ℕ} {a s : BitVec 32} (h : W v1 np) (hs : W s e) (he : e ≤ 16384) (hn : np ≤ e) (ha : W a g) (hg : np + 16 * g ≤ 17000) : k0_chk4 v1 a s := by
  have hm := (h.stop hs he hn).max ha
  have hle : g ≤ gstop np e g := le_max_right _ _
  have hub : np + 16 * gstop np e g ≤ 17000 := by
    rcases max_choice ((e - np + 15) / 16) g with hh | hh
    · have : gstop np e g = (e - np + 15) / 16 := hh
      omega
    · have : gstop np e g = g := hh
      omega
  have core : ∀ (k : ℕ) (kk : BitVec 32) (off : Fin 1 → ℕ), k < gstop np e g - g → kk.toNat < 16 →
      off = ![(Scalar.indexCast (Scalar.addi (Scalar.addi v1 (Scalar.muli (Scf.iv a 1#32 k) 16#32)) kk)).toNat] → ∀ i, off i + S1.size i ≤ S17408.size i := by
    intro k kk off hk hkk ho i
    have e1 := ((h.add ((ha.iv k (by omega)).mul (W.lit 16 (by decide)) (by omega)) (by omega)).add (b := kk) ⟨rfl, by omega⟩ (by omega)).eq
    rw [ho]
    match i with
    | ⟨0, _⟩ => exact (show (Scalar.addi (Scalar.addi v1 (Scalar.muli (Scf.iv a 1#32 k) 16#32)) kk).toNat + 1 ≤ 17408 by omega)
  have ht : ∀ k : Fin (k0_t11_loop v1 a s).trips, (k : ℕ) < gstop np e g - g := fun k => lt_of_lt_of_eq k.isLt (uloop_trips ha hm hle)
  have ht2 : ∀ k : Fin (k0_t12_loop v1 a s).trips, False := fun k => Nat.not_lt_zero _ (lt_of_lt_of_eq k.isLt (rloop_trips ha hm hle))
  refine ⟨⟨uloop_ok ha hm hle, fun k => core k 0#32 _ (ht k) (by decide) rfl, fun k r => ?_, fun k r => ?_, fun k r => ?_, fun k r => ?_, fun k r => ?_, fun k r => ?_, fun k r => ?_, fun k r => ?_,
    fun k r => ?_, fun k r => ?_, fun k r => ?_, fun k r => ?_, fun k r => ?_, fun k r => ?_, fun k r => ?_, fun k => core k 15#32 _ (ht k) (by decide) rfl, rloop_ok ha hm hle,
    fun k => (ht2 k).elim, fun k => (ht2 k).elim, fun k => (ht2 k).elim, fun k => (ht2 k).elim, fun k => (ht2 k).elim, fun k => (ht2 k).elim, fun k => (ht2 k).elim,
    fun k => (ht2 k).elim, fun k => (ht2 k).elim, fun k => (ht2 k).elim, fun k => (ht2 k).elim, fun k => (ht2 k).elim, fun k => (ht2 k).elim⟩,
    ⟨fun k => (ht2 k).elim, fun k => (ht2 k).elim, fun k => (ht2 k).elim, fun k => (ht2 k).elim⟩⟩
  all_goals (refine core k _ _ (ht k) ?_ rfl; have := r.isLt; rw [BitVec.toNat_ofNat]; omega)

end Cert.Proof.Kernel

end
-- ==== Proof.Main.BArith.lean ====
module

public import proofs.«01_k».proof.Proof.Main.Arith

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
/-! The offsets and conditions of the block loops, as natural numbers. -/

variable {v0 : BitVec 32} {nu : ℕ}

theorem half_lt (t : Fin k0_t1_loop.trips) : (t : ℕ) < 2 := lt_of_lt_of_eq t.isLt (by decide)

section
variable (h : W v0 nu) (hu : nu ≤ 16384)
include h hu
theorem t8_trips : (k0_t8_loop v0).trips = nbl nu := (uloop_trips W.zero (h.nb' hu) (Nat.zero_le _)).trans (Nat.sub_zero _)
theorem t8_lt (k : Fin (k0_t8_loop v0).trips) : (k : ℕ) < nbl nu := lt_of_lt_of_eq k.isLt (t8_trips h hu)
theorem t8_iv (k : Fin (k0_t8_loop v0).trips) : W (Scf.iv 0#32 1#32 k) (k : ℕ) := iv0 k (by have := t8_lt h hu k; have := nbl_le hu; omega)

theorem cond1_iff (k : Fin (k0_t8_loop v0).trips) : k0_cond1 v0 k = 1#1 ↔ 3 ≤ (k : ℕ) := by
  have hk := t8_iv h hu k
  have e : k0_cond1 v0 k = Scalar.cmpi .ne (Scalar.extui (BitVec.ofBool ((3#32).sle (Scf.iv 0#32 1#32 k)))) 0#32 := rfl
  rw [e, cond_of, BitVec.sle_eq_decide, hk.toInt]
  simp
theorem cond2_iff (k : Fin (k0_t8_loop v0).trips) : k0_cond2 v0 k = 1#1 ↔ (k : ℕ) + 1 = nbl nu := by
  have hk := t8_iv h hu k
  have hl := t8_lt h hu k
  have hs := (h.nb' hu).sub (W.lit 1 (by decide)) (by omega)
  have e : k0_cond2 v0 k = Scalar.cmpi .ne (Scalar.extui (BitVec.ofBool ((Scf.iv 0#32 1#32 k) == (Scalar.subi (nbW v0) 1#32)))) 0#32 := rfl
  rw [e, cond_of, beq_iff_eq, ← BitVec.toNat_inj, hk.eq, hs.eq]
  omega

theorem off96_eq (k : Fin (k0_t8_loop v0).trips) (h3 : 3 ≤ (k : ℕ)) : k0_off96 v0 k = ![((k : ℕ) - 3) % 4] := by
  show ![(Scalar.remsi (Scalar.subi (Scf.iv 0#32 1#32 k) 3#32) 4#32).toNat] = _
  rw [(((t8_iv h hu k).sub (W.lit 3 (by decide)) h3).rem (W.lit 4 (by decide)) (by decide)).eq]
theorem off97_eq (t : Fin k0_t1_loop.trips) (k : Fin (k0_t8_loop v0).trips) (h3 : 3 ≤ (k : ℕ)) : k0_off97 v0 t k = ![8 * ((k : ℕ) - 3), 28 * (t : ℕ), 0, 0] := by
  have hl := t8_lt h hu k; have := nbl_le hu; have ht := half_lt t
  show ![(Scalar.muli (Scalar.subi (Scf.iv 0#32 1#32 k) 3#32) 8#32).toNat, (Scalar.muli (Scf.iv 0#32 1#32 t) 28#32).toNat, 0, 0] = _
  rw [(((t8_iv h hu k).sub (W.lit 3 (by decide)) h3).mul (W.lit 8 (by decide)) (by omega)).eq, ((iv0 t (by omega)).mul (W.lit 28 (by decide)) (by omega)).eq, Nat.mul_comm, Nat.mul_comm (t : ℕ)]
theorem off98_eq (k : Fin (k0_t8_loop v0).trips) (h3 : 3 ≤ (k : ℕ)) : k0_off98 v0 k = ![8 * (((k : ℕ) - 3) % 4), 0, 0, 0] := by
  show ![(Scalar.muli (Scalar.remsi (Scalar.subi (Scf.iv 0#32 1#32 k) 3#32) 4#32) 8#32).toNat, 0, 0, 0] = _
  rw [((((t8_iv h hu k).sub (W.lit 3 (by decide)) h3).rem (W.lit 4 (by decide)) (by decide)).mul (W.lit 8 (by decide)) (by omega)).eq, Nat.mul_comm]
theorem off99_eq (k : Fin (k0_t8_loop v0).trips) : k0_off99 v0 k = ![Nat.min (64 * ((k : ℕ) + 1)) 16384] := by
  have hl := t8_lt h hu k; have := nbl_le hu
  show ![(Scalar.minsi (Scalar.muli (Scalar.addi (Scf.iv 0#32 1#32 k) 1#32) 64#32) 16384#32).toNat] = _
  rw [((((t8_iv h hu k).add (W.lit 1 (by decide)) (by omega)).mul (W.lit 64 (by decide)) (by omega)).min (W.lit 16384 (by decide))).eq, Nat.mul_comm]
theorem off200_eq (k : Fin (k0_t8_loop v0).trips) : k0_off200 v0 k = ![(k : ℕ) % 4] := by
  show ![(Scalar.remsi (Scf.iv 0#32 1#32 k) 4#32).toNat] = _
  rw [((t8_iv h hu k).rem (W.lit 4 (by decide)) (by decide)).eq]
theorem off201_eq (t : Fin k0_t1_loop.trips) (k : Fin (k0_t8_loop v0).trips) : k0_off201 v0 t k = ![8 * (k : ℕ), 28 * (t : ℕ), 0, 0] := by
  have hl := t8_lt h hu k; have := nbl_le hu; have ht := half_lt t
  show ![(Scalar.muli (Scf.iv 0#32 1#32 k) 8#32).toNat, (Scalar.muli (Scf.iv 0#32 1#32 t) 28#32).toNat, 0, 0] = _
  rw [((t8_iv h hu k).mul (W.lit 8 (by decide)) (by omega)).eq, ((iv0 t (by omega)).mul (W.lit 28 (by decide)) (by omega)).eq, Nat.mul_comm, Nat.mul_comm (t : ℕ)]
theorem off202_eq (k : Fin (k0_t8_loop v0).trips) : k0_off202 v0 k = ![8 * ((k : ℕ) % 4), 0, 0, 0] := by
  show ![(Scalar.muli (Scalar.remsi (Scf.iv 0#32 1#32 k) 4#32) 8#32).toNat, 0, 0, 0] = _
  rw [(((t8_iv h hu k).rem (W.lit 4 (by decide)) (by decide)).mul (W.lit 8 (by decide)) (by omega)).eq, Nat.mul_comm]

theorem t13_trips : (k0_t13_loop v0).trips = 64 * nbl nu - nu :=
  (uloop_trips h ((h.nb' hu).mul (W.lit 64 (by decide)) (by have := nbl_le hu; omega)) (by unfold nbl; omega)).trans (by rw [Nat.mul_comm])
/-- The flat ring row of output row `u`. -/
theorem off198_eq (k : Fin (k0_t13_loop v0).trips) : k0_off198 v0 k = ![224 * ((nu + (k : ℕ)) / 8 % 32) + (nu + (k : ℕ)) % 8, 0] := by
  have hk : (k : ℕ) < 64 * nbl nu - nu := lt_of_lt_of_eq k.isLt (t13_trips h hu)
  have := nbl_le hu
  have hi := h.iv (k : ℕ) (by omega)
  show ![(Scalar.addi (Scalar.muli (Scalar.andi (Scalar.shrui (Scf.iv v0 1#32 k) 3#32) 31#32) 224#32) (Scalar.andi (Scf.iv v0 1#32 k) 7#32)).toNat, 0] = _
  rw [(((and31 (shr3 hi)).mul (W.lit 224 (by decide)) (by omega)).add (and7 hi) (by omega)).eq, Nat.mul_comm]

theorem t22_trips : (k0_t22_loop v0).trips = nbl nu - (nbl nu - 3) := uloop_trips (h.drain hu) (h.nb' hu) (Nat.sub_le _ _)
theorem t22_lt (k : Fin (k0_t22_loop v0).trips) : (k : ℕ) < nbl nu - (nbl nu - 3) := lt_of_lt_of_eq k.isLt (t22_trips h hu)
theorem t22_iv (k : Fin (k0_t22_loop v0).trips) : W (Scf.iv (Scalar.maxsi (Scalar.subi (nbW v0) 3#32) 0#32) 1#32 k) (nbl nu - 3 + (k : ℕ)) :=
  (h.drain hu).iv k (by have := t22_lt h hu k; have := nbl_le hu; omega)
theorem off312_eq (k : Fin (k0_t22_loop v0).trips) : k0_off312 v0 k = ![(nbl nu - 3 + (k : ℕ)) % 4] := by
  show ![(Scalar.remsi (Scf.iv (Scalar.maxsi (Scalar.subi (nbW v0) 3#32) 0#32) 1#32 k) 4#32).toNat] = _
  rw [((t22_iv h hu k).rem (W.lit 4 (by decide)) (by decide)).eq]
theorem off313_eq (t : Fin k0_t1_loop.trips) (k : Fin (k0_t22_loop v0).trips) : k0_off313 v0 t k = ![8 * (nbl nu - 3 + (k : ℕ)), 28 * (t : ℕ), 0, 0] := by
  have hl := t22_lt h hu k; have := nbl_le hu; have ht := half_lt t
  show ![(Scalar.muli (Scf.iv (Scalar.maxsi (Scalar.subi (nbW v0) 3#32) 0#32) 1#32 k) 8#32).toNat, (Scalar.muli (Scf.iv 0#32 1#32 t) 28#32).toNat, 0, 0] = _
  rw [((t22_iv h hu k).mul (W.lit 8 (by decide)) (by omega)).eq, ((iv0 t (by omega)).mul (W.lit 28 (by decide)) (by omega)).eq, Nat.mul_comm, Nat.mul_comm (t : ℕ)]
theorem off314_eq (k : Fin (k0_t22_loop v0).trips) : k0_off314 v0 k = ![8 * ((nbl nu - 3 + (k : ℕ)) % 4), 0, 0, 0] := by
  show ![(Scalar.muli (Scalar.remsi (Scf.iv (Scalar.maxsi (Scalar.subi (nbW v0) 3#32) 0#32) 1#32 k) 4#32) 8#32).toNat, 0, 0, 0] = _
  rw [(((t22_iv h hu k).rem (W.lit 4 (by decide)) (by decide)).mul (W.lit 8 (by decide)) (by omega)).eq, Nat.mul_comm]

theorem t26_trips : (k0_t26_loop v0).trips = 512 - 2 * nbl nu := (uloop_trips W.zero (h.nz hu) (Nat.zero_le _)).trans (Nat.sub_zero _)
theorem off320_eq (k : Fin (k0_t26_loop v0).trips) : k0_off320 v0 k = ![4 * (2 * nbl nu + (0 + (k : ℕ))), 0, 0, 0] := by
  have hk : (k : ℕ) < 512 - 2 * nbl nu := lt_of_lt_of_eq k.isLt (t26_trips h hu)
  show ![(Scalar.muli (Scalar.addi (zbW v0) (Scf.iv 0#32 1#32 k)) 4#32).toNat, 0, 0, 0] = _
  rw [zoff h hu W.zero (by omega)]
  rfl

/-- What the kernel assumes of the number of segments. -/
theorem chkU (h1 : 1 ≤ nu) : k0_chk2 v0 := by
  have hb := h.nb' hu
  have hz := h.nz hu
  have hd := h.drain hu
  have h64 := (h.nb' hu).mul (W.lit 64 (by decide)) (by have := nbl_le hu; omega)
  have hnb := nbl_le hu
  have hle : nu ≤ nbl nu * 64 := by unfold nbl; omega
  have no {P : Sort _} {n : ℕ} (k : Fin n) (e : n = 0) : P := (Nat.not_lt_zero _ (lt_of_lt_of_eq k.isLt e)).elim
  have e15 : (k0_t15_loop v0).trips = 0 := rloop_trips W.zero hb (Nat.zero_le _)
  have e14 : (k0_t14_loop v0).trips = 0 := rloop_trips h h64 hle
  have e23 : (k0_t23_loop v0).trips = 0 := rloop_trips hd hb (Nat.sub_le _ _)
  have e27 : (k0_t27_loop v0).trips = 0 := rloop_trips W.zero hz (Nat.zero_le _)
  refine ⟨⟨uloop_ok W.zero hb (Nat.zero_le _), fun k hc => ?_, fun t k hc => ?_, fun k hc => ?_, fun k => ?_, fun k hc => uloop_ok h h64 hle, fun k j hc => ?_, fun k hc => rloop_ok h h64 hle, fun k j hc => no j e14,
    fun k => ?_, fun t k => ?_, fun k => ?_, rloop_ok W.zero hb (Nat.zero_le _), fun k => no k e15, fun t k => no k e15, fun k => no k e15, fun k => no k e15, fun k => no k e15, fun k j => no k e15, fun k => no k e15,
    fun k j => no k e15, fun k => no k e15, fun t k => no k e15, fun k => no k e15, uloop_ok hd hb (Nat.sub_le _ _), fun k => ?_, fun t k => ?_, fun k => ?_, rloop_ok hd hb (Nat.sub_le _ _), fun k => no k e23,
    fun t k => no k e23, fun k => no k e23⟩, ⟨uloop_ok W.zero hz (Nat.zero_le _), fun k => ?_, rloop_ok W.zero hz (Nat.zero_le _), fun k => no k e27⟩⟩
  · exact fin1 (off96_eq h hu k ((cond1_iff h hu k).1 hc)) (show _ + 1 ≤ 4 by omega)
  · have hk := t8_lt h hu k; have := half_lt t
    exact fin4 (off97_eq h hu t k ((cond1_iff h hu k).1 hc)) (show _ + 8 ≤ 2048 by omega) (show _ + 28 ≤ 56 by omega) (show 0 + 8 ≤ 8 by decide) (show 0 + 128 ≤ 128 by decide)
  · exact fin4 (off98_eq h hu k ((cond1_iff h hu k).1 hc)) (show _ + 8 ≤ 33 by omega) (show 0 + 28 ≤ 28 by decide) (show 0 + 8 ≤ 8 by decide) (show 0 + 128 ≤ 128 by decide)
  · exact fin1 (off99_eq h hu k) (show Nat.min (64 * ((k : ℕ) + 1)) 16384 + 1 ≤ 16385 from Nat.succ_le_succ (Nat.min_le_right _ _))
  · intro a
    rw [off198_eq h hu j]
    match a with
    | ⟨0, _⟩ => exact Or.inr (show 224 * ((nu + (j : ℕ)) / 8 % 32) + (nu + (j : ℕ)) % 8 + 8 * (28 - 1) < 7392 by omega)
    | ⟨1, _⟩ => exact Or.inr (show 0 + 1 * (128 - 1) < 128 by decide)
  · exact fin1 (off200_eq h hu k) (show _ + 1 ≤ 4 by omega)
  · have hk := t8_lt h hu k; have := half_lt t
    exact fin4 (off201_eq h hu t k) (show _ + 8 ≤ 2048 by omega) (show _ + 28 ≤ 56 by omega) (show 0 + 8 ≤ 8 by decide) (show 0 + 128 ≤ 128 by decide)
  · exact fin4 (off202_eq h hu k) (show _ + 8 ≤ 33 by omega) (show 0 + 28 ≤ 28 by decide) (show 0 + 8 ≤ 8 by decide) (show 0 + 128 ≤ 128 by decide)
  · exact fin1 (off312_eq h hu k) (show _ + 1 ≤ 4 by omega)
  · have hk := t22_lt h hu k; have := half_lt t
    exact fin4 (off313_eq h hu t k) (show _ + 8 ≤ 2048 by omega) (show _ + 28 ≤ 56 by omega) (show 0 + 8 ≤ 8 by decide) (show 0 + 128 ≤ 128 by decide)
  · exact fin4 (off314_eq h hu k) (show _ + 8 ≤ 33 by omega) (show 0 + 28 ≤ 28 by decide) (show 0 + 8 ≤ 8 by decide) (show 0 + 128 ≤ 128 by decide)
  · have hk : (k : ℕ) < 512 - 2 * nbl nu := lt_of_lt_of_eq k.isLt (t26_trips h hu)
    exact fin4 (off320_eq h hu k) (show _ + 4 ≤ 2048 by omega) (show 0 + 56 ≤ 56 by decide) (show 0 + 8 ≤ 8 by decide) (show 0 + 128 ≤ 128 by decide)
end

end Cert.Proof.Kernel

end
-- ==== Proof.Main.Zeros.lean ====
module

public import Idealize.ShloMosaic.Lib.Batch
public import proofs.«01_k».proof.Proof.Main.Codes
public import proofs.«01_k».proof.Proof.Main.BArith

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The copies of zeros into the tail of the result: zero block `z` covers the output tiles
    `4 (2 nb + z) … + 3`; the first `d` have been started. -/

/-- The counters' embedding. -/
abbrev EC (F : FTy → Type) [FloatOps F] : UEmb Counters (MT nD τ sig Unit (Elt F) ℕ (Pipeline.UD sig nD τ) ℕ) := countersEmb (U := Pipeline.UD sig nD τ)

/-- The float zero. -/
def fz : Elt F .f32 := Scalar.ofBits .f32 0x00000000#32
/-- The contents of the result. -/
abbrev OutBuf (F : FTy → Type) [FloatOps F] := S2048x56x8x128.Idx → Elt F .f32
abbrev ZBuf (F : FTy → Type) [FloatOps F] := S4x56x8x128.Idx → Elt F .f32
def zBuf : ZBuf F := fun _ => fz
def zOut : OutBuf F := fun _ => fz
/-- The semaphore of the zero copies. -/
abbrev zsem : DmaSem sig := cc0_scratch5.sem

/-- The output tiles `a ≤ t < b`. -/
def tiles (a b : ℕ) : Finset S2048x56x8x128.Idx := Finset.univ.filter fun i => a ≤ ((i 0 : Fin 2048) : ℕ) ∧ ((i 0 : Fin 2048) : ℕ) < b
theorem mem_tiles {a b : ℕ} {i : S2048x56x8x128.Idx} : i ∈ tiles a b ↔ a ≤ ((i 0 : Fin 2048) : ℕ) ∧ ((i 0 : Fin 2048) : ℕ) < b := by
  simp [tiles]

/-- The window of a zero copy. -/
abbrev zWin (off : Fin 4 → ℕ) (inb : ∀ a, off a + S4x56x8x128.size a ≤ S2048x56x8x128.size a) : Memref sig .tc .hbm S4x56x8x128 .f32 :=
  (Memref.whole main_v0).slice (Rect.unit (s := S2048x56x8x128) off S4x56x8x128.size inb) (fun _ => rfl)

theorem zWin_emb {off : Fin 4 → ℕ} (inb) (m : ℕ) (hoff : off = ![m, 0, 0, 0]) (x : S4x56x8x128.Idx) :
    (((zWin off inb).view.emb x : S2048x56x8x128.Idx) 0 : Fin 2048).val = m + ((x 0 : Fin 4) : ℕ) := by
  subst hoff
  show m + 1 * ((x 0 : Fin 4) : ℕ) = _
  omega
theorem zWin_mem {off : Fin 4 → ℕ} (inb) (m : ℕ) (hoff : off = ![m, 0, 0, 0]) (i : S2048x56x8x128.Idx) (hi : i ∈ tiles m (m + 4)) :
    ∃ x, (zWin off inb).view.emb x = i := by
  subst hoff
  rw [mem_tiles] at hi
  refine ⟨ix4 (⟨((i 0 : Fin 2048) : ℕ) - m, by omega⟩ : Fin 4) (i 1 : Fin 56) (i 2 : Fin 8) (i 3 : Fin 128), ?_⟩
  funext a
  match a with
  | ⟨0, _⟩ => exact Fin.ext (show m + 1 * (((i 0 : Fin 2048) : ℕ) - m) = ((i 0 : Fin 2048) : ℕ) by omega)
  | ⟨1, _⟩ => exact Fin.ext (show 0 + 1 * ((i 1 : Fin 56) : ℕ) = ((i 1 : Fin 56) : ℕ) by omega)
  | ⟨2, _⟩ => exact Fin.ext (show 0 + 1 * ((i 2 : Fin 8) : ℕ) = ((i 2 : Fin 8) : ℕ) by omega)
  | ⟨3, _⟩ => exact Fin.ext (show 0 + 1 * ((i 3 : Fin 128) : ℕ) = ((i 3 : Fin 128) : ℕ) by omega)

variable (c : Dev nD) {α : Type} {Q : α → SP F}

/-- What zero copy `z` delivers. -/
def zD (nu z : ℕ) : SP F :=
  iprop(((c : Thread nD τ).loc main_v0 ↦[tiles (4 * (2 * nbl nu + z)) (4 * (2 * nbl nu + z) + 4)]{fullShare} zOut)
    ∗ ((c : Thread nD τ).loc cc0_scratch2 ↦[Finset.univ]{Transfers.shareTokN fullShare z} zBuf))

instance zD_storable (nu z : ℕ) : BI.Storable (upEmb : UEmb _ (MT nD τ sig Unit (Elt F) ℕ (Pipeline.UD sig nD τ) ℕ)) (zD (F := F) c nu z) := by
  unfold zD; infer_instance

/-- The units of a zero copy. -/
def zN : ℕ := (zWin ![0, 0, 0, 0] (by decide)).view.dmaCredit

/-- The zero copies after `d` starts. -/
def ZS (o0 : OutBuf F) (nu d : ℕ) : SP F :=
  iprop(Transfers.Batch (EC F) (c : Thread nD τ) (.dma zsem) () zN (fun z : Fin (512 - 2 * nbl nu) => zD c nu z) d 0
    ∗ ((c : Thread nD τ).loc cc0_scratch2 ↦[Finset.univ]{Transfers.shareDrop fullShare d} zBuf)
    ∗ ((c : Thread nD τ).loc main_v0 ↦[tiles (4 * (2 * nbl nu + d)) 2048]{fullShare} o0))

/-- Starting the next zero copy. -/
theorem zstart (o0 : OutBuf F) (nu d : ℕ) (hu : nu ≤ 16384) (hd : d < 512 - 2 * nbl nu) {off : Fin 4 → ℕ} {inb}
    (hoff : off = ![4 * (2 * nbl nu + d), 0, 0, 0]) {h1 h2 h3} {k : PUnit → PG F α} :
    ZS c o0 nu d ⊢ iprop((ZS c o0 nu (d + 1) -∗ WP c (k ⟨⟩) Q)
      -∗ WP c (.op (.enqueueDma (Memref.whole cc0_scratch2) (.here (zWin off inb)) (.dma zsem) h1 h2 h3) k) Q) := by
  have hnb := nbl_le hu
  have hsub : tiles (4 * (2 * nbl nu + d)) (4 * (2 * nbl nu + d) + 4) ⊆ tiles (4 * (2 * nbl nu + d)) 2048 := by
    intro i hi
    rw [mem_tiles] at hi ⊢
    omega
  have hrest : tiles (4 * (2 * nbl nu + d)) 2048 \ tiles (4 * (2 * nbl nu + d)) (4 * (2 * nbl nu + d) + 4) = tiles (4 * (2 * nbl nu + (d + 1))) 2048 := by
    ext i
    rw [Finset.mem_sdiff, mem_tiles, mem_tiles, mem_tiles]
    omega
  have hset : (zWin off inb).view.set ⊆ tiles (4 * (2 * nbl nu + d)) (4 * (2 * nbl nu + d) + 4) := by
    intro i hi
    obtain ⟨x, -, rfl⟩ := Finset.mem_map.mp hi
    rw [mem_tiles]
    have e := zWin_emb inb _ hoff x
    have hx : ((x 0 : Fin 4) : ℕ) < 4 := (x 0 : Fin 4).isLt
    constructor
    · exact le_of_le_of_eq (Nat.le_add_right _ _) e.symm
    · exact lt_of_eq_of_lt e (Nat.add_lt_add_left hx _)
  unfold ZS
  iintro ⟨HB, Hz, Ho⟩ Hk
  ihave Ho' := (pointsTo_split_subset hsub).1 $$ Ho
  icases Ho' with ⟨Hw, Hrest⟩
  rw [hrest]
  ihave Hz' := (pointsTo_share (PosShare.mem_left_op_right _)).1 $$ Hz
  icases Hz' with ⟨Hkeep, Htok⟩
  have key := Transfers.wp_dmaBatch (EC F) (defs := defs₀ (F := F)) Variants.none (c : Thread nD τ) none (src := Memref.whole cc0_scratch2) (dst := zWin off inb) (via := .same) (sm := .dma zsem) (hsrc := h1) (hdst := h2) (hsem := h3) (k := k) (Q := Q)
    (fs := zBuf) (fd := o0) (q := Transfers.shareTokN fullShare d) (D := fun z : Fin (512 - 2 * nbl nu) => zD (F := F) c nu z) (u := 0) () zN rfl hset hd (Nat.zero_le _) (by
      unfold zD
      refine BI.Laws.sep_mono ?_ ?_
      · refine le_of_eq (pointsTo_congr fun i hi => ?_)
        obtain ⟨x, rfl⟩ := zWin_mem inb _ hoff i hi
        exact View.write_emb_of_mem _ _ (Finset.mem_univ x)
      · exact le_of_eq (congrArg (fun S => ((c : Thread nD τ).loc cc0_scratch2 ↦[S]{Transfers.shareTokN fullShare d} zBuf)) (View.set_whole _)))
  iapply key $$ [HB Hw Htok]
  · isplitl [Htok]
    · rw [show (Memref.whole cc0_scratch2).view.set = Finset.univ from View.set_whole _]
      iexact Htok
    isplitl [Hw]
    · iexact Hw
    iexact HB
  iintro HB
  iapply Hk
  isplitl [HB]; · iexact HB
  isplitl [Hkeep]; · iexact Hkeep
  iexact Hrest

/-- A loop of no trips is skipped. -/
theorem skip {σ : Type} {P : SP F} (l : Scf.Loop 32) (hok : l.OK) (h0 : l.trips = 0) (init : σ) (body : Fin l.trips → σ → PG F σ) {kk : σ → PG F α} :
    P ⊢ iprop((P -∗ WP c (kk init) Q) -∗ WP c (Scf.Loop.for l hok init body >>= kk) Q) := by
  iintro HP Hk
  iapply (Scf.wp_for_bind frame (wpE (defs₀ (F := F)) Variants.none (c : Thread nD τ) none) Set.univ l.lb l.ub l.st hok init body
    (fun _ acc => iprop(⌜acc = init⌝ ∗ P)) (fun k => (Nat.not_lt_zero _ (lt_of_lt_of_eq k.isLt h0)).elim)) $$ [HP]
  · isplitr
    · ipureintro; rfl
    iexact HP
  iintro %acc ⟨%h, HP⟩
  subst h
  iapply Hk
  iexact HP

/-- A body that starts zero copy `d + k`. -/
def StartsZero (nu d : ℕ) (k : ℕ) (p : PG F (BitVec 32)) : Prop :=
  ∃ (off : Fin 4 → ℕ) (inb : ∀ a, off a + S4x56x8x128.size a ≤ S2048x56x8x128.size a) (h1 : _) (h2 : _) (h3 : _), off = ![4 * (2 * nbl nu + (d + k)), 0, 0, 0]
    ∧ p = .op (.enqueueDma (Memref.whole cc0_scratch2) (.here (zWin off inb)) (.dma zsem) h1 h2 h3) fun _ => .ret 0#32

/-- A loop that starts zero copies. -/
theorem zloop (o0 : OutBuf F) {lo hi : BitVec 32} {nu d e : ℕ} (hu : nu ≤ 16384) (ha : W lo d) (hb : W hi e) (hde : d ≤ e) (he : e ≤ 512 - 2 * nbl nu)
    (hok : (uloop lo hi).OK) (init : BitVec 32) (body : Fin (uloop lo hi).trips → BitVec 32 → PG F (BitVec 32))
    (hbody : ∀ (k : Fin (uloop lo hi).trips) acc, StartsZero nu d (k : ℕ) (body k acc)) {kk : BitVec 32 → PG F α} :
    ZS c o0 nu d ⊢ iprop((∀ a, ZS c o0 nu e -∗ WP c (kk a) Q) -∗ WP c (Scf.Loop.for (uloop lo hi) hok init body >>= kk) Q) := by
  have ht := uloop_trips ha hb hde
  iintro HZ Hk
  iapply (Scf.wp_for_bind frame (wpE (defs₀ (F := F)) Variants.none (c : Thread nD τ) none) Set.univ (uloop lo hi).lb (uloop lo hi).ub (uloop lo hi).st hok init body
    (fun k _ => ZS c o0 nu (d + k)) (fun k acc => by
      obtain ⟨off, inb, h1, h2, h3, hoff, hp⟩ := hbody k acc
      have hk := lt_of_lt_of_eq k.isLt ht
      rw [hp]
      iintro HZ
      iapply (zstart c o0 nu (d + k) hu (by omega) hoff) $$ HZ
      iintro HZ
      iapply (Idealize.SL.Sem.le_wp_ret _ _)
      iexact HZ)) $$ [HZ]
  · iexact HZ
  iintro %acc HZ
  iapply Hk
  rw [show d + Scf.trips (uloop lo hi).lb (uloop lo hi).ub (uloop lo hi).st = e by
    have : Scf.trips (uloop lo hi).lb (uloop lo hi).ub (uloop lo hi).st = e - d := ht
    omega]
  iexact HZ

theorem tiles_union (nu : ℕ) (hu : nu ≤ 16384) :
    (Finset.univ : Finset (Fin (512 - 2 * nbl nu))).biUnion (fun z => tiles (4 * (2 * nbl nu + (z : ℕ))) (4 * (2 * nbl nu + (z : ℕ)) + 4)) = tiles (8 * nbl nu) 2048 := by
  have hnb := nbl_le hu
  ext i
  simp only [Finset.mem_biUnion, Finset.mem_univ, true_and, mem_tiles]
  constructor
  · rintro ⟨z, h1, h2⟩
    have := z.isLt
    omega
  · rintro ⟨h1, h2⟩
    exact ⟨⟨((i 0 : Fin 2048) : ℕ) / 4 - 2 * nbl nu, by omega⟩, by dsimp only; omega, by dsimp only; omega⟩

/-- Every zero copy done: the tail of the result is zero. -/
theorem zcollect (nu : ℕ) (hu : nu ≤ 16384) :
    iprop(bigSep Finset.univ (fun z : Fin (512 - 2 * nbl nu) => zD (F := F) c nu z) ∗ ((c : Thread nD τ).loc cc0_scratch2 ↦[Finset.univ]{Transfers.shareDrop fullShare (512 - 2 * nbl nu)} zBuf))
      ⊢ iprop(((c : Thread nD τ).loc cc0_scratch2 ↦[Finset.univ]{fullShare} zBuf) ∗ ((c : Thread nD τ).loc main_v0 ↦[tiles (8 * nbl nu) 2048]{fullShare} zOut)) := by
  unfold zD
  rw [bigSep_sep']
  iintro ⟨⟨Ho, Hs⟩, Hr⟩
  isplitl [Hs Hr]
  · iapply (Transfers.pointsTo_toks_join (Ix := Unit) (Name := ℕ) (U := Pipeline.UD sig nD τ) (Lvl := ℕ) fullShare (512 - 2 * nbl nu))
    isplitl [Hr]
    · iexact Hr
    iexact Hs
  · have e := pointsTo_biUnion (Ix := Unit) (Val := Elt F) (Name := ℕ) (U := Pipeline.UD sig nD τ) (Lvl := ℕ) (ℓ := (c : Thread nD τ).loc main_v0) (q := fullShare) (f := (zOut : OutBuf F))
      (Finset.univ : Finset (Fin (512 - 2 * nbl nu))) (fun z => tiles (4 * (2 * nbl nu + (z : ℕ))) (4 * (2 * nbl nu + (z : ℕ)) + 4)) (by
        intro z _ z' _ hne
        refine Finset.disjoint_left.mpr fun i h1 h2 => hne (Fin.ext ?_)
        rw [mem_tiles] at h1 h2
        omega)
    rw [tiles_union nu hu] at e
    rw [e]
    iexact Ho

/-- A body that waits for one zero copy. -/
def WaitsZero (p : PG F (BitVec 32)) : Prop :=
  ∃ (off : Fin 4 → ℕ) (inb : ∀ a, off a + S4x56x8x128.size a ≤ S2048x56x8x128.size a) (h1 : _) (h2 : _),
    p = .op (.waitDma2 zsem (Memref.whole cc0_scratch2) (zWin off inb) h1 h2) fun _ => .ret 0#32

/-- The loop that waits for every zero copy. -/
theorem zwaits (o0 : OutBuf F) {hi : BitVec 32} {nu : ℕ} (hu : nu ≤ 16384) (hb : W hi (512 - 2 * nbl nu))
    (hok : (uloop 0#32 hi).OK) (init : BitVec 32) (body : Fin (uloop 0#32 hi).trips → BitVec 32 → PG F (BitVec 32))
    (hbody : ∀ k acc, WaitsZero (body k acc)) {kk : BitVec 32 → PG F α} :
    iprop(ZS c o0 nu (512 - 2 * nbl nu) ∗ ∃ W, owes (c : Thread nD τ) 0 W) ⊢ iprop((∀ a, iprop(((c : Thread nD τ).loc cc0_scratch2 ↦[Finset.univ]{fullShare} zBuf)
        ∗ ((c : Thread nD τ).loc main_v0 ↦[tiles (8 * nbl nu) 2048]{fullShare} zOut) ∗ semVal ((c : Thread nD τ), SemLoc.dma zsem) 0 ∗ ∃ W, owes (c : Thread nD τ) 0 W) -∗ WP c (kk a) Q)
      -∗ WP c (Scf.Loop.for (uloop 0#32 hi) hok init body >>= kk) Q) := by
  have ht := uloop_trips W.zero hb (Nat.zero_le _)
  unfold ZS
  iintro ⟨⟨HB, Hs, -⟩, HO⟩ Hk
  iapply (Scf.wp_for_bind frame (wpE (defs₀ (F := F)) Variants.none (c : Thread nD τ) none) Set.univ (uloop 0#32 hi).lb (uloop 0#32 hi).ub (uloop 0#32 hi).st hok init body
    (fun k _ => iprop(Transfers.Batch (EC F) (c : Thread nD τ) (.dma zsem) () zN (fun z : Fin (512 - 2 * nbl nu) => zD (F := F) c nu z) (512 - 2 * nbl nu) (zN * k) ∗ ∃ W, owes (c : Thread nD τ) 0 W)) (fun k acc => by
      obtain ⟨off, inb, h1, h2, hp⟩ := hbody k acc
      have hk := lt_of_lt_of_eq k.isLt ht
      rw [hp]
      iintro ⟨HB, ⟨%W, HO⟩⟩
      have key := Transfers.wp_waitBatchMul (EC F) (defs := defs₀ (F := F)) Variants.none (c : Thread nD τ) none (srcw := Memref.whole cc0_scratch2) (dstw := zWin off inb) (sem := zsem) (hsrc := h1) (hdst := h2)
        (Q := fun _ => iprop(Transfers.Batch (EC F) (c : Thread nD τ) (.dma zsem) () zN (fun z : Fin (512 - 2 * nbl nu) => zD (F := F) c nu z) (512 - 2 * nbl nu) (zN * ((k : ℕ) + 1)) ∗ ∃ W, owes (c : Thread nD τ) 0 W)) (k := fun _ => .ret 0#32)
        (D := fun z : Fin (512 - 2 * nbl nu) => zD (F := F) c nu z) (N := zN) (j := 512 - 2 * nbl nu) (u := zN * (k : ℕ)) (W := W) () 1 (show _ = 1 * zN from (Nat.one_mul zN).symm) (by
          rw [Nat.one_mul, ← Nat.mul_succ]; exact Nat.mul_le_mul_left _ (by omega))
      iapply key $$ [HB HO]
      · isplitl [HB]; · iexact HB
        iexact HO
      iintro ⟨HB, HO⟩
      iapply (Idealize.SL.Sem.le_wp_ret _ _)
      isplitl [HB]
      · rw [Nat.one_mul, ← Nat.mul_succ]
        iexact HB
      iexists _
      iexact HO)) $$ [HB HO]
  · isplitl [HB]; · iexact HB
    iexact HO
  iintro %acc ⟨HB, HO⟩
  rw [show Scf.trips (uloop 0#32 hi).lb (uloop 0#32 hi).ub (uloop 0#32 hi).st = 512 - 2 * nbl nu from ht]
  imod (Transfers.batch_collect' (EC F) (c := (c : Thread nD τ)) (sm := .dma zsem) (ι := ()) (show 0 < zN by decide)) $$ HB with ⟨HD, Hv⟩
  iapply Hk
  ihave H := (zcollect c nu hu) $$ [HD Hs]
  · isplitl [HD]; · iexact HD
    iexact Hs
  icases H with ⟨Hs, Ho⟩
  isplitl [Hs]; · iexact Hs
  isplitl [Ho]; · iexact Ho
  isplitl [Hv]; · iexact Hv
  iexact HO

/-- Before the first zero copy. -/
theorem zinit (o0 : OutBuf F) (nu : ℕ) :
    iprop(semVal ((c : Thread nD τ), SemLoc.dma zsem) 0 ∗ ((c : Thread nD τ).loc cc0_scratch2 ↦[Finset.univ]{fullShare} zBuf) ∗ ((c : Thread nD τ).loc main_v0 ↦[tiles (8 * nbl nu) 2048]{fullShare} o0))
      ⊢ (|={Set.univ}=> ZS c o0 nu 0 : SP F) := by
  iintro ⟨Hv, Hs, Ho⟩
  imod (Transfers.batch_alloc' (EC F) (c := (c : Thread nD τ)) (sm := .dma zsem) () zN (fun z : Fin (512 - 2 * nbl nu) => zD (F := F) c nu z)) $$ Hv with HB
  imodintro
  unfold ZS
  isplitl [HB]; · iexact HB
  isplitl [Hs]; · iexact Hs
  rw [show 4 * (2 * nbl nu + 0) = 8 * nbl nu by omega]
  iexact Ho

end Cert.Proof.Kernel

end
-- ==== Proof.Main.Tokens.lean ====
module

public import proofs.«01_k».proof.Proof.Main.Codes

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One group of sixteen tokens: each adds its row to the accumulator (cleared where a segment starts) and stores
    the accumulator in its ring row. -/

/-- The ring's contents. -/
abbrev RingBuf (F : FTy → Type) := S33x28x8x128.Idx → F .f32

/-- The ring row of an element: eight rows to a block of the ring. -/
def ringRow (i : S33x28x8x128.Idx) : ℕ := 8 * ((i 0 : Fin 33) : ℕ) + ((i 2 : Fin 8) : ℕ)

/-- The ring with row `R` replaced. -/
def setRow (R : ℕ) (r : RingBuf F) (w : S28x128.Idx → F .f32) : RingBuf F := fun i =>
  if ringRow i = R then w (ix2 (i 1 : Fin 28) (i 3 : Fin 128)) else r i

/-- The flat view of the ring. -/
abbrev ringRows : Memref sig .tc .vmem S7392x128 .f32 :=
  (Memref.whole cc0_scratch1).reshape S7392x128 reshapes_S33x28x8x128_S7392x128.1 reshapes_S33x28x8x128_S7392x128.2 (Memref.isWhole_whole cc0_scratch1).contiguous

abbrev ringBox (off : Fin 2 → ℕ) (inb : ∀ a, S28x128.size a = 0 ∨ off a + (![8, 1] : Fin 2 → ℕ) a * (S28x128.size a - 1) < S7392x128.size a) : Rect S7392x128 :=
  ⟨⟨off, S28x128.size, ![8, 1], inb⟩, spos_8_1⟩

variable (c : Dev nD) {α : Type} {Q : α → SP F}

/-- Where a ring row's elements lie in the flat view. -/
theorem ringBox_mem (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (x : S28x128.Idx) :
    let i : S33x28x8x128.Idx := (ringRows.access (ringBox off inb)).emb x
    ringRow i = R ∧ ((i 1 : Fin 28) : ℕ) = ((x 0 : Fin 28) : ℕ) ∧ ((i 3 : Fin 128) : ℕ) = ((x 1 : Fin 128) : ℕ) := by
  subst hoff
  intro i
  have hi : i = Shape.reshapeEquiv reshapes_S33x28x8x128_S7392x128.1 ((ringBox ![224 * (R / 8) + R % 8, 0] inb).emb x) := rfl
  have h := resh_row (N := 33) (M := 7392) reshapes_S33x28x8x128_S7392x128.1 ((ringBox ![224 * (R / 8) + R % 8, 0] inb).emb x)
  rw [← hi] at h
  obtain ⟨h0, h1⟩ := h
  have e0 : ((((ringBox ![224 * (R / 8) + R % 8, 0] inb).emb x) 0 : Fin 7392) : ℕ) = 224 * (R / 8) + R % 8 + 8 * ((x 0 : Fin 28) : ℕ) := rfl
  have e1 : ((((ringBox ![224 * (R / 8) + R % 8, 0] inb).emb x) 1 : Fin 128) : ℕ) = 0 + 1 * ((x 1 : Fin 128) : ℕ) := rfl
  replace h0 := h0.trans e0
  replace h1 := h1.trans e1
  have b1 : ((i 1 : Fin 28) : ℕ) < 28 := (i 1 : Fin 28).isLt
  have b2 : ((i 2 : Fin 8) : ℕ) < 8 := (i 2 : Fin 8).isLt
  have bx : ((x 0 : Fin 28) : ℕ) < 28 := (x 0 : Fin 28).isLt
  unfold ringRow
  refine ⟨?_, ?_, ?_⟩ <;> omega

theorem ringBox_surj (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (i : S33x28x8x128.Idx) (h : ringRow i = R) :
    (ringRows.access (ringBox off inb)).emb (ix2 (i 1 : Fin 28) (i 3 : Fin 128)) = i := by
  obtain ⟨h0, h1, h2⟩ := ringBox_mem off inb R hoff (ix2 (i 1 : Fin 28) (i 3 : Fin 128))
  generalize hz : (ringRows.access (ringBox off inb)).emb (ix2 (i 1 : Fin 28) (i 3 : Fin 128)) = z at h0 h1 h2
  have h0 : ringRow z = R := h0
  have h1 : ((z 1 : Fin 28) : ℕ) = ((i 1 : Fin 28) : ℕ) := h1
  have h2 : ((z 3 : Fin 128) : ℕ) = ((i 3 : Fin 128) : ℕ) := h2
  have a2 : ((i 2 : Fin 8) : ℕ) < 8 := (i 2 : Fin 8).isLt
  have a4 : ((z 2 : Fin 8) : ℕ) < 8 := (z 2 : Fin 8).isLt
  clear hz
  unfold ringRow at h0 h
  funext a
  match a with
  | ⟨0, _⟩ => exact Fin.ext (show ((z 0 : Fin 33) : ℕ) = ((i 0 : Fin 33) : ℕ) by omega)
  | ⟨1, _⟩ => exact Fin.ext h1
  | ⟨2, _⟩ => exact Fin.ext (show ((z 2 : Fin 8) : ℕ) = ((i 2 : Fin 8) : ℕ) by omega)
  | ⟨3, _⟩ => exact Fin.ext h2

theorem ringBox_sub (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (S : Finset S33x28x8x128.Idx) (hS : ∀ i, ringRow i = R → i ∈ S) :
    (ringRows.access (ringBox off inb)).setOn Finset.univ ⊆ S := by
  intro i hi
  obtain ⟨x, _, rfl⟩ := Finset.mem_map.mp hi
  exact hS _ (ringBox_mem off inb R hoff x).1

theorem ringWrite (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (S : Finset S33x28x8x128.Idx) (r : RingBuf F) (w : S28x128.Idx → F .f32) :
    ∀ i ∈ S, (ringRows.access (ringBox off inb)).write (Elt F) r w Finset.univ i = setRow R r w i := by
  refine write_eq_of (F := F) (ringRows.access (ringBox off inb)) r (setRow R r w) w S ?_ ?_
  · intro x
    obtain ⟨h0, h1, h2⟩ := ringBox_mem off inb R hoff x
    refine (if_pos h0).trans ?_
    refine Eq.trans (b := w x) ?_ rfl
    refine congrArg w ?_
    funext a
    match a with
    | ⟨0, _⟩ => exact Fin.ext h1
    | ⟨1, _⟩ => exact Fin.ext h2
  · intro i hi hn
    exact if_neg fun h => hn _ (ringBox_surj off inb R hoff i h)

/-- Storing a ring row that is owned. -/
theorem ringStore {off : Fin 2 → ℕ} {inb : ∀ a, S28x128.size a = 0 ∨ off a + (![8, 1] : Fin 2 → ℕ) a * (S28x128.size a - 1) < S7392x128.size a}
    {w : S28x128.Idx → Elt F .f32} {hx} {hm} {k : PUnit → PG F α}
    (R : ℕ) (S : Finset S33x28x8x128.Idx) (r : RingBuf F) (hoff : off = ![224 * (R / 8) + R % 8, 0]) (hS : ∀ i, ringRow i = R → i ∈ S) :
    (((c : Thread nD τ).loc cc0_scratch1 ↦[S]{fullShare} r) : SP F)
      ⊢ iprop((((c : Thread nD τ).loc cc0_scratch1 ↦[S]{fullShare} setRow R r w) -∗ WP c (k ⟨⟩) Q)
        -∗ WP c (.op (.store ringRows ⟨⟨off, S28x128.size, ![8, 1], inb⟩, spos_8_1⟩ w Finset.univ hx hm) k) Q) := by
  have e2 : (((c : Thread nD τ).loc cc0_scratch1 ↦[S]{fullShare} (ringRows.access (ringBox off inb)).write (Elt F) r w Finset.univ) : SP F)
      = ((c : Thread nD τ).loc cc0_scratch1 ↦[S]{fullShare} setRow R r w) := pointsTo_congr (ringWrite off inb R hoff S r w)
  have key := wp_store (hx := hx) (hm := hm) (k := k) (Q := Q) (w := w) (f := r) (S := S) (defs := defs₀ (F := F)) (Γ := .empty) Variants.none (c : Thread nD τ) none Set.univ
    (m := ringRows) (r := ringBox off inb) (Mk := Finset.univ) (ringBox_sub off inb R hoff S hS)
  exact key.trans (wand_mono_left (wand_mono_left (le_of_eq e2)))

/-- Loading a ring row that is owned: any value will do. -/
theorem ringLoad {off : Fin 2 → ℕ} {inb : ∀ a, S28x128.size a = 0 ∨ off a + (![8, 1] : Fin 2 → ℕ) a * (S28x128.size a - 1) < S7392x128.size a}
    {hl} {k : (S28x128.Idx → Elt F .f32) → PG F α}
    (R : ℕ) (S : Finset S33x28x8x128.Idx) (r : RingBuf F) (hoff : off = ![224 * (R / 8) + R % 8, 0]) (hS : ∀ i, ringRow i = R → i ∈ S) :
    (((c : Thread nD τ).loc cc0_scratch1 ↦[S]{fullShare} r) : SP F)
      ⊢ iprop((((c : Thread nD τ).loc cc0_scratch1 ↦[S]{fullShare} r) -∗ ∀ x, WP c (k x) Q)
        -∗ WP c (.op (.load ringRows (⟨off, S28x128.size, ![8, 1], inb⟩ : LoadRect S7392x128) hl) k) Q) := by
  have hsub : ringRows.view.setOn (⟨off, S28x128.size, ![8, 1], inb⟩ : LoadRect S7392x128).set ⊆ S := by
    have h := View.set_slice ringRows.view (ringBox off inb)
    have h2 : (ringRows.access (ringBox off inb)).setOn Finset.univ = ringRows.view.setOn (⟨off, S28x128.size, ![8, 1], inb⟩ : LoadRect S7392x128).set := h
    rw [← h2]; exact ringBox_sub off inb R hoff S hS
  have key := wp_load (hl := hl) (k := k) (Q := Q) (f := r) (S := S) (q := fullShare) (defs := defs₀ (F := F)) (Γ := .empty) Variants.none (c : Thread nD τ) none Set.univ
    (m := ringRows) hsub
  exact key.trans (wand_mono_left (wand_mono_right (forall_elim _)))

/-- Eight rows of the flat view from row `ρ` on. -/
def rowsAt (f : CodeBuf) (ρ : ℕ) : S8x128.Idx → BitVec 32 := fun x =>
  f (ix4 (Fin.ofNat 513 ((ρ + ((x 0 : Fin 8) : ℕ)) / 224)) (Fin.ofNat 28 ((ρ + ((x 0 : Fin 8) : ℕ)) % 224 / 8)) (Fin.ofNat 8 ((ρ + ((x 0 : Fin 8) : ℕ)) % 8)) (x 1 : Fin 128))

/-- Loading eight rows of the code words. -/
theorem codeRowsLoad {off : Fin 2 → ℕ} {inb : ∀ a, off a + S8x128.size a ≤ S114912x128.size a} {hl} {k : (S8x128.Idx → Elt F .i32) → PG F α}
    (ρ : ℕ) (f : CodeBuf) (hoff : off = ![ρ, 0]) :
    (((c : Thread nD τ).loc cc0_scratch0 ↦[Finset.univ]{fullShare} f) : SP F)
      ⊢ iprop((((c : Thread nD τ).loc cc0_scratch0 ↦[Finset.univ]{fullShare} f) -∗ WP c (k (rowsAt f ρ)) Q)
        -∗ WP c (.op (.load codeRows (Rect.unit (s := S114912x128) off S8x128.size inb).toLoadRect hl) k) Q) := by
  subst hoff
  have hρ : ρ + 8 ≤ 114912 := inb 0
  have hr : codeRows.view.readAt (Elt F) (Rect.unit (s := S114912x128) ![ρ, 0] S8x128.size inb).toLoadRect f = rowsAt f ρ := by
    funext x
    have bx : ((x 0 : Fin 8) : ℕ) < 8 := (x 0 : Fin 8).isLt
    refine congrArg f ?_
    refine resh_vals (N := 513) (M := 114912) reshapes_S513x28x8x128_S114912x128.1 _ _ ?_ ?_
    · show ((ρ + ((x 0 : Fin 8) : ℕ)) / 224) % 513 * 224 + ((ρ + ((x 0 : Fin 8) : ℕ)) % 224 / 8) % 28 * 8 + ((ρ + ((x 0 : Fin 8) : ℕ)) % 8) % 8 = ρ + 1 * ((x 0 : Fin 8) : ℕ)
      omega
    · show ((x 1 : Fin 128) : ℕ) = 0 + 1 * ((x 1 : Fin 128) : ℕ)
      omega
  have h := wp_load (hl := hl) (k := k) (Q := Q) (defs := defs₀ (F := F)) (Γ := .empty) Variants.none (c : Thread nD τ) none Set.univ (m := codeRows) (q := fullShare) (f := f)
    (S := Finset.univ) (Finset.subset_univ _)
  rw [hr] at h
  exact h

/-- Element `i` of a table in scalar memory. -/
def rdT {n : ℕ} {e : EltTy} (m : Memref sig .tc .smem ⟨1, ![n]⟩ e) (g : Buf (Elt F) (m.view.loc (c : Thread nD τ))) (i : ℕ) (hi : i < n) : Elt F e :=
  m.view.read (Elt F) g (ix1 ⟨i, hi⟩)

/-- Loading an element of a table. -/
theorem tabLoad {n : ℕ} {e : EltTy} {m : Memref sig .tc .smem ⟨1, ![n]⟩ e} {off : Fin 1 → ℕ} {inb : ∀ a, off a + S1.size a ≤ (⟨1, ![n]⟩ : Shape).size a} {hl} {k : (S1.Idx → Elt F e) → PG F α}
    (i : ℕ) (hi : i < n) (q : PosShare TreeShare) (g : Buf (Elt F) (m.view.loc (c : Thread nD τ))) (hoff : off = ![i]) :
    ((m.view.loc (c : Thread nD τ) ↦[m.view.set]{q} g) : SP F)
      ⊢ iprop(((m.view.loc (c : Thread nD τ) ↦[m.view.set]{q} g) -∗ WP c (k fun _ => rdT c m g i hi) Q)
        -∗ WP c (.op (.load m (Rect.unit (s := ⟨1, ![n]⟩) off S1.size inb).toLoadRect hl) k) Q) := by
  subst hoff
  have hr : m.view.readAt (Elt F) (Rect.unit (s := ⟨1, ![n]⟩) ![i] S1.size inb).toLoadRect g = fun _ => rdT c m g i hi := by
    funext x
    have bx : ((x 0 : Fin 1) : ℕ) < 1 := (x 0 : Fin 1).isLt
    refine congrArg (m.view.read (Elt F) g) ?_
    funext a
    match a with
    | ⟨0, _⟩ => exact Fin.ext (show i + 1 * ((x 0 : Fin 1) : ℕ) = i by omega)
  have hsub : m.view.setOn (Rect.unit (s := ⟨1, ![n]⟩) ![i] S1.size inb).toLoadRect.set ⊆ m.view.set := by
    rw [← View.setOn_univ]
    exact Finset.map_subset_map.mpr (Finset.subset_univ _)
  have h := wp_load (hl := hl) (k := k) (Q := Q) (defs := defs₀ (F := F)) (Γ := .empty) Variants.none (c : Thread nD τ) none Set.univ (m := m) (q := q) (f := g) hsub
  rw [hr] at h
  exact h

/-- The source row of a token's word. -/
def srcOf (w : BitVec 32) : ℕ := (Scalar.andi w 131071#32).toNat
/-- The ring row, in the flat view, of a token's word. -/
def dstOf (w : BitVec 32) : ℕ := (Scalar.andi (Scalar.shrui w 17#32) 8191#32).toNat
/-- The ring row of a token's word. -/
def rowOfW (w : BitVec 32) : ℕ := 8 * (dstOf w / 224) + dstOf w % 8

/-- What the program assumes of a token's word. -/
structure TokOK (w : BitVec 32) : Prop where
  src : srcOf w + 8 ≤ 114912
  row : dstOf w % 224 < 8
  dst : dstOf w < 7392

theorem TokOK.chk {w : BitVec 32} (h : TokOK w) : k0_chk5 w := by
  obtain ⟨h1, h2, h3⟩ := h
  refine ⟨fun a => ?_, fun a => ?_⟩
  · match a with
    | ⟨0, _⟩ => exact h1
    | ⟨1, _⟩ => exact (show 0 + 128 ≤ 128 by decide)
  · match a with
    | ⟨0, _⟩ => exact Or.inr (show dstOf w + 8 * (28 - 1) < 7392 by omega)
    | ⟨1, _⟩ => exact Or.inr (show 0 + 1 * (128 - 1) < 128 by decide)

theorem TokOK.off {w : BitVec 32} (h : TokOK w) (off : Fin 2 → ℕ) (ho : off = ![dstOf w, 0]) : off = ![224 * (rowOfW w / 8) + rowOfW w % 8, 0] := by
  obtain ⟨h1, h2, h3⟩ := h
  have : dstOf w = 224 * (rowOfW w / 8) + rowOfW w % 8 := by unfold rowOfW; omega
  rw [ho, ← this]

/-- The accumulator after a token. -/
def stepAcc (a : FVec F S32x128 .f32) (w : BitVec 32) (x : S8x128.Idx → BitVec 32) (s : F .f32) : FVec F S32x128 .f32 := k0_pay225 a w x s
/-- The rows of the accumulator that are stored. -/
def topRows (a : FVec F S32x128 .f32) : S28x128.Idx → F .f32 := extractStridedSlice S28x128 ![0, 0] a slices_S32x128_o0_0_S28x128

/-- The accumulator and the ring after `k` tokens from token `i` on, with the tokens' words and scales as functions. -/
def tokRun (wd : ℕ → BitVec 32) (sc : ℕ → F .f32) (cw : CodeBuf) (i : ℕ) (a : FVec F S32x128 .f32) (r : RingBuf F) : ℕ → FVec F S32x128 .f32 × RingBuf F
  | 0 => (a, r)
  | k + 1 =>
    let p := tokRun wd sc cw i a r k
    let a' := stepAcc p.1 (wd (i + k)) (rowsAt cw (srcOf (wd (i + k)))) (sc (i + k))
    (a', setRow (rowOfW (wd (i + k))) p.2 (topRows a'))

/-- A table's elements as a function of every number. -/
def tabF {n : ℕ} {e : EltTy} (m : Memref sig .tc .smem ⟨1, ![n]⟩ e) (g : Buf (Elt F) (m.view.loc (c : Thread nD τ))) (hn : 0 < n) (i : ℕ) : Elt F e :=
  m.view.read (Elt F) g (ix1 ⟨i % n, Nat.mod_lt _ hn⟩)

theorem rdT_eq {n : ℕ} {e : EltTy} (m : Memref sig .tc .smem ⟨1, ![n]⟩ e) (g : Buf (Elt F) (m.view.loc (c : Thread nD τ))) (hn : 0 < n) (i : ℕ) (hi : i < n) :
    rdT c m g i hi = tabF c m g hn i := by
  unfold rdT tabF
  congr 2
  exact Fin.ext (Nat.mod_eq_of_lt hi).symm

theorem ring_congr (S : Finset S33x28x8x128.Idx) {r r' : RingBuf F} (h : r = r') :
    (((c : Thread nD τ).loc cc0_scratch1 ↦[S]{fullShare} r) : SP F) ⊢ ((c : Thread nD τ).loc cc0_scratch1 ↦[S]{fullShare} r') := by
  rw [h]

theorem castSame28 (v : S28x128.Idx → F .f32) : shapeCast S28x128 v shapeCasts_S28x128_S28x128 = v :=
  funext fun j => congrArg v (Shape.reshapeEquiv_self _ j)

/-- Loading an element of a table, as a function of every number. -/
theorem tabLoad' {n : ℕ} {e : EltTy} {m : Memref sig .tc .smem ⟨1, ![n]⟩ e} {off : Fin 1 → ℕ} {inb : ∀ a, off a + S1.size a ≤ (⟨1, ![n]⟩ : Shape).size a} {hl} {k : (S1.Idx → Elt F e) → PG F α}
    (hn : 0 < n) (i : ℕ) (q : PosShare TreeShare) (g : Buf (Elt F) (m.view.loc (c : Thread nD τ))) (hoff : off = ![i]) :
    ((m.view.loc (c : Thread nD τ) ↦[m.view.set]{q} g) : SP F)
      ⊢ iprop(((m.view.loc (c : Thread nD τ) ↦[m.view.set]{q} g) -∗ WP c (k fun _ => tabF c m g hn i) Q)
        -∗ WP c (.op (.load m (Rect.unit (s := ⟨1, ![n]⟩) off S1.size inb).toLoadRect hl) k) Q) := by
  have hi : i < n := by
    have h := inb 0
    rw [hoff] at h
    have h : i + 1 ≤ n := h
    omega
  rw [← rdT_eq c m g hn i hi]
  exact tabLoad c i hi q g hoff

theorem off_tok (B : BitVec 32) (i0 : ℕ) (hB : B.toNat = i0) (hi : i0 + 16 ≤ 17408) (off : Fin 1 → ℕ) (kk : BitVec 32) (hk : kk.toNat < 16)
    (ho : off = ![(Scalar.indexCast (Scalar.addi B kk)).toNat]) : off = ![i0 + kk.toNat] := by
  rw [ho]
  have : (Scalar.indexCast (Scalar.addi B kk)).toNat = i0 + kk.toNat := by
    simp only [Scalar.indexCast, Scalar.addi, IntOp.addi, BitVec.toNat_add, hB]
    omega
  rw [this]

set_option maxHeartbeats 4000000 in
/-- A group of sixteen tokens. -/
theorem tokens (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole) (arg4 : Memref sig .tc .hbm S4096x7168 .i32) (harg4 : arg4.IsWhole) (arg5 : Memref sig .tc .hbm S2048x56x8x128 .f32) (harg5 : arg5.IsWhole) (arg8 : Memref sig .tc .vmem S4x56x8x128 .f32) (harg8 : arg8.IsWhole) (arg9 : DmaSems sig S16) (arg10 : DmaSems sig S4) (arg11 : DmaSems sig S_)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg16 : BitVec 32) (v115 : Elt F .i32) (k0_hw4 : k0_chk4 v1 arg16 v115)
    (t : Fin (k0_t11_loop v1 arg16 v115).trips) (acc : FVec F S32x128 .f32)
    (S : Finset S33x28x8x128.Idx) (r : RingBuf F) (cw : CodeBuf) (q0 q1 : PosShare TreeShare)
    (g0 : Buf (Elt F) (arg0.view.loc (c : Thread nD τ))) (g1 : Buf (Elt F) (arg1.view.loc (c : Thread nD τ)))
    (i0 : ℕ) (hi : i0 + 16 ≤ 17408) (hB : (Scalar.addi v1 (Scalar.muli (Scf.iv arg16 1#32 t) 16#32)).toNat = i0)
    (hok : ∀ k < 16, TokOK (tabF c arg0 g0 (by decide) (i0 + k)) ∧ ∀ i, ringRow i = rowOfW (tabF c arg0 g0 (by decide) (i0 + k)) → i ∈ S) :
    (iprop((arg0.view.loc (c : Thread nD τ) ↦[arg0.view.set]{q0} g0) ∗ (arg1.view.loc (c : Thread nD τ) ↦[arg1.view.set]{q1} g1)
        ∗ ((c : Thread nD τ).loc cc0_scratch0 ↦[Finset.univ]{fullShare} cw) ∗ ((c : Thread nD τ).loc cc0_scratch1 ↦[S]{fullShare} r)) : SP F)
      ⊢ WP c
          (k0_t11_body arg0 harg0 arg1 harg1 arg2 harg2 arg3 harg3 arg4 harg4 arg5 harg5 (Memref.whole cc0_scratch0) (Memref.isWhole_whole _) (Memref.whole cc0_scratch1) (Memref.isWhole_whole _) arg8 harg8 arg9 arg10 arg11
            v0 k0_hw2 v1 v20 v21 v22 v43 v44 c0_i32_24 c1_i32_26 k0_t1 arg13 arg16 v115 k0_hw4 t acc)
          (fun a => iprop(⌜a = (tokRun (tabF c arg0 g0 (by decide)) (tabF c arg1 g1 (by decide)) cw i0 acc r 16).1⌝
            ∗ (arg0.view.loc (c : Thread nD τ) ↦[arg0.view.set]{q0} g0) ∗ (arg1.view.loc (c : Thread nD τ) ↦[arg1.view.set]{q1} g1)
            ∗ ((c : Thread nD τ).loc cc0_scratch0 ↦[Finset.univ]{fullShare} cw)
            ∗ ((c : Thread nD τ).loc cc0_scratch1 ↦[S]{fullShare} (tokRun (tabF c arg0 g0 (by decide)) (tabF c arg1 g1 (by decide)) cw i0 acc r 16).2))) := by
  iintro ⟨H0, H1, Hc, Hr⟩
  simp only [k0_t11_body, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, Prog.bind_assoc, Prog.pure_eq_ret, Prog.bind_ret]
  iterate 16
    iapply (tabLoad' c (m := arg0) (by decide) _ q0 g0 (off_tok _ i0 hB hi _ _ ?_ rfl)) $$ H0
    any_goals first | decide | skip
    iintro H0
    iapply (wp_assume Variants.none (c : Thread nD τ) none Set.univ (hok _ ?_).1.chk)
    any_goals first | decide | skip
    iapply (codeRowsLoad c _ cw rfl) $$ Hc
    iintro Hc
    iapply (tabLoad' c (m := arg1) (by decide) _ q1 g1 (off_tok _ i0 hB hi _ _ ?_ rfl)) $$ H1
    any_goals first | decide | skip
    iintro H1
    iapply (ringLoad c _ S _ ((hok _ ?_).1.off _ rfl) (hok _ ?_).2) $$ Hr
    any_goals first | decide | skip
    iintro Hr %_
    iapply (ringStore c _ S _ ((hok _ ?_).1.off _ rfl) (hok _ ?_).2) $$ Hr
    any_goals first | decide | skip
    iintro Hr
  try simp only [Prog.pure_eq_ret, Prog.bind_ret]
  iapply (Idealize.SL.Sem.le_wp_ret _ _)
  isplitr
  · ipureintro
    simp only [tokRun, stepAcc, BitVec.toNat_ofNat, Nat.reducePow, Nat.reduceMod, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay401]
    rfl
  isplitl [H0]
  · iexact H0
  isplitl [H1]
  · iexact H1
  isplitl [Hc]
  · iexact Hc
  iapply (ring_congr c S ?_) $$ Hr
  simp only [tokRun, stepAcc, topRows, BitVec.toNat_ofNat, Nat.reducePow, Nat.reduceMod, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay401, castSame28]
  rfl

end Cert.Proof.Kernel

end
-- ==== Proof.Main.Ring.lean ====
module

public import Idealize.ShloMosaic.Lib.Batch
public import proofs.«01_k».proof.Proof.Main.Zeros
public import proofs.«01_k».proof.Proof.Main.Tokens

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The ring of output rows: its four cells, the copies of blocks to the output, and the waits for them. -/

/-- The ring's tiles `a ≤ t < b`. -/
def ringT (a b : ℕ) : Finset S33x28x8x128.Idx := Finset.univ.filter fun i => a ≤ ((i 0 : Fin 33) : ℕ) ∧ ((i 0 : Fin 33) : ℕ) < b
theorem mem_ringT {a b : ℕ} {i : S33x28x8x128.Idx} : i ∈ ringT a b ↔ a ≤ ((i 0 : Fin 33) : ℕ) ∧ ((i 0 : Fin 33) : ℕ) < b := by
  simp [ringT]
/-- Cell `s` of the ring. -/
abbrev ringC (s : ℕ) := ringT (8 * s) (8 * s + 8)
/-- The rows nothing reads. -/
abbrev ringD := ringT 32 33

/-- The output's blocks `a ≤ b' < b`, half `h` of the columns. -/
def outR (h a b : ℕ) : Finset S2048x56x8x128.Idx := Finset.univ.filter fun i =>
  8 * a ≤ ((i 0 : Fin 2048) : ℕ) ∧ ((i 0 : Fin 2048) : ℕ) < 8 * b ∧ 28 * h ≤ ((i 1 : Fin 56) : ℕ) ∧ ((i 1 : Fin 56) : ℕ) < 28 * h + 28
theorem mem_outR {h a b : ℕ} {i : S2048x56x8x128.Idx} : i ∈ outR h a b ↔
    8 * a ≤ ((i 0 : Fin 2048) : ℕ) ∧ ((i 0 : Fin 2048) : ℕ) < 8 * b ∧ 28 * h ≤ ((i 1 : Fin 56) : ℕ) ∧ ((i 1 : Fin 56) : ℕ) < 28 * h + 28 := by
  simp [outR]

/-- The ring's element that is copied to an element of block `b`. -/
def ringOf (b : ℕ) (i : S2048x56x8x128.Idx) : S33x28x8x128.Idx :=
  ix4 (Fin.ofNat 33 (8 * (b % 4) + ((i 0 : Fin 2048) : ℕ) % 8)) (Fin.ofNat 28 (((i 1 : Fin 56) : ℕ) % 28)) (i 2 : Fin 8) (i 3 : Fin 128)

/-- The output window of a block. -/
abbrev oWin (off : Fin 4 → ℕ) (inb : ∀ a, off a + S8x28x8x128.size a ≤ S2048x56x8x128.size a) : Memref sig .tc .hbm S8x28x8x128 .f32 :=
  (Memref.whole main_v0).slice (Rect.unit (s := S2048x56x8x128) off S8x28x8x128.size inb) (fun _ => rfl)
/-- The ring window of a block. -/
abbrev rWin (off : Fin 4 → ℕ) (inb : ∀ a, off a + S8x28x8x128.size a ≤ S33x28x8x128.size a) : Memref sig .tc .vmem S8x28x8x128 .f32 :=
  (Memref.whole cc0_scratch1).slice (Rect.unit (s := S33x28x8x128) off S8x28x8x128.size inb) (fun _ => rfl)
/-- A store's semaphore. -/
abbrev ssem (off : Fin 1 → ℕ) (inb : ∀ a, off a + S1.size a ≤ S4.size a) : DmaSem sig :=
  ((cc0_scratch4.slice (Rect.unit (s := S4) off S1.size inb)).squeeze S_ squeezes_S1_S_).sem
theorem ssem_inb (p : Fin 4) : ∀ a, (![(p : ℕ)] : Fin 1 → ℕ) a + S1.size a ≤ S4.size a := by
  intro a
  match a with
  | ⟨0, _⟩ => exact p.isLt
abbrev scell (p : Fin 4) : DmaSem sig := ssem ![(p : ℕ)] (ssem_inb p)
/-- The semaphore of block `b`. -/
abbrev bcell (b : ℕ) : DmaSem sig := scell ⟨b % 4, Nat.mod_lt _ (by decide)⟩
theorem bcell_eq (b : ℕ) : bcell (b + 4) = bcell b := by
  have : (⟨(b + 4) % 4, Nat.mod_lt _ (by decide)⟩ : Fin 4) = ⟨b % 4, Nat.mod_lt _ (by decide)⟩ := Fin.ext (Nat.add_mod_right b 4)
  exact congrArg scell this

theorem oWin_set {off : Fin 4 → ℕ} {inb} (h b : ℕ) (hoff : off = ![8 * b, 28 * h, 0, 0]) : ((oWin off inb).view.set : Finset S2048x56x8x128.Idx) = outR h b (b + 1) := by
  subst hoff
  ext i
  rw [mem_outR]
  constructor
  · intro hi
    obtain ⟨x, -, rfl⟩ := Finset.mem_map.mp hi
    have b0 : ((x 0 : Fin 8) : ℕ) < 8 := (x 0 : Fin 8).isLt
    have b1 : ((x 1 : Fin 28) : ℕ) < 28 := (x 1 : Fin 28).isLt
    show 8 * b ≤ 8 * b + 1 * ((x 0 : Fin 8) : ℕ) ∧ 8 * b + 1 * ((x 0 : Fin 8) : ℕ) < 8 * (b + 1) ∧ 28 * h ≤ 28 * h + 1 * ((x 1 : Fin 28) : ℕ) ∧ 28 * h + 1 * ((x 1 : Fin 28) : ℕ) < 28 * h + 28
    omega
  · rintro ⟨h1, h2, h3, h4⟩
    refine Finset.mem_map.mpr ⟨ix4 (⟨((i 0 : Fin 2048) : ℕ) - 8 * b, by omega⟩ : Fin 8) (⟨((i 1 : Fin 56) : ℕ) - 28 * h, by omega⟩ : Fin 28) (i 2 : Fin 8) (i 3 : Fin 128), Finset.mem_univ _, ?_⟩
    funext a
    match a with
    | ⟨0, _⟩ => exact Fin.ext (show 8 * b + 1 * (((i 0 : Fin 2048) : ℕ) - 8 * b) = ((i 0 : Fin 2048) : ℕ) by omega)
    | ⟨1, _⟩ => exact Fin.ext (show 28 * h + 1 * (((i 1 : Fin 56) : ℕ) - 28 * h) = ((i 1 : Fin 56) : ℕ) by omega)
    | ⟨2, _⟩ => exact Fin.ext (show 0 + 1 * ((i 2 : Fin 8) : ℕ) = ((i 2 : Fin 8) : ℕ) by omega)
    | ⟨3, _⟩ => exact Fin.ext (show 0 + 1 * ((i 3 : Fin 128) : ℕ) = ((i 3 : Fin 128) : ℕ) by omega)

theorem rWin_set {off : Fin 4 → ℕ} {inb} (s : ℕ) (hoff : off = ![8 * s, 0, 0, 0]) : ((rWin off inb).view.set : Finset S33x28x8x128.Idx) = ringC s := by
  subst hoff
  ext i
  rw [mem_ringT]
  constructor
  · intro hi
    obtain ⟨x, -, rfl⟩ := Finset.mem_map.mp hi
    have b0 : ((x 0 : Fin 8) : ℕ) < 8 := (x 0 : Fin 8).isLt
    show 8 * s ≤ 8 * s + 1 * ((x 0 : Fin 8) : ℕ) ∧ 8 * s + 1 * ((x 0 : Fin 8) : ℕ) < 8 * s + 8
    omega
  · rintro ⟨h1, h2⟩
    refine Finset.mem_map.mpr ⟨ix4 (⟨((i 0 : Fin 33) : ℕ) - 8 * s, by omega⟩ : Fin 8) (i 1 : Fin 28) (i 2 : Fin 8) (i 3 : Fin 128), Finset.mem_univ _, ?_⟩
    funext a
    match a with
    | ⟨0, _⟩ => exact Fin.ext (show 8 * s + 1 * (((i 0 : Fin 33) : ℕ) - 8 * s) = ((i 0 : Fin 33) : ℕ) by omega)
    | ⟨1, _⟩ => exact Fin.ext (show 0 + 1 * ((i 1 : Fin 28) : ℕ) = ((i 1 : Fin 28) : ℕ) by omega)
    | ⟨2, _⟩ => exact Fin.ext (show 0 + 1 * ((i 2 : Fin 8) : ℕ) = ((i 2 : Fin 8) : ℕ) by omega)
    | ⟨3, _⟩ => exact Fin.ext (show 0 + 1 * ((i 3 : Fin 128) : ℕ) = ((i 3 : Fin 128) : ℕ) by omega)

theorem rWin_ringOf {off : Fin 4 → ℕ} {inb} {off' : Fin 4 → ℕ} {inb'} (h b : ℕ) (hh : h < 2) (hoff : off = ![8 * b, 28 * h, 0, 0]) (hoff' : off' = ![8 * (b % 4), 0, 0, 0]) (x : S8x28x8x128.Idx) :
    ((rWin off' inb').view.emb x : S33x28x8x128.Idx) = ringOf b ((oWin off inb).view.emb x) := by
  subst hoff hoff'
  have b0 : ((x 0 : Fin 8) : ℕ) < 8 := (x 0 : Fin 8).isLt
  have b1 : ((x 1 : Fin 28) : ℕ) < 28 := (x 1 : Fin 28).isLt
  funext a
  match a with
  | ⟨0, _⟩ => exact Fin.ext (show 8 * (b % 4) + 1 * ((x 0 : Fin 8) : ℕ) = (8 * (b % 4) + (8 * b + 1 * ((x 0 : Fin 8) : ℕ)) % 8) % 33 by omega)
  | ⟨1, _⟩ => exact Fin.ext (show 0 + 1 * ((x 1 : Fin 28) : ℕ) = (28 * h + 1 * ((x 1 : Fin 28) : ℕ)) % 28 % 28 by omega)
  | ⟨2, _⟩ => exact Fin.ext (show 0 + 1 * ((x 2 : Fin 8) : ℕ) = 0 + 1 * ((x 2 : Fin 8) : ℕ) from rfl)
  | ⟨3, _⟩ => exact Fin.ext (show 0 + 1 * ((x 3 : Fin 128) : ℕ) = 0 + 1 * ((x 3 : Fin 128) : ℕ) from rfl)

variable (c : Dev nD) {α : Type} {Q : α → SP F} (V : S2048x56x8x128.Idx → Elt F .f32 → Prop)

/-- Elements `S` of the output, whose values satisfy `V`. -/
def OutV (S : Finset S2048x56x8x128.Idx) : SP F :=
  iprop(∃ o : OutBuf F, ⌜∀ i ∈ S, V i (o i)⌝ ∗ ((c : Thread nD τ).loc main_v0 ↦[S]{fullShare} o))

theorem OutV_union (S T U : Finset S2048x56x8x128.Idx) (hS : S ⊆ U) (hT : U \ S = T) : iprop(OutV c V S ∗ OutV c V T) ⊢ OutV c V U := by
  subst hT
  unfold OutV
  iintro ⟨⟨%o, %h1, H1⟩, ⟨%o', %h2, H2⟩⟩
  iexists (fun i => if i ∈ S then o i else o' i)
  isplitr
  · ipureintro
    intro i hi
    by_cases h : i ∈ S
    · show V i (if i ∈ S then o i else o' i)
      rw [if_pos h]; exact h1 i h
    · show V i (if i ∈ S then o i else o' i)
      rw [if_neg h]; exact h2 i (Finset.mem_sdiff.mpr ⟨hi, h⟩)
  iapply (pointsTo_split_subset hS).2
  isplitl [H1]
  · iapply (Entails.of_eq (pointsTo_congr fun i hi => by rw [if_pos hi])) $$ H1
  · iapply (Entails.of_eq (pointsTo_congr fun i hi => by rw [if_neg (Finset.mem_sdiff.mp hi).2])) $$ H2

theorem OutV_empty (S : Finset S2048x56x8x128.Idx) (hS : S = ∅) : (iprop(emp) : SP F) ⊢ OutV c V S := by
  subst hS
  unfold OutV
  iintro -
  iexists zOut
  isplitr
  · ipureintro
    intro i hi
    exact absurd hi (Finset.notMem_empty _)
  rw [pointsTo_empty]
  iempintro

/-- Elements `S` of the ring. -/
def RingE (S : Finset S33x28x8x128.Idx) : SP F := iprop(∃ r : RingBuf F, ((c : Thread nD τ).loc cc0_scratch1 ↦[S]{fullShare} r))

/-- What the copy of block `b` delivers. -/
def sD (h b : ℕ) : SP F := iprop(OutV c V (outR h b (b + 1)) ∗ RingE c (ringC (b % 4)))
def sN : ℕ := (oWin ![0, 0, 0, 0] (by decide)).view.dmaCredit

/-- The copy of block `b`, under way. -/
def Pend (h b : ℕ) : SP F := Transfers.Flight (EC F) (c : Thread nD τ) (.dma (bcell b)) () sN (sD c V h b)

/-- Starting the copy of a block. -/
theorem bstore (h b : ℕ) (hh : h < 2) (r : RingBuf F) (o0 : OutBuf F) {off1 : Fin 1 → ℕ} {inb1} {off2 off3 : Fin 4 → ℕ} {inb2 inb3}
    (hoff1 : off1 = ![b % 4]) (hoff2 : off2 = ![8 * b, 28 * h, 0, 0]) (hoff3 : off3 = ![8 * (b % 4), 0, 0, 0]) (hV : ∀ i ∈ outR h b (b + 1), V i (r (ringOf b i))) {h1 h2 h3} {k : PUnit → PG F α} :
    iprop(((c : Thread nD τ).loc cc0_scratch1 ↦[ringC (b % 4)]{fullShare} r) ∗ ((c : Thread nD τ).loc main_v0 ↦[outR h b (b + 1)]{fullShare} o0) ∗ semVal ((c : Thread nD τ), SemLoc.dma (bcell b)) 0)
      ⊢ iprop((Pend c V h b -∗ WP c (k ⟨⟩) Q)
        -∗ WP c (.op (.enqueueDma (rWin off3 inb3) (.here (oWin off2 inb2)) (.dma (ssem off1 inb1)) h1 h2 h3) k) Q) := by
  have s2 := oWin_set (inb := inb2) h b hoff2
  have s3 := rWin_set (inb := inb3) (b % 4) hoff3
  have em := rWin_ringOf (inb := inb2) (inb' := inb3) h b hh hoff2 hoff3
  subst hoff1
  have key := Transfers.wp_dmaLocal (EC F) (defs := defs₀ (F := F)) Variants.none (c : Thread nD τ) none (src := rWin off3 inb3) (dst := oWin off2 inb2) (via := .same) (sm := .dma (bcell b)) (hsrc := h1) (hdst := h2) (hsem := h3) (k := k) (Q := Q)
    (fs := r) (fd := o0) (q := fullShare) (Sd := outR h b (b + 1)) () sN rfl (by decide) (le_of_eq s2)
  have aux : ∀ S, S = ringC (b % 4) → (((c : Thread nD τ).loc cc0_scratch1 ↦[ringC (b % 4)]{fullShare} r) : SP F) ⊢ ((c : Thread nD τ).loc cc0_scratch1 ↦[S]{fullShare} r) := by
    rintro _ rfl; exact .rfl
  have aux' : ∀ S, S = ringC (b % 4) → (((c : Thread nD τ).loc cc0_scratch1 ↦[S]{fullShare} r) : SP F) ⊢ ((c : Thread nD τ).loc cc0_scratch1 ↦[ringC (b % 4)]{fullShare} r) := by
    rintro _ rfl; exact .rfl
  iintro ⟨Hr, Ho, Hv⟩ Hk
  iapply key $$ [Hr Ho Hv]
  · isplitl [Hr]
    · iapply (aux _ s3) $$ Hr
    isplitl [Ho]; · iexact Ho
    iexact Hv
  iintro HF
  iapply Hk
  unfold Pend
  iapply (Transfers.Flight_mono (EC F) (c := (c : Thread nD τ)) ?hm) $$ HF
  case hm =>
    unfold sD OutV RingE
    iintro ⟨H1, H2⟩
    isplitl [H1]
    · iexists ((oWin off2 inb2).view.write (Elt F) o0 ((ReadAs.same).apply ((rWin off3 inb3).view.read (Elt F) r)) Finset.univ)
      isplitr
      · ipureintro
        intro i hi
        have hi' : i ∈ (oWin off2 inb2).view.set := by rw [s2]; exact hi
        obtain ⟨x, -, rfl⟩ := Finset.mem_map.mp hi'
        rw [View.write_emb_of_mem _ _ (Finset.mem_univ x)]
        have hv := hV _ hi
        rw [← em x] at hv
        exact hv
      iexact H1
    · iexists r
      iapply (aux' _ s3) $$ H2

theorem bcredit {off2 : Fin 4 → ℕ} {inb2} : (oWin off2 inb2).view.dmaCredit = sN := rfl

/-- Waiting for the copy of a block. -/
theorem bwait (h b : ℕ) {off1 : Fin 1 → ℕ} {inb1} {off2 off3 : Fin 4 → ℕ} {inb2 inb3} (hoff1 : off1 = ![b % 4]) {h1 h2} {k : PUnit → PG F α} :
    iprop(Pend c V h b ∗ ∃ W, owes (c : Thread nD τ) 0 W)
      ⊢ iprop((iprop(OutV c V (outR h b (b + 1)) ∗ RingE c (ringC (b % 4)) ∗ semVal ((c : Thread nD τ), SemLoc.dma (bcell b)) 0 ∗ ∃ W, owes (c : Thread nD τ) 0 W) -∗ WP c (k ⟨⟩) Q)
        -∗ WP c (.op (.waitDma2 (ssem off1 inb1) (rWin off3 inb3) (oWin off2 inb2) h1 h2) k) Q) := by
  subst hoff1
  unfold Pend
  iintro ⟨HF, ⟨%W, HO⟩⟩ Hk
  have key := Transfers.wp_waitLocal (EC F) (defs := defs₀ (F := F)) Variants.none (c : Thread nD τ) none (srcw := rWin off3 inb3) (dstw := oWin off2 inb2) (sem := bcell b) (hsrc := h1) (hdst := h2)
    (Q := Q) (k := k) () bcredit (D := sD c V h b) (W := W)
  iapply key $$ [HF HO]
  · isplitl [HF]; · iexact HF
    iexact HO
  unfold sD
  iintro ⟨⟨H1, H2⟩, Hv, HO⟩
  iapply Hk
  isplitl [H1]; · iexact H1
  isplitl [H2]; · iexact H2
  isplitl [Hv]; · iexact Hv
  iexists _
  iexact HO

/-- The cell block `k` will use, before it may be used: for `k < 4` it is free, otherwise block `k - 4` is on its way out of it. -/
def Slot (h k : ℕ) : SP F :=
  if k < 4 then iprop(semVal ((c : Thread nD τ), SemLoc.dma (bcell k)) 0 ∗ RingE c (ringC (k % 4))) else Pend c V h (k - 4)
theorem Slot_free {h k : ℕ} (hk : k < 4) : Slot (F := F) c V h k = iprop(semVal ((c : Thread nD τ), SemLoc.dma (bcell k)) 0 ∗ RingE c (ringC (k % 4))) := if_pos hk
theorem Slot_pend (h k : ℕ) : Slot (F := F) c V h (k + 4) = Pend c V h k := by
  unfold Slot
  rw [if_neg (by omega), Nat.add_sub_cancel]

end Cert.Proof.Kernel

end
-- ==== Proof.Main.Repack.lean ====
module

public import proofs.«01_k».proof.Proof.Main.Codes

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One tile turned: four neighbouring words of a row, each holding the bytes of four rows, become four words,
    each holding four neighbouring columns' bytes of one row. -/

/-- The low halves of two words. -/
def loH (a b : BitVec 32) : BitVec 32 := IntOp.ori (IntOp.andi a 65535#32) (IntOp.shli .vector b 16#32)
/-- The high halves of two words. -/
def hiH (a b : BitVec 32) : BitVec 32 := IntOp.ori (IntOp.shrui .vector a 16#32) (IntOp.andi b 4294901760#32)
/-- The even bytes of two words, interleaved. -/
def evB (p q : BitVec 32) : BitVec 32 := IntOp.ori (IntOp.andi p 16711935#32) (IntOp.shli .vector (IntOp.andi q 16711935#32) 8#32)
/-- The odd bytes of two words, interleaved. -/
def odB (p q : BitVec 32) : BitVec 32 := IntOp.ori (IntOp.andi (IntOp.shrui .vector p 8#32) 16711935#32) (IntOp.andi q 4278255360#32)

/-- Byte `k` of each of four words. -/
def trB (k : ℕ) (w0 w1 w2 w3 : BitVec 32) : BitVec 32 :=
  match k with
  | 0 => evB (loH w0 w2) (loH w1 w3)
  | 1 => odB (loH w0 w2) (loH w1 w3)
  | 2 => evB (hiH w0 w2) (hiH w1 w3)
  | _ => odB (hiH w0 w2) (hiH w1 w3)

/-- The element of tile `t` in block `n`, sublane `s`, lane `l`. -/
abbrev cAt (f : CodeBuf) (t : Fin 513) (n s : ℕ) (l : Fin 128) : BitVec 32 := f (ix4 t (Fin.ofNat 28 n) (Fin.ofNat 8 s) l)

/-- The turned tile, from the tile as loaded: row `28 s + 7 k + j` holds byte `k` of the words `4 j … 4 j + 3` of sublane `s`. -/
def packBuf (f : CodeBuf) : CodeBuf := fun i =>
  trB (rowOf i % 28 / 7) (cAt f (i 0 : Fin 513) (4 * (rowOf i % 28 % 7)) (rowOf i / 28) (i 3 : Fin 128)) (cAt f (i 0 : Fin 513) (4 * (rowOf i % 28 % 7) + 1) (rowOf i / 28) (i 3 : Fin 128))
    (cAt f (i 0 : Fin 513) (4 * (rowOf i % 28 % 7) + 2) (rowOf i / 28) (i 3 : Fin 128)) (cAt f (i 0 : Fin 513) (4 * (rowOf i % 28 % 7) + 3) (rowOf i / 28) (i 3 : Fin 128))

theorem t3_trips : k0_t3_loop.trips = 16 := by decide
theorem t3_lt (k : Fin k0_t3_loop.trips) : (k : ℕ) < 16 := lt_of_lt_of_eq k.isLt t3_trips
theorem t6_trips (k : Fin k0_t3_loop.trips) : (k0_t6_loop k).trips = 32 := by revert k; decide
theorem t6_lt {k : Fin k0_t3_loop.trips} (t : Fin (k0_t6_loop k).trips) : (t : ℕ) < 32 := lt_of_lt_of_eq t.isLt (t6_trips k)
/-- The tile a repack trip works on. -/
abbrev tileOf {k : Fin k0_t3_loop.trips} (t : Fin (k0_t6_loop k).trips) : ℕ := 32 * (k : ℕ) + (t : ℕ)
theorem tileOf_lt {k : Fin k0_t3_loop.trips} (t : Fin (k0_t6_loop k).trips) : tileOf t < 513 := by
  have := t3_lt k
  have := t6_lt t
  unfold tileOf; omega

theorem iv36 {k : Fin k0_t3_loop.trips} (t : Fin (k0_t6_loop k).trips) :
    Scf.iv (Scalar.muli (Scf.iv 0#32 1#32 (k : ℕ)) 32#32) 1#32 (t : ℕ) = BitVec.ofNat 32 (tileOf t) := by
  have h3 := t3_lt k
  have h6 := t6_lt t
  apply BitVec.eq_of_toNat_eq
  simp only [Scf.iv, Scalar.muli, IntOp.muli, BitVec.toNat_add, BitVec.toNat_mul, BitVec.toNat_ofNat]
  unfold tileOf; omega

/-- Where a load of a repack trip reads. -/
theorem off_load {k : Fin k0_t3_loop.trips} (t : Fin (k0_t6_loop k).trips) (off : Fin 4 → ℕ) (n : ℕ)
    (h : off = ![(Scalar.indexCast (Scf.iv (Scalar.muli (Scf.iv 0#32 1#32 (k : ℕ)) 32#32) 1#32 (t : ℕ))).toNat, n, 0, 0]) : off = ![tileOf t, n, 0, 0] := by
  have h3 := t3_lt k
  have h6 := t6_lt t
  rw [h, iv36]
  have : (Scalar.indexCast (BitVec.ofNat 32 (tileOf t))).toNat = tileOf t := by
    simp only [Scalar.indexCast, BitVec.toNat_ofNat]
    unfold tileOf; omega
  rw [this]

/-- Where a store of a repack trip writes. -/
theorem off_store {k : Fin k0_t3_loop.trips} (t : Fin (k0_t6_loop k).trips) (a b : BitVec 32) (h : a.toNat + b.toNat < 28) :
    k0_off63 k t a b = ![224 * tileOf t + (a.toNat + b.toNat), 0] := by
  have h3 := t3_lt k
  have h6 := t6_lt t
  have e : (Scalar.indexCast (Scalar.addi (Scalar.addi (Scalar.muli (Scf.iv (Scalar.muli (Scf.iv 0#32 1#32 (k : ℕ)) 32#32) 1#32 (t : ℕ)) 224#32) a) b)).toNat = 224 * tileOf t + (a.toNat + b.toNat) := by
    rw [iv36]
    simp only [Scalar.indexCast, Scalar.addi, Scalar.muli, IntOp.addi, IntOp.muli, BitVec.toNat_add, BitVec.toNat_mul, BitVec.toNat_ofNat]
    unfold tileOf; omega
  show ![_, 0] = _
  rw [← e]

theorem off_bound {off : Fin 4 → ℕ} (inb : ∀ a, off a + S1x1x8x128.size a ≤ S513x28x8x128.size a) : off 1 < 28 := by
  have h : off 1 + 1 ≤ 28 := inb 1
  omega

/-- Reading a block at the offset the program computes. -/
theorem codeLoad' (c : Dev nD) {α : Type} {Q : α → SP F} {off : Fin 4 → ℕ} {inb : ∀ a, off a + S1x1x8x128.size a ≤ S513x28x8x128.size a} {hl} {k : (S1x1x8x128.Idx → Elt F .i32) → PG F α}
    (t : ℕ) (ht : t < 513) (S : Finset S513x28x8x128.Idx) (f : CodeBuf) (hS : tileSet t ⊆ S) (hoff : off = ![t, off 1, 0, 0]) :
    (((c : Thread nD τ).loc cc0_scratch0 ↦[S]{fullShare} f) : SP F)
      ⊢ iprop((((c : Thread nD τ).loc cc0_scratch0 ↦[S]{fullShare} f) -∗ WP c (k fun x => f (ix4 (⟨t, ht⟩ : Fin 513) ⟨off 1, off_bound inb⟩ (x 2 : Fin 8) (x 3 : Fin 128))) Q)
        -∗ WP c (.op (.load (Memref.whole cc0_scratch0) (Rect.unit (s := S513x28x8x128) off S1x1x8x128.size inb).toLoadRect hl) k) Q) :=
  codeLoad c t ⟨off 1, off_bound inb⟩ hoff ht S hS f

/-- A loaded block without its unit axes. -/
theorem castLoad (v : S1x1x8x128.Idx → BitVec 32) :
    shapeCast S8x128 v shapeCasts_S1x1x8x128_S8x128 = fun j => v (ix4 (0 : Fin 1) (0 : Fin 1) (j 0 : Fin 8) (j 1 : Fin 128)) := by
  funext j
  have hj : j = ix2 (j 0 : Fin 8) (j 1 : Fin 128) := eq_ix2 (n0 := 8) (n1 := 128) j
  rw [hj]
  exact congrArg v (reshapeEquiv_ix2_11ab (a := 8) (b := 128) _ (j 0 : Fin 8) (j 1 : Fin 128))

/-- A cast to the same shape changes nothing. -/
theorem castSame (v : S8x128.Idx → BitVec 32) : shapeCast S8x128 v shapeCasts_S8x128_S8x128 = v :=
  funext fun j => congrArg v (Shape.reshapeEquiv_self _ j)

/-- Contents that agree on the elements held are interchangeable. -/
theorem codes_congr (c : Dev nD) (S : Finset S513x28x8x128.Idx) (f g : CodeBuf) (h : ∀ i ∈ S, f i = g i) :
    (((c : Thread nD τ).loc cc0_scratch0 ↦[S]{fullShare} f) : SP F) ⊢ (c : Thread nD τ).loc cc0_scratch0 ↦[S]{fullShare} g :=
  Entails.of_eq (pointsTo_congr h)

set_option maxHeartbeats 4000000 in
theorem repack (c : Dev nD) (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole) (arg4 : Memref sig .tc .hbm S4096x7168 .i32) (harg4 : arg4.IsWhole) (arg5 : Memref sig .tc .hbm S2048x56x8x128 .f32) (harg5 : arg5.IsWhole) (arg7 : Memref sig .tc .vmem S33x28x8x128 .f32) (harg7 : arg7.IsWhole) (arg8 : Memref sig .tc .vmem S4x56x8x128 .f32) (harg8 : arg8.IsWhole) (arg9 : DmaSems sig S16) (arg10 : DmaSems sig S4) (arg11 : DmaSems sig S_) (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (k0_t3 : Fin k0_t3_loop.trips) (v113 : BitVec 32) (t : Fin (k0_t6_loop k0_t3).trips) (acc : BitVec 32)
    (f0 : CodeBuf) :
    (((c : Thread nD τ).loc cc0_scratch0 ↦[tileSet (tileOf t)]{fullShare} f0) : SP F)
      ⊢ WP c
          (k0_t6_body arg0 harg0 arg1 harg1 arg2 harg2 arg3 harg3 arg4 harg4 arg5 harg5 (Memref.whole cc0_scratch0) (Memref.isWhole_whole _) arg7 harg7 arg8 harg8 arg9 arg10 arg11
            v0 k0_hw2 v1 v20 v21 v22 v43 v44 c0_i32_24 c1_i32_26 k0_t1 arg13 k0_t3 v113 t acc)
          (fun _ => (c : Thread nD τ).loc cc0_scratch0 ↦[tileSet (tileOf t)]{fullShare} packBuf f0) := by
  iintro H
  simp only [k0_t6_body, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, Prog.bind_assoc]
  iterate 28
    iapply (codeLoad' c (tileOf t) (tileOf_lt t) (tileSet (tileOf t)) f0 (Finset.Subset.refl _) (off_load t _ _ rfl)) $$ H
    iintro H
  simp only [Prog.bind_assoc, Prog.pure_eq_ret, Prog.bind_ret]
  iterate 28
    iapply (codeLoadRow c (tileOf t) _ ?_ (off_store t _ _ ?_) _) $$ H
    any_goals first | decide | skip
    iintro H %_
    try simp only [Prog.pure_eq_ret, Prog.bind_ret]
    iapply (codeStore c (tileOf t) _ ?_ (off_store t _ _ ?_) _) $$ H
    any_goals first | decide | skip
    iintro H
    try simp only [Prog.pure_eq_ret, Prog.bind_ret]
  iapply (Idealize.SL.Sem.le_wp_ret _ _)
  iapply (codes_congr c (tileSet (tileOf t)) _ (packBuf f0) ?_) $$ H
  intro i hi
  have hi := mem_tileSet.mp hi
  have hlt : rowOf i % 28 < 28 := Nat.mod_lt _ (by decide)
  have ht : (⟨tileOf t, tileOf_lt t⟩ : Fin 513) = (i 0 : Fin 513) := Fin.ext hi.symm
  rw [ht]
  simp only [updRow, hi, packBuf, true_and]
  generalize hr : rowOf i % 28 = r at hlt
  clear hr hi ht
  generalize rowOf i / 28 = s
  interval_cases r <;>
    simp only [BitVec.toNat_ofNat, Nat.reduceMod, Nat.reduceAdd, Nat.reducePow, Nat.reduceEqDiff, ↓reduceIte, OfNat.ofNat_ne_zero, OfNat.zero_ne_ofNat, Nat.reduceDiv, Nat.reduceMul, OfNat.one_ne_ofNat, OfNat.ofNat_ne_one, one_ne_zero, zero_ne_one,
      k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay397, castLoad, castSame] <;> rfl

end Cert.Proof.Kernel

end
-- ==== Proof.Main.Loads.lean ====
module

public import Idealize.ShloMosaic.Lib.Batch
public import proofs.«01_k».proof.Proof.Main.Zeros
public import proofs.«01_k».proof.Proof.Main.Repack

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The loads of the code words: piece `p` (tiles `32 p … + 31`) arrives by 28 copies, one for each
    column group, on load semaphore `p`. -/

/-- The words' argument. -/
abbrev WordBuf := S4096x7168.Idx → BitVec 32

/-- What the code scratch holds once half `h` is loaded. -/
def loadBuf (g : WordBuf) (h : ℕ) : CodeBuf := fun i =>
  g (ix2 (Fin.ofNat 4096 (8 * ((i 0 : Fin 513) : ℕ) + ((i 2 : Fin 8) : ℕ))) (Fin.ofNat 7168 (3584 * h + 128 * ((i 1 : Fin 28) : ℕ) + ((i 3 : Fin 128) : ℕ))))

/-- Piece `p` of the scratch, column groups from `d` on. -/
def pieceS (p d : ℕ) : Finset S513x28x8x128.Idx := Finset.univ.filter fun i => ((i 0 : Fin 513) : ℕ) / 32 = p ∧ d ≤ ((i 1 : Fin 28) : ℕ)
theorem mem_pieceS {p d : ℕ} {i : S513x28x8x128.Idx} : i ∈ pieceS p d ↔ ((i 0 : Fin 513) : ℕ) / 32 = p ∧ d ≤ ((i 1 : Fin 28) : ℕ) := by simp [pieceS]
/-- One column group of a piece. -/
def pieceC (p n : ℕ) : Finset S513x28x8x128.Idx := Finset.univ.filter fun i => ((i 0 : Fin 513) : ℕ) / 32 = p ∧ ((i 1 : Fin 28) : ℕ) = n
theorem mem_pieceC {p n : ℕ} {i : S513x28x8x128.Idx} : i ∈ pieceC p n ↔ ((i 0 : Fin 513) : ℕ) / 32 = p ∧ ((i 1 : Fin 28) : ℕ) = n := by simp [pieceC]
/-- The words of piece `p`, half `h`, column groups from `d` on. -/
def srcS (h p d : ℕ) : Finset S4096x7168.Idx := Finset.univ.filter fun i => ((i 0 : Fin 4096) : ℕ) / 256 = p ∧ 28 * h + d ≤ ((i 1 : Fin 7168) : ℕ) / 128 ∧ ((i 1 : Fin 7168) : ℕ) / 128 < 28 * h + 28
theorem mem_srcS {h p d : ℕ} {i : S4096x7168.Idx} : i ∈ srcS h p d ↔ ((i 0 : Fin 4096) : ℕ) / 256 = p ∧ 28 * h + d ≤ ((i 1 : Fin 7168) : ℕ) / 128 ∧ ((i 1 : Fin 7168) : ℕ) / 128 < 28 * h + 28 := by simp [srcS]
def srcC (h p n : ℕ) : Finset S4096x7168.Idx := Finset.univ.filter fun i => ((i 0 : Fin 4096) : ℕ) / 256 = p ∧ ((i 1 : Fin 7168) : ℕ) / 128 = 28 * h + n
theorem mem_srcC {h p n : ℕ} {i : S4096x7168.Idx} : i ∈ srcC h p n ↔ ((i 0 : Fin 4096) : ℕ) / 256 = p ∧ ((i 1 : Fin 7168) : ℕ) / 128 = 28 * h + n := by simp [srcC]

abbrev codeWin (off : Fin 4 → ℕ) (inb : ∀ a, off a + S32x1x8x128.size a ≤ S513x28x8x128.size a) : Memref sig .tc .vmem S32x8x128 .i32 :=
  ((Memref.whole cc0_scratch0).slice (Rect.unit (s := S513x28x8x128) off S32x1x8x128.size inb) (fun _ => rfl)).squeeze S32x8x128 squeezes_S32x1x8x128_S32x8x128
abbrev srcWin (off : Fin 3 → ℕ) (inb : ∀ a, off a + S32x8x128.size a ≤ S512x8x7168.size a) : Memref sig .tc .hbm S32x8x128 .i32 :=
  ((Memref.whole main_arg4).reshape S512x8x7168 reshapes_S4096x7168_S512x8x7168.1 reshapes_S4096x7168_S512x8x7168.2 (Memref.isWhole_whole main_arg4).contiguous).slice
    (Rect.unit (s := S512x8x7168) off S32x8x128.size inb) (fun _ => rfl)
abbrev lsem (off : Fin 1 → ℕ) (inb : ∀ a, off a + S1.size a ≤ S16.size a) : DmaSem sig :=
  ((cc0_scratch3.slice (Rect.unit (s := S16) off S1.size inb)).squeeze S_ squeezes_S1_S_).sem
theorem lsem_inb (p : Fin 16) : ∀ a, (![(p : ℕ)] : Fin 1 → ℕ) a + S1.size a ≤ S16.size a := by
  intro a
  match a with
  | ⟨0, _⟩ => exact p.isLt
/-- Load semaphore `p`. -/
abbrev lcell (p : Fin 16) : DmaSem sig := lsem ![(p : ℕ)] (lsem_inb p)
theorem lsem_eq {off : Fin 1 → ℕ} {inb} (p : Fin 16) (hoff : off = ![(p : ℕ)]) : lsem off inb = lcell p := by subst hoff; rfl

/-- Where an element of a window of the scratch lies. -/
theorem codeWin_emb {off : Fin 4 → ℕ} {inb} (p n : ℕ) (hoff : off = ![32 * p, n, 0, 0]) (x : S32x8x128.Idx) (hp : 32 * p + 32 ≤ 513) (hn : n < 28) :
    ((codeWin off inb).view.emb x : S513x28x8x128.Idx)
      = ix4 (⟨32 * p + ((x 0 : Fin 32) : ℕ), by have : ((x 0 : Fin 32) : ℕ) < 32 := (x 0 : Fin 32).isLt; omega⟩ : Fin 513) (⟨n, hn⟩ : Fin 28) (x 1 : Fin 8) (x 2 : Fin 128) := by
  subst hoff
  have e : Shape.reshapeEquiv (Shape.Squeezes.numel_eq squeezes_S32x1x8x128_S32x8x128) x = (ix4 (x 0 : Fin 32) (0 : Fin 1) (x 1 : Fin 8) (x 2 : Fin 128) : S32x1x8x128.Idx) := by
    refine Shape.reshapeEquiv_eq_of_rowMajor _ ?_
    rw [Shape.rowMajor_val_four, Shape.rowMajor_val_three]
    simp only [Matrix.cons_val_zero, Matrix.cons_val_one, Matrix.cons_val]
    show ((((x 0 : Fin 32) : ℕ) * 1 + 0) * 8 + ((x 1 : Fin 8) : ℕ)) * 128 + ((x 2 : Fin 128) : ℕ) = (((x 0 : Fin 32) : ℕ) * 8 + ((x 1 : Fin 8) : ℕ)) * 128 + ((x 2 : Fin 128) : ℕ)
    omega
  have e2 : ((codeWin ![32 * p, n, 0, 0] inb).view.emb x : S513x28x8x128.Idx) = (Rect.unit (s := S513x28x8x128) ![32 * p, n, 0, 0] S32x1x8x128.size inb).emb (Shape.reshapeEquiv (Shape.Squeezes.numel_eq squeezes_S32x1x8x128_S32x8x128) x) := rfl
  rw [e2, e]
  funext a
  match a with
  | ⟨0, _⟩ => exact Fin.ext (show 32 * p + 1 * ((x 0 : Fin 32) : ℕ) = 32 * p + ((x 0 : Fin 32) : ℕ) by omega)
  | ⟨1, _⟩ => exact Fin.ext (show n + 1 * 0 = n by omega)
  | ⟨2, _⟩ => exact Fin.ext (show 0 + 1 * ((x 1 : Fin 8) : ℕ) = ((x 1 : Fin 8) : ℕ) by omega)
  | ⟨3, _⟩ => exact Fin.ext (show 0 + 1 * ((x 2 : Fin 128) : ℕ) = ((x 2 : Fin 128) : ℕ) by omega)

theorem codeWin_set {off : Fin 4 → ℕ} {inb} (p n : ℕ) (hoff : off = ![32 * p, n, 0, 0]) (hp : 32 * p + 32 ≤ 513) (hn : n < 28) :
    ((codeWin off inb).view.set : Finset S513x28x8x128.Idx) = pieceC p n := by
  ext i
  rw [mem_pieceC]
  constructor
  · intro hi
    obtain ⟨x, -, hx⟩ := Finset.mem_map.mp hi
    have hx := (codeWin_emb (inb := inb) p n hoff x hp hn).symm.trans hx
    subst hx
    have : ((x 0 : Fin 32) : ℕ) < 32 := (x 0 : Fin 32).isLt
    exact ⟨show (32 * p + ((x 0 : Fin 32) : ℕ)) / 32 = p by omega, rfl⟩
  · rintro ⟨h0, h1⟩
    refine Finset.mem_map.mpr ⟨ix3 (⟨((i 0 : Fin 513) : ℕ) - 32 * p, by omega⟩ : Fin 32) (i 2 : Fin 8) (i 3 : Fin 128), Finset.mem_univ _, ?_⟩
    refine (codeWin_emb (inb := inb) p n hoff _ hp hn).trans ?_
    funext a
    match a with
    | ⟨0, _⟩ => exact Fin.ext (show 32 * p + (((i 0 : Fin 513) : ℕ) - 32 * p) = ((i 0 : Fin 513) : ℕ) by omega)
    | ⟨1, _⟩ => exact Fin.ext h1.symm
    | ⟨2, _⟩ => rfl
    | ⟨3, _⟩ => rfl

/-- Where an element of a window of the words lies. -/
theorem srcWin_emb {off : Fin 3 → ℕ} {inb} (h p n : ℕ) (hoff : off = ![32 * p, 0, (28 * h + n) * 128]) (x : S32x8x128.Idx) (hp : p < 16) (hn : 28 * h + n < 56) :
    ((srcWin off inb).view.emb x : S4096x7168.Idx)
      = ix2 (⟨8 * (32 * p + ((x 0 : Fin 32) : ℕ)) + ((x 1 : Fin 8) : ℕ), by have : ((x 0 : Fin 32) : ℕ) < 32 := (x 0 : Fin 32).isLt; have : ((x 1 : Fin 8) : ℕ) < 8 := (x 1 : Fin 8).isLt; omega⟩ : Fin 4096)
          (⟨(28 * h + n) * 128 + ((x 2 : Fin 128) : ℕ), by have : ((x 2 : Fin 128) : ℕ) < 128 := (x 2 : Fin 128).isLt; omega⟩ : Fin 7168) := by
  subst hoff
  have e2 : ((srcWin ![32 * p, 0, (28 * h + n) * 128] inb).view.emb x : S4096x7168.Idx)
      = Shape.reshapeEquiv reshapes_S4096x7168_S512x8x7168.1 ((Rect.unit (s := S512x8x7168) ![32 * p, 0, (28 * h + n) * 128] S32x8x128.size inb).emb x) := rfl
  rw [e2]
  refine Shape.reshapeEquiv_eq_of_rowMajor _ ?_
  rw [Shape.rowMajor_val_two, Shape.rowMajor_val_three]
  simp only [Matrix.cons_val_zero, Matrix.cons_val_one, Matrix.cons_val]
  show (8 * (32 * p + ((x 0 : Fin 32) : ℕ)) + ((x 1 : Fin 8) : ℕ)) * 7168 + ((28 * h + n) * 128 + ((x 2 : Fin 128) : ℕ))
    = ((32 * p + 1 * ((x 0 : Fin 32) : ℕ)) * 8 + (0 + 1 * ((x 1 : Fin 8) : ℕ))) * 7168 + ((28 * h + n) * 128 + 1 * ((x 2 : Fin 128) : ℕ))
  omega

theorem srcWin_set {off : Fin 3 → ℕ} {inb} (h p n : ℕ) (hoff : off = ![32 * p, 0, (28 * h + n) * 128]) (hp : p < 16) (hn : 28 * h + n < 56) :
    ((srcWin off inb).view.set : Finset S4096x7168.Idx) = srcC h p n := by
  ext i
  rw [mem_srcC]
  constructor
  · intro hi
    obtain ⟨x, -, hx⟩ := Finset.mem_map.mp hi
    have hx := (srcWin_emb (inb := inb) h p n hoff x hp hn).symm.trans hx
    subst hx
    have h0 : ((x 0 : Fin 32) : ℕ) < 32 := (x 0 : Fin 32).isLt
    have h1 : ((x 1 : Fin 8) : ℕ) < 8 := (x 1 : Fin 8).isLt
    have h2 : ((x 2 : Fin 128) : ℕ) < 128 := (x 2 : Fin 128).isLt
    exact ⟨show (8 * (32 * p + ((x 0 : Fin 32) : ℕ)) + ((x 1 : Fin 8) : ℕ)) / 256 = p by omega, show ((28 * h + n) * 128 + ((x 2 : Fin 128) : ℕ)) / 128 = 28 * h + n by omega⟩
  · rintro ⟨h0, h1⟩
    refine Finset.mem_map.mpr ⟨ix3 (⟨((i 0 : Fin 4096) : ℕ) / 8 - 32 * p, by omega⟩ : Fin 32) (⟨((i 0 : Fin 4096) : ℕ) % 8, by omega⟩ : Fin 8) (⟨((i 1 : Fin 7168) : ℕ) % 128, by omega⟩ : Fin 128), Finset.mem_univ _, ?_⟩
    refine (srcWin_emb (inb := inb) h p n hoff _ hp hn).trans ?_
    funext a
    match a with
    | ⟨0, _⟩ => exact Fin.ext (show 8 * (32 * p + (((i 0 : Fin 4096) : ℕ) / 8 - 32 * p)) + ((i 0 : Fin 4096) : ℕ) % 8 = ((i 0 : Fin 4096) : ℕ) by omega)
    | ⟨1, _⟩ => exact Fin.ext (show (28 * h + n) * 128 + ((i 1 : Fin 7168) : ℕ) % 128 = ((i 1 : Fin 7168) : ℕ) by omega)

/-- A loaded word, by where its copy put it. -/
theorem loadBuf_at (g : WordBuf) (h p n : ℕ) (x : S32x8x128.Idx) (hp : p < 16) (hn : n < 28) (hh : h < 2) :
    loadBuf g h (ix4 (⟨32 * p + ((x 0 : Fin 32) : ℕ), by have : ((x 0 : Fin 32) : ℕ) < 32 := (x 0 : Fin 32).isLt; omega⟩ : Fin 513) (⟨n, hn⟩ : Fin 28) (x 1 : Fin 8) (x 2 : Fin 128))
      = g (ix2 (⟨8 * (32 * p + ((x 0 : Fin 32) : ℕ)) + ((x 1 : Fin 8) : ℕ), by have : ((x 0 : Fin 32) : ℕ) < 32 := (x 0 : Fin 32).isLt; have : ((x 1 : Fin 8) : ℕ) < 8 := (x 1 : Fin 8).isLt; omega⟩ : Fin 4096)
          (⟨(28 * h + n) * 128 + ((x 2 : Fin 128) : ℕ), by have : ((x 2 : Fin 128) : ℕ) < 128 := (x 2 : Fin 128).isLt; omega⟩ : Fin 7168)) := by
  have b0 : ((x 0 : Fin 32) : ℕ) < 32 := (x 0 : Fin 32).isLt
  have b1 : ((x 1 : Fin 8) : ℕ) < 8 := (x 1 : Fin 8).isLt
  have b2 : ((x 2 : Fin 128) : ℕ) < 128 := (x 2 : Fin 128).isLt
  unfold loadBuf
  refine congrArg g (congrArg₂ ix2 (Fin.ext ?_) (Fin.ext ?_))
  · rw [Fin.val_ofNat]
    exact Nat.mod_eq_of_lt (show 8 * (32 * p + ((x 0 : Fin 32) : ℕ)) + ((x 1 : Fin 8) : ℕ) < 4096 by omega)
  · rw [Fin.val_ofNat]
    refine (Nat.mod_eq_of_lt (show 3584 * h + 128 * n + ((x 2 : Fin 128) : ℕ) < 7168 by omega)).trans ?_
    show _ = (28 * h + n) * 128 + ((x 2 : Fin 128) : ℕ)
    omega

variable (c : Dev nD) {α : Type} {Q : α → SP F}

/-- What the copy of column group `n` of piece `p` delivers. -/
def lD (g : WordBuf) (h p n : ℕ) : SP F :=
  iprop(((c : Thread nD τ).loc cc0_scratch0 ↦[pieceC p n]{fullShare} loadBuf g h) ∗ ((c : Thread nD τ).loc main_arg4 ↦[srcC h p n]{fullShare} g))

instance lD_storable (g : WordBuf) (h p n : ℕ) : BI.Storable (upEmb : UEmb _ (MT nD τ sig Unit (Elt F) ℕ (Pipeline.UD sig nD τ) ℕ)) (lD (F := F) c g h p n) := by
  unfold lD; infer_instance

/-- The units of one of these copies. -/
def lN : ℕ := (codeWin ![0, 0, 0, 0] (by decide)).view.dmaCredit

/-- The copies of piece `p` after `d` starts. -/
def LS (g : WordBuf) (f : CodeBuf) (h : ℕ) (p : Fin 16) (d : ℕ) : SP F :=
  iprop(Transfers.Batch (EC F) (c : Thread nD τ) (.dma (lcell p)) () lN (fun z : Fin 28 => lD (F := F) c g h p z) d 0
    ∗ ((c : Thread nD τ).loc cc0_scratch0 ↦[pieceS p d]{fullShare} f) ∗ ((c : Thread nD τ).loc main_arg4 ↦[srcS h p d]{fullShare} g))

/-- Starting the next copy of a piece. -/
theorem lstart (g : WordBuf) (f : CodeBuf) (h : ℕ) (hh : h < 2) (p : Fin 16) (d : ℕ) (hd : d < 28) {off1 : Fin 1 → ℕ} {inb1} {off2 : Fin 4 → ℕ} {inb2} {off3 : Fin 3 → ℕ} {inb3}
    (hoff1 : off1 = ![(p : ℕ)]) (hoff2 : off2 = ![32 * (p : ℕ), d, 0, 0]) (hoff3 : off3 = ![32 * (p : ℕ), 0, (28 * h + d) * 128]) {h1 h2 h3} {k : PUnit → PG F α} :
    LS c g f h p d ⊢ iprop((LS c g f h p (d + 1) -∗ WP c (k ⟨⟩) Q)
      -∗ WP c (.op (.enqueueDma (srcWin off3 inb3) (.here (codeWin off2 inb2)) (.dma (lsem off1 inb1)) h1 h2 h3) k) Q) := by
  have hp := p.isLt
  subst hoff1
  have s2 := codeWin_set (inb := inb2) p d hoff2 (by omega) hd
  have s3 := srcWin_set (inb := inb3) h p d hoff3 hp (by omega)
  have aux : ∀ S : Finset S4096x7168.Idx, S = srcC h p d → ((((c : Thread nD τ).loc main_arg4 ↦[S]{fullShare} g) : SP F) ⊢ ((c : Thread nD τ).loc main_arg4 ↦[srcC h p d]{fullShare} g)) := by
    rintro _ rfl
    exact Entails.of_eq rfl
  have aux2 : ∀ S : Finset S4096x7168.Idx, S = srcC h p d → ((((c : Thread nD τ).loc main_arg4 ↦[srcC h p d]{fullShare} g) : SP F) ⊢ ((c : Thread nD τ).loc main_arg4 ↦[S]{fullShare} g)) := by
    rintro _ rfl
    exact Entails.of_eq rfl
  have hsub2 : pieceC p d ⊆ pieceS p d := by
    intro i hi
    rw [mem_pieceC] at hi
    rw [mem_pieceS]
    omega
  have hrest2 : pieceS p d \ pieceC p d = pieceS p (d + 1) := by
    ext i
    rw [Finset.mem_sdiff, mem_pieceC, mem_pieceS, mem_pieceS]
    omega
  have hsub3 : srcC h p d ⊆ srcS h p d := by
    intro i hi
    rw [mem_srcC] at hi
    rw [mem_srcS]
    omega
  have hrest3 : srcS h p d \ srcC h p d = srcS h p (d + 1) := by
    ext i
    rw [Finset.mem_sdiff, mem_srcC, mem_srcS, mem_srcS]
    omega
  unfold LS
  iintro ⟨HB, Hc, Ha⟩ Hk
  ihave Hc' := (pointsTo_split_subset hsub2).1 $$ Hc
  icases Hc' with ⟨Hcw, Hcr⟩
  rw [hrest2]
  ihave Ha' := (pointsTo_split_subset hsub3).1 $$ Ha
  icases Ha' with ⟨Haw, Har⟩
  rw [hrest3]
  have key := Transfers.wp_dmaBatch (EC F) (defs := defs₀ (F := F)) Variants.none (c : Thread nD τ) none (src := srcWin off3 inb3) (dst := codeWin off2 inb2) (via := .same) (sm := .dma (lcell p)) (hsrc := h1) (hdst := h2) (hsem := h3) (k := k) (Q := Q)
    (fs := g) (fd := f) (q := fullShare) (Sd := pieceC p d) (D := fun z : Fin 28 => lD (F := F) c g h p z) (u := 0) () lN rfl (le_of_eq s2) hd (Nat.zero_le _) (by
      unfold lD
      refine BI.Laws.sep_mono ?_ ?_
      · refine le_of_eq (pointsTo_congr fun i hi => ?_)
        have hi' : i ∈ (codeWin off2 inb2).view.set := by rw [s2]; exact hi
        obtain ⟨x, -, rfl⟩ := Finset.mem_map.mp hi'
        refine (View.write_emb_of_mem _ _ (Finset.mem_univ x)).trans ?_
        have ex := codeWin_emb (inb := inb2) p d hoff2 x (by omega) hd
        have es := srcWin_emb (inb := inb3) h p d hoff3 x hp (by omega)
        refine (congrArg g es).trans ?_
        refine Eq.trans ?_ (congrArg (loadBuf g h) ex).symm
        exact (loadBuf_at g h p d x hp hd hh).symm
      · exact aux _ s3)
  ihave Haw := (aux2 _ s3) $$ Haw
  iapply key $$ [HB Hcw Haw]
  · isplitl [Haw]; · iexact Haw
    isplitl [Hcw]; · iexact Hcw
    iexact HB
  iintro HB
  iapply Hk
  isplitl [HB]; · iexact HB
  isplitl [Hcr]; · iexact Hcr
  iexact Har

/-- A piece in flight. -/
def LB (g : WordBuf) (h : ℕ) (p : Fin 16) : SP F :=
  Transfers.Batch (EC F) (c : Thread nD τ) (.dma (lcell p)) () lN (fun z : Fin 28 => lD (F := F) c g h p z) 28 0

theorem linit (g : WordBuf) (f : CodeBuf) (h : ℕ) (p : Fin 16) :
    iprop(semVal ((c : Thread nD τ), SemLoc.dma (lcell p)) 0 ∗ ((c : Thread nD τ).loc cc0_scratch0 ↦[pieceS p 0]{fullShare} f) ∗ ((c : Thread nD τ).loc main_arg4 ↦[srcS h p 0]{fullShare} g))
      ⊢ (|={Set.univ}=> LS c g f h p 0 : SP F) := by
  iintro ⟨Hv, Hs, Ho⟩
  imod (Transfers.batch_alloc' (EC F) (c := (c : Thread nD τ)) (sm := .dma (lcell p)) () lN (fun z : Fin 28 => lD (F := F) c g h p z)) $$ Hv with HB
  imodintro
  unfold LS
  isplitl [HB]; · iexact HB
  isplitl [Hs]; · iexact Hs
  iexact Ho

/-- What a landed piece leaves. -/
theorem lcollect (g : WordBuf) (h : ℕ) (hh : h < 2) (p : Fin 16) :
    bigSep Finset.univ (fun z : Fin 28 => lD (F := F) c g h p z)
      ⊢ iprop(((c : Thread nD τ).loc cc0_scratch0 ↦[pieceS p 0]{fullShare} loadBuf g h) ∗ ((c : Thread nD τ).loc main_arg4 ↦[srcS h p 0]{fullShare} g)) := by
  unfold lD
  rw [bigSep_sep']
  have e1 := pointsTo_biUnion (Ix := Unit) (Val := Elt F) (Name := ℕ) (U := Pipeline.UD sig nD τ) (Lvl := ℕ) (ℓ := (c : Thread nD τ).loc cc0_scratch0) (q := fullShare) (f := (loadBuf g h))
      (Finset.univ : Finset (Fin 28)) (fun z => pieceC p z) (by
        intro z _ z' _ hne
        refine Finset.disjoint_left.mpr fun i h1 h2 => hne (Fin.ext ?_)
        rw [mem_pieceC] at h1 h2
        omega)
  have e2 := pointsTo_biUnion (Ix := Unit) (Val := Elt F) (Name := ℕ) (U := Pipeline.UD sig nD τ) (Lvl := ℕ) (ℓ := (c : Thread nD τ).loc main_arg4) (q := fullShare) (f := g)
      (Finset.univ : Finset (Fin 28)) (fun z => srcC h p z) (by
        intro z _ z' _ hne
        refine Finset.disjoint_left.mpr fun i h1 h2 => hne (Fin.ext ?_)
        rw [mem_srcC] at h1 h2
        omega)
  have u1 : (Finset.univ : Finset (Fin 28)).biUnion (fun z => pieceC p z) = pieceS p 0 := by
    ext i
    simp only [Finset.mem_biUnion, Finset.mem_univ, true_and, mem_pieceC, mem_pieceS]
    exact ⟨fun ⟨z, h0, _⟩ => ⟨h0, Nat.zero_le _⟩, fun ⟨h0, _⟩ => ⟨(i 1 : Fin 28), h0, rfl⟩⟩
  have u2 : (Finset.univ : Finset (Fin 28)).biUnion (fun z => srcC h p z) = srcS h p 0 := by
    ext i
    simp only [Finset.mem_biUnion, Finset.mem_univ, true_and, mem_srcC, mem_srcS]
    constructor
    · rintro ⟨z, h0, h1⟩
      have := z.isLt
      omega
    · rintro ⟨h0, h1, h2⟩
      exact ⟨⟨((i 1 : Fin 7168) : ℕ) / 128 - 28 * h, by omega⟩, h0, by dsimp only; omega⟩
  rw [u1] at e1
  rw [u2] at e2
  rw [e1, e2]

theorem credit28 : RefSig.tileCredit S32x28x8x128 .i32 = lN * 28 :=
  (show RefSig.tileCredit S32x28x8x128 .i32 = RefSig.tileCredit S32x8x128 .i32 * 28 by decide)

/-- Waiting for a whole piece. -/
theorem lwait (g : WordBuf) (h : ℕ) (hh : h < 2) (p : Fin 16) {off1 : Fin 1 → ℕ} {inb1} (hoff1 : off1 = ![(p : ℕ)]) {off : Fin 4 → ℕ} {inb inb' : ∀ a, off a + S32x28x8x128.size a ≤ S513x28x8x128.size a} {h1 h2} {k : PUnit → PG F α} :
    iprop(LB c g h p ∗ ∃ W, owes (c : Thread nD τ) 0 W)
      ⊢ iprop((iprop(semVal ((c : Thread nD τ), SemLoc.dma (lcell p)) 0 ∗ ((c : Thread nD τ).loc cc0_scratch0 ↦[pieceS p 0]{fullShare} loadBuf g h) ∗ ((c : Thread nD τ).loc main_arg4 ↦[srcS h p 0]{fullShare} g)
          ∗ ∃ W, owes (c : Thread nD τ) 0 W) -∗ WP c (k ⟨⟩) Q)
        -∗ WP c (.op (.waitDma2 (lsem off1 inb1) ((Memref.whole cc0_scratch0).slice (Rect.unit (s := S513x28x8x128) off S32x28x8x128.size inb) (fun _ => rfl))
            ((Memref.whole cc0_scratch0).slice (Rect.unit (s := S513x28x8x128) off S32x28x8x128.size inb') (fun _ => rfl)) h1 h2) k) Q) := by
  subst hoff1
  unfold LB
  iintro ⟨HB, ⟨%W, HO⟩⟩ Hk
  have key := Transfers.wp_waitBatchAll (EC F) (defs := defs₀ (F := F)) Variants.none (c : Thread nD τ) none (srcw := (Memref.whole cc0_scratch0).slice (Rect.unit (s := S513x28x8x128) off S32x28x8x128.size inb) (fun _ => rfl))
    (dstw := (Memref.whole cc0_scratch0).slice (Rect.unit (s := S513x28x8x128) off S32x28x8x128.size inb') (fun _ => rfl)) (sem := lcell p) (hsrc := h1) (hdst := h2)
    (Q := Q) (k := k) (D := fun z : Fin 28 => lD (F := F) c g h p z) (N := lN) (J := lN * 28) (u := 0) (W := W) () credit28 (by decide) (Nat.zero_add _)
  iapply key $$ [HB HO]
  · isplitl [HB]; · iexact HB
    iexact HO
  iintro ⟨HD, Hv, HO⟩
  iapply Hk
  ihave H := (lcollect c g h hh p) $$ HD
  icases H with ⟨H1, H2⟩
  isplitl [Hv]; · iexact Hv
  isplitl [H1]; · iexact H1
  isplitl [H2]; · iexact H2
  iexists _
  iexact HO

end Cert.Proof.Kernel

end
-- ==== Proof.Main.Pieces.lean ====
module

public import Idealize.ShloMosaic.Lib.Batch
public import proofs.«01_k».proof.Proof.Main.Loads
public import proofs.«01_k».proof.Proof.Main.Arith

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One half of the columns: starting the loads, then, piece by piece, waiting and turning the tiles. -/

theorem t1_lt (k : Fin k0_t1_loop.trips) : (k : ℕ) < 2 := lt_of_lt_of_eq k.isLt (by decide)
theorem t2_trips : k0_t2_loop.trips = 16 := by decide
theorem t2_lt (k : Fin k0_t2_loop.trips) : (k : ℕ) < 16 := lt_of_lt_of_eq k.isLt t2_trips

theorem iv_nat (k : ℕ) (hk : k < 100) : (Scf.iv 0#32 1#32 k).toNat = k := by
  simp only [Scf.iv, BitVec.toNat_add, BitVec.toNat_mul, BitVec.toNat_ofNat]; omega
theorem iv_mul (k m : ℕ) (hk : k < 100) (hm : m < 1000) : (Scalar.muli (Scf.iv 0#32 1#32 k) (BitVec.ofNat 32 m)).toNat = m * k := by
  have h := iv_nat k hk
  simp only [Scalar.muli, IntOp.muli, BitVec.toNat_mul, h, BitVec.toNat_ofNat]
  have : k * m < 100 * 1000 := Nat.mul_lt_mul'' hk hm
  rw [Nat.mod_eq_of_lt (show m < 2 ^ 32 by omega), Nat.mod_eq_of_lt (by omega), Nat.mul_comm]
theorem o1 (k : Fin k0_t2_loop.trips) {off : Fin 1 → ℕ} (h : off = ![(Scf.iv 0#32 1#32 (k : ℕ)).toNat]) : off = ![(k : ℕ)] := by
  rw [h, iv_nat _ (by have := t2_lt k; omega)]
theorem o2 (k : Fin k0_t2_loop.trips) {off : Fin 4 → ℕ} (n : ℕ) (h : off = ![(Scalar.muli (Scf.iv 0#32 1#32 (k : ℕ)) 32#32).toNat, n, 0, 0]) : off = ![32 * (k : ℕ), n, 0, 0] := by
  rw [h, iv_mul _ 32 (by have := t2_lt k; omega) (by decide)]
theorem o3 (t : Fin k0_t1_loop.trips) (k : Fin k0_t2_loop.trips) {off : Fin 3 → ℕ} (w : BitVec 32) (n : ℕ) (hn : n < 28) (hw : w.toNat = n)
    (h : off = ![(Scalar.muli (Scf.iv 0#32 1#32 (k : ℕ)) 32#32).toNat, 0, (Scalar.muli (Scalar.addi (Scalar.muli (Scf.iv 0#32 1#32 (t : ℕ)) 28#32) w) 128#32).toNat]) :
    off = ![32 * (k : ℕ), 0, (28 * (t : ℕ) + n) * 128] := by
  have ht := t1_lt t
  have e : (Scalar.muli (Scalar.addi (Scalar.muli (Scf.iv 0#32 1#32 (t : ℕ)) 28#32) w) 128#32).toNat = (28 * (t : ℕ) + n) * 128 := by
    have h1 := iv_mul (t : ℕ) 28 (by omega) (by decide)
    generalize Scalar.muli (Scf.iv 0#32 1#32 (t : ℕ)) (BitVec.ofNat 32 28) = z at h1
    simp only [Scalar.muli, IntOp.muli, Scalar.addi, IntOp.addi, BitVec.toNat_mul, BitVec.toNat_add, h1, hw, BitVec.toNat_ofNat]
    omega
  rw [h, iv_mul _ 32 (by have := t2_lt k; omega) (by decide), e]
theorem o33 (k : Fin k0_t3_loop.trips) : k0_off33 k = ![(k : ℕ)] := by
  show ![(Scf.iv 0#32 1#32 (k : ℕ)).toNat] = _
  rw [iv_nat _ (by have := t3_lt k; omega)]

/-- Tiles `a ≤ t < b` of the code scratch. -/
def codeR (a b : ℕ) : Finset S513x28x8x128.Idx := Finset.univ.filter fun i => a ≤ ((i 0 : Fin 513) : ℕ) ∧ ((i 0 : Fin 513) : ℕ) < b
theorem mem_codeR {a b : ℕ} {i : S513x28x8x128.Idx} : i ∈ codeR a b ↔ a ≤ ((i 0 : Fin 513) : ℕ) ∧ ((i 0 : Fin 513) : ℕ) < b := by simp [codeR]
theorem codeR_piece (p : ℕ) : pieceS p 0 = codeR (32 * p) (32 * (p + 1)) := by
  ext i; rw [mem_pieceS, mem_codeR]; omega
theorem codeR_tile (t : ℕ) : tileSet t = codeR t (t + 1) := by
  ext i; rw [mem_tileSet, mem_codeR]; omega
/-- Half `h` of the word rows of pieces `a ≤ p < b`. -/
def srcR (h a b : ℕ) : Finset S4096x7168.Idx := Finset.univ.filter fun i => (256 * a ≤ ((i 0 : Fin 4096) : ℕ) ∧ ((i 0 : Fin 4096) : ℕ) < 256 * b) ∧ ((i 1 : Fin 7168) : ℕ) / 128 / 28 = h
theorem mem_srcR {h a b : ℕ} {i : S4096x7168.Idx} : i ∈ srcR h a b ↔ (256 * a ≤ ((i 0 : Fin 4096) : ℕ) ∧ ((i 0 : Fin 4096) : ℕ) < 256 * b) ∧ ((i 1 : Fin 7168) : ℕ) / 128 / 28 = h := by simp [srcR]
theorem srcR_piece (h p : ℕ) : srcS h p 0 = srcR h p (p + 1) := by
  ext i; rw [mem_srcS, mem_srcR]; omega

variable (c : Dev nD) {α : Type} {Q : α → SP F}

theorem codeR_split (a m b : ℕ) (h1 : a ≤ m) (h2 : m ≤ b) (f : CodeBuf) :
    (((c : Thread nD τ).loc cc0_scratch0 ↦[codeR a b]{fullShare} f) : SP F) ⊣⊢ iprop(((c : Thread nD τ).loc cc0_scratch0 ↦[codeR a m]{fullShare} f) ∗ ((c : Thread nD τ).loc cc0_scratch0 ↦[codeR m b]{fullShare} f)) := by
  have hs : codeR a m ⊆ codeR a b := by intro i hi; rw [mem_codeR] at hi ⊢; omega
  have hd : codeR a b \ codeR a m = codeR m b := by ext i; rw [Finset.mem_sdiff, mem_codeR, mem_codeR, mem_codeR]; omega
  rw [← hd]
  exact pointsTo_split_subset hs
theorem srcR_split (h a m b : ℕ) (h1 : a ≤ m) (h2 : m ≤ b) (f : WordBuf) :
    (((c : Thread nD τ).loc main_arg4 ↦[srcR h a b]{fullShare} f) : SP F) ⊣⊢ iprop(((c : Thread nD τ).loc main_arg4 ↦[srcR h a m]{fullShare} f) ∗ ((c : Thread nD τ).loc main_arg4 ↦[srcR h m b]{fullShare} f)) := by
  have hs : srcR h a m ⊆ srcR h a b := by intro i hi; rw [mem_srcR] at hi ⊢; omega
  have hd : srcR h a b \ srcR h a m = srcR h m b := by ext i; rw [Finset.mem_sdiff, mem_srcR, mem_srcR, mem_srcR]; omega
  rw [← hd]
  exact pointsTo_split_subset hs

set_option maxHeartbeats 4000000 in
/-- A trip of the loop that starts the loads. -/
theorem t2_step (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg12 : BitVec 32) (g : WordBuf) (f : CodeBuf) (k : Fin k0_t2_loop.trips) :
    LS c g f (k0_t1 : ℕ) ⟨(k : ℕ), t2_lt k⟩ 0 ⊢ WP c (k0_t2_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12 k ⟨⟩) (fun _ => LB c g (k0_t1 : ℕ) ⟨(k : ℕ), t2_lt k⟩) := by
  iintro H
  simp only [k0_t2_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, Prog.bind_assoc]
  iapply (lstart c g f (k0_t1 : ℕ) (t1_lt k0_t1) ⟨(k : ℕ), t2_lt k⟩ 0 (by decide) (o1 k rfl) (o2 k 0 rfl) (o3 k0_t1 k _ 0 (by decide) (by decide) rfl)) $$ H
  iintro H
  iapply (lstart c g f (k0_t1 : ℕ) (t1_lt k0_t1) ⟨(k : ℕ), t2_lt k⟩ 1 (by decide) (o1 k rfl) (o2 k 1 rfl) (o3 k0_t1 k _ 1 (by decide) (by decide) rfl)) $$ H
  iintro H
  iapply (lstart c g f (k0_t1 : ℕ) (t1_lt k0_t1) ⟨(k : ℕ), t2_lt k⟩ 2 (by decide) (o1 k rfl) (o2 k 2 rfl) (o3 k0_t1 k _ 2 (by decide) (by decide) rfl)) $$ H
  iintro H
  iapply (lstart c g f (k0_t1 : ℕ) (t1_lt k0_t1) ⟨(k : ℕ), t2_lt k⟩ 3 (by decide) (o1 k rfl) (o2 k 3 rfl) (o3 k0_t1 k _ 3 (by decide) (by decide) rfl)) $$ H
  iintro H
  iapply (lstart c g f (k0_t1 : ℕ) (t1_lt k0_t1) ⟨(k : ℕ), t2_lt k⟩ 4 (by decide) (o1 k rfl) (o2 k 4 rfl) (o3 k0_t1 k _ 4 (by decide) (by decide) rfl)) $$ H
  iintro H
  iapply (lstart c g f (k0_t1 : ℕ) (t1_lt k0_t1) ⟨(k : ℕ), t2_lt k⟩ 5 (by decide) (o1 k rfl) (o2 k 5 rfl) (o3 k0_t1 k _ 5 (by decide) (by decide) rfl)) $$ H
  iintro H
  iapply (lstart c g f (k0_t1 : ℕ) (t1_lt k0_t1) ⟨(k : ℕ), t2_lt k⟩ 6 (by decide) (o1 k rfl) (o2 k 6 rfl) (o3 k0_t1 k _ 6 (by decide) (by decide) rfl)) $$ H
  iintro H
  iapply (lstart c g f (k0_t1 : ℕ) (t1_lt k0_t1) ⟨(k : ℕ), t2_lt k⟩ 7 (by decide) (o1 k rfl) (o2 k 7 rfl) (o3 k0_t1 k _ 7 (by decide) (by decide) rfl)) $$ H
  iintro H
  iapply (lstart c g f (k0_t1 : ℕ) (t1_lt k0_t1) ⟨(k : ℕ), t2_lt k⟩ 8 (by decide) (o1 k rfl) (o2 k 8 rfl) (o3 k0_t1 k _ 8 (by decide) (by decide) rfl)) $$ H
  iintro H
  iapply (lstart c g f (k0_t1 : ℕ) (t1_lt k0_t1) ⟨(k : ℕ), t2_lt k⟩ 9 (by decide) (o1 k rfl) (o2 k 9 rfl) (o3 k0_t1 k _ 9 (by decide) (by decide) rfl)) $$ H
  iintro H
  iapply (lstart c g f (k0_t1 : ℕ) (t1_lt k0_t1) ⟨(k : ℕ), t2_lt k⟩ 10 (by decide) (o1 k rfl) (o2 k 10 rfl) (o3 k0_t1 k _ 10 (by decide) (by decide) rfl)) $$ H
  iintro H
  iapply (lstart c g f (k0_t1 : ℕ) (t1_lt k0_t1) ⟨(k : ℕ), t2_lt k⟩ 11 (by decide) (o1 k rfl) (o2 k 11 rfl) (o3 k0_t1 k _ 11 (by decide) (by decide) rfl)) $$ H
  iintro H
  iapply (lstart c g f (k0_t1 : ℕ) (t1_lt k0_t1) ⟨(k : ℕ), t2_lt k⟩ 12 (by decide) (o1 k rfl) (o2 k 12 rfl) (o3 k0_t1 k _ 12 (by decide) (by decide) rfl)) $$ H
  iintro H
  iapply (lstart c g f (k0_t1 : ℕ) (t1_lt k0_t1) ⟨(k : ℕ), t2_lt k⟩ 13 (by decide) (o1 k rfl) (o2 k 13 rfl) (o3 k0_t1 k _ 13 (by decide) (by decide) rfl)) $$ H
  iintro H
  iapply (lstart c g f (k0_t1 : ℕ) (t1_lt k0_t1) ⟨(k : ℕ), t2_lt k⟩ 14 (by decide) (o1 k rfl) (o2 k 14 rfl) (o3 k0_t1 k _ 14 (by decide) (by decide) rfl)) $$ H
  iintro H
  iapply (lstart c g f (k0_t1 : ℕ) (t1_lt k0_t1) ⟨(k : ℕ), t2_lt k⟩ 15 (by decide) (o1 k rfl) (o2 k 15 rfl) (o3 k0_t1 k _ 15 (by decide) (by decide) rfl)) $$ H
  iintro H
  iapply (lstart c g f (k0_t1 : ℕ) (t1_lt k0_t1) ⟨(k : ℕ), t2_lt k⟩ 16 (by decide) (o1 k rfl) (o2 k 16 rfl) (o3 k0_t1 k _ 16 (by decide) (by decide) rfl)) $$ H
  iintro H
  iapply (lstart c g f (k0_t1 : ℕ) (t1_lt k0_t1) ⟨(k : ℕ), t2_lt k⟩ 17 (by decide) (o1 k rfl) (o2 k 17 rfl) (o3 k0_t1 k _ 17 (by decide) (by decide) rfl)) $$ H
  iintro H
  iapply (lstart c g f (k0_t1 : ℕ) (t1_lt k0_t1) ⟨(k : ℕ), t2_lt k⟩ 18 (by decide) (o1 k rfl) (o2 k 18 rfl) (o3 k0_t1 k _ 18 (by decide) (by decide) rfl)) $$ H
  iintro H
  iapply (lstart c g f (k0_t1 : ℕ) (t1_lt k0_t1) ⟨(k : ℕ), t2_lt k⟩ 19 (by decide) (o1 k rfl) (o2 k 19 rfl) (o3 k0_t1 k _ 19 (by decide) (by decide) rfl)) $$ H
  iintro H
  iapply (lstart c g f (k0_t1 : ℕ) (t1_lt k0_t1) ⟨(k : ℕ), t2_lt k⟩ 20 (by decide) (o1 k rfl) (o2 k 20 rfl) (o3 k0_t1 k _ 20 (by decide) (by decide) rfl)) $$ H
  iintro H
  iapply (lstart c g f (k0_t1 : ℕ) (t1_lt k0_t1) ⟨(k : ℕ), t2_lt k⟩ 21 (by decide) (o1 k rfl) (o2 k 21 rfl) (o3 k0_t1 k _ 21 (by decide) (by decide) rfl)) $$ H
  iintro H
  iapply (lstart c g f (k0_t1 : ℕ) (t1_lt k0_t1) ⟨(k : ℕ), t2_lt k⟩ 22 (by decide) (o1 k rfl) (o2 k 22 rfl) (o3 k0_t1 k _ 22 (by decide) (by decide) rfl)) $$ H
  iintro H
  iapply (lstart c g f (k0_t1 : ℕ) (t1_lt k0_t1) ⟨(k : ℕ), t2_lt k⟩ 23 (by decide) (o1 k rfl) (o2 k 23 rfl) (o3 k0_t1 k _ 23 (by decide) (by decide) rfl)) $$ H
  iintro H
  iapply (lstart c g f (k0_t1 : ℕ) (t1_lt k0_t1) ⟨(k : ℕ), t2_lt k⟩ 24 (by decide) (o1 k rfl) (o2 k 24 rfl) (o3 k0_t1 k _ 24 (by decide) (by decide) rfl)) $$ H
  iintro H
  iapply (lstart c g f (k0_t1 : ℕ) (t1_lt k0_t1) ⟨(k : ℕ), t2_lt k⟩ 25 (by decide) (o1 k rfl) (o2 k 25 rfl) (o3 k0_t1 k _ 25 (by decide) (by decide) rfl)) $$ H
  iintro H
  iapply (lstart c g f (k0_t1 : ℕ) (t1_lt k0_t1) ⟨(k : ℕ), t2_lt k⟩ 26 (by decide) (o1 k rfl) (o2 k 26 rfl) (o3 k0_t1 k _ 26 (by decide) (by decide) rfl)) $$ H
  iintro H
  iapply (lstart c g f (k0_t1 : ℕ) (t1_lt k0_t1) ⟨(k : ℕ), t2_lt k⟩ 27 (by decide) (o1 k rfl) (o2 k 27 rfl) (o3 k0_t1 k _ 27 (by decide) (by decide) rfl)) $$ H
  iintro H
  iapply (Idealize.SL.Sem.le_wp_ret _ _)
  unfold LS LB
  icases H with ⟨H, -, -⟩
  iexact H

theorem t7_trips (k : Fin k0_t3_loop.trips) : (k0_t7_loop k).trips = 0 := by revert k; decide

theorem WP_wand {p : PG F α} {Q' : α → SP F} : WP c p Q ⊢ iprop((∀ a, Q a -∗ Q' a) -∗ WP c p Q') :=
  wp_wand frame (wpE (defs₀ (F := F)) Variants.none (c : Thread nD τ) none) Set.univ

theorem codeR_empty (a : ℕ) (f f' : CodeBuf) :
    (((c : Thread nD τ).loc cc0_scratch0 ↦[codeR a a]{fullShare} f) : SP F) ⊢ ((c : Thread nD τ).loc cc0_scratch0 ↦[codeR a (a + 0)]{fullShare} f') :=
  Entails.of_eq (pointsTo_congr fun i hi => absurd (mem_codeR.1 hi) (by omega))

theorem linit' (g : WordBuf) (f : CodeBuf) (h : ℕ) (p : Fin 16) :
    iprop(semVal ((c : Thread nD τ), SemLoc.dma (lcell p)) 0 ∗ ((c : Thread nD τ).loc cc0_scratch0 ↦[codeR (32 * (p : ℕ)) (32 * ((p : ℕ) + 1))]{fullShare} f)
      ∗ ((c : Thread nD τ).loc main_arg4 ↦[srcR h (p : ℕ) ((p : ℕ) + 1)]{fullShare} g)) ⊢ iprop(|={Set.univ}=> LS (F := F) c g f h p 0) := by
  rw [← codeR_piece, ← srcR_piece]
  exact linit c g f h p

theorem repackR (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (k0_t3 : Fin k0_t3_loop.trips) (v113 : BitVec 32) (t : Fin (k0_t6_loop k0_t3).trips) (acc : BitVec 32) (f0 : CodeBuf) :
    (((c : Thread nD τ).loc cc0_scratch0 ↦[codeR (32 * (k0_t3 : ℕ) + (t : ℕ)) (32 * (k0_t3 : ℕ) + (t : ℕ) + 1)]{fullShare} f0) : SP F)
      ⊢ WP c (k0_t6_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 v113 t acc)
          (fun _ => ((c : Thread nD τ).loc cc0_scratch0 ↦[codeR (32 * (k0_t3 : ℕ) + (t : ℕ)) (32 * (k0_t3 : ℕ) + (t : ℕ) + 1)]{fullShare} packBuf f0)) := by
  rw [← codeR_tile]
  exact repack c arg0 harg0 arg1 harg1 arg2 harg2 arg3 harg3 (Memref.whole main_arg4) (Memref.isWhole_whole _) (Memref.whole main_v0) (Memref.isWhole_whole _) (Memref.whole cc0_scratch1) (Memref.isWhole_whole _) (Memref.whole cc0_scratch2) (Memref.isWhole_whole _) cc0_scratch3 cc0_scratch4 cc0_scratch5
    v0 k0_hw2 v1 v20 v21 v22 v43 v44 c0_i32_24 c1_i32_26 k0_t1 arg13 k0_t3 v113 t acc f0

theorem issued_step {k : ℕ} (hk : k < 16) (φ : Fin 16 → SP F) :
    iprop(φ ⟨k, hk⟩ ∗ bigSep (Transfers.issued (m := 16) k) φ) ⊢ bigSep (Transfers.issued (m := 16) (k + 1)) φ := by
  rw [Transfers.issued_succ hk, bigSep_insert (Transfers.not_mem_issued hk)]
  exact .rfl

/-- The loads after `k` trips. -/
def L2 (g : WordBuf) (f : CodeBuf) (h k : ℕ) : SP F :=
  iprop(bigSep (Transfers.issued (m := 16) k) (fun p => LB c g h p) ∗ bigSep (Transfers.pending (n := 16) k) (fun p => semVal ((c : Thread nD τ), SemLoc.dma (lcell p)) 0)
    ∗ ((c : Thread nD τ).loc cc0_scratch0 ↦[codeR (32 * k) 512]{fullShare} f) ∗ ((c : Thread nD τ).loc main_arg4 ↦[srcR h k 16]{fullShare} g))

/-- The loop that starts the loads. -/
theorem t2_loop (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg12 : BitVec 32) (g : WordBuf) (f : CodeBuf) (hok : k0_t2_loop.OK) {kk : Unit → PG F α} :
    L2 c g f (k0_t1 : ℕ) 0 ⊢ iprop((L2 c g f (k0_t1 : ℕ) 16 -∗ WP c (kk ⟨⟩) Q)
      -∗ WP c (Scf.Loop.for k0_t2_loop hok ⟨⟩ (k0_t2_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12) >>= kk) Q) := by
  iintro H Hk
  iapply (Scf.wp_for_bind frame (wpE (defs₀ (F := F)) Variants.none (c : Thread nD τ) none) Set.univ k0_t2_loop.lb k0_t2_loop.ub k0_t2_loop.st hok ⟨⟩ (k0_t2_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12)
    (fun k _ => L2 c g f (k0_t1 : ℕ) k) (fun k acc => by
      have hk : (k : ℕ) < 16 := t2_lt k
      unfold L2
      rw [Transfers.bigSep_pending_step _ _ hk]
      iintro ⟨HL, ⟨Hv, HS⟩, Hc, Ha⟩
      ihave Hc' := (codeR_split c (32 * (k : ℕ)) (32 * ((k : ℕ) + 1)) 512 (by omega) (by omega) f).1 $$ Hc
      icases Hc' with ⟨Hc1, Hc⟩
      ihave Ha' := (srcR_split c (k0_t1 : ℕ) (k : ℕ) ((k : ℕ) + 1) 16 (by omega) (by omega) g).1 $$ Ha
      icases Ha' with ⟨Ha1, Ha⟩
      imod (linit' c g f (k0_t1 : ℕ) ⟨(k : ℕ), hk⟩) $$ [Hv Hc1 Ha1] with HL1
      · isplitl [Hv]; · iexact Hv
        isplitl [Hc1]; · iexact Hc1
        iexact Ha1
      ihave Hw := (t2_step c arg0 harg0 arg1 harg1 arg2 harg2 arg3 harg3 v0 k0_hw2 v1 v20 v21 v22 v43 v44 c0_i32_24 c1_i32_26 k0_t1 arg13 arg12 g f k) $$ HL1
      iapply (WP_wand c) $$ Hw
      iintro %a HL1
      isplitl [HL HL1]
      · iapply (issued_step hk (fun p => LB c g (k0_t1 : ℕ) p)) $$ [HL HL1]
        isplitl [HL1]; · iexact HL1
        iexact HL
      isplitl [HS]; · iexact HS
      isplitl [Hc]; · iexact Hc
      iexact Ha)) $$ [H]
  · iexact H
  iintro %acc H
  iapply Hk
  rw [show Scf.trips k0_t2_loop.lb k0_t2_loop.ub k0_t2_loop.st = 16 from t2_trips]
  iexact H

/-- The tiles of a piece, `t` of them turned. -/
def T6 (f : CodeBuf) (k t : ℕ) : SP F :=
  iprop(((c : Thread nD τ).loc cc0_scratch0 ↦[codeR (32 * k) (32 * k + t)]{fullShare} packBuf f) ∗ ((c : Thread nD τ).loc cc0_scratch0 ↦[codeR (32 * k + t) (32 * (k + 1))]{fullShare} f))

theorem t6_loop (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (f : CodeBuf) (k0_t3 : Fin k0_t3_loop.trips) (v113 : BitVec 32) (hok : (k0_t6_loop k0_t3).OK) (init : BitVec 32) {kk : BitVec 32 → PG F α} :
    (((c : Thread nD τ).loc cc0_scratch0 ↦[codeR (32 * (k0_t3 : ℕ)) (32 * ((k0_t3 : ℕ) + 1))]{fullShare} f) : SP F)
      ⊢ iprop((∀ a, ((c : Thread nD τ).loc cc0_scratch0 ↦[codeR (32 * (k0_t3 : ℕ)) (32 * ((k0_t3 : ℕ) + 1))]{fullShare} packBuf f) -∗ WP c (kk a) Q)
      -∗ WP c (Scf.Loop.for (k0_t6_loop k0_t3) hok init (k0_t6_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 v113) >>= kk) Q) := by
  iintro H Hk
  iapply (Scf.wp_for_bind frame (wpE (defs₀ (F := F)) Variants.none (c : Thread nD τ) none) Set.univ (k0_t6_loop k0_t3).lb (k0_t6_loop k0_t3).ub (k0_t6_loop k0_t3).st hok init (k0_t6_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 v113)
    (fun t _ => T6 c f (k0_t3 : ℕ) t) (fun t acc => by
      have ht : (t : ℕ) < 32 := t6_lt t
      unfold T6
      iintro ⟨H1, H2⟩
      ihave H2' := (codeR_split c (32 * (k0_t3 : ℕ) + (t : ℕ)) (32 * (k0_t3 : ℕ) + (t : ℕ) + 1) (32 * ((k0_t3 : ℕ) + 1)) (by omega) (by omega) f).1 $$ H2
      icases H2' with ⟨Ht, H2⟩
      ihave Hw := (repackR c arg0 harg0 arg1 harg1 arg2 harg2 arg3 harg3
        v0 k0_hw2 v1 v20 v21 v22 v43 v44 c0_i32_24 c1_i32_26 k0_t1 arg13 k0_t3 v113 t acc f) $$ Ht
      iapply (WP_wand c) $$ Hw
      iintro %a Ht
      isplitl [H1 Ht]
      · iapply (codeR_split c (32 * (k0_t3 : ℕ)) (32 * (k0_t3 : ℕ) + (t : ℕ)) (32 * (k0_t3 : ℕ) + ((t : ℕ) + 1)) (by omega) (by omega) (packBuf f)).2
        isplitl [H1]; · iexact H1
        iexact Ht
      iexact H2)) $$ [H]
  · unfold T6
    ihave H := (codeR_split c (32 * (k0_t3 : ℕ)) (32 * (k0_t3 : ℕ)) (32 * ((k0_t3 : ℕ) + 1)) (by omega) (by omega) f).1 $$ H
    icases H with ⟨H1, H2⟩
    isplitl [H1]
    · iapply (codeR_empty c (32 * (k0_t3 : ℕ)) f (packBuf f)) $$ H1
    iexact H2
  iintro %acc H
  iapply Hk
  unfold T6
  rw [show Scf.trips (k0_t6_loop k0_t3).lb (k0_t6_loop k0_t3).ub (k0_t6_loop k0_t3).st = 32 from t6_trips k0_t3]
  icases H with ⟨H, -⟩
  iexact H

theorem starts4 (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg15 : BitVec 32) (k0_hw1 : k0_chk1 v0 arg15) {nu d : ℕ} (h : W v0 nu) (hu : nu ≤ 16384) (ha : W arg15 d) (k : Fin (k0_t4_loop v0 arg15).trips) (hd : d + (k : ℕ) ≤ 512) (acc : BitVec 32) :
    StartsZero (F := F) nu d (k : ℕ) (k0_t4_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg15 k0_hw1 k acc) := by
  refine ⟨_, _, _, _, _, ?_, rfl⟩
  have e := zoff (k := (k : ℕ)) h hu ha hd
  exact congrArg (fun n : ℕ => (![n, 0, 0, 0] : Fin 4 → ℕ)) e

/-- A piece: zero copies are started, the piece's load is waited for, and its tiles are turned. -/
theorem t3_step (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (o0 : OutBuf F) (g : WordBuf) (k0_t3 : Fin k0_t3_loop.trips) (arg15 : BitVec 32) {nu d : ℕ} (h : W v0 nu) (hu : nu ≤ 16384) (h22 : v22 = nzW v0) (h43 : v43 = zpsW v0)
    (ha : W arg15 d) (hd : d ≤ 512 - 2 * nbl nu) (hh : (k0_t1 : ℕ) < 2) :
    iprop(ZS c o0 nu d ∗ LB c g (k0_t1 : ℕ) ⟨(k0_t3 : ℕ), t3_lt k0_t3⟩ ∗ ∃ W, owes (c : Thread nD τ) 0 W)
      ⊢ WP c (k0_t3_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 arg15) (fun a => iprop(⌜W a (zstep nu d)⌝ ∗ ZS c o0 nu (zstep nu d) ∗ semVal ((c : Thread nD τ), SemLoc.dma (lcell ⟨(k0_t3 : ℕ), t3_lt k0_t3⟩)) 0
        ∗ ((c : Thread nD τ).loc cc0_scratch0 ↦[codeR (32 * (k0_t3 : ℕ)) (32 * ((k0_t3 : ℕ) + 1))]{fullShare} packBuf (loadBuf g (k0_t1 : ℕ)))
        ∗ ((c : Thread nD τ).loc main_arg4 ↦[srcR (k0_t1 : ℕ) (k0_t3 : ℕ) ((k0_t3 : ℕ) + 1)]{fullShare} g) ∗ ∃ W, owes (c : Thread nD τ) 0 W)) := by
  have hs := h.zstop hu ha (by omega)
  have hb := zstep_bounds hd
  iintro ⟨HZ, HL, HO⟩
  simp only [k0_t3_body, Prog.bind_assoc]
  iapply (wp_assume Variants.none (c : Thread nD τ) none Set.univ (chkZ h hu ha hd))
  iapply (zloop c o0 hu ha hs hb.1 hb.2 _ _ _ (fun k acc => starts4 arg0 harg0 arg1 harg1 arg2 harg2 arg3 harg3 v0 k0_hw2 v1 v20 v21 v22 v43 v44 c0_i32_24 c1_i32_26 k0_t1 arg13 arg15 (chkZ h hu ha hd) h hu ha k
    (by have := lt_of_lt_of_eq k.isLt (uloop_trips ha hs hb.1); have := hb.1; have := hb.2; omega) acc)) $$ HZ
  iintro %a1 HZ
  iapply (skip c (k0_t5_loop v0 arg15) _ (rloop_trips ha hs hb.1)) $$ HZ
  iintro HZ
  iapply (lwait c g (k0_t1 : ℕ) hh ⟨(k0_t3 : ℕ), t3_lt k0_t3⟩ (o33 k0_t3)) $$ [HL HO]
  · isplitl [HL]; · iexact HL
    iexact HO
  iintro ⟨Hv, Hc, Ha, HO⟩
  rw [codeR_piece, srcR_piece]
  iapply (t6_loop c arg0 harg0 arg1 harg1 arg2 harg2 arg3 harg3 v0 k0_hw2 v1 v20 v21 v22 v43 v44 c0_i32_24 c1_i32_26 k0_t1 arg13 (loadBuf g (k0_t1 : ℕ)) k0_t3 _ _ _) $$ Hc
  iintro %a2 Hc
  iapply (skip c (k0_t7_loop k0_t3) _ (t7_trips k0_t3)) $$ Hc
  iintro Hc
  iapply (Idealize.SL.Sem.le_wp_ret _ _)
  isplitr
  · ipureintro; rw [h43, h22]; exact hs
  isplitl [HZ]; · iexact HZ
  isplitl [Hv]; · iexact Hv
  isplitl [Hc]; · iexact Hc
  isplitl [Ha]; · iexact Ha
  iexact HO

/-- The pieces, `k` of them turned. -/
def L3 (o0 : OutBuf F) (nu : ℕ) (g : WordBuf) (h k : ℕ) (a : BitVec 32) : SP F :=
  iprop((∃ d, ⌜W a d ∧ d ≤ 512 - 2 * nbl nu⌝ ∗ ZS c o0 nu d) ∗ bigSep (Transfers.pending (n := 16) k) (fun p => LB c g h p)
    ∗ bigSep (Transfers.issued (m := 16) k) (fun p => semVal ((c : Thread nD τ), SemLoc.dma (lcell p)) 0)
    ∗ ((c : Thread nD τ).loc cc0_scratch0 ↦[codeR 0 (32 * k)]{fullShare} packBuf (loadBuf g h)) ∗ ((c : Thread nD τ).loc main_arg4 ↦[srcR h 0 k]{fullShare} g) ∗ ∃ W, owes (c : Thread nD τ) 0 W)

/-- The loop over the pieces. -/
theorem t3_loop (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (o0 : OutBuf F) (g : WordBuf) {nu : ℕ} (h : W v0 nu) (hu : nu ≤ 16384) (h22 : v22 = nzW v0) (h43 : v43 = zpsW v0) (hh : (k0_t1 : ℕ) < 2)
    (hok : k0_t3_loop.OK) (init : BitVec 32) {kk : BitVec 32 → PG F α} :
    L3 c o0 nu g (k0_t1 : ℕ) 0 init ⊢ iprop((∀ a, L3 c o0 nu g (k0_t1 : ℕ) 16 a -∗ WP c (kk a) Q)
      -∗ WP c (Scf.Loop.for k0_t3_loop hok init (k0_t3_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13) >>= kk) Q) := by
  iintro H Hk
  iapply (Scf.wp_for_bind frame (wpE (defs₀ (F := F)) Variants.none (c : Thread nD τ) none) Set.univ k0_t3_loop.lb k0_t3_loop.ub k0_t3_loop.st hok init (k0_t3_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13)
    (fun k a => L3 c o0 nu g (k0_t1 : ℕ) k a) (fun k acc => by
      have hk : (k : ℕ) < 16 := t3_lt k
      unfold L3
      rw [Transfers.bigSep_pending_step _ _ hk]
      iintro ⟨⟨%d, %hd, HZ⟩, ⟨HL, HP⟩, HS, Hc, Ha, HO⟩
      ihave Hw := (t3_step c arg0 harg0 arg1 harg1 arg2 harg2 arg3 harg3 v0 k0_hw2 v1 v20 v21 v22 v43 v44 c0_i32_24 c1_i32_26 k0_t1 arg13 o0 g k acc h hu h22 h43 hd.1 hd.2 hh) $$ [HZ HL HO]
      · isplitl [HZ]; · iexact HZ
        isplitl [HL]; · iexact HL
        iexact HO
      iapply (WP_wand c) $$ Hw
      iintro %a ⟨%hW, HZ, Hv, Hc1, Ha1, HO⟩
      isplitl [HZ]
      · iexists (zstep nu d)
        isplitr
        · ipureintro; exact ⟨hW, (zstep_bounds hd.2).2⟩
        iexact HZ
      isplitl [HP]; · iexact HP
      isplitl [HS Hv]
      · iapply (issued_step hk (fun p => semVal ((c : Thread nD τ), SemLoc.dma (lcell p)) 0)) $$ [HS Hv]
        isplitl [Hv]; · iexact Hv
        iexact HS
      isplitl [Hc Hc1]
      · iapply (codeR_split c 0 (32 * (k : ℕ)) (32 * ((k : ℕ) + 1)) (by omega) (by omega) (packBuf (loadBuf g (k0_t1 : ℕ)))).2
        isplitl [Hc]; · iexact Hc
        iexact Hc1
      isplitl [Ha Ha1]
      · iapply (srcR_split c (k0_t1 : ℕ) 0 (k : ℕ) ((k : ℕ) + 1) (by omega) (by omega) g).2
        isplitl [Ha]; · iexact Ha
        iexact Ha1
      iexact HO)) $$ [H]
  · iexact H
  iintro %acc H
  iapply Hk
  rw [show Scf.trips k0_t3_loop.lb k0_t3_loop.ub k0_t3_loop.st = 16 from t3_trips]
  iexact H

end Cert.Proof.Kernel

end
-- ==== Proof.Main.Block.lean ====
module

public import Idealize.ShloMosaic.Lib.Batch
public import proofs.«01_k».proof.Proof.Main.Ring
public import proofs.«01_k».proof.Proof.Main.Pieces
public import proofs.«01_k».proof.Proof.Main.BArith

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! A block of 64 output rows: its tokens, its zero rows, and the copy of it to the output. -/

/-- The elements of the ring a block's tokens write. -/
def ringB (b : ℕ) : Finset S33x28x8x128.Idx := Finset.univ.filter fun i => ((i 0 : Fin 33) : ℕ) / 8 = b % 4 ∨ ((i 0 : Fin 33) : ℕ) / 8 = (b + 1) % 4 ∨ ((i 0 : Fin 33) : ℕ) = 32
/-- The elements of the ring a block starts with. -/
def ringA (b : ℕ) : Finset S33x28x8x128.Idx := Finset.univ.filter fun i => ((i 0 : Fin 33) : ℕ) / 8 = b % 4 ∨ ((i 0 : Fin 33) : ℕ) = 32
theorem mem_ringB {b : ℕ} {i : S33x28x8x128.Idx} : i ∈ ringB b ↔ ((i 0 : Fin 33) : ℕ) / 8 = b % 4 ∨ ((i 0 : Fin 33) : ℕ) / 8 = (b + 1) % 4 ∨ ((i 0 : Fin 33) : ℕ) = 32 := by
  simp [ringB]
theorem mem_ringA {b : ℕ} {i : S33x28x8x128.Idx} : i ∈ ringA b ↔ ((i 0 : Fin 33) : ℕ) / 8 = b % 4 ∨ ((i 0 : Fin 33) : ℕ) = 32 := by
  simp [ringA]
theorem ringA_sub (b : ℕ) : ringA b ⊆ ringB b := by intro i hi; rw [mem_ringA] at hi; rw [mem_ringB]; omega
theorem ringB_sdiff (b : ℕ) : ringB b \ ringA b = ringC ((b + 1) % 4) := by
  ext i; rw [Finset.mem_sdiff, mem_ringA, mem_ringB, mem_ringT]; omega
theorem ringC_sub (b : ℕ) : ringC (b % 4) ⊆ ringB b := by intro i hi; rw [mem_ringT] at hi; rw [mem_ringB]; omega
theorem ringB_rest (b : ℕ) : ringB b \ ringC (b % 4) = ringA (b + 1) := by
  ext i; rw [Finset.mem_sdiff, mem_ringA, mem_ringB, mem_ringT]; omega

/-- The token a block's own tokens start at, at least. -/
def lo (np : ℕ) (e : ℕ → ℕ) (b : ℕ) : ℕ := if b = 0 then np else e (b - 1)
theorem lo_succ (np : ℕ) (e : ℕ → ℕ) (b : ℕ) : lo np e (b + 1) = e b := rfl

/-- What the program needs of the tables. -/
structure Toks (T0 T2 : ℕ → BitVec 32) (nu np : ℕ) (e : ℕ → ℕ) : Prop where
  e_le : ∀ b < nbl nu, e b ≤ 16384
  np_le : ∀ b < nbl nu, np ≤ e b
  np16 : np ≤ 16384
  word : ∀ b < nbl nu, W (T2 (Nat.min (64 * (b + 1)) 16384)) (e b)
  ok : ∀ b < nbl nu, ∀ i, lo np e b ≤ i → i < e b + 15 → TokOK (T0 i) ∧ ∀ x, ringRow x = rowOfW (T0 i) → x ∈ ringB b

/-- The ring after `k` of the rows past the last are zeroed. -/
def zRun (w : S28x128.Idx → Elt F .f32) (nu : ℕ) (r : RingBuf F) : ℕ → RingBuf F
  | 0 => r
  | k + 1 => setRow ((nu + k) % 256) (zRun w nu r k) w
/-- The ring at the copy of block `b`. -/
def zFin (w : S28x128.Idx → Elt F .f32) (nu b : ℕ) (r : RingBuf F) : RingBuf F := if b + 1 = nbl nu then zRun w nu r (64 * nbl nu - nu) else r

theorem zRun_eq (w : S28x128.Idx → Elt F .f32) (nu : ℕ) (hu : 1 ≤ nu) (r : RingBuf F) (k : ℕ) (hk : k ≤ 64 * nbl nu - nu) (i : S33x28x8x128.Idx) (hi : i ∉ ringC ((nbl nu - 1) % 4)) : zRun w nu r k i = r i := by
  induction k with
  | zero => rfl
  | succ k ih =>
    show setRow ((nu + k) % 256) (zRun w nu r k) w i = _
    unfold setRow
    rw [if_neg, ih (by omega)]
    intro h
    refine hi ?_
    unfold ringRow at h
    unfold nbl at hk
    rw [mem_ringT]
    unfold nbl
    have : ((i 2 : Fin 8) : ℕ) < 8 := (i 2 : Fin 8).isLt
    have : ((i 0 : Fin 33) : ℕ) < 33 := (i 0 : Fin 33).isLt
    omega
theorem zFin_eq (w : S28x128.Idx → Elt F .f32) (nu b : ℕ) (hu : 1 ≤ nu) (r : RingBuf F) (i : S33x28x8x128.Idx) (hi : i ∉ ringC (b % 4)) : zFin w nu b r i = r i := by
  unfold zFin
  split
  · next h => exact zRun_eq w nu hu r _ le_rfl i (by rw [← h, Nat.add_sub_cancel]; exact hi)
  · rfl

/-- What is known of the accumulator and the ring at a block's start (`A`) and among its tokens (`B`), and what follows of the block's output. -/
structure BSpec (Vo : S2048x56x8x128.Idx → Elt F .f32 → Prop) (T0 : ℕ → BitVec 32) (T1 : ℕ → F .f32) (cw : CodeBuf) (h nu np : ℕ) (e : ℕ → ℕ) (w0 w : S28x128.Idx → Elt F .f32) where
  A : ℕ → ℕ → FVec F S32x128 .f32 → RingBuf F → Prop
  B : ℕ → ℕ → FVec F S32x128 .f32 → RingBuf F → Prop
  start : ∀ r, A 0 np (k0_pay400 (F := F)) (setRow 0 r w0)
  AB : ∀ b m a r r', b < nbl nu → (∀ i ∈ ringC (b % 4), r' i = r i) → A b m a r → B b m a r'
  step : ∀ b m a r, b < nbl nu → lo np e b ≤ m → m < e b → B b m a r → B b (m + 16) (tokRun T0 T1 cw m a r 16).1 (tokRun T0 T1 cw m a r 16).2
  BA : ∀ b m a r r', b < nbl nu → e b ≤ m → (∀ i ∈ ringC ((b + 1) % 4), r' i = r i) → B b m a r → A (b + 1) m a r'
  val : ∀ b m a r, b < nbl nu → e b ≤ m → B b m a r → ∀ i ∈ outR h b (b + 1), Vo i (zFin w nu b r (ringOf b i))

theorem gstop_hi (np e g : ℕ) (hn : np ≤ e) : e ≤ np + 16 * gstop np e g := by
  have : (e - np + 15) / 16 ≤ gstop np e g := le_max_left _ _
  omega
theorem gstop_ge (np e g : ℕ) : g ≤ gstop np e g := le_max_right _ _
theorem gstop_lt (np e g k : ℕ) (hn : np ≤ e) (h : k < gstop np e g - g) : np + 16 * (g + k) < e := by
  rcases max_choice ((e - np + 15) / 16) g with hh | hh
  · have : gstop np e g = (e - np + 15) / 16 := hh
    omega
  · have : gstop np e g = g := hh
    omega
theorem gstop_le (np e g : ℕ) (hn : np ≤ e) (he : e ≤ 16384) (hg : np + 16 * g ≤ 16399) : np + 16 * gstop np e g ≤ 16399 := by
  rcases max_choice ((e - np + 15) / 16) g with hh | hh
  · have : gstop np e g = (e - np + 15) / 16 := hh
    omega
  · have : gstop np e g = g := hh
    omega

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
  {v0 : Elt F .i32} {k0_hw2 : k0_chk2 v0} {v1 : Elt F .i32} {v20 : BitVec 32} {v21 : BitVec 32} {v22 : BitVec 32} {v43 : BitVec 32} {v44 : FVec F S28x128 .f32} {c0_i32_24 : BitVec 32} {c1_i32_26 : BitVec 32} {k0_t1 : Fin k0_t1_loop.trips} {arg13 : BitVec 32}
variable (q0 q1 q2 : PosShare TreeShare) (g0 : Buf (Elt F) (arg0.view.loc (c : Thread nD τ))) (g1 : Buf (Elt F) (arg1.view.loc (c : Thread nD τ))) (g2 : Buf (Elt F) (arg2.view.loc (c : Thread nD τ)))

/-- The three tables. -/
def Tabs : SP F :=
  iprop((arg0.view.loc (c : Thread nD τ) ↦[arg0.view.set]{q0} g0) ∗ (arg1.view.loc (c : Thread nD τ) ↦[arg1.view.set]{q1} g1) ∗ (arg2.view.loc (c : Thread nD τ) ↦[arg2.view.set]{q2} g2))

variable {nu np : ℕ} {e : ℕ → ℕ} {cw : CodeBuf} {w0 w : S28x128.Idx → Elt F .f32}

/-- What the tokens of a block keep. -/
def TB (sp : BSpec Vo (tabF c arg0 g0 (by decide)) (tabF c arg1 g1 (by decide)) cw (k0_t1 : ℕ) nu np e w0 w) (b m : ℕ) (a : FVec F S32x128 .f32) : SP F :=
  iprop(∃ r, ⌜sp.B b m a r⌝ ∗ Tabs c q0 q1 q2 g0 g1 g2 ∗ ((c : Thread nD τ).loc cc0_scratch0 ↦[Finset.univ]{fullShare} cw) ∗ ((c : Thread nD τ).loc cc0_scratch1 ↦[ringB b]{fullShare} r))

/-- The loop over a block's tokens. -/
theorem t11_loop (sp : BSpec Vo (tabF c arg0 g0 (by decide)) (tabF c arg1 g1 (by decide)) cw (k0_t1 : ℕ) nu np e w0 w) {T2 : ℕ → BitVec 32} (tk : Toks (tabF c arg0 g0 (by decide)) T2 nu np e)
    (h1 : W v1 np) {arg16 : BitVec 32} {G b : ℕ} (ha : W arg16 G) {v115 : Elt F .i32} (k0_hw4 : k0_chk4 v1 arg16 v115) (he : W v115 (e b)) (hb : b < nbl nu) (hlo : lo np e b ≤ np + 16 * G) (hm : np + 16 * G ≤ 16399)
    (hok : (k0_t11_loop v1 arg16 v115).OK) (init : FVec F S32x128 .f32) {kk : FVec F S32x128 .f32 → PG F α} :
    TB c Vo q0 q1 q2 g0 g1 g2 sp b (np + 16 * G) init ⊢ iprop((∀ a, TB c Vo q0 q1 q2 g0 g1 g2 sp b (np + 16 * gstop np (e b) G) a -∗ WP c (kk a) Q)
      -∗ WP c (Scf.Loop.for (k0_t11_loop v1 arg16 v115) hok init (k0_t11_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg16 v115 k0_hw4) >>= kk) Q) := by
  have hge := gstop_ge np (e b) G
  have hs : W (Scalar.maxsi (stopW v1 v115) arg16) (gstop np (e b) G) := (h1.stop he (tk.e_le b hb) (tk.np_le b hb)).max ha
  have ht : (k0_t11_loop v1 arg16 v115).trips = gstop np (e b) G - G := uloop_trips ha hs hge
  iintro H Hk
  iapply (Scf.wp_for_bind frame (wpE (defs₀ (F := F)) Variants.none (c : Thread nD τ) none) Set.univ (k0_t11_loop v1 arg16 v115).lb (k0_t11_loop v1 arg16 v115).ub (k0_t11_loop v1 arg16 v115).st hok init (k0_t11_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg16 v115 k0_hw4)
    (fun k a => TB c Vo q0 q1 q2 g0 g1 g2 sp b (np + 16 * (G + k)) a) (fun (t : Fin (k0_t11_loop v1 arg16 v115).trips) acc => by
      have hk : (t : ℕ) < gstop np (e b) G - G := lt_of_lt_of_eq t.isLt ht
      have hlt := gstop_lt np (e b) G (t : ℕ) (tk.np_le b hb) hk
      have he2 := tk.e_le b hb
      have hB : (Scalar.addi v1 (Scalar.muli (Scf.iv arg16 1#32 t) 16#32)).toNat = np + 16 * (G + (t : ℕ)) := by
        have := (h1.add ((ha.iv (t : ℕ) (by omega)).mul (W.lit 16 (by decide)) (by omega)) (by omega)).eq
        omega
      unfold TB Tabs
      iintro ⟨%r, %hI, ⟨H0, H1, H2⟩, Hc, Hr⟩
      ihave Hw := (tokens c arg0 harg0 arg1 harg1 arg2 harg2 arg3 harg3 (Memref.whole main_arg4) (Memref.isWhole_whole _) (Memref.whole main_v0) (Memref.isWhole_whole _) (Memref.whole cc0_scratch2) (Memref.isWhole_whole _) cc0_scratch3 cc0_scratch4 cc0_scratch5
        v0 k0_hw2 v1 v20 v21 v22 v43 v44 c0_i32_24 c1_i32_26 k0_t1 arg13 arg16 v115 k0_hw4 t acc (ringB b) r cw q0 q1 g0 g1 (np + 16 * (G + (t : ℕ))) (by omega) hB
        (fun k hk => tk.ok b hb _ (by omega) (by omega))) $$ [H0 H1 Hc Hr]
      · isplitl [H0]; · iexact H0
        isplitl [H1]; · iexact H1
        isplitl [Hc]; · iexact Hc
        iexact Hr
      iapply (WP_wand c) $$ Hw
      iintro %a ⟨%hea, H0, H1, Hc, Hr⟩
      iexists _
      isplitr
      · ipureintro
        rw [hea]
        exact sp.step b (np + 16 * (G + (t : ℕ))) acc r hb (by omega) hlt hI
      isplitl [H0 H1 H2]
      · isplitl [H0]; · iexact H0
        isplitl [H1]; · iexact H1
        iexact H2
      isplitl [Hc]; · iexact Hc
      iexact Hr)) $$ [H]
  · iexact H
  iintro %acc H
  iapply Hk
  rw [show Scf.trips (k0_t11_loop v1 arg16 v115).lb (k0_t11_loop v1 arg16 v115).ub (k0_t11_loop v1 arg16 v115).st = gstop np (e b) G - G from ht,
    show G + (gstop np (e b) G - G) = gstop np (e b) G from by omega]
  iexact H

/-- The loop that zeroes the rows past the last. -/
theorem t13_loop (h : W v0 nu) (hu : nu ≤ 16384) (h1 : 1 ≤ nu) (k0_t8 : Fin (k0_t8_loop v0).trips) (k0_h2 : k0_cond2 v0 k0_t8 = 1#1) (r : RingBuf F) {b : ℕ} (hb : b + 1 = nbl nu)
    (hok : (k0_t13_loop v0).OK) (init : BitVec 32) {kk : BitVec 32 → PG F α} :
    (((c : Thread nD τ).loc cc0_scratch1 ↦[ringB b]{fullShare} r) : SP F) ⊢ iprop((∀ a, ((c : Thread nD τ).loc cc0_scratch1 ↦[ringB b]{fullShare} zFin (k0_pay403 v44) nu b r) -∗ WP c (kk a) Q)
      -∗ WP c (Scf.Loop.for (k0_t13_loop v0) hok init (k0_t13_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t8 k0_h2) >>= kk) Q) := by
  have ht : (k0_t13_loop v0).trips = 64 * nbl nu - nu := t13_trips h hu
  iintro H Hk
  iapply (Scf.wp_for_bind frame (wpE (defs₀ (F := F)) Variants.none (c : Thread nD τ) none) Set.univ (k0_t13_loop v0).lb (k0_t13_loop v0).ub (k0_t13_loop v0).st hok init (k0_t13_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t8 k0_h2)
    (fun k _ => ((c : Thread nD τ).loc cc0_scratch1 ↦[ringB b]{fullShare} zRun (k0_pay403 v44) nu r k)) (fun (t : Fin (k0_t13_loop v0).trips) acc => by
      have hk : (t : ℕ) < 64 * nbl nu - nu := lt_of_lt_of_eq t.isLt ht
      have ho : k0_off198 v0 t = ![224 * ((nu + (t : ℕ)) % 256 / 8) + (nu + (t : ℕ)) % 256 % 8, 0] := by
        rw [off198_eq h hu t]
        have e1 : (nu + (t : ℕ)) / 8 % 32 = (nu + (t : ℕ)) % 256 / 8 := by omega
        have e2 : (nu + (t : ℕ)) % 8 = (nu + (t : ℕ)) % 256 % 8 := by omega
        rw [e1, e2]
      have hS : ∀ i, ringRow i = (nu + (t : ℕ)) % 256 → i ∈ ringB b := by
        intro i hi
        unfold ringRow at hi
        rw [mem_ringB]
        unfold nbl at hb hk
        have : ((i 2 : Fin 8) : ℕ) < 8 := (i 2 : Fin 8).isLt
        have : ((i 0 : Fin 33) : ℕ) < 33 := (i 0 : Fin 33).isLt
        omega
      iintro Hr
      simp only [k0_t13_body, Prog.bind_assoc]
      iapply (ringLoad c _ (ringB b) _ ho hS) $$ Hr
      iintro Hr %_
      iapply (ringStore c _ (ringB b) _ ho hS) $$ Hr
      iintro Hr
      iapply (Idealize.SL.Sem.le_wp_ret _ _)
      iexact Hr)) $$ [H]
  · iexact H
  iintro %acc H
  iapply Hk
  unfold zFin
  rw [if_pos hb, show Scf.trips (k0_t13_loop v0).lb (k0_t13_loop v0).ub (k0_t13_loop v0).st = 64 * nbl nu - nu from ht]
  iexact H

end Cert.Proof.Kernel

end
-- ==== Proof.Main.BLoop.lean ====
module

public import Idealize.ShloMosaic.Lib.Batch
public import proofs.«01_k».proof.Proof.Main.Block

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The loop over the blocks. -/

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
  {v0 : Elt F .i32} {k0_hw2 : k0_chk2 v0} {v1 : Elt F .i32} {v20 : BitVec 32} {v21 : BitVec 32} {v22 : BitVec 32} {v43 : BitVec 32} {v44 : FVec F S28x128 .f32} {c0_i32_24 : BitVec 32} {c1_i32_26 : BitVec 32} {k0_t1 : Fin k0_t1_loop.trips} {arg13 : BitVec 32}
variable (q0 q1 q2 : PosShare TreeShare) (g0 : Buf (Elt F) (arg0.view.loc (c : Thread nD τ))) (g1 : Buf (Elt F) (arg1.view.loc (c : Thread nD τ))) (g2 : Buf (Elt F) (arg2.view.loc (c : Thread nD τ)))
variable {nu np : ℕ} {e : ℕ → ℕ} {cw : CodeBuf} {w0 w : S28x128.Idx → Elt F .f32} (o0 : OutBuf F)

/-- The state at block `b`. -/
def TI (sp : BSpec Vo (tabF c arg0 g0 (by decide)) (tabF c arg1 g1 (by decide)) cw (k0_t1 : ℕ) nu np e w0 w) (b : ℕ) (a : FVec F S32x128 .f32) (a16 a17 : BitVec 32) : SP F :=
  iprop(∃ r G d, ⌜W a16 G ∧ W a17 d ∧ d ≤ 512 - 2 * nbl nu ∧ lo np e b ≤ np + 16 * G ∧ np + 16 * G ≤ 16399 ∧ sp.A b (np + 16 * G) a r⌝
    ∗ ZS c o0 nu d ∗ Tabs c q0 q1 q2 g0 g1 g2 ∗ ((c : Thread nD τ).loc cc0_scratch0 ↦[Finset.univ]{fullShare} cw) ∗ ((c : Thread nD τ).loc cc0_scratch1 ↦[ringA b]{fullShare} r)
    ∗ semVal ((c : Thread nD τ), SemLoc.dma (bcell b)) 0 ∗ Slot c Vo (k0_t1 : ℕ) (b + 1) ∗ Slot c Vo (k0_t1 : ℕ) (b + 2) ∗ Slot c Vo (k0_t1 : ℕ) (b + 3)
    ∗ OutV c Vo (outR (k0_t1 : ℕ) 0 (b - 3)) ∗ ((c : Thread nD τ).loc main_v0 ↦[outR (k0_t1 : ℕ) b (nbl nu)]{fullShare} o0) ∗ ∃ W, owes (c : Thread nD τ) 0 W)

theorem WP_bind {β : Type} {p : PG F β} {k : β → PG F α} : WP c p (fun a => WP c (k a) Q) ⊢ WP c (p >>= k) Q :=
  Entails.of_eq (wp_bind frame (wpE (defs₀ (F := F)) Variants.none (c : Thread nD τ) none) Set.univ p k Q).symm

theorem t14_trips (h : W v0 nu) (hu : nu ≤ 16384) : (k0_t14_loop v0).trips = 0 :=
  rloop_trips h ((h.nb' hu).mul (W.lit 64 (by decide)) (by have := nbl_le hu; omega)) (by unfold nbl; omega)

theorem starts9 (arg12 c0 c1 : BitVec 32) (k0_t8 : Fin (k0_t8_loop v0).trips) (arg16 arg17 : BitVec 32) (k0_hw3 : k0_chk3 v0 arg17) {d : ℕ} (h : W v0 nu) (hu : nu ≤ 16384) (ha : W arg17 d) (k : Fin (k0_t9_loop v0 arg17).trips) (hd : d + (k : ℕ) ≤ 512) (acc : BitVec 32) :
    StartsZero (F := F) nu d (k : ℕ) (k0_t9_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v21 v22 v43 k0_t1 arg12 c0 c1 k0_t8 arg16 arg17 k0_hw3 k acc) := by
  refine ⟨_, _, _, _, _, ?_, rfl⟩
  have e := zoff (k := (k : ℕ)) h hu ha hd
  exact congrArg (fun n : ℕ => (![n, 0, 0, 0] : Fin 4 → ℕ)) e

/-- Before the tokens of a block: zero copies are started, the cell of the next block is waited for, and the block's last token is read. -/
theorem part63 (arg12 : BitVec 32) (h : W v0 nu) (hu : nu ≤ 16384) (h1 : W v1 np) (h22 : v22 = nzW v0) (h43 : v43 = zpsW v0) (k0_t8 : Fin (k0_t8_loop v0).trips) (y z : BitVec 32)
    {T0 : ℕ → BitVec 32} (tk : Toks T0 (tabF c arg2 g2 (by decide)) nu np e) {d G : ℕ} (hy : W y G) (hz : W z d) (hd : d ≤ 512 - 2 * nbl nu) (hG : np + 16 * G ≤ 16399) :
    iprop(ZS c o0 nu d ∗ (arg2.view.loc (c : Thread nD τ) ↦[arg2.view.set]{q2} g2) ∗ Slot c Vo (k0_t1 : ℕ) ((k0_t8 : ℕ) + 1) ∗ OutV c Vo (outR (k0_t1 : ℕ) 0 ((k0_t8 : ℕ) - 3)) ∗ ∃ W, owes (c : Thread nD τ) 0 W)
      ⊢ WP c (k0_part63 arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v21 v22 v43 k0_t1 arg12 0#32 1#32 k0_t8 y z) (fun s => iprop(
        ⌜W s.2.1 (zstep nu d) ∧ W s.2.2.1 (e (k0_t8 : ℕ)) ∧ s.2.2.2.2 = Scalar.maxsi (stopW v1 s.2.2.1) y⌝ ∗ ZS c o0 nu (zstep nu d) ∗ (arg2.view.loc (c : Thread nD τ) ↦[arg2.view.set]{q2} g2)
          ∗ semVal ((c : Thread nD τ), SemLoc.dma (bcell ((k0_t8 : ℕ) + 1))) 0 ∗ RingE c (ringC (((k0_t8 : ℕ) + 1) % 4)) ∗ OutV c Vo (outR (k0_t1 : ℕ) 0 ((k0_t8 : ℕ) + 1 - 3)) ∗ ∃ W, owes (c : Thread nD τ) 0 W)) := by
  have hb := t8_lt h hu k0_t8
  have hs := h.zstop hu hz (by omega)
  have hzb := zstep_bounds hd
  have hw := tk.word _ hb
  have ck := chkT h1 hw (tk.e_le _ hb) (tk.np_le _ hb) hy (by omega)
  iintro ⟨HZ, H2, HS, HO, Hw⟩
  simp only [k0_part63_eq_skeleton, k0_part63_skel, Prog.bind_assoc]
  iapply (wp_assume Variants.none (c : Thread nD τ) none Set.univ (chkZ' h hu hz hd))
  iapply (zloop c o0 hu hz hs hzb.1 hzb.2 _ _ _ (fun k acc => starts9 arg12 _ _ k0_t8 _ z (chkZ' h hu hz hd) h hu hz k
    (by have := lt_of_lt_of_eq k.isLt (uloop_trips hz hs hzb.1); have := hzb.1; have := hzb.2; omega) acc)) $$ HZ
  iintro %a1 HZ
  iapply (skip c (k0_t10_loop v0 z) _ (rloop_trips hz hs hzb.1)) $$ HZ
  iintro HZ
  by_cases hc : k0_cond1 v0 k0_t8 = 1#1
  · have h3 := (cond1_iff h hu k0_t8).1 hc
    simp only [dif_pos hc, Prog.bind_assoc]
    have hS : Slot (F := F) c Vo (k0_t1 : ℕ) ((k0_t8 : ℕ) + 1) = Pend c Vo (k0_t1 : ℕ) ((k0_t8 : ℕ) - 3) := by
      rw [show (k0_t8 : ℕ) + 1 = ((k0_t8 : ℕ) - 3) + 4 from by omega, Slot_pend]
    have e4 : (k0_t8 : ℕ) + 1 = ((k0_t8 : ℕ) - 3) + 4 := by omega
    have hsem : bcell ((k0_t8 : ℕ) + 1) = bcell ((k0_t8 : ℕ) - 3) := by rw [e4, bcell_eq]
    have hcel : ((k0_t8 : ℕ) + 1) % 4 = ((k0_t8 : ℕ) - 3) % 4 := by omega
    have e5 : (k0_t8 : ℕ) + 1 - 3 = ((k0_t8 : ℕ) - 3) + 1 := by omega
    rw [hsem, hcel, e5]
    ihave HS := (Entails.of_eq hS) $$ HS
    iapply (bwait c Vo (k0_t1 : ℕ) ((k0_t8 : ℕ) - 3) (off96_eq h hu k0_t8 h3)) $$ [HS Hw]
    · isplitl [HS]; · iexact HS
      iexact Hw
    iintro ⟨HO', HR, Hv, Hw⟩
    iapply (tabLoad' c (m := arg2) (by decide) _ q2 g2 (off99_eq h hu k0_t8)) $$ H2
    iintro H2
    iapply (wp_assume Variants.none (c : Thread nD τ) none Set.univ ck)
    iapply (Idealize.SL.Sem.le_wp_ret _ _)
    isplitr
    · ipureintro
      exact ⟨by rw [h43, h22]; exact hs, hw, rfl⟩
    isplitl [HZ]; · iexact HZ
    isplitl [H2]; · iexact H2
    isplitl [Hv]; · iexact Hv
    isplitl [HR]; · iexact HR
    isplitl [HO HO']
    · iapply (OutV_union c Vo (outR (k0_t1 : ℕ) 0 ((k0_t8 : ℕ) - 3)) (outR (k0_t1 : ℕ) ((k0_t8 : ℕ) - 3) ((k0_t8 : ℕ) - 3 + 1)) _ ?_ ?_)
      · intro i hi; rw [mem_outR] at hi ⊢; omega
      · ext i; rw [Finset.mem_sdiff, mem_outR, mem_outR, mem_outR]; omega
      isplitl [HO]; · iexact HO
      iexact HO'
    iexact Hw
  · have h3 : ¬ 3 ≤ (k0_t8 : ℕ) := fun h3 => hc ((cond1_iff h hu k0_t8).2 h3)
    simp only [dif_neg hc, Prog.bind_assoc]
    rw [show (k0_t8 : ℕ) + 1 - 3 = (k0_t8 : ℕ) - 3 from by omega]
    ihave HS := (Entails.of_eq (Slot_free c Vo (h := (k0_t1 : ℕ)) (show (k0_t8 : ℕ) + 1 < 4 by omega))) $$ HS
    icases HS with ⟨Hv, HR⟩
    iapply (tabLoad' c (m := arg2) (by decide) _ q2 g2 (off99_eq h hu k0_t8)) $$ H2
    iintro H2
    iapply (wp_assume Variants.none (c : Thread nD τ) none Set.univ ck)
    iapply (Idealize.SL.Sem.le_wp_ret _ _)
    isplitr
    · ipureintro
      exact ⟨by rw [h43, h22]; exact hs, hw, rfl⟩
    isplitl [HZ]; · iexact HZ
    isplitl [H2]; · iexact H2
    isplitl [Hv]; · iexact Hv
    isplitl [HR]; · iexact HR
    isplitl [HO]; · iexact HO
    iexact Hw

/-- The copy of a block, its tokens done: the state at the next block. -/
theorem fin_step (sp : BSpec Vo (tabF c arg0 g0 (by decide)) (tabF c arg1 g1 (by decide)) cw (k0_t1 : ℕ) nu np e w0 w) {b G d : ℕ} (hb : b < nbl nu) (hu1 : 1 ≤ nu) {a : FVec F S32x128 .f32} {r : RingBuf F}
    (hB : sp.B b (np + 16 * G) a r) (he : e b ≤ np + 16 * G) (hm : np + 16 * G ≤ 16399) {y z : BitVec 32} (hy : W y G) (hz : W z d) (hd : d ≤ 512 - 2 * nbl nu)
    {off1 : Fin 1 → ℕ} {inb1} {off2 off3 : Fin 4 → ℕ} {inb2 inb3}
    (hoff1 : off1 = ![b % 4]) (hoff2 : off2 = ![8 * b, 28 * (k0_t1 : ℕ), 0, 0]) (hoff3 : off3 = ![8 * (b % 4), 0, 0, 0]) {h1 h2 h3} :
    iprop(((c : Thread nD τ).loc cc0_scratch1 ↦[ringB b]{fullShare} zFin w nu b r) ∗ semVal ((c : Thread nD τ), SemLoc.dma (bcell b)) 0 ∗ semVal ((c : Thread nD τ), SemLoc.dma (bcell (b + 1))) 0
      ∗ Slot c Vo (k0_t1 : ℕ) (b + 2) ∗ Slot c Vo (k0_t1 : ℕ) (b + 3) ∗ OutV c Vo (outR (k0_t1 : ℕ) 0 (b + 1 - 3)) ∗ ((c : Thread nD τ).loc main_v0 ↦[outR (k0_t1 : ℕ) b (nbl nu)]{fullShare} o0)
      ∗ ZS c o0 nu d ∗ Tabs c q0 q1 q2 g0 g1 g2 ∗ ((c : Thread nD τ).loc cc0_scratch0 ↦[Finset.univ]{fullShare} cw) ∗ ∃ W, owes (c : Thread nD τ) 0 W)
      ⊢ WP c (.op (.enqueueDma (rWin off3 inb3) (.here (oWin off2 inb2)) (.dma (ssem off1 inb1)) h1 h2 h3) fun _ => .ret (a, y, z))
        (fun s => TI c Vo q0 q1 q2 g0 g1 g2 o0 sp (b + 1) s.1 s.2.1 s.2.2) := by
  have hsub : outR (k0_t1 : ℕ) b (b + 1) ⊆ outR (k0_t1 : ℕ) b (nbl nu) := by intro i hi; rw [mem_outR] at hi ⊢; omega
  have hrest : outR (k0_t1 : ℕ) b (nbl nu) \ outR (k0_t1 : ℕ) b (b + 1) = outR (k0_t1 : ℕ) (b + 1) (nbl nu) := by
    ext i; rw [Finset.mem_sdiff, mem_outR, mem_outR, mem_outR]; omega
  iintro ⟨Hr, Hv, Hv', HS2, HS3, HO, Ho, HZ, HT, Hc, Hw⟩
  ihave Hr' := (pointsTo_split_subset (ringC_sub b)).1 $$ Hr
  icases Hr' with ⟨Hr, Hr2⟩
  rw [ringB_rest]
  ihave Ho' := (pointsTo_split_subset hsub).1 $$ Ho
  icases Ho' with ⟨Ho, Ho2⟩
  rw [hrest]
  iapply (bstore c Vo (k0_t1 : ℕ) b (half_lt k0_t1) _ o0 hoff1 hoff2 hoff3 (sp.val b _ a r hb he hB)) $$ [Hr Ho Hv]
  · isplitl [Hr]; · iexact Hr
    isplitl [Ho]; · iexact Ho
    iexact Hv
  iintro HP
  iapply (Idealize.SL.Sem.le_wp_ret _ _)
  unfold TI
  iexists (zFin w nu b r), G, d
  isplitr
  · ipureintro
    refine ⟨hy, hz, hd, (lo_succ np e b).trans_le he, hm, sp.BA b _ a r _ hb he (fun i hi => zFin_eq w nu b hu1 r i ?_) hB⟩
    rw [mem_ringT] at hi ⊢; omega
  isplitl [HZ]; · iexact HZ
  isplitl [HT]; · iexact HT
  isplitl [Hc]; · iexact Hc
  isplitl [Hr2]; · iexact Hr2
  isplitl [Hv']; · iexact Hv'
  isplitl [HS2]; · iexact HS2
  isplitl [HS3]; · iexact HS3
  isplitl [HP]
  · iapply (Entails.of_eq (Slot_pend c Vo (k0_t1 : ℕ) b).symm) $$ HP
  isplitl [HO]; · iexact HO
  isplitl [Ho2]; · iexact Ho2
  iexact Hw

/-- A block. -/
theorem t8_step (arg12 : BitVec 32) (sp : BSpec Vo (tabF c arg0 g0 (by decide)) (tabF c arg1 g1 (by decide)) cw (k0_t1 : ℕ) nu np e w0 (k0_pay403 v44))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) (k0_t8 : Fin (k0_t8_loop v0).trips) (x : FVec F S32x128 .f32) (y z : BitVec 32) :
    TI c Vo q0 q1 q2 g0 g1 g2 o0 sp (k0_t8 : ℕ) x y z
      ⊢ WP c (k0_t8_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12 k0_t8 (x, y, z)) (fun s => TI c Vo q0 q1 q2 g0 g1 g2 o0 sp ((k0_t8 : ℕ) + 1) s.1 s.2.1 s.2.2) := by
  have hb := t8_lt h hu k0_t8
  unfold TI
  iintro ⟨%r, %G, %d, %hI, HZ, HT, Hc, Hr, Hv, HS1, HS2, HS3, HO, Ho, Hw⟩
  obtain ⟨hy, hz, hd, hlo, hm, hA⟩ := hI
  simp only [k0_t8_body, Prog.bind_assoc]
  unfold Tabs
  icases HT with ⟨H0, H1, H2⟩
  ihave Hp := (part63 c Vo q2 g2 o0 arg12 h hu h1 h22 h43 k0_t8 y z tk hy hz hd hm) $$ [HZ H2 HS1 HO Hw]
  rotate_left
  · iapply (WP_bind c)
    iapply (WP_wand c) $$ Hp
    iintro %s
    obtain ⟨arg14, v100, v115, hw4, v136⟩ := s
    iintro ⟨%hs, HZ, H2, Hv', HR, HO, Hw⟩
    obtain ⟨hz', he, h136⟩ := hs
    dsimp only at hz' he h136
    subst h136
    have hy' : W (Scalar.maxsi (stopW v1 v115) y) (gstop np (e (k0_t8 : ℕ)) G) := (h1.stop he (tk.e_le _ hb) (tk.np_le _ hb)).max hy
    have hge := gstop_ge np (e (k0_t8 : ℕ)) G
    have hgh := gstop_hi np (e (k0_t8 : ℕ)) G (tk.np_le _ hb)
    have hgl := gstop_le np (e (k0_t8 : ℕ)) G (tk.np_le _ hb) (tk.e_le _ hb) hm
    have ht12 : (k0_t12_loop v1 y v115).trips = 0 := rloop_trips hy hy' hge
    unfold RingE
    icases HR with ⟨%r2, HR⟩
    iapply (t11_loop c Vo q0 q1 q2 g0 g1 g2 sp tk h1 hy hw4 he hb hlo hm) $$ [H0 H1 H2 Hc Hr HR]
    · unfold TB Tabs
      iexists (fun i => if i ∈ ringA (k0_t8 : ℕ) then r i else r2 i)
      isplitr
      · ipureintro
        refine sp.AB _ _ _ r _ hb (fun i hi => if_pos ?_) hA
        rw [mem_ringT] at hi; rw [mem_ringA]; omega
      isplitl [H0 H1 H2]
      · isplitl [H0]; · iexact H0
        isplitl [H1]; · iexact H1
        iexact H2
      isplitl [Hc]; · iexact Hc
      iapply (pointsTo_split_subset (ringA_sub (k0_t8 : ℕ))).2
      isplitl [Hr]
      · iapply (Entails.of_eq (pointsTo_congr fun i hi => (if_pos hi).symm)) $$ Hr
      · rw [ringB_sdiff]
        iapply (Entails.of_eq (pointsTo_congr fun i hi => (if_neg (fun h => by rw [mem_ringA] at h; rw [mem_ringT] at hi; omega)).symm)) $$ HR
    iintro %a HTB
    unfold TB
    icases HTB with ⟨%r3, %hB, HT, Hc, Hr⟩
    iapply (skip c (k0_t12_loop v1 y v115) _ ht12) $$ HZ
    iintro HZ
    by_cases hc2 : k0_cond2 v0 k0_t8 = 1#1
    · have h2 := (cond2_iff h hu k0_t8).1 hc2
      simp only [dif_pos hc2, Prog.bind_assoc]
      iapply (t13_loop c h hu hu1 k0_t8 hc2 r3 h2) $$ Hr
      iintro %a' Hr
      iapply (skip c (k0_t14_loop v0) _ (t14_trips h hu)) $$ Hr
      iintro Hr
      iapply (fin_step c Vo q0 q1 q2 g0 g1 g2 o0 sp hb hu1 hB hgh hgl hy' hz' (zstep_bounds hd).2 (off200_eq h hu k0_t8) (off201_eq h hu k0_t1 k0_t8) (off202_eq h hu k0_t8)) $$ [-]
      isplitl [Hr]; · iexact Hr
      isplitl [Hv]; · iexact Hv
      isplitl [Hv']; · iexact Hv'
      isplitl [HS2]; · iexact HS2
      isplitl [HS3]; · iexact HS3
      isplitl [HO]; · iexact HO
      isplitl [Ho]; · iexact Ho
      isplitl [HZ]; · iexact HZ
      isplitl [HT]; · iexact HT
      isplitl [Hc]; · iexact Hc
      iexact Hw
    · have h2 : ¬ (k0_t8 : ℕ) + 1 = nbl nu := fun h2 => hc2 ((cond2_iff h hu k0_t8).2 h2)
      simp only [dif_neg hc2, Prog.bind_assoc]
      iapply (fin_step c Vo q0 q1 q2 g0 g1 g2 o0 sp hb hu1 hB hgh hgl hy' hz' (zstep_bounds hd).2 (off200_eq h hu k0_t8) (off201_eq h hu k0_t1 k0_t8) (off202_eq h hu k0_t8)) $$ [-]
      isplitl [Hr]
      · unfold zFin
        rw [if_neg h2]
        iexact Hr
      isplitl [Hv]; · iexact Hv
      isplitl [Hv']; · iexact Hv'
      isplitl [HS2]; · iexact HS2
      isplitl [HS3]; · iexact HS3
      isplitl [HO]; · iexact HO
      isplitl [Ho]; · iexact Ho
      isplitl [HZ]; · iexact HZ
      isplitl [HT]; · iexact HT
      isplitl [Hc]; · iexact Hc
      iexact Hw
  · isplitl [HZ]; · iexact HZ
    isplitl [H2]; · iexact H2
    isplitl [HS1]; · iexact HS1
    isplitl [HO]; · iexact HO
    iexact Hw

end Cert.Proof.Kernel

end
-- ==== Proof.Main.Half.lean ====
module

public import Idealize.ShloMosaic.Lib.Batch
public import proofs.«01_k».proof.Proof.Main.BLoop

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One half of the columns: the loads, the loop over the blocks, and the last waits. -/

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
  {v0 : Elt F .i32} {k0_hw2 : k0_chk2 v0} {v1 : Elt F .i32} {v20 : BitVec 32} {v21 : BitVec 32} {v22 : BitVec 32} {v43 : BitVec 32} {v44 : FVec F S28x128 .f32} {c0_i32_24 : BitVec 32} {c1_i32_26 : BitVec 32} {k0_t1 : Fin k0_t1_loop.trips} {arg13 : BitVec 32}
variable (q0 q1 q2 : PosShare TreeShare) (g0 : Buf (Elt F) (arg0.view.loc (c : Thread nD τ))) (g1 : Buf (Elt F) (arg1.view.loc (c : Thread nD τ))) (g2 : Buf (Elt F) (arg2.view.loc (c : Thread nD τ)))
variable {nu np : ℕ} {e : ℕ → ℕ} {cw : CodeBuf} {w0 w : S28x128.Idx → Elt F .f32} (o0 : OutBuf F)

/-! ## The last waits -/

/-- A free cell of the ring. -/
def Free (b : ℕ) : SP F := iprop(semVal ((c : Thread nD τ), SemLoc.dma (bcell b)) 0 ∗ RingE c (ringC (b % 4)))
/-- The cell of `b`, when the copies of the blocks below `B` are waited for. -/
def SlotD (h b B : ℕ) : SP F := if b < 4 + B then Free c b else Pend c Vo h (b - 4)

theorem SlotD_eq (h b : ℕ) (nu : ℕ) (hb : nbl nu < b) : SlotD (F := F) c Vo h b (nbl nu - 3) = Slot c Vo h b := by
  unfold SlotD Slot Free
  by_cases h4 : b < 4
  · rw [if_pos (by omega), if_pos h4]
  · rw [if_neg (by omega), if_neg h4]

theorem SlotD_pend (h b B : ℕ) (hb : b = 4 + B) : SlotD (F := F) c Vo h b B = Pend c Vo h B := by
  unfold SlotD
  rw [if_neg (by omega), show b - 4 = B by omega]
theorem SlotD_free (h b B : ℕ) (hb : b = 4 + B) : iprop(semVal ((c : Thread nD τ), SemLoc.dma (bcell B)) 0 ∗ RingE c (ringC (B % 4))) ⊢ SlotD (F := F) c Vo h b (B + 1) := by
  unfold SlotD Free
  rw [if_pos (by omega), hb, show (4 + B) % 4 = B % 4 by omega, show 4 + B = B + 4 by omega, bcell_eq]
theorem SlotD_ne (h b B : ℕ) (hb : b ≠ 4 + B) : SlotD (F := F) c Vo h b B = SlotD c Vo h b (B + 1) := by
  unfold SlotD
  by_cases h4 : b < 4 + B
  · rw [if_pos h4, if_pos (by omega)]
  · rw [if_neg h4, if_neg (by omega)]
theorem SlotD_done (h b B : ℕ) (hb : b < 4 + B) : SlotD (F := F) c Vo h b B = Free c b := if_pos hb

/-- The output and the cells, when the copies of the blocks below `B` are waited for. -/
def DR (h n B : ℕ) : SP F := iprop(OutV c Vo (outR h 0 B) ∗ SlotD c Vo h (n + 1) B ∗ SlotD c Vo h (n + 2) B ∗ SlotD c Vo h (n + 3) B ∗ ∃ W, owes (c : Thread nD τ) 0 W)

theorem out_grow (h B : ℕ) : iprop(OutV c Vo (outR h 0 B) ∗ OutV c Vo (outR h B (B + 1))) ⊢ OutV c Vo (outR h 0 (B + 1)) :=
  OutV_union c Vo _ _ _ (by intro i hi; rw [mem_outR] at hi ⊢; omega) (by ext i; rw [Finset.mem_sdiff, mem_outR, mem_outR, mem_outR]; omega)

theorem drain_step (h n B : ℕ) (hB : n = B + 3 ∨ n = B + 2 ∨ n = B + 1) {off1 : Fin 1 → ℕ} {inb1} {off2 off3 : Fin 4 → ℕ} {inb2 inb3} (hoff1 : off1 = ![B % 4]) {h1 h2} {k : PUnit → PG F α} :
    DR c Vo h n B ⊢ iprop((DR c Vo h n (B + 1) -∗ WP c (k ⟨⟩) Q) -∗ WP c (.op (.waitDma2 (ssem off1 inb1) (rWin off3 inb3) (oWin off2 inb2) h1 h2) k) Q) := by
  rcases hB with hB | hB | hB
  · unfold DR
    rw [SlotD_pend c Vo h (n + 1) B (by omega), SlotD_ne c Vo h (n + 2) B (by omega), SlotD_ne c Vo h (n + 3) B (by omega)]
    iintro ⟨HO, HP, HA, HB, Hw⟩ Hk
    iapply (bwait c Vo h B hoff1) $$ [HP Hw]
    · isplitl [HP]; · iexact HP
      iexact Hw
    iintro ⟨HO', HR, Hv, Hw⟩
    iapply Hk
    isplitl [HO HO']
    · iapply (out_grow c Vo h B)
      isplitl [HO]; · iexact HO
      iexact HO'
    isplitl [HR Hv]
    · iapply (SlotD_free c Vo h (n + 1) B (by omega))
      isplitl [Hv]; · iexact Hv
      iexact HR
    isplitl [HA]; · iexact HA
    isplitl [HB]; · iexact HB
    iexact Hw
  · unfold DR
    rw [SlotD_pend c Vo h (n + 2) B (by omega), SlotD_ne c Vo h (n + 1) B (by omega), SlotD_ne c Vo h (n + 3) B (by omega)]
    iintro ⟨HO, HA, HP, HB, Hw⟩ Hk
    iapply (bwait c Vo h B hoff1) $$ [HP Hw]
    · isplitl [HP]; · iexact HP
      iexact Hw
    iintro ⟨HO', HR, Hv, Hw⟩
    iapply Hk
    isplitl [HO HO']
    · iapply (out_grow c Vo h B)
      isplitl [HO]; · iexact HO
      iexact HO'
    isplitl [HA]; · iexact HA
    isplitl [HR Hv]
    · iapply (SlotD_free c Vo h (n + 2) B (by omega))
      isplitl [Hv]; · iexact Hv
      iexact HR
    isplitl [HB]; · iexact HB
    iexact Hw
  · unfold DR
    rw [SlotD_pend c Vo h (n + 3) B (by omega), SlotD_ne c Vo h (n + 1) B (by omega), SlotD_ne c Vo h (n + 2) B (by omega)]
    iintro ⟨HO, HA, HB, HP, Hw⟩ Hk
    iapply (bwait c Vo h B hoff1) $$ [HP Hw]
    · isplitl [HP]; · iexact HP
      iexact Hw
    iintro ⟨HO', HR, Hv, Hw⟩
    iapply Hk
    isplitl [HO HO']
    · iapply (out_grow c Vo h B)
      isplitl [HO]; · iexact HO
      iexact HO'
    isplitl [HA]; · iexact HA
    isplitl [HB]; · iexact HB
    isplitl [HR Hv]
    · iapply (SlotD_free c Vo h (n + 3) B (by omega))
      isplitl [Hv]; · iexact Hv
      iexact HR
    iexact Hw

/-- The loop of the last waits. -/
theorem t22_loop (h : W v0 nu) (hu : nu ≤ 16384) (hu1 : 1 ≤ nu) (hok : (k0_t22_loop v0).OK) (init : BitVec 32) {kk : BitVec 32 → PG F α} :
    DR c Vo (k0_t1 : ℕ) (nbl nu) (nbl nu - 3) ⊢ iprop((∀ a, DR c Vo (k0_t1 : ℕ) (nbl nu) (nbl nu) -∗ WP c (kk a) Q)
      -∗ WP c (Scf.Loop.for (k0_t22_loop v0) hok init (k0_t22_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 ) >>= kk) Q) := by
  have ht := t22_trips h hu
  have hn : 1 ≤ nbl nu := by unfold nbl; omega
  iintro H Hk
  iapply (Scf.wp_for_bind frame (wpE (defs₀ (F := F)) Variants.none (c : Thread nD τ) none) Set.univ (k0_t22_loop v0).lb (k0_t22_loop v0).ub (k0_t22_loop v0).st hok init (k0_t22_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 )
    (fun k _ => DR c Vo (k0_t1 : ℕ) (nbl nu) (nbl nu - 3 + k)) (fun (t : Fin (k0_t22_loop v0).trips) acc => by
      have hk := t22_lt h hu t
      iintro H
      simp only [k0_t22_body]
      iapply (drain_step c Vo (k0_t1 : ℕ) (nbl nu) (nbl nu - 3 + (t : ℕ)) (by omega) (off312_eq h hu t)) $$ H
      iintro H
      iapply (Idealize.SL.Sem.le_wp_ret _ _)
      iexact H)) $$ [H]
  · iexact H
  iintro %acc H
  iapply Hk
  rw [show nbl nu - 3 + Scf.trips (k0_t22_loop v0).lb (k0_t22_loop v0).ub (k0_t22_loop v0).st = nbl nu from by
    rw [show Scf.trips (k0_t22_loop v0).lb (k0_t22_loop v0).ub (k0_t22_loop v0).st = _ from ht]; omega]
  iexact H

/-! ## The ring, whole and in cells -/

theorem RingE_union (S T U : Finset S33x28x8x128.Idx) (hS : S ⊆ U) (hT : U \ S = T) : iprop(RingE (F := F) c S ∗ RingE c T) ⊢ RingE c U := by
  subst hT
  unfold RingE
  iintro ⟨⟨%o, H1⟩, ⟨%o', H2⟩⟩
  iexists (fun i => if i ∈ S then o i else o' i)
  iapply (pointsTo_split_subset hS).2
  isplitl [H1]
  · iapply (Entails.of_eq (pointsTo_congr fun i hi => by rw [if_pos hi])) $$ H1
  · iapply (Entails.of_eq (pointsTo_congr fun i hi => by rw [if_neg (Finset.mem_sdiff.mp hi).2])) $$ H2

/-- The four store semaphores. -/
def Sems4 : SP F := iprop(semVal ((c : Thread nD τ), SemLoc.dma (scell 0)) 0 ∗ semVal ((c : Thread nD τ), SemLoc.dma (scell 1)) 0 ∗ semVal ((c : Thread nD τ), SemLoc.dma (scell 2)) 0 ∗ semVal ((c : Thread nD τ), SemLoc.dma (scell 3)) 0)

theorem bcell_mod (b m : ℕ) (hm : m < 4) (h : b % 4 = m) : bcell b = scell ⟨m, hm⟩ := by subst h; rfl

theorem ring_gather (n : ℕ) : iprop(RingE (F := F) c (ringA n) ∗ RingE c (ringC ((n + 1) % 4)) ∗ RingE c (ringC ((n + 2) % 4)) ∗ RingE c (ringC ((n + 3) % 4))) ⊢ RingE c Finset.univ := by
  iintro ⟨HA, H1, H2, H3⟩
  iapply (RingE_union c (Finset.univ \ ringC ((n + 3) % 4)) (ringC ((n + 3) % 4)) Finset.univ (Finset.subset_univ _) (by rw [Finset.sdiff_sdiff_eq_self (Finset.subset_univ _)]))
  isplitr [H3]
  · iapply (RingE_union c (ringB n) (ringC ((n + 2) % 4)) (Finset.univ \ ringC ((n + 3) % 4)) (by
      intro i hi; rw [mem_ringB] at hi; rw [Finset.mem_sdiff, mem_ringT]
      exact ⟨Finset.mem_univ _, by omega⟩) (by
      ext i
      have b : ((i 0 : Fin 33) : ℕ) < 33 := (i 0 : Fin 33).isLt
      rw [Finset.mem_sdiff, Finset.mem_sdiff, mem_ringT, mem_ringT, mem_ringB]
      constructor
      · rintro ⟨⟨-, h1⟩, h2⟩; omega
      · intro h; exact ⟨⟨Finset.mem_univ _, by omega⟩, by omega⟩))
    isplitr [H2]
    · iapply (RingE_union c (ringA n) (ringC ((n + 1) % 4)) (ringB n) (ringA_sub n) (ringB_sdiff n))
      isplitl [HA]; · iexact HA
      iexact H1
    · iexact H2
  · iexact H3

theorem sems_gather (n : ℕ) : iprop(semVal ((c : Thread nD τ), SemLoc.dma (bcell n)) 0 ∗ semVal ((c : Thread nD τ), SemLoc.dma (bcell (n + 1))) 0 ∗ semVal ((c : Thread nD τ), SemLoc.dma (bcell (n + 2))) 0 ∗ semVal ((c : Thread nD τ), SemLoc.dma (bcell (n + 3))) 0) ⊢ Sems4 (F := F) c := by
  have h : n % 4 = 0 ∨ n % 4 = 1 ∨ n % 4 = 2 ∨ n % 4 = 3 := by omega
  unfold Sems4
  rcases h with h | h | h | h
  · rw [bcell_mod n 0 (by decide) h, bcell_mod (n + 1) 1 (by decide) (by omega), bcell_mod (n + 2) 2 (by decide) (by omega), bcell_mod (n + 3) 3 (by decide) (by omega)]
    exact .rfl
  · rw [bcell_mod n 1 (by decide) h, bcell_mod (n + 1) 2 (by decide) (by omega), bcell_mod (n + 2) 3 (by decide) (by omega), bcell_mod (n + 3) 0 (by decide) (by omega)]
    iintro ⟨H0, H1, H2, H3⟩
    isplitl [H3]; · iexact H3
    isplitl [H0]; · iexact H0
    isplitl [H1]; · iexact H1
    iexact H2
  · rw [bcell_mod n 2 (by decide) h, bcell_mod (n + 1) 3 (by decide) (by omega), bcell_mod (n + 2) 0 (by decide) (by omega), bcell_mod (n + 3) 1 (by decide) (by omega)]
    iintro ⟨H0, H1, H2, H3⟩
    isplitl [H2]; · iexact H2
    isplitl [H3]; · iexact H3
    isplitl [H0]; · iexact H0
    iexact H1
  · rw [bcell_mod n 3 (by decide) h, bcell_mod (n + 1) 0 (by decide) (by omega), bcell_mod (n + 2) 1 (by decide) (by omega), bcell_mod (n + 3) 2 (by decide) (by omega)]
    iintro ⟨H0, H1, H2, H3⟩
    isplitl [H1]; · iexact H1
    isplitl [H2]; · iexact H2
    isplitl [H3]; · iexact H3
    iexact H0

/-- The ring in cells, at the start of a half. -/
theorem ring_start (h : ℕ) (r : RingBuf F) : iprop(((c : Thread nD τ).loc cc0_scratch1 ↦[Finset.univ]{fullShare} r) ∗ Sems4 c) ⊢ iprop(((c : Thread nD τ).loc cc0_scratch1 ↦[ringA 0]{fullShare} r)
    ∗ semVal ((c : Thread nD τ), SemLoc.dma (bcell 0)) 0 ∗ Slot (F := F) c Vo h (0 + 1) ∗ Slot c Vo h (0 + 2) ∗ Slot c Vo h (0 + 3)) := by
  rw [Slot_free c Vo (show 0 + 1 < 4 by decide), Slot_free c Vo (show 0 + 2 < 4 by decide), Slot_free c Vo (show 0 + 3 < 4 by decide)]
  unfold Sems4 RingE
  iintro ⟨Hr, H0, H1, H2, H3⟩
  ihave Hr := (pointsTo_split_subset (Finset.subset_univ (ringC ((0 + 1) % 4)))).1 $$ Hr
  icases Hr with ⟨HR1, Hr⟩
  ihave Hr := (pointsTo_split_subset (I := ringC ((0 + 2) % 4)) (by
    intro i hi; rw [mem_ringT] at hi; rw [Finset.mem_sdiff, mem_ringT]; exact ⟨Finset.mem_univ _, by omega⟩)).1 $$ Hr
  icases Hr with ⟨HR2, Hr⟩
  ihave Hr := (pointsTo_split_subset (I := ringC ((0 + 3) % 4)) (by
    intro i hi; rw [mem_ringT] at hi; rw [Finset.mem_sdiff, Finset.mem_sdiff, mem_ringT, mem_ringT]; exact ⟨⟨Finset.mem_univ _, by omega⟩, by omega⟩)).1 $$ Hr
  icases Hr with ⟨HR3, Hr⟩
  have e : ((Finset.univ \ ringC ((0 + 1) % 4)) \ ringC ((0 + 2) % 4)) \ ringC ((0 + 3) % 4) = ringA 0 := by
    ext i
    have b : ((i 0 : Fin 33) : ℕ) < 33 := (i 0 : Fin 33).isLt
    rw [Finset.mem_sdiff, Finset.mem_sdiff, Finset.mem_sdiff, mem_ringT, mem_ringT, mem_ringT, mem_ringA]
    constructor
    · rintro ⟨⟨⟨-, h1⟩, h2⟩, h3⟩; omega
    · intro h; exact ⟨⟨⟨Finset.mem_univ _, by omega⟩, by omega⟩, by omega⟩
  rw [e]
  isplitl [Hr]; · iexact Hr
  isplitl [H0]; · iexact H0
  isplitl [H1 HR1]
  · isplitl [H1]; · iexact H1
    iexists r; iexact HR1
  isplitl [H2 HR2]
  · isplitl [H2]; · iexact H2
    iexists r; iexact HR2
  isplitl [H3]; · iexact H3
  iexists r; iexact HR3

/-! ## The half -/

/-- The codes of half `h`, transposed, with the spare tile of `fT`. -/
def cwOf (g : WordBuf) (h : ℕ) (fT : CodeBuf) : CodeBuf := fun i => if i ∈ codeR 0 512 then packBuf (loadBuf g h) i else fT i

theorem codes_split (f : CodeBuf) : (((c : Thread nD τ).loc cc0_scratch0 ↦[Finset.univ]{fullShare} f) : SP F) ⊣⊢ iprop(((c : Thread nD τ).loc cc0_scratch0 ↦[codeR 0 512]{fullShare} f) ∗ ((c : Thread nD τ).loc cc0_scratch0 ↦[codeR 512 513]{fullShare} f)) := by
  have e : (Finset.univ : Finset S513x28x8x128.Idx) = codeR 0 513 := by
    ext i
    have b : ((i 0 : Fin 513) : ℕ) < 513 := (i 0 : Fin 513).isLt
    rw [mem_codeR]
    exact ⟨fun _ => ⟨Nat.zero_le _, b⟩, fun _ => Finset.mem_univ _⟩
  rw [e]
  exact codeR_split c 0 512 513 (by decide) (by decide) f

theorem codes_join (g : WordBuf) (h : ℕ) (f fT : CodeBuf) (hf : ∀ i ∈ codeR 512 513, f i = fT i) :
    iprop(((c : Thread nD τ).loc cc0_scratch0 ↦[codeR 0 512]{fullShare} packBuf (loadBuf g h)) ∗ ((c : Thread nD τ).loc cc0_scratch0 ↦[codeR 512 513]{fullShare} f)) ⊢ (((c : Thread nD τ).loc cc0_scratch0 ↦[Finset.univ]{fullShare} cwOf g h fT) : SP F) := by
  refine .trans ?_ (codes_split c _).2
  exact BI.Laws.sep_mono (codes_congr c _ _ _ fun i hi => (if_pos hi).symm) (codes_congr c _ _ _ fun i hi => (hf i hi).trans (if_neg (fun hh => by rw [mem_codeR] at hh hi; omega)).symm)

/-- The state between the halves. -/
def HS (fT : CodeBuf) (nu : ℕ) (a : BitVec 32) : SP F :=
  iprop((∃ d, ⌜W a d ∧ d ≤ 512 - 2 * nbl nu⌝ ∗ ZS c o0 nu d) ∗ Tabs c q0 q1 q2 g0 g1 g2 ∗ (∃ f : CodeBuf, ⌜∀ i ∈ codeR 512 513, f i = fT i⌝ ∗ ((c : Thread nD τ).loc cc0_scratch0 ↦[Finset.univ]{fullShare} f))
    ∗ RingE c Finset.univ ∗ Sems4 c ∗ bigSep (Finset.univ : Finset (Fin 16)) (fun p => semVal ((c : Thread nD τ), SemLoc.dma (lcell p)) 0) ∗ ∃ W, owes (c : Thread nD τ) 0 W)

theorem off93_eq : k0_off93 = ![224 * (0 / 8) + 0 % 8, 0] := by decide

theorem t15_trips (h : W v0 nu) (hu : nu ≤ 16384) : (k0_t15_loop v0).trips = 0 := rloop_trips W.zero (h.nb' hu) (Nat.zero_le _)
theorem t23_trips (h : W v0 nu) (hu : nu ≤ 16384) : (k0_t23_loop v0).trips = 0 := rloop_trips (h.drain hu) (h.nb' hu) (Nat.sub_le _ _)

/-- The loop over the blocks. -/
theorem t8_loop (arg12 : BitVec 32) (sp : BSpec Vo (tabF c arg0 g0 (by decide)) (tabF c arg1 g1 (by decide)) cw (k0_t1 : ℕ) nu np e w0 (k0_pay403 v44))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) (hok : (k0_t8_loop v0).OK) (init : FVec F S32x128 .f32 × BitVec 32 × BitVec 32) {kk : FVec F S32x128 .f32 × BitVec 32 × BitVec 32 → PG F α} :
    TI c Vo q0 q1 q2 g0 g1 g2 o0 sp 0 init.1 init.2.1 init.2.2 ⊢ iprop((∀ a, TI c Vo q0 q1 q2 g0 g1 g2 o0 sp (nbl nu) a.1 a.2.1 a.2.2 -∗ WP c (kk a) Q)
      -∗ WP c (Scf.Loop.for (k0_t8_loop v0) hok init (k0_t8_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12) >>= kk) Q) := by
  have ht := t8_trips h hu
  iintro H Hk
  iapply (Scf.wp_for_bind frame (wpE (defs₀ (F := F)) Variants.none (c : Thread nD τ) none) Set.univ (k0_t8_loop v0).lb (k0_t8_loop v0).ub (k0_t8_loop v0).st hok init (k0_t8_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12)
    (fun k a => TI c Vo q0 q1 q2 g0 g1 g2 o0 sp k a.1 a.2.1 a.2.2) (fun (t : Fin (k0_t8_loop v0).trips) acc =>
      t8_step c Vo q0 q1 q2 g0 g1 g2 o0 arg12 sp tk h hu h1 hu1 h22 h43 t acc.1 acc.2.1 acc.2.2)) $$ [H]
  · iexact H
  iintro %acc H
  iapply Hk
  rw [show Scf.trips (k0_t8_loop v0).lb (k0_t8_loop v0).ub (k0_t8_loop v0).st = nbl nu from ht]
  iexact H

theorem issued_zero' (φ : Fin 16 → SP F) : (iprop(emp) : SP F) ⊢ bigSep (Transfers.issued (m := 16) 0) φ := by
  rw [Transfers.issued_zero, bigSep_empty]
  exact .rfl

theorem pending_all (φ : Fin 16 → SP F) : bigSep Finset.univ φ ⊢ bigSep (Transfers.pending (n := 16) 0) φ := (Transfers.bigSep_pending_zero φ).symm ▸ .rfl

/-- One half of the columns. -/
theorem half (fT : CodeBuf) (g : WordBuf) (sp : BSpec Vo (tabF c arg0 g0 (by decide)) (tabF c arg1 g1 (by decide)) (cwOf g (k0_t1 : ℕ) fT) (k0_t1 : ℕ) nu np e (k0_pay399 v44) (k0_pay403 v44))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) :
    iprop(HS c q0 q1 q2 g0 g1 g2 o0 fT nu arg13 ∗ ((c : Thread nD τ).loc main_arg4 ↦[srcR (k0_t1 : ℕ) 0 16]{fullShare} g) ∗ ((c : Thread nD τ).loc main_v0 ↦[outR (k0_t1 : ℕ) 0 (nbl nu)]{fullShare} o0))
      ⊢ WP c (k0_part85 arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 0#32 1#32 k0_t1 arg13) (fun a => iprop(HS c q0 q1 q2 g0 g1 g2 o0 fT nu a
        ∗ ((c : Thread nD τ).loc main_arg4 ↦[srcR (k0_t1 : ℕ) 0 16]{fullShare} g) ∗ OutV c Vo (outR (k0_t1 : ℕ) 0 (nbl nu)))) := by
  unfold HS
  iintro ⟨⟨HZ, HT, ⟨%f, %hf, Hc⟩, HrE, HS4, HL, Hw⟩, Hg, Ho⟩
  ihave Hr := (Entails.of_eq (show RingE (F := F) c Finset.univ = iprop(∃ r : RingBuf F, ((c : Thread nD τ).loc cc0_scratch1 ↦[Finset.univ]{fullShare} r)) from rfl)) $$ HrE
  icases Hr with ⟨%r, Hr⟩
  simp only [k0_part85_eq_skeleton, k0_part85_skel, Prog.bind_assoc]
  ihave Hc := (codes_split c f).1 $$ Hc
  icases Hc with ⟨Hc, Hc5⟩
  iapply (t2_loop c arg0 harg0 arg1 harg1 arg2 harg2 arg3 harg3 v0 k0_hw2 v1 v20 v21 v22 v43 v44 0#32 1#32 k0_t1 arg13 _ g f) $$ [HL Hc Hg]
  · unfold L2
    isplitr
    · iapply (issued_zero' _); iempintro
    isplitl [HL]
    · iapply (pending_all _) $$ HL
    isplitl [Hc]; · iexact Hc
    iexact Hg
  unfold L2
  iintro ⟨HB, -, -, -⟩
  iapply (t3_loop c arg0 harg0 arg1 harg1 arg2 harg2 arg3 harg3 v0 k0_hw2 v1 v20 v21 v22 v43 v44 0#32 1#32 k0_t1 arg13 o0 g h hu h22 h43 (half_lt k0_t1)) $$ [HZ HB Hw]
  · unfold L3
    isplitl [HZ]; · iexact HZ
    isplitl [HB]
    · iapply (Entails.of_eq (by rw [Transfers.issued_all (rfl : 16 = 16), Transfers.bigSep_pending_zero])) $$ HB
    isplitr
    · iapply (issued_zero' _); iempintro
    isplitr
    · rw [show codeR 0 (32 * 0) = ∅ from by ext i; rw [mem_codeR]; simp, pointsTo_empty]
      iempintro
    isplitr
    · rw [show srcR (k0_t1 : ℕ) 0 0 = ∅ from by ext i; rw [mem_srcR]; simp, pointsTo_empty]
      iempintro
    iexact Hw
  iintro %a3 HL3
  unfold L3
  icases HL3 with ⟨⟨%d, %hd, HZ⟩, -, HL, Hc, Hg, Hw⟩
  ihave Hc := (codes_join c g (k0_t1 : ℕ) f fT hf) $$ [Hc Hc5]
  · isplitl [Hc]; · iexact Hc
    iexact Hc5
  iapply (ringLoad c 0 Finset.univ r off93_eq (fun i _ => Finset.mem_univ i)) $$ Hr
  iintro Hr %_
  iapply (ringStore c 0 Finset.univ r off93_eq (fun i _ => Finset.mem_univ i)) $$ Hr
  iintro Hr
  ihave Hr := (ring_start c Vo (k0_t1 : ℕ) _) $$ [Hr HS4]
  · isplitl [Hr]; · iexact Hr
    iexact HS4
  icases Hr with ⟨Hr, Hv, HS1, HS2, HS3⟩
  iapply (t8_loop c Vo q0 q1 q2 g0 g1 g2 o0 _ sp tk h hu h1 hu1 h22 h43) $$ [HZ HT Hc Hr Hv HS1 HS2 HS3 Ho Hw]
  · unfold TI
    iexists _, 0, d
    isplitr
    · ipureintro
      exact ⟨W.zero, hd.1, hd.2, le_of_eq (by rfl), by have := tk.np16; omega, sp.start r⟩
    isplitl [HZ]; · iexact HZ
    isplitl [HT]; · iexact HT
    isplitl [Hc]; · iexact Hc
    isplitl [Hr]; · iexact Hr
    isplitl [Hv]; · iexact Hv
    isplitl [HS1]; · iexact HS1
    isplitl [HS2]; · iexact HS2
    isplitl [HS3]; · iexact HS3
    isplitr
    · iapply (OutV_empty c Vo _ (by ext i; rw [mem_outR]; simp)); iempintro
    isplitl [Ho]; · iexact Ho
    iexact Hw
  iintro %a8 HTI
  unfold TI
  icases HTI with ⟨%r8, %G, %d8, %hI, HZ, HT, Hc, Hr, Hv, HS1, HS2, HS3, HO, -, Hw⟩
  obtain ⟨hy, hz, hd8, -⟩ := hI
  iapply (skip c (k0_t15_loop v0) _ (t15_trips h hu)) $$ HZ
  iintro HZ
  iapply (t22_loop c Vo h hu hu1) $$ [HO HS1 HS2 HS3 Hw]
  · unfold DR
    rw [SlotD_eq c Vo _ _ nu (by omega), SlotD_eq c Vo _ _ nu (by omega), SlotD_eq c Vo _ _ nu (by omega)]
    isplitl [HO]; · iexact HO
    isplitl [HS1]; · iexact HS1
    isplitl [HS2]; · iexact HS2
    isplitl [HS3]; · iexact HS3
    iexact Hw
  iintro %a22 HD
  iapply (skip c (k0_t23_loop v0) _ (t23_trips h hu)) $$ HZ
  iintro HZ
  unfold DR
  rw [SlotD_done c Vo _ _ _ (show nbl nu + 1 < 4 + nbl nu by omega), SlotD_done c Vo _ _ _ (show nbl nu + 2 < 4 + nbl nu by omega), SlotD_done c Vo _ _ _ (show nbl nu + 3 < 4 + nbl nu by omega)]
  unfold Free
  icases HD with ⟨HO, ⟨Hv1, HR1⟩, ⟨Hv2, HR2⟩, ⟨Hv3, HR3⟩, Hw⟩
  iapply (Idealize.SL.Sem.le_wp_ret _ _)
  isplitr [HO Hg]
  · isplitl [HZ]
    · iexists d8
      isplitr
      · ipureintro; exact ⟨hz, hd8⟩
      iexact HZ
    isplitl [HT]; · iexact HT
    isplitl [Hc]
    · iexists _
      isplitr
      rotate_left
      · iexact Hc
      · ipureintro
        exact fun i hi => if_neg (fun hh => by rw [mem_codeR] at hh hi; omega)
    isplitl [Hr HR1 HR2 HR3]
    · iapply (ring_gather c (nbl nu))
      isplitl [Hr]
      · unfold RingE; iexists r8; iexact Hr
      isplitl [HR1]; · iexact HR1
      isplitl [HR2]; · iexact HR2
      iexact HR3
    isplitl [Hv Hv1 Hv2 Hv3]
    · iapply (sems_gather c (nbl nu))
      isplitl [Hv]; · iexact Hv
      isplitl [Hv1]; · iexact Hv1
      isplitl [Hv2]; · iexact Hv2
      iexact Hv3
    isplitl [HL]
    · iapply (Entails.of_eq (by rw [Transfers.issued_all (rfl : 16 = 16)])) $$ HL
    iexact Hw
  · isplitl [Hg]; · iexact Hg
    iexact HO

end Cert.Proof.Kernel

end
-- ==== Proof.Main.Whole.lean ====
module

public import Idealize.ShloMosaic.Lib.Batch
public import proofs.«01_k».proof.Proof.Main.Half

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The whole kernel. -/

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
variable (q0 q1 q2 q3 : PosShare TreeShare) (g0 : Buf (Elt F) (arg0.view.loc (c : Thread nD τ))) (g1 : Buf (Elt F) (arg1.view.loc (c : Thread nD τ))) (g2 : Buf (Elt F) (arg2.view.loc (c : Thread nD τ))) (g3 : Buf (Elt F) (arg3.view.loc (c : Thread nD τ)))
variable {nu np : ℕ} {e : ℕ → ℕ} (o0 : OutBuf F)

theorem src_split (g : WordBuf) : (((c : Thread nD τ).loc main_arg4 ↦[Finset.univ]{fullShare} g) : SP F) ⊣⊢ iprop(((c : Thread nD τ).loc main_arg4 ↦[srcR 0 0 16]{fullShare} g) ∗ ((c : Thread nD τ).loc main_arg4 ↦[srcR 1 0 16]{fullShare} g)) := by
  have e : (Finset.univ : Finset S4096x7168.Idx) \ srcR 0 0 16 = srcR 1 0 16 := by
    ext i
    have b : ((i 0 : Fin 4096) : ℕ) < 4096 := (i 0 : Fin 4096).isLt
    have b1 : ((i 1 : Fin 7168) : ℕ) < 7168 := (i 1 : Fin 7168).isLt
    rw [Finset.mem_sdiff, mem_srcR, mem_srcR]
    constructor
    · rintro ⟨-, h⟩; omega
    · intro h; exact ⟨Finset.mem_univ _, by omega⟩
  rw [← e]
  exact pointsTo_split_subset (Finset.subset_univ _)

theorem out_sub (nu : ℕ) : outR 0 0 (nbl nu) ⊆ tiles 0 (8 * nbl nu) := by
  intro i hi; rw [mem_outR] at hi; rw [mem_tiles]; omega
theorem out_rest (nu : ℕ) : tiles 0 (8 * nbl nu) \ outR 0 0 (nbl nu) = outR 1 0 (nbl nu) := by
  ext i
  have b : ((i 1 : Fin 56) : ℕ) < 56 := (i 1 : Fin 56).isLt
  rw [Finset.mem_sdiff, mem_outR, mem_outR, mem_tiles]; omega
theorem tiles_rest (m : ℕ) : (Finset.univ : Finset S2048x56x8x128.Idx) \ tiles 0 m = tiles m 2048 := by
  ext i
  have b : ((i 0 : Fin 2048) : ℕ) < 2048 := (i 0 : Fin 2048).isLt
  rw [Finset.mem_sdiff, mem_tiles, mem_tiles]
  constructor
  · rintro ⟨-, h⟩; omega
  · intro h; exact ⟨Finset.mem_univ _, by omega⟩

/-- The output of half `h`, written once half `h` is done. -/
def HO (nu k h : ℕ) : SP F := if h < k then OutV c Vo (outR h 0 (nbl nu)) else ((c : Thread nD τ).loc main_v0 ↦[outR h 0 (nbl nu)]{fullShare} o0)

/-- The state at half `k`. -/
def HI (fT : CodeBuf) (g : WordBuf) (nu k : ℕ) (a : BitVec 32) : SP F :=
  iprop(HS c q0 q1 q2 g0 g1 g2 o0 fT nu a ∗ (((c : Thread nD τ).loc main_arg4 ↦[srcR 0 0 16]{fullShare} g) ∗ ((c : Thread nD τ).loc main_arg4 ↦[srcR 1 0 16]{fullShare} g)) ∗ HO c Vo o0 nu k 0 ∗ HO c Vo o0 nu k 1)

/-- The loop over the two halves. -/
theorem t1_loop {v0 v1 v20 v21 v22 v24 v26 v27 v43 : BitVec 32} {k0_hw2 : k0_chk2 v0} {v38 : BitVec 1} (fT : CodeBuf) (g : WordBuf)
    (sp : ∀ h : ℕ, h < 2 → BSpec Vo (tabF c arg0 g0 (by decide)) (tabF c arg1 g1 (by decide)) (cwOf g h fT) h nu np e (k0_pay399 (k0_pay409 (F := F))) (k0_pay403 (k0_pay409 (F := F))))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) (hok : k0_t1_loop.OK) (init : BitVec 32) {kk : BitVec 32 → PG F α} :
    HI c Vo q0 q1 q2 g0 g1 g2 o0 fT g nu 0 init ⊢ iprop((∀ a, HI c Vo q0 q1 q2 g0 g1 g2 o0 fT g nu 2 a -∗ WP c (kk a) Q)
      -∗ WP c (Scf.Loop.for k0_t1_loop hok init (k0_t1_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v24 v26 v27 v38 v43) >>= kk) Q) := by
  iintro H Hk
  iapply (Scf.wp_for_bind frame (wpE (defs₀ (F := F)) Variants.none (c : Thread nD τ) none) Set.univ k0_t1_loop.lb k0_t1_loop.ub k0_t1_loop.st hok init (k0_t1_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v24 v26 v27 v38 v43)
    (fun k a => HI c Vo q0 q1 q2 g0 g1 g2 o0 fT g nu k a) (fun (t : Fin k0_t1_loop.trips) acc => by
      have hf := half c Vo (harg0 := harg0) (harg1 := harg1) (harg2 := harg2) (harg3 := harg3) (arg3 := arg3) (arg13 := acc) (k0_hw2 := k0_hw2) (v20 := v20) (v21 := v21) q0 q1 q2 g0 g1 g2 o0 fT g (sp (t : ℕ) (half_lt t)) tk h hu h1 hu1 h22 h43
      have ht : (t : ℕ) = 0 ∨ (t : ℕ) = 1 := by have := half_lt t; omega
      simp only [k0_t1_body]
      unfold HI HO
      rcases ht with ht | ht
      · rw [ht] at hf ⊢
        rw [if_neg (by decide), if_neg (by decide), if_pos (by decide), if_neg (by decide)]
        iintro ⟨HS, ⟨Hg, Hg'⟩, Ho, Ho'⟩
        ihave Hw := hf $$ [HS Hg Ho]
        · isplitl [HS]; · iexact HS
          isplitl [Hg]; · iexact Hg
          iexact Ho
        iapply (WP_wand c) $$ Hw
        iintro %a ⟨HS, Hg, HO⟩
        isplitl [HS]; · iexact HS
        isplitl [Hg Hg']
        · isplitl [Hg]; · iexact Hg
          iexact Hg'
        isplitl [HO]; · iexact HO
        iexact Ho'
      · rw [ht] at hf ⊢
        rw [if_pos (by decide), if_neg (by decide), if_pos (by decide), if_pos (by decide)]
        iintro ⟨HS, ⟨Hg', Hg⟩, Ho', Ho⟩
        ihave Hw := hf $$ [HS Hg Ho]
        · isplitl [HS]; · iexact HS
          isplitl [Hg]; · iexact Hg
          iexact Ho
        iapply (WP_wand c) $$ Hw
        iintro %a ⟨HS, Hg, HO⟩
        isplitl [HS]; · iexact HS
        isplitl [Hg Hg']
        · isplitl [Hg']; · iexact Hg'
          iexact Hg
        isplitl [Ho']; · iexact Ho'
        iexact HO)) $$ [H]
  · iexact H
  iintro %acc H
  iapply Hk
  rw [show Scf.trips k0_t1_loop.lb k0_t1_loop.ub k0_t1_loop.st = 2 from by decide]
  iexact H

/-- Storing the zeros. -/
theorem zStore {inb : ∀ a, (![0, 0, 0, 0] : Fin 4 → ℕ) a + S4x56x8x128.size a ≤ S4x56x8x128.size a} {hx hm} {k : PUnit → PG F α} (z : ZBuf F) :
    (((c : Thread nD τ).loc cc0_scratch2 ↦[Finset.univ]{fullShare} z) : SP F)
      ⊢ iprop((((c : Thread nD τ).loc cc0_scratch2 ↦[Finset.univ]{fullShare} zBuf) -∗ WP c (k ⟨⟩) Q)
        -∗ WP c (.op (.store (Memref.whole cc0_scratch2) (Rect.unit (s := S4x56x8x128) ![0, 0, 0, 0] S4x56x8x128.size inb) (k0_pay410 (F := F)) Finset.univ hx hm) k) Q) := by
  have hw : ∀ i ∈ (Finset.univ : Finset S4x56x8x128.Idx), ((Memref.whole cc0_scratch2).access (Rect.unit (s := S4x56x8x128) ![0, 0, 0, 0] S4x56x8x128.size inb)).write (Elt F) z (k0_pay410 (F := F)) Finset.univ i = zBuf i := by
    intro i _
    have hi : ((Memref.whole cc0_scratch2).access (Rect.unit (s := S4x56x8x128) ![0, 0, 0, 0] S4x56x8x128.size inb)).emb i = i := by
      funext a
      match a with
      | ⟨0, _⟩ => exact Fin.ext (show 0 + 1 * ((i 0 : Fin 4) : ℕ) = ((i 0 : Fin 4) : ℕ) by omega)
      | ⟨1, _⟩ => exact Fin.ext (show 0 + 1 * ((i 1 : Fin 56) : ℕ) = ((i 1 : Fin 56) : ℕ) by omega)
      | ⟨2, _⟩ => exact Fin.ext (show 0 + 1 * ((i 2 : Fin 8) : ℕ) = ((i 2 : Fin 8) : ℕ) by omega)
      | ⟨3, _⟩ => exact Fin.ext (show 0 + 1 * ((i 3 : Fin 128) : ℕ) = ((i 3 : Fin 128) : ℕ) by omega)
    have := View.write_emb_of_mem (Val := Elt F) (v := ((Memref.whole cc0_scratch2).access (Rect.unit (s := S4x56x8x128) ![0, 0, 0, 0] S4x56x8x128.size inb))) (f := z) (w := k0_pay410 (F := F)) (Finset.mem_univ i)
    rw [hi] at this
    rw [this]
    rfl
  have key := wp_store (hx := hx) (hm := hm) (k := k) (Q := Q) (w := k0_pay410 (F := F)) (f := z) (S := Finset.univ) (defs := defs₀ (F := F)) (Γ := .empty) Variants.none (c : Thread nD τ) none Set.univ
    (m := Memref.whole cc0_scratch2) (r := Rect.unit (s := S4x56x8x128) ![0, 0, 0, 0] S4x56x8x128.size inb) (Mk := Finset.univ) (Finset.subset_univ _)
  exact key.trans (wand_mono_left (wand_mono_left (le_of_eq (pointsTo_congr hw))))

theorem zLoad {inb : ∀ a, (![0, 0, 0, 0] : Fin 4 → ℕ) a + S4x56x8x128.size a ≤ S4x56x8x128.size a} {hl} {k : (S4x56x8x128.Idx → Elt F .f32) → PG F α} (z : ZBuf F) :
    (((c : Thread nD τ).loc cc0_scratch2 ↦[Finset.univ]{fullShare} z) : SP F)
      ⊢ iprop((((c : Thread nD τ).loc cc0_scratch2 ↦[Finset.univ]{fullShare} z) -∗ ∀ x, WP c (k x) Q)
        -∗ WP c (.op (.load (Memref.whole cc0_scratch2) (Rect.unit (s := S4x56x8x128) ![0, 0, 0, 0] S4x56x8x128.size inb).toLoadRect hl) k) Q) := by
  have key := wp_load (hl := hl) (k := k) (Q := Q) (f := z) (q := fullShare) (S := Finset.univ) (defs := defs₀ (F := F)) Variants.none (c : Thread nD τ) none (Γ := .empty) Set.univ
    (m := Memref.whole cc0_scratch2) (r := (Rect.unit (s := S4x56x8x128) ![0, 0, 0, 0] S4x56x8x128.size inb).toLoadRect) (Finset.subset_univ _)
  iintro H Hk
  iapply key $$ H
  iintro H
  ispecialize Hk $$ H
  iapply Hk

/-- The spare tile's first store. -/
theorem sLoad {off : Fin 4 → ℕ} {inb : ∀ a, off a + S1x1x8x128.size a ≤ S513x28x8x128.size a} {hl} {k : (S1x1x8x128.Idx → Elt F .i32) → PG F α} (z : CodeBuf) :
    (((c : Thread nD τ).loc cc0_scratch0 ↦[Finset.univ]{fullShare} z) : SP F)
      ⊢ iprop((((c : Thread nD τ).loc cc0_scratch0 ↦[Finset.univ]{fullShare} z) -∗ ∀ x, WP c (k x) Q)
        -∗ WP c (.op (.load (Memref.whole cc0_scratch0) (Rect.unit (s := S513x28x8x128) off S1x1x8x128.size inb).toLoadRect hl) k) Q) := by
  have key := wp_load (hl := hl) (k := k) (Q := Q) (f := z) (q := fullShare) (S := Finset.univ) (defs := defs₀ (F := F)) Variants.none (c : Thread nD τ) none (Γ := .empty) Set.univ
    (m := Memref.whole cc0_scratch0) (r := (Rect.unit (s := S513x28x8x128) off S1x1x8x128.size inb).toLoadRect) (Finset.subset_univ _)
  iintro H Hk
  iapply key $$ H
  iintro H
  ispecialize Hk $$ H
  iapply Hk

theorem sStore {off : Fin 4 → ℕ} {inb : ∀ a, off a + S1x1x8x128.size a ≤ S513x28x8x128.size a} {w : S1x1x8x128.Idx → BitVec 32} {hx hm} {k : PUnit → PG F α} (z : CodeBuf) :
    (((c : Thread nD τ).loc cc0_scratch0 ↦[Finset.univ]{fullShare} z) : SP F)
      ⊢ iprop((∀ f : CodeBuf, ((c : Thread nD τ).loc cc0_scratch0 ↦[Finset.univ]{fullShare} f) -∗ WP c (k ⟨⟩) Q)
        -∗ WP c (.op (.store (Memref.whole cc0_scratch0) (Rect.unit (s := S513x28x8x128) off S1x1x8x128.size inb) w Finset.univ hx hm) k) Q) := by
  have key := wp_store (hx := hx) (hm := hm) (k := k) (Q := Q) (w := w) (f := z) (S := Finset.univ) (defs := defs₀ (F := F)) (Γ := .empty) Variants.none (c : Thread nD τ) none Set.univ
    (m := Memref.whole cc0_scratch0) (r := Rect.unit (s := S513x28x8x128) off S1x1x8x128.size inb) (Mk := Finset.univ) (Finset.subset_univ _)
  iintro H Hk
  iapply key $$ H
  iintro H
  iapply Hk $$ H

theorem starts24 {v0 v1 v20 v21 v22 v24 v26 v27 v54 : BitVec 32} {k0_hw2 : k0_chk2 v0} {v38 : BitVec 1} (hw : k0_chk71 v0 v54) {d : ℕ} (h : W v0 nu) (hu : nu ≤ 16384) (ha : W v54 d) (k : Fin (k0_t24_loop v0 v54).trips) (hd : d + (k : ℕ) ≤ 512) (acc : BitVec 32) :
    StartsZero (F := F) nu d (k : ℕ) (k0_t24_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v24 v26 v27 v38 v54 hw k acc) := by
  refine ⟨_, _, _, _, _, ?_, rfl⟩
  have e := zoff (k := (k : ℕ)) h hu ha hd
  exact congrArg (fun n : ℕ => (![n, 0, 0, 0] : Fin 4 → ℕ)) e

/-- The kernel, from its buffers, semaphores and tables, to the same with the output written. -/
theorem segsum (g : WordBuf)
    (sp : ∀ fT : CodeBuf, ∀ h : ℕ, h < 2 → BSpec Vo (tabF c arg0 g0 (by decide)) (tabF c arg1 g1 (by decide)) (cwOf g h fT) h nu np e (k0_pay399 (k0_pay409 (F := F))) (k0_pay403 (k0_pay409 (F := F))))
    (hz : ∀ i ∈ tiles (8 * nbl nu) 2048, Vo i fz)
    (tk : Toks (tabF c arg0 g0 (by decide)) (tabF c arg2 g2 (by decide)) nu np e)
    (h : W (tabF (F := F) c arg3 g3 (by decide) 0) nu) (hu : nu ≤ 16384) (h1 : W (tabF (F := F) c arg3 g3 (by decide) 1) np) (hu1 : 1 ≤ nu) :
    iprop((∃ f : CodeBuf, ((c : Thread nD τ).loc cc0_scratch0 ↦[Finset.univ]{fullShare} f)) ∗ RingE c Finset.univ ∗ (∃ z : ZBuf F, ((c : Thread nD τ).loc cc0_scratch2 ↦[Finset.univ]{fullShare} z))
        ∗ Tabs c q0 q1 q2 g0 g1 g2 ∗ (arg3.view.loc (c : Thread nD τ) ↦[arg3.view.set]{q3} g3) ∗ bigSep (Finset.univ : Finset (Fin 16)) (fun p => semVal ((c : Thread nD τ), SemLoc.dma (lcell p)) 0) ∗ Sems4 c ∗ semVal ((c : Thread nD τ), SemLoc.dma zsem) 0
        ∗ ((c : Thread nD τ).loc main_arg4 ↦[Finset.univ]{fullShare} g) ∗ ((c : Thread nD τ).loc main_v0 ↦[Finset.univ]{fullShare} o0) ∗ ∃ W, owes (c : Thread nD τ) 0 W)
      ⊢ WP c (cc0_segment_sum arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => iprop((∃ f : CodeBuf, ((c : Thread nD τ).loc cc0_scratch0 ↦[Finset.univ]{fullShare} f)) ∗ RingE c Finset.univ ∗ (∃ z : ZBuf F, ((c : Thread nD τ).loc cc0_scratch2 ↦[Finset.univ]{fullShare} z))
        ∗ Tabs c q0 q1 q2 g0 g1 g2 ∗ (arg3.view.loc (c : Thread nD τ) ↦[arg3.view.set]{q3} g3) ∗ bigSep (Finset.univ : Finset (Fin 16)) (fun p => semVal ((c : Thread nD τ), SemLoc.dma (lcell p)) 0) ∗ Sems4 c ∗ semVal ((c : Thread nD τ), SemLoc.dma zsem) 0
        ∗ ((c : Thread nD τ).loc main_arg4 ↦[Finset.univ]{fullShare} g) ∗ OutV c Vo Finset.univ ∗ ∃ W, owes (c : Thread nD τ) 0 W)) := by
  have hnb := nbl_le hu
  iintro ⟨⟨%f, Hc⟩, HR, ⟨%z, Hz⟩, HT, H3, HL, HS4, Hzs, Hg, Ho, Hw⟩
  simp only [cc0_segment_sum_eq_skeleton, cc0_segment_sum_skel, k0_part86_eq_skeleton, k0_part86_skel, k0_part87_eq_skeleton, k0_part87_skel, Prog.bind_assoc]
  iapply (tabLoad' c (m := arg3) (by decide) 0 q3 g3 rfl) $$ H3
  iintro H3
  iapply (wp_assume Variants.none (c : Thread nD τ) none Set.univ (chkU h hu hu1))
  iapply (tabLoad' c (m := arg3) (by decide) 1 q3 g3 rfl) $$ H3
  iintro H3
  simp only [Prog.pure_eq_ret, Prog.bind_ret]
  iapply (zLoad c z) $$ Hz
  iintro Hz %_
  iapply (zStore c z) $$ Hz
  iintro Hz
  iapply (sLoad c f) $$ Hc
  iintro Hc %_
  iapply (sStore c f) $$ Hc
  iintro %fT Hc
  ihave Ho := (pointsTo_split_subset (Finset.subset_univ (tiles 0 (8 * nbl nu)))).1 $$ Ho
  icases Ho with ⟨Ho, Hoz⟩
  rw [tiles_rest]
  ihave Ho := (pointsTo_split_subset (out_sub nu)).1 $$ Ho
  icases Ho with ⟨Ho, Ho1⟩
  rw [out_rest]
  ihave Hg := (src_split c g).1 $$ Hg
  icases Hg with ⟨Hg, Hg1⟩
  imod (zinit c o0 nu) $$ [Hzs Hz Hoz] with HZ
  · isplitl [Hzs]; · iexact Hzs
    isplitl [Hz]; · iexact Hz
    iexact Hoz
  iapply (t1_loop c Vo q0 q1 q2 g0 g1 g2 o0 fT g (sp fT) tk h hu h1 hu1 rfl rfl) $$ [HZ HT Hc HR HS4 HL Hw Hg Hg1 Ho Ho1]
  · unfold HI HS HO
    rw [if_neg (show ¬ 0 < 0 by decide), if_neg (show ¬ 1 < 0 by decide)]
    isplitl [HZ HT Hc HR HS4 HL Hw]
    · isplitl [HZ]
      · iexists 0
        isplitr
        · ipureintro; exact ⟨W.zero, Nat.zero_le _⟩
        iexact HZ
      isplitl [HT]; · iexact HT
      isplitl [Hc]
      · iexists fT
        isplitr
        · ipureintro; exact fun _ _ => rfl
        iexact Hc
      isplitl [HR]; · iexact HR
      isplitl [HS4]; · iexact HS4
      isplitl [HL]; · iexact HL
      iexact Hw
    isplitl [Hg Hg1]
    · isplitl [Hg]; · iexact Hg
      iexact Hg1
    isplitl [Ho]; · iexact Ho
    iexact Ho1
  iintro %v54 HH
  unfold HI HS HO
  rw [if_pos (show 0 < 2 by decide), if_pos (show 1 < 2 by decide)]
  icases HH with ⟨⟨⟨%d, %hd, HZ⟩, HT, ⟨%f', -, Hc⟩, HR, HS4, HL, Hw⟩, ⟨Hg, Hg1⟩, Ho, Ho1⟩
  have hw71 := chkZF h hu hd.1 hd.2
  have hz0 : W (nzW (tabF (F := F) c arg3 g3 (by decide) 0)) (512 - 2 * nbl nu) := h.nz hu
  iapply (wp_assume Variants.none (c : Thread nD τ) none Set.univ hw71)
  iapply (zloop c o0 hu hd.1 hz0 hd.2 le_rfl _ _ _ (fun k acc => starts24 hw71 h hu hd.1 k
    (by have := lt_of_lt_of_eq k.isLt (uloop_trips hd.1 hz0 hd.2); omega) acc)) $$ HZ
  iintro %a24 HZ
  iapply (skip c (k0_t25_loop _ v54) _ (rloop_trips hd.1 hz0 hd.2)) $$ HZ
  iintro HZ
  iapply (zwaits c o0 hu hz0 _ _ _ (fun k acc => ⟨_, _, _, _, rfl⟩)) $$ [HZ Hw]
  · isplitl [HZ]; · iexact HZ
    iexact Hw
  iintro %a26 ⟨Hz, Hoz, Hzs, Hw⟩
  iapply (skip c (k0_t27_loop _) _ (rloop_trips W.zero hz0 (Nat.zero_le _))) $$ Hw
  iintro Hw
  iapply (Idealize.SL.Sem.le_wp_ret _ _)
  isplitl [Hc]; · iexists f'; iexact Hc
  isplitl [HR]; · iexact HR
  isplitl [Hz]; · iexists zBuf; iexact Hz
  isplitl [HT]; · iexact HT
  isplitl [H3]; · iexact H3
  isplitl [HL]; · iexact HL
  isplitl [HS4]; · iexact HS4
  isplitl [Hzs]; · iexact Hzs
  isplitl [Hg Hg1]
  · iapply (src_split c g).2
    isplitl [Hg]; · iexact Hg
    iexact Hg1
  isplitl [Ho Ho1 Hoz]
  · iapply (OutV_union c Vo (tiles 0 (8 * nbl nu)) (tiles (8 * nbl nu) 2048) Finset.univ (Finset.subset_univ _) (tiles_rest _))
    isplitl [Ho Ho1]
    · iapply (OutV_union c Vo (outR 0 0 (nbl nu)) (outR 1 0 (nbl nu)) _ (out_sub nu) (out_rest nu))
      isplitl [Ho]; · iexact Ho
      iexact Ho1
    · unfold OutV
      iexists zOut
      isplitr
      · ipureintro; exact hz
      iexact Hoz
  iexact Hw

end Cert.Proof.Kernel

end
-- ==== Proof.Main.Launch.lean ====
module

public import Idealize.ShloMosaic.Lib.Pipeline.KitQuiescent
public import Idealize.ShloMosaic.Lib.Pipeline.Frame
public import Idealize.ShloMosaic.Lib.Tactic
public import Idealize.ShloMosaic.Lib.Batch
public import proofs.«01_k».proof.Proof.Main.Whole

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Pipeline (Dat Cfg Window BodyObligation cellOf kernel pipe)
open Idealize.ShloMosaic.Rounds
open Idealize.SL.BI.BIBase Idealize.SL.BI.Laws Idealize.SL.ProofMode Idealize.SL.Sem

variable {F : FTy → Type} [FloatOps F]

/-! The launch: the kernel's own semaphores and buffers, the pipeline's proof data, the run. -/

section
variable (c : Dev nD)

/-- The kernel's own semaphores: 16 for the loads, 4 for the stores, 1 for the zeros. -/
abbrev osem0 : Fin 21 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 21 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : SP F)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6, 7, 8, 9, 10, 11, 12, 13, 14, 15, 16, 17, 18, 19, 20] (by decide) (by decide)]; rfl

theorem loads_eq : (bigSep (Finset.univ : Finset (Fin 16)) (fun p => semVal ((c : Thread nD τ), SemLoc.dma (lcell p)) 0) : SP F)
    = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide)]; rfl
theorem stores_eq : (Sems4 c : SP F) = iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := rfl

theorem own_open : (Pipeline.ownSems0 (Ix := Unit) (Name := ℕ) (U := Pipeline.UD sig nD τ) (Lvl := ℕ) (Val := Elt F) (τ := τ) osem0 c : SP F)
    ⊣⊢ iprop(bigSep (Finset.univ : Finset (Fin 16)) (fun p => semVal ((c : Thread nD τ), SemLoc.dma (lcell p)) 0) ∗ Sems4 c ∗ semVal ((c : Thread nD τ), SemLoc.dma zsem) 0) := by
  rw [ownSems00_eq, loads_eq, stores_eq]
  constructor
  · iintro ⟨H0, H1, H2, H3, H4, H5, H6, H7, H8, H9, H10, H11, H12, H13, H14, H15, H16, H17, H18, H19, H20⟩
    isplitl [H0 H1 H2 H3 H4 H5 H6 H7 H8 H9 H10 H11 H12 H13 H14 H15]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [H16 H17 H18 H19]
    · isplitl [H16]; · iexact H16
      isplitl [H17]; · iexact H17
      isplitl [H18]; · iexact H18
      iexact H19
    iexact H20
  · iintro ⟨⟨H0, H1, H2, H3, H4, H5, H6, H7, H8, H9, H10, H11, H12, H13, H14, H15⟩, ⟨H16, H17, H18, H19⟩, H20⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
end

variable (m : (ℓ : Loc nD τ sig) → Buf (Elt F) ℓ) (ρ : Dev nD → PrngReg) (Vo : Dev nD → S2048x56x8x128.Idx → Elt F .f32 → Prop)

/-- The tables as functions of a position. -/
def T0 (c : Dev nD) (i : ℕ) : BitVec 32 := m ((c : Thread nD τ).loc main_arg0) (ix1 (⟨i % 17408, Nat.mod_lt _ (by decide)⟩ : Fin 17408))
def T1 (c : Dev nD) (i : ℕ) : F .f32 := m ((c : Thread nD τ).loc main_arg1) (ix1 (⟨i % 17408, Nat.mod_lt _ (by decide)⟩ : Fin 17408))
def T2 (c : Dev nD) (i : ℕ) : BitVec 32 := m ((c : Thread nD τ).loc main_arg2) (ix1 (⟨i % 16385, Nat.mod_lt _ (by decide)⟩ : Fin 16385))
def T3 (c : Dev nD) (i : ℕ) : BitVec 32 := m ((c : Thread nD τ).loc main_arg3) (ix1 (⟨i % 2, Nat.mod_lt _ (by decide)⟩ : Fin 2))
/-- The packed codes. -/
def GW (c : Dev nD) : WordBuf := m ((c : Thread nD τ).loc main_arg4)

/-- What the arguments satisfy on core `c`, with `nu` distinct tokens, `np` padding tokens and block ends `e`; and
    what the tokens then compute. -/
structure Ready (c : Dev nD) where
  nu : ℕ
  np : ℕ
  e : ℕ → ℕ
  hu : nu ≤ 16384
  hu1 : 1 ≤ nu
  wu : W (T3 m c 0) nu
  wp : W (T3 m c 1) np
  tk : Toks (T0 m c) (T2 m c) nu np e
  hz : ∀ i ∈ tiles (8 * nbl nu) 2048, Vo c i fz
  sp : ∀ fT : CodeBuf, ∀ h : ℕ, h < 2 → BSpec (Vo c) (T0 m c) (T1 m c) (cwOf (GW m c) h fT) h nu np e (k0_pay399 (k0_pay409 (F := F))) (k0_pay403 (k0_pay409 (F := F)))

/-- The kernel's state between points: before the one point, and after it. -/
def Phi0 (c : Dev nD) : SP F :=
  iprop(((c : Thread nD τ).loc main_arg4 ↦{fullShare} GW m c) ∗ (∃ o : OutBuf F, ((c : Thread nD τ).loc main_v0 ↦{fullShare} o))
    ∗ Pipeline.ownSems0 (Ix := Unit) (Name := ℕ) (U := Pipeline.UD sig nD τ) (Lvl := ℕ) (Val := Elt F) (τ := τ) osem0 c ∗ Pipeline.scopedRest spec0 c)
def Phi1 (c : Dev nD) : SP F :=
  iprop(((c : Thread nD τ).loc main_arg4 ↦{fullShare} GW m c) ∗ OutV c (Vo c) Finset.univ
    ∗ Pipeline.ownSems0 (Ix := Unit) (Name := ℕ) (U := Pipeline.UD sig nD τ) (Lvl := ℕ) (Val := Elt F) (τ := τ) osem0 c ∗ Pipeline.scopedRest spec0 c)

/-- The pipeline's proof data. -/
def dats (_ : Fin 1) (c : Dev nD) : Dat τ (Elt F) Unit ℕ (Pipeline.UD sig nD τ) ℕ cfg0 c where
  A w := V m c (Pipeline.arrRef spec0 w)
  after w := match w with | ⟨0, _⟩ => fun t => iblk m c 0 t | ⟨1, _⟩ => fun t => iblk m c 1 t | ⟨2, _⟩ => fun t => iblk m c 2 t | ⟨3, _⟩ => fun t => iblk m c 3 t
  Φ i := if (i : ℕ) = 0 then Phi0 m c else Phi1 m Vo c
  q _ := fullShare
  owed _ := 0

theorem A_eq (c : Dev nD) (w : Fin cfg0.W) : (dats m Vo 0 c).A w = V m c (Pipeline.arrRef spec0 w) := by dsimp only [dats]

theorem before_0 (c : Dev nD) (t : Fin cfg0.N) (d) : (dats m Vo 0 c).before 0 t d = iblk m c 0 t :=
  ((dats m Vo 0 c).before_in_eq_fetched 0 rfl (fun _ => rfl) (fun _ _ _ => rfl) (fun t => by rw [show (dats m Vo 0 c).after 0 t = iblk m c 0 t from rfl]; unfold Dat.blockOf iblk; rw [A_eq]; try rfl) t d).trans
    (by unfold Dat.fetched Dat.blockOf iblk; rw [A_eq]; try rfl)
theorem iblk_0 (c : Dev nD) (t : Fin cfg0.N) (x : S17408.Idx) : iblk m c 0 t x = m ((c : Thread nD τ).loc main_arg0) x := by
  rw [fin_N0 t]
  exact congrFun (show (win0_0.blk t0_0).view.read (Elt F) (m ((c : Thread nD τ).loc main_arg0)) = m ((c : Thread nD τ).loc main_arg0) from
    Memref.read_access_unit_zero (Elt F) main_arg0
      (show (fun a => (win0_0.index t0_0) a * main_arg0.ty.shape.size a) = fun _ => 0 from funext fun a => Nat.zero_mul _)
      (fun a => by fin_cases a; exact (Nat.zero_mul _).symm ▸ le_of_eq (Nat.zero_add _)) _) x

theorem before_1 (c : Dev nD) (t : Fin cfg0.N) (d) : (dats m Vo 0 c).before 1 t d = iblk m c 1 t :=
  ((dats m Vo 0 c).before_in_eq_fetched 1 rfl (fun _ => rfl) (fun _ _ _ => rfl) (fun t => by rw [show (dats m Vo 0 c).after 1 t = iblk m c 1 t from rfl]; unfold Dat.blockOf iblk; rw [A_eq]; try rfl) t d).trans
    (by unfold Dat.fetched Dat.blockOf iblk; rw [A_eq]; try rfl)
theorem iblk_1 (c : Dev nD) (t : Fin cfg0.N) (x : S17408.Idx) : iblk m c 1 t x = m ((c : Thread nD τ).loc main_arg1) x := by
  rw [fin_N0 t]
  exact congrFun (show (win0_1.blk t0_0).view.read (Elt F) (m ((c : Thread nD τ).loc main_arg1)) = m ((c : Thread nD τ).loc main_arg1) from
    Memref.read_access_unit_zero (Elt F) main_arg1
      (show (fun a => (win0_1.index t0_0) a * main_arg1.ty.shape.size a) = fun _ => 0 from funext fun a => Nat.zero_mul _)
      (fun a => by fin_cases a; exact (Nat.zero_mul _).symm ▸ le_of_eq (Nat.zero_add _)) _) x

theorem before_2 (c : Dev nD) (t : Fin cfg0.N) (d) : (dats m Vo 0 c).before 2 t d = iblk m c 2 t :=
  ((dats m Vo 0 c).before_in_eq_fetched 2 rfl (fun _ => rfl) (fun _ _ _ => rfl) (fun t => by rw [show (dats m Vo 0 c).after 2 t = iblk m c 2 t from rfl]; unfold Dat.blockOf iblk; rw [A_eq]; try rfl) t d).trans
    (by unfold Dat.fetched Dat.blockOf iblk; rw [A_eq]; try rfl)
theorem iblk_2 (c : Dev nD) (t : Fin cfg0.N) (x : S16385.Idx) : iblk m c 2 t x = m ((c : Thread nD τ).loc main_arg2) x := by
  rw [fin_N0 t]
  exact congrFun (show (win0_2.blk t0_0).view.read (Elt F) (m ((c : Thread nD τ).loc main_arg2)) = m ((c : Thread nD τ).loc main_arg2) from
    Memref.read_access_unit_zero (Elt F) main_arg2
      (show (fun a => (win0_2.index t0_0) a * main_arg2.ty.shape.size a) = fun _ => 0 from funext fun a => Nat.zero_mul _)
      (fun a => by fin_cases a; exact (Nat.zero_mul _).symm ▸ le_of_eq (Nat.zero_add _)) _) x

theorem before_3 (c : Dev nD) (t : Fin cfg0.N) (d) : (dats m Vo 0 c).before 3 t d = iblk m c 3 t :=
  ((dats m Vo 0 c).before_in_eq_fetched 3 rfl (fun _ => rfl) (fun _ _ _ => rfl) (fun t => by rw [show (dats m Vo 0 c).after 3 t = iblk m c 3 t from rfl]; unfold Dat.blockOf iblk; rw [A_eq]; try rfl) t d).trans
    (by unfold Dat.fetched Dat.blockOf iblk; rw [A_eq]; try rfl)
theorem iblk_3 (c : Dev nD) (t : Fin cfg0.N) (x : S2.Idx) : iblk m c 3 t x = m ((c : Thread nD τ).loc main_arg3) x := by
  rw [fin_N0 t]
  exact congrFun (show (win0_3.blk t0_0).view.read (Elt F) (m ((c : Thread nD τ).loc main_arg3)) = m ((c : Thread nD τ).loc main_arg3) from
    Memref.read_access_unit_zero (Elt F) main_arg3
      (show (fun a => (win0_3.index t0_0) a * main_arg3.ty.shape.size a) = fun _ => 0 from funext fun a => Nat.zero_mul _)
      (fun a => by fin_cases a; exact (Nat.zero_mul _).symm ▸ le_of_eq (Nat.zero_add _)) _) x

theorem tab_0 (c : Dev nD) (t : Fin cfg0.N) (M : Memref sig .tc .smem S17408 .i32) (g : Buf (Elt F) (M.view.loc (c : Thread nD τ)))
    (h : M.view.read (Elt F) g = (iblk m c 0 t : S17408.Idx → BitVec 32)) : tabF c M g (by decide) = T0 m c := by
  funext i; exact (congrFun h _).trans (iblk_0 m c t _)
theorem tab_1 (c : Dev nD) (t : Fin cfg0.N) (M : Memref sig .tc .smem S17408 .f32) (g : Buf (Elt F) (M.view.loc (c : Thread nD τ)))
    (h : M.view.read (Elt F) g = (iblk m c 1 t : S17408.Idx → F .f32)) : tabF c M g (by decide) = T1 m c := by
  funext i; exact (congrFun h _).trans (iblk_1 m c t _)
theorem tab_2 (c : Dev nD) (t : Fin cfg0.N) (M : Memref sig .tc .smem S16385 .i32) (g : Buf (Elt F) (M.view.loc (c : Thread nD τ)))
    (h : M.view.read (Elt F) g = (iblk m c 2 t : S16385.Idx → BitVec 32)) : tabF c M g (by decide) = T2 m c := by
  funext i; exact (congrFun h _).trans (iblk_2 m c t _)
theorem tab_3 (c : Dev nD) (t : Fin cfg0.N) (M : Memref sig .tc .smem S2 .i32) (g : Buf (Elt F) (M.view.loc (c : Thread nD τ)))
    (h : M.view.read (Elt F) g = (iblk m c 3 t : S2.Idx → BitVec 32)) : tabF c M g (by decide) = T3 m c := by
  funext i; exact (congrFun h _).trans (iblk_3 m c t _)

/-- What the body is called with at point `t`, and what it returns. -/
def bodyPre (c : Dev nD) (t : Fin cfg0.N) : SP F :=
  iprop((dats m Vo 0 c).Φ t.castSucc ∗ (dats m Vo 0 c).owesAt () t.castSucc
    ∗ (∃ d, owns (c : Thread nD τ) (st0_0 t) fullShare ((dats m Vo 0 c).before 0 t d)) ∗ (∃ d, owns (c : Thread nD τ) (st0_1 t) fullShare ((dats m Vo 0 c).before 1 t d))
    ∗ (∃ d, owns (c : Thread nD τ) (st0_2 t) fullShare ((dats m Vo 0 c).before 2 t d)) ∗ (∃ d, owns (c : Thread nD τ) (st0_3 t) fullShare ((dats m Vo 0 c).before 3 t d)))
def bodyPost (c : Dev nD) (t : Fin cfg0.N) : SP F :=
  iprop((dats m Vo 0 c).Φ t.succ ∗ (dats m Vo 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t))

theorem sound_body (c : Dev nD) (R : Ready m Vo c) (t : Fin cfg0.N) : bodyPre m Vo c t ⊢ WP c (bodyAt0 (F := F) t) (fun _ => bodyPost m Vo c t) := by
  unfold bodyPre bodyPost
  rw [fin_N0 t, show (dats m Vo 0 c).Φ (t0_0 : Fin cfg0.N).castSucc = Phi0 m c from rfl, show (dats m Vo 0 c).Φ (t0_0 : Fin cfg0.N).succ = Phi1 m Vo c from rfl]
  unfold Phi0 Phi1
  rw [scopedRest0_eq]
  unfold Dat.owesAt Pipeline.owesWithin
  rw [show (dats m Vo 0 c).owed (t0_0 : Fin cfg0.N).castSucc = 0 from rfl, show (dats m Vo 0 c).owed (t0_0 : Fin cfg0.N).succ = 0 from rfl]
  simp only [before_0, before_1, before_2, before_3]
  unfold owns
  iintro ⟨⟨Hg, ⟨%o0, Ho⟩, Hs, H0, H1, H2⟩, ⟨%W0, %hW, HO⟩, ⟨%d0, %g0, %h0, G0⟩, ⟨%d1, %g1, %h1, G1⟩, ⟨%d2, %g2, %h2, G2⟩, ⟨%d3, %g3, %h3, G3⟩⟩
  have e0 := tab_0 m c t0_0 (st0_0 t0_0) g0 h0
  have e1 := tab_1 m c t0_0 (st0_1 t0_0) g1 h1
  have e2 := tab_2 m c t0_0 (st0_2 t0_0) g2 h2
  have e3 := tab_3 m c t0_0 (st0_3 t0_0) g3 h3
  have key := segsum c (Vo c) (arg0 := st0_0 t0_0) (harg0 := hstage0_0 0) (arg1 := st0_1 t0_0) (harg1 := hstage0_1 0) (arg2 := st0_2 t0_0) (harg2 := hstage0_2 0) (arg3 := st0_3 t0_0) (harg3 := hstage0_3 0)
    fullShare fullShare fullShare fullShare g0 g1 g2 g3 (nu := R.nu) (np := R.np) (e := R.e) o0 (GW m c)
  rw [e0, e1, e2, e3] at key
  have key := key R.sp R.hz R.tk R.wu R.hu R.wp R.hu1
  ihave Hs := (own_open c).1 $$ Hs
  icases Hs with ⟨HL, H4, HZ⟩
  iapply (WP_wand c) $$ [Hg Ho HL H4 HZ H0 H1 H2 HO G0 G1 G2 G3]
  · iapply key
    unfold RingE Tabs
    isplitl [H0]; · iexact H0
    isplitl [H1]; · iexact H1
    isplitl [H2]; · iexact H2
    isplitl [G0 G1 G2]
    · isplitl [G0]; · iexact G0
      isplitl [G1]; · iexact G1
      iexact G2
    isplitl [G3]; · iexact G3
    isplitl [HL]; · iexact HL
    isplitl [H4]; · iexact H4
    isplitl [HZ]; · iexact HZ
    isplitl [Hg]; · iexact Hg
    isplitl [Ho]; · iexact Ho
    iexists W0
    iexact HO
  unfold RingE Tabs
  iintro %_ ⟨H0, H1, H2, ⟨G0, G1, G2⟩, G3, HL, H4, HZ, Hg, Ho, ⟨%W', HO⟩⟩
  isplitl [Hg Ho HL H4 HZ H0 H1 H2]
  · isplitl [Hg]; · iexact Hg
    isplitl [Ho]; · iexact Ho
    isplitl [HL H4 HZ]
    · iapply (own_open c).2
      isplitl [HL]; · iexact HL
      isplitl [H4]; · iexact H4
      iexact HZ
    isplitl [H0]; · iexact H0
    isplitl [H1]; · iexact H1
    iexact H2
  isplitl [HO]
  · iexists W'; isplitr; · ipureintro; exact fun _ _ => Or.inl trivial
    iexact HO
  isplitl [G0]
  · iexists g0; isplitr; · ipureintro; exact h0
    iexact G0
  isplitl [G1]
  · iexists g1; isplitr; · ipureintro; exact h1
    iexact G1
  isplitl [G2]
  · iexists g2; isplitr; · ipureintro; exact h2
    iexact G2
  iexists g3; isplitr; · ipureintro; exact h3
  iexact G3

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) (R : Ready m Vo c) : BodyObligation (dats (F := F) m Vo 0 c) (defs₀ (F := F)) Variants.none () Set.univ := fun t => by
  rw [bigSep_W0, bigSep_W0, defs₀_row]
  exact triple_restated (sound_body m Vo c R t) rfl .rfl fun _ => .rfl

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

variable [∀ e, Nonempty (Elt F e)]

set_option backward.isDefEq.respectTransparency.types false in
/-- The run: it terminates without fault, the arguments are unchanged, every element of the result satisfies `Vo`, and
    every semaphore counter ends at zero. -/
theorem run_main (R : ∀ c, Ready m Vo c) :
    θ_run defs (onTc (τ := τ) (main (F := F))) (s₀ m ρ) (fun r => (∀ c : Dev nD,
      (∀ w, r.2.mem ((spec0 w).arr.view.loc (c : Thread nD τ)) = (dats m Vo 0 c).arrAt w cfg0.N)
        ∧ (r.2.mem ((c : Thread nD τ).loc main_arg4) = m ((c : Thread nD τ).loc main_arg4) ∧ ∀ i, Vo c i (r.2.mem ((c : Thread nD τ).loc main_v0) i))) ∧ r.2.sem = fun _ => 0) :=
  Pipeline.θ_run_region_kit_quiescent cfgs (dats m Vo) () (0 : Fin 1) launch0 ownSemFacts0 embL (defs₀ (F := F)) Variants.none m ρ main
    (hbody := fun c => (body_obligation m Vo c (R c)).loose) (hshare := fun c => (dats m Vo 0 c).share_full fun _ => rfl)
    (howed := fun _ _ => rfl)
    (G := fun _ => iprop(emp)) (u₀ := (initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : SP F) ⊢ bigSep Finset.univ (fun _ : Dev nD => (BI.emp : SP F)) from by rw [BI.bigSep_emp_const])
      iempintro)
    (V := V m)
    (hmain := hmainD m Variants.none)
    (hA := A_eq m Vo)
    (X := fun c => iprop(((c : Thread nD τ).loc main_arg4 ↦{fullShare} GW m c) ∗ (∃ o : OutBuf F, ((c : Thread nD τ).loc main_v0 ↦{fullShare} o))
      ∗ Pipeline.ownSems0 (Ix := Unit) (Name := ℕ) (U := Pipeline.UD sig nD τ) (Lvl := ℕ) (Val := Elt F) (τ := τ) osem0 c))
    (Y := fun c => iprop(((c : Thread nD τ).loc main_arg4 ↦{fullShare} GW m c) ∗ OutV c (Vo c) Finset.univ)) (Z := fun _ => iprop(emp))
    (hX := fun c => by
      rw [unscopedRest0_eq]
      iintro ⟨⟨H4, Hv⟩, Hos, -, -, -⟩
      imodintro
      isplitl [H4 Hv Hos]
      · isplitl [H4]; · iexact H4
        isplitl [Hv]; · iexists _; iexact Hv
        iexact Hos
      iempintro)
    (hin := fun c => by
      rw [show (dats m Vo 0 c).Φ 0 = Phi0 m c from rfl]
      unfold Phi0
      iintro ⟨⟨H4, Hv, Hos⟩, Hr⟩
      isplitl [H4]; · iexact H4
      isplitl [Hv]; · iexact Hv
      isplitl [Hos]; · iexact Hos
      iexact Hr)
    (hout := fun c => by
      rw [show (dats m Vo 0 c).Φ (Fin.last cfg0.N) = Phi1 m Vo c from rfl]
      unfold Phi1
      iintro ⟨H4, Hv, Hos, Hr⟩
      isplitl [H4 Hv]
      · isplitl [H4]; · iexact H4
        iexact Hv
      isplitl [Hos]; · iexact Hos
      iexact Hr)
    (QY := fun c s => s.mem ((c : Thread nD τ).loc main_arg4) = m ((c : Thread nD τ).loc main_arg4) ∧ ∀ i, Vo c i (s.mem ((c : Thread nD τ).loc main_v0) i))
    (hY := fun c s' => by
      unfold OutV
      iintro ⟨⟨H4, ⟨%o, %ho, Hv⟩⟩, -, HSI⟩
      icombine HSI H4 gives %h
      icombine HSI Hv gives %h'
      imodintro
      isplitr
      · ipureintro
        refine ⟨Buf.eq_of_forall_mem_univ h, fun i => ?_⟩
        rw [Buf.eq_of_forall_mem_univ h']
        exact ho i (Finset.mem_univ i)
      iexact HSI)
    (hQ := fun _ h hz => ⟨h, hz⟩)

/-- The frame, and what is known of the result. -/
theorem run_frame (R : ∀ c, Ready m Vo c) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ ∀ i, Vo c i (r.2.mem ((c.tc : Thread nD τ).loc main_v0) i)) ∧ r.2.sem = fun _ => 0) :=
  (θ_run defs _ _).mono (fun _ h => ⟨fun c => ⟨⟨((h.1 c).1 0).trans (((dats m Vo 0 c).arrAt_in 0 rfl _).trans (A_eq m Vo c 0)),
      ((h.1 c).1 1).trans (((dats m Vo 0 c).arrAt_in 1 rfl _).trans (A_eq m Vo c 1)),
      ((h.1 c).1 2).trans (((dats m Vo 0 c).arrAt_in 2 rfl _).trans (A_eq m Vo c 2)),
      ((h.1 c).1 3).trans (((dats m Vo 0 c).arrAt_in 3 rfl _).trans (A_eq m Vo c 3)),
      (h.1 c).2.1⟩, (h.1 c).2.2⟩, h.2⟩) (run_main m ρ Vo R)

end Cert.Proof.Kernel

end
-- ==== Proof.Main.Pre.lean ====
module

public import proofs.«01_k».proof.Pre_tables
public import Idealize.ShloMosaic.Lib.ValueLayout

@[expose] public section

set_option maxRecDepth 16384

noncomputable section

namespace Cert.Proof.Pre

open Cert.Pre_tables
open Idealize.ShloMosaic
open Idealize.ShloMosaic.ValueIdx

variable {F : FTy → Type} [FloatOps F]

/-! What the tables hold, decoded from the precondition. -/

/-- The precondition at a token position and a row, as one bit. -/
def preBit (nu np o0 o1 lo hi w i j : BitVec 32) : BitVec 1 :=
  IntOp.andi (IntOp.andi (IntOp.andi (IntOp.andi
    (IntOp.andi (IntOp.andi (IntOp.andi (IntOp.cmpi .sge nu 1#32) (IntOp.cmpi .sle nu 16384#32)) (IntOp.cmpi .eq o0 0#32)) (IntOp.ori (IntOp.cmpi .eq np 0#32) (IntOp.cmpi .eq np o1)))
    (IntOp.andi (IntOp.andi (IntOp.andi (IntOp.andi (IntOp.cmpi .sge lo 0#32) (IntOp.cmpi .sle lo hi)) (IntOp.cmpi .sle hi 16384#32)) (IntOp.ori (IntOp.cmpi .slt lo hi) (IntOp.cmpi .sle nu j)))
      (IntOp.ori (IntOp.cmpi .slt j nu) (IntOp.cmpi .eq lo 16384#32))))
    (IntOp.ori (~~~(IntOp.andi (IntOp.cmpi .sle lo i) (IntOp.cmpi .slt i hi)))
      (IntOp.andi (IntOp.cmpi .eq (IntOp.andi (IntOp.shrui .host w 17#32) 8191#32) (IntOp.addi (IntOp.muli (IntOp.andi (IntOp.shrui .host j 3#32) 31#32) 224#32) (IntOp.andi j 7#32)))
        (IntOp.cmpi .eq (IntOp.cmpi .slt w 0#32) (IntOp.cmpi .eq i lo)))))
    (IntOp.andi (IntOp.cmpi .eq (IntOp.andi w 131071#32) (IntOp.muli 7#32 (IntOp.divsi .host (IntOp.andi w 131071#32) 7#32))) (IntOp.cmpi .sle (IntOp.andi w 131071#32) 114681#32)))
    (IntOp.ori (IntOp.cmpi .slt i 16384#32) (IntOp.cmpi .eq (IntOp.andi (IntOp.shrui .host w 17#32) 8191#32) 7168#32))

open Cert.Pre_tables in
theorem fn_apply [Cert.Pre_tables.Facts] (a0 : IVec Cert.Pre_tables.S17408 32) (a1 : FVec F Cert.Pre_tables.S17408 .f32) (a2 : IVec Cert.Pre_tables.S16385 32) (a3 : IVec Cert.Pre_tables.S2 32) (a4 : IVec Cert.Pre_tables.S4096x7168 32) (i : Fin 17408) (j : Fin 16384) :
    fn a0 a1 a2 a3 a4 (ix2 i j)
      = preBit (a3 (ix1 (0 : Fin 2))) (a3 (ix1 (1 : Fin 2))) (a2 (ix1 (0 : Fin 16385))) (a2 (ix1 (1 : Fin 16385)))
          (a2 (ix1 (⟨(j : ℕ), by omega⟩ : Fin 16385))) (a2 (ix1 (⟨(j : ℕ) + 1, by omega⟩ : Fin 16385))) (a0 (ix1 i)) (BitVec.ofNat 32 i) (BitVec.ofNat 32 j) := by
  have x1 : ∀ (s : Shape.Slices S2 ![0] S1) (h : S1.ShapeCasts S_) (z : S_.Idx), shapeCast S_ (extractStridedSlice S1 ![0] a3 s) h z = a3 (ix1 (0 : Fin 2)) := fun s h z => by
    unfold shapeCast extractStridedSlice
    refine congrArg a3 (funext fun a => ?_)
    match a with
    | ⟨0, _⟩ => exact Fin.ext (show 0 + ((Shape.reshapeEquiv h z 0 : Fin 1) : ℕ) = 0 by have b : ((Shape.reshapeEquiv h z 0 : Fin 1) : ℕ) < 1 := (Shape.reshapeEquiv h z 0 : Fin 1).isLt; omega)
  have x2 : ∀ (s : Shape.Slices S2 ![1] S1) (h : S1.ShapeCasts S_) (z : S_.Idx), shapeCast S_ (extractStridedSlice S1 ![1] a3 s) h z = a3 (ix1 (1 : Fin 2)) := fun s h z => by
    unfold shapeCast extractStridedSlice
    refine congrArg a3 (funext fun a => ?_)
    match a with
    | ⟨0, _⟩ => exact Fin.ext (show 1 + ((Shape.reshapeEquiv h z 0 : Fin 1) : ℕ) = 1 by have b : ((Shape.reshapeEquiv h z 0 : Fin 1) : ℕ) < 1 := (Shape.reshapeEquiv h z 0 : Fin 1).isLt; omega)
  have x3 : ∀ (s : Shape.Slices S16385 ![0] S1) (h : S1.ShapeCasts S_) (z : S_.Idx), shapeCast S_ (extractStridedSlice S1 ![0] a2 s) h z = a2 (ix1 (0 : Fin 16385)) := fun s h z => by
    unfold shapeCast extractStridedSlice
    refine congrArg a2 (funext fun a => ?_)
    match a with
    | ⟨0, _⟩ => exact Fin.ext (show 0 + ((Shape.reshapeEquiv h z 0 : Fin 1) : ℕ) = 0 by have b : ((Shape.reshapeEquiv h z 0 : Fin 1) : ℕ) < 1 := (Shape.reshapeEquiv h z 0 : Fin 1).isLt; omega)
  have x4 : ∀ (s : Shape.Slices S16385 ![1] S1) (h : S1.ShapeCasts S_) (z : S_.Idx), shapeCast S_ (extractStridedSlice S1 ![1] a2 s) h z = a2 (ix1 (1 : Fin 16385)) := fun s h z => by
    unfold shapeCast extractStridedSlice
    refine congrArg a2 (funext fun a => ?_)
    match a with
    | ⟨0, _⟩ => exact Fin.ext (show 1 + ((Shape.reshapeEquiv h z 0 : Fin 1) : ℕ) = 1 by have b : ((Shape.reshapeEquiv h z 0 : Fin 1) : ℕ) < 1 := (Shape.reshapeEquiv h z 0 : Fin 1).isLt; omega)
  have y1 : ∀ (s : Shape.Slices S16385 ![0] S16384) (h : S16384.BroadcastsInDim S1x16384 ![1]) (h' : S1x16384.BroadcastsInDim S17408x16384 ![0, 1]),
      broadcastInDim S17408x16384 ![0, 1] h' (broadcastInDim S1x16384 ![1] h (extractStridedSlice S16384 ![0] a2 s)) (ix2 i j) = a2 (ix1 (⟨(j : ℕ), by omega⟩ : Fin 16385)) := fun s h h' => by
    unfold broadcastInDim extractStridedSlice
    refine congrArg a2 (funext fun a => ?_)
    match a with
    | ⟨0, _⟩ => exact Fin.ext (show 0 + (j : ℕ) = j by omega)
  have y2 : ∀ (s : Shape.Slices S16385 ![1] S16384) (h : S16384.BroadcastsInDim S1x16384 ![1]) (h' : S1x16384.BroadcastsInDim S17408x16384 ![0, 1]),
      broadcastInDim S17408x16384 ![0, 1] h' (broadcastInDim S1x16384 ![1] h (extractStridedSlice S16384 ![1] a2 s)) (ix2 i j) = a2 (ix1 (⟨(j : ℕ) + 1, by omega⟩ : Fin 16385)) := fun s h h' => by
    unfold broadcastInDim extractStridedSlice
    refine congrArg a2 (funext fun a => ?_)
    match a with
    | ⟨0, _⟩ => exact Fin.ext (show 1 + (j : ℕ) = j + 1 by omega)
  have y3 : ∀ (h : S17408.BroadcastsInDim S17408x1 ![0]) (h' : S17408x1.BroadcastsInDim S17408x16384 ![0, 1]),
      broadcastInDim S17408x16384 ![0, 1] h' (broadcastInDim S17408x1 ![0] h a0) (ix2 i j) = a0 (ix1 i) := fun h h' => by
    unfold broadcastInDim
    refine congrArg a0 (funext fun a => ?_)
    match a with
    | ⟨0, _⟩ => exact Fin.ext rfl
  have b0 : ∀ (α : Type) (z : S_.Idx → α) (h : S_.BroadcastsInDim S17408x16384 ![]), broadcastInDim S17408x16384 ![] h z (ix2 i j) = z (fun a => a.elim0) := fun α z h => by
    unfold broadcastInDim
    exact congrArg z (funext fun a => a.elim0)
  unfold fn fn_part1 fn_part2 fn_part3 fn_part4
  simp only [andi, ori, noti, cmpi, muli, addi, Host.shrui, Host.divsi, b0, x1, x2, x3, x4, y1, y2, y3, constantI]
  rfl

theorem andi_ofBool (p q : Bool) : IntOp.andi (BitVec.ofBool p) (BitVec.ofBool q) = BitVec.ofBool (p && q) := by cases p <;> cases q <;> rfl
theorem ori_ofBool (p q : Bool) : IntOp.ori (BitVec.ofBool p) (BitVec.ofBool q) = BitVec.ofBool (p || q) := by cases p <;> cases q <;> rfl
theorem not_ofBool (p : Bool) : ~~~(BitVec.ofBool p) = BitVec.ofBool (!p) := by cases p <;> rfl
theorem beq_ofBool (p q : Bool) : (BitVec.ofBool p == BitVec.ofBool q) = (p == q) := by cases p <;> cases q <;> rfl
theorem ofBool_one (p : Bool) : BitVec.ofBool p = 1#1 ↔ p = true := by cases p <;> decide

/-- What the precondition says at a token position and a row, in words. -/
structure Holds (nu np o0 o1 lo hi w i j : BitVec 32) : Prop where
  nu1 : (1#32).sle nu = true
  nu2 : nu.sle 16384#32 = true
  o0 : o0 = 0#32
  np : np = 0#32 ∨ np = o1
  lo0 : (0#32).sle lo = true
  le : lo.sle hi = true
  top : hi.sle 16384#32 = true
  st : lo.slt hi = true ∨ nu.sle j = true
  rest : j.slt nu = true ∨ lo = 16384#32
  named : lo.sle i = true → i.slt hi = true → IntOp.andi (IntOp.shrui .host w 17#32) 8191#32 = IntOp.addi (IntOp.muli (IntOp.andi (IntOp.shrui .host j 3#32) 31#32) 224#32) (IntOp.andi j 7#32) ∧ (w.slt 0#32 = true ↔ i = lo)
  src : IntOp.andi w 131071#32 = IntOp.muli 7#32 (IntOp.divsi .host (IntOp.andi w 131071#32) 7#32)
  srcle : (IntOp.andi w 131071#32).sle 114681#32 = true
  spare : i.slt 16384#32 = true ∨ IntOp.andi (IntOp.shrui .host w 17#32) 8191#32 = 7168#32

theorem holds_of_bit {nu np o0 o1 lo hi w i j : BitVec 32} (h : preBit nu np o0 o1 lo hi w i j = 1#1) : Holds nu np o0 o1 lo hi w i j := by
  unfold preBit at h
  simp only [IntOp.cmpi, andi_ofBool, ori_ofBool, not_ofBool, beq_ofBool, ofBool_one, Bool.and_eq_true, Bool.or_eq_true, Bool.not_eq_true', beq_iff_eq] at h
  obtain ⟨⟨⟨⟨⟨⟨⟨a1, a2⟩, a3⟩, a4⟩, ⟨⟨⟨⟨b1, b2⟩, b3⟩, b4⟩, b5⟩⟩, c⟩, d1, d2⟩, e⟩ := h
  refine ⟨a1, a2, a3, a4, b1, b2, b3, b4, b5, fun h1 h2 => ?_, d1, d2, e⟩
  rcases c with c | ⟨c1, c2⟩
  · rw [h1, h2] at c; exact absurd c (by decide)
  · refine ⟨c1, ?_⟩
    rw [c2]
    exact beq_iff_eq

theorem toInt_nat (a : BitVec 32) : a.toInt = if 2 * a.toNat < 4294967296 then (a.toNat : ℤ) else (a.toNat : ℤ) - 4294967296 := by
  rw [BitVec.toInt_eq_toNat_cond]; rfl
theorem sle_iff (a b : BitVec 32) : a.sle b = true ↔ a.toInt ≤ b.toInt := BitVec.sle_iff_toInt_le
theorem slt_iff (a b : BitVec 32) : a.slt b = true ↔ a.toInt < b.toInt := BitVec.slt_iff_toInt_lt
theorem toInt_small (n : ℕ) (h : n < 2147483648) : (BitVec.ofNat 32 n).toInt = n := by
  rw [toInt_nat, BitVec.toNat_ofNat, Nat.mod_eq_of_lt (show n < 2 ^ 32 by omega), if_pos (by omega)]

/-- What the precondition says at a token position `i` and a row `j`, in natural numbers. -/
structure Says (nu np o0 o1 lo hi : ℕ) (w : BitVec 32) (i j : ℕ) : Prop where
  nu1 : 1 ≤ nu
  nu2 : nu ≤ 16384
  o0 : o0 = 0
  np : np = 0 ∨ np = o1
  le : lo ≤ hi
  top : hi ≤ 16384
  st : j < nu → lo < hi
  rest : nu ≤ j → lo = 16384
  named : lo ≤ i → i < hi → (IntOp.andi (IntOp.shrui .scalar w 17#32) 8191#32).toNat = 224 * (j / 8 % 32) + j % 8 ∧ (w.slt 0#32 = true ↔ i = lo)
  src : ∃ p, p < 16384 ∧ (IntOp.andi w 131071#32).toNat = 7 * p
  spare : 16384 ≤ i → (IntOp.andi (IntOp.shrui .scalar w 17#32) 8191#32).toNat = 7168

theorem says_of_bit {nu np o0 o1 lo hi w : BitVec 32} {i j : ℕ} (hi' : i < 17408) (hj : j < 16384)
    (h : preBit nu np o0 o1 lo hi w (BitVec.ofNat 32 i) (BitVec.ofNat 32 j) = 1#1) :
    Says nu.toNat np.toNat o0.toNat o1.toNat lo.toNat hi.toNat w i j := by
  obtain ⟨a1, a2, a3, a4, b1, b2, b3, b4, b5, c, d1, d2, e⟩ := holds_of_bit h
  have t1 : (1#32).toInt = 1 := by decide
  have t0 : (0#32).toInt = 0 := by decide
  have t2 : (16384#32).toInt = 16384 := by decide
  have t3 : (114681#32).toInt = 114681 := by decide
  have ti := toInt_small i (by omega)
  have tj := toInt_small j (by omega)
  rw [sle_iff, t1] at a1
  rw [sle_iff, t2] at a2
  rw [sle_iff, t0] at b1
  rw [sle_iff] at b2
  rw [sle_iff, t2] at b3
  rw [slt_iff, sle_iff, tj] at b4
  rw [slt_iff, tj] at b5
  rw [sle_iff, slt_iff, ti] at c
  rw [sle_iff, t3] at d2
  rw [slt_iff, t2, ti] at e
  have n1 := toInt_nat nu
  have n2 := toInt_nat lo
  have n3 := toInt_nat hi
  have l1 := nu.isLt
  have l2 := lo.isLt
  have l3 := hi.isLt
  have n1' : nu.toInt = nu.toNat := by split at n1 <;> omega
  have n2' : lo.toInt = lo.toNat := by split at n2 <;> omega
  have n3' : hi.toInt = hi.toNat := by split at n3 <;> omega
  have sh : ∀ (v c : BitVec 32), IntOp.shrui .host v c = IntOp.shrui .scalar v c := fun v c => by
    unfold IntOp.shrui; split <;> rfl
  have hs : (IntOp.andi w 131071#32).toNat < 131072 := by
    show (w &&& 131071#32).toNat < 131072
    rw [BitVec.toNat_and]
    exact lt_of_le_of_lt Nat.and_le_right (by decide)
  refine ⟨by omega, by omega, by rw [a3]; rfl, ?_, by omega, by omega, fun hh => ?_, fun hh => ?_, fun h1 h2 => ?_, ?_, fun hh => ?_⟩
  · rcases a4 with a4 | a4
    · left; rw [a4]; rfl
    · right; rw [a4]
  · rcases b4 with b4 | b4 <;> omega
  · rcases b5 with b5 | b5
    · omega
    · rw [b5]; rfl
  · obtain ⟨c1, c2⟩ := c (by omega) (by omega)
    refine ⟨?_, c2.trans ?_⟩
    · rw [← sh, c1]
      show ((((BitVec.ofNat 32 j) >>> (3#32 : BitVec 32)) &&& 31#32) * 224#32 + ((BitVec.ofNat 32 j) &&& 7#32)).toNat = _
      simp only [BitVec.toNat_add, BitVec.toNat_mul, BitVec.toNat_and, BitVec.toNat_ushiftRight, BitVec.toNat_ofNat, BitVec.ushiftRight_eq']
      have e1 : ∀ x : ℕ, x &&& 31 = x % 32 := fun x => Nat.and_two_pow_sub_one_eq_mod x 5
      have e2 : ∀ x : ℕ, x &&& 7 = x % 8 := fun x => Nat.and_two_pow_sub_one_eq_mod x 3
      have ej : j % 4294967296 = j := by omega
      norm_num [e1, e2, Nat.shiftRight_eq_div_pow, ej]
      omega
    · constructor
      · intro hh; rw [← hh, BitVec.toNat_ofNat]; omega
      · intro hh; exact BitVec.eq_of_toNat_eq (by rw [BitVec.toNat_ofNat]; omega)
  · set s := IntOp.andi w 131071#32 with hsd
    have h7 : IntOp.divsi .host s 7#32 = BitVec.ofNat 32 (s.toNat / 7) := by
      have nc : ¬ IntOp.SDivCorner s 7#32 := by
        rintro (h0 | ⟨h1, h2⟩)
        · exact absurd h0 (by decide)
        · exact absurd h2 (by decide)
      have m1 : s.msb = false := by rw [BitVec.msb_eq_decide]; simp; omega
      have m2 : (7#32).msb = false := by decide
      simp only [IntOp.divsi, if_neg nc, BitVec.sdiv_eq, m1, m2, BitVec.udiv_eq]
      exact BitVec.eq_of_toNat_eq (by rw [BitVec.toNat_udiv, BitVec.toNat_ofNat]; show s.toNat / 7 = s.toNat / 7 % 4294967296; omega)
    rw [h7] at d1
    have d3 := congrArg BitVec.toNat d1
    have n4 := toInt_nat s
    refine ⟨s.toNat / 7, ?_, ?_⟩
    · split at n4 <;> omega
    · rw [d3]
      show (7#32 * BitVec.ofNat 32 (s.toNat / 7)).toNat = _
      have q : (BitVec.ofNat 32 (s.toNat / 7)).toNat = s.toNat / 7 := by
        rw [BitVec.toNat_ofNat]; exact Nat.mod_eq_of_lt (by omega)
      rw [BitVec.toNat_mul, q]
      show 7 * (s.toNat / 7) % 4294967296 = _
      omega
  · rcases e with e | e
    · omega
    · rw [← sh, e]; rfl

/-- What the precondition says of the tables: the row bounds `o`, and the tokens' words. -/
structure Tables (t : ℕ → BitVec 32) (o : ℕ → ℕ) (nu np : ℕ) : Prop where
  all : ∀ i < 17408, ∀ j < 16384, Says nu np (o 0) (o 1) (o j) (o (j + 1)) (t i) i j

namespace Tables
variable {t : ℕ → BitVec 32} {o : ℕ → ℕ} {nu np : ℕ} (h : Tables t o nu np)
include h

theorem nu1 : 1 ≤ nu := (h.all 0 (by decide) 0 (by decide)).nu1
theorem nu2 : nu ≤ 16384 := (h.all 0 (by decide) 0 (by decide)).nu2
theorem o0 : o 0 = 0 := (h.all 0 (by decide) 0 (by decide)).o0
theorem le (j : ℕ) (hj : j < 16384) : o j ≤ o (j + 1) := (h.all 0 (by decide) j hj).le
theorem top (j : ℕ) (hj : j ≤ 16384) : o j ≤ 16384 := by
  rcases Nat.lt_or_ge j 16384 with h1 | h1
  · exact le_trans (h.le j h1) (h.all 0 (by decide) j h1).top
  · have e : j = 16383 + 1 := by omega
    rw [e]; exact (h.all 0 (by decide) 16383 (by decide)).top
theorem mono (a b : ℕ) (hab : a ≤ b) (hb : b ≤ 16384) : o a ≤ o b := by
  induction b with
  | zero => rw [Nat.le_zero.mp hab]
  | succ b ih =>
    rcases Nat.lt_or_ge a (b + 1) with h1 | h1
    · exact le_trans (ih (by omega) (by omega)) (h.le b (by omega))
    · rw [show a = b + 1 by omega]
theorem strict (a b : ℕ) (hab : a ≤ b) (hb : b ≤ nu) : o a + (b - a) ≤ o b := by
  have hn := h.nu2
  induction b with
  | zero => rw [Nat.le_zero.mp hab]; omega
  | succ b ih =>
    rcases Nat.lt_or_ge a (b + 1) with h1 | h1
    · have := ih (by omega) (by omega)
      have := (h.all 0 (by decide) b (by omega)).st (by omega)
      omega
    · rw [show a = b + 1 by omega]; omega
theorem rest (j : ℕ) (hj : j ≤ 16384) (hn : nu ≤ j) : o j = 16384 := by
  rcases Nat.lt_or_ge j 16384 with h1 | h1
  · exact (h.all 0 (by decide) j h1).rest hn
  · have e : j = 16384 := by omega
    subst e
    have h2 := h.top 16384 le_rfl
    rcases Nat.lt_or_ge nu 16384 with h3 | h3
    · have h4 := (h.all 0 (by decide) 16383 (by decide)).rest (by omega)
      have h5 := h.le 16383 (by decide)
      have h6 : o (16383 + 1) = o 16384 := rfl
      omega
    · have := h.strict 0 16384 (by omega) (by omega)
      omega
theorem np_le : np ≤ o 1 := by
  rcases (h.all 0 (by decide) 0 (by decide)).np with h1 | h1 <;> omega
theorem np_eq : np = 0 ∨ np = o 1 := (h.all 0 (by decide) 0 (by decide)).np

/-- Every token position lies in a row's range. -/
theorem seg (i : ℕ) (hi : i < 16384) : ∃ j, j < nu ∧ o j ≤ i ∧ i < o (j + 1) := by
  have hn := h.nu2
  have key : ∀ n ≤ 16384, i < o n → ∃ j, j < n ∧ o j ≤ i ∧ i < o (j + 1) := by
    intro n
    induction n with
    | zero => intro _ h1; rw [h.o0] at h1; omega
    | succ n ih =>
      intro h1 h2
      rcases Nat.lt_or_ge i (o n) with h3 | h3
      · obtain ⟨j, h4, h5⟩ := ih (by omega) h3
        exact ⟨j, by omega, h5⟩
      · exact ⟨n, by omega, h3, h2⟩
  exact key nu hn (by rw [h.rest nu hn le_rfl]; exact hi)

/-- The row of a token is the one whose range holds it. -/
theorem seg_ge (i j k : ℕ) (hj : j < nu) (hi : i < o (j + 1)) (hk : k ≤ 16384) (h1 : o k ≤ i) : k ≤ j := by
  have hn := h.nu2
  by_contra h2
  have := h.mono (j + 1) k (by omega) hk
  omega

/-- The tokens from row `a` on, up to fifteen past the tokens before row `q`, lie in rows below `q + 15`. -/
theorem seg_lt (i j q : ℕ) (hj : j < nu) (h1 : o j ≤ i) (hq : q ≤ 16384) (hi : i < o q + 15) : j < q + 15 := by
  by_contra h2
  have := h.strict q j (by omega) (by omega)
  omega

theorem dst (i j : ℕ) (hj : j < nu) (h1 : o j ≤ i) (h2 : i < o (j + 1)) :
    (IntOp.andi (IntOp.shrui .scalar (t i) 17#32) 8191#32).toNat = 224 * (j / 8 % 32) + j % 8 ∧ ((t i).slt 0#32 = true ↔ i = o j) := by
  have hn := h.nu2
  have := h.top (j + 1) (by omega)
  exact (h.all i (by omega) j (by omega)).named h1 h2
theorem src (i : ℕ) (hi : i < 17408) : ∃ p, p < 16384 ∧ (IntOp.andi (t i) 131071#32).toNat = 7 * p := (h.all i hi 0 (by decide)).src
theorem spare (i : ℕ) (hi : i < 17408) (h1 : 16384 ≤ i) : (IntOp.andi (IntOp.shrui .scalar (t i) 17#32) 8191#32).toNat = 7168 := (h.all i hi 0 (by decide)).spare h1
end Tables

theorem tables_of_pre [Cert.Pre_tables.Facts] (a0 : IVec Cert.Pre_tables.S17408 32) (a1 : FVec F Cert.Pre_tables.S17408 .f32) (a2 : IVec Cert.Pre_tables.S16385 32) (a3 : IVec Cert.Pre_tables.S2 32) (a4 : IVec Cert.Pre_tables.S4096x7168 32)
    (h : Cert.Pre_tables.fn a0 a1 a2 a3 a4 = fun _ => 1#1) :
    Tables (fun i => a0 (ix1 (⟨i % 17408, Nat.mod_lt _ (by decide)⟩ : Fin 17408))) (fun j => (a2 (ix1 (⟨j % 16385, Nat.mod_lt _ (by decide)⟩ : Fin 16385))).toNat) (a3 (ix1 (0 : Fin 2))).toNat (a3 (ix1 (1 : Fin 2))).toNat := by
  refine ⟨fun i hi j hj => ?_⟩
  have h1 := congrFun h (ix2 (⟨i, hi⟩ : Fin 17408) (⟨j, hj⟩ : Fin 16384))
  rw [fn_apply] at h1
  have h2 := says_of_bit hi hj h1
  have e1 : (⟨i % 17408, Nat.mod_lt _ (by decide)⟩ : Fin 17408) = ⟨i, hi⟩ := Fin.ext (Nat.mod_eq_of_lt hi)
  have e2 : (⟨j % 16385, Nat.mod_lt _ (by decide)⟩ : Fin 16385) = ⟨j, by omega⟩ := Fin.ext (Nat.mod_eq_of_lt (by omega))
  have e3 : (⟨(j + 1) % 16385, Nat.mod_lt _ (by decide)⟩ : Fin 16385) = ⟨j + 1, by omega⟩ := Fin.ext (Nat.mod_eq_of_lt (by omega))
  rw [e1, e2, e3]
  exact h2

end Cert.Proof.Pre

end
-- ==== Proof.Main.Ready.lean ====
module

public import Idealize.ShloMosaic.Lib.Batch
public import proofs.«01_k».proof.Proof.Main.Launch
public import proofs.«01_k».proof.Proof.Main.Pre

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The tables of the precondition give the program what it needs. -/

theorem toks_of {T0 T2 : ℕ → BitVec 32} {o : ℕ → ℕ} {nu np : ℕ} (h : Pre.Tables T0 o nu np) (ho : ∀ j ≤ 16384, (T2 j).toNat = o j) :
    Toks T0 T2 nu np (fun b => o (Nat.min (64 * (b + 1)) 16384)) := by
  have hn := h.nu2
  have hn1 := h.nu1
  have hb := nbl_le hn
  have mm : ∀ b : ℕ, Nat.min (64 * (b + 1)) 16384 ≤ 16384 := fun b => Nat.min_le_right _ _
  have m1 : ∀ b : ℕ, 1 ≤ Nat.min (64 * (b + 1)) 16384 := fun b => Nat.le_min.mpr ⟨by omega, by decide⟩
  refine ⟨fun b hb' => h.top _ (mm b), fun b hb' => le_trans h.np_le (h.mono 1 _ (m1 b) (mm b)), le_trans h.np_le (h.top 1 (by decide)), fun b hb' => ⟨ho _ (mm b), by have := h.top _ (mm b); omega⟩, fun b hb' i h1 h2 => ?_⟩
  have ht := h.top _ (mm b)
  obtain ⟨p, hp, hs⟩ := h.src i (by omega)
  have hs' : srcOf (T0 i) = 7 * p := hs
  rcases Nat.lt_or_ge i 16384 with hi | hi
  · obtain ⟨j, hj, j1, j2⟩ := h.seg i hi
    have hd : dstOf (T0 i) = 224 * (j / 8 % 32) + j % 8 := (h.dst i j hj j1 j2).1
    have hq : Nat.min (64 * (b + 1)) 16384 = 64 * (b + 1) := by simp [Nat.min_def]; omega
    rw [hq] at h2
    have u := h.seg_lt i j (64 * (b + 1)) hj j1 (by omega) h2
    have l : 64 * b ≤ j := by
      cases b with
      | zero => omega
      | succ b =>
        have hq' : Nat.min (64 * (b + 1)) 16384 = 64 * (b + 1) := by simp [Nat.min_def]; omega
        rw [lo_succ] at h1
        rw [hq'] at h1
        exact h.seg_ge i j _ hj j2 (by omega) h1
    refine ⟨⟨by omega, by omega, by omega⟩, fun x hx => ?_⟩
    have b0 : ((x 0 : Fin 33) : ℕ) < 33 := (x 0 : Fin 33).isLt
    have b2 : ((x 2 : Fin 8) : ℕ) < 8 := (x 2 : Fin 8).isLt
    rw [mem_ringB]
    unfold ringRow rowOfW at hx
    rw [hd] at hx
    omega
  · have hd : dstOf (T0 i) = 7168 := h.spare i (by omega) hi
    refine ⟨⟨by omega, by omega, by omega⟩, fun x hx => ?_⟩
    have b0 : ((x 0 : Fin 33) : ℕ) < 33 := (x 0 : Fin 33).isLt
    have b2 : ((x 2 : Fin 8) : ℕ) < 8 := (x 2 : Fin 8).isLt
    rw [mem_ringB]
    unfold ringRow rowOfW at hx
    rw [hd] at hx
    omega

variable [Cert.Pre_tables.Facts]

/-- The precondition on a device's arguments. -/
def PreOK (m : (ℓ : Loc nD τ sig) → Buf (Elt F) ℓ) : Prop := ∀ c : Dev nD, Cert.Pre_tables.fn (F := F) (m (c.tc.loc main_arg0)) (m (c.tc.loc main_arg1)) (m (c.tc.loc main_arg2)) (m (c.tc.loc main_arg3)) (m (c.tc.loc main_arg4)) = (fun _ => 1#1)

/-- The tables of a device under the precondition. -/
theorem tables_of (m : (ℓ : Loc nD τ sig) → Buf (Elt F) ℓ) (h : PreOK m) (c : Dev nD) :
    Pre.Tables (T0 m c) (fun j => (T2 m c j).toNat) (T3 m c 0).toNat (T3 m c 1).toNat := Pre.tables_of_pre _ _ _ _ _ (h c)

/-- What the program needs, and nothing said of the result. -/
def ready_frame (m : (ℓ : Loc nD τ sig) → Buf (Elt F) ℓ) (h : PreOK m) (c : Dev nD) : Ready m (fun _ _ _ => True) c where
  nu := (T3 m c 0).toNat
  np := (T3 m c 1).toNat
  e := fun b => (T2 m c (Nat.min (64 * (b + 1)) 16384)).toNat
  hu := (tables_of m h c).nu2
  hu1 := (tables_of m h c).nu1
  wu := ⟨rfl, by have := (tables_of m h c).nu2; omega⟩
  wp := ⟨rfl, by have := (tables_of m h c).np_le; have := (tables_of m h c).top 1 (by decide); omega⟩
  tk := toks_of (tables_of m h c) (fun _ _ => rfl)
  hz := fun _ _ => trivial
  sp := fun _ _ _ => ⟨fun _ _ _ _ => True, fun _ _ _ _ => True, fun _ => trivial, fun _ _ _ _ _ _ _ _ => trivial, fun _ _ _ _ _ _ _ _ => trivial, fun _ _ _ _ _ _ _ _ _ => trivial, fun _ _ _ _ _ _ _ _ _ => trivial⟩

/-- Under the precondition the program terminates without fault, its arguments unchanged and its semaphores zero. -/
theorem frame (m : (ℓ : Loc nD τ sig) → Buf (Elt F) ℓ) (ρ : Dev nD → PrngReg) [∀ e, Nonempty (Elt F e)] (h : PreOK m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ hr => ⟨fun c => (hr.1 c).1, hr.2⟩) (run_frame m ρ (fun _ _ _ => True) (fun c => ready_frame m h c))

end Cert.Proof.Kernel

end
-- ==== Proof.MainIdeal.Codes.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- Assertions about the machine. -/
abbrev SP (F : FTy → Type) [FloatOps F] := sProp (MT nD τ sig Unit (Elt F) ℕ (Pipeline.UD sig nD τ) ℕ)
/-- Programs of the kernel's thread. -/
abbrev PG (F : FTy → Type) [FloatOps F] (α : Type) := Prog (TpuEff nD τ sig (Elt F) Λ₀ .tc) α
/-- The weakest precondition of a program of the kernel's thread. -/
abbrev WP (c : Dev nD) {α : Type} (p : PG F α) (Q : α → SP F) : SP F :=
  wp frame (wpE (defs₀ (F := F)) Variants.none (c : Thread nD τ) none) Set.univ p Q

/-! The code words in on-chip memory, row by row. Row `ρ = 224 t + 8 c + s` of the flat view is
    `[t, c, s]` of the buffer; a tile `t` owns 224 rows. -/

/-- The code scratch's contents. -/
abbrev CodeBuf := S513x28x8x128.Idx → BitVec 32

/-- The elements of tile `t`. -/
def tileSet (t : ℕ) : Finset S513x28x8x128.Idx := Finset.univ.filter fun i => ((i 0 : Fin 513) : ℕ) = t

theorem mem_tileSet {t : ℕ} {i : S513x28x8x128.Idx} : i ∈ tileSet t ↔ ((i 0 : Fin 513) : ℕ) = t := by
  simp [tileSet]

/-- The row within its tile. -/
def rowOf (i : S513x28x8x128.Idx) : ℕ := ((i 1 : Fin 28) : ℕ) * 8 + ((i 2 : Fin 8) : ℕ)

/-- The contents `f` with the rows `rem, rem + 28, …` of tile `t` replaced by the eight rows of `w`. -/
def updRow (t rem : ℕ) (f : CodeBuf) (w : S8x128.Idx → BitVec 32) : CodeBuf := fun i =>
  if ((i 0 : Fin 513) : ℕ) = t ∧ rowOf i % 28 = rem then w (ix2 (Fin.ofNat 8 (rowOf i / 28)) (i 3 : Fin 128)) else f i

/-- Row `8 c + s` of tile `t` in the flat view is `[t, c, s]`. -/
theorem resh_vals {N M : ℕ} (h : (⟨2, ![M, 128]⟩ : Shape).numel = (⟨4, ![N, 28, 8, 128]⟩ : Shape).numel)
    (x : (⟨2, ![M, 128]⟩ : Shape).Idx) (y : (⟨4, ![N, 28, 8, 128]⟩ : Shape).Idx)
    (hy : ((y 0 : Fin N) : ℕ) * 224 + ((y 1 : Fin 28) : ℕ) * 8 + ((y 2 : Fin 8) : ℕ) = ((x 0 : Fin M) : ℕ))
    (hl : ((y 3 : Fin 128) : ℕ) = ((x 1 : Fin 128) : ℕ)) : Shape.reshapeEquiv h x = y := by
  refine Shape.reshapeEquiv_eq_of_rowMajor h ?_
  rw [Shape.rowMajor_val_four, Shape.rowMajor_val_two]
  simp only [Matrix.cons_val_zero, Matrix.cons_val_one, Matrix.cons_val]
  change ((((y 0 : Fin N) : ℕ) * 28 + ((y 1 : Fin 28) : ℕ)) * 8 + ((y 2 : Fin 8) : ℕ)) * 128 + ((y 3 : Fin 128) : ℕ) = ((x 0 : Fin M) : ℕ) * 128 + ((x 1 : Fin 128) : ℕ)
  omega

/-- Where the flat view's row lies. -/
theorem resh_row {N M : ℕ} (h : (⟨2, ![M, 128]⟩ : Shape).numel = (⟨4, ![N, 28, 8, 128]⟩ : Shape).numel)
    (x : (⟨2, ![M, 128]⟩ : Shape).Idx) :
    (((Shape.reshapeEquiv h x) 0 : Fin N) : ℕ) * 224 + (((Shape.reshapeEquiv h x) 1 : Fin 28) : ℕ) * 8 + (((Shape.reshapeEquiv h x) 2 : Fin 8) : ℕ) = ((x 0 : Fin M) : ℕ)
      ∧ (((Shape.reshapeEquiv h x) 3 : Fin 128) : ℕ) = ((x 1 : Fin 128) : ℕ) := by
  have e := Shape.rowMajor_reshapeEquiv h x
  rw [Shape.rowMajor_val_four, Shape.rowMajor_val_two] at e
  simp only [Matrix.cons_val_zero, Matrix.cons_val_one, Matrix.cons_val] at e
  generalize Shape.reshapeEquiv h x = y at e ⊢
  change ((((y 0 : Fin N) : ℕ) * 28 + ((y 1 : Fin 28) : ℕ)) * 8 + ((y 2 : Fin 8) : ℕ)) * 128 + ((y 3 : Fin 128) : ℕ) = ((x 0 : Fin M) : ℕ) * 128 + ((x 1 : Fin 128) : ℕ) at e
  have h3 : ((y 3 : Fin 128) : ℕ) < 128 := (y 3 : Fin 128).isLt
  have h1 : ((x 1 : Fin 128) : ℕ) < 128 := (x 1 : Fin 128).isLt
  omega

/-- The flat view of the code scratch. -/
abbrev codeRows : Memref sig .tc .vmem S114912x128 .i32 :=
  (Memref.whole cc0_scratch0).reshape S114912x128 reshapes_S513x28x8x128_S114912x128.1 reshapes_S513x28x8x128_S114912x128.2 (Memref.isWhole_whole cc0_scratch0).contiguous

variable (c : Dev nD) {α : Type} {Q : α → SP F}

/-- The elements a strided box of the flat view covers. -/
theorem codeBox_mem (off : Fin 2 → ℕ) (inb : ∀ a, S8x128.size a = 0 ∨ off a + (![28, 1] : Fin 2 → ℕ) a * (S8x128.size a - 1) < S114912x128.size a)
    (t rem : ℕ) (hr : rem < 28) (hoff : off = ![224 * t + rem, 0]) (x : S8x128.Idx) :
    let i : S513x28x8x128.Idx := (codeRows.access (⟨⟨off, S8x128.size, ![28, 1], inb⟩, spos_28_1⟩ : Rect S114912x128)).emb x
    ((i 0 : Fin 513) : ℕ) = t ∧ rowOf i = rem + 28 * ((x 0 : Fin 8) : ℕ) ∧ ((i 3 : Fin 128) : ℕ) = ((x 1 : Fin 128) : ℕ) := by
  subst hoff
  intro i
  have hi : i = Shape.reshapeEquiv reshapes_S513x28x8x128_S114912x128.1 ((⟨⟨![224 * t + rem, 0], S8x128.size, ![28, 1], inb⟩, spos_28_1⟩ : Rect S114912x128).emb x) := rfl
  have h := resh_row (N := 513) (M := 114912) reshapes_S513x28x8x128_S114912x128.1 ((⟨⟨![224 * t + rem, 0], S8x128.size, ![28, 1], inb⟩, spos_28_1⟩ : Rect S114912x128).emb x)
  rw [← hi] at h
  obtain ⟨h0, h1⟩ := h
  have e0 : ((((⟨⟨![224 * t + rem, 0], S8x128.size, ![28, 1], inb⟩, spos_28_1⟩ : Rect S114912x128).emb x) 0 : Fin 114912) : ℕ) = 224 * t + rem + 28 * ((x 0 : Fin 8) : ℕ) := rfl
  have e1 : ((((⟨⟨![224 * t + rem, 0], S8x128.size, ![28, 1], inb⟩, spos_28_1⟩ : Rect S114912x128).emb x) 1 : Fin 128) : ℕ) = 0 + 1 * ((x 1 : Fin 128) : ℕ) := rfl
  replace h0 := h0.trans e0
  replace h1 := h1.trans e1
  have b1 : ((i 1 : Fin 28) : ℕ) < 28 := (i 1 : Fin 28).isLt
  have b2 : ((i 2 : Fin 8) : ℕ) < 8 := (i 2 : Fin 8).isLt
  have bx : ((x 0 : Fin 8) : ℕ) < 8 := (x 0 : Fin 8).isLt
  unfold rowOf
  refine ⟨?_, ?_, ?_⟩ <;> omega

/-- Reading one code block of an owned set. -/
theorem codeLoad {off : Fin 4 → ℕ} {inb : ∀ a, off a + S1x1x8x128.size a ≤ S513x28x8x128.size a} {hl} {k : (S1x1x8x128.Idx → Elt F .i32) → PG F α}
    (t : ℕ) (n : Fin 28) (hoff : off = ![t, n, 0, 0]) (ht : t < 513) (S : Finset S513x28x8x128.Idx) (hS : tileSet t ⊆ S) (f : CodeBuf) :
    (((c : Thread nD τ).loc cc0_scratch0 ↦[S]{fullShare} f) : SP F)
      ⊢ iprop((((c : Thread nD τ).loc cc0_scratch0 ↦[S]{fullShare} f) -∗ WP c (k fun x => f (ix4 (⟨t, ht⟩ : Fin 513) n (x 2 : Fin 8) (x 3 : Fin 128))) Q)
        -∗ WP c (.op (.load (Memref.whole cc0_scratch0) (Rect.unit (s := S513x28x8x128) off S1x1x8x128.size inb).toLoadRect hl) k) Q) := by
  subst hoff
  have hx : ∀ x : S1x1x8x128.Idx, ((Rect.unit (s := S513x28x8x128) ![t, n, 0, 0] S1x1x8x128.size inb).toLoadRect).idx x
      = (ix4 (⟨t, ht⟩ : Fin 513) n (x 2 : Fin 8) (x 3 : Fin 128) : S513x28x8x128.Idx) := by
    intro x
    have l0 : ((x 0 : Fin 1) : ℕ) < 1 := (x 0 : Fin 1).isLt
    have l1 : ((x 1 : Fin 1) : ℕ) < 1 := (x 1 : Fin 1).isLt
    funext a
    match a with
    | ⟨0, _⟩ => exact Fin.ext (show t + 1 * ((x 0 : Fin 1) : ℕ) = t by omega)
    | ⟨1, _⟩ => exact Fin.ext (show (n : ℕ) + 1 * ((x 1 : Fin 1) : ℕ) = n by omega)
    | ⟨2, _⟩ => exact Fin.ext (show 0 + 1 * ((x 2 : Fin 8) : ℕ) = ((x 2 : Fin 8) : ℕ) by omega)
    | ⟨3, _⟩ => exact Fin.ext (show 0 + 1 * ((x 3 : Fin 128) : ℕ) = ((x 3 : Fin 128) : ℕ) by omega)
  have hr : (Memref.whole cc0_scratch0).view.readAt (Elt F) (Rect.unit (s := S513x28x8x128) ![t, n, 0, 0] S1x1x8x128.size inb).toLoadRect f
      = fun x => f (ix4 (⟨t, ht⟩ : Fin 513) n (x 2 : Fin 8) (x 3 : Fin 128)) := by
    funext x
    exact congrArg f (hx x)
  have hsub : (Memref.whole cc0_scratch0).view.setOn (Rect.unit (s := S513x28x8x128) ![t, n, 0, 0] S1x1x8x128.size inb).toLoadRect.set ⊆ S := by
    intro i hi
    obtain ⟨y, hy, rfl⟩ := Finset.mem_map.mp hi
    have h0 := Rect.mem_set_unit.mp hy 0
    have h0 : t ≤ ((y 0 : Fin 513) : ℕ) ∧ ((y 0 : Fin 513) : ℕ) < t + 1 := h0
    exact hS (mem_tileSet.mpr (show ((y 0 : Fin 513) : ℕ) = t by omega))
  have h := wp_load (hl := hl) (k := k) (Q := Q) (defs := defs₀ (F := F)) (Γ := .empty) Variants.none (c : Thread nD τ) none Set.univ (m := Memref.whole cc0_scratch0) (q := fullShare) (f := f) hsub
  rw [hr] at h
  exact h

/-- A write through a view, from what it holds under the view and off it. -/
theorem write_eq_of {κ} {sp} {s : Shape} {e : EltTy} (v : View sig κ sp s e) (f g : v.ty.Contents (Elt F)) (w : s.Idx → Elt F e) (S : Finset v.ty.Idx)
    (h1 : ∀ x, g (v.emb x) = _root_.cast (congrArg (Elt F) v.elt_eq.symm) (w x)) (h2 : ∀ i ∈ S, (∀ x, v.emb x ≠ i) → g i = f i) :
    ∀ i ∈ S, v.write (Elt F) f w Finset.univ i = g i := by
  intro i hi
  by_cases h : ∃ x, v.emb x = i
  · obtain ⟨x, rfl⟩ := h
    rw [View.write_emb_of_mem _ _ (Finset.mem_univ x), h1]
  · have hn : ∀ x, v.emb x ≠ i := fun x hx => h ⟨x, hx⟩
    rw [View.write_of_not_mem, h2 i hi hn]
    intro hm
    obtain ⟨x, _, hx⟩ := Finset.mem_map.mp hm
    exact hn x hx

/-- The box of the flat view a strided access goes through. -/
abbrev codeBox (off : Fin 2 → ℕ) (inb : ∀ a, S8x128.size a = 0 ∨ off a + (![28, 1] : Fin 2 → ℕ) a * (S8x128.size a - 1) < S114912x128.size a) : Rect S114912x128 :=
  ⟨⟨off, S8x128.size, ![28, 1], inb⟩, spos_28_1⟩

/-- Every element of tile `t` in a row congruent to `rem` lies in the box. -/
theorem codeBox_surj (off : Fin 2 → ℕ) (inb : ∀ a, S8x128.size a = 0 ∨ off a + (![28, 1] : Fin 2 → ℕ) a * (S8x128.size a - 1) < S114912x128.size a)
    (t rem : ℕ) (hr : rem < 28) (hoff : off = ![224 * t + rem, 0]) (i : S513x28x8x128.Idx) (hi : ((i 0 : Fin 513) : ℕ) = t) (h : rowOf i % 28 = rem) :
    (codeRows.access (codeBox off inb)).emb (ix2 (Fin.ofNat 8 (rowOf i / 28)) (i 3 : Fin 128)) = i := by
  have b : rowOf i < 224 := by
    have b1 : ((i 1 : Fin 28) : ℕ) < 28 := (i 1 : Fin 28).isLt
    have b2 : ((i 2 : Fin 8) : ℕ) < 8 := (i 2 : Fin 8).isLt
    unfold rowOf; omega
  obtain ⟨h0, h1, h2⟩ := codeBox_mem off inb t rem hr hoff (ix2 (Fin.ofNat 8 (rowOf i / 28)) (i 3 : Fin 128))
  generalize hz : (codeRows.access (codeBox off inb)).emb (ix2 (Fin.ofNat 8 (rowOf i / 28)) (i 3 : Fin 128)) = z at h0 h1 h2
  have h0 : ((z 0 : Fin 513) : ℕ) = t := h0
  have h1 : rowOf z = rem + 28 * (rowOf i / 28 % 8) := h1
  have h2 : ((z 3 : Fin 128) : ℕ) = ((i 3 : Fin 128) : ℕ) := h2
  have hr' : rowOf z = rowOf i := by omega
  have a1 : ((i 1 : Fin 28) : ℕ) < 28 := (i 1 : Fin 28).isLt
  have a2 : ((i 2 : Fin 8) : ℕ) < 8 := (i 2 : Fin 8).isLt
  have a3 : ((z 1 : Fin 28) : ℕ) < 28 := (z 1 : Fin 28).isLt
  have a4 : ((z 2 : Fin 8) : ℕ) < 8 := (z 2 : Fin 8).isLt
  clear hz
  unfold rowOf at hr'
  funext a
  match a with
  | ⟨0, _⟩ => exact Fin.ext (h0.trans hi.symm)
  | ⟨1, _⟩ => exact Fin.ext (show ((z 1 : Fin 28) : ℕ) = ((i 1 : Fin 28) : ℕ) by omega)
  | ⟨2, _⟩ => exact Fin.ext (show ((z 2 : Fin 8) : ℕ) = ((i 2 : Fin 8) : ℕ) by omega)
  | ⟨3, _⟩ => exact Fin.ext h2

/-- What a strided store leaves in its tile. -/
theorem codeWrite (off : Fin 2 → ℕ) (inb : ∀ a, S8x128.size a = 0 ∨ off a + (![28, 1] : Fin 2 → ℕ) a * (S8x128.size a - 1) < S114912x128.size a)
    (t rem : ℕ) (hr : rem < 28) (hoff : off = ![224 * t + rem, 0]) (f : CodeBuf) (w : S8x128.Idx → BitVec 32) :
    ∀ i ∈ tileSet t, (codeRows.access (codeBox off inb)).write (Elt F) f w Finset.univ i = updRow t rem f w i := by
  refine write_eq_of (F := F) (codeRows.access (codeBox off inb)) f (updRow t rem f w) w (tileSet t) ?_ ?_
  · intro x
    obtain ⟨h0, h1, h2⟩ := codeBox_mem off inb t rem hr hoff x
    have bx : ((x 0 : Fin 8) : ℕ) < 8 := (x 0 : Fin 8).isLt
    replace h1 : rowOf ((codeRows.access (codeBox off inb)).emb x) = rem + 28 * ((x 0 : Fin 8) : ℕ) := h1
    refine (if_pos ⟨h0, by omega⟩).trans ?_
    refine Eq.trans (b := w x) ?_ rfl
    refine congrArg w ?_
    funext a
    match a with
    | ⟨0, _⟩ => exact Fin.ext (show (rowOf ((codeRows.access (codeBox off inb)).emb x) / 28) % 8 = ((x 0 : Fin 8) : ℕ) by
        have h1' : rowOf ((codeRows.access (codeBox off inb)).emb x) = rem + 28 * ((x 0 : Fin 8) : ℕ) := h1
        omega)
    | ⟨1, _⟩ => exact Fin.ext h2
  · intro i hi hn
    refine if_neg ?_
    rintro ⟨h0, h⟩
    exact hn _ (codeBox_surj off inb t rem hr hoff i h0 h)

/-- A strided store of eight rows into a tile that is owned. -/
theorem codeStore {off : Fin 2 → ℕ} {inb : ∀ a, S8x128.size a = 0 ∨ off a + (![28, 1] : Fin 2 → ℕ) a * (S8x128.size a - 1) < S114912x128.size a}
    {w : S8x128.Idx → Elt F .i32} {hx} {hm} {k : PUnit → PG F α}
    (t rem : ℕ) (hr : rem < 28) (hoff : off = ![224 * t + rem, 0]) (f : CodeBuf) :
    (((c : Thread nD τ).loc cc0_scratch0 ↦[tileSet t]{fullShare} f) : SP F)
      ⊢ iprop((((c : Thread nD τ).loc cc0_scratch0 ↦[tileSet t]{fullShare} updRow t rem f w) -∗ WP c (k ⟨⟩) Q)
        -∗ WP c (.op (.store codeRows ⟨⟨off, S8x128.size, ![28, 1], inb⟩, spos_28_1⟩ w Finset.univ hx hm) k) Q) := by
  have hsub : (codeRows.access (codeBox off inb)).setOn Finset.univ ⊆ tileSet t := by
    intro i hi
    obtain ⟨x, _, rfl⟩ := Finset.mem_map.mp hi
    exact mem_tileSet.mpr (codeBox_mem off inb t rem hr hoff x).1
  have e2 : (((c : Thread nD τ).loc cc0_scratch0 ↦[tileSet t]{fullShare} (codeRows.access (codeBox off inb)).write (Elt F) f w Finset.univ) : SP F)
      = ((c : Thread nD τ).loc cc0_scratch0 ↦[tileSet t]{fullShare} updRow t rem f w) := pointsTo_congr (codeWrite off inb t rem hr hoff f w)
  have key := wp_store (hx := hx) (hm := hm) (k := k) (Q := Q) (w := w) (f := f) (S := tileSet t) (defs := defs₀ (F := F)) (Γ := .empty) Variants.none (c : Thread nD τ) none Set.univ
    (m := codeRows) (r := codeBox off inb) (Mk := Finset.univ) hsub
  exact key.trans (wand_mono_left (wand_mono_left (le_of_eq e2)))

/-- A strided load of eight rows of an owned tile: any value will do. -/
theorem codeLoadRow {off : Fin 2 → ℕ} {inb : ∀ a, S8x128.size a = 0 ∨ off a + (![28, 1] : Fin 2 → ℕ) a * (S8x128.size a - 1) < S114912x128.size a}
    {hl} {k : (S8x128.Idx → Elt F .i32) → PG F α}
    (t rem : ℕ) (hr : rem < 28) (hoff : off = ![224 * t + rem, 0]) (f : CodeBuf) :
    (((c : Thread nD τ).loc cc0_scratch0 ↦[tileSet t]{fullShare} f) : SP F)
      ⊢ iprop((((c : Thread nD τ).loc cc0_scratch0 ↦[tileSet t]{fullShare} f) -∗ ∀ x, WP c (k x) Q)
        -∗ WP c (.op (.load codeRows (⟨off, S8x128.size, ![28, 1], inb⟩ : LoadRect S114912x128) hl) k) Q) := by
  have hsub : codeRows.view.setOn (⟨off, S8x128.size, ![28, 1], inb⟩ : LoadRect S114912x128).set ⊆ tileSet t := by
    intro i hi
    refine (show (codeRows.access (codeBox off inb)).setOn Finset.univ ⊆ tileSet t from ?_) ?_
    · intro i hi
      obtain ⟨x, _, rfl⟩ := Finset.mem_map.mp hi
      exact mem_tileSet.mpr (codeBox_mem off inb t rem hr hoff x).1
    · have h := View.set_slice codeRows.view (codeBox off inb)
      have h2 : (codeRows.access (codeBox off inb)).setOn Finset.univ = codeRows.view.setOn (⟨off, S8x128.size, ![28, 1], inb⟩ : LoadRect S114912x128).set := h
      rw [h2]; exact hi
  have key := wp_load (hl := hl) (k := k) (Q := Q) (f := f) (S := tileSet t) (q := fullShare) (defs := defs₀ (F := F)) (Γ := .empty) Variants.none (c : Thread nD τ) none Set.univ
    (m := codeRows) hsub
  exact key.trans (wand_mono_left (wand_mono_right (forall_elim _)))

end Cert.Proof.KernelIdeal

end
-- ==== Proof.MainIdeal.Arith.lean ====
module

public import proofs.«01_k».proof.Proof.Words
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
/-! The kernel's index arithmetic on words, as arithmetic on natural numbers. -/

theorem t4_eq (v0 a : BitVec 32) : k0_t4_loop v0 a = uloop a (Scalar.minsi (Scalar.addi a (zpsW v0)) (nzW v0)) := rfl
theorem t5_eq (v0 a : BitVec 32) : k0_t5_loop v0 a = rloop a (Scalar.minsi (Scalar.addi a (zpsW v0)) (nzW v0)) := rfl
theorem t9_eq (v0 a : BitVec 32) : k0_t9_loop v0 a = uloop a (Scalar.minsi (Scalar.addi a (zpsW v0)) (nzW v0)) := rfl
theorem t10_eq (v0 a : BitVec 32) : k0_t10_loop v0 a = rloop a (Scalar.minsi (Scalar.addi a (zpsW v0)) (nzW v0)) := rfl
theorem t24_eq (v0 a : BitVec 32) : k0_t24_loop v0 a = uloop a (nzW v0) := rfl
theorem t25_eq (v0 a : BitVec 32) : k0_t25_loop v0 a = rloop a (nzW v0) := rfl
theorem t26_eq (v0 : BitVec 32) : k0_t26_loop v0 = uloop 0#32 (nzW v0) := rfl
theorem t27_eq (v0 : BitVec 32) : k0_t27_loop v0 = rloop 0#32 (nzW v0) := rfl
theorem t8_eq (v0 : BitVec 32) : k0_t8_loop v0 = uloop 0#32 (nbW v0) := rfl
theorem t15_eq (v0 : BitVec 32) : k0_t15_loop v0 = rloop 0#32 (nbW v0) := rfl
theorem t13_eq (v0 : BitVec 32) : k0_t13_loop v0 = uloop v0 (Scalar.muli (nbW v0) 64#32) := rfl
theorem t14_eq (v0 : BitVec 32) : k0_t14_loop v0 = rloop v0 (Scalar.muli (nbW v0) 64#32) := rfl
theorem t22_eq (v0 : BitVec 32) : k0_t22_loop v0 = uloop (Scalar.maxsi (Scalar.subi (nbW v0) 3#32) 0#32) (nbW v0) := rfl
theorem t23_eq (v0 : BitVec 32) : k0_t23_loop v0 = rloop (Scalar.maxsi (Scalar.subi (nbW v0) 3#32) 0#32) (nbW v0) := rfl
theorem t11_eq (v1 g s : BitVec 32) : k0_t11_loop v1 g s = uloop g (Scalar.maxsi (stopW v1 s) g) := rfl
theorem t12_eq (v1 g s : BitVec 32) : k0_t12_loop v1 g s = rloop g (Scalar.maxsi (stopW v1 s) g) := rfl

variable {v0 v1 : BitVec 32} {nu np : ℕ}

theorem chkZ {d : ℕ} {a : BitVec 32} (h : W v0 nu) (hu : nu ≤ 16384) (ha : W a d) (hd : d ≤ 512 - 2 * ((nu + 63) / 64)) : k0_chk1 v0 a := by
  have hs := h.zstop hu ha (by omega)
  have hb := zstep_bounds hd
  refine ⟨uloop_ok ha hs hb.1, fun k => ?_, rloop_ok ha hs hb.1, fun k => ?_⟩
  · have hk : (k : ℕ) < zstep nu d - d := lt_of_lt_of_eq k.isLt (uloop_trips ha hs hb.1)
    intro i
    match i with
    | ⟨0, _⟩ =>
      have e := zoff (k := (k : ℕ)) h hu ha (by omega)
      have e : k0_off31 v0 a k 0 = _ := e
      exact (show k0_off31 v0 a k 0 + 4 ≤ 2048 by omega)
    | ⟨1, _⟩ => exact (show 0 + 56 ≤ 56 by decide)
    | ⟨2, _⟩ => exact (show 0 + 8 ≤ 8 by decide)
    | ⟨3, _⟩ => exact (show 0 + 128 ≤ 128 by decide)
  · exact (Nat.not_lt_zero _ (lt_of_lt_of_eq k.isLt (rloop_trips ha hs hb.1))).elim
theorem chkZ' {d : ℕ} {a : BitVec 32} (h : W v0 nu) (hu : nu ≤ 16384) (ha : W a d) (hd : d ≤ 512 - 2 * ((nu + 63) / 64)) : k0_chk3 v0 a := chkZ h hu ha hd
theorem chkZF {d : ℕ} {a : BitVec 32} (h : W v0 nu) (hu : nu ≤ 16384) (ha : W a d) (hd : d ≤ 512 - 2 * ((nu + 63) / 64)) : k0_chk71 v0 a := by
  have hs := h.nz hu
  refine ⟨uloop_ok ha hs hd, fun k => ?_, rloop_ok ha hs hd, fun k => ?_⟩
  · have hk : (k : ℕ) < 512 - 2 * ((nu + 63) / 64) - d := lt_of_lt_of_eq k.isLt (uloop_trips ha hs hd)
    intro i
    match i with
    | ⟨0, _⟩ =>
      have e := zoff (k := (k : ℕ)) h hu ha (by omega)
      have e : k0_off318 v0 a k 0 = _ := e
      exact (show k0_off318 v0 a k 0 + 4 ≤ 2048 by omega)
    | ⟨1, _⟩ => exact (show 0 + 56 ≤ 56 by decide)
    | ⟨2, _⟩ => exact (show 0 + 8 ≤ 8 by decide)
    | ⟨3, _⟩ => exact (show 0 + 128 ≤ 128 by decide)
  · exact (Nat.not_lt_zero _ (lt_of_lt_of_eq k.isLt (rloop_trips ha hs hd))).elim

theorem chkT {g e : ℕ} {a s : BitVec 32} (h : W v1 np) (hs : W s e) (he : e ≤ 16384) (hn : np ≤ e) (ha : W a g) (hg : np + 16 * g ≤ 17000) : k0_chk4 v1 a s := by
  have hm := (h.stop hs he hn).max ha
  have hle : g ≤ gstop np e g := le_max_right _ _
  have hub : np + 16 * gstop np e g ≤ 17000 := by
    rcases max_choice ((e - np + 15) / 16) g with hh | hh
    · have : gstop np e g = (e - np + 15) / 16 := hh
      omega
    · have : gstop np e g = g := hh
      omega
  have core : ∀ (k : ℕ) (kk : BitVec 32) (off : Fin 1 → ℕ), k < gstop np e g - g → kk.toNat < 16 →
      off = ![(Scalar.indexCast (Scalar.addi (Scalar.addi v1 (Scalar.muli (Scf.iv a 1#32 k) 16#32)) kk)).toNat] → ∀ i, off i + S1.size i ≤ S17408.size i := by
    intro k kk off hk hkk ho i
    have e1 := ((h.add ((ha.iv k (by omega)).mul (W.lit 16 (by decide)) (by omega)) (by omega)).add (b := kk) ⟨rfl, by omega⟩ (by omega)).eq
    rw [ho]
    match i with
    | ⟨0, _⟩ => exact (show (Scalar.addi (Scalar.addi v1 (Scalar.muli (Scf.iv a 1#32 k) 16#32)) kk).toNat + 1 ≤ 17408 by omega)
  have ht : ∀ k : Fin (k0_t11_loop v1 a s).trips, (k : ℕ) < gstop np e g - g := fun k => lt_of_lt_of_eq k.isLt (uloop_trips ha hm hle)
  have ht2 : ∀ k : Fin (k0_t12_loop v1 a s).trips, False := fun k => Nat.not_lt_zero _ (lt_of_lt_of_eq k.isLt (rloop_trips ha hm hle))
  refine ⟨⟨uloop_ok ha hm hle, fun k => core k 0#32 _ (ht k) (by decide) rfl, fun k r => ?_, fun k r => ?_, fun k r => ?_, fun k r => ?_, fun k r => ?_, fun k r => ?_, fun k r => ?_, fun k r => ?_,
    fun k r => ?_, fun k r => ?_, fun k r => ?_, fun k r => ?_, fun k r => ?_, fun k r => ?_, fun k r => ?_, fun k => core k 15#32 _ (ht k) (by decide) rfl, rloop_ok ha hm hle,
    fun k => (ht2 k).elim, fun k => (ht2 k).elim, fun k => (ht2 k).elim, fun k => (ht2 k).elim, fun k => (ht2 k).elim, fun k => (ht2 k).elim, fun k => (ht2 k).elim,
    fun k => (ht2 k).elim, fun k => (ht2 k).elim, fun k => (ht2 k).elim, fun k => (ht2 k).elim, fun k => (ht2 k).elim, fun k => (ht2 k).elim⟩,
    ⟨fun k => (ht2 k).elim, fun k => (ht2 k).elim, fun k => (ht2 k).elim, fun k => (ht2 k).elim⟩⟩
  all_goals (refine core k _ _ (ht k) ?_ rfl; have := r.isLt; rw [BitVec.toNat_ofNat]; omega)

end Cert.Proof.KernelIdeal

end
-- ==== Proof.MainIdeal.BArith.lean ====
module

public import proofs.«01_k».proof.Proof.MainIdeal.Arith

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
/-! The offsets and conditions of the block loops, as natural numbers. -/

variable {v0 : BitVec 32} {nu : ℕ}

theorem half_lt (t : Fin k0_t1_loop.trips) : (t : ℕ) < 2 := lt_of_lt_of_eq t.isLt (by decide)

section
variable (h : W v0 nu) (hu : nu ≤ 16384)
include h hu
theorem t8_trips : (k0_t8_loop v0).trips = nbl nu := (uloop_trips W.zero (h.nb' hu) (Nat.zero_le _)).trans (Nat.sub_zero _)
theorem t8_lt (k : Fin (k0_t8_loop v0).trips) : (k : ℕ) < nbl nu := lt_of_lt_of_eq k.isLt (t8_trips h hu)
theorem t8_iv (k : Fin (k0_t8_loop v0).trips) : W (Scf.iv 0#32 1#32 k) (k : ℕ) := iv0 k (by have := t8_lt h hu k; have := nbl_le hu; omega)

theorem cond1_iff (k : Fin (k0_t8_loop v0).trips) : k0_cond1 v0 k = 1#1 ↔ 3 ≤ (k : ℕ) := by
  have hk := t8_iv h hu k
  have e : k0_cond1 v0 k = Scalar.cmpi .ne (Scalar.extui (BitVec.ofBool ((3#32).sle (Scf.iv 0#32 1#32 k)))) 0#32 := rfl
  rw [e, cond_of, BitVec.sle_eq_decide, hk.toInt]
  simp
theorem cond2_iff (k : Fin (k0_t8_loop v0).trips) : k0_cond2 v0 k = 1#1 ↔ (k : ℕ) + 1 = nbl nu := by
  have hk := t8_iv h hu k
  have hl := t8_lt h hu k
  have hs := (h.nb' hu).sub (W.lit 1 (by decide)) (by omega)
  have e : k0_cond2 v0 k = Scalar.cmpi .ne (Scalar.extui (BitVec.ofBool ((Scf.iv 0#32 1#32 k) == (Scalar.subi (nbW v0) 1#32)))) 0#32 := rfl
  rw [e, cond_of, beq_iff_eq, ← BitVec.toNat_inj, hk.eq, hs.eq]
  omega

theorem off96_eq (k : Fin (k0_t8_loop v0).trips) (h3 : 3 ≤ (k : ℕ)) : k0_off96 v0 k = ![((k : ℕ) - 3) % 4] := by
  show ![(Scalar.remsi (Scalar.subi (Scf.iv 0#32 1#32 k) 3#32) 4#32).toNat] = _
  rw [(((t8_iv h hu k).sub (W.lit 3 (by decide)) h3).rem (W.lit 4 (by decide)) (by decide)).eq]
theorem off97_eq (t : Fin k0_t1_loop.trips) (k : Fin (k0_t8_loop v0).trips) (h3 : 3 ≤ (k : ℕ)) : k0_off97 v0 t k = ![8 * ((k : ℕ) - 3), 28 * (t : ℕ), 0, 0] := by
  have hl := t8_lt h hu k; have := nbl_le hu; have ht := half_lt t
  show ![(Scalar.muli (Scalar.subi (Scf.iv 0#32 1#32 k) 3#32) 8#32).toNat, (Scalar.muli (Scf.iv 0#32 1#32 t) 28#32).toNat, 0, 0] = _
  rw [(((t8_iv h hu k).sub (W.lit 3 (by decide)) h3).mul (W.lit 8 (by decide)) (by omega)).eq, ((iv0 t (by omega)).mul (W.lit 28 (by decide)) (by omega)).eq, Nat.mul_comm, Nat.mul_comm (t : ℕ)]
theorem off98_eq (k : Fin (k0_t8_loop v0).trips) (h3 : 3 ≤ (k : ℕ)) : k0_off98 v0 k = ![8 * (((k : ℕ) - 3) % 4), 0, 0, 0] := by
  show ![(Scalar.muli (Scalar.remsi (Scalar.subi (Scf.iv 0#32 1#32 k) 3#32) 4#32) 8#32).toNat, 0, 0, 0] = _
  rw [((((t8_iv h hu k).sub (W.lit 3 (by decide)) h3).rem (W.lit 4 (by decide)) (by decide)).mul (W.lit 8 (by decide)) (by omega)).eq, Nat.mul_comm]
theorem off99_eq (k : Fin (k0_t8_loop v0).trips) : k0_off99 v0 k = ![Nat.min (64 * ((k : ℕ) + 1)) 16384] := by
  have hl := t8_lt h hu k; have := nbl_le hu
  show ![(Scalar.minsi (Scalar.muli (Scalar.addi (Scf.iv 0#32 1#32 k) 1#32) 64#32) 16384#32).toNat] = _
  rw [((((t8_iv h hu k).add (W.lit 1 (by decide)) (by omega)).mul (W.lit 64 (by decide)) (by omega)).min (W.lit 16384 (by decide))).eq, Nat.mul_comm]
theorem off200_eq (k : Fin (k0_t8_loop v0).trips) : k0_off200 v0 k = ![(k : ℕ) % 4] := by
  show ![(Scalar.remsi (Scf.iv 0#32 1#32 k) 4#32).toNat] = _
  rw [((t8_iv h hu k).rem (W.lit 4 (by decide)) (by decide)).eq]
theorem off201_eq (t : Fin k0_t1_loop.trips) (k : Fin (k0_t8_loop v0).trips) : k0_off201 v0 t k = ![8 * (k : ℕ), 28 * (t : ℕ), 0, 0] := by
  have hl := t8_lt h hu k; have := nbl_le hu; have ht := half_lt t
  show ![(Scalar.muli (Scf.iv 0#32 1#32 k) 8#32).toNat, (Scalar.muli (Scf.iv 0#32 1#32 t) 28#32).toNat, 0, 0] = _
  rw [((t8_iv h hu k).mul (W.lit 8 (by decide)) (by omega)).eq, ((iv0 t (by omega)).mul (W.lit 28 (by decide)) (by omega)).eq, Nat.mul_comm, Nat.mul_comm (t : ℕ)]
theorem off202_eq (k : Fin (k0_t8_loop v0).trips) : k0_off202 v0 k = ![8 * ((k : ℕ) % 4), 0, 0, 0] := by
  show ![(Scalar.muli (Scalar.remsi (Scf.iv 0#32 1#32 k) 4#32) 8#32).toNat, 0, 0, 0] = _
  rw [(((t8_iv h hu k).rem (W.lit 4 (by decide)) (by decide)).mul (W.lit 8 (by decide)) (by omega)).eq, Nat.mul_comm]

theorem t13_trips : (k0_t13_loop v0).trips = 64 * nbl nu - nu :=
  (uloop_trips h ((h.nb' hu).mul (W.lit 64 (by decide)) (by have := nbl_le hu; omega)) (by unfold nbl; omega)).trans (by rw [Nat.mul_comm])
/-- The flat ring row of output row `u`. -/
theorem off198_eq (k : Fin (k0_t13_loop v0).trips) : k0_off198 v0 k = ![224 * ((nu + (k : ℕ)) / 8 % 32) + (nu + (k : ℕ)) % 8, 0] := by
  have hk : (k : ℕ) < 64 * nbl nu - nu := lt_of_lt_of_eq k.isLt (t13_trips h hu)
  have := nbl_le hu
  have hi := h.iv (k : ℕ) (by omega)
  show ![(Scalar.addi (Scalar.muli (Scalar.andi (Scalar.shrui (Scf.iv v0 1#32 k) 3#32) 31#32) 224#32) (Scalar.andi (Scf.iv v0 1#32 k) 7#32)).toNat, 0] = _
  rw [(((and31 (shr3 hi)).mul (W.lit 224 (by decide)) (by omega)).add (and7 hi) (by omega)).eq, Nat.mul_comm]

theorem t22_trips : (k0_t22_loop v0).trips = nbl nu - (nbl nu - 3) := uloop_trips (h.drain hu) (h.nb' hu) (Nat.sub_le _ _)
theorem t22_lt (k : Fin (k0_t22_loop v0).trips) : (k : ℕ) < nbl nu - (nbl nu - 3) := lt_of_lt_of_eq k.isLt (t22_trips h hu)
theorem t22_iv (k : Fin (k0_t22_loop v0).trips) : W (Scf.iv (Scalar.maxsi (Scalar.subi (nbW v0) 3#32) 0#32) 1#32 k) (nbl nu - 3 + (k : ℕ)) :=
  (h.drain hu).iv k (by have := t22_lt h hu k; have := nbl_le hu; omega)
theorem off312_eq (k : Fin (k0_t22_loop v0).trips) : k0_off312 v0 k = ![(nbl nu - 3 + (k : ℕ)) % 4] := by
  show ![(Scalar.remsi (Scf.iv (Scalar.maxsi (Scalar.subi (nbW v0) 3#32) 0#32) 1#32 k) 4#32).toNat] = _
  rw [((t22_iv h hu k).rem (W.lit 4 (by decide)) (by decide)).eq]
theorem off313_eq (t : Fin k0_t1_loop.trips) (k : Fin (k0_t22_loop v0).trips) : k0_off313 v0 t k = ![8 * (nbl nu - 3 + (k : ℕ)), 28 * (t : ℕ), 0, 0] := by
  have hl := t22_lt h hu k; have := nbl_le hu; have ht := half_lt t
  show ![(Scalar.muli (Scf.iv (Scalar.maxsi (Scalar.subi (nbW v0) 3#32) 0#32) 1#32 k) 8#32).toNat, (Scalar.muli (Scf.iv 0#32 1#32 t) 28#32).toNat, 0, 0] = _
  rw [((t22_iv h hu k).mul (W.lit 8 (by decide)) (by omega)).eq, ((iv0 t (by omega)).mul (W.lit 28 (by decide)) (by omega)).eq, Nat.mul_comm, Nat.mul_comm (t : ℕ)]
theorem off314_eq (k : Fin (k0_t22_loop v0).trips) : k0_off314 v0 k = ![8 * ((nbl nu - 3 + (k : ℕ)) % 4), 0, 0, 0] := by
  show ![(Scalar.muli (Scalar.remsi (Scf.iv (Scalar.maxsi (Scalar.subi (nbW v0) 3#32) 0#32) 1#32 k) 4#32) 8#32).toNat, 0, 0, 0] = _
  rw [(((t22_iv h hu k).rem (W.lit 4 (by decide)) (by decide)).mul (W.lit 8 (by decide)) (by omega)).eq, Nat.mul_comm]

theorem t26_trips : (k0_t26_loop v0).trips = 512 - 2 * nbl nu := (uloop_trips W.zero (h.nz hu) (Nat.zero_le _)).trans (Nat.sub_zero _)
theorem off320_eq (k : Fin (k0_t26_loop v0).trips) : k0_off320 v0 k = ![4 * (2 * nbl nu + (0 + (k : ℕ))), 0, 0, 0] := by
  have hk : (k : ℕ) < 512 - 2 * nbl nu := lt_of_lt_of_eq k.isLt (t26_trips h hu)
  show ![(Scalar.muli (Scalar.addi (zbW v0) (Scf.iv 0#32 1#32 k)) 4#32).toNat, 0, 0, 0] = _
  rw [zoff h hu W.zero (by omega)]
  rfl

/-- What the kernel assumes of the number of segments. -/
theorem chkU (h1 : 1 ≤ nu) : k0_chk2 v0 := by
  have hb := h.nb' hu
  have hz := h.nz hu
  have hd := h.drain hu
  have h64 := (h.nb' hu).mul (W.lit 64 (by decide)) (by have := nbl_le hu; omega)
  have hnb := nbl_le hu
  have hle : nu ≤ nbl nu * 64 := by unfold nbl; omega
  have no {P : Sort _} {n : ℕ} (k : Fin n) (e : n = 0) : P := (Nat.not_lt_zero _ (lt_of_lt_of_eq k.isLt e)).elim
  have e15 : (k0_t15_loop v0).trips = 0 := rloop_trips W.zero hb (Nat.zero_le _)
  have e14 : (k0_t14_loop v0).trips = 0 := rloop_trips h h64 hle
  have e23 : (k0_t23_loop v0).trips = 0 := rloop_trips hd hb (Nat.sub_le _ _)
  have e27 : (k0_t27_loop v0).trips = 0 := rloop_trips W.zero hz (Nat.zero_le _)
  refine ⟨⟨uloop_ok W.zero hb (Nat.zero_le _), fun k hc => ?_, fun t k hc => ?_, fun k hc => ?_, fun k => ?_, fun k hc => uloop_ok h h64 hle, fun k j hc => ?_, fun k hc => rloop_ok h h64 hle, fun k j hc => no j e14,
    fun k => ?_, fun t k => ?_, fun k => ?_, rloop_ok W.zero hb (Nat.zero_le _), fun k => no k e15, fun t k => no k e15, fun k => no k e15, fun k => no k e15, fun k => no k e15, fun k j => no k e15, fun k => no k e15,
    fun k j => no k e15, fun k => no k e15, fun t k => no k e15, fun k => no k e15, uloop_ok hd hb (Nat.sub_le _ _), fun k => ?_, fun t k => ?_, fun k => ?_, rloop_ok hd hb (Nat.sub_le _ _), fun k => no k e23,
    fun t k => no k e23, fun k => no k e23⟩, ⟨uloop_ok W.zero hz (Nat.zero_le _), fun k => ?_, rloop_ok W.zero hz (Nat.zero_le _), fun k => no k e27⟩⟩
  · exact fin1 (off96_eq h hu k ((cond1_iff h hu k).1 hc)) (show _ + 1 ≤ 4 by omega)
  · have hk := t8_lt h hu k; have := half_lt t
    exact fin4 (off97_eq h hu t k ((cond1_iff h hu k).1 hc)) (show _ + 8 ≤ 2048 by omega) (show _ + 28 ≤ 56 by omega) (show 0 + 8 ≤ 8 by decide) (show 0 + 128 ≤ 128 by decide)
  · exact fin4 (off98_eq h hu k ((cond1_iff h hu k).1 hc)) (show _ + 8 ≤ 33 by omega) (show 0 + 28 ≤ 28 by decide) (show 0 + 8 ≤ 8 by decide) (show 0 + 128 ≤ 128 by decide)
  · exact fin1 (off99_eq h hu k) (show Nat.min (64 * ((k : ℕ) + 1)) 16384 + 1 ≤ 16385 from Nat.succ_le_succ (Nat.min_le_right _ _))
  · intro a
    rw [off198_eq h hu j]
    match a with
    | ⟨0, _⟩ => exact Or.inr (show 224 * ((nu + (j : ℕ)) / 8 % 32) + (nu + (j : ℕ)) % 8 + 8 * (28 - 1) < 7392 by omega)
    | ⟨1, _⟩ => exact Or.inr (show 0 + 1 * (128 - 1) < 128 by decide)
  · exact fin1 (off200_eq h hu k) (show _ + 1 ≤ 4 by omega)
  · have hk := t8_lt h hu k; have := half_lt t
    exact fin4 (off201_eq h hu t k) (show _ + 8 ≤ 2048 by omega) (show _ + 28 ≤ 56 by omega) (show 0 + 8 ≤ 8 by decide) (show 0 + 128 ≤ 128 by decide)
  · exact fin4 (off202_eq h hu k) (show _ + 8 ≤ 33 by omega) (show 0 + 28 ≤ 28 by decide) (show 0 + 8 ≤ 8 by decide) (show 0 + 128 ≤ 128 by decide)
  · exact fin1 (off312_eq h hu k) (show _ + 1 ≤ 4 by omega)
  · have hk := t22_lt h hu k; have := half_lt t
    exact fin4 (off313_eq h hu t k) (show _ + 8 ≤ 2048 by omega) (show _ + 28 ≤ 56 by omega) (show 0 + 8 ≤ 8 by decide) (show 0 + 128 ≤ 128 by decide)
  · exact fin4 (off314_eq h hu k) (show _ + 8 ≤ 33 by omega) (show 0 + 28 ≤ 28 by decide) (show 0 + 8 ≤ 8 by decide) (show 0 + 128 ≤ 128 by decide)
  · have hk : (k : ℕ) < 512 - 2 * nbl nu := lt_of_lt_of_eq k.isLt (t26_trips h hu)
    exact fin4 (off320_eq h hu k) (show _ + 4 ≤ 2048 by omega) (show 0 + 56 ≤ 56 by decide) (show 0 + 8 ≤ 8 by decide) (show 0 + 128 ≤ 128 by decide)
end

end Cert.Proof.KernelIdeal

end
-- ==== Proof.MainIdeal.Zeros.lean ====
module

public import Idealize.ShloMosaic.Lib.Batch
public import proofs.«01_k».proof.Proof.MainIdeal.Codes
public import proofs.«01_k».proof.Proof.MainIdeal.BArith

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The copies of zeros into the tail of the result: zero block `z` covers the output tiles
    `4 (2 nb + z) … + 3`; the first `d` have been started. -/

/-- The counters' embedding. -/
abbrev EC (F : FTy → Type) [FloatOps F] : UEmb Counters (MT nD τ sig Unit (Elt F) ℕ (Pipeline.UD sig nD τ) ℕ) := countersEmb (U := Pipeline.UD sig nD τ)

/-- The float zero. -/
def fz : Elt F .f32 := Scalar.ofBits .f32 0x00000000#32
/-- The contents of the result. -/
abbrev OutBuf (F : FTy → Type) [FloatOps F] := S2048x56x8x128.Idx → Elt F .f32
abbrev ZBuf (F : FTy → Type) [FloatOps F] := S4x56x8x128.Idx → Elt F .f32
def zBuf : ZBuf F := fun _ => fz
def zOut : OutBuf F := fun _ => fz
/-- The semaphore of the zero copies. -/
abbrev zsem : DmaSem sig := cc0_scratch5.sem

/-- The output tiles `a ≤ t < b`. -/
def tiles (a b : ℕ) : Finset S2048x56x8x128.Idx := Finset.univ.filter fun i => a ≤ ((i 0 : Fin 2048) : ℕ) ∧ ((i 0 : Fin 2048) : ℕ) < b
theorem mem_tiles {a b : ℕ} {i : S2048x56x8x128.Idx} : i ∈ tiles a b ↔ a ≤ ((i 0 : Fin 2048) : ℕ) ∧ ((i 0 : Fin 2048) : ℕ) < b := by
  simp [tiles]

/-- The window of a zero copy. -/
abbrev zWin (off : Fin 4 → ℕ) (inb : ∀ a, off a + S4x56x8x128.size a ≤ S2048x56x8x128.size a) : Memref sig .tc .hbm S4x56x8x128 .f32 :=
  (Memref.whole main_v0).slice (Rect.unit (s := S2048x56x8x128) off S4x56x8x128.size inb) (fun _ => rfl)

theorem zWin_emb {off : Fin 4 → ℕ} (inb) (m : ℕ) (hoff : off = ![m, 0, 0, 0]) (x : S4x56x8x128.Idx) :
    (((zWin off inb).view.emb x : S2048x56x8x128.Idx) 0 : Fin 2048).val = m + ((x 0 : Fin 4) : ℕ) := by
  subst hoff
  show m + 1 * ((x 0 : Fin 4) : ℕ) = _
  omega
theorem zWin_mem {off : Fin 4 → ℕ} (inb) (m : ℕ) (hoff : off = ![m, 0, 0, 0]) (i : S2048x56x8x128.Idx) (hi : i ∈ tiles m (m + 4)) :
    ∃ x, (zWin off inb).view.emb x = i := by
  subst hoff
  rw [mem_tiles] at hi
  refine ⟨ix4 (⟨((i 0 : Fin 2048) : ℕ) - m, by omega⟩ : Fin 4) (i 1 : Fin 56) (i 2 : Fin 8) (i 3 : Fin 128), ?_⟩
  funext a
  match a with
  | ⟨0, _⟩ => exact Fin.ext (show m + 1 * (((i 0 : Fin 2048) : ℕ) - m) = ((i 0 : Fin 2048) : ℕ) by omega)
  | ⟨1, _⟩ => exact Fin.ext (show 0 + 1 * ((i 1 : Fin 56) : ℕ) = ((i 1 : Fin 56) : ℕ) by omega)
  | ⟨2, _⟩ => exact Fin.ext (show 0 + 1 * ((i 2 : Fin 8) : ℕ) = ((i 2 : Fin 8) : ℕ) by omega)
  | ⟨3, _⟩ => exact Fin.ext (show 0 + 1 * ((i 3 : Fin 128) : ℕ) = ((i 3 : Fin 128) : ℕ) by omega)

variable (c : Dev nD) {α : Type} {Q : α → SP F}

/-- What zero copy `z` delivers. -/
def zD (nu z : ℕ) : SP F :=
  iprop(((c : Thread nD τ).loc main_v0 ↦[tiles (4 * (2 * nbl nu + z)) (4 * (2 * nbl nu + z) + 4)]{fullShare} zOut)
    ∗ ((c : Thread nD τ).loc cc0_scratch2 ↦[Finset.univ]{Transfers.shareTokN fullShare z} zBuf))

instance zD_storable (nu z : ℕ) : BI.Storable (upEmb : UEmb _ (MT nD τ sig Unit (Elt F) ℕ (Pipeline.UD sig nD τ) ℕ)) (zD (F := F) c nu z) := by
  unfold zD; infer_instance

/-- The units of a zero copy. -/
def zN : ℕ := (zWin ![0, 0, 0, 0] (by decide)).view.dmaCredit

/-- The zero copies after `d` starts. -/
def ZS (o0 : OutBuf F) (nu d : ℕ) : SP F :=
  iprop(Transfers.Batch (EC F) (c : Thread nD τ) (.dma zsem) () zN (fun z : Fin (512 - 2 * nbl nu) => zD c nu z) d 0
    ∗ ((c : Thread nD τ).loc cc0_scratch2 ↦[Finset.univ]{Transfers.shareDrop fullShare d} zBuf)
    ∗ ((c : Thread nD τ).loc main_v0 ↦[tiles (4 * (2 * nbl nu + d)) 2048]{fullShare} o0))

/-- Starting the next zero copy. -/
theorem zstart (o0 : OutBuf F) (nu d : ℕ) (hu : nu ≤ 16384) (hd : d < 512 - 2 * nbl nu) {off : Fin 4 → ℕ} {inb}
    (hoff : off = ![4 * (2 * nbl nu + d), 0, 0, 0]) {h1 h2 h3} {k : PUnit → PG F α} :
    ZS c o0 nu d ⊢ iprop((ZS c o0 nu (d + 1) -∗ WP c (k ⟨⟩) Q)
      -∗ WP c (.op (.enqueueDma (Memref.whole cc0_scratch2) (.here (zWin off inb)) (.dma zsem) h1 h2 h3) k) Q) := by
  have hnb := nbl_le hu
  have hsub : tiles (4 * (2 * nbl nu + d)) (4 * (2 * nbl nu + d) + 4) ⊆ tiles (4 * (2 * nbl nu + d)) 2048 := by
    intro i hi
    rw [mem_tiles] at hi ⊢
    omega
  have hrest : tiles (4 * (2 * nbl nu + d)) 2048 \ tiles (4 * (2 * nbl nu + d)) (4 * (2 * nbl nu + d) + 4) = tiles (4 * (2 * nbl nu + (d + 1))) 2048 := by
    ext i
    rw [Finset.mem_sdiff, mem_tiles, mem_tiles, mem_tiles]
    omega
  have hset : (zWin off inb).view.set ⊆ tiles (4 * (2 * nbl nu + d)) (4 * (2 * nbl nu + d) + 4) := by
    intro i hi
    obtain ⟨x, -, rfl⟩ := Finset.mem_map.mp hi
    rw [mem_tiles]
    have e := zWin_emb inb _ hoff x
    have hx : ((x 0 : Fin 4) : ℕ) < 4 := (x 0 : Fin 4).isLt
    constructor
    · exact le_of_le_of_eq (Nat.le_add_right _ _) e.symm
    · exact lt_of_eq_of_lt e (Nat.add_lt_add_left hx _)
  unfold ZS
  iintro ⟨HB, Hz, Ho⟩ Hk
  ihave Ho' := (pointsTo_split_subset hsub).1 $$ Ho
  icases Ho' with ⟨Hw, Hrest⟩
  rw [hrest]
  ihave Hz' := (pointsTo_share (PosShare.mem_left_op_right _)).1 $$ Hz
  icases Hz' with ⟨Hkeep, Htok⟩
  have key := Transfers.wp_dmaBatch (EC F) (defs := defs₀ (F := F)) Variants.none (c : Thread nD τ) none (src := Memref.whole cc0_scratch2) (dst := zWin off inb) (via := .same) (sm := .dma zsem) (hsrc := h1) (hdst := h2) (hsem := h3) (k := k) (Q := Q)
    (fs := zBuf) (fd := o0) (q := Transfers.shareTokN fullShare d) (D := fun z : Fin (512 - 2 * nbl nu) => zD (F := F) c nu z) (u := 0) () zN rfl hset hd (Nat.zero_le _) (by
      unfold zD
      refine BI.Laws.sep_mono ?_ ?_
      · refine le_of_eq (pointsTo_congr fun i hi => ?_)
        obtain ⟨x, rfl⟩ := zWin_mem inb _ hoff i hi
        exact View.write_emb_of_mem _ _ (Finset.mem_univ x)
      · exact le_of_eq (congrArg (fun S => ((c : Thread nD τ).loc cc0_scratch2 ↦[S]{Transfers.shareTokN fullShare d} zBuf)) (View.set_whole _)))
  iapply key $$ [HB Hw Htok]
  · isplitl [Htok]
    · rw [show (Memref.whole cc0_scratch2).view.set = Finset.univ from View.set_whole _]
      iexact Htok
    isplitl [Hw]
    · iexact Hw
    iexact HB
  iintro HB
  iapply Hk
  isplitl [HB]; · iexact HB
  isplitl [Hkeep]; · iexact Hkeep
  iexact Hrest

/-- A loop of no trips is skipped. -/
theorem skip {σ : Type} {P : SP F} (l : Scf.Loop 32) (hok : l.OK) (h0 : l.trips = 0) (init : σ) (body : Fin l.trips → σ → PG F σ) {kk : σ → PG F α} :
    P ⊢ iprop((P -∗ WP c (kk init) Q) -∗ WP c (Scf.Loop.for l hok init body >>= kk) Q) := by
  iintro HP Hk
  iapply (Scf.wp_for_bind frame (wpE (defs₀ (F := F)) Variants.none (c : Thread nD τ) none) Set.univ l.lb l.ub l.st hok init body
    (fun _ acc => iprop(⌜acc = init⌝ ∗ P)) (fun k => (Nat.not_lt_zero _ (lt_of_lt_of_eq k.isLt h0)).elim)) $$ [HP]
  · isplitr
    · ipureintro; rfl
    iexact HP
  iintro %acc ⟨%h, HP⟩
  subst h
  iapply Hk
  iexact HP

/-- A body that starts zero copy `d + k`. -/
def StartsZero (nu d : ℕ) (k : ℕ) (p : PG F (BitVec 32)) : Prop :=
  ∃ (off : Fin 4 → ℕ) (inb : ∀ a, off a + S4x56x8x128.size a ≤ S2048x56x8x128.size a) (h1 : _) (h2 : _) (h3 : _), off = ![4 * (2 * nbl nu + (d + k)), 0, 0, 0]
    ∧ p = .op (.enqueueDma (Memref.whole cc0_scratch2) (.here (zWin off inb)) (.dma zsem) h1 h2 h3) fun _ => .ret 0#32

/-- A loop that starts zero copies. -/
theorem zloop (o0 : OutBuf F) {lo hi : BitVec 32} {nu d e : ℕ} (hu : nu ≤ 16384) (ha : W lo d) (hb : W hi e) (hde : d ≤ e) (he : e ≤ 512 - 2 * nbl nu)
    (hok : (uloop lo hi).OK) (init : BitVec 32) (body : Fin (uloop lo hi).trips → BitVec 32 → PG F (BitVec 32))
    (hbody : ∀ (k : Fin (uloop lo hi).trips) acc, StartsZero nu d (k : ℕ) (body k acc)) {kk : BitVec 32 → PG F α} :
    ZS c o0 nu d ⊢ iprop((∀ a, ZS c o0 nu e -∗ WP c (kk a) Q) -∗ WP c (Scf.Loop.for (uloop lo hi) hok init body >>= kk) Q) := by
  have ht := uloop_trips ha hb hde
  iintro HZ Hk
  iapply (Scf.wp_for_bind frame (wpE (defs₀ (F := F)) Variants.none (c : Thread nD τ) none) Set.univ (uloop lo hi).lb (uloop lo hi).ub (uloop lo hi).st hok init body
    (fun k _ => ZS c o0 nu (d + k)) (fun k acc => by
      obtain ⟨off, inb, h1, h2, h3, hoff, hp⟩ := hbody k acc
      have hk := lt_of_lt_of_eq k.isLt ht
      rw [hp]
      iintro HZ
      iapply (zstart c o0 nu (d + k) hu (by omega) hoff) $$ HZ
      iintro HZ
      iapply (Idealize.SL.Sem.le_wp_ret _ _)
      iexact HZ)) $$ [HZ]
  · iexact HZ
  iintro %acc HZ
  iapply Hk
  rw [show d + Scf.trips (uloop lo hi).lb (uloop lo hi).ub (uloop lo hi).st = e by
    have : Scf.trips (uloop lo hi).lb (uloop lo hi).ub (uloop lo hi).st = e - d := ht
    omega]
  iexact HZ

theorem tiles_union (nu : ℕ) (hu : nu ≤ 16384) :
    (Finset.univ : Finset (Fin (512 - 2 * nbl nu))).biUnion (fun z => tiles (4 * (2 * nbl nu + (z : ℕ))) (4 * (2 * nbl nu + (z : ℕ)) + 4)) = tiles (8 * nbl nu) 2048 := by
  have hnb := nbl_le hu
  ext i
  simp only [Finset.mem_biUnion, Finset.mem_univ, true_and, mem_tiles]
  constructor
  · rintro ⟨z, h1, h2⟩
    have := z.isLt
    omega
  · rintro ⟨h1, h2⟩
    exact ⟨⟨((i 0 : Fin 2048) : ℕ) / 4 - 2 * nbl nu, by omega⟩, by dsimp only; omega, by dsimp only; omega⟩

/-- Every zero copy done: the tail of the result is zero. -/
theorem zcollect (nu : ℕ) (hu : nu ≤ 16384) :
    iprop(bigSep Finset.univ (fun z : Fin (512 - 2 * nbl nu) => zD (F := F) c nu z) ∗ ((c : Thread nD τ).loc cc0_scratch2 ↦[Finset.univ]{Transfers.shareDrop fullShare (512 - 2 * nbl nu)} zBuf))
      ⊢ iprop(((c : Thread nD τ).loc cc0_scratch2 ↦[Finset.univ]{fullShare} zBuf) ∗ ((c : Thread nD τ).loc main_v0 ↦[tiles (8 * nbl nu) 2048]{fullShare} zOut)) := by
  unfold zD
  rw [bigSep_sep']
  iintro ⟨⟨Ho, Hs⟩, Hr⟩
  isplitl [Hs Hr]
  · iapply (Transfers.pointsTo_toks_join (Ix := Unit) (Name := ℕ) (U := Pipeline.UD sig nD τ) (Lvl := ℕ) fullShare (512 - 2 * nbl nu))
    isplitl [Hr]
    · iexact Hr
    iexact Hs
  · have e := pointsTo_biUnion (Ix := Unit) (Val := Elt F) (Name := ℕ) (U := Pipeline.UD sig nD τ) (Lvl := ℕ) (ℓ := (c : Thread nD τ).loc main_v0) (q := fullShare) (f := (zOut : OutBuf F))
      (Finset.univ : Finset (Fin (512 - 2 * nbl nu))) (fun z => tiles (4 * (2 * nbl nu + (z : ℕ))) (4 * (2 * nbl nu + (z : ℕ)) + 4)) (by
        intro z _ z' _ hne
        refine Finset.disjoint_left.mpr fun i h1 h2 => hne (Fin.ext ?_)
        rw [mem_tiles] at h1 h2
        omega)
    rw [tiles_union nu hu] at e
    rw [e]
    iexact Ho

/-- A body that waits for one zero copy. -/
def WaitsZero (p : PG F (BitVec 32)) : Prop :=
  ∃ (off : Fin 4 → ℕ) (inb : ∀ a, off a + S4x56x8x128.size a ≤ S2048x56x8x128.size a) (h1 : _) (h2 : _),
    p = .op (.waitDma2 zsem (Memref.whole cc0_scratch2) (zWin off inb) h1 h2) fun _ => .ret 0#32

/-- The loop that waits for every zero copy. -/
theorem zwaits (o0 : OutBuf F) {hi : BitVec 32} {nu : ℕ} (hu : nu ≤ 16384) (hb : W hi (512 - 2 * nbl nu))
    (hok : (uloop 0#32 hi).OK) (init : BitVec 32) (body : Fin (uloop 0#32 hi).trips → BitVec 32 → PG F (BitVec 32))
    (hbody : ∀ k acc, WaitsZero (body k acc)) {kk : BitVec 32 → PG F α} :
    iprop(ZS c o0 nu (512 - 2 * nbl nu) ∗ ∃ W, owes (c : Thread nD τ) 0 W) ⊢ iprop((∀ a, iprop(((c : Thread nD τ).loc cc0_scratch2 ↦[Finset.univ]{fullShare} zBuf)
        ∗ ((c : Thread nD τ).loc main_v0 ↦[tiles (8 * nbl nu) 2048]{fullShare} zOut) ∗ semVal ((c : Thread nD τ), SemLoc.dma zsem) 0 ∗ ∃ W, owes (c : Thread nD τ) 0 W) -∗ WP c (kk a) Q)
      -∗ WP c (Scf.Loop.for (uloop 0#32 hi) hok init body >>= kk) Q) := by
  have ht := uloop_trips W.zero hb (Nat.zero_le _)
  unfold ZS
  iintro ⟨⟨HB, Hs, -⟩, HO⟩ Hk
  iapply (Scf.wp_for_bind frame (wpE (defs₀ (F := F)) Variants.none (c : Thread nD τ) none) Set.univ (uloop 0#32 hi).lb (uloop 0#32 hi).ub (uloop 0#32 hi).st hok init body
    (fun k _ => iprop(Transfers.Batch (EC F) (c : Thread nD τ) (.dma zsem) () zN (fun z : Fin (512 - 2 * nbl nu) => zD (F := F) c nu z) (512 - 2 * nbl nu) (zN * k) ∗ ∃ W, owes (c : Thread nD τ) 0 W)) (fun k acc => by
      obtain ⟨off, inb, h1, h2, hp⟩ := hbody k acc
      have hk := lt_of_lt_of_eq k.isLt ht
      rw [hp]
      iintro ⟨HB, ⟨%W, HO⟩⟩
      have key := Transfers.wp_waitBatchMul (EC F) (defs := defs₀ (F := F)) Variants.none (c : Thread nD τ) none (srcw := Memref.whole cc0_scratch2) (dstw := zWin off inb) (sem := zsem) (hsrc := h1) (hdst := h2)
        (Q := fun _ => iprop(Transfers.Batch (EC F) (c : Thread nD τ) (.dma zsem) () zN (fun z : Fin (512 - 2 * nbl nu) => zD (F := F) c nu z) (512 - 2 * nbl nu) (zN * ((k : ℕ) + 1)) ∗ ∃ W, owes (c : Thread nD τ) 0 W)) (k := fun _ => .ret 0#32)
        (D := fun z : Fin (512 - 2 * nbl nu) => zD (F := F) c nu z) (N := zN) (j := 512 - 2 * nbl nu) (u := zN * (k : ℕ)) (W := W) () 1 (show _ = 1 * zN from (Nat.one_mul zN).symm) (by
          rw [Nat.one_mul, ← Nat.mul_succ]; exact Nat.mul_le_mul_left _ (by omega))
      iapply key $$ [HB HO]
      · isplitl [HB]; · iexact HB
        iexact HO
      iintro ⟨HB, HO⟩
      iapply (Idealize.SL.Sem.le_wp_ret _ _)
      isplitl [HB]
      · rw [Nat.one_mul, ← Nat.mul_succ]
        iexact HB
      iexists _
      iexact HO)) $$ [HB HO]
  · isplitl [HB]; · iexact HB
    iexact HO
  iintro %acc ⟨HB, HO⟩
  rw [show Scf.trips (uloop 0#32 hi).lb (uloop 0#32 hi).ub (uloop 0#32 hi).st = 512 - 2 * nbl nu from ht]
  imod (Transfers.batch_collect' (EC F) (c := (c : Thread nD τ)) (sm := .dma zsem) (ι := ()) (show 0 < zN by decide)) $$ HB with ⟨HD, Hv⟩
  iapply Hk
  ihave H := (zcollect c nu hu) $$ [HD Hs]
  · isplitl [HD]; · iexact HD
    iexact Hs
  icases H with ⟨Hs, Ho⟩
  isplitl [Hs]; · iexact Hs
  isplitl [Ho]; · iexact Ho
  isplitl [Hv]; · iexact Hv
  iexact HO

/-- Before the first zero copy. -/
theorem zinit (o0 : OutBuf F) (nu : ℕ) :
    iprop(semVal ((c : Thread nD τ), SemLoc.dma zsem) 0 ∗ ((c : Thread nD τ).loc cc0_scratch2 ↦[Finset.univ]{fullShare} zBuf) ∗ ((c : Thread nD τ).loc main_v0 ↦[tiles (8 * nbl nu) 2048]{fullShare} o0))
      ⊢ (|={Set.univ}=> ZS c o0 nu 0 : SP F) := by
  iintro ⟨Hv, Hs, Ho⟩
  imod (Transfers.batch_alloc' (EC F) (c := (c : Thread nD τ)) (sm := .dma zsem) () zN (fun z : Fin (512 - 2 * nbl nu) => zD (F := F) c nu z)) $$ Hv with HB
  imodintro
  unfold ZS
  isplitl [HB]; · iexact HB
  isplitl [Hs]; · iexact Hs
  rw [show 4 * (2 * nbl nu + 0) = 8 * nbl nu by omega]
  iexact Ho

end Cert.Proof.KernelIdeal

end
-- ==== Proof.MainIdeal.Tokens.lean ====
module

public import proofs.«01_k».proof.Proof.MainIdeal.Codes

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One group of sixteen tokens: each adds its row to the accumulator (cleared where a segment starts) and stores
    the accumulator in its ring row. -/

/-- The ring's contents. -/
abbrev RingBuf (F : FTy → Type) := S33x28x8x128.Idx → F .f32

/-- The ring row of an element: eight rows to a block of the ring. -/
def ringRow (i : S33x28x8x128.Idx) : ℕ := 8 * ((i 0 : Fin 33) : ℕ) + ((i 2 : Fin 8) : ℕ)

/-- The ring with row `R` replaced. -/
def setRow (R : ℕ) (r : RingBuf F) (w : S28x128.Idx → F .f32) : RingBuf F := fun i =>
  if ringRow i = R then w (ix2 (i 1 : Fin 28) (i 3 : Fin 128)) else r i

/-- The flat view of the ring. -/
abbrev ringRows : Memref sig .tc .vmem S7392x128 .f32 :=
  (Memref.whole cc0_scratch1).reshape S7392x128 reshapes_S33x28x8x128_S7392x128.1 reshapes_S33x28x8x128_S7392x128.2 (Memref.isWhole_whole cc0_scratch1).contiguous

abbrev ringBox (off : Fin 2 → ℕ) (inb : ∀ a, S28x128.size a = 0 ∨ off a + (![8, 1] : Fin 2 → ℕ) a * (S28x128.size a - 1) < S7392x128.size a) : Rect S7392x128 :=
  ⟨⟨off, S28x128.size, ![8, 1], inb⟩, spos_8_1⟩

variable (c : Dev nD) {α : Type} {Q : α → SP F}

/-- Where a ring row's elements lie in the flat view. -/
theorem ringBox_mem (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (x : S28x128.Idx) :
    let i : S33x28x8x128.Idx := (ringRows.access (ringBox off inb)).emb x
    ringRow i = R ∧ ((i 1 : Fin 28) : ℕ) = ((x 0 : Fin 28) : ℕ) ∧ ((i 3 : Fin 128) : ℕ) = ((x 1 : Fin 128) : ℕ) := by
  subst hoff
  intro i
  have hi : i = Shape.reshapeEquiv reshapes_S33x28x8x128_S7392x128.1 ((ringBox ![224 * (R / 8) + R % 8, 0] inb).emb x) := rfl
  have h := resh_row (N := 33) (M := 7392) reshapes_S33x28x8x128_S7392x128.1 ((ringBox ![224 * (R / 8) + R % 8, 0] inb).emb x)
  rw [← hi] at h
  obtain ⟨h0, h1⟩ := h
  have e0 : ((((ringBox ![224 * (R / 8) + R % 8, 0] inb).emb x) 0 : Fin 7392) : ℕ) = 224 * (R / 8) + R % 8 + 8 * ((x 0 : Fin 28) : ℕ) := rfl
  have e1 : ((((ringBox ![224 * (R / 8) + R % 8, 0] inb).emb x) 1 : Fin 128) : ℕ) = 0 + 1 * ((x 1 : Fin 128) : ℕ) := rfl
  replace h0 := h0.trans e0
  replace h1 := h1.trans e1
  have b1 : ((i 1 : Fin 28) : ℕ) < 28 := (i 1 : Fin 28).isLt
  have b2 : ((i 2 : Fin 8) : ℕ) < 8 := (i 2 : Fin 8).isLt
  have bx : ((x 0 : Fin 28) : ℕ) < 28 := (x 0 : Fin 28).isLt
  unfold ringRow
  refine ⟨?_, ?_, ?_⟩ <;> omega

theorem ringBox_surj (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (i : S33x28x8x128.Idx) (h : ringRow i = R) :
    (ringRows.access (ringBox off inb)).emb (ix2 (i 1 : Fin 28) (i 3 : Fin 128)) = i := by
  obtain ⟨h0, h1, h2⟩ := ringBox_mem off inb R hoff (ix2 (i 1 : Fin 28) (i 3 : Fin 128))
  generalize hz : (ringRows.access (ringBox off inb)).emb (ix2 (i 1 : Fin 28) (i 3 : Fin 128)) = z at h0 h1 h2
  have h0 : ringRow z = R := h0
  have h1 : ((z 1 : Fin 28) : ℕ) = ((i 1 : Fin 28) : ℕ) := h1
  have h2 : ((z 3 : Fin 128) : ℕ) = ((i 3 : Fin 128) : ℕ) := h2
  have a2 : ((i 2 : Fin 8) : ℕ) < 8 := (i 2 : Fin 8).isLt
  have a4 : ((z 2 : Fin 8) : ℕ) < 8 := (z 2 : Fin 8).isLt
  clear hz
  unfold ringRow at h0 h
  funext a
  match a with
  | ⟨0, _⟩ => exact Fin.ext (show ((z 0 : Fin 33) : ℕ) = ((i 0 : Fin 33) : ℕ) by omega)
  | ⟨1, _⟩ => exact Fin.ext h1
  | ⟨2, _⟩ => exact Fin.ext (show ((z 2 : Fin 8) : ℕ) = ((i 2 : Fin 8) : ℕ) by omega)
  | ⟨3, _⟩ => exact Fin.ext h2

theorem ringBox_sub (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (S : Finset S33x28x8x128.Idx) (hS : ∀ i, ringRow i = R → i ∈ S) :
    (ringRows.access (ringBox off inb)).setOn Finset.univ ⊆ S := by
  intro i hi
  obtain ⟨x, _, rfl⟩ := Finset.mem_map.mp hi
  exact hS _ (ringBox_mem off inb R hoff x).1

theorem ringWrite (off : Fin 2 → ℕ) (inb : ∀ a, S28x128.size a = 0 ∨ off a + (![8, 1] : Fin 2 → ℕ) a * (S28x128.size a - 1) < S7392x128.size a)
    (R : ℕ) (hoff : off = ![224 * (R / 8) + R % 8, 0]) (S : Finset S33x28x8x128.Idx) (r : RingBuf F) (w : S28x128.Idx → F .f32) :
    ∀ i ∈ S, (ringRows.access (ringBox off inb)).write (Elt F) r w Finset.univ i = setRow R r w i := by
  refine write_eq_of (F := F) (ringRows.access (ringBox off inb)) r (setRow R r w) w S ?_ ?_
  · intro x
    obtain ⟨h0, h1, h2⟩ := ringBox_mem off inb R hoff x
    refine (if_pos h0).trans ?_
    refine Eq.trans (b := w x) ?_ rfl
    refine congrArg w ?_
    funext a
    match a with
    | ⟨0, _⟩ => exact Fin.ext h1
    | ⟨1, _⟩ => exact Fin.ext h2
  · intro i hi hn
    exact if_neg fun h => hn _ (ringBox_surj off inb R hoff i h)

/-- Storing a ring row that is owned. -/
theorem ringStore {off : Fin 2 → ℕ} {inb : ∀ a, S28x128.size a = 0 ∨ off a + (![8, 1] : Fin 2 → ℕ) a * (S28x128.size a - 1) < S7392x128.size a}
    {w : S28x128.Idx → Elt F .f32} {hx} {hm} {k : PUnit → PG F α}
    (R : ℕ) (S : Finset S33x28x8x128.Idx) (r : RingBuf F) (hoff : off = ![224 * (R / 8) + R % 8, 0]) (hS : ∀ i, ringRow i = R → i ∈ S) :
    (((c : Thread nD τ).loc cc0_scratch1 ↦[S]{fullShare} r) : SP F)
      ⊢ iprop((((c : Thread nD τ).loc cc0_scratch1 ↦[S]{fullShare} setRow R r w) -∗ WP c (k ⟨⟩) Q)
        -∗ WP c (.op (.store ringRows ⟨⟨off, S28x128.size, ![8, 1], inb⟩, spos_8_1⟩ w Finset.univ hx hm) k) Q) := by
  have e2 : (((c : Thread nD τ).loc cc0_scratch1 ↦[S]{fullShare} (ringRows.access (ringBox off inb)).write (Elt F) r w Finset.univ) : SP F)
      = ((c : Thread nD τ).loc cc0_scratch1 ↦[S]{fullShare} setRow R r w) := pointsTo_congr (ringWrite off inb R hoff S r w)
  have key := wp_store (hx := hx) (hm := hm) (k := k) (Q := Q) (w := w) (f := r) (S := S) (defs := defs₀ (F := F)) (Γ := .empty) Variants.none (c : Thread nD τ) none Set.univ
    (m := ringRows) (r := ringBox off inb) (Mk := Finset.univ) (ringBox_sub off inb R hoff S hS)
  exact key.trans (wand_mono_left (wand_mono_left (le_of_eq e2)))

/-- Loading a ring row that is owned: any value will do. -/
theorem ringLoad {off : Fin 2 → ℕ} {inb : ∀ a, S28x128.size a = 0 ∨ off a + (![8, 1] : Fin 2 → ℕ) a * (S28x128.size a - 1) < S7392x128.size a}
    {hl} {k : (S28x128.Idx → Elt F .f32) → PG F α}
    (R : ℕ) (S : Finset S33x28x8x128.Idx) (r : RingBuf F) (hoff : off = ![224 * (R / 8) + R % 8, 0]) (hS : ∀ i, ringRow i = R → i ∈ S) :
    (((c : Thread nD τ).loc cc0_scratch1 ↦[S]{fullShare} r) : SP F)
      ⊢ iprop((((c : Thread nD τ).loc cc0_scratch1 ↦[S]{fullShare} r) -∗ ∀ x, WP c (k x) Q)
        -∗ WP c (.op (.load ringRows (⟨off, S28x128.size, ![8, 1], inb⟩ : LoadRect S7392x128) hl) k) Q) := by
  have hsub : ringRows.view.setOn (⟨off, S28x128.size, ![8, 1], inb⟩ : LoadRect S7392x128).set ⊆ S := by
    have h := View.set_slice ringRows.view (ringBox off inb)
    have h2 : (ringRows.access (ringBox off inb)).setOn Finset.univ = ringRows.view.setOn (⟨off, S28x128.size, ![8, 1], inb⟩ : LoadRect S7392x128).set := h
    rw [← h2]; exact ringBox_sub off inb R hoff S hS
  have key := wp_load (hl := hl) (k := k) (Q := Q) (f := r) (S := S) (q := fullShare) (defs := defs₀ (F := F)) (Γ := .empty) Variants.none (c : Thread nD τ) none Set.univ
    (m := ringRows) hsub
  exact key.trans (wand_mono_left (wand_mono_right (forall_elim _)))

/-- Eight rows of the flat view from row `ρ` on. -/
def rowsAt (f : CodeBuf) (ρ : ℕ) : S8x128.Idx → BitVec 32 := fun x =>
  f (ix4 (Fin.ofNat 513 ((ρ + ((x 0 : Fin 8) : ℕ)) / 224)) (Fin.ofNat 28 ((ρ + ((x 0 : Fin 8) : ℕ)) % 224 / 8)) (Fin.ofNat 8 ((ρ + ((x 0 : Fin 8) : ℕ)) % 8)) (x 1 : Fin 128))

/-- Loading eight rows of the code words. -/
theorem codeRowsLoad {off : Fin 2 → ℕ} {inb : ∀ a, off a + S8x128.size a ≤ S114912x128.size a} {hl} {k : (S8x128.Idx → Elt F .i32) → PG F α}
    (ρ : ℕ) (f : CodeBuf) (hoff : off = ![ρ, 0]) :
    (((c : Thread nD τ).loc cc0_scratch0 ↦[Finset.univ]{fullShare} f) : SP F)
      ⊢ iprop((((c : Thread nD τ).loc cc0_scratch0 ↦[Finset.univ]{fullShare} f) -∗ WP c (k (rowsAt f ρ)) Q)
        -∗ WP c (.op (.load codeRows (Rect.unit (s := S114912x128) off S8x128.size inb).toLoadRect hl) k) Q) := by
  subst hoff
  have hρ : ρ + 8 ≤ 114912 := inb 0
  have hr : codeRows.view.readAt (Elt F) (Rect.unit (s := S114912x128) ![ρ, 0] S8x128.size inb).toLoadRect f = rowsAt f ρ := by
    funext x
    have bx : ((x 0 : Fin 8) : ℕ) < 8 := (x 0 : Fin 8).isLt
    refine congrArg f ?_
    refine resh_vals (N := 513) (M := 114912) reshapes_S513x28x8x128_S114912x128.1 _ _ ?_ ?_
    · show ((ρ + ((x 0 : Fin 8) : ℕ)) / 224) % 513 * 224 + ((ρ + ((x 0 : Fin 8) : ℕ)) % 224 / 8) % 28 * 8 + ((ρ + ((x 0 : Fin 8) : ℕ)) % 8) % 8 = ρ + 1 * ((x 0 : Fin 8) : ℕ)
      omega
    · show ((x 1 : Fin 128) : ℕ) = 0 + 1 * ((x 1 : Fin 128) : ℕ)
      omega
  have h := wp_load (hl := hl) (k := k) (Q := Q) (defs := defs₀ (F := F)) (Γ := .empty) Variants.none (c : Thread nD τ) none Set.univ (m := codeRows) (q := fullShare) (f := f)
    (S := Finset.univ) (Finset.subset_univ _)
  rw [hr] at h
  exact h

/-- Element `i` of a table in scalar memory. -/
def rdT {n : ℕ} {e : EltTy} (m : Memref sig .tc .smem ⟨1, ![n]⟩ e) (g : Buf (Elt F) (m.view.loc (c : Thread nD τ))) (i : ℕ) (hi : i < n) : Elt F e :=
  m.view.read (Elt F) g (ix1 ⟨i, hi⟩)

/-- Loading an element of a table. -/
theorem tabLoad {n : ℕ} {e : EltTy} {m : Memref sig .tc .smem ⟨1, ![n]⟩ e} {off : Fin 1 → ℕ} {inb : ∀ a, off a + S1.size a ≤ (⟨1, ![n]⟩ : Shape).size a} {hl} {k : (S1.Idx → Elt F e) → PG F α}
    (i : ℕ) (hi : i < n) (q : PosShare TreeShare) (g : Buf (Elt F) (m.view.loc (c : Thread nD τ))) (hoff : off = ![i]) :
    ((m.view.loc (c : Thread nD τ) ↦[m.view.set]{q} g) : SP F)
      ⊢ iprop(((m.view.loc (c : Thread nD τ) ↦[m.view.set]{q} g) -∗ WP c (k fun _ => rdT c m g i hi) Q)
        -∗ WP c (.op (.load m (Rect.unit (s := ⟨1, ![n]⟩) off S1.size inb).toLoadRect hl) k) Q) := by
  subst hoff
  have hr : m.view.readAt (Elt F) (Rect.unit (s := ⟨1, ![n]⟩) ![i] S1.size inb).toLoadRect g = fun _ => rdT c m g i hi := by
    funext x
    have bx : ((x 0 : Fin 1) : ℕ) < 1 := (x 0 : Fin 1).isLt
    refine congrArg (m.view.read (Elt F) g) ?_
    funext a
    match a with
    | ⟨0, _⟩ => exact Fin.ext (show i + 1 * ((x 0 : Fin 1) : ℕ) = i by omega)
  have hsub : m.view.setOn (Rect.unit (s := ⟨1, ![n]⟩) ![i] S1.size inb).toLoadRect.set ⊆ m.view.set := by
    rw [← View.setOn_univ]
    exact Finset.map_subset_map.mpr (Finset.subset_univ _)
  have h := wp_load (hl := hl) (k := k) (Q := Q) (defs := defs₀ (F := F)) (Γ := .empty) Variants.none (c : Thread nD τ) none Set.univ (m := m) (q := q) (f := g) hsub
  rw [hr] at h
  exact h

/-- The source row of a token's word. -/
def srcOf (w : BitVec 32) : ℕ := (Scalar.andi w 131071#32).toNat
/-- The ring row, in the flat view, of a token's word. -/
def dstOf (w : BitVec 32) : ℕ := (Scalar.andi (Scalar.shrui w 17#32) 8191#32).toNat
/-- The ring row of a token's word. -/
def rowOfW (w : BitVec 32) : ℕ := 8 * (dstOf w / 224) + dstOf w % 8

/-- What the program assumes of a token's word. -/
structure TokOK (w : BitVec 32) : Prop where
  src : srcOf w + 8 ≤ 114912
  row : dstOf w % 224 < 8
  dst : dstOf w < 7392

theorem TokOK.chk {w : BitVec 32} (h : TokOK w) : k0_chk5 w := by
  obtain ⟨h1, h2, h3⟩ := h
  refine ⟨fun a => ?_, fun a => ?_⟩
  · match a with
    | ⟨0, _⟩ => exact h1
    | ⟨1, _⟩ => exact (show 0 + 128 ≤ 128 by decide)
  · match a with
    | ⟨0, _⟩ => exact Or.inr (show dstOf w + 8 * (28 - 1) < 7392 by omega)
    | ⟨1, _⟩ => exact Or.inr (show 0 + 1 * (128 - 1) < 128 by decide)

theorem TokOK.off {w : BitVec 32} (h : TokOK w) (off : Fin 2 → ℕ) (ho : off = ![dstOf w, 0]) : off = ![224 * (rowOfW w / 8) + rowOfW w % 8, 0] := by
  obtain ⟨h1, h2, h3⟩ := h
  have : dstOf w = 224 * (rowOfW w / 8) + rowOfW w % 8 := by unfold rowOfW; omega
  rw [ho, ← this]

/-- The accumulator after a token. -/
def stepAcc (a : FVec F S32x128 .f32) (w : BitVec 32) (x : S8x128.Idx → BitVec 32) (s : F .f32) : FVec F S32x128 .f32 := k0_pay225 a w x s
/-- The rows of the accumulator that are stored. -/
def topRows (a : FVec F S32x128 .f32) : S28x128.Idx → F .f32 := extractStridedSlice S28x128 ![0, 0] a slices_S32x128_o0_0_S28x128

/-- The accumulator and the ring after `k` tokens from token `i` on, with the tokens' words and scales as functions. -/
def tokRun (wd : ℕ → BitVec 32) (sc : ℕ → F .f32) (cw : CodeBuf) (i : ℕ) (a : FVec F S32x128 .f32) (r : RingBuf F) : ℕ → FVec F S32x128 .f32 × RingBuf F
  | 0 => (a, r)
  | k + 1 =>
    let p := tokRun wd sc cw i a r k
    let a' := stepAcc p.1 (wd (i + k)) (rowsAt cw (srcOf (wd (i + k)))) (sc (i + k))
    (a', setRow (rowOfW (wd (i + k))) p.2 (topRows a'))

/-- A table's elements as a function of every number. -/
def tabF {n : ℕ} {e : EltTy} (m : Memref sig .tc .smem ⟨1, ![n]⟩ e) (g : Buf (Elt F) (m.view.loc (c : Thread nD τ))) (hn : 0 < n) (i : ℕ) : Elt F e :=
  m.view.read (Elt F) g (ix1 ⟨i % n, Nat.mod_lt _ hn⟩)

theorem rdT_eq {n : ℕ} {e : EltTy} (m : Memref sig .tc .smem ⟨1, ![n]⟩ e) (g : Buf (Elt F) (m.view.loc (c : Thread nD τ))) (hn : 0 < n) (i : ℕ) (hi : i < n) :
    rdT c m g i hi = tabF c m g hn i := by
  unfold rdT tabF
  congr 2
  exact Fin.ext (Nat.mod_eq_of_lt hi).symm

theorem ring_congr (S : Finset S33x28x8x128.Idx) {r r' : RingBuf F} (h : r = r') :
    (((c : Thread nD τ).loc cc0_scratch1 ↦[S]{fullShare} r) : SP F) ⊢ ((c : Thread nD τ).loc cc0_scratch1 ↦[S]{fullShare} r') := by
  rw [h]

theorem castSame28 (v : S28x128.Idx → F .f32) : shapeCast S28x128 v shapeCasts_S28x128_S28x128 = v :=
  funext fun j => congrArg v (Shape.reshapeEquiv_self _ j)

/-- Loading an element of a table, as a function of every number. -/
theorem tabLoad' {n : ℕ} {e : EltTy} {m : Memref sig .tc .smem ⟨1, ![n]⟩ e} {off : Fin 1 → ℕ} {inb : ∀ a, off a + S1.size a ≤ (⟨1, ![n]⟩ : Shape).size a} {hl} {k : (S1.Idx → Elt F e) → PG F α}
    (hn : 0 < n) (i : ℕ) (q : PosShare TreeShare) (g : Buf (Elt F) (m.view.loc (c : Thread nD τ))) (hoff : off = ![i]) :
    ((m.view.loc (c : Thread nD τ) ↦[m.view.set]{q} g) : SP F)
      ⊢ iprop(((m.view.loc (c : Thread nD τ) ↦[m.view.set]{q} g) -∗ WP c (k fun _ => tabF c m g hn i) Q)
        -∗ WP c (.op (.load m (Rect.unit (s := ⟨1, ![n]⟩) off S1.size inb).toLoadRect hl) k) Q) := by
  have hi : i < n := by
    have h := inb 0
    rw [hoff] at h
    have h : i + 1 ≤ n := h
    omega
  rw [← rdT_eq c m g hn i hi]
  exact tabLoad c i hi q g hoff

theorem off_tok (B : BitVec 32) (i0 : ℕ) (hB : B.toNat = i0) (hi : i0 + 16 ≤ 17408) (off : Fin 1 → ℕ) (kk : BitVec 32) (hk : kk.toNat < 16)
    (ho : off = ![(Scalar.indexCast (Scalar.addi B kk)).toNat]) : off = ![i0 + kk.toNat] := by
  rw [ho]
  have : (Scalar.indexCast (Scalar.addi B kk)).toNat = i0 + kk.toNat := by
    simp only [Scalar.indexCast, Scalar.addi, IntOp.addi, BitVec.toNat_add, hB]
    omega
  rw [this]

set_option maxHeartbeats 4000000 in
/-- A group of sixteen tokens. -/
theorem tokens (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole) (arg4 : Memref sig .tc .hbm S4096x7168 .i32) (harg4 : arg4.IsWhole) (arg5 : Memref sig .tc .hbm S2048x56x8x128 .f32) (harg5 : arg5.IsWhole) (arg8 : Memref sig .tc .vmem S4x56x8x128 .f32) (harg8 : arg8.IsWhole) (arg9 : DmaSems sig S16) (arg10 : DmaSems sig S4) (arg11 : DmaSems sig S_)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg16 : BitVec 32) (v115 : Elt F .i32) (k0_hw4 : k0_chk4 v1 arg16 v115)
    (t : Fin (k0_t11_loop v1 arg16 v115).trips) (acc : FVec F S32x128 .f32)
    (S : Finset S33x28x8x128.Idx) (r : RingBuf F) (cw : CodeBuf) (q0 q1 : PosShare TreeShare)
    (g0 : Buf (Elt F) (arg0.view.loc (c : Thread nD τ))) (g1 : Buf (Elt F) (arg1.view.loc (c : Thread nD τ)))
    (i0 : ℕ) (hi : i0 + 16 ≤ 17408) (hB : (Scalar.addi v1 (Scalar.muli (Scf.iv arg16 1#32 t) 16#32)).toNat = i0)
    (hok : ∀ k < 16, TokOK (tabF c arg0 g0 (by decide) (i0 + k)) ∧ ∀ i, ringRow i = rowOfW (tabF c arg0 g0 (by decide) (i0 + k)) → i ∈ S) :
    (iprop((arg0.view.loc (c : Thread nD τ) ↦[arg0.view.set]{q0} g0) ∗ (arg1.view.loc (c : Thread nD τ) ↦[arg1.view.set]{q1} g1)
        ∗ ((c : Thread nD τ).loc cc0_scratch0 ↦[Finset.univ]{fullShare} cw) ∗ ((c : Thread nD τ).loc cc0_scratch1 ↦[S]{fullShare} r)) : SP F)
      ⊢ WP c
          (k0_t11_body arg0 harg0 arg1 harg1 arg2 harg2 arg3 harg3 arg4 harg4 arg5 harg5 (Memref.whole cc0_scratch0) (Memref.isWhole_whole _) (Memref.whole cc0_scratch1) (Memref.isWhole_whole _) arg8 harg8 arg9 arg10 arg11
            v0 k0_hw2 v1 v20 v21 v22 v43 v44 c0_i32_24 c1_i32_26 k0_t1 arg13 arg16 v115 k0_hw4 t acc)
          (fun a => iprop(⌜a = (tokRun (tabF c arg0 g0 (by decide)) (tabF c arg1 g1 (by decide)) cw i0 acc r 16).1⌝
            ∗ (arg0.view.loc (c : Thread nD τ) ↦[arg0.view.set]{q0} g0) ∗ (arg1.view.loc (c : Thread nD τ) ↦[arg1.view.set]{q1} g1)
            ∗ ((c : Thread nD τ).loc cc0_scratch0 ↦[Finset.univ]{fullShare} cw)
            ∗ ((c : Thread nD τ).loc cc0_scratch1 ↦[S]{fullShare} (tokRun (tabF c arg0 g0 (by decide)) (tabF c arg1 g1 (by decide)) cw i0 acc r 16).2))) := by
  iintro ⟨H0, H1, Hc, Hr⟩
  simp only [k0_t11_body, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, Prog.bind_assoc, Prog.pure_eq_ret, Prog.bind_ret]
  iterate 16
    iapply (tabLoad' c (m := arg0) (by decide) _ q0 g0 (off_tok _ i0 hB hi _ _ ?_ rfl)) $$ H0
    any_goals first | decide | skip
    iintro H0
    iapply (wp_assume Variants.none (c : Thread nD τ) none Set.univ (hok _ ?_).1.chk)
    any_goals first | decide | skip
    iapply (codeRowsLoad c _ cw rfl) $$ Hc
    iintro Hc
    iapply (tabLoad' c (m := arg1) (by decide) _ q1 g1 (off_tok _ i0 hB hi _ _ ?_ rfl)) $$ H1
    any_goals first | decide | skip
    iintro H1
    iapply (ringLoad c _ S _ ((hok _ ?_).1.off _ rfl) (hok _ ?_).2) $$ Hr
    any_goals first | decide | skip
    iintro Hr %_
    iapply (ringStore c _ S _ ((hok _ ?_).1.off _ rfl) (hok _ ?_).2) $$ Hr
    any_goals first | decide | skip
    iintro Hr
  try simp only [Prog.pure_eq_ret, Prog.bind_ret]
  iapply (Idealize.SL.Sem.le_wp_ret _ _)
  isplitr
  · ipureintro
    simp only [tokRun, stepAcc, BitVec.toNat_ofNat, Nat.reducePow, Nat.reduceMod, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay401]
    rfl
  isplitl [H0]
  · iexact H0
  isplitl [H1]
  · iexact H1
  isplitl [Hc]
  · iexact Hc
  iapply (ring_congr c S ?_) $$ Hr
  simp only [tokRun, stepAcc, topRows, BitVec.toNat_ofNat, Nat.reducePow, Nat.reduceMod, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay401, castSame28]
  rfl

end Cert.Proof.KernelIdeal

end
-- ==== Proof.MainIdeal.Ring.lean ====
module

public import Idealize.ShloMosaic.Lib.Batch
public import proofs.«01_k».proof.Proof.MainIdeal.Zeros
public import proofs.«01_k».proof.Proof.MainIdeal.Tokens

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The ring of output rows: its four cells, the copies of blocks to the output, and the waits for them. -/

/-- The ring's tiles `a ≤ t < b`. -/
def ringT (a b : ℕ) : Finset S33x28x8x128.Idx := Finset.univ.filter fun i => a ≤ ((i 0 : Fin 33) : ℕ) ∧ ((i 0 : Fin 33) : ℕ) < b
theorem mem_ringT {a b : ℕ} {i : S33x28x8x128.Idx} : i ∈ ringT a b ↔ a ≤ ((i 0 : Fin 33) : ℕ) ∧ ((i 0 : Fin 33) : ℕ) < b := by
  simp [ringT]
/-- Cell `s` of the ring. -/
abbrev ringC (s : ℕ) := ringT (8 * s) (8 * s + 8)
/-- The rows nothing reads. -/
abbrev ringD := ringT 32 33

/-- The output's blocks `a ≤ b' < b`, half `h` of the columns. -/
def outR (h a b : ℕ) : Finset S2048x56x8x128.Idx := Finset.univ.filter fun i =>
  8 * a ≤ ((i 0 : Fin 2048) : ℕ) ∧ ((i 0 : Fin 2048) : ℕ) < 8 * b ∧ 28 * h ≤ ((i 1 : Fin 56) : ℕ) ∧ ((i 1 : Fin 56) : ℕ) < 28 * h + 28
theorem mem_outR {h a b : ℕ} {i : S2048x56x8x128.Idx} : i ∈ outR h a b ↔
    8 * a ≤ ((i 0 : Fin 2048) : ℕ) ∧ ((i 0 : Fin 2048) : ℕ) < 8 * b ∧ 28 * h ≤ ((i 1 : Fin 56) : ℕ) ∧ ((i 1 : Fin 56) : ℕ) < 28 * h + 28 := by
  simp [outR]

/-- The ring's element that is copied to an element of block `b`. -/
def ringOf (b : ℕ) (i : S2048x56x8x128.Idx) : S33x28x8x128.Idx :=
  ix4 (Fin.ofNat 33 (8 * (b % 4) + ((i 0 : Fin 2048) : ℕ) % 8)) (Fin.ofNat 28 (((i 1 : Fin 56) : ℕ) % 28)) (i 2 : Fin 8) (i 3 : Fin 128)

/-- The output window of a block. -/
abbrev oWin (off : Fin 4 → ℕ) (inb : ∀ a, off a + S8x28x8x128.size a ≤ S2048x56x8x128.size a) : Memref sig .tc .hbm S8x28x8x128 .f32 :=
  (Memref.whole main_v0).slice (Rect.unit (s := S2048x56x8x128) off S8x28x8x128.size inb) (fun _ => rfl)
/-- The ring window of a block. -/
abbrev rWin (off : Fin 4 → ℕ) (inb : ∀ a, off a + S8x28x8x128.size a ≤ S33x28x8x128.size a) : Memref sig .tc .vmem S8x28x8x128 .f32 :=
  (Memref.whole cc0_scratch1).slice (Rect.unit (s := S33x28x8x128) off S8x28x8x128.size inb) (fun _ => rfl)
/-- A store's semaphore. -/
abbrev ssem (off : Fin 1 → ℕ) (inb : ∀ a, off a + S1.size a ≤ S4.size a) : DmaSem sig :=
  ((cc0_scratch4.slice (Rect.unit (s := S4) off S1.size inb)).squeeze S_ squeezes_S1_S_).sem
theorem ssem_inb (p : Fin 4) : ∀ a, (![(p : ℕ)] : Fin 1 → ℕ) a + S1.size a ≤ S4.size a := by
  intro a
  match a with
  | ⟨0, _⟩ => exact p.isLt
abbrev scell (p : Fin 4) : DmaSem sig := ssem ![(p : ℕ)] (ssem_inb p)
/-- The semaphore of block `b`. -/
abbrev bcell (b : ℕ) : DmaSem sig := scell ⟨b % 4, Nat.mod_lt _ (by decide)⟩
theorem bcell_eq (b : ℕ) : bcell (b + 4) = bcell b := by
  have : (⟨(b + 4) % 4, Nat.mod_lt _ (by decide)⟩ : Fin 4) = ⟨b % 4, Nat.mod_lt _ (by decide)⟩ := Fin.ext (Nat.add_mod_right b 4)
  exact congrArg scell this

theorem oWin_set {off : Fin 4 → ℕ} {inb} (h b : ℕ) (hoff : off = ![8 * b, 28 * h, 0, 0]) : ((oWin off inb).view.set : Finset S2048x56x8x128.Idx) = outR h b (b + 1) := by
  subst hoff
  ext i
  rw [mem_outR]
  constructor
  · intro hi
    obtain ⟨x, -, rfl⟩ := Finset.mem_map.mp hi
    have b0 : ((x 0 : Fin 8) : ℕ) < 8 := (x 0 : Fin 8).isLt
    have b1 : ((x 1 : Fin 28) : ℕ) < 28 := (x 1 : Fin 28).isLt
    show 8 * b ≤ 8 * b + 1 * ((x 0 : Fin 8) : ℕ) ∧ 8 * b + 1 * ((x 0 : Fin 8) : ℕ) < 8 * (b + 1) ∧ 28 * h ≤ 28 * h + 1 * ((x 1 : Fin 28) : ℕ) ∧ 28 * h + 1 * ((x 1 : Fin 28) : ℕ) < 28 * h + 28
    omega
  · rintro ⟨h1, h2, h3, h4⟩
    refine Finset.mem_map.mpr ⟨ix4 (⟨((i 0 : Fin 2048) : ℕ) - 8 * b, by omega⟩ : Fin 8) (⟨((i 1 : Fin 56) : ℕ) - 28 * h, by omega⟩ : Fin 28) (i 2 : Fin 8) (i 3 : Fin 128), Finset.mem_univ _, ?_⟩
    funext a
    match a with
    | ⟨0, _⟩ => exact Fin.ext (show 8 * b + 1 * (((i 0 : Fin 2048) : ℕ) - 8 * b) = ((i 0 : Fin 2048) : ℕ) by omega)
    | ⟨1, _⟩ => exact Fin.ext (show 28 * h + 1 * (((i 1 : Fin 56) : ℕ) - 28 * h) = ((i 1 : Fin 56) : ℕ) by omega)
    | ⟨2, _⟩ => exact Fin.ext (show 0 + 1 * ((i 2 : Fin 8) : ℕ) = ((i 2 : Fin 8) : ℕ) by omega)
    | ⟨3, _⟩ => exact Fin.ext (show 0 + 1 * ((i 3 : Fin 128) : ℕ) = ((i 3 : Fin 128) : ℕ) by omega)

theorem rWin_set {off : Fin 4 → ℕ} {inb} (s : ℕ) (hoff : off = ![8 * s, 0, 0, 0]) : ((rWin off inb).view.set : Finset S33x28x8x128.Idx) = ringC s := by
  subst hoff
  ext i
  rw [mem_ringT]
  constructor
  · intro hi
    obtain ⟨x, -, rfl⟩ := Finset.mem_map.mp hi
    have b0 : ((x 0 : Fin 8) : ℕ) < 8 := (x 0 : Fin 8).isLt
    show 8 * s ≤ 8 * s + 1 * ((x 0 : Fin 8) : ℕ) ∧ 8 * s + 1 * ((x 0 : Fin 8) : ℕ) < 8 * s + 8
    omega
  · rintro ⟨h1, h2⟩
    refine Finset.mem_map.mpr ⟨ix4 (⟨((i 0 : Fin 33) : ℕ) - 8 * s, by omega⟩ : Fin 8) (i 1 : Fin 28) (i 2 : Fin 8) (i 3 : Fin 128), Finset.mem_univ _, ?_⟩
    funext a
    match a with
    | ⟨0, _⟩ => exact Fin.ext (show 8 * s + 1 * (((i 0 : Fin 33) : ℕ) - 8 * s) = ((i 0 : Fin 33) : ℕ) by omega)
    | ⟨1, _⟩ => exact Fin.ext (show 0 + 1 * ((i 1 : Fin 28) : ℕ) = ((i 1 : Fin 28) : ℕ) by omega)
    | ⟨2, _⟩ => exact Fin.ext (show 0 + 1 * ((i 2 : Fin 8) : ℕ) = ((i 2 : Fin 8) : ℕ) by omega)
    | ⟨3, _⟩ => exact Fin.ext (show 0 + 1 * ((i 3 : Fin 128) : ℕ) = ((i 3 : Fin 128) : ℕ) by omega)

theorem rWin_ringOf {off : Fin 4 → ℕ} {inb} {off' : Fin 4 → ℕ} {inb'} (h b : ℕ) (hh : h < 2) (hoff : off = ![8 * b, 28 * h, 0, 0]) (hoff' : off' = ![8 * (b % 4), 0, 0, 0]) (x : S8x28x8x128.Idx) :
    ((rWin off' inb').view.emb x : S33x28x8x128.Idx) = ringOf b ((oWin off inb).view.emb x) := by
  subst hoff hoff'
  have b0 : ((x 0 : Fin 8) : ℕ) < 8 := (x 0 : Fin 8).isLt
  have b1 : ((x 1 : Fin 28) : ℕ) < 28 := (x 1 : Fin 28).isLt
  funext a
  match a with
  | ⟨0, _⟩ => exact Fin.ext (show 8 * (b % 4) + 1 * ((x 0 : Fin 8) : ℕ) = (8 * (b % 4) + (8 * b + 1 * ((x 0 : Fin 8) : ℕ)) % 8) % 33 by omega)
  | ⟨1, _⟩ => exact Fin.ext (show 0 + 1 * ((x 1 : Fin 28) : ℕ) = (28 * h + 1 * ((x 1 : Fin 28) : ℕ)) % 28 % 28 by omega)
  | ⟨2, _⟩ => exact Fin.ext (show 0 + 1 * ((x 2 : Fin 8) : ℕ) = 0 + 1 * ((x 2 : Fin 8) : ℕ) from rfl)
  | ⟨3, _⟩ => exact Fin.ext (show 0 + 1 * ((x 3 : Fin 128) : ℕ) = 0 + 1 * ((x 3 : Fin 128) : ℕ) from rfl)

variable (c : Dev nD) {α : Type} {Q : α → SP F} (V : S2048x56x8x128.Idx → Elt F .f32 → Prop)

/-- Elements `S` of the output, whose values satisfy `V`. -/
def OutV (S : Finset S2048x56x8x128.Idx) : SP F :=
  iprop(∃ o : OutBuf F, ⌜∀ i ∈ S, V i (o i)⌝ ∗ ((c : Thread nD τ).loc main_v0 ↦[S]{fullShare} o))

theorem OutV_union (S T U : Finset S2048x56x8x128.Idx) (hS : S ⊆ U) (hT : U \ S = T) : iprop(OutV c V S ∗ OutV c V T) ⊢ OutV c V U := by
  subst hT
  unfold OutV
  iintro ⟨⟨%o, %h1, H1⟩, ⟨%o', %h2, H2⟩⟩
  iexists (fun i => if i ∈ S then o i else o' i)
  isplitr
  · ipureintro
    intro i hi
    by_cases h : i ∈ S
    · show V i (if i ∈ S then o i else o' i)
      rw [if_pos h]; exact h1 i h
    · show V i (if i ∈ S then o i else o' i)
      rw [if_neg h]; exact h2 i (Finset.mem_sdiff.mpr ⟨hi, h⟩)
  iapply (pointsTo_split_subset hS).2
  isplitl [H1]
  · iapply (Entails.of_eq (pointsTo_congr fun i hi => by rw [if_pos hi])) $$ H1
  · iapply (Entails.of_eq (pointsTo_congr fun i hi => by rw [if_neg (Finset.mem_sdiff.mp hi).2])) $$ H2

theorem OutV_empty (S : Finset S2048x56x8x128.Idx) (hS : S = ∅) : (iprop(emp) : SP F) ⊢ OutV c V S := by
  subst hS
  unfold OutV
  iintro -
  iexists zOut
  isplitr
  · ipureintro
    intro i hi
    exact absurd hi (Finset.notMem_empty _)
  rw [pointsTo_empty]
  iempintro

/-- Elements `S` of the ring. -/
def RingE (S : Finset S33x28x8x128.Idx) : SP F := iprop(∃ r : RingBuf F, ((c : Thread nD τ).loc cc0_scratch1 ↦[S]{fullShare} r))

/-- What the copy of block `b` delivers. -/
def sD (h b : ℕ) : SP F := iprop(OutV c V (outR h b (b + 1)) ∗ RingE c (ringC (b % 4)))
def sN : ℕ := (oWin ![0, 0, 0, 0] (by decide)).view.dmaCredit

/-- The copy of block `b`, under way. -/
def Pend (h b : ℕ) : SP F := Transfers.Flight (EC F) (c : Thread nD τ) (.dma (bcell b)) () sN (sD c V h b)

/-- Starting the copy of a block. -/
theorem bstore (h b : ℕ) (hh : h < 2) (r : RingBuf F) (o0 : OutBuf F) {off1 : Fin 1 → ℕ} {inb1} {off2 off3 : Fin 4 → ℕ} {inb2 inb3}
    (hoff1 : off1 = ![b % 4]) (hoff2 : off2 = ![8 * b, 28 * h, 0, 0]) (hoff3 : off3 = ![8 * (b % 4), 0, 0, 0]) (hV : ∀ i ∈ outR h b (b + 1), V i (r (ringOf b i))) {h1 h2 h3} {k : PUnit → PG F α} :
    iprop(((c : Thread nD τ).loc cc0_scratch1 ↦[ringC (b % 4)]{fullShare} r) ∗ ((c : Thread nD τ).loc main_v0 ↦[outR h b (b + 1)]{fullShare} o0) ∗ semVal ((c : Thread nD τ), SemLoc.dma (bcell b)) 0)
      ⊢ iprop((Pend c V h b -∗ WP c (k ⟨⟩) Q)
        -∗ WP c (.op (.enqueueDma (rWin off3 inb3) (.here (oWin off2 inb2)) (.dma (ssem off1 inb1)) h1 h2 h3) k) Q) := by
  have s2 := oWin_set (inb := inb2) h b hoff2
  have s3 := rWin_set (inb := inb3) (b % 4) hoff3
  have em := rWin_ringOf (inb := inb2) (inb' := inb3) h b hh hoff2 hoff3
  subst hoff1
  have key := Transfers.wp_dmaLocal (EC F) (defs := defs₀ (F := F)) Variants.none (c : Thread nD τ) none (src := rWin off3 inb3) (dst := oWin off2 inb2) (via := .same) (sm := .dma (bcell b)) (hsrc := h1) (hdst := h2) (hsem := h3) (k := k) (Q := Q)
    (fs := r) (fd := o0) (q := fullShare) (Sd := outR h b (b + 1)) () sN rfl (by decide) (le_of_eq s2)
  have aux : ∀ S, S = ringC (b % 4) → (((c : Thread nD τ).loc cc0_scratch1 ↦[ringC (b % 4)]{fullShare} r) : SP F) ⊢ ((c : Thread nD τ).loc cc0_scratch1 ↦[S]{fullShare} r) := by
    rintro _ rfl; exact .rfl
  have aux' : ∀ S, S = ringC (b % 4) → (((c : Thread nD τ).loc cc0_scratch1 ↦[S]{fullShare} r) : SP F) ⊢ ((c : Thread nD τ).loc cc0_scratch1 ↦[ringC (b % 4)]{fullShare} r) := by
    rintro _ rfl; exact .rfl
  iintro ⟨Hr, Ho, Hv⟩ Hk
  iapply key $$ [Hr Ho Hv]
  · isplitl [Hr]
    · iapply (aux _ s3) $$ Hr
    isplitl [Ho]; · iexact Ho
    iexact Hv
  iintro HF
  iapply Hk
  unfold Pend
  iapply (Transfers.Flight_mono (EC F) (c := (c : Thread nD τ)) ?hm) $$ HF
  case hm =>
    unfold sD OutV RingE
    iintro ⟨H1, H2⟩
    isplitl [H1]
    · iexists ((oWin off2 inb2).view.write (Elt F) o0 ((ReadAs.same).apply ((rWin off3 inb3).view.read (Elt F) r)) Finset.univ)
      isplitr
      · ipureintro
        intro i hi
        have hi' : i ∈ (oWin off2 inb2).view.set := by rw [s2]; exact hi
        obtain ⟨x, -, rfl⟩ := Finset.mem_map.mp hi'
        rw [View.write_emb_of_mem _ _ (Finset.mem_univ x)]
        have hv := hV _ hi
        rw [← em x] at hv
        exact hv
      iexact H1
    · iexists r
      iapply (aux' _ s3) $$ H2

theorem bcredit {off2 : Fin 4 → ℕ} {inb2} : (oWin off2 inb2).view.dmaCredit = sN := rfl

/-- Waiting for the copy of a block. -/
theorem bwait (h b : ℕ) {off1 : Fin 1 → ℕ} {inb1} {off2 off3 : Fin 4 → ℕ} {inb2 inb3} (hoff1 : off1 = ![b % 4]) {h1 h2} {k : PUnit → PG F α} :
    iprop(Pend c V h b ∗ ∃ W, owes (c : Thread nD τ) 0 W)
      ⊢ iprop((iprop(OutV c V (outR h b (b + 1)) ∗ RingE c (ringC (b % 4)) ∗ semVal ((c : Thread nD τ), SemLoc.dma (bcell b)) 0 ∗ ∃ W, owes (c : Thread nD τ) 0 W) -∗ WP c (k ⟨⟩) Q)
        -∗ WP c (.op (.waitDma2 (ssem off1 inb1) (rWin off3 inb3) (oWin off2 inb2) h1 h2) k) Q) := by
  subst hoff1
  unfold Pend
  iintro ⟨HF, ⟨%W, HO⟩⟩ Hk
  have key := Transfers.wp_waitLocal (EC F) (defs := defs₀ (F := F)) Variants.none (c : Thread nD τ) none (srcw := rWin off3 inb3) (dstw := oWin off2 inb2) (sem := bcell b) (hsrc := h1) (hdst := h2)
    (Q := Q) (k := k) () bcredit (D := sD c V h b) (W := W)
  iapply key $$ [HF HO]
  · isplitl [HF]; · iexact HF
    iexact HO
  unfold sD
  iintro ⟨⟨H1, H2⟩, Hv, HO⟩
  iapply Hk
  isplitl [H1]; · iexact H1
  isplitl [H2]; · iexact H2
  isplitl [Hv]; · iexact Hv
  iexists _
  iexact HO

/-- The cell block `k` will use, before it may be used: for `k < 4` it is free, otherwise block `k - 4` is on its way out of it. -/
def Slot (h k : ℕ) : SP F :=
  if k < 4 then iprop(semVal ((c : Thread nD τ), SemLoc.dma (bcell k)) 0 ∗ RingE c (ringC (k % 4))) else Pend c V h (k - 4)
theorem Slot_free {h k : ℕ} (hk : k < 4) : Slot (F := F) c V h k = iprop(semVal ((c : Thread nD τ), SemLoc.dma (bcell k)) 0 ∗ RingE c (ringC (k % 4))) := if_pos hk
theorem Slot_pend (h k : ℕ) : Slot (F := F) c V h (k + 4) = Pend c V h k := by
  unfold Slot
  rw [if_neg (by omega), Nat.add_sub_cancel]

end Cert.Proof.KernelIdeal

end
-- ==== Proof.MainIdeal.Repack.lean ====
module

public import proofs.«01_k».proof.Proof.MainIdeal.Codes

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One tile turned: four neighbouring words of a row, each holding the bytes of four rows, become four words,
    each holding four neighbouring columns' bytes of one row. -/

/-- The low halves of two words. -/
def loH (a b : BitVec 32) : BitVec 32 := IntOp.ori (IntOp.andi a 65535#32) (IntOp.shli .vector b 16#32)
/-- The high halves of two words. -/
def hiH (a b : BitVec 32) : BitVec 32 := IntOp.ori (IntOp.shrui .vector a 16#32) (IntOp.andi b 4294901760#32)
/-- The even bytes of two words, interleaved. -/
def evB (p q : BitVec 32) : BitVec 32 := IntOp.ori (IntOp.andi p 16711935#32) (IntOp.shli .vector (IntOp.andi q 16711935#32) 8#32)
/-- The odd bytes of two words, interleaved. -/
def odB (p q : BitVec 32) : BitVec 32 := IntOp.ori (IntOp.andi (IntOp.shrui .vector p 8#32) 16711935#32) (IntOp.andi q 4278255360#32)

/-- Byte `k` of each of four words. -/
def trB (k : ℕ) (w0 w1 w2 w3 : BitVec 32) : BitVec 32 :=
  match k with
  | 0 => evB (loH w0 w2) (loH w1 w3)
  | 1 => odB (loH w0 w2) (loH w1 w3)
  | 2 => evB (hiH w0 w2) (hiH w1 w3)
  | _ => odB (hiH w0 w2) (hiH w1 w3)

/-- The element of tile `t` in block `n`, sublane `s`, lane `l`. -/
abbrev cAt (f : CodeBuf) (t : Fin 513) (n s : ℕ) (l : Fin 128) : BitVec 32 := f (ix4 t (Fin.ofNat 28 n) (Fin.ofNat 8 s) l)

/-- The turned tile, from the tile as loaded: row `28 s + 7 k + j` holds byte `k` of the words `4 j … 4 j + 3` of sublane `s`. -/
def packBuf (f : CodeBuf) : CodeBuf := fun i =>
  trB (rowOf i % 28 / 7) (cAt f (i 0 : Fin 513) (4 * (rowOf i % 28 % 7)) (rowOf i / 28) (i 3 : Fin 128)) (cAt f (i 0 : Fin 513) (4 * (rowOf i % 28 % 7) + 1) (rowOf i / 28) (i 3 : Fin 128))
    (cAt f (i 0 : Fin 513) (4 * (rowOf i % 28 % 7) + 2) (rowOf i / 28) (i 3 : Fin 128)) (cAt f (i 0 : Fin 513) (4 * (rowOf i % 28 % 7) + 3) (rowOf i / 28) (i 3 : Fin 128))

theorem t3_trips : k0_t3_loop.trips = 16 := by decide
theorem t3_lt (k : Fin k0_t3_loop.trips) : (k : ℕ) < 16 := lt_of_lt_of_eq k.isLt t3_trips
theorem t6_trips (k : Fin k0_t3_loop.trips) : (k0_t6_loop k).trips = 32 := by revert k; decide
theorem t6_lt {k : Fin k0_t3_loop.trips} (t : Fin (k0_t6_loop k).trips) : (t : ℕ) < 32 := lt_of_lt_of_eq t.isLt (t6_trips k)
/-- The tile a repack trip works on. -/
abbrev tileOf {k : Fin k0_t3_loop.trips} (t : Fin (k0_t6_loop k).trips) : ℕ := 32 * (k : ℕ) + (t : ℕ)
theorem tileOf_lt {k : Fin k0_t3_loop.trips} (t : Fin (k0_t6_loop k).trips) : tileOf t < 513 := by
  have := t3_lt k
  have := t6_lt t
  unfold tileOf; omega

theorem iv36 {k : Fin k0_t3_loop.trips} (t : Fin (k0_t6_loop k).trips) :
    Scf.iv (Scalar.muli (Scf.iv 0#32 1#32 (k : ℕ)) 32#32) 1#32 (t : ℕ) = BitVec.ofNat 32 (tileOf t) := by
  have h3 := t3_lt k
  have h6 := t6_lt t
  apply BitVec.eq_of_toNat_eq
  simp only [Scf.iv, Scalar.muli, IntOp.muli, BitVec.toNat_add, BitVec.toNat_mul, BitVec.toNat_ofNat]
  unfold tileOf; omega

/-- Where a load of a repack trip reads. -/
theorem off_load {k : Fin k0_t3_loop.trips} (t : Fin (k0_t6_loop k).trips) (off : Fin 4 → ℕ) (n : ℕ)
    (h : off = ![(Scalar.indexCast (Scf.iv (Scalar.muli (Scf.iv 0#32 1#32 (k : ℕ)) 32#32) 1#32 (t : ℕ))).toNat, n, 0, 0]) : off = ![tileOf t, n, 0, 0] := by
  have h3 := t3_lt k
  have h6 := t6_lt t
  rw [h, iv36]
  have : (Scalar.indexCast (BitVec.ofNat 32 (tileOf t))).toNat = tileOf t := by
    simp only [Scalar.indexCast, BitVec.toNat_ofNat]
    unfold tileOf; omega
  rw [this]

/-- Where a store of a repack trip writes. -/
theorem off_store {k : Fin k0_t3_loop.trips} (t : Fin (k0_t6_loop k).trips) (a b : BitVec 32) (h : a.toNat + b.toNat < 28) :
    k0_off63 k t a b = ![224 * tileOf t + (a.toNat + b.toNat), 0] := by
  have h3 := t3_lt k
  have h6 := t6_lt t
  have e : (Scalar.indexCast (Scalar.addi (Scalar.addi (Scalar.muli (Scf.iv (Scalar.muli (Scf.iv 0#32 1#32 (k : ℕ)) 32#32) 1#32 (t : ℕ)) 224#32) a) b)).toNat = 224 * tileOf t + (a.toNat + b.toNat) := by
    rw [iv36]
    simp only [Scalar.indexCast, Scalar.addi, Scalar.muli, IntOp.addi, IntOp.muli, BitVec.toNat_add, BitVec.toNat_mul, BitVec.toNat_ofNat]
    unfold tileOf; omega
  show ![_, 0] = _
  rw [← e]

theorem off_bound {off : Fin 4 → ℕ} (inb : ∀ a, off a + S1x1x8x128.size a ≤ S513x28x8x128.size a) : off 1 < 28 := by
  have h : off 1 + 1 ≤ 28 := inb 1
  omega

/-- Reading a block at the offset the program computes. -/
theorem codeLoad' (c : Dev nD) {α : Type} {Q : α → SP F} {off : Fin 4 → ℕ} {inb : ∀ a, off a + S1x1x8x128.size a ≤ S513x28x8x128.size a} {hl} {k : (S1x1x8x128.Idx → Elt F .i32) → PG F α}
    (t : ℕ) (ht : t < 513) (S : Finset S513x28x8x128.Idx) (f : CodeBuf) (hS : tileSet t ⊆ S) (hoff : off = ![t, off 1, 0, 0]) :
    (((c : Thread nD τ).loc cc0_scratch0 ↦[S]{fullShare} f) : SP F)
      ⊢ iprop((((c : Thread nD τ).loc cc0_scratch0 ↦[S]{fullShare} f) -∗ WP c (k fun x => f (ix4 (⟨t, ht⟩ : Fin 513) ⟨off 1, off_bound inb⟩ (x 2 : Fin 8) (x 3 : Fin 128))) Q)
        -∗ WP c (.op (.load (Memref.whole cc0_scratch0) (Rect.unit (s := S513x28x8x128) off S1x1x8x128.size inb).toLoadRect hl) k) Q) :=
  codeLoad c t ⟨off 1, off_bound inb⟩ hoff ht S hS f

/-- A loaded block without its unit axes. -/
theorem castLoad (v : S1x1x8x128.Idx → BitVec 32) :
    shapeCast S8x128 v shapeCasts_S1x1x8x128_S8x128 = fun j => v (ix4 (0 : Fin 1) (0 : Fin 1) (j 0 : Fin 8) (j 1 : Fin 128)) := by
  funext j
  have hj : j = ix2 (j 0 : Fin 8) (j 1 : Fin 128) := eq_ix2 (n0 := 8) (n1 := 128) j
  rw [hj]
  exact congrArg v (reshapeEquiv_ix2_11ab (a := 8) (b := 128) _ (j 0 : Fin 8) (j 1 : Fin 128))

/-- A cast to the same shape changes nothing. -/
theorem castSame (v : S8x128.Idx → BitVec 32) : shapeCast S8x128 v shapeCasts_S8x128_S8x128 = v :=
  funext fun j => congrArg v (Shape.reshapeEquiv_self _ j)

/-- Contents that agree on the elements held are interchangeable. -/
theorem codes_congr (c : Dev nD) (S : Finset S513x28x8x128.Idx) (f g : CodeBuf) (h : ∀ i ∈ S, f i = g i) :
    (((c : Thread nD τ).loc cc0_scratch0 ↦[S]{fullShare} f) : SP F) ⊢ (c : Thread nD τ).loc cc0_scratch0 ↦[S]{fullShare} g :=
  Entails.of_eq (pointsTo_congr h)

set_option maxHeartbeats 4000000 in
theorem repack (c : Dev nD) (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole) (arg4 : Memref sig .tc .hbm S4096x7168 .i32) (harg4 : arg4.IsWhole) (arg5 : Memref sig .tc .hbm S2048x56x8x128 .f32) (harg5 : arg5.IsWhole) (arg7 : Memref sig .tc .vmem S33x28x8x128 .f32) (harg7 : arg7.IsWhole) (arg8 : Memref sig .tc .vmem S4x56x8x128 .f32) (harg8 : arg8.IsWhole) (arg9 : DmaSems sig S16) (arg10 : DmaSems sig S4) (arg11 : DmaSems sig S_) (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (k0_t3 : Fin k0_t3_loop.trips) (v113 : BitVec 32) (t : Fin (k0_t6_loop k0_t3).trips) (acc : BitVec 32)
    (f0 : CodeBuf) :
    (((c : Thread nD τ).loc cc0_scratch0 ↦[tileSet (tileOf t)]{fullShare} f0) : SP F)
      ⊢ WP c
          (k0_t6_body arg0 harg0 arg1 harg1 arg2 harg2 arg3 harg3 arg4 harg4 arg5 harg5 (Memref.whole cc0_scratch0) (Memref.isWhole_whole _) arg7 harg7 arg8 harg8 arg9 arg10 arg11
            v0 k0_hw2 v1 v20 v21 v22 v43 v44 c0_i32_24 c1_i32_26 k0_t1 arg13 k0_t3 v113 t acc)
          (fun _ => (c : Thread nD τ).loc cc0_scratch0 ↦[tileSet (tileOf t)]{fullShare} packBuf f0) := by
  iintro H
  simp only [k0_t6_body, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, Prog.bind_assoc]
  iterate 28
    iapply (codeLoad' c (tileOf t) (tileOf_lt t) (tileSet (tileOf t)) f0 (Finset.Subset.refl _) (off_load t _ _ rfl)) $$ H
    iintro H
  simp only [Prog.bind_assoc, Prog.pure_eq_ret, Prog.bind_ret]
  iterate 28
    iapply (codeLoadRow c (tileOf t) _ ?_ (off_store t _ _ ?_) _) $$ H
    any_goals first | decide | skip
    iintro H %_
    try simp only [Prog.pure_eq_ret, Prog.bind_ret]
    iapply (codeStore c (tileOf t) _ ?_ (off_store t _ _ ?_) _) $$ H
    any_goals first | decide | skip
    iintro H
    try simp only [Prog.pure_eq_ret, Prog.bind_ret]
  iapply (Idealize.SL.Sem.le_wp_ret _ _)
  iapply (codes_congr c (tileSet (tileOf t)) _ (packBuf f0) ?_) $$ H
  intro i hi
  have hi := mem_tileSet.mp hi
  have hlt : rowOf i % 28 < 28 := Nat.mod_lt _ (by decide)
  have ht : (⟨tileOf t, tileOf_lt t⟩ : Fin 513) = (i 0 : Fin 513) := Fin.ext hi.symm
  rw [ht]
  simp only [updRow, hi, packBuf, true_and]
  generalize hr : rowOf i % 28 = r at hlt
  clear hr hi ht
  generalize rowOf i / 28 = s
  interval_cases r <;>
    simp only [BitVec.toNat_ofNat, Nat.reduceMod, Nat.reduceAdd, Nat.reducePow, Nat.reduceEqDiff, ↓reduceIte, OfNat.ofNat_ne_zero, OfNat.zero_ne_ofNat, Nat.reduceDiv, Nat.reduceMul, OfNat.one_ne_ofNat, OfNat.ofNat_ne_one, one_ne_zero, zero_ne_one,
      k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay397, castLoad, castSame] <;> rfl

end Cert.Proof.KernelIdeal

end
-- ==== Proof.MainIdeal.Loads.lean ====
module

public import Idealize.ShloMosaic.Lib.Batch
public import proofs.«01_k».proof.Proof.MainIdeal.Zeros
public import proofs.«01_k».proof.Proof.MainIdeal.Repack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The loads of the code words: piece `p` (tiles `32 p … + 31`) arrives by 28 copies, one for each
    column group, on load semaphore `p`. -/

/-- The words' argument. -/
abbrev WordBuf := S4096x7168.Idx → BitVec 32

/-- What the code scratch holds once half `h` is loaded. -/
def loadBuf (g : WordBuf) (h : ℕ) : CodeBuf := fun i =>
  g (ix2 (Fin.ofNat 4096 (8 * ((i 0 : Fin 513) : ℕ) + ((i 2 : Fin 8) : ℕ))) (Fin.ofNat 7168 (3584 * h + 128 * ((i 1 : Fin 28) : ℕ) + ((i 3 : Fin 128) : ℕ))))

/-- Piece `p` of the scratch, column groups from `d` on. -/
def pieceS (p d : ℕ) : Finset S513x28x8x128.Idx := Finset.univ.filter fun i => ((i 0 : Fin 513) : ℕ) / 32 = p ∧ d ≤ ((i 1 : Fin 28) : ℕ)
theorem mem_pieceS {p d : ℕ} {i : S513x28x8x128.Idx} : i ∈ pieceS p d ↔ ((i 0 : Fin 513) : ℕ) / 32 = p ∧ d ≤ ((i 1 : Fin 28) : ℕ) := by simp [pieceS]
/-- One column group of a piece. -/
def pieceC (p n : ℕ) : Finset S513x28x8x128.Idx := Finset.univ.filter fun i => ((i 0 : Fin 513) : ℕ) / 32 = p ∧ ((i 1 : Fin 28) : ℕ) = n
theorem mem_pieceC {p n : ℕ} {i : S513x28x8x128.Idx} : i ∈ pieceC p n ↔ ((i 0 : Fin 513) : ℕ) / 32 = p ∧ ((i 1 : Fin 28) : ℕ) = n := by simp [pieceC]
/-- The words of piece `p`, half `h`, column groups from `d` on. -/
def srcS (h p d : ℕ) : Finset S4096x7168.Idx := Finset.univ.filter fun i => ((i 0 : Fin 4096) : ℕ) / 256 = p ∧ 28 * h + d ≤ ((i 1 : Fin 7168) : ℕ) / 128 ∧ ((i 1 : Fin 7168) : ℕ) / 128 < 28 * h + 28
theorem mem_srcS {h p d : ℕ} {i : S4096x7168.Idx} : i ∈ srcS h p d ↔ ((i 0 : Fin 4096) : ℕ) / 256 = p ∧ 28 * h + d ≤ ((i 1 : Fin 7168) : ℕ) / 128 ∧ ((i 1 : Fin 7168) : ℕ) / 128 < 28 * h + 28 := by simp [srcS]
def srcC (h p n : ℕ) : Finset S4096x7168.Idx := Finset.univ.filter fun i => ((i 0 : Fin 4096) : ℕ) / 256 = p ∧ ((i 1 : Fin 7168) : ℕ) / 128 = 28 * h + n
theorem mem_srcC {h p n : ℕ} {i : S4096x7168.Idx} : i ∈ srcC h p n ↔ ((i 0 : Fin 4096) : ℕ) / 256 = p ∧ ((i 1 : Fin 7168) : ℕ) / 128 = 28 * h + n := by simp [srcC]

abbrev codeWin (off : Fin 4 → ℕ) (inb : ∀ a, off a + S32x1x8x128.size a ≤ S513x28x8x128.size a) : Memref sig .tc .vmem S32x8x128 .i32 :=
  ((Memref.whole cc0_scratch0).slice (Rect.unit (s := S513x28x8x128) off S32x1x8x128.size inb) (fun _ => rfl)).squeeze S32x8x128 squeezes_S32x1x8x128_S32x8x128
abbrev srcWin (off : Fin 3 → ℕ) (inb : ∀ a, off a + S32x8x128.size a ≤ S512x8x7168.size a) : Memref sig .tc .hbm S32x8x128 .i32 :=
  ((Memref.whole main_arg4).reshape S512x8x7168 reshapes_S4096x7168_S512x8x7168.1 reshapes_S4096x7168_S512x8x7168.2 (Memref.isWhole_whole main_arg4).contiguous).slice
    (Rect.unit (s := S512x8x7168) off S32x8x128.size inb) (fun _ => rfl)
abbrev lsem (off : Fin 1 → ℕ) (inb : ∀ a, off a + S1.size a ≤ S16.size a) : DmaSem sig :=
  ((cc0_scratch3.slice (Rect.unit (s := S16) off S1.size inb)).squeeze S_ squeezes_S1_S_).sem
theorem lsem_inb (p : Fin 16) : ∀ a, (![(p : ℕ)] : Fin 1 → ℕ) a + S1.size a ≤ S16.size a := by
  intro a
  match a with
  | ⟨0, _⟩ => exact p.isLt
/-- Load semaphore `p`. -/
abbrev lcell (p : Fin 16) : DmaSem sig := lsem ![(p : ℕ)] (lsem_inb p)
theorem lsem_eq {off : Fin 1 → ℕ} {inb} (p : Fin 16) (hoff : off = ![(p : ℕ)]) : lsem off inb = lcell p := by subst hoff; rfl

/-- Where an element of a window of the scratch lies. -/
theorem codeWin_emb {off : Fin 4 → ℕ} {inb} (p n : ℕ) (hoff : off = ![32 * p, n, 0, 0]) (x : S32x8x128.Idx) (hp : 32 * p + 32 ≤ 513) (hn : n < 28) :
    ((codeWin off inb).view.emb x : S513x28x8x128.Idx)
      = ix4 (⟨32 * p + ((x 0 : Fin 32) : ℕ), by have : ((x 0 : Fin 32) : ℕ) < 32 := (x 0 : Fin 32).isLt; omega⟩ : Fin 513) (⟨n, hn⟩ : Fin 28) (x 1 : Fin 8) (x 2 : Fin 128) := by
  subst hoff
  have e : Shape.reshapeEquiv (Shape.Squeezes.numel_eq squeezes_S32x1x8x128_S32x8x128) x = (ix4 (x 0 : Fin 32) (0 : Fin 1) (x 1 : Fin 8) (x 2 : Fin 128) : S32x1x8x128.Idx) := by
    refine Shape.reshapeEquiv_eq_of_rowMajor _ ?_
    rw [Shape.rowMajor_val_four, Shape.rowMajor_val_three]
    simp only [Matrix.cons_val_zero, Matrix.cons_val_one, Matrix.cons_val]
    show ((((x 0 : Fin 32) : ℕ) * 1 + 0) * 8 + ((x 1 : Fin 8) : ℕ)) * 128 + ((x 2 : Fin 128) : ℕ) = (((x 0 : Fin 32) : ℕ) * 8 + ((x 1 : Fin 8) : ℕ)) * 128 + ((x 2 : Fin 128) : ℕ)
    omega
  have e2 : ((codeWin ![32 * p, n, 0, 0] inb).view.emb x : S513x28x8x128.Idx) = (Rect.unit (s := S513x28x8x128) ![32 * p, n, 0, 0] S32x1x8x128.size inb).emb (Shape.reshapeEquiv (Shape.Squeezes.numel_eq squeezes_S32x1x8x128_S32x8x128) x) := rfl
  rw [e2, e]
  funext a
  match a with
  | ⟨0, _⟩ => exact Fin.ext (show 32 * p + 1 * ((x 0 : Fin 32) : ℕ) = 32 * p + ((x 0 : Fin 32) : ℕ) by omega)
  | ⟨1, _⟩ => exact Fin.ext (show n + 1 * 0 = n by omega)
  | ⟨2, _⟩ => exact Fin.ext (show 0 + 1 * ((x 1 : Fin 8) : ℕ) = ((x 1 : Fin 8) : ℕ) by omega)
  | ⟨3, _⟩ => exact Fin.ext (show 0 + 1 * ((x 2 : Fin 128) : ℕ) = ((x 2 : Fin 128) : ℕ) by omega)

theorem codeWin_set {off : Fin 4 → ℕ} {inb} (p n : ℕ) (hoff : off = ![32 * p, n, 0, 0]) (hp : 32 * p + 32 ≤ 513) (hn : n < 28) :
    ((codeWin off inb).view.set : Finset S513x28x8x128.Idx) = pieceC p n := by
  ext i
  rw [mem_pieceC]
  constructor
  · intro hi
    obtain ⟨x, -, hx⟩ := Finset.mem_map.mp hi
    have hx := (codeWin_emb (inb := inb) p n hoff x hp hn).symm.trans hx
    subst hx
    have : ((x 0 : Fin 32) : ℕ) < 32 := (x 0 : Fin 32).isLt
    exact ⟨show (32 * p + ((x 0 : Fin 32) : ℕ)) / 32 = p by omega, rfl⟩
  · rintro ⟨h0, h1⟩
    refine Finset.mem_map.mpr ⟨ix3 (⟨((i 0 : Fin 513) : ℕ) - 32 * p, by omega⟩ : Fin 32) (i 2 : Fin 8) (i 3 : Fin 128), Finset.mem_univ _, ?_⟩
    refine (codeWin_emb (inb := inb) p n hoff _ hp hn).trans ?_
    funext a
    match a with
    | ⟨0, _⟩ => exact Fin.ext (show 32 * p + (((i 0 : Fin 513) : ℕ) - 32 * p) = ((i 0 : Fin 513) : ℕ) by omega)
    | ⟨1, _⟩ => exact Fin.ext h1.symm
    | ⟨2, _⟩ => rfl
    | ⟨3, _⟩ => rfl

/-- Where an element of a window of the words lies. -/
theorem srcWin_emb {off : Fin 3 → ℕ} {inb} (h p n : ℕ) (hoff : off = ![32 * p, 0, (28 * h + n) * 128]) (x : S32x8x128.Idx) (hp : p < 16) (hn : 28 * h + n < 56) :
    ((srcWin off inb).view.emb x : S4096x7168.Idx)
      = ix2 (⟨8 * (32 * p + ((x 0 : Fin 32) : ℕ)) + ((x 1 : Fin 8) : ℕ), by have : ((x 0 : Fin 32) : ℕ) < 32 := (x 0 : Fin 32).isLt; have : ((x 1 : Fin 8) : ℕ) < 8 := (x 1 : Fin 8).isLt; omega⟩ : Fin 4096)
          (⟨(28 * h + n) * 128 + ((x 2 : Fin 128) : ℕ), by have : ((x 2 : Fin 128) : ℕ) < 128 := (x 2 : Fin 128).isLt; omega⟩ : Fin 7168) := by
  subst hoff
  have e2 : ((srcWin ![32 * p, 0, (28 * h + n) * 128] inb).view.emb x : S4096x7168.Idx)
      = Shape.reshapeEquiv reshapes_S4096x7168_S512x8x7168.1 ((Rect.unit (s := S512x8x7168) ![32 * p, 0, (28 * h + n) * 128] S32x8x128.size inb).emb x) := rfl
  rw [e2]
  refine Shape.reshapeEquiv_eq_of_rowMajor _ ?_
  rw [Shape.rowMajor_val_two, Shape.rowMajor_val_three]
  simp only [Matrix.cons_val_zero, Matrix.cons_val_one, Matrix.cons_val]
  show (8 * (32 * p + ((x 0 : Fin 32) : ℕ)) + ((x 1 : Fin 8) : ℕ)) * 7168 + ((28 * h + n) * 128 + ((x 2 : Fin 128) : ℕ))
    = ((32 * p + 1 * ((x 0 : Fin 32) : ℕ)) * 8 + (0 + 1 * ((x 1 : Fin 8) : ℕ))) * 7168 + ((28 * h + n) * 128 + 1 * ((x 2 : Fin 128) : ℕ))
  omega

theorem srcWin_set {off : Fin 3 → ℕ} {inb} (h p n : ℕ) (hoff : off = ![32 * p, 0, (28 * h + n) * 128]) (hp : p < 16) (hn : 28 * h + n < 56) :
    ((srcWin off inb).view.set : Finset S4096x7168.Idx) = srcC h p n := by
  ext i
  rw [mem_srcC]
  constructor
  · intro hi
    obtain ⟨x, -, hx⟩ := Finset.mem_map.mp hi
    have hx := (srcWin_emb (inb := inb) h p n hoff x hp hn).symm.trans hx
    subst hx
    have h0 : ((x 0 : Fin 32) : ℕ) < 32 := (x 0 : Fin 32).isLt
    have h1 : ((x 1 : Fin 8) : ℕ) < 8 := (x 1 : Fin 8).isLt
    have h2 : ((x 2 : Fin 128) : ℕ) < 128 := (x 2 : Fin 128).isLt
    exact ⟨show (8 * (32 * p + ((x 0 : Fin 32) : ℕ)) + ((x 1 : Fin 8) : ℕ)) / 256 = p by omega, show ((28 * h + n) * 128 + ((x 2 : Fin 128) : ℕ)) / 128 = 28 * h + n by omega⟩
  · rintro ⟨h0, h1⟩
    refine Finset.mem_map.mpr ⟨ix3 (⟨((i 0 : Fin 4096) : ℕ) / 8 - 32 * p, by omega⟩ : Fin 32) (⟨((i 0 : Fin 4096) : ℕ) % 8, by omega⟩ : Fin 8) (⟨((i 1 : Fin 7168) : ℕ) % 128, by omega⟩ : Fin 128), Finset.mem_univ _, ?_⟩
    refine (srcWin_emb (inb := inb) h p n hoff _ hp hn).trans ?_
    funext a
    match a with
    | ⟨0, _⟩ => exact Fin.ext (show 8 * (32 * p + (((i 0 : Fin 4096) : ℕ) / 8 - 32 * p)) + ((i 0 : Fin 4096) : ℕ) % 8 = ((i 0 : Fin 4096) : ℕ) by omega)
    | ⟨1, _⟩ => exact Fin.ext (show (28 * h + n) * 128 + ((i 1 : Fin 7168) : ℕ) % 128 = ((i 1 : Fin 7168) : ℕ) by omega)

/-- A loaded word, by where its copy put it. -/
theorem loadBuf_at (g : WordBuf) (h p n : ℕ) (x : S32x8x128.Idx) (hp : p < 16) (hn : n < 28) (hh : h < 2) :
    loadBuf g h (ix4 (⟨32 * p + ((x 0 : Fin 32) : ℕ), by have : ((x 0 : Fin 32) : ℕ) < 32 := (x 0 : Fin 32).isLt; omega⟩ : Fin 513) (⟨n, hn⟩ : Fin 28) (x 1 : Fin 8) (x 2 : Fin 128))
      = g (ix2 (⟨8 * (32 * p + ((x 0 : Fin 32) : ℕ)) + ((x 1 : Fin 8) : ℕ), by have : ((x 0 : Fin 32) : ℕ) < 32 := (x 0 : Fin 32).isLt; have : ((x 1 : Fin 8) : ℕ) < 8 := (x 1 : Fin 8).isLt; omega⟩ : Fin 4096)
          (⟨(28 * h + n) * 128 + ((x 2 : Fin 128) : ℕ), by have : ((x 2 : Fin 128) : ℕ) < 128 := (x 2 : Fin 128).isLt; omega⟩ : Fin 7168)) := by
  have b0 : ((x 0 : Fin 32) : ℕ) < 32 := (x 0 : Fin 32).isLt
  have b1 : ((x 1 : Fin 8) : ℕ) < 8 := (x 1 : Fin 8).isLt
  have b2 : ((x 2 : Fin 128) : ℕ) < 128 := (x 2 : Fin 128).isLt
  unfold loadBuf
  refine congrArg g (congrArg₂ ix2 (Fin.ext ?_) (Fin.ext ?_))
  · rw [Fin.val_ofNat]
    exact Nat.mod_eq_of_lt (show 8 * (32 * p + ((x 0 : Fin 32) : ℕ)) + ((x 1 : Fin 8) : ℕ) < 4096 by omega)
  · rw [Fin.val_ofNat]
    refine (Nat.mod_eq_of_lt (show 3584 * h + 128 * n + ((x 2 : Fin 128) : ℕ) < 7168 by omega)).trans ?_
    show _ = (28 * h + n) * 128 + ((x 2 : Fin 128) : ℕ)
    omega

variable (c : Dev nD) {α : Type} {Q : α → SP F}

/-- What the copy of column group `n` of piece `p` delivers. -/
def lD (g : WordBuf) (h p n : ℕ) : SP F :=
  iprop(((c : Thread nD τ).loc cc0_scratch0 ↦[pieceC p n]{fullShare} loadBuf g h) ∗ ((c : Thread nD τ).loc main_arg4 ↦[srcC h p n]{fullShare} g))

instance lD_storable (g : WordBuf) (h p n : ℕ) : BI.Storable (upEmb : UEmb _ (MT nD τ sig Unit (Elt F) ℕ (Pipeline.UD sig nD τ) ℕ)) (lD (F := F) c g h p n) := by
  unfold lD; infer_instance

/-- The units of one of these copies. -/
def lN : ℕ := (codeWin ![0, 0, 0, 0] (by decide)).view.dmaCredit

/-- The copies of piece `p` after `d` starts. -/
def LS (g : WordBuf) (f : CodeBuf) (h : ℕ) (p : Fin 16) (d : ℕ) : SP F :=
  iprop(Transfers.Batch (EC F) (c : Thread nD τ) (.dma (lcell p)) () lN (fun z : Fin 28 => lD (F := F) c g h p z) d 0
    ∗ ((c : Thread nD τ).loc cc0_scratch0 ↦[pieceS p d]{fullShare} f) ∗ ((c : Thread nD τ).loc main_arg4 ↦[srcS h p d]{fullShare} g))

/-- Starting the next copy of a piece. -/
theorem lstart (g : WordBuf) (f : CodeBuf) (h : ℕ) (hh : h < 2) (p : Fin 16) (d : ℕ) (hd : d < 28) {off1 : Fin 1 → ℕ} {inb1} {off2 : Fin 4 → ℕ} {inb2} {off3 : Fin 3 → ℕ} {inb3}
    (hoff1 : off1 = ![(p : ℕ)]) (hoff2 : off2 = ![32 * (p : ℕ), d, 0, 0]) (hoff3 : off3 = ![32 * (p : ℕ), 0, (28 * h + d) * 128]) {h1 h2 h3} {k : PUnit → PG F α} :
    LS c g f h p d ⊢ iprop((LS c g f h p (d + 1) -∗ WP c (k ⟨⟩) Q)
      -∗ WP c (.op (.enqueueDma (srcWin off3 inb3) (.here (codeWin off2 inb2)) (.dma (lsem off1 inb1)) h1 h2 h3) k) Q) := by
  have hp := p.isLt
  subst hoff1
  have s2 := codeWin_set (inb := inb2) p d hoff2 (by omega) hd
  have s3 := srcWin_set (inb := inb3) h p d hoff3 hp (by omega)
  have aux : ∀ S : Finset S4096x7168.Idx, S = srcC h p d → ((((c : Thread nD τ).loc main_arg4 ↦[S]{fullShare} g) : SP F) ⊢ ((c : Thread nD τ).loc main_arg4 ↦[srcC h p d]{fullShare} g)) := by
    rintro _ rfl
    exact Entails.of_eq rfl
  have aux2 : ∀ S : Finset S4096x7168.Idx, S = srcC h p d → ((((c : Thread nD τ).loc main_arg4 ↦[srcC h p d]{fullShare} g) : SP F) ⊢ ((c : Thread nD τ).loc main_arg4 ↦[S]{fullShare} g)) := by
    rintro _ rfl
    exact Entails.of_eq rfl
  have hsub2 : pieceC p d ⊆ pieceS p d := by
    intro i hi
    rw [mem_pieceC] at hi
    rw [mem_pieceS]
    omega
  have hrest2 : pieceS p d \ pieceC p d = pieceS p (d + 1) := by
    ext i
    rw [Finset.mem_sdiff, mem_pieceC, mem_pieceS, mem_pieceS]
    omega
  have hsub3 : srcC h p d ⊆ srcS h p d := by
    intro i hi
    rw [mem_srcC] at hi
    rw [mem_srcS]
    omega
  have hrest3 : srcS h p d \ srcC h p d = srcS h p (d + 1) := by
    ext i
    rw [Finset.mem_sdiff, mem_srcC, mem_srcS, mem_srcS]
    omega
  unfold LS
  iintro ⟨HB, Hc, Ha⟩ Hk
  ihave Hc' := (pointsTo_split_subset hsub2).1 $$ Hc
  icases Hc' with ⟨Hcw, Hcr⟩
  rw [hrest2]
  ihave Ha' := (pointsTo_split_subset hsub3).1 $$ Ha
  icases Ha' with ⟨Haw, Har⟩
  rw [hrest3]
  have key := Transfers.wp_dmaBatch (EC F) (defs := defs₀ (F := F)) Variants.none (c : Thread nD τ) none (src := srcWin off3 inb3) (dst := codeWin off2 inb2) (via := .same) (sm := .dma (lcell p)) (hsrc := h1) (hdst := h2) (hsem := h3) (k := k) (Q := Q)
    (fs := g) (fd := f) (q := fullShare) (Sd := pieceC p d) (D := fun z : Fin 28 => lD (F := F) c g h p z) (u := 0) () lN rfl (le_of_eq s2) hd (Nat.zero_le _) (by
      unfold lD
      refine BI.Laws.sep_mono ?_ ?_
      · refine le_of_eq (pointsTo_congr fun i hi => ?_)
        have hi' : i ∈ (codeWin off2 inb2).view.set := by rw [s2]; exact hi
        obtain ⟨x, -, rfl⟩ := Finset.mem_map.mp hi'
        refine (View.write_emb_of_mem _ _ (Finset.mem_univ x)).trans ?_
        have ex := codeWin_emb (inb := inb2) p d hoff2 x (by omega) hd
        have es := srcWin_emb (inb := inb3) h p d hoff3 x hp (by omega)
        refine (congrArg g es).trans ?_
        refine Eq.trans ?_ (congrArg (loadBuf g h) ex).symm
        exact (loadBuf_at g h p d x hp hd hh).symm
      · exact aux _ s3)
  ihave Haw := (aux2 _ s3) $$ Haw
  iapply key $$ [HB Hcw Haw]
  · isplitl [Haw]; · iexact Haw
    isplitl [Hcw]; · iexact Hcw
    iexact HB
  iintro HB
  iapply Hk
  isplitl [HB]; · iexact HB
  isplitl [Hcr]; · iexact Hcr
  iexact Har

/-- A piece in flight. -/
def LB (g : WordBuf) (h : ℕ) (p : Fin 16) : SP F :=
  Transfers.Batch (EC F) (c : Thread nD τ) (.dma (lcell p)) () lN (fun z : Fin 28 => lD (F := F) c g h p z) 28 0

theorem linit (g : WordBuf) (f : CodeBuf) (h : ℕ) (p : Fin 16) :
    iprop(semVal ((c : Thread nD τ), SemLoc.dma (lcell p)) 0 ∗ ((c : Thread nD τ).loc cc0_scratch0 ↦[pieceS p 0]{fullShare} f) ∗ ((c : Thread nD τ).loc main_arg4 ↦[srcS h p 0]{fullShare} g))
      ⊢ (|={Set.univ}=> LS c g f h p 0 : SP F) := by
  iintro ⟨Hv, Hs, Ho⟩
  imod (Transfers.batch_alloc' (EC F) (c := (c : Thread nD τ)) (sm := .dma (lcell p)) () lN (fun z : Fin 28 => lD (F := F) c g h p z)) $$ Hv with HB
  imodintro
  unfold LS
  isplitl [HB]; · iexact HB
  isplitl [Hs]; · iexact Hs
  iexact Ho

/-- What a landed piece leaves. -/
theorem lcollect (g : WordBuf) (h : ℕ) (hh : h < 2) (p : Fin 16) :
    bigSep Finset.univ (fun z : Fin 28 => lD (F := F) c g h p z)
      ⊢ iprop(((c : Thread nD τ).loc cc0_scratch0 ↦[pieceS p 0]{fullShare} loadBuf g h) ∗ ((c : Thread nD τ).loc main_arg4 ↦[srcS h p 0]{fullShare} g)) := by
  unfold lD
  rw [bigSep_sep']
  have e1 := pointsTo_biUnion (Ix := Unit) (Val := Elt F) (Name := ℕ) (U := Pipeline.UD sig nD τ) (Lvl := ℕ) (ℓ := (c : Thread nD τ).loc cc0_scratch0) (q := fullShare) (f := (loadBuf g h))
      (Finset.univ : Finset (Fin 28)) (fun z => pieceC p z) (by
        intro z _ z' _ hne
        refine Finset.disjoint_left.mpr fun i h1 h2 => hne (Fin.ext ?_)
        rw [mem_pieceC] at h1 h2
        omega)
  have e2 := pointsTo_biUnion (Ix := Unit) (Val := Elt F) (Name := ℕ) (U := Pipeline.UD sig nD τ) (Lvl := ℕ) (ℓ := (c : Thread nD τ).loc main_arg4) (q := fullShare) (f := g)
      (Finset.univ : Finset (Fin 28)) (fun z => srcC h p z) (by
        intro z _ z' _ hne
        refine Finset.disjoint_left.mpr fun i h1 h2 => hne (Fin.ext ?_)
        rw [mem_srcC] at h1 h2
        omega)
  have u1 : (Finset.univ : Finset (Fin 28)).biUnion (fun z => pieceC p z) = pieceS p 0 := by
    ext i
    simp only [Finset.mem_biUnion, Finset.mem_univ, true_and, mem_pieceC, mem_pieceS]
    exact ⟨fun ⟨z, h0, _⟩ => ⟨h0, Nat.zero_le _⟩, fun ⟨h0, _⟩ => ⟨(i 1 : Fin 28), h0, rfl⟩⟩
  have u2 : (Finset.univ : Finset (Fin 28)).biUnion (fun z => srcC h p z) = srcS h p 0 := by
    ext i
    simp only [Finset.mem_biUnion, Finset.mem_univ, true_and, mem_srcC, mem_srcS]
    constructor
    · rintro ⟨z, h0, h1⟩
      have := z.isLt
      omega
    · rintro ⟨h0, h1, h2⟩
      exact ⟨⟨((i 1 : Fin 7168) : ℕ) / 128 - 28 * h, by omega⟩, h0, by dsimp only; omega⟩
  rw [u1] at e1
  rw [u2] at e2
  rw [e1, e2]

theorem credit28 : RefSig.tileCredit S32x28x8x128 .i32 = lN * 28 :=
  (show RefSig.tileCredit S32x28x8x128 .i32 = RefSig.tileCredit S32x8x128 .i32 * 28 by decide)

/-- Waiting for a whole piece. -/
theorem lwait (g : WordBuf) (h : ℕ) (hh : h < 2) (p : Fin 16) {off1 : Fin 1 → ℕ} {inb1} (hoff1 : off1 = ![(p : ℕ)]) {off : Fin 4 → ℕ} {inb inb' : ∀ a, off a + S32x28x8x128.size a ≤ S513x28x8x128.size a} {h1 h2} {k : PUnit → PG F α} :
    iprop(LB c g h p ∗ ∃ W, owes (c : Thread nD τ) 0 W)
      ⊢ iprop((iprop(semVal ((c : Thread nD τ), SemLoc.dma (lcell p)) 0 ∗ ((c : Thread nD τ).loc cc0_scratch0 ↦[pieceS p 0]{fullShare} loadBuf g h) ∗ ((c : Thread nD τ).loc main_arg4 ↦[srcS h p 0]{fullShare} g)
          ∗ ∃ W, owes (c : Thread nD τ) 0 W) -∗ WP c (k ⟨⟩) Q)
        -∗ WP c (.op (.waitDma2 (lsem off1 inb1) ((Memref.whole cc0_scratch0).slice (Rect.unit (s := S513x28x8x128) off S32x28x8x128.size inb) (fun _ => rfl))
            ((Memref.whole cc0_scratch0).slice (Rect.unit (s := S513x28x8x128) off S32x28x8x128.size inb') (fun _ => rfl)) h1 h2) k) Q) := by
  subst hoff1
  unfold LB
  iintro ⟨HB, ⟨%W, HO⟩⟩ Hk
  have key := Transfers.wp_waitBatchAll (EC F) (defs := defs₀ (F := F)) Variants.none (c : Thread nD τ) none (srcw := (Memref.whole cc0_scratch0).slice (Rect.unit (s := S513x28x8x128) off S32x28x8x128.size inb) (fun _ => rfl))
    (dstw := (Memref.whole cc0_scratch0).slice (Rect.unit (s := S513x28x8x128) off S32x28x8x128.size inb') (fun _ => rfl)) (sem := lcell p) (hsrc := h1) (hdst := h2)
    (Q := Q) (k := k) (D := fun z : Fin 28 => lD (F := F) c g h p z) (N := lN) (J := lN * 28) (u := 0) (W := W) () credit28 (by decide) (Nat.zero_add _)
  iapply key $$ [HB HO]
  · isplitl [HB]; · iexact HB
    iexact HO
  iintro ⟨HD, Hv, HO⟩
  iapply Hk
  ihave H := (lcollect c g h hh p) $$ HD
  icases H with ⟨H1, H2⟩
  isplitl [Hv]; · iexact Hv
  isplitl [H1]; · iexact H1
  isplitl [H2]; · iexact H2
  iexists _
  iexact HO

end Cert.Proof.KernelIdeal

end
-- ==== Proof.MainIdeal.Pieces.lean ====
module

public import Idealize.ShloMosaic.Lib.Batch
public import proofs.«01_k».proof.Proof.MainIdeal.Loads
public import proofs.«01_k».proof.Proof.MainIdeal.Arith

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One half of the columns: starting the loads, then, piece by piece, waiting and turning the tiles. -/

theorem t1_lt (k : Fin k0_t1_loop.trips) : (k : ℕ) < 2 := lt_of_lt_of_eq k.isLt (by decide)
theorem t2_trips : k0_t2_loop.trips = 16 := by decide
theorem t2_lt (k : Fin k0_t2_loop.trips) : (k : ℕ) < 16 := lt_of_lt_of_eq k.isLt t2_trips

theorem iv_nat (k : ℕ) (hk : k < 100) : (Scf.iv 0#32 1#32 k).toNat = k := by
  simp only [Scf.iv, BitVec.toNat_add, BitVec.toNat_mul, BitVec.toNat_ofNat]; omega
theorem iv_mul (k m : ℕ) (hk : k < 100) (hm : m < 1000) : (Scalar.muli (Scf.iv 0#32 1#32 k) (BitVec.ofNat 32 m)).toNat = m * k := by
  have h := iv_nat k hk
  simp only [Scalar.muli, IntOp.muli, BitVec.toNat_mul, h, BitVec.toNat_ofNat]
  have : k * m < 100 * 1000 := Nat.mul_lt_mul'' hk hm
  rw [Nat.mod_eq_of_lt (show m < 2 ^ 32 by omega), Nat.mod_eq_of_lt (by omega), Nat.mul_comm]
theorem o1 (k : Fin k0_t2_loop.trips) {off : Fin 1 → ℕ} (h : off = ![(Scf.iv 0#32 1#32 (k : ℕ)).toNat]) : off = ![(k : ℕ)] := by
  rw [h, iv_nat _ (by have := t2_lt k; omega)]
theorem o2 (k : Fin k0_t2_loop.trips) {off : Fin 4 → ℕ} (n : ℕ) (h : off = ![(Scalar.muli (Scf.iv 0#32 1#32 (k : ℕ)) 32#32).toNat, n, 0, 0]) : off = ![32 * (k : ℕ), n, 0, 0] := by
  rw [h, iv_mul _ 32 (by have := t2_lt k; omega) (by decide)]
theorem o3 (t : Fin k0_t1_loop.trips) (k : Fin k0_t2_loop.trips) {off : Fin 3 → ℕ} (w : BitVec 32) (n : ℕ) (hn : n < 28) (hw : w.toNat = n)
    (h : off = ![(Scalar.muli (Scf.iv 0#32 1#32 (k : ℕ)) 32#32).toNat, 0, (Scalar.muli (Scalar.addi (Scalar.muli (Scf.iv 0#32 1#32 (t : ℕ)) 28#32) w) 128#32).toNat]) :
    off = ![32 * (k : ℕ), 0, (28 * (t : ℕ) + n) * 128] := by
  have ht := t1_lt t
  have e : (Scalar.muli (Scalar.addi (Scalar.muli (Scf.iv 0#32 1#32 (t : ℕ)) 28#32) w) 128#32).toNat = (28 * (t : ℕ) + n) * 128 := by
    have h1 := iv_mul (t : ℕ) 28 (by omega) (by decide)
    generalize Scalar.muli (Scf.iv 0#32 1#32 (t : ℕ)) (BitVec.ofNat 32 28) = z at h1
    simp only [Scalar.muli, IntOp.muli, Scalar.addi, IntOp.addi, BitVec.toNat_mul, BitVec.toNat_add, h1, hw, BitVec.toNat_ofNat]
    omega
  rw [h, iv_mul _ 32 (by have := t2_lt k; omega) (by decide), e]
theorem o33 (k : Fin k0_t3_loop.trips) : k0_off33 k = ![(k : ℕ)] := by
  show ![(Scf.iv 0#32 1#32 (k : ℕ)).toNat] = _
  rw [iv_nat _ (by have := t3_lt k; omega)]

/-- Tiles `a ≤ t < b` of the code scratch. -/
def codeR (a b : ℕ) : Finset S513x28x8x128.Idx := Finset.univ.filter fun i => a ≤ ((i 0 : Fin 513) : ℕ) ∧ ((i 0 : Fin 513) : ℕ) < b
theorem mem_codeR {a b : ℕ} {i : S513x28x8x128.Idx} : i ∈ codeR a b ↔ a ≤ ((i 0 : Fin 513) : ℕ) ∧ ((i 0 : Fin 513) : ℕ) < b := by simp [codeR]
theorem codeR_piece (p : ℕ) : pieceS p 0 = codeR (32 * p) (32 * (p + 1)) := by
  ext i; rw [mem_pieceS, mem_codeR]; omega
theorem codeR_tile (t : ℕ) : tileSet t = codeR t (t + 1) := by
  ext i; rw [mem_tileSet, mem_codeR]; omega
/-- Half `h` of the word rows of pieces `a ≤ p < b`. -/
def srcR (h a b : ℕ) : Finset S4096x7168.Idx := Finset.univ.filter fun i => (256 * a ≤ ((i 0 : Fin 4096) : ℕ) ∧ ((i 0 : Fin 4096) : ℕ) < 256 * b) ∧ ((i 1 : Fin 7168) : ℕ) / 128 / 28 = h
theorem mem_srcR {h a b : ℕ} {i : S4096x7168.Idx} : i ∈ srcR h a b ↔ (256 * a ≤ ((i 0 : Fin 4096) : ℕ) ∧ ((i 0 : Fin 4096) : ℕ) < 256 * b) ∧ ((i 1 : Fin 7168) : ℕ) / 128 / 28 = h := by simp [srcR]
theorem srcR_piece (h p : ℕ) : srcS h p 0 = srcR h p (p + 1) := by
  ext i; rw [mem_srcS, mem_srcR]; omega

variable (c : Dev nD) {α : Type} {Q : α → SP F}

theorem codeR_split (a m b : ℕ) (h1 : a ≤ m) (h2 : m ≤ b) (f : CodeBuf) :
    (((c : Thread nD τ).loc cc0_scratch0 ↦[codeR a b]{fullShare} f) : SP F) ⊣⊢ iprop(((c : Thread nD τ).loc cc0_scratch0 ↦[codeR a m]{fullShare} f) ∗ ((c : Thread nD τ).loc cc0_scratch0 ↦[codeR m b]{fullShare} f)) := by
  have hs : codeR a m ⊆ codeR a b := by intro i hi; rw [mem_codeR] at hi ⊢; omega
  have hd : codeR a b \ codeR a m = codeR m b := by ext i; rw [Finset.mem_sdiff, mem_codeR, mem_codeR, mem_codeR]; omega
  rw [← hd]
  exact pointsTo_split_subset hs
theorem srcR_split (h a m b : ℕ) (h1 : a ≤ m) (h2 : m ≤ b) (f : WordBuf) :
    (((c : Thread nD τ).loc main_arg4 ↦[srcR h a b]{fullShare} f) : SP F) ⊣⊢ iprop(((c : Thread nD τ).loc main_arg4 ↦[srcR h a m]{fullShare} f) ∗ ((c : Thread nD τ).loc main_arg4 ↦[srcR h m b]{fullShare} f)) := by
  have hs : srcR h a m ⊆ srcR h a b := by intro i hi; rw [mem_srcR] at hi ⊢; omega
  have hd : srcR h a b \ srcR h a m = srcR h m b := by ext i; rw [Finset.mem_sdiff, mem_srcR, mem_srcR, mem_srcR]; omega
  rw [← hd]
  exact pointsTo_split_subset hs

set_option maxHeartbeats 4000000 in
/-- A trip of the loop that starts the loads. -/
theorem t2_step (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg12 : BitVec 32) (g : WordBuf) (f : CodeBuf) (k : Fin k0_t2_loop.trips) :
    LS c g f (k0_t1 : ℕ) ⟨(k : ℕ), t2_lt k⟩ 0 ⊢ WP c (k0_t2_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12 k ⟨⟩) (fun _ => LB c g (k0_t1 : ℕ) ⟨(k : ℕ), t2_lt k⟩) := by
  iintro H
  simp only [k0_t2_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, Prog.bind_assoc]
  iapply (lstart c g f (k0_t1 : ℕ) (t1_lt k0_t1) ⟨(k : ℕ), t2_lt k⟩ 0 (by decide) (o1 k rfl) (o2 k 0 rfl) (o3 k0_t1 k _ 0 (by decide) (by decide) rfl)) $$ H
  iintro H
  iapply (lstart c g f (k0_t1 : ℕ) (t1_lt k0_t1) ⟨(k : ℕ), t2_lt k⟩ 1 (by decide) (o1 k rfl) (o2 k 1 rfl) (o3 k0_t1 k _ 1 (by decide) (by decide) rfl)) $$ H
  iintro H
  iapply (lstart c g f (k0_t1 : ℕ) (t1_lt k0_t1) ⟨(k : ℕ), t2_lt k⟩ 2 (by decide) (o1 k rfl) (o2 k 2 rfl) (o3 k0_t1 k _ 2 (by decide) (by decide) rfl)) $$ H
  iintro H
  iapply (lstart c g f (k0_t1 : ℕ) (t1_lt k0_t1) ⟨(k : ℕ), t2_lt k⟩ 3 (by decide) (o1 k rfl) (o2 k 3 rfl) (o3 k0_t1 k _ 3 (by decide) (by decide) rfl)) $$ H
  iintro H
  iapply (lstart c g f (k0_t1 : ℕ) (t1_lt k0_t1) ⟨(k : ℕ), t2_lt k⟩ 4 (by decide) (o1 k rfl) (o2 k 4 rfl) (o3 k0_t1 k _ 4 (by decide) (by decide) rfl)) $$ H
  iintro H
  iapply (lstart c g f (k0_t1 : ℕ) (t1_lt k0_t1) ⟨(k : ℕ), t2_lt k⟩ 5 (by decide) (o1 k rfl) (o2 k 5 rfl) (o3 k0_t1 k _ 5 (by decide) (by decide) rfl)) $$ H
  iintro H
  iapply (lstart c g f (k0_t1 : ℕ) (t1_lt k0_t1) ⟨(k : ℕ), t2_lt k⟩ 6 (by decide) (o1 k rfl) (o2 k 6 rfl) (o3 k0_t1 k _ 6 (by decide) (by decide) rfl)) $$ H
  iintro H
  iapply (lstart c g f (k0_t1 : ℕ) (t1_lt k0_t1) ⟨(k : ℕ), t2_lt k⟩ 7 (by decide) (o1 k rfl) (o2 k 7 rfl) (o3 k0_t1 k _ 7 (by decide) (by decide) rfl)) $$ H
  iintro H
  iapply (lstart c g f (k0_t1 : ℕ) (t1_lt k0_t1) ⟨(k : ℕ), t2_lt k⟩ 8 (by decide) (o1 k rfl) (o2 k 8 rfl) (o3 k0_t1 k _ 8 (by decide) (by decide) rfl)) $$ H
  iintro H
  iapply (lstart c g f (k0_t1 : ℕ) (t1_lt k0_t1) ⟨(k : ℕ), t2_lt k⟩ 9 (by decide) (o1 k rfl) (o2 k 9 rfl) (o3 k0_t1 k _ 9 (by decide) (by decide) rfl)) $$ H
  iintro H
  iapply (lstart c g f (k0_t1 : ℕ) (t1_lt k0_t1) ⟨(k : ℕ), t2_lt k⟩ 10 (by decide) (o1 k rfl) (o2 k 10 rfl) (o3 k0_t1 k _ 10 (by decide) (by decide) rfl)) $$ H
  iintro H
  iapply (lstart c g f (k0_t1 : ℕ) (t1_lt k0_t1) ⟨(k : ℕ), t2_lt k⟩ 11 (by decide) (o1 k rfl) (o2 k 11 rfl) (o3 k0_t1 k _ 11 (by decide) (by decide) rfl)) $$ H
  iintro H
  iapply (lstart c g f (k0_t1 : ℕ) (t1_lt k0_t1) ⟨(k : ℕ), t2_lt k⟩ 12 (by decide) (o1 k rfl) (o2 k 12 rfl) (o3 k0_t1 k _ 12 (by decide) (by decide) rfl)) $$ H
  iintro H
  iapply (lstart c g f (k0_t1 : ℕ) (t1_lt k0_t1) ⟨(k : ℕ), t2_lt k⟩ 13 (by decide) (o1 k rfl) (o2 k 13 rfl) (o3 k0_t1 k _ 13 (by decide) (by decide) rfl)) $$ H
  iintro H
  iapply (lstart c g f (k0_t1 : ℕ) (t1_lt k0_t1) ⟨(k : ℕ), t2_lt k⟩ 14 (by decide) (o1 k rfl) (o2 k 14 rfl) (o3 k0_t1 k _ 14 (by decide) (by decide) rfl)) $$ H
  iintro H
  iapply (lstart c g f (k0_t1 : ℕ) (t1_lt k0_t1) ⟨(k : ℕ), t2_lt k⟩ 15 (by decide) (o1 k rfl) (o2 k 15 rfl) (o3 k0_t1 k _ 15 (by decide) (by decide) rfl)) $$ H
  iintro H
  iapply (lstart c g f (k0_t1 : ℕ) (t1_lt k0_t1) ⟨(k : ℕ), t2_lt k⟩ 16 (by decide) (o1 k rfl) (o2 k 16 rfl) (o3 k0_t1 k _ 16 (by decide) (by decide) rfl)) $$ H
  iintro H
  iapply (lstart c g f (k0_t1 : ℕ) (t1_lt k0_t1) ⟨(k : ℕ), t2_lt k⟩ 17 (by decide) (o1 k rfl) (o2 k 17 rfl) (o3 k0_t1 k _ 17 (by decide) (by decide) rfl)) $$ H
  iintro H
  iapply (lstart c g f (k0_t1 : ℕ) (t1_lt k0_t1) ⟨(k : ℕ), t2_lt k⟩ 18 (by decide) (o1 k rfl) (o2 k 18 rfl) (o3 k0_t1 k _ 18 (by decide) (by decide) rfl)) $$ H
  iintro H
  iapply (lstart c g f (k0_t1 : ℕ) (t1_lt k0_t1) ⟨(k : ℕ), t2_lt k⟩ 19 (by decide) (o1 k rfl) (o2 k 19 rfl) (o3 k0_t1 k _ 19 (by decide) (by decide) rfl)) $$ H
  iintro H
  iapply (lstart c g f (k0_t1 : ℕ) (t1_lt k0_t1) ⟨(k : ℕ), t2_lt k⟩ 20 (by decide) (o1 k rfl) (o2 k 20 rfl) (o3 k0_t1 k _ 20 (by decide) (by decide) rfl)) $$ H
  iintro H
  iapply (lstart c g f (k0_t1 : ℕ) (t1_lt k0_t1) ⟨(k : ℕ), t2_lt k⟩ 21 (by decide) (o1 k rfl) (o2 k 21 rfl) (o3 k0_t1 k _ 21 (by decide) (by decide) rfl)) $$ H
  iintro H
  iapply (lstart c g f (k0_t1 : ℕ) (t1_lt k0_t1) ⟨(k : ℕ), t2_lt k⟩ 22 (by decide) (o1 k rfl) (o2 k 22 rfl) (o3 k0_t1 k _ 22 (by decide) (by decide) rfl)) $$ H
  iintro H
  iapply (lstart c g f (k0_t1 : ℕ) (t1_lt k0_t1) ⟨(k : ℕ), t2_lt k⟩ 23 (by decide) (o1 k rfl) (o2 k 23 rfl) (o3 k0_t1 k _ 23 (by decide) (by decide) rfl)) $$ H
  iintro H
  iapply (lstart c g f (k0_t1 : ℕ) (t1_lt k0_t1) ⟨(k : ℕ), t2_lt k⟩ 24 (by decide) (o1 k rfl) (o2 k 24 rfl) (o3 k0_t1 k _ 24 (by decide) (by decide) rfl)) $$ H
  iintro H
  iapply (lstart c g f (k0_t1 : ℕ) (t1_lt k0_t1) ⟨(k : ℕ), t2_lt k⟩ 25 (by decide) (o1 k rfl) (o2 k 25 rfl) (o3 k0_t1 k _ 25 (by decide) (by decide) rfl)) $$ H
  iintro H
  iapply (lstart c g f (k0_t1 : ℕ) (t1_lt k0_t1) ⟨(k : ℕ), t2_lt k⟩ 26 (by decide) (o1 k rfl) (o2 k 26 rfl) (o3 k0_t1 k _ 26 (by decide) (by decide) rfl)) $$ H
  iintro H
  iapply (lstart c g f (k0_t1 : ℕ) (t1_lt k0_t1) ⟨(k : ℕ), t2_lt k⟩ 27 (by decide) (o1 k rfl) (o2 k 27 rfl) (o3 k0_t1 k _ 27 (by decide) (by decide) rfl)) $$ H
  iintro H
  iapply (Idealize.SL.Sem.le_wp_ret _ _)
  unfold LS LB
  icases H with ⟨H, -, -⟩
  iexact H

theorem t7_trips (k : Fin k0_t3_loop.trips) : (k0_t7_loop k).trips = 0 := by revert k; decide

theorem WP_wand {p : PG F α} {Q' : α → SP F} : WP c p Q ⊢ iprop((∀ a, Q a -∗ Q' a) -∗ WP c p Q') :=
  wp_wand frame (wpE (defs₀ (F := F)) Variants.none (c : Thread nD τ) none) Set.univ

theorem codeR_empty (a : ℕ) (f f' : CodeBuf) :
    (((c : Thread nD τ).loc cc0_scratch0 ↦[codeR a a]{fullShare} f) : SP F) ⊢ ((c : Thread nD τ).loc cc0_scratch0 ↦[codeR a (a + 0)]{fullShare} f') :=
  Entails.of_eq (pointsTo_congr fun i hi => absurd (mem_codeR.1 hi) (by omega))

theorem linit' (g : WordBuf) (f : CodeBuf) (h : ℕ) (p : Fin 16) :
    iprop(semVal ((c : Thread nD τ), SemLoc.dma (lcell p)) 0 ∗ ((c : Thread nD τ).loc cc0_scratch0 ↦[codeR (32 * (p : ℕ)) (32 * ((p : ℕ) + 1))]{fullShare} f)
      ∗ ((c : Thread nD τ).loc main_arg4 ↦[srcR h (p : ℕ) ((p : ℕ) + 1)]{fullShare} g)) ⊢ iprop(|={Set.univ}=> LS (F := F) c g f h p 0) := by
  rw [← codeR_piece, ← srcR_piece]
  exact linit c g f h p

theorem repackR (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (k0_t3 : Fin k0_t3_loop.trips) (v113 : BitVec 32) (t : Fin (k0_t6_loop k0_t3).trips) (acc : BitVec 32) (f0 : CodeBuf) :
    (((c : Thread nD τ).loc cc0_scratch0 ↦[codeR (32 * (k0_t3 : ℕ) + (t : ℕ)) (32 * (k0_t3 : ℕ) + (t : ℕ) + 1)]{fullShare} f0) : SP F)
      ⊢ WP c (k0_t6_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 v113 t acc)
          (fun _ => ((c : Thread nD τ).loc cc0_scratch0 ↦[codeR (32 * (k0_t3 : ℕ) + (t : ℕ)) (32 * (k0_t3 : ℕ) + (t : ℕ) + 1)]{fullShare} packBuf f0)) := by
  rw [← codeR_tile]
  exact repack c arg0 harg0 arg1 harg1 arg2 harg2 arg3 harg3 (Memref.whole main_arg4) (Memref.isWhole_whole _) (Memref.whole main_v0) (Memref.isWhole_whole _) (Memref.whole cc0_scratch1) (Memref.isWhole_whole _) (Memref.whole cc0_scratch2) (Memref.isWhole_whole _) cc0_scratch3 cc0_scratch4 cc0_scratch5
    v0 k0_hw2 v1 v20 v21 v22 v43 v44 c0_i32_24 c1_i32_26 k0_t1 arg13 k0_t3 v113 t acc f0

theorem issued_step {k : ℕ} (hk : k < 16) (φ : Fin 16 → SP F) :
    iprop(φ ⟨k, hk⟩ ∗ bigSep (Transfers.issued (m := 16) k) φ) ⊢ bigSep (Transfers.issued (m := 16) (k + 1)) φ := by
  rw [Transfers.issued_succ hk, bigSep_insert (Transfers.not_mem_issued hk)]
  exact .rfl

/-- The loads after `k` trips. -/
def L2 (g : WordBuf) (f : CodeBuf) (h k : ℕ) : SP F :=
  iprop(bigSep (Transfers.issued (m := 16) k) (fun p => LB c g h p) ∗ bigSep (Transfers.pending (n := 16) k) (fun p => semVal ((c : Thread nD τ), SemLoc.dma (lcell p)) 0)
    ∗ ((c : Thread nD τ).loc cc0_scratch0 ↦[codeR (32 * k) 512]{fullShare} f) ∗ ((c : Thread nD τ).loc main_arg4 ↦[srcR h k 16]{fullShare} g))

/-- The loop that starts the loads. -/
theorem t2_loop (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg12 : BitVec 32) (g : WordBuf) (f : CodeBuf) (hok : k0_t2_loop.OK) {kk : Unit → PG F α} :
    L2 c g f (k0_t1 : ℕ) 0 ⊢ iprop((L2 c g f (k0_t1 : ℕ) 16 -∗ WP c (kk ⟨⟩) Q)
      -∗ WP c (Scf.Loop.for k0_t2_loop hok ⟨⟩ (k0_t2_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12) >>= kk) Q) := by
  iintro H Hk
  iapply (Scf.wp_for_bind frame (wpE (defs₀ (F := F)) Variants.none (c : Thread nD τ) none) Set.univ k0_t2_loop.lb k0_t2_loop.ub k0_t2_loop.st hok ⟨⟩ (k0_t2_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12)
    (fun k _ => L2 c g f (k0_t1 : ℕ) k) (fun k acc => by
      have hk : (k : ℕ) < 16 := t2_lt k
      unfold L2
      rw [Transfers.bigSep_pending_step _ _ hk]
      iintro ⟨HL, ⟨Hv, HS⟩, Hc, Ha⟩
      ihave Hc' := (codeR_split c (32 * (k : ℕ)) (32 * ((k : ℕ) + 1)) 512 (by omega) (by omega) f).1 $$ Hc
      icases Hc' with ⟨Hc1, Hc⟩
      ihave Ha' := (srcR_split c (k0_t1 : ℕ) (k : ℕ) ((k : ℕ) + 1) 16 (by omega) (by omega) g).1 $$ Ha
      icases Ha' with ⟨Ha1, Ha⟩
      imod (linit' c g f (k0_t1 : ℕ) ⟨(k : ℕ), hk⟩) $$ [Hv Hc1 Ha1] with HL1
      · isplitl [Hv]; · iexact Hv
        isplitl [Hc1]; · iexact Hc1
        iexact Ha1
      ihave Hw := (t2_step c arg0 harg0 arg1 harg1 arg2 harg2 arg3 harg3 v0 k0_hw2 v1 v20 v21 v22 v43 v44 c0_i32_24 c1_i32_26 k0_t1 arg13 arg12 g f k) $$ HL1
      iapply (WP_wand c) $$ Hw
      iintro %a HL1
      isplitl [HL HL1]
      · iapply (issued_step hk (fun p => LB c g (k0_t1 : ℕ) p)) $$ [HL HL1]
        isplitl [HL1]; · iexact HL1
        iexact HL
      isplitl [HS]; · iexact HS
      isplitl [Hc]; · iexact Hc
      iexact Ha)) $$ [H]
  · iexact H
  iintro %acc H
  iapply Hk
  rw [show Scf.trips k0_t2_loop.lb k0_t2_loop.ub k0_t2_loop.st = 16 from t2_trips]
  iexact H

/-- The tiles of a piece, `t` of them turned. -/
def T6 (f : CodeBuf) (k t : ℕ) : SP F :=
  iprop(((c : Thread nD τ).loc cc0_scratch0 ↦[codeR (32 * k) (32 * k + t)]{fullShare} packBuf f) ∗ ((c : Thread nD τ).loc cc0_scratch0 ↦[codeR (32 * k + t) (32 * (k + 1))]{fullShare} f))

theorem t6_loop (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (f : CodeBuf) (k0_t3 : Fin k0_t3_loop.trips) (v113 : BitVec 32) (hok : (k0_t6_loop k0_t3).OK) (init : BitVec 32) {kk : BitVec 32 → PG F α} :
    (((c : Thread nD τ).loc cc0_scratch0 ↦[codeR (32 * (k0_t3 : ℕ)) (32 * ((k0_t3 : ℕ) + 1))]{fullShare} f) : SP F)
      ⊢ iprop((∀ a, ((c : Thread nD τ).loc cc0_scratch0 ↦[codeR (32 * (k0_t3 : ℕ)) (32 * ((k0_t3 : ℕ) + 1))]{fullShare} packBuf f) -∗ WP c (kk a) Q)
      -∗ WP c (Scf.Loop.for (k0_t6_loop k0_t3) hok init (k0_t6_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 v113) >>= kk) Q) := by
  iintro H Hk
  iapply (Scf.wp_for_bind frame (wpE (defs₀ (F := F)) Variants.none (c : Thread nD τ) none) Set.univ (k0_t6_loop k0_t3).lb (k0_t6_loop k0_t3).ub (k0_t6_loop k0_t3).st hok init (k0_t6_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 v113)
    (fun t _ => T6 c f (k0_t3 : ℕ) t) (fun t acc => by
      have ht : (t : ℕ) < 32 := t6_lt t
      unfold T6
      iintro ⟨H1, H2⟩
      ihave H2' := (codeR_split c (32 * (k0_t3 : ℕ) + (t : ℕ)) (32 * (k0_t3 : ℕ) + (t : ℕ) + 1) (32 * ((k0_t3 : ℕ) + 1)) (by omega) (by omega) f).1 $$ H2
      icases H2' with ⟨Ht, H2⟩
      ihave Hw := (repackR c arg0 harg0 arg1 harg1 arg2 harg2 arg3 harg3
        v0 k0_hw2 v1 v20 v21 v22 v43 v44 c0_i32_24 c1_i32_26 k0_t1 arg13 k0_t3 v113 t acc f) $$ Ht
      iapply (WP_wand c) $$ Hw
      iintro %a Ht
      isplitl [H1 Ht]
      · iapply (codeR_split c (32 * (k0_t3 : ℕ)) (32 * (k0_t3 : ℕ) + (t : ℕ)) (32 * (k0_t3 : ℕ) + ((t : ℕ) + 1)) (by omega) (by omega) (packBuf f)).2
        isplitl [H1]; · iexact H1
        iexact Ht
      iexact H2)) $$ [H]
  · unfold T6
    ihave H := (codeR_split c (32 * (k0_t3 : ℕ)) (32 * (k0_t3 : ℕ)) (32 * ((k0_t3 : ℕ) + 1)) (by omega) (by omega) f).1 $$ H
    icases H with ⟨H1, H2⟩
    isplitl [H1]
    · iapply (codeR_empty c (32 * (k0_t3 : ℕ)) f (packBuf f)) $$ H1
    iexact H2
  iintro %acc H
  iapply Hk
  unfold T6
  rw [show Scf.trips (k0_t6_loop k0_t3).lb (k0_t6_loop k0_t3).ub (k0_t6_loop k0_t3).st = 32 from t6_trips k0_t3]
  icases H with ⟨H, -⟩
  iexact H

theorem starts4 (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (arg15 : BitVec 32) (k0_hw1 : k0_chk1 v0 arg15) {nu d : ℕ} (h : W v0 nu) (hu : nu ≤ 16384) (ha : W arg15 d) (k : Fin (k0_t4_loop v0 arg15).trips) (hd : d + (k : ℕ) ≤ 512) (acc : BitVec 32) :
    StartsZero (F := F) nu d (k : ℕ) (k0_t4_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg15 k0_hw1 k acc) := by
  refine ⟨_, _, _, _, _, ?_, rfl⟩
  have e := zoff (k := (k : ℕ)) h hu ha hd
  exact congrArg (fun n : ℕ => (![n, 0, 0, 0] : Fin 4 → ℕ)) e

/-- A piece: zero copies are started, the piece's load is waited for, and its tiles are turned. -/
theorem t3_step (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (o0 : OutBuf F) (g : WordBuf) (k0_t3 : Fin k0_t3_loop.trips) (arg15 : BitVec 32) {nu d : ℕ} (h : W v0 nu) (hu : nu ≤ 16384) (h22 : v22 = nzW v0) (h43 : v43 = zpsW v0)
    (ha : W arg15 d) (hd : d ≤ 512 - 2 * nbl nu) (hh : (k0_t1 : ℕ) < 2) :
    iprop(ZS c o0 nu d ∗ LB c g (k0_t1 : ℕ) ⟨(k0_t3 : ℕ), t3_lt k0_t3⟩ ∗ ∃ W, owes (c : Thread nD τ) 0 W)
      ⊢ WP c (k0_t3_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t3 arg15) (fun a => iprop(⌜W a (zstep nu d)⌝ ∗ ZS c o0 nu (zstep nu d) ∗ semVal ((c : Thread nD τ), SemLoc.dma (lcell ⟨(k0_t3 : ℕ), t3_lt k0_t3⟩)) 0
        ∗ ((c : Thread nD τ).loc cc0_scratch0 ↦[codeR (32 * (k0_t3 : ℕ)) (32 * ((k0_t3 : ℕ) + 1))]{fullShare} packBuf (loadBuf g (k0_t1 : ℕ)))
        ∗ ((c : Thread nD τ).loc main_arg4 ↦[srcR (k0_t1 : ℕ) (k0_t3 : ℕ) ((k0_t3 : ℕ) + 1)]{fullShare} g) ∗ ∃ W, owes (c : Thread nD τ) 0 W)) := by
  have hs := h.zstop hu ha (by omega)
  have hb := zstep_bounds hd
  iintro ⟨HZ, HL, HO⟩
  simp only [k0_t3_body, Prog.bind_assoc]
  iapply (wp_assume Variants.none (c : Thread nD τ) none Set.univ (chkZ h hu ha hd))
  iapply (zloop c o0 hu ha hs hb.1 hb.2 _ _ _ (fun k acc => starts4 arg0 harg0 arg1 harg1 arg2 harg2 arg3 harg3 v0 k0_hw2 v1 v20 v21 v22 v43 v44 c0_i32_24 c1_i32_26 k0_t1 arg13 arg15 (chkZ h hu ha hd) h hu ha k
    (by have := lt_of_lt_of_eq k.isLt (uloop_trips ha hs hb.1); have := hb.1; have := hb.2; omega) acc)) $$ HZ
  iintro %a1 HZ
  iapply (skip c (k0_t5_loop v0 arg15) _ (rloop_trips ha hs hb.1)) $$ HZ
  iintro HZ
  iapply (lwait c g (k0_t1 : ℕ) hh ⟨(k0_t3 : ℕ), t3_lt k0_t3⟩ (o33 k0_t3)) $$ [HL HO]
  · isplitl [HL]; · iexact HL
    iexact HO
  iintro ⟨Hv, Hc, Ha, HO⟩
  rw [codeR_piece, srcR_piece]
  iapply (t6_loop c arg0 harg0 arg1 harg1 arg2 harg2 arg3 harg3 v0 k0_hw2 v1 v20 v21 v22 v43 v44 c0_i32_24 c1_i32_26 k0_t1 arg13 (loadBuf g (k0_t1 : ℕ)) k0_t3 _ _ _) $$ Hc
  iintro %a2 Hc
  iapply (skip c (k0_t7_loop k0_t3) _ (t7_trips k0_t3)) $$ Hc
  iintro Hc
  iapply (Idealize.SL.Sem.le_wp_ret _ _)
  isplitr
  · ipureintro; rw [h43, h22]; exact hs
  isplitl [HZ]; · iexact HZ
  isplitl [Hv]; · iexact Hv
  isplitl [Hc]; · iexact Hc
  isplitl [Ha]; · iexact Ha
  iexact HO

/-- The pieces, `k` of them turned. -/
def L3 (o0 : OutBuf F) (nu : ℕ) (g : WordBuf) (h k : ℕ) (a : BitVec 32) : SP F :=
  iprop((∃ d, ⌜W a d ∧ d ≤ 512 - 2 * nbl nu⌝ ∗ ZS c o0 nu d) ∗ bigSep (Transfers.pending (n := 16) k) (fun p => LB c g h p)
    ∗ bigSep (Transfers.issued (m := 16) k) (fun p => semVal ((c : Thread nD τ), SemLoc.dma (lcell p)) 0)
    ∗ ((c : Thread nD τ).loc cc0_scratch0 ↦[codeR 0 (32 * k)]{fullShare} packBuf (loadBuf g h)) ∗ ((c : Thread nD τ).loc main_arg4 ↦[srcR h 0 k]{fullShare} g) ∗ ∃ W, owes (c : Thread nD τ) 0 W)

/-- The loop over the pieces. -/
theorem t3_loop (arg0 : Memref sig .tc .smem S17408 .i32) (harg0 : arg0.IsWhole) (arg1 : Memref sig .tc .smem S17408 .f32) (harg1 : arg1.IsWhole) (arg2 : Memref sig .tc .smem S16385 .i32) (harg2 : arg2.IsWhole) (arg3 : Memref sig .tc .smem S2 .i32) (harg3 : arg3.IsWhole)
    (v0 : Elt F .i32) (k0_hw2 : k0_chk2 v0) (v1 : Elt F .i32) (v20 : BitVec 32) (v21 : BitVec 32) (v22 : BitVec 32) (v43 : BitVec 32) (v44 : FVec F S28x128 .f32) (c0_i32_24 : BitVec 32) (c1_i32_26 : BitVec 32) (k0_t1 : Fin k0_t1_loop.trips) (arg13 : BitVec 32) (o0 : OutBuf F) (g : WordBuf) {nu : ℕ} (h : W v0 nu) (hu : nu ≤ 16384) (h22 : v22 = nzW v0) (h43 : v43 = zpsW v0) (hh : (k0_t1 : ℕ) < 2)
    (hok : k0_t3_loop.OK) (init : BitVec 32) {kk : BitVec 32 → PG F α} :
    L3 c o0 nu g (k0_t1 : ℕ) 0 init ⊢ iprop((∀ a, L3 c o0 nu g (k0_t1 : ℕ) 16 a -∗ WP c (kk a) Q)
      -∗ WP c (Scf.Loop.for k0_t3_loop hok init (k0_t3_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13) >>= kk) Q) := by
  iintro H Hk
  iapply (Scf.wp_for_bind frame (wpE (defs₀ (F := F)) Variants.none (c : Thread nD τ) none) Set.univ k0_t3_loop.lb k0_t3_loop.ub k0_t3_loop.st hok init (k0_t3_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13)
    (fun k a => L3 c o0 nu g (k0_t1 : ℕ) k a) (fun k acc => by
      have hk : (k : ℕ) < 16 := t3_lt k
      unfold L3
      rw [Transfers.bigSep_pending_step _ _ hk]
      iintro ⟨⟨%d, %hd, HZ⟩, ⟨HL, HP⟩, HS, Hc, Ha, HO⟩
      ihave Hw := (t3_step c arg0 harg0 arg1 harg1 arg2 harg2 arg3 harg3 v0 k0_hw2 v1 v20 v21 v22 v43 v44 c0_i32_24 c1_i32_26 k0_t1 arg13 o0 g k acc h hu h22 h43 hd.1 hd.2 hh) $$ [HZ HL HO]
      · isplitl [HZ]; · iexact HZ
        isplitl [HL]; · iexact HL
        iexact HO
      iapply (WP_wand c) $$ Hw
      iintro %a ⟨%hW, HZ, Hv, Hc1, Ha1, HO⟩
      isplitl [HZ]
      · iexists (zstep nu d)
        isplitr
        · ipureintro; exact ⟨hW, (zstep_bounds hd.2).2⟩
        iexact HZ
      isplitl [HP]; · iexact HP
      isplitl [HS Hv]
      · iapply (issued_step hk (fun p => semVal ((c : Thread nD τ), SemLoc.dma (lcell p)) 0)) $$ [HS Hv]
        isplitl [Hv]; · iexact Hv
        iexact HS
      isplitl [Hc Hc1]
      · iapply (codeR_split c 0 (32 * (k : ℕ)) (32 * ((k : ℕ) + 1)) (by omega) (by omega) (packBuf (loadBuf g (k0_t1 : ℕ)))).2
        isplitl [Hc]; · iexact Hc
        iexact Hc1
      isplitl [Ha Ha1]
      · iapply (srcR_split c (k0_t1 : ℕ) 0 (k : ℕ) ((k : ℕ) + 1) (by omega) (by omega) g).2
        isplitl [Ha]; · iexact Ha
        iexact Ha1
      iexact HO)) $$ [H]
  · iexact H
  iintro %acc H
  iapply Hk
  rw [show Scf.trips k0_t3_loop.lb k0_t3_loop.ub k0_t3_loop.st = 16 from t3_trips]
  iexact H

end Cert.Proof.KernelIdeal

end
-- ==== Proof.MainIdeal.Block.lean ====
module

public import Idealize.ShloMosaic.Lib.Batch
public import proofs.«01_k».proof.Proof.MainIdeal.Ring
public import proofs.«01_k».proof.Proof.MainIdeal.Pieces
public import proofs.«01_k».proof.Proof.MainIdeal.BArith

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! A block of 64 output rows: its tokens, its zero rows, and the copy of it to the output. -/

/-- The elements of the ring a block's tokens write. -/
def ringB (b : ℕ) : Finset S33x28x8x128.Idx := Finset.univ.filter fun i => ((i 0 : Fin 33) : ℕ) / 8 = b % 4 ∨ ((i 0 : Fin 33) : ℕ) / 8 = (b + 1) % 4 ∨ ((i 0 : Fin 33) : ℕ) = 32
/-- The elements of the ring a block starts with. -/
def ringA (b : ℕ) : Finset S33x28x8x128.Idx := Finset.univ.filter fun i => ((i 0 : Fin 33) : ℕ) / 8 = b % 4 ∨ ((i 0 : Fin 33) : ℕ) = 32
theorem mem_ringB {b : ℕ} {i : S33x28x8x128.Idx} : i ∈ ringB b ↔ ((i 0 : Fin 33) : ℕ) / 8 = b % 4 ∨ ((i 0 : Fin 33) : ℕ) / 8 = (b + 1) % 4 ∨ ((i 0 : Fin 33) : ℕ) = 32 := by
  simp [ringB]
theorem mem_ringA {b : ℕ} {i : S33x28x8x128.Idx} : i ∈ ringA b ↔ ((i 0 : Fin 33) : ℕ) / 8 = b % 4 ∨ ((i 0 : Fin 33) : ℕ) = 32 := by
  simp [ringA]
theorem ringA_sub (b : ℕ) : ringA b ⊆ ringB b := by intro i hi; rw [mem_ringA] at hi; rw [mem_ringB]; omega
theorem ringB_sdiff (b : ℕ) : ringB b \ ringA b = ringC ((b + 1) % 4) := by
  ext i; rw [Finset.mem_sdiff, mem_ringA, mem_ringB, mem_ringT]; omega
theorem ringC_sub (b : ℕ) : ringC (b % 4) ⊆ ringB b := by intro i hi; rw [mem_ringT] at hi; rw [mem_ringB]; omega
theorem ringB_rest (b : ℕ) : ringB b \ ringC (b % 4) = ringA (b + 1) := by
  ext i; rw [Finset.mem_sdiff, mem_ringA, mem_ringB, mem_ringT]; omega

/-- The token a block's own tokens start at, at least. -/
def lo (np : ℕ) (e : ℕ → ℕ) (b : ℕ) : ℕ := if b = 0 then np else e (b - 1)
theorem lo_succ (np : ℕ) (e : ℕ → ℕ) (b : ℕ) : lo np e (b + 1) = e b := rfl

/-- What the program needs of the tables. -/
structure Toks (T0 T2 : ℕ → BitVec 32) (nu np : ℕ) (e : ℕ → ℕ) : Prop where
  e_le : ∀ b < nbl nu, e b ≤ 16384
  np_le : ∀ b < nbl nu, np ≤ e b
  np16 : np ≤ 16384
  word : ∀ b < nbl nu, W (T2 (Nat.min (64 * (b + 1)) 16384)) (e b)
  ok : ∀ b < nbl nu, ∀ i, lo np e b ≤ i → i < e b + 15 → TokOK (T0 i) ∧ ∀ x, ringRow x = rowOfW (T0 i) → x ∈ ringB b

/-- The ring after `k` of the rows past the last are zeroed. -/
def zRun (w : S28x128.Idx → Elt F .f32) (nu : ℕ) (r : RingBuf F) : ℕ → RingBuf F
  | 0 => r
  | k + 1 => setRow ((nu + k) % 256) (zRun w nu r k) w
/-- The ring at the copy of block `b`. -/
def zFin (w : S28x128.Idx → Elt F .f32) (nu b : ℕ) (r : RingBuf F) : RingBuf F := if b + 1 = nbl nu then zRun w nu r (64 * nbl nu - nu) else r

theorem zRun_eq (w : S28x128.Idx → Elt F .f32) (nu : ℕ) (hu : 1 ≤ nu) (r : RingBuf F) (k : ℕ) (hk : k ≤ 64 * nbl nu - nu) (i : S33x28x8x128.Idx) (hi : i ∉ ringC ((nbl nu - 1) % 4)) : zRun w nu r k i = r i := by
  induction k with
  | zero => rfl
  | succ k ih =>
    show setRow ((nu + k) % 256) (zRun w nu r k) w i = _
    unfold setRow
    rw [if_neg, ih (by omega)]
    intro h
    refine hi ?_
    unfold ringRow at h
    unfold nbl at hk
    rw [mem_ringT]
    unfold nbl
    have : ((i 2 : Fin 8) : ℕ) < 8 := (i 2 : Fin 8).isLt
    have : ((i 0 : Fin 33) : ℕ) < 33 := (i 0 : Fin 33).isLt
    omega
theorem zFin_eq (w : S28x128.Idx → Elt F .f32) (nu b : ℕ) (hu : 1 ≤ nu) (r : RingBuf F) (i : S33x28x8x128.Idx) (hi : i ∉ ringC (b % 4)) : zFin w nu b r i = r i := by
  unfold zFin
  split
  · next h => exact zRun_eq w nu hu r _ le_rfl i (by rw [← h, Nat.add_sub_cancel]; exact hi)
  · rfl

/-- What is known of the accumulator and the ring at a block's start (`A`) and among its tokens (`B`), and what follows of the block's output. -/
structure BSpec (Vo : S2048x56x8x128.Idx → Elt F .f32 → Prop) (T0 : ℕ → BitVec 32) (T1 : ℕ → F .f32) (cw : CodeBuf) (h nu np : ℕ) (e : ℕ → ℕ) (w0 w : S28x128.Idx → Elt F .f32) where
  A : ℕ → ℕ → FVec F S32x128 .f32 → RingBuf F → Prop
  B : ℕ → ℕ → FVec F S32x128 .f32 → RingBuf F → Prop
  start : ∀ r, A 0 np (k0_pay400 (F := F)) (setRow 0 r w0)
  AB : ∀ b m a r r', b < nbl nu → (∀ i ∈ ringC (b % 4), r' i = r i) → A b m a r → B b m a r'
  step : ∀ b m a r, b < nbl nu → lo np e b ≤ m → m < e b → B b m a r → B b (m + 16) (tokRun T0 T1 cw m a r 16).1 (tokRun T0 T1 cw m a r 16).2
  BA : ∀ b m a r r', b < nbl nu → e b ≤ m → (∀ i ∈ ringC ((b + 1) % 4), r' i = r i) → B b m a r → A (b + 1) m a r'
  val : ∀ b m a r, b < nbl nu → e b ≤ m → B b m a r → ∀ i ∈ outR h b (b + 1), Vo i (zFin w nu b r (ringOf b i))

theorem gstop_hi (np e g : ℕ) (hn : np ≤ e) : e ≤ np + 16 * gstop np e g := by
  have : (e - np + 15) / 16 ≤ gstop np e g := le_max_left _ _
  omega
theorem gstop_ge (np e g : ℕ) : g ≤ gstop np e g := le_max_right _ _
theorem gstop_lt (np e g k : ℕ) (hn : np ≤ e) (h : k < gstop np e g - g) : np + 16 * (g + k) < e := by
  rcases max_choice ((e - np + 15) / 16) g with hh | hh
  · have : gstop np e g = (e - np + 15) / 16 := hh
    omega
  · have : gstop np e g = g := hh
    omega
theorem gstop_le (np e g : ℕ) (hn : np ≤ e) (he : e ≤ 16384) (hg : np + 16 * g ≤ 16399) : np + 16 * gstop np e g ≤ 16399 := by
  rcases max_choice ((e - np + 15) / 16) g with hh | hh
  · have : gstop np e g = (e - np + 15) / 16 := hh
    omega
  · have : gstop np e g = g := hh
    omega

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
  {v0 : Elt F .i32} {k0_hw2 : k0_chk2 v0} {v1 : Elt F .i32} {v20 : BitVec 32} {v21 : BitVec 32} {v22 : BitVec 32} {v43 : BitVec 32} {v44 : FVec F S28x128 .f32} {c0_i32_24 : BitVec 32} {c1_i32_26 : BitVec 32} {k0_t1 : Fin k0_t1_loop.trips} {arg13 : BitVec 32}
variable (q0 q1 q2 : PosShare TreeShare) (g0 : Buf (Elt F) (arg0.view.loc (c : Thread nD τ))) (g1 : Buf (Elt F) (arg1.view.loc (c : Thread nD τ))) (g2 : Buf (Elt F) (arg2.view.loc (c : Thread nD τ)))

/-- The three tables. -/
def Tabs : SP F :=
  iprop((arg0.view.loc (c : Thread nD τ) ↦[arg0.view.set]{q0} g0) ∗ (arg1.view.loc (c : Thread nD τ) ↦[arg1.view.set]{q1} g1) ∗ (arg2.view.loc (c : Thread nD τ) ↦[arg2.view.set]{q2} g2))

variable {nu np : ℕ} {e : ℕ → ℕ} {cw : CodeBuf} {w0 w : S28x128.Idx → Elt F .f32}

/-- What the tokens of a block keep. -/
def TB (sp : BSpec Vo (tabF c arg0 g0 (by decide)) (tabF c arg1 g1 (by decide)) cw (k0_t1 : ℕ) nu np e w0 w) (b m : ℕ) (a : FVec F S32x128 .f32) : SP F :=
  iprop(∃ r, ⌜sp.B b m a r⌝ ∗ Tabs c q0 q1 q2 g0 g1 g2 ∗ ((c : Thread nD τ).loc cc0_scratch0 ↦[Finset.univ]{fullShare} cw) ∗ ((c : Thread nD τ).loc cc0_scratch1 ↦[ringB b]{fullShare} r))

/-- The loop over a block's tokens. -/
theorem t11_loop (sp : BSpec Vo (tabF c arg0 g0 (by decide)) (tabF c arg1 g1 (by decide)) cw (k0_t1 : ℕ) nu np e w0 w) {T2 : ℕ → BitVec 32} (tk : Toks (tabF c arg0 g0 (by decide)) T2 nu np e)
    (h1 : W v1 np) {arg16 : BitVec 32} {G b : ℕ} (ha : W arg16 G) {v115 : Elt F .i32} (k0_hw4 : k0_chk4 v1 arg16 v115) (he : W v115 (e b)) (hb : b < nbl nu) (hlo : lo np e b ≤ np + 16 * G) (hm : np + 16 * G ≤ 16399)
    (hok : (k0_t11_loop v1 arg16 v115).OK) (init : FVec F S32x128 .f32) {kk : FVec F S32x128 .f32 → PG F α} :
    TB c Vo q0 q1 q2 g0 g1 g2 sp b (np + 16 * G) init ⊢ iprop((∀ a, TB c Vo q0 q1 q2 g0 g1 g2 sp b (np + 16 * gstop np (e b) G) a -∗ WP c (kk a) Q)
      -∗ WP c (Scf.Loop.for (k0_t11_loop v1 arg16 v115) hok init (k0_t11_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg16 v115 k0_hw4) >>= kk) Q) := by
  have hge := gstop_ge np (e b) G
  have hs : W (Scalar.maxsi (stopW v1 v115) arg16) (gstop np (e b) G) := (h1.stop he (tk.e_le b hb) (tk.np_le b hb)).max ha
  have ht : (k0_t11_loop v1 arg16 v115).trips = gstop np (e b) G - G := uloop_trips ha hs hge
  iintro H Hk
  iapply (Scf.wp_for_bind frame (wpE (defs₀ (F := F)) Variants.none (c : Thread nD τ) none) Set.univ (k0_t11_loop v1 arg16 v115).lb (k0_t11_loop v1 arg16 v115).ub (k0_t11_loop v1 arg16 v115).st hok init (k0_t11_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg16 v115 k0_hw4)
    (fun k a => TB c Vo q0 q1 q2 g0 g1 g2 sp b (np + 16 * (G + k)) a) (fun (t : Fin (k0_t11_loop v1 arg16 v115).trips) acc => by
      have hk : (t : ℕ) < gstop np (e b) G - G := lt_of_lt_of_eq t.isLt ht
      have hlt := gstop_lt np (e b) G (t : ℕ) (tk.np_le b hb) hk
      have he2 := tk.e_le b hb
      have hB : (Scalar.addi v1 (Scalar.muli (Scf.iv arg16 1#32 t) 16#32)).toNat = np + 16 * (G + (t : ℕ)) := by
        have := (h1.add ((ha.iv (t : ℕ) (by omega)).mul (W.lit 16 (by decide)) (by omega)) (by omega)).eq
        omega
      unfold TB Tabs
      iintro ⟨%r, %hI, ⟨H0, H1, H2⟩, Hc, Hr⟩
      ihave Hw := (tokens c arg0 harg0 arg1 harg1 arg2 harg2 arg3 harg3 (Memref.whole main_arg4) (Memref.isWhole_whole _) (Memref.whole main_v0) (Memref.isWhole_whole _) (Memref.whole cc0_scratch2) (Memref.isWhole_whole _) cc0_scratch3 cc0_scratch4 cc0_scratch5
        v0 k0_hw2 v1 v20 v21 v22 v43 v44 c0_i32_24 c1_i32_26 k0_t1 arg13 arg16 v115 k0_hw4 t acc (ringB b) r cw q0 q1 g0 g1 (np + 16 * (G + (t : ℕ))) (by omega) hB
        (fun k hk => tk.ok b hb _ (by omega) (by omega))) $$ [H0 H1 Hc Hr]
      · isplitl [H0]; · iexact H0
        isplitl [H1]; · iexact H1
        isplitl [Hc]; · iexact Hc
        iexact Hr
      iapply (WP_wand c) $$ Hw
      iintro %a ⟨%hea, H0, H1, Hc, Hr⟩
      iexists _
      isplitr
      · ipureintro
        rw [hea]
        exact sp.step b (np + 16 * (G + (t : ℕ))) acc r hb (by omega) hlt hI
      isplitl [H0 H1 H2]
      · isplitl [H0]; · iexact H0
        isplitl [H1]; · iexact H1
        iexact H2
      isplitl [Hc]; · iexact Hc
      iexact Hr)) $$ [H]
  · iexact H
  iintro %acc H
  iapply Hk
  rw [show Scf.trips (k0_t11_loop v1 arg16 v115).lb (k0_t11_loop v1 arg16 v115).ub (k0_t11_loop v1 arg16 v115).st = gstop np (e b) G - G from ht,
    show G + (gstop np (e b) G - G) = gstop np (e b) G from by omega]
  iexact H

/-- The loop that zeroes the rows past the last. -/
theorem t13_loop (h : W v0 nu) (hu : nu ≤ 16384) (h1 : 1 ≤ nu) (k0_t8 : Fin (k0_t8_loop v0).trips) (k0_h2 : k0_cond2 v0 k0_t8 = 1#1) (r : RingBuf F) {b : ℕ} (hb : b + 1 = nbl nu)
    (hok : (k0_t13_loop v0).OK) (init : BitVec 32) {kk : BitVec 32 → PG F α} :
    (((c : Thread nD τ).loc cc0_scratch1 ↦[ringB b]{fullShare} r) : SP F) ⊢ iprop((∀ a, ((c : Thread nD τ).loc cc0_scratch1 ↦[ringB b]{fullShare} zFin (k0_pay403 v44) nu b r) -∗ WP c (kk a) Q)
      -∗ WP c (Scf.Loop.for (k0_t13_loop v0) hok init (k0_t13_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t8 k0_h2) >>= kk) Q) := by
  have ht : (k0_t13_loop v0).trips = 64 * nbl nu - nu := t13_trips h hu
  iintro H Hk
  iapply (Scf.wp_for_bind frame (wpE (defs₀ (F := F)) Variants.none (c : Thread nD τ) none) Set.univ (k0_t13_loop v0).lb (k0_t13_loop v0).ub (k0_t13_loop v0).st hok init (k0_t13_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 k0_t8 k0_h2)
    (fun k _ => ((c : Thread nD τ).loc cc0_scratch1 ↦[ringB b]{fullShare} zRun (k0_pay403 v44) nu r k)) (fun (t : Fin (k0_t13_loop v0).trips) acc => by
      have hk : (t : ℕ) < 64 * nbl nu - nu := lt_of_lt_of_eq t.isLt ht
      have ho : k0_off198 v0 t = ![224 * ((nu + (t : ℕ)) % 256 / 8) + (nu + (t : ℕ)) % 256 % 8, 0] := by
        rw [off198_eq h hu t]
        have e1 : (nu + (t : ℕ)) / 8 % 32 = (nu + (t : ℕ)) % 256 / 8 := by omega
        have e2 : (nu + (t : ℕ)) % 8 = (nu + (t : ℕ)) % 256 % 8 := by omega
        rw [e1, e2]
      have hS : ∀ i, ringRow i = (nu + (t : ℕ)) % 256 → i ∈ ringB b := by
        intro i hi
        unfold ringRow at hi
        rw [mem_ringB]
        unfold nbl at hb hk
        have : ((i 2 : Fin 8) : ℕ) < 8 := (i 2 : Fin 8).isLt
        have : ((i 0 : Fin 33) : ℕ) < 33 := (i 0 : Fin 33).isLt
        omega
      iintro Hr
      simp only [k0_t13_body, Prog.bind_assoc]
      iapply (ringLoad c _ (ringB b) _ ho hS) $$ Hr
      iintro Hr %_
      iapply (ringStore c _ (ringB b) _ ho hS) $$ Hr
      iintro Hr
      iapply (Idealize.SL.Sem.le_wp_ret _ _)
      iexact Hr)) $$ [H]
  · iexact H
  iintro %acc H
  iapply Hk
  unfold zFin
  rw [if_pos hb, show Scf.trips (k0_t13_loop v0).lb (k0_t13_loop v0).ub (k0_t13_loop v0).st = 64 * nbl nu - nu from ht]
  iexact H

end Cert.Proof.KernelIdeal

end
-- ==== Proof.MainIdeal.BLoop.lean ====
module

public import Idealize.ShloMosaic.Lib.Batch
public import proofs.«01_k».proof.Proof.MainIdeal.Block

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The loop over the blocks. -/

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
  {v0 : Elt F .i32} {k0_hw2 : k0_chk2 v0} {v1 : Elt F .i32} {v20 : BitVec 32} {v21 : BitVec 32} {v22 : BitVec 32} {v43 : BitVec 32} {v44 : FVec F S28x128 .f32} {c0_i32_24 : BitVec 32} {c1_i32_26 : BitVec 32} {k0_t1 : Fin k0_t1_loop.trips} {arg13 : BitVec 32}
variable (q0 q1 q2 : PosShare TreeShare) (g0 : Buf (Elt F) (arg0.view.loc (c : Thread nD τ))) (g1 : Buf (Elt F) (arg1.view.loc (c : Thread nD τ))) (g2 : Buf (Elt F) (arg2.view.loc (c : Thread nD τ)))
variable {nu np : ℕ} {e : ℕ → ℕ} {cw : CodeBuf} {w0 w : S28x128.Idx → Elt F .f32} (o0 : OutBuf F)

/-- The state at block `b`. -/
def TI (sp : BSpec Vo (tabF c arg0 g0 (by decide)) (tabF c arg1 g1 (by decide)) cw (k0_t1 : ℕ) nu np e w0 w) (b : ℕ) (a : FVec F S32x128 .f32) (a16 a17 : BitVec 32) : SP F :=
  iprop(∃ r G d, ⌜W a16 G ∧ W a17 d ∧ d ≤ 512 - 2 * nbl nu ∧ lo np e b ≤ np + 16 * G ∧ np + 16 * G ≤ 16399 ∧ sp.A b (np + 16 * G) a r⌝
    ∗ ZS c o0 nu d ∗ Tabs c q0 q1 q2 g0 g1 g2 ∗ ((c : Thread nD τ).loc cc0_scratch0 ↦[Finset.univ]{fullShare} cw) ∗ ((c : Thread nD τ).loc cc0_scratch1 ↦[ringA b]{fullShare} r)
    ∗ semVal ((c : Thread nD τ), SemLoc.dma (bcell b)) 0 ∗ Slot c Vo (k0_t1 : ℕ) (b + 1) ∗ Slot c Vo (k0_t1 : ℕ) (b + 2) ∗ Slot c Vo (k0_t1 : ℕ) (b + 3)
    ∗ OutV c Vo (outR (k0_t1 : ℕ) 0 (b - 3)) ∗ ((c : Thread nD τ).loc main_v0 ↦[outR (k0_t1 : ℕ) b (nbl nu)]{fullShare} o0) ∗ ∃ W, owes (c : Thread nD τ) 0 W)

theorem WP_bind {β : Type} {p : PG F β} {k : β → PG F α} : WP c p (fun a => WP c (k a) Q) ⊢ WP c (p >>= k) Q :=
  Entails.of_eq (wp_bind frame (wpE (defs₀ (F := F)) Variants.none (c : Thread nD τ) none) Set.univ p k Q).symm

theorem t14_trips (h : W v0 nu) (hu : nu ≤ 16384) : (k0_t14_loop v0).trips = 0 :=
  rloop_trips h ((h.nb' hu).mul (W.lit 64 (by decide)) (by have := nbl_le hu; omega)) (by unfold nbl; omega)

theorem starts9 (arg12 c0 c1 : BitVec 32) (k0_t8 : Fin (k0_t8_loop v0).trips) (arg16 arg17 : BitVec 32) (k0_hw3 : k0_chk3 v0 arg17) {d : ℕ} (h : W v0 nu) (hu : nu ≤ 16384) (ha : W arg17 d) (k : Fin (k0_t9_loop v0 arg17).trips) (hd : d + (k : ℕ) ≤ 512) (acc : BitVec 32) :
    StartsZero (F := F) nu d (k : ℕ) (k0_t9_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v21 v22 v43 k0_t1 arg12 c0 c1 k0_t8 arg16 arg17 k0_hw3 k acc) := by
  refine ⟨_, _, _, _, _, ?_, rfl⟩
  have e := zoff (k := (k : ℕ)) h hu ha hd
  exact congrArg (fun n : ℕ => (![n, 0, 0, 0] : Fin 4 → ℕ)) e

/-- Before the tokens of a block: zero copies are started, the cell of the next block is waited for, and the block's last token is read. -/
theorem part63 (arg12 : BitVec 32) (h : W v0 nu) (hu : nu ≤ 16384) (h1 : W v1 np) (h22 : v22 = nzW v0) (h43 : v43 = zpsW v0) (k0_t8 : Fin (k0_t8_loop v0).trips) (y z : BitVec 32)
    {T0 : ℕ → BitVec 32} (tk : Toks T0 (tabF c arg2 g2 (by decide)) nu np e) {d G : ℕ} (hy : W y G) (hz : W z d) (hd : d ≤ 512 - 2 * nbl nu) (hG : np + 16 * G ≤ 16399) :
    iprop(ZS c o0 nu d ∗ (arg2.view.loc (c : Thread nD τ) ↦[arg2.view.set]{q2} g2) ∗ Slot c Vo (k0_t1 : ℕ) ((k0_t8 : ℕ) + 1) ∗ OutV c Vo (outR (k0_t1 : ℕ) 0 ((k0_t8 : ℕ) - 3)) ∗ ∃ W, owes (c : Thread nD τ) 0 W)
      ⊢ WP c (k0_part63 arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v21 v22 v43 k0_t1 arg12 0#32 1#32 k0_t8 y z) (fun s => iprop(
        ⌜W s.2.1 (zstep nu d) ∧ W s.2.2.1 (e (k0_t8 : ℕ)) ∧ s.2.2.2.2 = Scalar.maxsi (stopW v1 s.2.2.1) y⌝ ∗ ZS c o0 nu (zstep nu d) ∗ (arg2.view.loc (c : Thread nD τ) ↦[arg2.view.set]{q2} g2)
          ∗ semVal ((c : Thread nD τ), SemLoc.dma (bcell ((k0_t8 : ℕ) + 1))) 0 ∗ RingE c (ringC (((k0_t8 : ℕ) + 1) % 4)) ∗ OutV c Vo (outR (k0_t1 : ℕ) 0 ((k0_t8 : ℕ) + 1 - 3)) ∗ ∃ W, owes (c : Thread nD τ) 0 W)) := by
  have hb := t8_lt h hu k0_t8
  have hs := h.zstop hu hz (by omega)
  have hzb := zstep_bounds hd
  have hw := tk.word _ hb
  have ck := chkT h1 hw (tk.e_le _ hb) (tk.np_le _ hb) hy (by omega)
  iintro ⟨HZ, H2, HS, HO, Hw⟩
  simp only [k0_part63_eq_skeleton, k0_part63_skel, Prog.bind_assoc]
  iapply (wp_assume Variants.none (c : Thread nD τ) none Set.univ (chkZ' h hu hz hd))
  iapply (zloop c o0 hu hz hs hzb.1 hzb.2 _ _ _ (fun k acc => starts9 arg12 _ _ k0_t8 _ z (chkZ' h hu hz hd) h hu hz k
    (by have := lt_of_lt_of_eq k.isLt (uloop_trips hz hs hzb.1); have := hzb.1; have := hzb.2; omega) acc)) $$ HZ
  iintro %a1 HZ
  iapply (skip c (k0_t10_loop v0 z) _ (rloop_trips hz hs hzb.1)) $$ HZ
  iintro HZ
  by_cases hc : k0_cond1 v0 k0_t8 = 1#1
  · have h3 := (cond1_iff h hu k0_t8).1 hc
    simp only [dif_pos hc, Prog.bind_assoc]
    have hS : Slot (F := F) c Vo (k0_t1 : ℕ) ((k0_t8 : ℕ) + 1) = Pend c Vo (k0_t1 : ℕ) ((k0_t8 : ℕ) - 3) := by
      rw [show (k0_t8 : ℕ) + 1 = ((k0_t8 : ℕ) - 3) + 4 from by omega, Slot_pend]
    have e4 : (k0_t8 : ℕ) + 1 = ((k0_t8 : ℕ) - 3) + 4 := by omega
    have hsem : bcell ((k0_t8 : ℕ) + 1) = bcell ((k0_t8 : ℕ) - 3) := by rw [e4, bcell_eq]
    have hcel : ((k0_t8 : ℕ) + 1) % 4 = ((k0_t8 : ℕ) - 3) % 4 := by omega
    have e5 : (k0_t8 : ℕ) + 1 - 3 = ((k0_t8 : ℕ) - 3) + 1 := by omega
    rw [hsem, hcel, e5]
    ihave HS := (Entails.of_eq hS) $$ HS
    iapply (bwait c Vo (k0_t1 : ℕ) ((k0_t8 : ℕ) - 3) (off96_eq h hu k0_t8 h3)) $$ [HS Hw]
    · isplitl [HS]; · iexact HS
      iexact Hw
    iintro ⟨HO', HR, Hv, Hw⟩
    iapply (tabLoad' c (m := arg2) (by decide) _ q2 g2 (off99_eq h hu k0_t8)) $$ H2
    iintro H2
    iapply (wp_assume Variants.none (c : Thread nD τ) none Set.univ ck)
    iapply (Idealize.SL.Sem.le_wp_ret _ _)
    isplitr
    · ipureintro
      exact ⟨by rw [h43, h22]; exact hs, hw, rfl⟩
    isplitl [HZ]; · iexact HZ
    isplitl [H2]; · iexact H2
    isplitl [Hv]; · iexact Hv
    isplitl [HR]; · iexact HR
    isplitl [HO HO']
    · iapply (OutV_union c Vo (outR (k0_t1 : ℕ) 0 ((k0_t8 : ℕ) - 3)) (outR (k0_t1 : ℕ) ((k0_t8 : ℕ) - 3) ((k0_t8 : ℕ) - 3 + 1)) _ ?_ ?_)
      · intro i hi; rw [mem_outR] at hi ⊢; omega
      · ext i; rw [Finset.mem_sdiff, mem_outR, mem_outR, mem_outR]; omega
      isplitl [HO]; · iexact HO
      iexact HO'
    iexact Hw
  · have h3 : ¬ 3 ≤ (k0_t8 : ℕ) := fun h3 => hc ((cond1_iff h hu k0_t8).2 h3)
    simp only [dif_neg hc, Prog.bind_assoc]
    rw [show (k0_t8 : ℕ) + 1 - 3 = (k0_t8 : ℕ) - 3 from by omega]
    ihave HS := (Entails.of_eq (Slot_free c Vo (h := (k0_t1 : ℕ)) (show (k0_t8 : ℕ) + 1 < 4 by omega))) $$ HS
    icases HS with ⟨Hv, HR⟩
    iapply (tabLoad' c (m := arg2) (by decide) _ q2 g2 (off99_eq h hu k0_t8)) $$ H2
    iintro H2
    iapply (wp_assume Variants.none (c : Thread nD τ) none Set.univ ck)
    iapply (Idealize.SL.Sem.le_wp_ret _ _)
    isplitr
    · ipureintro
      exact ⟨by rw [h43, h22]; exact hs, hw, rfl⟩
    isplitl [HZ]; · iexact HZ
    isplitl [H2]; · iexact H2
    isplitl [Hv]; · iexact Hv
    isplitl [HR]; · iexact HR
    isplitl [HO]; · iexact HO
    iexact Hw

/-- The copy of a block, its tokens done: the state at the next block. -/
theorem fin_step (sp : BSpec Vo (tabF c arg0 g0 (by decide)) (tabF c arg1 g1 (by decide)) cw (k0_t1 : ℕ) nu np e w0 w) {b G d : ℕ} (hb : b < nbl nu) (hu1 : 1 ≤ nu) {a : FVec F S32x128 .f32} {r : RingBuf F}
    (hB : sp.B b (np + 16 * G) a r) (he : e b ≤ np + 16 * G) (hm : np + 16 * G ≤ 16399) {y z : BitVec 32} (hy : W y G) (hz : W z d) (hd : d ≤ 512 - 2 * nbl nu)
    {off1 : Fin 1 → ℕ} {inb1} {off2 off3 : Fin 4 → ℕ} {inb2 inb3}
    (hoff1 : off1 = ![b % 4]) (hoff2 : off2 = ![8 * b, 28 * (k0_t1 : ℕ), 0, 0]) (hoff3 : off3 = ![8 * (b % 4), 0, 0, 0]) {h1 h2 h3} :
    iprop(((c : Thread nD τ).loc cc0_scratch1 ↦[ringB b]{fullShare} zFin w nu b r) ∗ semVal ((c : Thread nD τ), SemLoc.dma (bcell b)) 0 ∗ semVal ((c : Thread nD τ), SemLoc.dma (bcell (b + 1))) 0
      ∗ Slot c Vo (k0_t1 : ℕ) (b + 2) ∗ Slot c Vo (k0_t1 : ℕ) (b + 3) ∗ OutV c Vo (outR (k0_t1 : ℕ) 0 (b + 1 - 3)) ∗ ((c : Thread nD τ).loc main_v0 ↦[outR (k0_t1 : ℕ) b (nbl nu)]{fullShare} o0)
      ∗ ZS c o0 nu d ∗ Tabs c q0 q1 q2 g0 g1 g2 ∗ ((c : Thread nD τ).loc cc0_scratch0 ↦[Finset.univ]{fullShare} cw) ∗ ∃ W, owes (c : Thread nD τ) 0 W)
      ⊢ WP c (.op (.enqueueDma (rWin off3 inb3) (.here (oWin off2 inb2)) (.dma (ssem off1 inb1)) h1 h2 h3) fun _ => .ret (a, y, z))
        (fun s => TI c Vo q0 q1 q2 g0 g1 g2 o0 sp (b + 1) s.1 s.2.1 s.2.2) := by
  have hsub : outR (k0_t1 : ℕ) b (b + 1) ⊆ outR (k0_t1 : ℕ) b (nbl nu) := by intro i hi; rw [mem_outR] at hi ⊢; omega
  have hrest : outR (k0_t1 : ℕ) b (nbl nu) \ outR (k0_t1 : ℕ) b (b + 1) = outR (k0_t1 : ℕ) (b + 1) (nbl nu) := by
    ext i; rw [Finset.mem_sdiff, mem_outR, mem_outR, mem_outR]; omega
  iintro ⟨Hr, Hv, Hv', HS2, HS3, HO, Ho, HZ, HT, Hc, Hw⟩
  ihave Hr' := (pointsTo_split_subset (ringC_sub b)).1 $$ Hr
  icases Hr' with ⟨Hr, Hr2⟩
  rw [ringB_rest]
  ihave Ho' := (pointsTo_split_subset hsub).1 $$ Ho
  icases Ho' with ⟨Ho, Ho2⟩
  rw [hrest]
  iapply (bstore c Vo (k0_t1 : ℕ) b (half_lt k0_t1) _ o0 hoff1 hoff2 hoff3 (sp.val b _ a r hb he hB)) $$ [Hr Ho Hv]
  · isplitl [Hr]; · iexact Hr
    isplitl [Ho]; · iexact Ho
    iexact Hv
  iintro HP
  iapply (Idealize.SL.Sem.le_wp_ret _ _)
  unfold TI
  iexists (zFin w nu b r), G, d
  isplitr
  · ipureintro
    refine ⟨hy, hz, hd, (lo_succ np e b).trans_le he, hm, sp.BA b _ a r _ hb he (fun i hi => zFin_eq w nu b hu1 r i ?_) hB⟩
    rw [mem_ringT] at hi ⊢; omega
  isplitl [HZ]; · iexact HZ
  isplitl [HT]; · iexact HT
  isplitl [Hc]; · iexact Hc
  isplitl [Hr2]; · iexact Hr2
  isplitl [Hv']; · iexact Hv'
  isplitl [HS2]; · iexact HS2
  isplitl [HS3]; · iexact HS3
  isplitl [HP]
  · iapply (Entails.of_eq (Slot_pend c Vo (k0_t1 : ℕ) b).symm) $$ HP
  isplitl [HO]; · iexact HO
  isplitl [Ho2]; · iexact Ho2
  iexact Hw

/-- A block. -/
theorem t8_step (arg12 : BitVec 32) (sp : BSpec Vo (tabF c arg0 g0 (by decide)) (tabF c arg1 g1 (by decide)) cw (k0_t1 : ℕ) nu np e w0 (k0_pay403 v44))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) (k0_t8 : Fin (k0_t8_loop v0).trips) (x : FVec F S32x128 .f32) (y z : BitVec 32) :
    TI c Vo q0 q1 q2 g0 g1 g2 o0 sp (k0_t8 : ℕ) x y z
      ⊢ WP c (k0_t8_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12 k0_t8 (x, y, z)) (fun s => TI c Vo q0 q1 q2 g0 g1 g2 o0 sp ((k0_t8 : ℕ) + 1) s.1 s.2.1 s.2.2) := by
  have hb := t8_lt h hu k0_t8
  unfold TI
  iintro ⟨%r, %G, %d, %hI, HZ, HT, Hc, Hr, Hv, HS1, HS2, HS3, HO, Ho, Hw⟩
  obtain ⟨hy, hz, hd, hlo, hm, hA⟩ := hI
  simp only [k0_t8_body, Prog.bind_assoc]
  unfold Tabs
  icases HT with ⟨H0, H1, H2⟩
  ihave Hp := (part63 c Vo q2 g2 o0 arg12 h hu h1 h22 h43 k0_t8 y z tk hy hz hd hm) $$ [HZ H2 HS1 HO Hw]
  rotate_left
  · iapply (WP_bind c)
    iapply (WP_wand c) $$ Hp
    iintro %s
    obtain ⟨arg14, v100, v115, hw4, v136⟩ := s
    iintro ⟨%hs, HZ, H2, Hv', HR, HO, Hw⟩
    obtain ⟨hz', he, h136⟩ := hs
    dsimp only at hz' he h136
    subst h136
    have hy' : W (Scalar.maxsi (stopW v1 v115) y) (gstop np (e (k0_t8 : ℕ)) G) := (h1.stop he (tk.e_le _ hb) (tk.np_le _ hb)).max hy
    have hge := gstop_ge np (e (k0_t8 : ℕ)) G
    have hgh := gstop_hi np (e (k0_t8 : ℕ)) G (tk.np_le _ hb)
    have hgl := gstop_le np (e (k0_t8 : ℕ)) G (tk.np_le _ hb) (tk.e_le _ hb) hm
    have ht12 : (k0_t12_loop v1 y v115).trips = 0 := rloop_trips hy hy' hge
    unfold RingE
    icases HR with ⟨%r2, HR⟩
    iapply (t11_loop c Vo q0 q1 q2 g0 g1 g2 sp tk h1 hy hw4 he hb hlo hm) $$ [H0 H1 H2 Hc Hr HR]
    · unfold TB Tabs
      iexists (fun i => if i ∈ ringA (k0_t8 : ℕ) then r i else r2 i)
      isplitr
      · ipureintro
        refine sp.AB _ _ _ r _ hb (fun i hi => if_pos ?_) hA
        rw [mem_ringT] at hi; rw [mem_ringA]; omega
      isplitl [H0 H1 H2]
      · isplitl [H0]; · iexact H0
        isplitl [H1]; · iexact H1
        iexact H2
      isplitl [Hc]; · iexact Hc
      iapply (pointsTo_split_subset (ringA_sub (k0_t8 : ℕ))).2
      isplitl [Hr]
      · iapply (Entails.of_eq (pointsTo_congr fun i hi => (if_pos hi).symm)) $$ Hr
      · rw [ringB_sdiff]
        iapply (Entails.of_eq (pointsTo_congr fun i hi => (if_neg (fun h => by rw [mem_ringA] at h; rw [mem_ringT] at hi; omega)).symm)) $$ HR
    iintro %a HTB
    unfold TB
    icases HTB with ⟨%r3, %hB, HT, Hc, Hr⟩
    iapply (skip c (k0_t12_loop v1 y v115) _ ht12) $$ HZ
    iintro HZ
    by_cases hc2 : k0_cond2 v0 k0_t8 = 1#1
    · have h2 := (cond2_iff h hu k0_t8).1 hc2
      simp only [dif_pos hc2, Prog.bind_assoc]
      iapply (t13_loop c h hu hu1 k0_t8 hc2 r3 h2) $$ Hr
      iintro %a' Hr
      iapply (skip c (k0_t14_loop v0) _ (t14_trips h hu)) $$ Hr
      iintro Hr
      iapply (fin_step c Vo q0 q1 q2 g0 g1 g2 o0 sp hb hu1 hB hgh hgl hy' hz' (zstep_bounds hd).2 (off200_eq h hu k0_t8) (off201_eq h hu k0_t1 k0_t8) (off202_eq h hu k0_t8)) $$ [-]
      isplitl [Hr]; · iexact Hr
      isplitl [Hv]; · iexact Hv
      isplitl [Hv']; · iexact Hv'
      isplitl [HS2]; · iexact HS2
      isplitl [HS3]; · iexact HS3
      isplitl [HO]; · iexact HO
      isplitl [Ho]; · iexact Ho
      isplitl [HZ]; · iexact HZ
      isplitl [HT]; · iexact HT
      isplitl [Hc]; · iexact Hc
      iexact Hw
    · have h2 : ¬ (k0_t8 : ℕ) + 1 = nbl nu := fun h2 => hc2 ((cond2_iff h hu k0_t8).2 h2)
      simp only [dif_neg hc2, Prog.bind_assoc]
      iapply (fin_step c Vo q0 q1 q2 g0 g1 g2 o0 sp hb hu1 hB hgh hgl hy' hz' (zstep_bounds hd).2 (off200_eq h hu k0_t8) (off201_eq h hu k0_t1 k0_t8) (off202_eq h hu k0_t8)) $$ [-]
      isplitl [Hr]
      · unfold zFin
        rw [if_neg h2]
        iexact Hr
      isplitl [Hv]; · iexact Hv
      isplitl [Hv']; · iexact Hv'
      isplitl [HS2]; · iexact HS2
      isplitl [HS3]; · iexact HS3
      isplitl [HO]; · iexact HO
      isplitl [Ho]; · iexact Ho
      isplitl [HZ]; · iexact HZ
      isplitl [HT]; · iexact HT
      isplitl [Hc]; · iexact Hc
      iexact Hw
  · isplitl [HZ]; · iexact HZ
    isplitl [H2]; · iexact H2
    isplitl [HS1]; · iexact HS1
    isplitl [HO]; · iexact HO
    iexact Hw

end Cert.Proof.KernelIdeal

end
-- ==== Proof.MainIdeal.Half.lean ====
module

public import Idealize.ShloMosaic.Lib.Batch
public import proofs.«01_k».proof.Proof.MainIdeal.BLoop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! One half of the columns: the loads, the loop over the blocks, and the last waits. -/

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
  {v0 : Elt F .i32} {k0_hw2 : k0_chk2 v0} {v1 : Elt F .i32} {v20 : BitVec 32} {v21 : BitVec 32} {v22 : BitVec 32} {v43 : BitVec 32} {v44 : FVec F S28x128 .f32} {c0_i32_24 : BitVec 32} {c1_i32_26 : BitVec 32} {k0_t1 : Fin k0_t1_loop.trips} {arg13 : BitVec 32}
variable (q0 q1 q2 : PosShare TreeShare) (g0 : Buf (Elt F) (arg0.view.loc (c : Thread nD τ))) (g1 : Buf (Elt F) (arg1.view.loc (c : Thread nD τ))) (g2 : Buf (Elt F) (arg2.view.loc (c : Thread nD τ)))
variable {nu np : ℕ} {e : ℕ → ℕ} {cw : CodeBuf} {w0 w : S28x128.Idx → Elt F .f32} (o0 : OutBuf F)

/-! ## The last waits -/

/-- A free cell of the ring. -/
def Free (b : ℕ) : SP F := iprop(semVal ((c : Thread nD τ), SemLoc.dma (bcell b)) 0 ∗ RingE c (ringC (b % 4)))
/-- The cell of `b`, when the copies of the blocks below `B` are waited for. -/
def SlotD (h b B : ℕ) : SP F := if b < 4 + B then Free c b else Pend c Vo h (b - 4)

theorem SlotD_eq (h b : ℕ) (nu : ℕ) (hb : nbl nu < b) : SlotD (F := F) c Vo h b (nbl nu - 3) = Slot c Vo h b := by
  unfold SlotD Slot Free
  by_cases h4 : b < 4
  · rw [if_pos (by omega), if_pos h4]
  · rw [if_neg (by omega), if_neg h4]

theorem SlotD_pend (h b B : ℕ) (hb : b = 4 + B) : SlotD (F := F) c Vo h b B = Pend c Vo h B := by
  unfold SlotD
  rw [if_neg (by omega), show b - 4 = B by omega]
theorem SlotD_free (h b B : ℕ) (hb : b = 4 + B) : iprop(semVal ((c : Thread nD τ), SemLoc.dma (bcell B)) 0 ∗ RingE c (ringC (B % 4))) ⊢ SlotD (F := F) c Vo h b (B + 1) := by
  unfold SlotD Free
  rw [if_pos (by omega), hb, show (4 + B) % 4 = B % 4 by omega, show 4 + B = B + 4 by omega, bcell_eq]
theorem SlotD_ne (h b B : ℕ) (hb : b ≠ 4 + B) : SlotD (F := F) c Vo h b B = SlotD c Vo h b (B + 1) := by
  unfold SlotD
  by_cases h4 : b < 4 + B
  · rw [if_pos h4, if_pos (by omega)]
  · rw [if_neg h4, if_neg (by omega)]
theorem SlotD_done (h b B : ℕ) (hb : b < 4 + B) : SlotD (F := F) c Vo h b B = Free c b := if_pos hb

/-- The output and the cells, when the copies of the blocks below `B` are waited for. -/
def DR (h n B : ℕ) : SP F := iprop(OutV c Vo (outR h 0 B) ∗ SlotD c Vo h (n + 1) B ∗ SlotD c Vo h (n + 2) B ∗ SlotD c Vo h (n + 3) B ∗ ∃ W, owes (c : Thread nD τ) 0 W)

theorem out_grow (h B : ℕ) : iprop(OutV c Vo (outR h 0 B) ∗ OutV c Vo (outR h B (B + 1))) ⊢ OutV c Vo (outR h 0 (B + 1)) :=
  OutV_union c Vo _ _ _ (by intro i hi; rw [mem_outR] at hi ⊢; omega) (by ext i; rw [Finset.mem_sdiff, mem_outR, mem_outR, mem_outR]; omega)

theorem drain_step (h n B : ℕ) (hB : n = B + 3 ∨ n = B + 2 ∨ n = B + 1) {off1 : Fin 1 → ℕ} {inb1} {off2 off3 : Fin 4 → ℕ} {inb2 inb3} (hoff1 : off1 = ![B % 4]) {h1 h2} {k : PUnit → PG F α} :
    DR c Vo h n B ⊢ iprop((DR c Vo h n (B + 1) -∗ WP c (k ⟨⟩) Q) -∗ WP c (.op (.waitDma2 (ssem off1 inb1) (rWin off3 inb3) (oWin off2 inb2) h1 h2) k) Q) := by
  rcases hB with hB | hB | hB
  · unfold DR
    rw [SlotD_pend c Vo h (n + 1) B (by omega), SlotD_ne c Vo h (n + 2) B (by omega), SlotD_ne c Vo h (n + 3) B (by omega)]
    iintro ⟨HO, HP, HA, HB, Hw⟩ Hk
    iapply (bwait c Vo h B hoff1) $$ [HP Hw]
    · isplitl [HP]; · iexact HP
      iexact Hw
    iintro ⟨HO', HR, Hv, Hw⟩
    iapply Hk
    isplitl [HO HO']
    · iapply (out_grow c Vo h B)
      isplitl [HO]; · iexact HO
      iexact HO'
    isplitl [HR Hv]
    · iapply (SlotD_free c Vo h (n + 1) B (by omega))
      isplitl [Hv]; · iexact Hv
      iexact HR
    isplitl [HA]; · iexact HA
    isplitl [HB]; · iexact HB
    iexact Hw
  · unfold DR
    rw [SlotD_pend c Vo h (n + 2) B (by omega), SlotD_ne c Vo h (n + 1) B (by omega), SlotD_ne c Vo h (n + 3) B (by omega)]
    iintro ⟨HO, HA, HP, HB, Hw⟩ Hk
    iapply (bwait c Vo h B hoff1) $$ [HP Hw]
    · isplitl [HP]; · iexact HP
      iexact Hw
    iintro ⟨HO', HR, Hv, Hw⟩
    iapply Hk
    isplitl [HO HO']
    · iapply (out_grow c Vo h B)
      isplitl [HO]; · iexact HO
      iexact HO'
    isplitl [HA]; · iexact HA
    isplitl [HR Hv]
    · iapply (SlotD_free c Vo h (n + 2) B (by omega))
      isplitl [Hv]; · iexact Hv
      iexact HR
    isplitl [HB]; · iexact HB
    iexact Hw
  · unfold DR
    rw [SlotD_pend c Vo h (n + 3) B (by omega), SlotD_ne c Vo h (n + 1) B (by omega), SlotD_ne c Vo h (n + 2) B (by omega)]
    iintro ⟨HO, HA, HB, HP, Hw⟩ Hk
    iapply (bwait c Vo h B hoff1) $$ [HP Hw]
    · isplitl [HP]; · iexact HP
      iexact Hw
    iintro ⟨HO', HR, Hv, Hw⟩
    iapply Hk
    isplitl [HO HO']
    · iapply (out_grow c Vo h B)
      isplitl [HO]; · iexact HO
      iexact HO'
    isplitl [HA]; · iexact HA
    isplitl [HB]; · iexact HB
    isplitl [HR Hv]
    · iapply (SlotD_free c Vo h (n + 3) B (by omega))
      isplitl [Hv]; · iexact Hv
      iexact HR
    iexact Hw

/-- The loop of the last waits. -/
theorem t22_loop (h : W v0 nu) (hu : nu ≤ 16384) (hu1 : 1 ≤ nu) (hok : (k0_t22_loop v0).OK) (init : BitVec 32) {kk : BitVec 32 → PG F α} :
    DR c Vo (k0_t1 : ℕ) (nbl nu) (nbl nu - 3) ⊢ iprop((∀ a, DR c Vo (k0_t1 : ℕ) (nbl nu) (nbl nu) -∗ WP c (kk a) Q)
      -∗ WP c (Scf.Loop.for (k0_t22_loop v0) hok init (k0_t22_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 ) >>= kk) Q) := by
  have ht := t22_trips h hu
  have hn : 1 ≤ nbl nu := by unfold nbl; omega
  iintro H Hk
  iapply (Scf.wp_for_bind frame (wpE (defs₀ (F := F)) Variants.none (c : Thread nD τ) none) Set.univ (k0_t22_loop v0).lb (k0_t22_loop v0).ub (k0_t22_loop v0).st hok init (k0_t22_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 )
    (fun k _ => DR c Vo (k0_t1 : ℕ) (nbl nu) (nbl nu - 3 + k)) (fun (t : Fin (k0_t22_loop v0).trips) acc => by
      have hk := t22_lt h hu t
      iintro H
      simp only [k0_t22_body]
      iapply (drain_step c Vo (k0_t1 : ℕ) (nbl nu) (nbl nu - 3 + (t : ℕ)) (by omega) (off312_eq h hu t)) $$ H
      iintro H
      iapply (Idealize.SL.Sem.le_wp_ret _ _)
      iexact H)) $$ [H]
  · iexact H
  iintro %acc H
  iapply Hk
  rw [show nbl nu - 3 + Scf.trips (k0_t22_loop v0).lb (k0_t22_loop v0).ub (k0_t22_loop v0).st = nbl nu from by
    rw [show Scf.trips (k0_t22_loop v0).lb (k0_t22_loop v0).ub (k0_t22_loop v0).st = _ from ht]; omega]
  iexact H

/-! ## The ring, whole and in cells -/

theorem RingE_union (S T U : Finset S33x28x8x128.Idx) (hS : S ⊆ U) (hT : U \ S = T) : iprop(RingE (F := F) c S ∗ RingE c T) ⊢ RingE c U := by
  subst hT
  unfold RingE
  iintro ⟨⟨%o, H1⟩, ⟨%o', H2⟩⟩
  iexists (fun i => if i ∈ S then o i else o' i)
  iapply (pointsTo_split_subset hS).2
  isplitl [H1]
  · iapply (Entails.of_eq (pointsTo_congr fun i hi => by rw [if_pos hi])) $$ H1
  · iapply (Entails.of_eq (pointsTo_congr fun i hi => by rw [if_neg (Finset.mem_sdiff.mp hi).2])) $$ H2

/-- The four store semaphores. -/
def Sems4 : SP F := iprop(semVal ((c : Thread nD τ), SemLoc.dma (scell 0)) 0 ∗ semVal ((c : Thread nD τ), SemLoc.dma (scell 1)) 0 ∗ semVal ((c : Thread nD τ), SemLoc.dma (scell 2)) 0 ∗ semVal ((c : Thread nD τ), SemLoc.dma (scell 3)) 0)

theorem bcell_mod (b m : ℕ) (hm : m < 4) (h : b % 4 = m) : bcell b = scell ⟨m, hm⟩ := by subst h; rfl

theorem ring_gather (n : ℕ) : iprop(RingE (F := F) c (ringA n) ∗ RingE c (ringC ((n + 1) % 4)) ∗ RingE c (ringC ((n + 2) % 4)) ∗ RingE c (ringC ((n + 3) % 4))) ⊢ RingE c Finset.univ := by
  iintro ⟨HA, H1, H2, H3⟩
  iapply (RingE_union c (Finset.univ \ ringC ((n + 3) % 4)) (ringC ((n + 3) % 4)) Finset.univ (Finset.subset_univ _) (by rw [Finset.sdiff_sdiff_eq_self (Finset.subset_univ _)]))
  isplitr [H3]
  · iapply (RingE_union c (ringB n) (ringC ((n + 2) % 4)) (Finset.univ \ ringC ((n + 3) % 4)) (by
      intro i hi; rw [mem_ringB] at hi; rw [Finset.mem_sdiff, mem_ringT]
      exact ⟨Finset.mem_univ _, by omega⟩) (by
      ext i
      have b : ((i 0 : Fin 33) : ℕ) < 33 := (i 0 : Fin 33).isLt
      rw [Finset.mem_sdiff, Finset.mem_sdiff, mem_ringT, mem_ringT, mem_ringB]
      constructor
      · rintro ⟨⟨-, h1⟩, h2⟩; omega
      · intro h; exact ⟨⟨Finset.mem_univ _, by omega⟩, by omega⟩))
    isplitr [H2]
    · iapply (RingE_union c (ringA n) (ringC ((n + 1) % 4)) (ringB n) (ringA_sub n) (ringB_sdiff n))
      isplitl [HA]; · iexact HA
      iexact H1
    · iexact H2
  · iexact H3

theorem sems_gather (n : ℕ) : iprop(semVal ((c : Thread nD τ), SemLoc.dma (bcell n)) 0 ∗ semVal ((c : Thread nD τ), SemLoc.dma (bcell (n + 1))) 0 ∗ semVal ((c : Thread nD τ), SemLoc.dma (bcell (n + 2))) 0 ∗ semVal ((c : Thread nD τ), SemLoc.dma (bcell (n + 3))) 0) ⊢ Sems4 (F := F) c := by
  have h : n % 4 = 0 ∨ n % 4 = 1 ∨ n % 4 = 2 ∨ n % 4 = 3 := by omega
  unfold Sems4
  rcases h with h | h | h | h
  · rw [bcell_mod n 0 (by decide) h, bcell_mod (n + 1) 1 (by decide) (by omega), bcell_mod (n + 2) 2 (by decide) (by omega), bcell_mod (n + 3) 3 (by decide) (by omega)]
    exact .rfl
  · rw [bcell_mod n 1 (by decide) h, bcell_mod (n + 1) 2 (by decide) (by omega), bcell_mod (n + 2) 3 (by decide) (by omega), bcell_mod (n + 3) 0 (by decide) (by omega)]
    iintro ⟨H0, H1, H2, H3⟩
    isplitl [H3]; · iexact H3
    isplitl [H0]; · iexact H0
    isplitl [H1]; · iexact H1
    iexact H2
  · rw [bcell_mod n 2 (by decide) h, bcell_mod (n + 1) 3 (by decide) (by omega), bcell_mod (n + 2) 0 (by decide) (by omega), bcell_mod (n + 3) 1 (by decide) (by omega)]
    iintro ⟨H0, H1, H2, H3⟩
    isplitl [H2]; · iexact H2
    isplitl [H3]; · iexact H3
    isplitl [H0]; · iexact H0
    iexact H1
  · rw [bcell_mod n 3 (by decide) h, bcell_mod (n + 1) 0 (by decide) (by omega), bcell_mod (n + 2) 1 (by decide) (by omega), bcell_mod (n + 3) 2 (by decide) (by omega)]
    iintro ⟨H0, H1, H2, H3⟩
    isplitl [H1]; · iexact H1
    isplitl [H2]; · iexact H2
    isplitl [H3]; · iexact H3
    iexact H0

/-- The ring in cells, at the start of a half. -/
theorem ring_start (h : ℕ) (r : RingBuf F) : iprop(((c : Thread nD τ).loc cc0_scratch1 ↦[Finset.univ]{fullShare} r) ∗ Sems4 c) ⊢ iprop(((c : Thread nD τ).loc cc0_scratch1 ↦[ringA 0]{fullShare} r)
    ∗ semVal ((c : Thread nD τ), SemLoc.dma (bcell 0)) 0 ∗ Slot (F := F) c Vo h (0 + 1) ∗ Slot c Vo h (0 + 2) ∗ Slot c Vo h (0 + 3)) := by
  rw [Slot_free c Vo (show 0 + 1 < 4 by decide), Slot_free c Vo (show 0 + 2 < 4 by decide), Slot_free c Vo (show 0 + 3 < 4 by decide)]
  unfold Sems4 RingE
  iintro ⟨Hr, H0, H1, H2, H3⟩
  ihave Hr := (pointsTo_split_subset (Finset.subset_univ (ringC ((0 + 1) % 4)))).1 $$ Hr
  icases Hr with ⟨HR1, Hr⟩
  ihave Hr := (pointsTo_split_subset (I := ringC ((0 + 2) % 4)) (by
    intro i hi; rw [mem_ringT] at hi; rw [Finset.mem_sdiff, mem_ringT]; exact ⟨Finset.mem_univ _, by omega⟩)).1 $$ Hr
  icases Hr with ⟨HR2, Hr⟩
  ihave Hr := (pointsTo_split_subset (I := ringC ((0 + 3) % 4)) (by
    intro i hi; rw [mem_ringT] at hi; rw [Finset.mem_sdiff, Finset.mem_sdiff, mem_ringT, mem_ringT]; exact ⟨⟨Finset.mem_univ _, by omega⟩, by omega⟩)).1 $$ Hr
  icases Hr with ⟨HR3, Hr⟩
  have e : ((Finset.univ \ ringC ((0 + 1) % 4)) \ ringC ((0 + 2) % 4)) \ ringC ((0 + 3) % 4) = ringA 0 := by
    ext i
    have b : ((i 0 : Fin 33) : ℕ) < 33 := (i 0 : Fin 33).isLt
    rw [Finset.mem_sdiff, Finset.mem_sdiff, Finset.mem_sdiff, mem_ringT, mem_ringT, mem_ringT, mem_ringA]
    constructor
    · rintro ⟨⟨⟨-, h1⟩, h2⟩, h3⟩; omega
    · intro h; exact ⟨⟨⟨Finset.mem_univ _, by omega⟩, by omega⟩, by omega⟩
  rw [e]
  isplitl [Hr]; · iexact Hr
  isplitl [H0]; · iexact H0
  isplitl [H1 HR1]
  · isplitl [H1]; · iexact H1
    iexists r; iexact HR1
  isplitl [H2 HR2]
  · isplitl [H2]; · iexact H2
    iexists r; iexact HR2
  isplitl [H3]; · iexact H3
  iexists r; iexact HR3

/-! ## The half -/

/-- The codes of half `h`, transposed, with the spare tile of `fT`. -/
def cwOf (g : WordBuf) (h : ℕ) (fT : CodeBuf) : CodeBuf := fun i => if i ∈ codeR 0 512 then packBuf (loadBuf g h) i else fT i

theorem codes_split (f : CodeBuf) : (((c : Thread nD τ).loc cc0_scratch0 ↦[Finset.univ]{fullShare} f) : SP F) ⊣⊢ iprop(((c : Thread nD τ).loc cc0_scratch0 ↦[codeR 0 512]{fullShare} f) ∗ ((c : Thread nD τ).loc cc0_scratch0 ↦[codeR 512 513]{fullShare} f)) := by
  have e : (Finset.univ : Finset S513x28x8x128.Idx) = codeR 0 513 := by
    ext i
    have b : ((i 0 : Fin 513) : ℕ) < 513 := (i 0 : Fin 513).isLt
    rw [mem_codeR]
    exact ⟨fun _ => ⟨Nat.zero_le _, b⟩, fun _ => Finset.mem_univ _⟩
  rw [e]
  exact codeR_split c 0 512 513 (by decide) (by decide) f

theorem codes_join (g : WordBuf) (h : ℕ) (f fT : CodeBuf) (hf : ∀ i ∈ codeR 512 513, f i = fT i) :
    iprop(((c : Thread nD τ).loc cc0_scratch0 ↦[codeR 0 512]{fullShare} packBuf (loadBuf g h)) ∗ ((c : Thread nD τ).loc cc0_scratch0 ↦[codeR 512 513]{fullShare} f)) ⊢ (((c : Thread nD τ).loc cc0_scratch0 ↦[Finset.univ]{fullShare} cwOf g h fT) : SP F) := by
  refine .trans ?_ (codes_split c _).2
  exact BI.Laws.sep_mono (codes_congr c _ _ _ fun i hi => (if_pos hi).symm) (codes_congr c _ _ _ fun i hi => (hf i hi).trans (if_neg (fun hh => by rw [mem_codeR] at hh hi; omega)).symm)

/-- The state between the halves. -/
def HS (fT : CodeBuf) (nu : ℕ) (a : BitVec 32) : SP F :=
  iprop((∃ d, ⌜W a d ∧ d ≤ 512 - 2 * nbl nu⌝ ∗ ZS c o0 nu d) ∗ Tabs c q0 q1 q2 g0 g1 g2 ∗ (∃ f : CodeBuf, ⌜∀ i ∈ codeR 512 513, f i = fT i⌝ ∗ ((c : Thread nD τ).loc cc0_scratch0 ↦[Finset.univ]{fullShare} f))
    ∗ RingE c Finset.univ ∗ Sems4 c ∗ bigSep (Finset.univ : Finset (Fin 16)) (fun p => semVal ((c : Thread nD τ), SemLoc.dma (lcell p)) 0) ∗ ∃ W, owes (c : Thread nD τ) 0 W)

theorem off93_eq : k0_off93 = ![224 * (0 / 8) + 0 % 8, 0] := by decide

theorem t15_trips (h : W v0 nu) (hu : nu ≤ 16384) : (k0_t15_loop v0).trips = 0 := rloop_trips W.zero (h.nb' hu) (Nat.zero_le _)
theorem t23_trips (h : W v0 nu) (hu : nu ≤ 16384) : (k0_t23_loop v0).trips = 0 := rloop_trips (h.drain hu) (h.nb' hu) (Nat.sub_le _ _)

/-- The loop over the blocks. -/
theorem t8_loop (arg12 : BitVec 32) (sp : BSpec Vo (tabF c arg0 g0 (by decide)) (tabF c arg1 g1 (by decide)) cw (k0_t1 : ℕ) nu np e w0 (k0_pay403 v44))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) (hok : (k0_t8_loop v0).OK) (init : FVec F S32x128 .f32 × BitVec 32 × BitVec 32) {kk : FVec F S32x128 .f32 × BitVec 32 × BitVec 32 → PG F α} :
    TI c Vo q0 q1 q2 g0 g1 g2 o0 sp 0 init.1 init.2.1 init.2.2 ⊢ iprop((∀ a, TI c Vo q0 q1 q2 g0 g1 g2 o0 sp (nbl nu) a.1 a.2.1 a.2.2 -∗ WP c (kk a) Q)
      -∗ WP c (Scf.Loop.for (k0_t8_loop v0) hok init (k0_t8_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12) >>= kk) Q) := by
  have ht := t8_trips h hu
  iintro H Hk
  iapply (Scf.wp_for_bind frame (wpE (defs₀ (F := F)) Variants.none (c : Thread nD τ) none) Set.univ (k0_t8_loop v0).lb (k0_t8_loop v0).ub (k0_t8_loop v0).st hok init (k0_t8_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 c0_i32_24 c1_i32_26 k0_t1 arg13 arg12)
    (fun k a => TI c Vo q0 q1 q2 g0 g1 g2 o0 sp k a.1 a.2.1 a.2.2) (fun (t : Fin (k0_t8_loop v0).trips) acc =>
      t8_step c Vo q0 q1 q2 g0 g1 g2 o0 arg12 sp tk h hu h1 hu1 h22 h43 t acc.1 acc.2.1 acc.2.2)) $$ [H]
  · iexact H
  iintro %acc H
  iapply Hk
  rw [show Scf.trips (k0_t8_loop v0).lb (k0_t8_loop v0).ub (k0_t8_loop v0).st = nbl nu from ht]
  iexact H

theorem issued_zero' (φ : Fin 16 → SP F) : (iprop(emp) : SP F) ⊢ bigSep (Transfers.issued (m := 16) 0) φ := by
  rw [Transfers.issued_zero, bigSep_empty]
  exact .rfl

theorem pending_all (φ : Fin 16 → SP F) : bigSep Finset.univ φ ⊢ bigSep (Transfers.pending (n := 16) 0) φ := (Transfers.bigSep_pending_zero φ).symm ▸ .rfl

/-- One half of the columns. -/
theorem half (fT : CodeBuf) (g : WordBuf) (sp : BSpec Vo (tabF c arg0 g0 (by decide)) (tabF c arg1 g1 (by decide)) (cwOf g (k0_t1 : ℕ) fT) (k0_t1 : ℕ) nu np e (k0_pay399 v44) (k0_pay403 v44))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) :
    iprop(HS c q0 q1 q2 g0 g1 g2 o0 fT nu arg13 ∗ ((c : Thread nD τ).loc main_arg4 ↦[srcR (k0_t1 : ℕ) 0 16]{fullShare} g) ∗ ((c : Thread nD τ).loc main_v0 ↦[outR (k0_t1 : ℕ) 0 (nbl nu)]{fullShare} o0))
      ⊢ WP c (k0_part85 arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v43 v44 0#32 1#32 k0_t1 arg13) (fun a => iprop(HS c q0 q1 q2 g0 g1 g2 o0 fT nu a
        ∗ ((c : Thread nD τ).loc main_arg4 ↦[srcR (k0_t1 : ℕ) 0 16]{fullShare} g) ∗ OutV c Vo (outR (k0_t1 : ℕ) 0 (nbl nu)))) := by
  unfold HS
  iintro ⟨⟨HZ, HT, ⟨%f, %hf, Hc⟩, HrE, HS4, HL, Hw⟩, Hg, Ho⟩
  ihave Hr := (Entails.of_eq (show RingE (F := F) c Finset.univ = iprop(∃ r : RingBuf F, ((c : Thread nD τ).loc cc0_scratch1 ↦[Finset.univ]{fullShare} r)) from rfl)) $$ HrE
  icases Hr with ⟨%r, Hr⟩
  simp only [k0_part85_eq_skeleton, k0_part85_skel, Prog.bind_assoc]
  ihave Hc := (codes_split c f).1 $$ Hc
  icases Hc with ⟨Hc, Hc5⟩
  iapply (t2_loop c arg0 harg0 arg1 harg1 arg2 harg2 arg3 harg3 v0 k0_hw2 v1 v20 v21 v22 v43 v44 0#32 1#32 k0_t1 arg13 _ g f) $$ [HL Hc Hg]
  · unfold L2
    isplitr
    · iapply (issued_zero' _); iempintro
    isplitl [HL]
    · iapply (pending_all _) $$ HL
    isplitl [Hc]; · iexact Hc
    iexact Hg
  unfold L2
  iintro ⟨HB, -, -, -⟩
  iapply (t3_loop c arg0 harg0 arg1 harg1 arg2 harg2 arg3 harg3 v0 k0_hw2 v1 v20 v21 v22 v43 v44 0#32 1#32 k0_t1 arg13 o0 g h hu h22 h43 (half_lt k0_t1)) $$ [HZ HB Hw]
  · unfold L3
    isplitl [HZ]; · iexact HZ
    isplitl [HB]
    · iapply (Entails.of_eq (by rw [Transfers.issued_all (rfl : 16 = 16), Transfers.bigSep_pending_zero])) $$ HB
    isplitr
    · iapply (issued_zero' _); iempintro
    isplitr
    · rw [show codeR 0 (32 * 0) = ∅ from by ext i; rw [mem_codeR]; simp, pointsTo_empty]
      iempintro
    isplitr
    · rw [show srcR (k0_t1 : ℕ) 0 0 = ∅ from by ext i; rw [mem_srcR]; simp, pointsTo_empty]
      iempintro
    iexact Hw
  iintro %a3 HL3
  unfold L3
  icases HL3 with ⟨⟨%d, %hd, HZ⟩, -, HL, Hc, Hg, Hw⟩
  ihave Hc := (codes_join c g (k0_t1 : ℕ) f fT hf) $$ [Hc Hc5]
  · isplitl [Hc]; · iexact Hc
    iexact Hc5
  iapply (ringLoad c 0 Finset.univ r off93_eq (fun i _ => Finset.mem_univ i)) $$ Hr
  iintro Hr %_
  iapply (ringStore c 0 Finset.univ r off93_eq (fun i _ => Finset.mem_univ i)) $$ Hr
  iintro Hr
  ihave Hr := (ring_start c Vo (k0_t1 : ℕ) _) $$ [Hr HS4]
  · isplitl [Hr]; · iexact Hr
    iexact HS4
  icases Hr with ⟨Hr, Hv, HS1, HS2, HS3⟩
  iapply (t8_loop c Vo q0 q1 q2 g0 g1 g2 o0 _ sp tk h hu h1 hu1 h22 h43) $$ [HZ HT Hc Hr Hv HS1 HS2 HS3 Ho Hw]
  · unfold TI
    iexists _, 0, d
    isplitr
    · ipureintro
      exact ⟨W.zero, hd.1, hd.2, le_of_eq (by rfl), by have := tk.np16; omega, sp.start r⟩
    isplitl [HZ]; · iexact HZ
    isplitl [HT]; · iexact HT
    isplitl [Hc]; · iexact Hc
    isplitl [Hr]; · iexact Hr
    isplitl [Hv]; · iexact Hv
    isplitl [HS1]; · iexact HS1
    isplitl [HS2]; · iexact HS2
    isplitl [HS3]; · iexact HS3
    isplitr
    · iapply (OutV_empty c Vo _ (by ext i; rw [mem_outR]; simp)); iempintro
    isplitl [Ho]; · iexact Ho
    iexact Hw
  iintro %a8 HTI
  unfold TI
  icases HTI with ⟨%r8, %G, %d8, %hI, HZ, HT, Hc, Hr, Hv, HS1, HS2, HS3, HO, -, Hw⟩
  obtain ⟨hy, hz, hd8, -⟩ := hI
  iapply (skip c (k0_t15_loop v0) _ (t15_trips h hu)) $$ HZ
  iintro HZ
  iapply (t22_loop c Vo h hu hu1) $$ [HO HS1 HS2 HS3 Hw]
  · unfold DR
    rw [SlotD_eq c Vo _ _ nu (by omega), SlotD_eq c Vo _ _ nu (by omega), SlotD_eq c Vo _ _ nu (by omega)]
    isplitl [HO]; · iexact HO
    isplitl [HS1]; · iexact HS1
    isplitl [HS2]; · iexact HS2
    isplitl [HS3]; · iexact HS3
    iexact Hw
  iintro %a22 HD
  iapply (skip c (k0_t23_loop v0) _ (t23_trips h hu)) $$ HZ
  iintro HZ
  unfold DR
  rw [SlotD_done c Vo _ _ _ (show nbl nu + 1 < 4 + nbl nu by omega), SlotD_done c Vo _ _ _ (show nbl nu + 2 < 4 + nbl nu by omega), SlotD_done c Vo _ _ _ (show nbl nu + 3 < 4 + nbl nu by omega)]
  unfold Free
  icases HD with ⟨HO, ⟨Hv1, HR1⟩, ⟨Hv2, HR2⟩, ⟨Hv3, HR3⟩, Hw⟩
  iapply (Idealize.SL.Sem.le_wp_ret _ _)
  isplitr [HO Hg]
  · isplitl [HZ]
    · iexists d8
      isplitr
      · ipureintro; exact ⟨hz, hd8⟩
      iexact HZ
    isplitl [HT]; · iexact HT
    isplitl [Hc]
    · iexists _
      isplitr
      rotate_left
      · iexact Hc
      · ipureintro
        exact fun i hi => if_neg (fun hh => by rw [mem_codeR] at hh hi; omega)
    isplitl [Hr HR1 HR2 HR3]
    · iapply (ring_gather c (nbl nu))
      isplitl [Hr]
      · unfold RingE; iexists r8; iexact Hr
      isplitl [HR1]; · iexact HR1
      isplitl [HR2]; · iexact HR2
      iexact HR3
    isplitl [Hv Hv1 Hv2 Hv3]
    · iapply (sems_gather c (nbl nu))
      isplitl [Hv]; · iexact Hv
      isplitl [Hv1]; · iexact Hv1
      isplitl [Hv2]; · iexact Hv2
      iexact Hv3
    isplitl [HL]
    · iapply (Entails.of_eq (by rw [Transfers.issued_all (rfl : 16 = 16)])) $$ HL
    iexact Hw
  · isplitl [Hg]; · iexact Hg
    iexact HO

end Cert.Proof.KernelIdeal

end
-- ==== Proof.MainIdeal.Whole.lean ====
module

public import Idealize.ShloMosaic.Lib.Batch
public import proofs.«01_k».proof.Proof.MainIdeal.Half

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The whole kernel. -/

variable (c : Dev nD) {α : Type} {Q : α → SP F} (Vo : S2048x56x8x128.Idx → Elt F .f32 → Prop)
variable {arg0 : Memref sig .tc .smem S17408 .i32} {harg0 : arg0.IsWhole} {arg1 : Memref sig .tc .smem S17408 .f32} {harg1 : arg1.IsWhole} {arg2 : Memref sig .tc .smem S16385 .i32} {harg2 : arg2.IsWhole} {arg3 : Memref sig .tc .smem S2 .i32} {harg3 : arg3.IsWhole}
variable (q0 q1 q2 q3 : PosShare TreeShare) (g0 : Buf (Elt F) (arg0.view.loc (c : Thread nD τ))) (g1 : Buf (Elt F) (arg1.view.loc (c : Thread nD τ))) (g2 : Buf (Elt F) (arg2.view.loc (c : Thread nD τ))) (g3 : Buf (Elt F) (arg3.view.loc (c : Thread nD τ)))
variable {nu np : ℕ} {e : ℕ → ℕ} (o0 : OutBuf F)

theorem src_split (g : WordBuf) : (((c : Thread nD τ).loc main_arg4 ↦[Finset.univ]{fullShare} g) : SP F) ⊣⊢ iprop(((c : Thread nD τ).loc main_arg4 ↦[srcR 0 0 16]{fullShare} g) ∗ ((c : Thread nD τ).loc main_arg4 ↦[srcR 1 0 16]{fullShare} g)) := by
  have e : (Finset.univ : Finset S4096x7168.Idx) \ srcR 0 0 16 = srcR 1 0 16 := by
    ext i
    have b : ((i 0 : Fin 4096) : ℕ) < 4096 := (i 0 : Fin 4096).isLt
    have b1 : ((i 1 : Fin 7168) : ℕ) < 7168 := (i 1 : Fin 7168).isLt
    rw [Finset.mem_sdiff, mem_srcR, mem_srcR]
    constructor
    · rintro ⟨-, h⟩; omega
    · intro h; exact ⟨Finset.mem_univ _, by omega⟩
  rw [← e]
  exact pointsTo_split_subset (Finset.subset_univ _)

theorem out_sub (nu : ℕ) : outR 0 0 (nbl nu) ⊆ tiles 0 (8 * nbl nu) := by
  intro i hi; rw [mem_outR] at hi; rw [mem_tiles]; omega
theorem out_rest (nu : ℕ) : tiles 0 (8 * nbl nu) \ outR 0 0 (nbl nu) = outR 1 0 (nbl nu) := by
  ext i
  have b : ((i 1 : Fin 56) : ℕ) < 56 := (i 1 : Fin 56).isLt
  rw [Finset.mem_sdiff, mem_outR, mem_outR, mem_tiles]; omega
theorem tiles_rest (m : ℕ) : (Finset.univ : Finset S2048x56x8x128.Idx) \ tiles 0 m = tiles m 2048 := by
  ext i
  have b : ((i 0 : Fin 2048) : ℕ) < 2048 := (i 0 : Fin 2048).isLt
  rw [Finset.mem_sdiff, mem_tiles, mem_tiles]
  constructor
  · rintro ⟨-, h⟩; omega
  · intro h; exact ⟨Finset.mem_univ _, by omega⟩

/-- The output of half `h`, written once half `h` is done. -/
def HO (nu k h : ℕ) : SP F := if h < k then OutV c Vo (outR h 0 (nbl nu)) else ((c : Thread nD τ).loc main_v0 ↦[outR h 0 (nbl nu)]{fullShare} o0)

/-- The state at half `k`. -/
def HI (fT : CodeBuf) (g : WordBuf) (nu k : ℕ) (a : BitVec 32) : SP F :=
  iprop(HS c q0 q1 q2 g0 g1 g2 o0 fT nu a ∗ (((c : Thread nD τ).loc main_arg4 ↦[srcR 0 0 16]{fullShare} g) ∗ ((c : Thread nD τ).loc main_arg4 ↦[srcR 1 0 16]{fullShare} g)) ∗ HO c Vo o0 nu k 0 ∗ HO c Vo o0 nu k 1)

/-- The loop over the two halves. -/
theorem t1_loop {v0 v1 v20 v21 v22 v24 v26 v27 v43 : BitVec 32} {k0_hw2 : k0_chk2 v0} {v38 : BitVec 1} (fT : CodeBuf) (g : WordBuf)
    (sp : ∀ h : ℕ, h < 2 → BSpec Vo (tabF c arg0 g0 (by decide)) (tabF c arg1 g1 (by decide)) (cwOf g h fT) h nu np e (k0_pay399 (k0_pay409 (F := F))) (k0_pay403 (k0_pay409 (F := F))))
    (tk : Toks (tabF c arg0 g0 (by decide)) (tabF c arg2 g2 (by decide)) nu np e)
    (h : W v0 nu) (hu : nu ≤ 16384) (h1 : W v1 np) (hu1 : 1 ≤ nu) (h22 : v22 = nzW v0) (h43 : v43 = zpsW v0) (hok : k0_t1_loop.OK) (init : BitVec 32) {kk : BitVec 32 → PG F α} :
    HI c Vo q0 q1 q2 g0 g1 g2 o0 fT g nu 0 init ⊢ iprop((∀ a, HI c Vo q0 q1 q2 g0 g1 g2 o0 fT g nu 2 a -∗ WP c (kk a) Q)
      -∗ WP c (Scf.Loop.for k0_t1_loop hok init (k0_t1_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v24 v26 v27 v38 v43) >>= kk) Q) := by
  iintro H Hk
  iapply (Scf.wp_for_bind frame (wpE (defs₀ (F := F)) Variants.none (c : Thread nD τ) none) Set.univ k0_t1_loop.lb k0_t1_loop.ub k0_t1_loop.st hok init (k0_t1_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v24 v26 v27 v38 v43)
    (fun k a => HI c Vo q0 q1 q2 g0 g1 g2 o0 fT g nu k a) (fun (t : Fin k0_t1_loop.trips) acc => by
      have hf := half c Vo (harg0 := harg0) (harg1 := harg1) (harg2 := harg2) (harg3 := harg3) (arg3 := arg3) (arg13 := acc) (k0_hw2 := k0_hw2) (v20 := v20) (v21 := v21) q0 q1 q2 g0 g1 g2 o0 fT g (sp (t : ℕ) (half_lt t)) tk h hu h1 hu1 h22 h43
      have ht : (t : ℕ) = 0 ∨ (t : ℕ) = 1 := by have := half_lt t; omega
      simp only [k0_t1_body]
      unfold HI HO
      rcases ht with ht | ht
      · rw [ht] at hf ⊢
        rw [if_neg (by decide), if_neg (by decide), if_pos (by decide), if_neg (by decide)]
        iintro ⟨HS, ⟨Hg, Hg'⟩, Ho, Ho'⟩
        ihave Hw := hf $$ [HS Hg Ho]
        · isplitl [HS]; · iexact HS
          isplitl [Hg]; · iexact Hg
          iexact Ho
        iapply (WP_wand c) $$ Hw
        iintro %a ⟨HS, Hg, HO⟩
        isplitl [HS]; · iexact HS
        isplitl [Hg Hg']
        · isplitl [Hg]; · iexact Hg
          iexact Hg'
        isplitl [HO]; · iexact HO
        iexact Ho'
      · rw [ht] at hf ⊢
        rw [if_pos (by decide), if_neg (by decide), if_pos (by decide), if_pos (by decide)]
        iintro ⟨HS, ⟨Hg', Hg⟩, Ho', Ho⟩
        ihave Hw := hf $$ [HS Hg Ho]
        · isplitl [HS]; · iexact HS
          isplitl [Hg]; · iexact Hg
          iexact Ho
        iapply (WP_wand c) $$ Hw
        iintro %a ⟨HS, Hg, HO⟩
        isplitl [HS]; · iexact HS
        isplitl [Hg Hg']
        · isplitl [Hg']; · iexact Hg'
          iexact Hg
        isplitl [Ho']; · iexact Ho'
        iexact HO)) $$ [H]
  · iexact H
  iintro %acc H
  iapply Hk
  rw [show Scf.trips k0_t1_loop.lb k0_t1_loop.ub k0_t1_loop.st = 2 from by decide]
  iexact H

/-- Storing the zeros. -/
theorem zStore {inb : ∀ a, (![0, 0, 0, 0] : Fin 4 → ℕ) a + S4x56x8x128.size a ≤ S4x56x8x128.size a} {hx hm} {k : PUnit → PG F α} (z : ZBuf F) :
    (((c : Thread nD τ).loc cc0_scratch2 ↦[Finset.univ]{fullShare} z) : SP F)
      ⊢ iprop((((c : Thread nD τ).loc cc0_scratch2 ↦[Finset.univ]{fullShare} zBuf) -∗ WP c (k ⟨⟩) Q)
        -∗ WP c (.op (.store (Memref.whole cc0_scratch2) (Rect.unit (s := S4x56x8x128) ![0, 0, 0, 0] S4x56x8x128.size inb) (k0_pay410 (F := F)) Finset.univ hx hm) k) Q) := by
  have hw : ∀ i ∈ (Finset.univ : Finset S4x56x8x128.Idx), ((Memref.whole cc0_scratch2).access (Rect.unit (s := S4x56x8x128) ![0, 0, 0, 0] S4x56x8x128.size inb)).write (Elt F) z (k0_pay410 (F := F)) Finset.univ i = zBuf i := by
    intro i _
    have hi : ((Memref.whole cc0_scratch2).access (Rect.unit (s := S4x56x8x128) ![0, 0, 0, 0] S4x56x8x128.size inb)).emb i = i := by
      funext a
      match a with
      | ⟨0, _⟩ => exact Fin.ext (show 0 + 1 * ((i 0 : Fin 4) : ℕ) = ((i 0 : Fin 4) : ℕ) by omega)
      | ⟨1, _⟩ => exact Fin.ext (show 0 + 1 * ((i 1 : Fin 56) : ℕ) = ((i 1 : Fin 56) : ℕ) by omega)
      | ⟨2, _⟩ => exact Fin.ext (show 0 + 1 * ((i 2 : Fin 8) : ℕ) = ((i 2 : Fin 8) : ℕ) by omega)
      | ⟨3, _⟩ => exact Fin.ext (show 0 + 1 * ((i 3 : Fin 128) : ℕ) = ((i 3 : Fin 128) : ℕ) by omega)
    have := View.write_emb_of_mem (Val := Elt F) (v := ((Memref.whole cc0_scratch2).access (Rect.unit (s := S4x56x8x128) ![0, 0, 0, 0] S4x56x8x128.size inb))) (f := z) (w := k0_pay410 (F := F)) (Finset.mem_univ i)
    rw [hi] at this
    rw [this]
    rfl
  have key := wp_store (hx := hx) (hm := hm) (k := k) (Q := Q) (w := k0_pay410 (F := F)) (f := z) (S := Finset.univ) (defs := defs₀ (F := F)) (Γ := .empty) Variants.none (c : Thread nD τ) none Set.univ
    (m := Memref.whole cc0_scratch2) (r := Rect.unit (s := S4x56x8x128) ![0, 0, 0, 0] S4x56x8x128.size inb) (Mk := Finset.univ) (Finset.subset_univ _)
  exact key.trans (wand_mono_left (wand_mono_left (le_of_eq (pointsTo_congr hw))))

theorem zLoad {inb : ∀ a, (![0, 0, 0, 0] : Fin 4 → ℕ) a + S4x56x8x128.size a ≤ S4x56x8x128.size a} {hl} {k : (S4x56x8x128.Idx → Elt F .f32) → PG F α} (z : ZBuf F) :
    (((c : Thread nD τ).loc cc0_scratch2 ↦[Finset.univ]{fullShare} z) : SP F)
      ⊢ iprop((((c : Thread nD τ).loc cc0_scratch2 ↦[Finset.univ]{fullShare} z) -∗ ∀ x, WP c (k x) Q)
        -∗ WP c (.op (.load (Memref.whole cc0_scratch2) (Rect.unit (s := S4x56x8x128) ![0, 0, 0, 0] S4x56x8x128.size inb).toLoadRect hl) k) Q) := by
  have key := wp_load (hl := hl) (k := k) (Q := Q) (f := z) (q := fullShare) (S := Finset.univ) (defs := defs₀ (F := F)) Variants.none (c : Thread nD τ) none (Γ := .empty) Set.univ
    (m := Memref.whole cc0_scratch2) (r := (Rect.unit (s := S4x56x8x128) ![0, 0, 0, 0] S4x56x8x128.size inb).toLoadRect) (Finset.subset_univ _)
  iintro H Hk
  iapply key $$ H
  iintro H
  ispecialize Hk $$ H
  iapply Hk

/-- The spare tile's first store. -/
theorem sLoad {off : Fin 4 → ℕ} {inb : ∀ a, off a + S1x1x8x128.size a ≤ S513x28x8x128.size a} {hl} {k : (S1x1x8x128.Idx → Elt F .i32) → PG F α} (z : CodeBuf) :
    (((c : Thread nD τ).loc cc0_scratch0 ↦[Finset.univ]{fullShare} z) : SP F)
      ⊢ iprop((((c : Thread nD τ).loc cc0_scratch0 ↦[Finset.univ]{fullShare} z) -∗ ∀ x, WP c (k x) Q)
        -∗ WP c (.op (.load (Memref.whole cc0_scratch0) (Rect.unit (s := S513x28x8x128) off S1x1x8x128.size inb).toLoadRect hl) k) Q) := by
  have key := wp_load (hl := hl) (k := k) (Q := Q) (f := z) (q := fullShare) (S := Finset.univ) (defs := defs₀ (F := F)) Variants.none (c : Thread nD τ) none (Γ := .empty) Set.univ
    (m := Memref.whole cc0_scratch0) (r := (Rect.unit (s := S513x28x8x128) off S1x1x8x128.size inb).toLoadRect) (Finset.subset_univ _)
  iintro H Hk
  iapply key $$ H
  iintro H
  ispecialize Hk $$ H
  iapply Hk

theorem sStore {off : Fin 4 → ℕ} {inb : ∀ a, off a + S1x1x8x128.size a ≤ S513x28x8x128.size a} {w : S1x1x8x128.Idx → BitVec 32} {hx hm} {k : PUnit → PG F α} (z : CodeBuf) :
    (((c : Thread nD τ).loc cc0_scratch0 ↦[Finset.univ]{fullShare} z) : SP F)
      ⊢ iprop((∀ f : CodeBuf, ((c : Thread nD τ).loc cc0_scratch0 ↦[Finset.univ]{fullShare} f) -∗ WP c (k ⟨⟩) Q)
        -∗ WP c (.op (.store (Memref.whole cc0_scratch0) (Rect.unit (s := S513x28x8x128) off S1x1x8x128.size inb) w Finset.univ hx hm) k) Q) := by
  have key := wp_store (hx := hx) (hm := hm) (k := k) (Q := Q) (w := w) (f := z) (S := Finset.univ) (defs := defs₀ (F := F)) (Γ := .empty) Variants.none (c : Thread nD τ) none Set.univ
    (m := Memref.whole cc0_scratch0) (r := Rect.unit (s := S513x28x8x128) off S1x1x8x128.size inb) (Mk := Finset.univ) (Finset.subset_univ _)
  iintro H Hk
  iapply key $$ H
  iintro H
  iapply Hk $$ H

theorem starts24 {v0 v1 v20 v21 v22 v24 v26 v27 v54 : BitVec 32} {k0_hw2 : k0_chk2 v0} {v38 : BitVec 1} (hw : k0_chk71 v0 v54) {d : ℕ} (h : W v0 nu) (hu : nu ≤ 16384) (ha : W v54 d) (k : Fin (k0_t24_loop v0 v54).trips) (hd : d + (k : ℕ) ≤ 512) (acc : BitVec 32) :
    StartsZero (F := F) nu d (k : ℕ) (k0_t24_body arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v0 k0_hw2 v1 v20 v21 v22 v24 v26 v27 v38 v54 hw k acc) := by
  refine ⟨_, _, _, _, _, ?_, rfl⟩
  have e := zoff (k := (k : ℕ)) h hu ha hd
  exact congrArg (fun n : ℕ => (![n, 0, 0, 0] : Fin 4 → ℕ)) e

/-- The kernel, from its buffers, semaphores and tables, to the same with the output written. -/
theorem segsum (g : WordBuf)
    (sp : ∀ fT : CodeBuf, ∀ h : ℕ, h < 2 → BSpec Vo (tabF c arg0 g0 (by decide)) (tabF c arg1 g1 (by decide)) (cwOf g h fT) h nu np e (k0_pay399 (k0_pay409 (F := F))) (k0_pay403 (k0_pay409 (F := F))))
    (hz : ∀ i ∈ tiles (8 * nbl nu) 2048, Vo i fz)
    (tk : Toks (tabF c arg0 g0 (by decide)) (tabF c arg2 g2 (by decide)) nu np e)
    (h : W (tabF (F := F) c arg3 g3 (by decide) 0) nu) (hu : nu ≤ 16384) (h1 : W (tabF (F := F) c arg3 g3 (by decide) 1) np) (hu1 : 1 ≤ nu) :
    iprop((∃ f : CodeBuf, ((c : Thread nD τ).loc cc0_scratch0 ↦[Finset.univ]{fullShare} f)) ∗ RingE c Finset.univ ∗ (∃ z : ZBuf F, ((c : Thread nD τ).loc cc0_scratch2 ↦[Finset.univ]{fullShare} z))
        ∗ Tabs c q0 q1 q2 g0 g1 g2 ∗ (arg3.view.loc (c : Thread nD τ) ↦[arg3.view.set]{q3} g3) ∗ bigSep (Finset.univ : Finset (Fin 16)) (fun p => semVal ((c : Thread nD τ), SemLoc.dma (lcell p)) 0) ∗ Sems4 c ∗ semVal ((c : Thread nD τ), SemLoc.dma zsem) 0
        ∗ ((c : Thread nD τ).loc main_arg4 ↦[Finset.univ]{fullShare} g) ∗ ((c : Thread nD τ).loc main_v0 ↦[Finset.univ]{fullShare} o0) ∗ ∃ W, owes (c : Thread nD τ) 0 W)
      ⊢ WP c (cc0_segment_sum arg0 harg0 arg1 harg1 arg2 harg2 arg3 harg3 (Memref.whole main_arg4) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => iprop((∃ f : CodeBuf, ((c : Thread nD τ).loc cc0_scratch0 ↦[Finset.univ]{fullShare} f)) ∗ RingE c Finset.univ ∗ (∃ z : ZBuf F, ((c : Thread nD τ).loc cc0_scratch2 ↦[Finset.univ]{fullShare} z))
        ∗ Tabs c q0 q1 q2 g0 g1 g2 ∗ (arg3.view.loc (c : Thread nD τ) ↦[arg3.view.set]{q3} g3) ∗ bigSep (Finset.univ : Finset (Fin 16)) (fun p => semVal ((c : Thread nD τ), SemLoc.dma (lcell p)) 0) ∗ Sems4 c ∗ semVal ((c : Thread nD τ), SemLoc.dma zsem) 0
        ∗ ((c : Thread nD τ).loc main_arg4 ↦[Finset.univ]{fullShare} g) ∗ OutV c Vo Finset.univ ∗ ∃ W, owes (c : Thread nD τ) 0 W)) := by
  have hnb := nbl_le hu
  iintro ⟨⟨%f, Hc⟩, HR, ⟨%z, Hz⟩, HT, H3, HL, HS4, Hzs, Hg, Ho, Hw⟩
  simp only [cc0_segment_sum_eq_skeleton, cc0_segment_sum_skel, k0_part86_eq_skeleton, k0_part86_skel, k0_part87_eq_skeleton, k0_part87_skel, Prog.bind_assoc]
  iapply (tabLoad' c (m := arg3) (by decide) 0 q3 g3 rfl) $$ H3
  iintro H3
  iapply (wp_assume Variants.none (c : Thread nD τ) none Set.univ (chkU h hu hu1))
  iapply (tabLoad' c (m := arg3) (by decide) 1 q3 g3 rfl) $$ H3
  iintro H3
  simp only [Prog.pure_eq_ret, Prog.bind_ret]
  iapply (zLoad c z) $$ Hz
  iintro Hz %_
  iapply (zStore c z) $$ Hz
  iintro Hz
  iapply (sLoad c f) $$ Hc
  iintro Hc %_
  iapply (sStore c f) $$ Hc
  iintro %fT Hc
  ihave Ho := (pointsTo_split_subset (Finset.subset_univ (tiles 0 (8 * nbl nu)))).1 $$ Ho
  icases Ho with ⟨Ho, Hoz⟩
  rw [tiles_rest]
  ihave Ho := (pointsTo_split_subset (out_sub nu)).1 $$ Ho
  icases Ho with ⟨Ho, Ho1⟩
  rw [out_rest]
  ihave Hg := (src_split c g).1 $$ Hg
  icases Hg with ⟨Hg, Hg1⟩
  imod (zinit c o0 nu) $$ [Hzs Hz Hoz] with HZ
  · isplitl [Hzs]; · iexact Hzs
    isplitl [Hz]; · iexact Hz
    iexact Hoz
  iapply (t1_loop c Vo q0 q1 q2 g0 g1 g2 o0 fT g (sp fT) tk h hu h1 hu1 rfl rfl) $$ [HZ HT Hc HR HS4 HL Hw Hg Hg1 Ho Ho1]
  · unfold HI HS HO
    rw [if_neg (show ¬ 0 < 0 by decide), if_neg (show ¬ 1 < 0 by decide)]
    isplitl [HZ HT Hc HR HS4 HL Hw]
    · isplitl [HZ]
      · iexists 0
        isplitr
        · ipureintro; exact ⟨W.zero, Nat.zero_le _⟩
        iexact HZ
      isplitl [HT]; · iexact HT
      isplitl [Hc]
      · iexists fT
        isplitr
        · ipureintro; exact fun _ _ => rfl
        iexact Hc
      isplitl [HR]; · iexact HR
      isplitl [HS4]; · iexact HS4
      isplitl [HL]; · iexact HL
      iexact Hw
    isplitl [Hg Hg1]
    · isplitl [Hg]; · iexact Hg
      iexact Hg1
    isplitl [Ho]; · iexact Ho
    iexact Ho1
  iintro %v54 HH
  unfold HI HS HO
  rw [if_pos (show 0 < 2 by decide), if_pos (show 1 < 2 by decide)]
  icases HH with ⟨⟨⟨%d, %hd, HZ⟩, HT, ⟨%f', -, Hc⟩, HR, HS4, HL, Hw⟩, ⟨Hg, Hg1⟩, Ho, Ho1⟩
  have hw71 := chkZF h hu hd.1 hd.2
  have hz0 : W (nzW (tabF (F := F) c arg3 g3 (by decide) 0)) (512 - 2 * nbl nu) := h.nz hu
  iapply (wp_assume Variants.none (c : Thread nD τ) none Set.univ hw71)
  iapply (zloop c o0 hu hd.1 hz0 hd.2 le_rfl _ _ _ (fun k acc => starts24 hw71 h hu hd.1 k
    (by have := lt_of_lt_of_eq k.isLt (uloop_trips hd.1 hz0 hd.2); omega) acc)) $$ HZ
  iintro %a24 HZ
  iapply (skip c (k0_t25_loop _ v54) _ (rloop_trips hd.1 hz0 hd.2)) $$ HZ
  iintro HZ
  iapply (zwaits c o0 hu hz0 _ _ _ (fun k acc => ⟨_, _, _, _, rfl⟩)) $$ [HZ Hw]
  · isplitl [HZ]; · iexact HZ
    iexact Hw
  iintro %a26 ⟨Hz, Hoz, Hzs, Hw⟩
  iapply (skip c (k0_t27_loop _) _ (rloop_trips W.zero hz0 (Nat.zero_le _))) $$ Hw
  iintro Hw
  iapply (Idealize.SL.Sem.le_wp_ret _ _)
  isplitl [Hc]; · iexists f'; iexact Hc
  isplitl [HR]; · iexact HR
  isplitl [Hz]; · iexists zBuf; iexact Hz
  isplitl [HT]; · iexact HT
  isplitl [H3]; · iexact H3
  isplitl [HL]; · iexact HL
  isplitl [HS4]; · iexact HS4
  isplitl [Hzs]; · iexact Hzs
  isplitl [Hg Hg1]
  · iapply (src_split c g).2
    isplitl [Hg]; · iexact Hg
    iexact Hg1
  isplitl [Ho Ho1 Hoz]
  · iapply (OutV_union c Vo (tiles 0 (8 * nbl nu)) (tiles (8 * nbl nu) 2048) Finset.univ (Finset.subset_univ _) (tiles_rest _))
    isplitl [Ho Ho1]
    · iapply (OutV_union c Vo (outR 0 0 (nbl nu)) (outR 1 0 (nbl nu)) _ (out_sub nu) (out_rest nu))
      isplitl [Ho]; · iexact Ho
      iexact Ho1
    · unfold OutV
      iexists zOut
      isplitr
      · ipureintro; exact hz
      iexact Hoz
  iexact Hw

end Cert.Proof.KernelIdeal

end
-- ==== Proof.MainIdeal.Launch.lean ====
module

public import Idealize.ShloMosaic.Lib.Pipeline.KitQuiescent
public import Idealize.ShloMosaic.Lib.Pipeline.Frame
public import Idealize.ShloMosaic.Lib.Tactic
public import Idealize.ShloMosaic.Lib.Batch
public import proofs.«01_k».proof.Proof.MainIdeal.Whole

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Pipeline (Dat Cfg Window BodyObligation cellOf kernel pipe)
open Idealize.ShloMosaic.Rounds
open Idealize.SL.BI.BIBase Idealize.SL.BI.Laws Idealize.SL.ProofMode Idealize.SL.Sem

variable {F : FTy → Type} [FloatOps F]

/-! The launch: the kernel's own semaphores and buffers, the pipeline's proof data, the run. -/

section
variable (c : Dev nD)

/-- The kernel's own semaphores: 16 for the loads, 4 for the stores, 1 for the zeros. -/
abbrev osem0 : Fin 21 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 21 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : SP F)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6, 7, 8, 9, 10, 11, 12, 13, 14, 15, 16, 17, 18, 19, 20] (by decide) (by decide)]; rfl

theorem loads_eq : (bigSep (Finset.univ : Finset (Fin 16)) (fun p => semVal ((c : Thread nD τ), SemLoc.dma (lcell p)) 0) : SP F)
    = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide)]; rfl
theorem stores_eq : (Sems4 c : SP F) = iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := rfl

theorem own_open : (Pipeline.ownSems0 (Ix := Unit) (Name := ℕ) (U := Pipeline.UD sig nD τ) (Lvl := ℕ) (Val := Elt F) (τ := τ) osem0 c : SP F)
    ⊣⊢ iprop(bigSep (Finset.univ : Finset (Fin 16)) (fun p => semVal ((c : Thread nD τ), SemLoc.dma (lcell p)) 0) ∗ Sems4 c ∗ semVal ((c : Thread nD τ), SemLoc.dma zsem) 0) := by
  rw [ownSems00_eq, loads_eq, stores_eq]
  constructor
  · iintro ⟨H0, H1, H2, H3, H4, H5, H6, H7, H8, H9, H10, H11, H12, H13, H14, H15, H16, H17, H18, H19, H20⟩
    isplitl [H0 H1 H2 H3 H4 H5 H6 H7 H8 H9 H10 H11 H12 H13 H14 H15]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [H16 H17 H18 H19]
    · isplitl [H16]; · iexact H16
      isplitl [H17]; · iexact H17
      isplitl [H18]; · iexact H18
      iexact H19
    iexact H20
  · iintro ⟨⟨H0, H1, H2, H3, H4, H5, H6, H7, H8, H9, H10, H11, H12, H13, H14, H15⟩, ⟨H16, H17, H18, H19⟩, H20⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
end

variable (m : (ℓ : Loc nD τ sig) → Buf (Elt F) ℓ) (ρ : Dev nD → PrngReg) (Vo : Dev nD → S2048x56x8x128.Idx → Elt F .f32 → Prop)

/-- The tables as functions of a position. -/
def T0 (c : Dev nD) (i : ℕ) : BitVec 32 := m ((c : Thread nD τ).loc main_arg0) (ix1 (⟨i % 17408, Nat.mod_lt _ (by decide)⟩ : Fin 17408))
def T1 (c : Dev nD) (i : ℕ) : F .f32 := m ((c : Thread nD τ).loc main_arg1) (ix1 (⟨i % 17408, Nat.mod_lt _ (by decide)⟩ : Fin 17408))
def T2 (c : Dev nD) (i : ℕ) : BitVec 32 := m ((c : Thread nD τ).loc main_arg2) (ix1 (⟨i % 16385, Nat.mod_lt _ (by decide)⟩ : Fin 16385))
def T3 (c : Dev nD) (i : ℕ) : BitVec 32 := m ((c : Thread nD τ).loc main_arg3) (ix1 (⟨i % 2, Nat.mod_lt _ (by decide)⟩ : Fin 2))
/-- The packed codes. -/
def GW (c : Dev nD) : WordBuf := m ((c : Thread nD τ).loc main_arg4)

/-- What the arguments satisfy on core `c`, with `nu` distinct tokens, `np` padding tokens and block ends `e`; and
    what the tokens then compute. -/
structure Ready (c : Dev nD) where
  nu : ℕ
  np : ℕ
  e : ℕ → ℕ
  hu : nu ≤ 16384
  hu1 : 1 ≤ nu
  wu : W (T3 m c 0) nu
  wp : W (T3 m c 1) np
  tk : Toks (T0 m c) (T2 m c) nu np e
  hz : ∀ i ∈ tiles (8 * nbl nu) 2048, Vo c i fz
  sp : ∀ fT : CodeBuf, ∀ h : ℕ, h < 2 → BSpec (Vo c) (T0 m c) (T1 m c) (cwOf (GW m c) h fT) h nu np e (k0_pay399 (k0_pay409 (F := F))) (k0_pay403 (k0_pay409 (F := F)))

/-- The kernel's state between points: before the one point, and after it. -/
def Phi0 (c : Dev nD) : SP F :=
  iprop(((c : Thread nD τ).loc main_arg4 ↦{fullShare} GW m c) ∗ (∃ o : OutBuf F, ((c : Thread nD τ).loc main_v0 ↦{fullShare} o))
    ∗ Pipeline.ownSems0 (Ix := Unit) (Name := ℕ) (U := Pipeline.UD sig nD τ) (Lvl := ℕ) (Val := Elt F) (τ := τ) osem0 c ∗ Pipeline.scopedRest spec0 c)
def Phi1 (c : Dev nD) : SP F :=
  iprop(((c : Thread nD τ).loc main_arg4 ↦{fullShare} GW m c) ∗ OutV c (Vo c) Finset.univ
    ∗ Pipeline.ownSems0 (Ix := Unit) (Name := ℕ) (U := Pipeline.UD sig nD τ) (Lvl := ℕ) (Val := Elt F) (τ := τ) osem0 c ∗ Pipeline.scopedRest spec0 c)

/-- The pipeline's proof data. -/
def dats (_ : Fin 1) (c : Dev nD) : Dat τ (Elt F) Unit ℕ (Pipeline.UD sig nD τ) ℕ cfg0 c where
  A w := V m c (Pipeline.arrRef spec0 w)
  after w := match w with | ⟨0, _⟩ => fun t => iblk m c 0 t | ⟨1, _⟩ => fun t => iblk m c 1 t | ⟨2, _⟩ => fun t => iblk m c 2 t | ⟨3, _⟩ => fun t => iblk m c 3 t
  Φ i := if (i : ℕ) = 0 then Phi0 m c else Phi1 m Vo c
  q _ := fullShare
  owed _ := 0

theorem A_eq (c : Dev nD) (w : Fin cfg0.W) : (dats m Vo 0 c).A w = V m c (Pipeline.arrRef spec0 w) := by dsimp only [dats]

theorem before_0 (c : Dev nD) (t : Fin cfg0.N) (d) : (dats m Vo 0 c).before 0 t d = iblk m c 0 t :=
  ((dats m Vo 0 c).before_in_eq_fetched 0 rfl (fun _ => rfl) (fun _ _ _ => rfl) (fun t => by rw [show (dats m Vo 0 c).after 0 t = iblk m c 0 t from rfl]; unfold Dat.blockOf iblk; rw [A_eq]; try rfl) t d).trans
    (by unfold Dat.fetched Dat.blockOf iblk; rw [A_eq]; try rfl)
theorem iblk_0 (c : Dev nD) (t : Fin cfg0.N) (x : S17408.Idx) : iblk m c 0 t x = m ((c : Thread nD τ).loc main_arg0) x := by
  rw [fin_N0 t]
  exact congrFun (show (win0_0.blk t0_0).view.read (Elt F) (m ((c : Thread nD τ).loc main_arg0)) = m ((c : Thread nD τ).loc main_arg0) from
    Memref.read_access_unit_zero (Elt F) main_arg0
      (show (fun a => (win0_0.index t0_0) a * main_arg0.ty.shape.size a) = fun _ => 0 from funext fun a => Nat.zero_mul _)
      (fun a => by fin_cases a; exact (Nat.zero_mul _).symm ▸ le_of_eq (Nat.zero_add _)) _) x

theorem before_1 (c : Dev nD) (t : Fin cfg0.N) (d) : (dats m Vo 0 c).before 1 t d = iblk m c 1 t :=
  ((dats m Vo 0 c).before_in_eq_fetched 1 rfl (fun _ => rfl) (fun _ _ _ => rfl) (fun t => by rw [show (dats m Vo 0 c).after 1 t = iblk m c 1 t from rfl]; unfold Dat.blockOf iblk; rw [A_eq]; try rfl) t d).trans
    (by unfold Dat.fetched Dat.blockOf iblk; rw [A_eq]; try rfl)
theorem iblk_1 (c : Dev nD) (t : Fin cfg0.N) (x : S17408.Idx) : iblk m c 1 t x = m ((c : Thread nD τ).loc main_arg1) x := by
  rw [fin_N0 t]
  exact congrFun (show (win0_1.blk t0_0).view.read (Elt F) (m ((c : Thread nD τ).loc main_arg1)) = m ((c : Thread nD τ).loc main_arg1) from
    Memref.read_access_unit_zero (Elt F) main_arg1
      (show (fun a => (win0_1.index t0_0) a * main_arg1.ty.shape.size a) = fun _ => 0 from funext fun a => Nat.zero_mul _)
      (fun a => by fin_cases a; exact (Nat.zero_mul _).symm ▸ le_of_eq (Nat.zero_add _)) _) x

theorem before_2 (c : Dev nD) (t : Fin cfg0.N) (d) : (dats m Vo 0 c).before 2 t d = iblk m c 2 t :=
  ((dats m Vo 0 c).before_in_eq_fetched 2 rfl (fun _ => rfl) (fun _ _ _ => rfl) (fun t => by rw [show (dats m Vo 0 c).after 2 t = iblk m c 2 t from rfl]; unfold Dat.blockOf iblk; rw [A_eq]; try rfl) t d).trans
    (by unfold Dat.fetched Dat.blockOf iblk; rw [A_eq]; try rfl)
theorem iblk_2 (c : Dev nD) (t : Fin cfg0.N) (x : S16385.Idx) : iblk m c 2 t x = m ((c : Thread nD τ).loc main_arg2) x := by
  rw [fin_N0 t]
  exact congrFun (show (win0_2.blk t0_0).view.read (Elt F) (m ((c : Thread nD τ).loc main_arg2)) = m ((c : Thread nD τ).loc main_arg2) from
    Memref.read_access_unit_zero (Elt F) main_arg2
      (show (fun a => (win0_2.index t0_0) a * main_arg2.ty.shape.size a) = fun _ => 0 from funext fun a => Nat.zero_mul _)
      (fun a => by fin_cases a; exact (Nat.zero_mul _).symm ▸ le_of_eq (Nat.zero_add _)) _) x

theorem before_3 (c : Dev nD) (t : Fin cfg0.N) (d) : (dats m Vo 0 c).before 3 t d = iblk m c 3 t :=
  ((dats m Vo 0 c).before_in_eq_fetched 3 rfl (fun _ => rfl) (fun _ _ _ => rfl) (fun t => by rw [show (dats m Vo 0 c).after 3 t = iblk m c 3 t from rfl]; unfold Dat.blockOf iblk; rw [A_eq]; try rfl) t d).trans
    (by unfold Dat.fetched Dat.blockOf iblk; rw [A_eq]; try rfl)
theorem iblk_3 (c : Dev nD) (t : Fin cfg0.N) (x : S2.Idx) : iblk m c 3 t x = m ((c : Thread nD τ).loc main_arg3) x := by
  rw [fin_N0 t]
  exact congrFun (show (win0_3.blk t0_0).view.read (Elt F) (m ((c : Thread nD τ).loc main_arg3)) = m ((c : Thread nD τ).loc main_arg3) from
    Memref.read_access_unit_zero (Elt F) main_arg3
      (show (fun a => (win0_3.index t0_0) a * main_arg3.ty.shape.size a) = fun _ => 0 from funext fun a => Nat.zero_mul _)
      (fun a => by fin_cases a; exact (Nat.zero_mul _).symm ▸ le_of_eq (Nat.zero_add _)) _) x

theorem tab_0 (c : Dev nD) (t : Fin cfg0.N) (M : Memref sig .tc .smem S17408 .i32) (g : Buf (Elt F) (M.view.loc (c : Thread nD τ)))
    (h : M.view.read (Elt F) g = (iblk m c 0 t : S17408.Idx → BitVec 32)) : tabF c M g (by decide) = T0 m c := by
  funext i; exact (congrFun h _).trans (iblk_0 m c t _)
theorem tab_1 (c : Dev nD) (t : Fin cfg0.N) (M : Memref sig .tc .smem S17408 .f32) (g : Buf (Elt F) (M.view.loc (c : Thread nD τ)))
    (h : M.view.read (Elt F) g = (iblk m c 1 t : S17408.Idx → F .f32)) : tabF c M g (by decide) = T1 m c := by
  funext i; exact (congrFun h _).trans (iblk_1 m c t _)
theorem tab_2 (c : Dev nD) (t : Fin cfg0.N) (M : Memref sig .tc .smem S16385 .i32) (g : Buf (Elt F) (M.view.loc (c : Thread nD τ)))
    (h : M.view.read (Elt F) g = (iblk m c 2 t : S16385.Idx → BitVec 32)) : tabF c M g (by decide) = T2 m c := by
  funext i; exact (congrFun h _).trans (iblk_2 m c t _)
theorem tab_3 (c : Dev nD) (t : Fin cfg0.N) (M : Memref sig .tc .smem S2 .i32) (g : Buf (Elt F) (M.view.loc (c : Thread nD τ)))
    (h : M.view.read (Elt F) g = (iblk m c 3 t : S2.Idx → BitVec 32)) : tabF c M g (by decide) = T3 m c := by
  funext i; exact (congrFun h _).trans (iblk_3 m c t _)

/-- What the body is called with at point `t`, and what it returns. -/
def bodyPre (c : Dev nD) (t : Fin cfg0.N) : SP F :=
  iprop((dats m Vo 0 c).Φ t.castSucc ∗ (dats m Vo 0 c).owesAt () t.castSucc
    ∗ (∃ d, owns (c : Thread nD τ) (st0_0 t) fullShare ((dats m Vo 0 c).before 0 t d)) ∗ (∃ d, owns (c : Thread nD τ) (st0_1 t) fullShare ((dats m Vo 0 c).before 1 t d))
    ∗ (∃ d, owns (c : Thread nD τ) (st0_2 t) fullShare ((dats m Vo 0 c).before 2 t d)) ∗ (∃ d, owns (c : Thread nD τ) (st0_3 t) fullShare ((dats m Vo 0 c).before 3 t d)))
def bodyPost (c : Dev nD) (t : Fin cfg0.N) : SP F :=
  iprop((dats m Vo 0 c).Φ t.succ ∗ (dats m Vo 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t))

theorem sound_body (c : Dev nD) (R : Ready m Vo c) (t : Fin cfg0.N) : bodyPre m Vo c t ⊢ WP c (bodyAt0 (F := F) t) (fun _ => bodyPost m Vo c t) := by
  unfold bodyPre bodyPost
  rw [fin_N0 t, show (dats m Vo 0 c).Φ (t0_0 : Fin cfg0.N).castSucc = Phi0 m c from rfl, show (dats m Vo 0 c).Φ (t0_0 : Fin cfg0.N).succ = Phi1 m Vo c from rfl]
  unfold Phi0 Phi1
  rw [scopedRest0_eq]
  unfold Dat.owesAt Pipeline.owesWithin
  rw [show (dats m Vo 0 c).owed (t0_0 : Fin cfg0.N).castSucc = 0 from rfl, show (dats m Vo 0 c).owed (t0_0 : Fin cfg0.N).succ = 0 from rfl]
  simp only [before_0, before_1, before_2, before_3]
  unfold owns
  iintro ⟨⟨Hg, ⟨%o0, Ho⟩, Hs, H0, H1, H2⟩, ⟨%W0, %hW, HO⟩, ⟨%d0, %g0, %h0, G0⟩, ⟨%d1, %g1, %h1, G1⟩, ⟨%d2, %g2, %h2, G2⟩, ⟨%d3, %g3, %h3, G3⟩⟩
  have e0 := tab_0 m c t0_0 (st0_0 t0_0) g0 h0
  have e1 := tab_1 m c t0_0 (st0_1 t0_0) g1 h1
  have e2 := tab_2 m c t0_0 (st0_2 t0_0) g2 h2
  have e3 := tab_3 m c t0_0 (st0_3 t0_0) g3 h3
  have key := segsum c (Vo c) (arg0 := st0_0 t0_0) (harg0 := hstage0_0 0) (arg1 := st0_1 t0_0) (harg1 := hstage0_1 0) (arg2 := st0_2 t0_0) (harg2 := hstage0_2 0) (arg3 := st0_3 t0_0) (harg3 := hstage0_3 0)
    fullShare fullShare fullShare fullShare g0 g1 g2 g3 (nu := R.nu) (np := R.np) (e := R.e) o0 (GW m c)
  rw [e0, e1, e2, e3] at key
  have key := key R.sp R.hz R.tk R.wu R.hu R.wp R.hu1
  ihave Hs := (own_open c).1 $$ Hs
  icases Hs with ⟨HL, H4, HZ⟩
  iapply (WP_wand c) $$ [Hg Ho HL H4 HZ H0 H1 H2 HO G0 G1 G2 G3]
  · iapply key
    unfold RingE Tabs
    isplitl [H0]; · iexact H0
    isplitl [H1]; · iexact H1
    isplitl [H2]; · iexact H2
    isplitl [G0 G1 G2]
    · isplitl [G0]; · iexact G0
      isplitl [G1]; · iexact G1
      iexact G2
    isplitl [G3]; · iexact G3
    isplitl [HL]; · iexact HL
    isplitl [H4]; · iexact H4
    isplitl [HZ]; · iexact HZ
    isplitl [Hg]; · iexact Hg
    isplitl [Ho]; · iexact Ho
    iexists W0
    iexact HO
  unfold RingE Tabs
  iintro %_ ⟨H0, H1, H2, ⟨G0, G1, G2⟩, G3, HL, H4, HZ, Hg, Ho, ⟨%W', HO⟩⟩
  isplitl [Hg Ho HL H4 HZ H0 H1 H2]
  · isplitl [Hg]; · iexact Hg
    isplitl [Ho]; · iexact Ho
    isplitl [HL H4 HZ]
    · iapply (own_open c).2
      isplitl [HL]; · iexact HL
      isplitl [H4]; · iexact H4
      iexact HZ
    isplitl [H0]; · iexact H0
    isplitl [H1]; · iexact H1
    iexact H2
  isplitl [HO]
  · iexists W'; isplitr; · ipureintro; exact fun _ _ => Or.inl trivial
    iexact HO
  isplitl [G0]
  · iexists g0; isplitr; · ipureintro; exact h0
    iexact G0
  isplitl [G1]
  · iexists g1; isplitr; · ipureintro; exact h1
    iexact G1
  isplitl [G2]
  · iexists g2; isplitr; · ipureintro; exact h2
    iexact G2
  iexists g3; isplitr; · ipureintro; exact h3
  iexact G3

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) (R : Ready m Vo c) : BodyObligation (dats (F := F) m Vo 0 c) (defs₀ (F := F)) Variants.none () Set.univ := fun t => by
  rw [bigSep_W0, bigSep_W0, defs₀_row]
  exact triple_restated (sound_body m Vo c R t) rfl .rfl fun _ => .rfl

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

variable [∀ e, Nonempty (Elt F e)]

set_option backward.isDefEq.respectTransparency.types false in
/-- The run: it terminates without fault, the arguments are unchanged, every element of the result satisfies `Vo`, and
    every semaphore counter ends at zero. -/
theorem run_main (R : ∀ c, Ready m Vo c) :
    θ_run defs (onTc (τ := τ) (main (F := F))) (s₀ m ρ) (fun r => (∀ c : Dev nD,
      (∀ w, r.2.mem ((spec0 w).arr.view.loc (c : Thread nD τ)) = (dats m Vo 0 c).arrAt w cfg0.N)
        ∧ (r.2.mem ((c : Thread nD τ).loc main_arg4) = m ((c : Thread nD τ).loc main_arg4) ∧ ∀ i, Vo c i (r.2.mem ((c : Thread nD τ).loc main_v0) i))) ∧ r.2.sem = fun _ => 0) :=
  Pipeline.θ_run_region_kit_quiescent cfgs (dats m Vo) () (0 : Fin 1) launch0 ownSemFacts0 embL (defs₀ (F := F)) Variants.none m ρ main
    (hbody := fun c => (body_obligation m Vo c (R c)).loose) (hshare := fun c => (dats m Vo 0 c).share_full fun _ => rfl)
    (howed := fun _ _ => rfl)
    (G := fun _ => iprop(emp)) (u₀ := (initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : SP F) ⊢ bigSep Finset.univ (fun _ : Dev nD => (BI.emp : SP F)) from by rw [BI.bigSep_emp_const])
      iempintro)
    (V := V m)
    (hmain := hmainD m Variants.none)
    (hA := A_eq m Vo)
    (X := fun c => iprop(((c : Thread nD τ).loc main_arg4 ↦{fullShare} GW m c) ∗ (∃ o : OutBuf F, ((c : Thread nD τ).loc main_v0 ↦{fullShare} o))
      ∗ Pipeline.ownSems0 (Ix := Unit) (Name := ℕ) (U := Pipeline.UD sig nD τ) (Lvl := ℕ) (Val := Elt F) (τ := τ) osem0 c))
    (Y := fun c => iprop(((c : Thread nD τ).loc main_arg4 ↦{fullShare} GW m c) ∗ OutV c (Vo c) Finset.univ)) (Z := fun _ => iprop(emp))
    (hX := fun c => by
      rw [unscopedRest0_eq]
      iintro ⟨⟨H4, Hv⟩, Hos, -, -, -⟩
      imodintro
      isplitl [H4 Hv Hos]
      · isplitl [H4]; · iexact H4
        isplitl [Hv]; · iexists _; iexact Hv
        iexact Hos
      iempintro)
    (hin := fun c => by
      rw [show (dats m Vo 0 c).Φ 0 = Phi0 m c from rfl]
      unfold Phi0
      iintro ⟨⟨H4, Hv, Hos⟩, Hr⟩
      isplitl [H4]; · iexact H4
      isplitl [Hv]; · iexact Hv
      isplitl [Hos]; · iexact Hos
      iexact Hr)
    (hout := fun c => by
      rw [show (dats m Vo 0 c).Φ (Fin.last cfg0.N) = Phi1 m Vo c from rfl]
      unfold Phi1
      iintro ⟨H4, Hv, Hos, Hr⟩
      isplitl [H4 Hv]
      · isplitl [H4]; · iexact H4
        iexact Hv
      isplitl [Hos]; · iexact Hos
      iexact Hr)
    (QY := fun c s => s.mem ((c : Thread nD τ).loc main_arg4) = m ((c : Thread nD τ).loc main_arg4) ∧ ∀ i, Vo c i (s.mem ((c : Thread nD τ).loc main_v0) i))
    (hY := fun c s' => by
      unfold OutV
      iintro ⟨⟨H4, ⟨%o, %ho, Hv⟩⟩, -, HSI⟩
      icombine HSI H4 gives %h
      icombine HSI Hv gives %h'
      imodintro
      isplitr
      · ipureintro
        refine ⟨Buf.eq_of_forall_mem_univ h, fun i => ?_⟩
        rw [Buf.eq_of_forall_mem_univ h']
        exact ho i (Finset.mem_univ i)
      iexact HSI)
    (hQ := fun _ h hz => ⟨h, hz⟩)

/-- The frame, and what is known of the result. -/
theorem run_frame (R : ∀ c, Ready m Vo c) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ ∀ i, Vo c i (r.2.mem ((c.tc : Thread nD τ).loc main_v0) i)) ∧ r.2.sem = fun _ => 0) :=
  (θ_run defs _ _).mono (fun _ h => ⟨fun c => ⟨⟨((h.1 c).1 0).trans (((dats m Vo 0 c).arrAt_in 0 rfl _).trans (A_eq m Vo c 0)),
      ((h.1 c).1 1).trans (((dats m Vo 0 c).arrAt_in 1 rfl _).trans (A_eq m Vo c 1)),
      ((h.1 c).1 2).trans (((dats m Vo 0 c).arrAt_in 2 rfl _).trans (A_eq m Vo c 2)),
      ((h.1 c).1 3).trans (((dats m Vo 0 c).arrAt_in 3 rfl _).trans (A_eq m Vo c 3)),
      (h.1 c).2.1⟩, (h.1 c).2.2⟩, h.2⟩) (run_main m ρ Vo R)

end Cert.Proof.KernelIdeal

end
-- ==== Proof.MainIdeal.Ready.lean ====
module

public import Idealize.ShloMosaic.Lib.Batch
public import proofs.«01_k».proof.Proof.MainIdeal.Launch
public import proofs.«01_k».proof.Proof.Main.Pre

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! The tables of the precondition give the program what it needs. -/

theorem toks_of {T0 T2 : ℕ → BitVec 32} {o : ℕ → ℕ} {nu np : ℕ} (h : Pre.Tables T0 o nu np) (ho : ∀ j ≤ 16384, (T2 j).toNat = o j) :
    Toks T0 T2 nu np (fun b => o (Nat.min (64 * (b + 1)) 16384)) := by
  have hn := h.nu2
  have hn1 := h.nu1
  have hb := nbl_le hn
  have mm : ∀ b : ℕ, Nat.min (64 * (b + 1)) 16384 ≤ 16384 := fun b => Nat.min_le_right _ _
  have m1 : ∀ b : ℕ, 1 ≤ Nat.min (64 * (b + 1)) 16384 := fun b => Nat.le_min.mpr ⟨by omega, by decide⟩
  refine ⟨fun b hb' => h.top _ (mm b), fun b hb' => le_trans h.np_le (h.mono 1 _ (m1 b) (mm b)), le_trans h.np_le (h.top 1 (by decide)), fun b hb' => ⟨ho _ (mm b), by have := h.top _ (mm b); omega⟩, fun b hb' i h1 h2 => ?_⟩
  have ht := h.top _ (mm b)
  obtain ⟨p, hp, hs⟩ := h.src i (by omega)
  have hs' : srcOf (T0 i) = 7 * p := hs
  rcases Nat.lt_or_ge i 16384 with hi | hi
  · obtain ⟨j, hj, j1, j2⟩ := h.seg i hi
    have hd : dstOf (T0 i) = 224 * (j / 8 % 32) + j % 8 := (h.dst i j hj j1 j2).1
    have hq : Nat.min (64 * (b + 1)) 16384 = 64 * (b + 1) := by simp [Nat.min_def]; omega
    rw [hq] at h2
    have u := h.seg_lt i j (64 * (b + 1)) hj j1 (by omega) h2
    have l : 64 * b ≤ j := by
      cases b with
      | zero => omega
      | succ b =>
        have hq' : Nat.min (64 * (b + 1)) 16384 = 64 * (b + 1) := by simp [Nat.min_def]; omega
        rw [lo_succ] at h1
        rw [hq'] at h1
        exact h.seg_ge i j _ hj j2 (by omega) h1
    refine ⟨⟨by omega, by omega, by omega⟩, fun x hx => ?_⟩
    have b0 : ((x 0 : Fin 33) : ℕ) < 33 := (x 0 : Fin 33).isLt
    have b2 : ((x 2 : Fin 8) : ℕ) < 8 := (x 2 : Fin 8).isLt
    rw [mem_ringB]
    unfold ringRow rowOfW at hx
    rw [hd] at hx
    omega
  · have hd : dstOf (T0 i) = 7168 := h.spare i (by omega) hi
    refine ⟨⟨by omega, by omega, by omega⟩, fun x hx => ?_⟩
    have b0 : ((x 0 : Fin 33) : ℕ) < 33 := (x 0 : Fin 33).isLt
    have b2 : ((x 2 : Fin 8) : ℕ) < 8 := (x 2 : Fin 8).isLt
    rw [mem_ringB]
    unfold ringRow rowOfW at hx
    rw [hd] at hx
    omega

variable [Cert.Pre_tables.Facts]

/-- The precondition on a device's arguments. -/
def PreOK (m : (ℓ : Loc nD τ sig) → Buf (Elt F) ℓ) : Prop := ∀ c : Dev nD, Cert.Pre_tables.fn (F := F) (m (c.tc.loc main_arg0)) (m (c.tc.loc main_arg1)) (m (c.tc.loc main_arg2)) (m (c.tc.loc main_arg3)) (m (c.tc.loc main_arg4)) = (fun _ => 1#1)

/-- The tables of a device under the precondition. -/
theorem tables_of (m : (ℓ : Loc nD τ sig) → Buf (Elt F) ℓ) (h : PreOK m) (c : Dev nD) :
    Pre.Tables (T0 m c) (fun j => (T2 m c j).toNat) (T3 m c 0).toNat (T3 m c 1).toNat := Pre.tables_of_pre _ _ _ _ _ (h c)

/-- What the program needs, and nothing said of the result. -/
def ready_frame (m : (ℓ : Loc nD τ sig) → Buf (Elt F) ℓ) (h : PreOK m) (c : Dev nD) : Ready m (fun _ _ _ => True) c where
  nu := (T3 m c 0).toNat
  np := (T3 m c 1).toNat
  e := fun b => (T2 m c (Nat.min (64 * (b + 1)) 16384)).toNat
  hu := (tables_of m h c).nu2
  hu1 := (tables_of m h c).nu1
  wu := ⟨rfl, by have := (tables_of m h c).nu2; omega⟩
  wp := ⟨rfl, by have := (tables_of m h c).np_le; have := (tables_of m h c).top 1 (by decide); omega⟩
  tk := toks_of (tables_of m h c) (fun _ _ => rfl)
  hz := fun _ _ => trivial
  sp := fun _ _ _ => ⟨fun _ _ _ _ => True, fun _ _ _ _ => True, fun _ => trivial, fun _ _ _ _ _ _ _ _ => trivial, fun _ _ _ _ _ _ _ _ => trivial, fun _ _ _ _ _ _ _ _ _ => trivial, fun _ _ _ _ _ _ _ _ _ => trivial⟩

/-- Under the precondition the program terminates without fault, its arguments unchanged and its semaphores zero. -/
theorem frame (m : (ℓ : Loc nD τ sig) → Buf (Elt F) ℓ) (ρ : Dev nD → PrngReg) [∀ e, Nonempty (Elt F e)] (h : PreOK m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ hr => ⟨fun c => (hr.1 c).1, hr.2⟩) (run_frame m ρ (fun _ _ _ => True) (fun c => ready_frame m h c))

end Cert.Proof.KernelIdeal

end
-- ==== Proof.MainIdeal.Bytes.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.ValueLayout
public import Idealize.ShloMosaic.Lib.Batch
public import proofs.«01_k».proof.Proof.MainIdeal.Half
public import Idealize.ShloMosaic.Lib.BitcastPair

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

/-! The bytes of the code words: where the turned tiles hold a token's codes. -/

/-- Byte `k` of a word. -/
def byteOf (w : BitVec 32) (k : ℕ) : BitVec 8 := w.extractLsb' (8 * k) 8

/-- Words read at eight bits: row `a` of a column is byte `a % 4` of row `a / 4`. -/
theorem bitcast_32_8 {R r n : ℕ} (x : (⟨2, ![r, n]⟩ : Shape).Idx → BitVec 32)
    (h : (⟨2, ![r, n]⟩ : Shape).Bitcasts 32 ⟨2, ![R, n]⟩ 8) (a : Fin R) (l : Fin n) (p : Fin r) (hp : (p : ℕ) = (a : ℕ) / 4) :
    bitcast ⟨2, ![R, n]⟩ 8 x h (ix2 a l) = byteOf (x (ix2 p l)) ((a : ℕ) % 4) := by
  apply BitVec.eq_of_getLsbD_eq
  intro i hi
  unfold byteOf
  rw [bitcast_getLsbD x h _ i hi (by decide), BitVec.getLsbD_extractLsb']
  have er : (⟨2, ![R, n]⟩ : Shape).row (ix2 a l) = (a : ℕ) := rfl
  have ep : ((a : ℕ) * 8 + i) / 32 = (a : ℕ) / 4 := by omega
  have eq : ((a : ℕ) * 8 + i) % 32 = 8 * ((a : ℕ) % 4) + i := by omega
  have ei : h.srcIdx (ix2 a l) (((⟨2, ![R, n]⟩ : Shape).row (ix2 a l) * 8 + i) / 32) (fun b hb => (Nat.div_lt_iff_lt_mul (by decide)).2 (h.pos_lt _ i hi b hb)) = ix2 p l := by
    funext c
    match c with
    | ⟨0, _⟩ => exact Fin.ext ((h.srcIdx_row _ _ _ ⟨0, Nat.zero_lt_two⟩ rfl).trans (by rw [er, ep, hp]))
    | ⟨1, _⟩ => exact Fin.ext (h.srcIdx_other _ _ _ ⟨1, Nat.one_lt_two⟩ (by show ¬ 1 + 2 = 2; omega))
  rw [ei, er, eq]
  simp [hi]

/-- One of four words. -/
def pick4 (c : ℕ) (w0 w1 w2 w3 : BitVec 32) : BitVec 32 := match c with | 0 => w0 | 1 => w1 | 2 => w2 | _ => w3

set_option maxHeartbeats 4000000 in
/-- Byte `c` of the `k`th turned word is byte `k` of word `c`. -/
theorem byte_trB (k c : ℕ) (hk : k < 4) (hc : c < 4) (w0 w1 w2 w3 : BitVec 32) : byteOf (trB k w0 w1 w2 w3) c = byteOf (pick4 c w0 w1 w2 w3) k := by
  have s16 : ∀ w : BitVec 32, IntOp.shli .vector w 16#32 = w <<< 16 := fun w => rfl
  have s8 : ∀ w : BitVec 32, IntOp.shli .vector w 8#32 = w <<< 8 := fun w => rfl
  have r16 : ∀ w : BitVec 32, IntOp.shrui .vector w 16#32 = w >>> 16 := fun w => rfl
  have r8 : ∀ w : BitVec 32, IntOp.shrui .vector w 8#32 = w >>> 8 := fun w => rfl
  have m1 : ∀ i, i < 32 → (65535#32 : BitVec 32).getLsbD i = decide (i < 16) := by intro i hi; interval_cases i <;> rfl
  have m2 : ∀ i, i < 32 → (4294901760#32 : BitVec 32).getLsbD i = decide (16 ≤ i) := by intro i hi; interval_cases i <;> rfl
  have m3 : ∀ i, i < 32 → (16711935#32 : BitVec 32).getLsbD i = decide (i % 16 < 8) := by intro i hi; interval_cases i <;> rfl
  have m4 : ∀ i, i < 32 → (4278255360#32 : BitVec 32).getLsbD i = decide (8 ≤ i % 16) := by intro i hi; interval_cases i <;> rfl
  apply BitVec.eq_of_getLsbD_eq
  intro i hi
  interval_cases k <;> interval_cases c <;> interval_cases i <;>
    simp [byteOf, pick4, trB, evB, odB, loH, hiH, s16, s8, r16, r8, IntOp.ori, IntOp.andi, m1, m2, m3, m4]

/-- A token's row of code words: row `q / 4`'s byte `q % 4` is the token's code at column `3584 h + 128 q + l`. -/
theorem byte_rows (g : WordBuf) (fT : CodeBuf) (h p : ℕ) (hh : h < 2) (hp : p < 16384) (q : ℕ) (hq : q < 28) (s : Fin 8) (hs : (s : ℕ) = q / 4) (l : Fin 128) :
    byteOf (rowsAt (cwOf g h fT) (7 * p) (ix2 s l)) (q % 4)
      = byteOf (g (ix2 (⟨p / 4, by omega⟩ : Fin 4096) (⟨3584 * h + 128 * q + (l : ℕ), by have := l.isLt; omega⟩ : Fin 7168))) (p % 4) := by
  have hl := l.isLt
  have e0 : rowsAt (cwOf g h fT) (7 * p) (ix2 s l) = cwOf g h fT (ix4 (Fin.ofNat 513 ((7 * p + (s : ℕ)) / 224)) (Fin.ofNat 28 ((7 * p + (s : ℕ)) % 224 / 8)) (Fin.ofNat 8 ((7 * p + (s : ℕ)) % 8)) l) := rfl
  rw [e0]
  set X : S513x28x8x128.Idx := ix4 (Fin.ofNat 513 ((7 * p + (s : ℕ)) / 224)) (Fin.ofNat 28 ((7 * p + (s : ℕ)) % 224 / 8)) (Fin.ofNat 8 ((7 * p + (s : ℕ)) % 8)) l with hX
  have x0 : ((X 0 : Fin 513) : ℕ) = p / 32 := by
    show ((7 * p + (s : ℕ)) / 224) % 513 = _
    omega
  have x1 : rowOf X = 7 * (p % 32) + q / 4 := by
    show ((7 * p + (s : ℕ)) % 224 / 8) % 28 * 8 + ((7 * p + (s : ℕ)) % 8) % 8 = _
    omega
  have x3 : (X 3 : Fin 128) = l := rfl
  have hm : X ∈ codeR 0 512 := by rw [mem_codeR, x0]; omega
  have e1 : cwOf g h fT X = packBuf (loadBuf g h) X := if_pos hm
  rw [e1]
  unfold packBuf
  have y1 : rowOf X % 28 / 7 = p % 4 := by rw [x1]; omega
  have y2 : rowOf X % 28 % 7 = q / 4 := by rw [x1]; omega
  have y3 : rowOf X / 28 = p % 32 / 4 := by rw [x1]; omega
  rw [y1, y2, y3, byte_trB _ _ (by omega) (by omega)]
  have z : ∀ c, c < 4 → cAt (loadBuf g h) (X 0 : Fin 513) (4 * (q / 4) + c) (p % 32 / 4) (X 3 : Fin 128)
      = g (ix2 (⟨p / 4, by omega⟩ : Fin 4096) (Fin.ofNat 7168 (3584 * h + 128 * ((4 * (q / 4) + c) % 28) + (l : ℕ)))) := fun c hc => by
    show g _ = g _
    congr 2
    refine Fin.ext ?_
    show (8 * ((X 0 : Fin 513) : ℕ) + (p % 32 / 4) % 8) % 4096 = p / 4
    rw [x0]; omega
  have z0 := z 0 (by decide)
  rw [Nat.add_zero] at z0
  rw [z0, z 1 (by decide), z 2 (by decide), z 3 (by decide)]
  congr 1
  have w : ∀ c, c < 4 → q % 4 = c → g (ix2 (⟨p / 4, by omega⟩ : Fin 4096) (Fin.ofNat 7168 (3584 * h + 128 * ((4 * (q / 4) + c) % 28) + (l : ℕ))))
      = g (ix2 (⟨p / 4, by omega⟩ : Fin 4096) (⟨3584 * h + 128 * q + (l : ℕ), by omega⟩ : Fin 7168)) := fun c hc hq' => by
    congr 2
    refine Fin.ext ?_
    show (3584 * h + 128 * ((4 * (q / 4) + c) % 28) + (l : ℕ)) % 7168 = _
    have : (4 * (q / 4) + c) % 28 = q := by omega
    rw [this]; exact Nat.mod_eq_of_lt (by omega)
  have hc : q % 4 < 4 := by omega
  generalize hv : q % 4 = v at hc
  interval_cases v
  · exact w 0 (by decide) hv
  · exact w 1 (by decide) hv
  · exact w 2 (by decide) hv
  · exact w 3 (by decide) hv

end Cert.Proof.KernelIdeal

end
-- ==== Proof.MainIdeal.Rows.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.ValueLayout
public import Idealize.ShloMosaic.Lib.Batch
public import proofs.«01_k».proof.Proof.MainIdeal.Ready
public import proofs.«01_k».proof.Proof.MainIdeal.Bytes
public import Idealize.ShloMosaic.PureOps.Ideal.Laws
public import Mathlib.Algebra.BigOperators.Intervals

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

/-! What the accumulator and the ring hold, over the extended reals: the sums of the tokens so far. -/

/-- The float of a byte. -/
def f8 (b : BitVec 8) : EReal := FloatOps.extf (F := Ideal) (φ := .fp8e5m2) .f32 bitsLt_fp8e5m2_f32 (FloatOps.ofBits (F := Ideal) .fp8e5m2 b)

/-- The code of an element of the turned rows. -/
def dec (x : S8x128.Idx → BitVec 32) (q : S32x128.Idx) : EReal := f8 (bitcast S32x128 8 x bitcasts_S8x128_w32_S32x128_w8 q)

theorem stepAcc_apply (a : FVec Ideal S32x128 .f32) (w : BitVec 32) (x : S8x128.Idx → BitVec 32) (s : Ideal .f32) (q : S32x128.Idx) :
    stepAcc a w x s q = (if w.slt 0#32 = true then (0 : EReal) else a q) + dec x q * s := by
  have e : stepAcc a w x s q = (Scalar.select (IntOp.cmpi .slt w 0#32) (FloatOps.ofBits (F := Ideal) .f32 0x00000000#32) (a q) : EReal) + dec x q * s := rfl
  have z : (FloatOps.ofBits (F := Ideal) .f32 0x00000000#32 : EReal) = 0 := Ideal.ofBits_zero_f32
  rw [e, z]
  congr 1
  unfold Scalar.select IntOp.cmpi
  cases hw : w.slt 0#32 <;> simp [hw]

/-- The element of the accumulator that a ring element holds. -/
def topIx (x : S33x28x8x128.Idx) : S32x128.Idx := ix2 (⟨((x 1 : Fin 28) : ℕ), by have : ((x 1 : Fin 28) : ℕ) < 28 := (x 1 : Fin 28).isLt; omega⟩ : Fin 32) (x 3 : Fin 128)

theorem topRows_apply (a : FVec Ideal S32x128 .f32) (x : S33x28x8x128.Idx) : topRows a (ix2 (x 1 : Fin 28) (x 3 : Fin 128)) = a (topIx x) := by
  unfold topRows topIx
  show a _ = a _
  congr 1
  funext c
  match c with
  | ⟨0, _⟩ => exact Fin.ext (Nat.zero_add _)
  | ⟨1, _⟩ => exact Fin.ext (Nat.zero_add _)

section
variable (o : ℕ → ℕ) (nu np : ℕ) (D : ℕ → S32x128.Idx → EReal)

/-- The sum of row `u`'s tokens before token `m`. -/
def rsum (u m : ℕ) (q : S32x128.Idx) : EReal := ∑ t ∈ Finset.Ico (max (o u) np) m, D t q

/-- The accumulator and the ring before token `m` of block `b`, of whose rows `U` are kept. -/
structure St (U b m : ℕ) (a : FVec Ideal S32x128 .f32) (r : RingBuf Ideal) : Prop where
  acc : ∀ u < nu, o u < m → m ≤ o (u + 1) → ∀ q, a q = rsum o np D u m q
  ring : ∀ u < nu, 64 * b ≤ u → u < 64 * b + U → o u < m → ∀ x, ringRow x = u % 256 → r x = rsum o np D u (min m (o (u + 1))) (topIx x)
end

variable {T0 : ℕ → BitVec 32} {T1 : ℕ → Ideal .f32} {cw : CodeBuf} {o : ℕ → ℕ} {nu np : ℕ}

/-- What a token adds. -/
def ctr (T0 : ℕ → BitVec 32) (T1 : ℕ → Ideal .f32) (cw : CodeBuf) (t : ℕ) (q : S32x128.Idx) : EReal := dec (rowsAt cw (srcOf (T0 t))) q * (T1 t : EReal)

theorem rsum_succ (D : ℕ → S32x128.Idx → EReal) {u m : ℕ} (h1 : o u ≤ m) (h2 : np ≤ m) (q : S32x128.Idx) : rsum o np D u (m + 1) q = rsum o np D u m q + D m q :=
  Finset.sum_Ico_succ_top (max_le h1 h2) _

theorem rsum_empty (D : ℕ → S32x128.Idx → EReal) {u m : ℕ} (h : m ≤ max (o u) np) (q : S32x128.Idx) : rsum o np D u m q = 0 := by
  unfold rsum
  rw [Finset.Ico_eq_empty_of_le h, Finset.sum_empty]

/-- One token. -/
theorem step1 (T : Pre.Tables T0 o nu np) {b m : ℕ} {a : FVec Ideal S32x128 .f32} {r : RingBuf Ideal} (hb : b < nbl nu)
    (hlo : lo np (fun b => o (Nat.min (64 * (b + 1)) 16384)) b ≤ m) (hnp : np ≤ m) (hm : m < o (Nat.min (64 * (b + 1)) 16384) + 15)
    (h : St o nu np (ctr T0 T1 cw) 128 b m a r) :
    St o nu np (ctr T0 T1 cw) 128 b (m + 1) (stepAcc a (T0 m) (rowsAt cw (srcOf (T0 m))) (T1 m))
      (setRow (rowOfW (T0 m)) r (topRows (stepAcc a (T0 m) (rowsAt cw (srcOf (T0 m))) (T1 m)))) := by
  have hn := T.nu2
  have hn1 := T.nu1
  have hbl := nbl_le hn
  have mm : Nat.min (64 * (b + 1)) 16384 ≤ 16384 := Nat.min_le_right _ _
  have ht := T.top _ mm
  rcases Nat.lt_or_ge m 16384 with hi | hi
  · obtain ⟨j, hj, j1, j2⟩ := T.seg m hi
    obtain ⟨hd, hs⟩ := T.dst m j hj j1 j2
    have hd' : dstOf (T0 m) = 224 * (j / 8 % 32) + j % 8 := hd
    have hrow : rowOfW (T0 m) = j % 256 := by unfold rowOfW; omega
    have hq : Nat.min (64 * (b + 1)) 16384 = 64 * (b + 1) := by simp [Nat.min_def]; omega
    rw [hq] at hm
    have u := T.seg_lt m j (64 * (b + 1)) hj j1 (by omega) hm
    have l : 64 * b ≤ j := by
      cases b with
      | zero => omega
      | succ b =>
        have hq' : Nat.min (64 * (b + 1)) 16384 = 64 * (b + 1) := by simp [Nat.min_def]; omega
        rw [lo_succ] at hlo
        rw [hq'] at hlo
        exact T.seg_ge m j _ hj j2 (by omega) hlo
    have key : ∀ q, stepAcc a (T0 m) (rowsAt cw (srcOf (T0 m))) (T1 m) q = rsum o np (ctr T0 T1 cw) j (m + 1) q := fun q => by
      rw [stepAcc_apply, rsum_succ _ j1 hnp]
      unfold ctr
      congr 1
      split
      · next hw => rw [rsum_empty]; rw [hs.mp hw]; exact le_max_left _ _
      · next hw =>
        have : o j ≠ m := fun e => hw (hs.mpr e.symm)
        exact h.acc j hj (by omega) (le_of_lt j2) q
    have jle : ∀ u < nu, o u ≤ m → u ≤ j := fun u hu h1 => T.seg_ge m j u hj j2 (by omega) h1
    refine ⟨fun u hu h1 h2 q => ?_, fun u hu h1 h2 h3 x hx => ?_⟩
    · have a1 := jle u hu (by omega)
      have a2 : j ≤ u := T.seg_ge m u j hu (by omega) (by omega) j1
      have : u = j := by omega
      rw [this]; exact key q
    · have a1 := jle u hu (by omega)
      unfold setRow
      rcases Nat.lt_or_ge u j with hlt | hge
      · have hne : ¬ ringRow x = rowOfW (T0 m) := by rw [hrow]; omega
        rw [if_neg hne]
        have b1 : o (u + 1) ≤ m := le_trans (T.mono (u + 1) j hlt (by omega)) j1
        have b2 := T.strict u (u + 1) (by omega) (by omega)
        rw [h.ring u hu h1 h2 (by omega) x hx, Nat.min_eq_right b1, Nat.min_eq_right (by omega)]
      · have : u = j := by omega
        subst this
        rw [if_pos (by rw [hrow]; exact hx), topRows_apply, key, Nat.min_eq_left (by omega)]
  · have sp : rowOfW (T0 m) = 256 := by
      have : dstOf (T0 m) = 7168 := T.spare m (by omega) hi
      unfold rowOfW; rw [this]
    refine ⟨fun u hu h1 h2 q => ?_, fun u hu h1 h2 h3 x hx => ?_⟩
    · have := T.top (u + 1) (by omega); omega
    · have hne : ¬ ringRow x = rowOfW (T0 m) := by rw [sp]; omega
      unfold setRow
      rw [if_neg hne]
      have b1 := T.top (u + 1) (by omega)
      have b2 := T.strict u (u + 1) (by omega) (by omega)
      rw [h.ring u hu h1 h2 (by omega) x hx, Nat.min_eq_right (by omega), Nat.min_eq_right (by omega)]

theorem zRun_miss (w : S28x128.Idx → Elt Ideal .f32) (nu : ℕ) (r : RingBuf Ideal) (k : ℕ) (i : S33x28x8x128.Idx) (h : ∀ k' < k, ringRow i ≠ (nu + k') % 256) : zRun w nu r k i = r i := by
  induction k with
  | zero => rfl
  | succ k ih =>
    show setRow ((nu + k) % 256) (zRun w nu r k) w i = _
    unfold setRow
    rw [if_neg (h k (Nat.lt_succ_self k)), ih fun k' hk' => h k' (by omega)]

theorem zRun_hit (w : S28x128.Idx → Elt Ideal .f32) (nu : ℕ) (r : RingBuf Ideal) (k : ℕ) (i : S33x28x8x128.Idx) (k' : ℕ) (hk : k' < k) (h : ringRow i = (nu + k') % 256) :
    zRun w nu r k i = w (ix2 (i 1 : Fin 28) (i 3 : Fin 128)) := by
  induction k with
  | zero => omega
  | succ k ih =>
    show setRow ((nu + k) % 256) (zRun w nu r k) w i = _
    unfold setRow
    split
    · rfl
    · next hne =>
      have : k' ≠ k := fun e => hne (e ▸ h)
      exact ih (by omega)

/-- The value of the rows, block by block. -/
def rowSpec (T : Pre.Tables T0 o nu np) (Vo : S2048x56x8x128.Idx → Elt Ideal .f32 → Prop) (h : ℕ) (w0 w : S28x128.Idx → Elt Ideal .f32)
    (h0 : ∀ i, w0 i = (0 : EReal)) (hw : ∀ i, w i = (0 : EReal))
    (hV : ∀ i : S2048x56x8x128.Idx, 28 * h ≤ ((i 1 : Fin 56) : ℕ) → ((i 1 : Fin 56) : ℕ) < 28 * h + 28 → ∀ b,
      Vo i (rsum o np (ctr T0 T1 cw) (8 * ((i 0 : Fin 2048) : ℕ) + ((i 2 : Fin 8) : ℕ)) (o (8 * ((i 0 : Fin 2048) : ℕ) + ((i 2 : Fin 8) : ℕ) + 1)) (topIx (ringOf b i)))) :
    BSpec Vo T0 T1 cw h nu np (fun b => o (Nat.min (64 * (b + 1)) 16384)) w0 w where
  A b m a r := m ≤ lo np (fun b => o (Nat.min (64 * (b + 1)) 16384)) b + 15 ∧ St o nu np (ctr T0 T1 cw) 64 b m a r
  B b m a r := m ≤ o (Nat.min (64 * (b + 1)) 16384) + 15 ∧ St o nu np (ctr T0 T1 cw) 128 b m a r
  start r := by
    refine ⟨Nat.le_add_right _ _, ?_, ?_⟩
    · intro u hu h1 h2 q
      have z : (k0_pay400 (F := Ideal) q : EReal) = 0 := Ideal.ofBits_zero_f32
      rw [z, rsum_empty _ (le_max_right _ _)]
    · intro u hu _ _ h1 x hx
      have hu0 : u = 0 := by
        have hn := T.nu2
        rcases T.np_eq with e | e
        · omega
        · by_contra hne
          have := T.mono 1 u (by omega) (by omega)
          omega
      subst hu0
      have e : min np (o (0 + 1)) ≤ np := Nat.min_le_left _ _
      rw [rsum_empty _ (le_trans e (le_max_right _ _))]
      unfold setRow
      rw [if_pos hx]
      exact h0 _
  AB := by
    intro b m a r r' hb hr ⟨h1, h2⟩
    have hn := T.nu2
    have hbl := nbl_le hn
    have mq : ∀ b, 64 * (b + 1) ≤ 16384 → Nat.min (64 * (b + 1)) 16384 = 64 * (b + 1) := fun b hb => Nat.min_eq_left hb
    have hbq := mq b (by omega)
    rw [hbq]
    have hle : lo np (fun b => o (Nat.min (64 * (b + 1)) 16384)) b ≤ o (64 * (b + 1)) := by
      cases b with
      | zero => exact le_trans T.np_le (T.mono 1 _ (by omega) (by omega))
      | succ b =>
        show o (Nat.min (64 * (b + 1)) 16384) ≤ _
        exact T.mono _ _ (by rw [mq b (by omega)]; omega) (by omega)
    refine ⟨by omega, h2.acc, fun u hu u1 u2 u3 x hx => ?_⟩
    have x2 : ((x 2 : Fin 8) : ℕ) < 8 := (x 2 : Fin 8).isLt
    rcases Nat.lt_or_ge u (64 * b + 64) with hlt | hge
    · rw [hr x (by rw [mem_ringT]; unfold ringRow at hx; omega)]
      exact h2.ring u hu u1 hlt u3 x hx
    · exfalso
      have s1 : lo np (fun b => o (Nat.min (64 * (b + 1)) 16384)) b + 15 ≤ o u := by
        have s2 := T.mono (64 * b + 64) u (by omega) (by omega)
        cases b with
        | zero =>
          have s3 := T.strict 1 (64 * 0 + 64) (by omega) (by omega)
          have s4 := T.np_le
          show np + 15 ≤ o u
          omega
        | succ b =>
          have s3 := T.strict (64 * (b + 1)) (64 * (b + 1) + 64) (by omega) (by omega)
          show o (Nat.min (64 * (b + 1)) 16384) + 15 ≤ o u
          rw [mq b (by omega)]
          omega
      omega
  step := by
    intro b m a r hb h1 h2 ⟨h3, h4⟩
    refine ⟨by omega, ?_⟩
    have hnp : np ≤ m := by
      refine le_trans ?_ h1
      cases b with
      | zero => exact le_rfl
      | succ b => exact le_trans T.np_le (T.mono 1 _ (Nat.le_min.mpr ⟨by omega, by decide⟩) (Nat.min_le_right _ _))
    have : ∀ k ≤ 16, St o nu np (ctr T0 T1 cw) 128 b (m + k) (tokRun T0 T1 cw m a r k).1 (tokRun T0 T1 cw m a r k).2 := by
      intro k
      induction k with
      | zero => intro _; exact h4
      | succ k ih =>
        intro hk
        have e1 : lo np (fun b => o (Nat.min (64 * (b + 1)) 16384)) b ≤ m + k := by omega
        have e2 : np ≤ m + k := by omega
        have e3 : m + k < o (Nat.min (64 * (b + 1)) 16384) + 15 := by omega
        exact step1 T hb e1 e2 e3 (ih (by omega))
    exact this 16 le_rfl
  BA := by
    intro b m a r r' hb h1 hr ⟨h2, h3⟩
    refine ⟨h2, h3.acc, fun u hu u1 u2 u3 x hx => ?_⟩
    have x2 : ((x 2 : Fin 8) : ℕ) < 8 := (x 2 : Fin 8).isLt
    rw [hr x (by rw [mem_ringT]; unfold ringRow at hx; omega)]
    exact h3.ring u hu (by omega) (by omega) u3 x hx
  val := by
    intro b m a r hb h1 ⟨h2, h3⟩ i hi
    have hn := T.nu2
    have hn1 := T.nu1
    have hbl := nbl_le hn
    rw [mem_outR] at hi
    obtain ⟨i1, i2, i3, i4⟩ := hi
    have b2 : ((i 2 : Fin 8) : ℕ) < 8 := (i 2 : Fin 8).isLt
    have v := hV i i3 i4 b
    have hbq : Nat.min (64 * (b + 1)) 16384 = 64 * (b + 1) := Nat.min_eq_left (by omega)
    rw [hbq] at h1 h2
    generalize hu : 8 * ((i 0 : Fin 2048) : ℕ) + ((i 2 : Fin 8) : ℕ) = u at v
    have hrow : ringRow (ringOf b i) = u % 256 := by
      have e0 : ((ringOf b i 0 : Fin 33) : ℕ) = (8 * (b % 4) + ((i 0 : Fin 2048) : ℕ) % 8) % 33 := rfl
      have e2 : ((ringOf b i 2 : Fin 8) : ℕ) = ((i 2 : Fin 8) : ℕ) := rfl
      unfold ringRow
      obtain ⟨z, hz⟩ : ∃ z, ((i 0 : Fin 2048) : ℕ) = 8 * b + z := ⟨_, (Nat.add_sub_cancel' i1).symm⟩
      have hz8 : z < 8 := by omega
      have e3 : ((i 0 : Fin 2048) : ℕ) % 8 = z := by omega
      have e4 : (8 * (b % 4) + z) % 33 = 8 * (b % 4) + z := Nat.mod_eq_of_lt (by omega)
      rw [e0, e2, e3, e4, ← hu, hz]
      clear e0 e2 hu
      omega
    have hnb : nbl nu = (nu + 63) / 64 := rfl
    rcases Nat.lt_or_ge u nu with hlt | hge
    · have e : zFin w nu b r (ringOf b i) = r (ringOf b i) := by
        unfold zFin
        split
        · refine zRun_miss _ _ _ _ _ fun k' hk' => ?_
          rw [hrow]; omega
        · rfl
      have t1 := T.mono (u + 1) (64 * (b + 1)) (by omega) (by omega)
      have t2 := T.strict u (u + 1) (by omega) (by omega)
      rw [e, h3.ring u hlt (by omega) (by omega) (by omega) _ hrow, Nat.min_eq_right (by omega)]
      exact v
    · have e : zFin w nu b r (ringOf b i) = (0 : EReal) := by
        unfold zFin
        rw [if_pos (by omega), zRun_hit w nu r _ _ (u - nu) (by omega) (by rw [hrow]; congr 1; omega)]
        exact hw _
      rw [rsum_empty _ (by rw [T.rest u (by omega) hge, T.rest (u + 1) (by omega) (by omega)]; exact le_max_left _ _)] at v
      rw [e]
      exact v

end Cert.Proof.KernelIdeal

end
-- ==== Proof.MainIdeal.Values.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.ValueLayout
public import Idealize.ShloMosaic.Lib.Batch
public import proofs.«01_k».proof.Proof.MainIdeal.Rows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

/-! What the kernel leaves in its result, over the extended reals. -/

/-- An element of a token's source row. -/
def codeAt (g : WordBuf) (p : ℕ) (d : Fin 7168) : EReal := f8 (byteOf (g (ix2 (Fin.ofNat 4096 (p / 4)) d)) (p % 4))

/-- The column of an element of the result, in the flat rows. -/
def colOf (i : S2048x56x8x128.Idx) : Fin 7168 :=
  ⟨128 * ((i 1 : Fin 56) : ℕ) + ((i 3 : Fin 128) : ℕ), by
    have a : ((i 1 : Fin 56) : ℕ) < 56 := (i 1 : Fin 56).isLt
    have b : ((i 3 : Fin 128) : ℕ) < 128 := (i 3 : Fin 128).isLt
    omega⟩

/-- The row of an element of the result, in the flat rows. -/
def rowNo (i : S2048x56x8x128.Idx) : ℕ := 8 * ((i 0 : Fin 2048) : ℕ) + ((i 2 : Fin 8) : ℕ)

/-- An element of the result: over the tokens of its row that are not padding, the sum of the source rows' codes times the scales. -/
def sumAt (t0 : ℕ → BitVec 32) (t1 : ℕ → EReal) (o : ℕ → ℕ) (np : ℕ) (g : WordBuf) (i : S2048x56x8x128.Idx) : EReal :=
  ∑ t ∈ Finset.Ico (max (o (rowNo i)) np) (o (rowNo i + 1)), codeAt g (srcOf (t0 t) / 7) (colOf i) * t1 t

variable (m : (ℓ : Loc nD τ sig) → Buf (Elt Ideal) ℓ) (c : Dev nD)

/-- The result of a device. -/
def outSum (i : S2048x56x8x128.Idx) : EReal := sumAt (T0 m c) (T1 m c) (fun j => (T2 m c j).toNat) (T3 m c 1).toNat (GW m c) i

/-- What a token adds to an element of the result. -/
theorem dec_rows (fT : CodeBuf) (g : WordBuf) (h p : ℕ) (hh : h < 2) (hp : p < 16384) (b : ℕ) (i : S2048x56x8x128.Idx)
    (h1 : 28 * h ≤ ((i 1 : Fin 56) : ℕ)) (h2 : ((i 1 : Fin 56) : ℕ) < 28 * h + 28) :
    dec (rowsAt (cwOf g h fT) (7 * p)) (topIx (ringOf b i)) = codeAt g p (colOf i) := by
  have i3 : ((i 3 : Fin 128) : ℕ) < 128 := (i 3 : Fin 128).isLt
  have hq : ((i 1 : Fin 56) : ℕ) % 28 < 28 := Nat.mod_lt _ (by decide)
  have e : topIx (ringOf b i) = ix2 (⟨((i 1 : Fin 56) : ℕ) % 28, by omega⟩ : Fin 32) (i 3 : Fin 128) := by
    unfold topIx
    congr 1
    apply Fin.ext
    show ((i 1 : Fin 56) : ℕ) % 28 % 28 = _
    exact Nat.mod_eq_of_lt hq
  unfold dec codeAt
  congr 1
  rw [e]
  refine (bitcast_32_8 (R := 32) (r := 8) (n := 128) (rowsAt (cwOf g h fT) (7 * p)) bitcasts_S8x128_w32_S32x128_w8 (⟨((i 1 : Fin 56) : ℕ) % 28, by omega⟩ : Fin 32) (i 3 : Fin 128) (⟨((i 1 : Fin 56) : ℕ) % 28 / 4, by omega⟩ : Fin 8) rfl).trans ?_
  refine (byte_rows g fT h p hh hp (((i 1 : Fin 56) : ℕ) % 28) hq (⟨((i 1 : Fin 56) : ℕ) % 28 / 4, by omega⟩ : Fin 8) rfl (i 3 : Fin 128)).trans ?_
  refine congrArg (fun z => byteOf (g z) (p % 4)) ?_
  refine congrArg₂ ix2 (Fin.ext ?_) (Fin.ext ?_)
  · show p / 4 = p / 4 % 4096
    omega
  · show 3584 * h + 128 * (((i 1 : Fin 56) : ℕ) % 28) + ((i 3 : Fin 128) : ℕ) = 128 * ((i 1 : Fin 56) : ℕ) + ((i 3 : Fin 128) : ℕ)
    obtain ⟨z, hz⟩ : ∃ z, ((i 1 : Fin 56) : ℕ) = 28 * h + z := ⟨_, (Nat.add_sub_cancel' h1).symm⟩
    have hm : ((i 1 : Fin 56) : ℕ) % 28 = z := by omega
    rw [hm, hz]; omega

theorem sumAt_eq {nu np : ℕ} {t0 : ℕ → BitVec 32} {t1 : ℕ → EReal} {o : ℕ → ℕ} (T : Pre.Tables t0 o nu np) (g : WordBuf) (fT : CodeBuf) (h : ℕ) (hh : h < 2)
    (i : S2048x56x8x128.Idx) (h1 : 28 * h ≤ ((i 1 : Fin 56) : ℕ)) (h2 : ((i 1 : Fin 56) : ℕ) < 28 * h + 28) (b : ℕ) :
    rsum o np (ctr t0 t1 (cwOf g h fT)) (8 * ((i 0 : Fin 2048) : ℕ) + ((i 2 : Fin 8) : ℕ)) (o (8 * ((i 0 : Fin 2048) : ℕ) + ((i 2 : Fin 8) : ℕ) + 1)) (topIx (ringOf b i))
      = sumAt t0 t1 o np g i := by
  have a0 : ((i 0 : Fin 2048) : ℕ) < 2048 := (i 0 : Fin 2048).isLt
  have a2 : ((i 2 : Fin 8) : ℕ) < 8 := (i 2 : Fin 8).isLt
  unfold rsum sumAt rowNo
  refine Finset.sum_congr rfl fun t ht => ?_
  have ht' := (Finset.mem_Ico.mp ht).2
  have htop := T.top (8 * ((i 0 : Fin 2048) : ℕ) + ((i 2 : Fin 8) : ℕ) + 1) (by omega)
  obtain ⟨p, hp, hs⟩ := T.src t (by omega)
  have hs' : srcOf (t0 t) = 7 * p := hs
  have hd : srcOf (t0 t) / 7 = p := by omega
  unfold ctr
  rw [hd, hs', dec_rows fT g h p hh hp b i h1 h2]

/-- Under the precondition the kernel computes the sums. -/
def ready_sum [Cert.Pre_tables.Facts] (h : PreOK m) : Ready m (fun c i v => v = outSum m c i) c where
  nu := (T3 m c 0).toNat
  np := (T3 m c 1).toNat
  e := fun b => (T2 m c (Nat.min (64 * (b + 1)) 16384)).toNat
  hu := (tables_of m h c).nu2
  hu1 := (tables_of m h c).nu1
  wu := ⟨rfl, by have := (tables_of m h c).nu2; omega⟩
  wp := ⟨rfl, by have := (tables_of m h c).np_le; have := (tables_of m h c).top 1 (by decide); omega⟩
  tk := toks_of (tables_of m h c) (fun _ _ => rfl)
  hz := fun i hi => by
    have T := tables_of m h c
    have hn := T.nu2
    have a0 : ((i 0 : Fin 2048) : ℕ) < 2048 := (i 0 : Fin 2048).isLt
    have a2 : ((i 2 : Fin 8) : ℕ) < 8 := (i 2 : Fin 8).isLt
    have hnb : nbl (T3 m c 0).toNat = ((T3 m c 0).toNat + 63) / 64 := rfl
    have h1 := (mem_tiles.mp hi).1
    have r1 := T.rest (rowNo i) (by unfold rowNo; omega) (by unfold rowNo; omega)
    have r2 := T.rest (rowNo i + 1) (by unfold rowNo; omega) (by unfold rowNo; omega)
    show (fz (F := Ideal) : EReal) = _
    unfold outSum sumAt
    have e1 : (fun j => (T2 m c j).toNat) (rowNo i) = 16384 := r1
    have e2 : (fun j => (T2 m c j).toNat) (rowNo i + 1) = 16384 := r2
    rw [e1, e2, Finset.Ico_eq_empty_of_le (le_max_left _ _), Finset.sum_empty]
    exact Ideal.ofBits_zero_f32
  sp := fun fT hf hh => rowSpec (tables_of m h c) _ hf _ _ (fun _ => Ideal.ofBits_zero_f32) (fun _ => Ideal.ofBits_zero_f32)
    (fun i h1 h2 b => sumAt_eq (tables_of m h c) (GW m c) fT hf hh i h1 h2 b)

/-- Under the precondition the kernel terminates, its arguments unchanged, and its result holds the sums. -/
theorem run_sum [Cert.Pre_tables.Facts] (ρ : Dev nD → PrngReg) (h : PreOK m) :
    θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = outSum m c) :=
  (θ_run defs _ _).mono (fun _ hr c => ⟨(hr.1 c).1, funext fun i => (hr.1 c).2 i⟩) (run_frame m ρ (fun c i v => v = outSum m c i) (fun c => ready_sum m c h))

end Cert.Proof.KernelIdeal

end
-- ==== Proof.Reference.Decode.lean ====
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.Pipeline.ValueKit
public import Idealize.ShloMosaic.Lib.ValueIdx
@[expose] public section

set_option maxRecDepth 16384

noncomputable section

namespace Cert.Proof.Reference

open Cert.ReferenceIdeal Cert.ReferenceIdeal.Gen
open Idealize.ShloMosaic Idealize.ShloMosaic.TcCoe Idealize.ShloMosaic.Tactic
open Idealize.SL Idealize.SL.Sem
open Idealize.ShloMosaic.ValueIdx

/-! What the reference's one call leaves: the codes as floats. -/

variable {F : FTy → Type} [FloatOps F]

variable (m : (ℓ : Loc nD τ sig) → Buf (Elt F) ℓ) (c : Dev nD)

theorem ld_whole (x : S4096x7168.Idx → Elt F .i32) : View.ld x r0_0 = x := by
  funext y
  show x _ = x y
  congr 1
  funext a
  apply Fin.ext
  match a with
  | ⟨0, _⟩ => exact (Nat.zero_add _).trans (Nat.one_mul _)
  | ⟨1, _⟩ => exact (Nat.zero_add _).trans (Nat.one_mul _)

theorem out_whole (x : S4096x7168.Idx → Elt F .i32) (j : S16384x7168.Idx) : out0_1 x j = k0_pay1 x j := by
  have e : r0_1.emb (j : S16384x7168.Idx) = j := by
    funext a
    apply Fin.ext
    match a with
    | ⟨0, _⟩ => exact (Nat.zero_add _).trans (Nat.one_mul _)
    | ⟨1, _⟩ => exact (Nat.zero_add _).trans (Nat.one_mul _)
  unfold out0_1
  rw [ld_whole]
  have h := View.canon_cons_emb (Val := Elt F) (e := .f32) r0_1 (k0_pay1 x) [] (j : S16384x7168.Idx)
  rw [e] at h
  exact h

theorem iblk_whole (t : Fin cfg0.N) : (iblk m c 0 t : S4096x7168.Idx → Elt F .i32) = m ((c.tc : Thread nD τ).loc main_arg4) := by
  funext y
  show m ((c.tc : Thread nD τ).loc main_arg4) _ = m ((c.tc : Thread nD τ).loc main_arg4) y
  congr 1
  funext a
  apply Fin.ext
  match a with
  | ⟨0, _⟩ => exact (Nat.zero_add _).trans (Nat.one_mul _)
  | ⟨1, _⟩ => exact (Nat.zero_add _).trans (Nat.one_mul _)

/-- The array of the call's result after the region. -/
theorem decoded : (dats m 0 c).arrAt 1 cfg0.N = (k0_pay1 (m ((c.tc : Thread nD τ).loc main_arg4)) : S16384x7168.Idx → Elt F .f32) := by
  refine Pipeline.Dat.arrAt_eq_of_after_last (dats m 0 c) 1 ⟨0, by decide⟩ (by decide +kernel) _ (fun j => ?_)
  rw [after0_1]
  refine Eq.trans (b := out0_1 (iblk m c 0 ⟨0, by decide⟩ : S4096x7168.Idx → Elt F .i32) (j : S16384x7168.Idx)) rfl ?_
  rw [out_whole, iblk_whole]
  rfl

end Cert.Proof.Reference

end
-- ==== Proof.Reference.Tail.lean ====
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.StableHlo.RunRead
public import Idealize.ShloMosaic.Lib.ValueIdx
@[expose] public section

set_option maxRecDepth 16384

noncomputable section

namespace Cert.Proof.Reference

open Cert.ReferenceIdeal Cert.ReferenceIdeal.Gen
open Idealize.ShloMosaic Idealize.ShloMosaic.TcCoe Idealize.ShloMosaic.Tactic
open Idealize.SL Idealize.SL.Sem
open Idealize.ShloMosaic.ValueIdx

variable {F : FTy → Type} [FloatOps F]

/-! What the reference's host operations compute from the decoded rows. -/

/-- A number at every token. -/
def allI (n : BitVec 32) : IVec S16384 32 := broadcastInDim S16384 ![] bcast_S_S16384 (constantI S_ 32 n)
/-- The source row of each token. -/
def srcW (a0 : IVec S17408 32) : IVec S16384 32 :=
  Host.divsi (andi (extractStridedSlice S16384 ![0] a0 slices_S17408_S16384_0) (allI 131071#32)) (allI 7#32)
/-- The source row of each token as an index: a negative one counts from the end. -/
def srcI (a0 : IVec S17408 32) : IVec S16384 32 := select (cmpi .slt (srcW a0) (allI 0#32)) (addi (srcW a0) (allI 16384#32)) (srcW a0)
/-- The rows of the tokens times their scales. -/
def scaled (v0 : FVec F S16384x7168 .f32) (a0 : IVec S17408 32) (a1 : FVec F S17408 .f32) : FVec F S16384x7168 .f32 :=
  mulf (Host.gather gather_S16384x7168_S16384x1_S16384x7168_1_0_n_n_0_1_17168 v0 (broadcastInDim S16384x1 ![0] bcast_S16384_S16384x1_0 (srcI a0)))
    (broadcastInDim S16384x7168 ![0, 1] bcast_S16384x1_S16384x7168_0_1 (broadcastInDim S16384x1 ![0] bcast_S16384_S16384x1_0 (extractStridedSlice S16384 ![0] a1 slices_S17408_S16384_0)))
/-- Which tokens are padding. -/
def pad (a3 : IVec S2 32) : IVec S16384 1 :=
  cmpi .slt (iotaInDim S16384 32 0) (broadcastInDim S16384 ![] bcast_S_S16384 (shapeCast S_ (extractStridedSlice S1 ![1] a3 slices_S2_S1_1) shapeCasts_S1_S_))
/-- The rows of the tokens times their scales, zero for padding. -/
def kept (v0 : FVec F S16384x7168 .f32) (a0 : IVec S17408 32) (a1 : FVec F S17408 .f32) (a3 : IVec S2 32) : FVec F S16384x7168 .f32 :=
  select (broadcastInDim S16384x7168 ![0, 1] bcast_S16384x1_S16384x7168_0_1 (broadcastInDim S16384x1 ![0] bcast_S16384_S16384x1_0 (pad a3)))
    (broadcastInDim S16384x7168 ![] bcast_S_S16384x7168 (constant S_ .f32 0x00000000#32)) (scaled v0 a0 a1)
/-- Which tokens are a row's. -/
def mine (a2 : IVec S16385 32) : IVec S16384x16384 1 :=
  andi
    (cmpi .sle (broadcastInDim S16384x16384 ![0, 1] bcast_S16384x1_S16384x16384_0_1 (broadcastInDim S16384x1 ![0] bcast_S16384_S16384x1_0 (extractStridedSlice S16384 ![0] a2 slices_S16385_S16384_0)))
      (broadcastInDim S16384x16384 ![0, 1] bcast_S1x16384_S16384x16384_0_1 (broadcastInDim S1x16384 ![1] bcast_S16384_S1x16384_1 (iotaInDim S16384 32 0))))
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (extractStridedSlice S16384 ![1] a2 slices_S16385_S16384_1))))
/-- Every token at every row, zero where it is not the row's. -/
def terms (v0 : FVec F S16384x7168 .f32) (a0 : IVec S17408 32) (a1 : FVec F S17408 .f32) (a2 : IVec S16385 32) (a3 : IVec S2 32) : FVec F S16384x16384x7168 .f32 :=
  select (broadcastInDim S16384x16384x7168 ![0, 1, 2] bcast_S16384x16384x1_S16384x16384x7168_0_1_2 (broadcastInDim S16384x16384x1 ![0, 1] bcast_S16384x16384_S16384x16384x1_0_1 (mine a2)))
    (broadcastInDim S16384x16384x7168 ![0, 1, 2] bcast_S1x16384x7168_S16384x16384x7168_0_1_2 (broadcastInDim S1x16384x7168 ![1, 2] bcast_S16384x7168_S1x16384x7168_1_2 (kept v0 a0 a1 a3)))
    (broadcastInDim S16384x16384x7168 ![] bcast_S_S16384x16384x7168 (constant S_ .f32 0x00000000#32))
/-- The result. -/
def tailV (v0 : FVec F S16384x7168 .f32) (a0 : IVec S17408 32) (a1 : FVec F S17408 .f32) (a2 : IVec S16385 32) (a3 : IVec S2 32) : FVec F S2048x56x8x128 .f32 :=
  transpose S2048x56x8x128 [0, 2, 1, 3]
    (shapeCast S2048x8x56x128 (Host.reduceAdd (terms v0 a0 a1 a2 a3) (constant S_ .f32 0x00000000#32) reducesTo_S16384x16384x7168_S16384x7168_d1 h_S_ : FVec F S16384x7168 .f32) shapeCasts_S16384x7168_S2048x8x56x128)
    transposes_S2048x8x56x128_S2048x56x8x128_0_2_1_3

set_option maxHeartbeats 4000000 in
/-- The host operations after the region leave the result. -/
theorem after_tail (Vx : Valuation τ sig (Elt F)) :
    StableHlo.after (List.flatten [hostOps1, hostOps1_1, hostOps1_2, hostOps1_3, hostOps1_4]) Vx (Proc.devRef .tc main_v42)
      = tailV (F := F) (Vx (Proc.devRef .tc main_v0)) (Vx (Proc.devRef .tc main_arg0)) (Vx (Proc.devRef .tc main_arg1)) (Vx (Proc.devRef .tc main_arg2)) (Vx (Proc.devRef .tc main_arg3)) := by
  simp only [hostOps1, hostOps1_1, hostOps1_2, hostOps1_3, hostOps1_4, List.flatten_cons, List.flatten_nil, List.append_nil, List.cons_append, List.nil_append]
  after_reads_simp
  rfl

end Cert.Proof.Reference

end
-- ==== Proof.Reference.Point.lean ====
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.IdealHost
public import Idealize.ShloMosaic.Lib.Pipeline.Value
public import Idealize.ShloMosaic.PureOps.Ideal.Laws
public import proofs.«01_k».proof.Proof.Reference.Tail
@[expose] public section

set_option maxRecDepth 16384

noncomputable section

namespace Cert.Proof.Reference

open Cert.ReferenceIdeal Cert.ReferenceIdeal.Gen
open Idealize.ShloMosaic Idealize.ShloMosaic.TcCoe Idealize.ShloMosaic.Tactic
open Idealize.SL Idealize.SL.Sem
open Idealize.ShloMosaic.ValueIdx

/-! The reference's host operations, element by element, over the extended reals. -/

/-! ### Rows gathered by an index -/

section Gather
variable {α : Type}

/-- The dimension numbers of a gather of whole rows. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A gather of whole rows at `(b, j)`: the operand at row `idx[b, 0]`, of column `j`. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (j : Fin C) :
    Host.gather (rowDims N C B wf) x idx (ix2 b j)
      = x (ix2 ⟨min (idx (ix2 b (0 : Fin 1))).toInt.toNat (N - 1), by omega⟩ j) := by
  unfold Host.gather
  congr 1
  funext a
  refine Fin.ext ?_
  show (rowDims N C B wf).start (ix2 b j) idx a + (rowDims N C B wf).batchCoord (ix2 b j) a
      + (rowDims N C B wf).offCoord (ix2 b j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx (ix2 b j) ⟨List.idxOf (0 : Fin 2) (rowDims N C B wf).startIndexMap,
        List.idxOf_lt_length_iff.2 (List.mem_singleton.mpr rfl)⟩ = ix2 b (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    have h0 : (rowDims N C B wf).start (ix2 b j) idx 1 = 0 := by
      unfold GatherDims.start
      rw [dif_neg (fun h => by simp at h)]
    rw [h0]
    unfold GatherDims.offCoord
    have hk : (1 : Fin 2) ∈ (rowDims N C B wf).sKept := (GatherDims.mem_sKept _ _).mpr ⟨fun h => by simp at h, List.not_mem_nil⟩
    rw [dif_pos hk]
    simp only [Nat.zero_add]
    rfl
end Gather

/-! ### Words -/

theorem divsi_seven (x : BitVec 32) (p : ℕ) (hp : p < 16384) (h : x.toNat = 7 * p) : IntOp.divsi .host x 7#32 = BitVec.ofNat 32 p := by
  have hc : ¬ IntOp.SDivCorner x 7#32 := by
    rintro (h1 | ⟨_, h1⟩)
    · exact absurd h1 (by decide)
    · exact absurd h1 (by decide)
  unfold IntOp.divsi
  rw [if_neg hc, BitVec.sdiv_eq]
  have m1 : x.msb = false := by rw [BitVec.msb_eq_false_iff_two_mul_lt]; omega
  have m2 : (7#32 : BitVec 32).msb = false := by decide
  rw [m1, m2]
  apply BitVec.eq_of_toNat_eq
  show (x / 7#32).toNat = _
  have hn : (BitVec.ofNat 32 p).toNat = p := by rw [BitVec.toNat_ofNat]; omega
  rw [BitVec.toNat_udiv, h, hn]
  exact Nat.mul_div_cancel_left p (by decide)

theorem toInt_small (x : BitVec 32) (h : x.toNat < 2147483648) : x.toInt = (x.toNat : ℤ) := by
  rw [BitVec.toInt_eq_toNat_of_lt]; omega

theorem slt_small (x y : BitVec 32) (hx : x.toNat < 2147483648) (hy : y.toNat < 2147483648) : IntOp.cmpi .slt x y = if x.toNat < y.toNat then 1#1 else 0#1 := by
  have e : x.slt y = decide (x.toNat < y.toNat) := by
    unfold BitVec.slt
    rw [toInt_small x hx, toInt_small y hy]
    simp
  unfold IntOp.cmpi
  rw [e]
  by_cases h : x.toNat < y.toNat <;> simp [h]

theorem sle_small (x y : BitVec 32) (hx : x.toNat < 2147483648) (hy : y.toNat < 2147483648) : IntOp.cmpi .sle x y = if x.toNat ≤ y.toNat then 1#1 else 0#1 := by
  have e : x.sle y = decide (x.toNat ≤ y.toNat) := by
    unfold BitVec.sle
    rw [toInt_small x hx, toInt_small y hy]
    simp
  unfold IntOp.cmpi
  rw [e]
  by_cases h : x.toNat ≤ y.toNat <;> simp [h]

/-! ### The operations -/

theorem allI_apply (n : BitVec 32) (k : S16384.Idx) : allI n k = n := by
  unfold allI
  exact broadcastInDim_scalar_apply _ _ _

theorem slice0 {α : Type} (x : S17408.Idx → α) (k : Fin 16384) : extractStridedSlice S16384 ![0] x slices_S17408_S16384_0 (ix1 k) = x (ix1 (⟨k, by omega⟩ : Fin 17408)) := by
  show x _ = x _
  congr 1
  funext a
  match a with
  | ⟨0, _⟩ => exact Fin.ext (Nat.zero_add _)

theorem sliceLo {α : Type} (x : S16385.Idx → α) (k : Fin 16384) : extractStridedSlice S16384 ![0] x slices_S16385_S16384_0 (ix1 k) = x (ix1 (⟨k, by omega⟩ : Fin 16385)) := by
  show x _ = x _
  congr 1
  funext a
  match a with
  | ⟨0, _⟩ => exact Fin.ext (Nat.zero_add _)

theorem sliceHi {α : Type} (x : S16385.Idx → α) (k : Fin 16384) : extractStridedSlice S16384 ![1] x slices_S16385_S16384_1 (ix1 k) = x (ix1 (⟨(k : ℕ) + 1, by omega⟩ : Fin 16385)) := by
  show x _ = x _
  congr 1
  funext a
  match a with
  | ⟨0, _⟩ => exact Fin.ext (Nat.add_comm _ _)

/-- A vector as a column, and a column over every column. -/
theorem asCol {α : Type} (x : S16384.Idx → α) (k : Fin 16384) (z : Fin 1) : broadcastInDim S16384x1 ![0] bcast_S16384_S16384x1_0 x (ix2 k z) = x (ix1 k) :=
  broadcastInDim_apply _ _ _ _ _ fun a => by
    match a with
    | ⟨0, _⟩ => rfl

theorem overCols {α : Type} (x : S16384x1.Idx → α) (k : Fin 16384) (d : Fin 7168) : broadcastInDim S16384x7168 ![0, 1] bcast_S16384x1_S16384x7168_0_1 x (ix2 k d) = x (ix2 k (0 : Fin 1)) :=
  broadcastInDim_apply _ _ _ _ _ fun a => by
    match a with
    | ⟨0, _⟩ => rfl
    | ⟨1, _⟩ => rfl

theorem overToks {α : Type} (x : S16384x1.Idx → α) (k : Fin 16384) (d : Fin 16384) : broadcastInDim S16384x16384 ![0, 1] bcast_S16384x1_S16384x16384_0_1 x (ix2 k d) = x (ix2 k (0 : Fin 1)) :=
  broadcastInDim_apply _ _ _ _ _ fun a => by
    match a with
    | ⟨0, _⟩ => rfl
    | ⟨1, _⟩ => rfl

theorem overRows {α : Type} (x : S16384.Idx → α) (u k : Fin 16384) :
    broadcastInDim S16384x16384 ![0, 1] bcast_S1x16384_S16384x16384_0_1 (broadcastInDim S1x16384 ![1] bcast_S16384_S1x16384_1 x) (ix2 u k) = x (ix1 k) :=
  (broadcastInDim_apply _ _ _ _ (ix2 (0 : Fin 1) k) fun a => by
    match a with
    | ⟨0, _⟩ => rfl
    | ⟨1, _⟩ => rfl).trans (broadcastInDim_apply _ _ _ _ _ fun a => by
    match a with
    | ⟨0, _⟩ => rfl)

theorem mask3 {α : Type} (x : S16384x16384.Idx → α) (u k : Fin 16384) (d : Fin 7168) :
    broadcastInDim S16384x16384x7168 ![0, 1, 2] bcast_S16384x16384x1_S16384x16384x7168_0_1_2 (broadcastInDim S16384x16384x1 ![0, 1] bcast_S16384x16384_S16384x16384x1_0_1 x) (ix3 u k d) = x (ix2 u k) :=
  (broadcastInDim_apply _ _ _ _ (ix3 u k (0 : Fin 1)) fun a => by
    match a with
    | ⟨0, _⟩ => rfl
    | ⟨1, _⟩ => rfl
    | ⟨2, _⟩ => rfl).trans (broadcastInDim_apply _ _ _ _ _ fun a => by
    match a with
    | ⟨0, _⟩ => rfl
    | ⟨1, _⟩ => rfl)

theorem rows3 {α : Type} (x : S16384x7168.Idx → α) (u k : Fin 16384) (d : Fin 7168) :
    broadcastInDim S16384x16384x7168 ![0, 1, 2] bcast_S1x16384x7168_S16384x16384x7168_0_1_2 (broadcastInDim S1x16384x7168 ![1, 2] bcast_S16384x7168_S1x16384x7168_1_2 x) (ix3 u k d) = x (ix2 k d) :=
  (broadcastInDim_apply _ _ _ _ (ix3 (0 : Fin 1) k d) fun a => by
    match a with
    | ⟨0, _⟩ => rfl
    | ⟨1, _⟩ => rfl
    | ⟨2, _⟩ => rfl).trans (broadcastInDim_apply _ _ _ _ _ fun a => by
    match a with
    | ⟨0, _⟩ => rfl
    | ⟨1, _⟩ => rfl)

/-- A token's source row. -/
theorem srcI_apply (a0 : IVec S17408 32) (k : Fin 16384) (p : ℕ) (hp : p < 16384) (h : (IntOp.andi (a0 (ix1 (⟨k, by omega⟩ : Fin 17408))) 131071#32).toNat = 7 * p) :
    srcI a0 (ix1 k) = BitVec.ofNat 32 p := by
  have e : srcW a0 (ix1 k) = BitVec.ofNat 32 p := by
    have e1 : srcW a0 (ix1 k) = IntOp.divsi .host (IntOp.andi (extractStridedSlice S16384 ![0] a0 slices_S17408_S16384_0 (ix1 k)) (allI 131071#32 (ix1 k))) (allI 7#32 (ix1 k)) := rfl
    rw [e1, slice0, allI_apply, allI_apply]
    exact divsi_seven _ p hp h
  have e2 : srcI a0 (ix1 k) = Scalar.select (IntOp.cmpi .slt (srcW a0 (ix1 k)) (allI 0#32 (ix1 k))) (IntOp.addi (srcW a0 (ix1 k)) (allI 16384#32 (ix1 k))) (srcW a0 (ix1 k)) := rfl
  have hn : (BitVec.ofNat 32 p).toNat = p := by rw [BitVec.toNat_ofNat]; omega
  rw [e2, e, allI_apply, slt_small _ _ (by omega) (by decide), if_neg (by simp)]
  rfl

/-- A token's row times its scale. -/
theorem scaled_apply (v0 : FVec Ideal S16384x7168 .f32) (a0 : IVec S17408 32) (a1 : FVec Ideal S17408 .f32) (k : Fin 16384) (d : Fin 7168) (p : ℕ) (hp : p < 16384)
    (h : (IntOp.andi (a0 (ix1 (⟨k, by omega⟩ : Fin 17408))) 131071#32).toNat = 7 * p) :
    (scaled v0 a0 a1 (ix2 k d) : EReal) = (v0 (ix2 (⟨p, hp⟩ : Fin 16384) d) : EReal) * (a1 (ix1 (⟨k, by omega⟩ : Fin 17408)) : EReal) := by
  have e : (scaled v0 a0 a1 (ix2 k d) : EReal)
      = (Host.gather gather_S16384x7168_S16384x1_S16384x7168_1_0_n_n_0_1_17168 v0 (broadcastInDim S16384x1 ![0] bcast_S16384_S16384x1_0 (srcI a0)) (ix2 k d) : EReal)
        * (broadcastInDim S16384x7168 ![0, 1] bcast_S16384x1_S16384x7168_0_1 (broadcastInDim S16384x1 ![0] bcast_S16384_S16384x1_0 (extractStridedSlice S16384 ![0] a1 slices_S17408_S16384_0)) (ix2 k d) : EReal) := rfl
  rw [e, overCols, asCol, slice0]
  congr 1
  refine (gather_rows_apply (by decide) gather_S16384x7168_S16384x1_S16384x7168_1_0_n_n_0_1_17168.wf v0 _ k d).trans ?_
  congr 2
  apply Fin.ext
  show min (broadcastInDim S16384x1 ![0] bcast_S16384_S16384x1_0 (srcI a0) (ix2 k (0 : Fin 1))).toInt.toNat (16384 - 1) = p
  have hn : (BitVec.ofNat 32 p).toNat = p := by rw [BitVec.toNat_ofNat]; omega
  rw [asCol, srcI_apply a0 k p hp h, toInt_small _ (by omega), hn]
  simp only [Int.toNat_natCast]
  omega

/-- Which tokens are padding. -/
theorem pad_apply (a3 : IVec S2 32) (k : Fin 16384) (h : (a3 (ix1 (1 : Fin 2))).toNat ≤ 16384) : pad a3 (ix1 k) = if (k : ℕ) < (a3 (ix1 (1 : Fin 2))).toNat then 1#1 else 0#1 := by
  have e : pad a3 (ix1 k) = IntOp.cmpi .slt (BitVec.ofNat 32 (k : ℕ)) (broadcastInDim S16384 ![] bcast_S_S16384 (shapeCast S_ (extractStridedSlice S1 ![1] a3 slices_S2_S1_1) shapeCasts_S1_S_) (ix1 k)) := rfl
  have e2 : broadcastInDim S16384 ![] bcast_S_S16384 (shapeCast S_ (extractStridedSlice S1 ![1] a3 slices_S2_S1_1) shapeCasts_S1_S_) (ix1 k) = a3 (ix1 (1 : Fin 2)) := by
    refine (broadcastInDim_scalar_apply _ _ _).trans ?_
    refine (shapeCast_apply _ _ _ (ix1 (0 : Fin 1)) rfl).trans ?_
    show a3 _ = a3 _
    congr 1
    funext a
    match a with
    | ⟨0, _⟩ => rfl
  have hn : (BitVec.ofNat 32 (k : ℕ)).toNat = (k : ℕ) := by rw [BitVec.toNat_ofNat]; omega
  rw [e, e2, slt_small _ _ (by omega) (by omega), hn]

theorem kept_apply (v0 : FVec Ideal S16384x7168 .f32) (a0 : IVec S17408 32) (a1 : FVec Ideal S17408 .f32) (a3 : IVec S2 32) (k : Fin 16384) (d : Fin 7168)
    (h : (a3 (ix1 (1 : Fin 2))).toNat ≤ 16384) :
    (kept v0 a0 a1 a3 (ix2 k d) : EReal) = if (k : ℕ) < (a3 (ix1 (1 : Fin 2))).toNat then (0 : EReal) else scaled v0 a0 a1 (ix2 k d) := by
  have e : (kept v0 a0 a1 a3 (ix2 k d) : EReal)
      = Scalar.select (broadcastInDim S16384x7168 ![0, 1] bcast_S16384x1_S16384x7168_0_1 (broadcastInDim S16384x1 ![0] bcast_S16384_S16384x1_0 (pad a3)) (ix2 k d))
        (broadcastInDim S16384x7168 ![] bcast_S_S16384x7168 (constant (F := Ideal) S_ .f32 0x00000000#32) (ix2 k d)) (scaled v0 a0 a1 (ix2 k d)) := rfl
  have z : (broadcastInDim S16384x7168 ![] bcast_S_S16384x7168 (constant (F := Ideal) S_ .f32 0x00000000#32) (ix2 k d) : EReal) = 0 :=
    (broadcastInDim_scalar_apply _ _ _).trans Ideal.ofBits_zero_f32
  rw [e, z, overCols, asCol, pad_apply a3 k h]
  unfold Scalar.select
  split <;> simp

/-- Which tokens are a row's. -/
theorem mine_apply (a2 : IVec S16385 32) (u k : Fin 16384) (h : ∀ j, (a2 (ix1 j)).toNat ≤ 16384) :
    mine a2 (ix2 u k) = if (a2 (ix1 (⟨u, by omega⟩ : Fin 16385))).toNat ≤ (k : ℕ) ∧ (k : ℕ) < (a2 (ix1 (⟨(u : ℕ) + 1, by omega⟩ : Fin 16385))).toNat then 1#1 else 0#1 := by
  have e : mine a2 (ix2 u k) = IntOp.andi
      (IntOp.cmpi .sle (broadcastInDim S16384x16384 ![0, 1] bcast_S16384x1_S16384x16384_0_1 (broadcastInDim S16384x1 ![0] bcast_S16384_S16384x1_0 (extractStridedSlice S16384 ![0] a2 slices_S16385_S16384_0)) (ix2 u k))
        (broadcastInDim S16384x16384 ![0, 1] bcast_S1x16384_S16384x16384_0_1 (broadcastInDim S1x16384 ![1] bcast_S16384_S1x16384_1 (iotaInDim S16384 32 0)) (ix2 u k)))
      (IntOp.cmpi .slt (broadcastInDim S16384x16384 ![0, 1] bcast_S1x16384_S16384x16384_0_1 (broadcastInDim S1x16384 ![1] bcast_S16384_S1x16384_1 (iotaInDim S16384 32 0)) (ix2 u k))
        (broadcastInDim S16384x16384 ![0, 1] bcast_S16384x1_S16384x16384_0_1 (broadcastInDim S16384x1 ![0] bcast_S16384_S16384x1_0 (extractStridedSlice S16384 ![1] a2 slices_S16385_S16384_1)) (ix2 u k))) := rfl
  have i : iotaInDim S16384 32 0 (ix1 k) = BitVec.ofNat 32 (k : ℕ) := rfl
  have hn : (BitVec.ofNat 32 (k : ℕ)).toNat = (k : ℕ) := by rw [BitVec.toNat_ofNat]; omega
  have h1 := h (⟨u, by omega⟩ : Fin 16385)
  have h2 := h (⟨(u : ℕ) + 1, by omega⟩ : Fin 16385)
  rw [e, overRows, overToks, overToks, asCol, asCol, sliceLo, sliceHi, i, sle_small _ _ (by omega) (by omega), slt_small _ _ (by omega) (by omega), hn]
  by_cases c1 : (a2 (ix1 (⟨u, by omega⟩ : Fin 16385))).toNat ≤ (k : ℕ) <;> by_cases c2 : (k : ℕ) < (a2 (ix1 (⟨(u : ℕ) + 1, by omega⟩ : Fin 16385))).toNat <;> simp [c1, c2, IntOp.andi]

theorem terms_apply (v0 : FVec Ideal S16384x7168 .f32) (a0 : IVec S17408 32) (a1 : FVec Ideal S17408 .f32) (a2 : IVec S16385 32) (a3 : IVec S2 32) (u k : Fin 16384) (d : Fin 7168)
    (h : ∀ j, (a2 (ix1 j)).toNat ≤ 16384) :
    (terms v0 a0 a1 a2 a3 (ix3 u k d) : EReal) = if (a2 (ix1 (⟨u, by omega⟩ : Fin 16385))).toNat ≤ (k : ℕ) ∧ (k : ℕ) < (a2 (ix1 (⟨(u : ℕ) + 1, by omega⟩ : Fin 16385))).toNat
      then (kept v0 a0 a1 a3 (ix2 k d) : EReal) else 0 := by
  have e : (terms v0 a0 a1 a2 a3 (ix3 u k d) : EReal)
      = Scalar.select (broadcastInDim S16384x16384x7168 ![0, 1, 2] bcast_S16384x16384x1_S16384x16384x7168_0_1_2 (broadcastInDim S16384x16384x1 ![0, 1] bcast_S16384x16384_S16384x16384x1_0_1 (mine a2)) (ix3 u k d))
        (broadcastInDim S16384x16384x7168 ![0, 1, 2] bcast_S1x16384x7168_S16384x16384x7168_0_1_2 (broadcastInDim S1x16384x7168 ![1, 2] bcast_S16384x7168_S1x16384x7168_1_2 (kept v0 a0 a1 a3)) (ix3 u k d))
        (broadcastInDim S16384x16384x7168 ![] bcast_S_S16384x16384x7168 (constant (F := Ideal) S_ .f32 0x00000000#32) (ix3 u k d)) := rfl
  have z : (broadcastInDim S16384x16384x7168 ![] bcast_S_S16384x16384x7168 (constant (F := Ideal) S_ .f32 0x00000000#32) (ix3 u k d) : EReal) = 0 :=
    (broadcastInDim_scalar_apply _ _ _).trans Ideal.ofBits_zero_f32
  rw [e, z, mask3, rows3, mine_apply a2 u k h]
  unfold Scalar.select
  split <;> simp

theorem reduces_terms : S16384x16384x7168.Reduces [1] S16384x7168 := by decide

/-- An element of the result as a sum over all tokens. -/
theorem tail_apply (v0 : FVec Ideal S16384x7168 .f32) (a0 : IVec S17408 32) (a1 : FVec Ideal S17408 .f32) (a2 : IVec S16385 32) (a3 : IVec S2 32) (i : S2048x56x8x128.Idx)
    (u : Fin 16384) (d : Fin 7168) (hu : (u : ℕ) = 8 * ((i 0 : Fin 2048) : ℕ) + ((i 2 : Fin 8) : ℕ)) (hd : (d : ℕ) = 128 * ((i 1 : Fin 56) : ℕ) + ((i 3 : Fin 128) : ℕ)) :
    (tailV v0 a0 a1 a2 a3 i : EReal) = ∑ k : Fin 16384, (terms v0 a0 a1 a2 a3 (ix3 u k d) : EReal) := by
  have e : (tailV v0 a0 a1 a2 a3 i : EReal) = (shapeCast S2048x8x56x128 (Host.reduceAdd (terms v0 a0 a1 a2 a3) (constant S_ .f32 0x00000000#32) reducesTo_S16384x16384x7168_S16384x7168_d1 h_S_ : FVec Ideal S16384x7168 .f32) shapeCasts_S16384x7168_S2048x8x56x128 (ix4 (i 0 : Fin 2048) (i 2 : Fin 8) (i 1 : Fin 56) (i 3 : Fin 128)) : EReal) := by
    unfold tailV transpose
    congr 1
    funext a
    match a with
    | ⟨0, _⟩ => rfl
    | ⟨1, _⟩ => rfl
    | ⟨2, _⟩ => rfl
    | ⟨3, _⟩ => rfl
  rw [e]
  refine (shapeCast_apply _ _ _ (ix2 u d) ?_).trans ?_
  · rw [Shape.rowMajor_val_two, Shape.rowMajor_val_four]
    show (u : ℕ) * 7168 + (d : ℕ) = ((((i 0 : Fin 2048) : ℕ) * 8 + ((i 2 : Fin 8) : ℕ)) * 56 + ((i 1 : Fin 56) : ℕ)) * 128 + ((i 3 : Fin 128) : ℕ)
    omega
  rw [hostReduceAdd_apply, Ideal.hostReduceAdd_single reducesTo_S16384x16384x7168_S16384x7168_d1 reduces_terms]
  have z : (constant (F := Ideal) S_ .f32 0x00000000#32 (Shape.Idx.first h_S_) : EReal) = 0 := Ideal.ofBits_zero_f32
  rw [z, zero_add]
  refine Finset.sum_congr rfl fun k _ => ?_
  refine congrArg (terms v0 a0 a1 a2 a3) ?_
  funext a
  match a with
  | ⟨0, _⟩ => rfl
  | ⟨1, _⟩ => rfl
  | ⟨2, _⟩ => rfl

end Cert.Proof.Reference

end
-- ==== Proof.Reference.Equal.lean ====
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.MainIdeal.Values
public import proofs.«01_k».proof.Proof.Reference.Decode
public import proofs.«01_k».proof.Proof.Reference.Point
public import Idealize.ShloMosaic.Lib.Claim
@[expose] public section

set_option maxRecDepth 16384

noncomputable section

namespace Cert.Proof.Reference

open Cert.ReferenceIdeal Cert.ReferenceIdeal.Gen
open Idealize.ShloMosaic Idealize.ShloMosaic.TcCoe Idealize.ShloMosaic.Tactic
open Idealize.SL Idealize.SL.Sem
open Idealize.ShloMosaic.ValueIdx

/-! The reference computes the sums that the kernel computes. -/

/-- A sum over all tokens of those of one range that are not padding. -/
theorem sum_range (G : ℕ → EReal) (lo hi np : ℕ) (h : hi ≤ 16384) :
    (∑ k : Fin 16384, if lo ≤ (k : ℕ) ∧ (k : ℕ) < hi then (if (k : ℕ) < np then (0 : EReal) else G k) else 0) = ∑ t ∈ Finset.Ico (max lo np) hi, G t := by
  rw [Fin.sum_univ_eq_sum_range (fun k => if lo ≤ k ∧ k < hi then (if k < np then (0 : EReal) else G k) else 0) 16384]
  symm
  refine Eq.trans (Finset.sum_congr rfl fun t ht => ?_) (Finset.sum_subset (s₁ := Finset.Ico (max lo np) hi) (fun t ht => ?_) fun t _ ht => ?_)
  · have ht' := Finset.mem_Ico.mp ht
    have a := le_trans (le_max_left _ _) ht'.1
    have b := le_trans (le_max_right _ _) ht'.1
    rw [if_pos ⟨a, ht'.2⟩, if_neg (by omega)]
  · have ht' := Finset.mem_Ico.mp ht
    exact Finset.mem_range.mpr (by omega)
  · by_cases c1 : lo ≤ t ∧ t < hi
    · rw [if_pos c1]
      by_cases c2 : t < np
      · rw [if_pos c2]
      · exact absurd (Finset.mem_Ico.mpr ⟨max_le c1.1 (by omega), c1.2⟩) ht
    · rw [if_neg c1]

/-- An element of the decoded rows. -/
theorem decoded_apply (x : S4096x7168.Idx → BitVec 32) (p : Fin 16384) (d : Fin 7168) :
    (k0_pay1 (F := Ideal) x (ValueIdx.ix2 p d) : EReal) = Cert.Proof.KernelIdeal.codeAt x p d := by
  have hp := p.isLt
  have e : (k0_pay1 (F := Ideal) x (ValueIdx.ix2 p d) : EReal) = Cert.Proof.KernelIdeal.f8 (bitcast S16384x7168 8 x bitcasts_S4096x7168_w32_S16384x7168_w8 (ValueIdx.ix2 p d)) := rfl
  rw [e]
  unfold Cert.Proof.KernelIdeal.codeAt
  refine congrArg Cert.Proof.KernelIdeal.f8 ?_
  exact Cert.Proof.KernelIdeal.bitcast_32_8 (R := 16384) (r := 4096) (n := 7168) x bitcasts_S4096x7168_w32_S16384x7168_w8 p d (Fin.ofNat 4096 ((p : ℕ) / 4))
    (by show (p : ℕ) / 4 % 4096 = _; omega)

/-- The reference's result, element by element, under the tables' precondition. -/
theorem tail_eq (a0 : IVec S17408 32) (a1 : FVec Ideal S17408 .f32) (a2 : IVec S16385 32) (a3 : IVec S2 32) (a4 : S4096x7168.Idx → BitVec 32)
    {nu np : ℕ} {o : ℕ → ℕ} {t0 : ℕ → BitVec 32} {t1 : ℕ → EReal} (T : Pre.Tables t0 o nu np)
    (h0 : ∀ k : Fin 17408, a0 (ValueIdx.ix1 k) = t0 k) (h1 : ∀ k : Fin 17408, (a1 (ValueIdx.ix1 k) : EReal) = t1 k) (h2 : ∀ j : Fin 16385, (a2 (ValueIdx.ix1 j)).toNat = o j)
    (h3 : (a3 (ValueIdx.ix1 (1 : Fin 2))).toNat = np) (i : S2048x56x8x128.Idx) :
    (tailV (k0_pay1 a4) a0 a1 a2 a3 i : EReal) = Cert.Proof.KernelIdeal.sumAt t0 t1 o np a4 i := by
  have i0 : ((i 0 : Fin 2048) : ℕ) < 2048 := (i 0 : Fin 2048).isLt
  have i2 : ((i 2 : Fin 8) : ℕ) < 8 := (i 2 : Fin 8).isLt
  have hu : Cert.Proof.KernelIdeal.rowNo i < 16384 := by unfold Cert.Proof.KernelIdeal.rowNo; omega
  have ho : ∀ j : Fin 16385, (a2 (ValueIdx.ix1 j)).toNat ≤ 16384 := fun j => by rw [h2]; exact T.top _ (by omega)
  have hnp : (a3 (ValueIdx.ix1 (1 : Fin 2))).toNat ≤ 16384 := by rw [h3]; exact le_trans T.np_le (T.top 1 (by decide))
  rw [tail_apply _ _ _ _ _ i (⟨Cert.Proof.KernelIdeal.rowNo i, hu⟩ : Fin 16384) (Cert.Proof.KernelIdeal.colOf i) rfl rfl]
  unfold Cert.Proof.KernelIdeal.sumAt
  rw [← sum_range _ _ _ _ (T.top _ (by omega))]
  refine Finset.sum_congr rfl fun k _ => ?_
  have hk := k.isLt
  obtain ⟨p, hp, hs⟩ := T.src k (by omega)
  have hs' : (IntOp.andi (a0 (ValueIdx.ix1 (⟨k, by omega⟩ : Fin 17408))) 131071#32).toNat = 7 * p := by rw [h0]; exact hs
  have hq : Cert.Proof.KernelIdeal.srcOf (t0 k) / 7 = p := by
    have : Cert.Proof.KernelIdeal.srcOf (t0 k) = 7 * p := hs
    omega
  rw [terms_apply _ _ _ _ _ _ _ _ ho, kept_apply _ _ _ _ _ _ hnp, scaled_apply _ _ _ _ _ p hp hs', decoded_apply, h1, h2, h2, h3, hq]

variable (m : (ℓ : Loc nD τ sig) → Buf (Elt Ideal) ℓ) (c : Dev nD)

/-- The result's buffer after the host operations. -/
theorem result_eq :
    Pipeline.afterTail₀ cfgs (dats m) 0 (V0 m) [hostOps1, hostOps1_1, hostOps1_2, hostOps1_3, hostOps1_4] c main_v42
      = tailV (F := Ideal) (k0_pay1 (m ((c.tc : Thread nD τ).loc main_arg4))) (m ((c.tc : Thread nD τ).loc main_arg0)) (m ((c.tc : Thread nD τ).loc main_arg1))
        (m ((c.tc : Thread nD τ).loc main_arg2)) (m ((c.tc : Thread nD τ).loc main_arg3)) := by
  unfold Pipeline.afterTail₀
  refine (after_tail _).trans ?_
  have e0 : Pipeline.withArrays spec0 c (V0 m c) (fun w => (dats m 0 c).arrAt w cfg0.N) (Proc.devRef .tc main_v0) = (k0_pay1 (F := Ideal) (m ((c.tc : Thread nD τ).loc main_arg4)) : S16384x7168.Idx → Elt Ideal .f32) :=
    (Pipeline.withArrays_arr spec0 (by decide) c (V0 m c) (fun w => (dats m 0 c).arrAt w cfg0.N) 1).trans (decoded m c)
  have f0 := Pipeline.withArrays_of_ne spec0 c (V0 m c) (fun w => (dats m 0 c).arrAt w cfg0.N) main_arg0 (by exact (by decide : ∀ w, Pipeline.arrRef spec0 w ≠ main_arg0))
  have f1 := Pipeline.withArrays_of_ne spec0 c (V0 m c) (fun w => (dats m 0 c).arrAt w cfg0.N) main_arg1 (by exact (by decide : ∀ w, Pipeline.arrRef spec0 w ≠ main_arg1))
  have f2 := Pipeline.withArrays_of_ne spec0 c (V0 m c) (fun w => (dats m 0 c).arrAt w cfg0.N) main_arg2 (by exact (by decide : ∀ w, Pipeline.arrRef spec0 w ≠ main_arg2))
  have f3 := Pipeline.withArrays_of_ne spec0 c (V0 m c) (fun w => (dats m 0 c).arrAt w cfg0.N) main_arg3 (by exact (by decide : ∀ w, Pipeline.arrRef spec0 w ≠ main_arg3))
  exact congr (congr (congr (congr (congrArg (tailV (F := Ideal)) e0) f0) f1) f2) f3

/-- The reference terminates, its arguments unchanged, and its result is the term of its host operations. -/
theorem run_result (ρ : Dev nD → PrngReg) :
    θ_run defs (onTc (τ := τ) (main (F := Ideal))) ⟨m, fun _ => 0, ρ⟩ (fun r => ∀ c : Dev nD,
      r.2.mem ((c.tc : Thread nD τ).loc main_v42) = tailV (F := Ideal) (k0_pay1 (m ((c.tc : Thread nD τ).loc main_arg4))) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v42 (Pipeline.mem_restRefs_of main_v42 (by decide) (by decide))).trans (result_eq m c), h.2 c⟩)
    (θ_run_and (run_main m ρ) (unchanged m ρ))

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_tables
public import proofs.«01_k».proof.Proof.Gen.ReferenceIdeal
public import proofs.«01_k».proof.Proof.Gen.ReferenceIdeal.Frame
public import proofs.«01_k».proof.Proof.Main.Ready
public import proofs.«01_k».proof.Proof.MainIdeal.Ready
public import proofs.«01_k».proof.Proof.MainIdeal.Values
public import proofs.«01_k».proof.Proof.Reference.Equal

@[expose] public section

noncomputable section

namespace Cert.Proof

open Idealize.ShloMosaic Idealize.ShloMosaic.TcCoe Idealize.SL Idealize.SL.Sem

/-- Under the precondition the kernel's ideal program and the reference's leave the same result: at every element the
    sum, over the tokens of its row that are not padding, of the source row's code times the token's scale. -/
theorem algebraic [Cert.Pre_tables.Facts] : Cert.algebraic_KernelIdeal_ReferenceIdeal := by
  intro m g m' g' h hm
  refine ⟨fun c => KernelIdeal.outSum m c, ?_, ?_⟩
  · exact (θ_run Cert.KernelIdeal.defs _ _).mono (fun _ hr c => ⟨(hr c).2, (hr c).1⟩) (KernelIdeal.run_sum m g h)
  · refine (θ_run Cert.ReferenceIdeal.defs _ _).mono (fun _ hr c => ⟨(hr c).1.trans ?_, (hr c).2⟩) (Reference.run_result m' g')
    obtain ⟨e0, e1, e2, e3, e4⟩ := hm c
    rw [e0, e1, e2, e3, e4]
    funext i
    refine Reference.tail_eq _ _ _ _ _ (KernelIdeal.tables_of m h c) (t1 := KernelIdeal.T1 m c) (fun k => ?_) (fun k => ?_) (fun j => ?_) rfl i
    · refine congrArg (fun z => m ((c.tc : Thread Cert.KernelIdeal.nD Cert.KernelIdeal.τ).loc Cert.KernelIdeal.main_arg0) (ValueIdx.ix1 z)) (Fin.ext ?_)
      exact (Nat.mod_eq_of_lt k.isLt).symm
    · refine congrArg (fun z => m ((c.tc : Thread Cert.KernelIdeal.nD Cert.KernelIdeal.τ).loc Cert.KernelIdeal.main_arg1) (ValueIdx.ix1 z)) (Fin.ext ?_)
      exact (Nat.mod_eq_of_lt k.isLt).symm
    · refine congrArg (fun z => (m ((c.tc : Thread Cert.KernelIdeal.nD Cert.KernelIdeal.τ).loc Cert.KernelIdeal.main_arg2) (ValueIdx.ix1 z)).toNat) (Fin.ext ?_)
      exact (Nat.mod_eq_of_lt j.isLt).symm

theorem claim : Cert.Claim :=
  ⟨Cert.Kernel.Gen.facts, Cert.KernelIdeal.Gen.facts, Cert.ReferenceIdeal.Gen.facts, Cert.Pre_tables.Gen.facts,
    fun m g h => Kernel.frame m g h,
    fun m g h => KernelIdeal.frame m g h,
    fun m g _ => Cert.ReferenceIdeal.Gen.frame m g,
    trivial,
    algebraic⟩

end Cert.Proof

end
